-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_HgIn (m : (ℓ : Loc Cert.HgIn.nD Cert.HgIn.τ Cert.HgIn.sig) → Buf (Elt Bits) ℓ) : Prop :=
  True

def Pre_HgInIdeal (m : (ℓ : Loc Cert.HgInIdeal.nD Cert.HgInIdeal.τ Cert.HgInIdeal.sig) → Buf (Elt Ideal) ℓ) : Prop :=
  True

def Pre_HgInRefIdeal (m : (ℓ : Loc Cert.HgInRefIdeal.nD Cert.HgInRefIdeal.τ Cert.HgInRefIdeal.sig) → Buf (Elt Ideal) ℓ) : Prop :=
  True

def Pre_MbIn (m : (ℓ : Loc Cert.MbIn.nD Cert.MbIn.τ Cert.MbIn.sig) → Buf (Elt Bits) ℓ) : Prop :=
  True

def Pre_MbInIdeal (m : (ℓ : Loc Cert.MbInIdeal.nD Cert.MbInIdeal.τ Cert.MbInIdeal.sig) → Buf (Elt Ideal) ℓ) : Prop :=
  True

def Pre_MbInRefIdeal (m : (ℓ : Loc Cert.MbInRefIdeal.nD Cert.MbInRefIdeal.τ Cert.MbInRefIdeal.sig) → Buf (Elt Ideal) ℓ) : Prop :=
  True

def Pre_HgOut (m : (ℓ : Loc Cert.HgOut.nD Cert.HgOut.τ Cert.HgOut.sig) → Buf (Elt Bits) ℓ) : Prop :=
  True

def Pre_HgOutIdeal (m : (ℓ : Loc Cert.HgOutIdeal.nD Cert.HgOutIdeal.τ Cert.HgOutIdeal.sig) → Buf (Elt Ideal) ℓ) : Prop :=
  True

def Pre_HgOutRefIdeal (m : (ℓ : Loc Cert.HgOutRefIdeal.nD Cert.HgOutRefIdeal.τ Cert.HgOutRefIdeal.sig) → Buf (Elt Ideal) ℓ) : Prop :=
  True

def Pre_MbOut (m : (ℓ : Loc Cert.MbOut.nD Cert.MbOut.τ Cert.MbOut.sig) → Buf (Elt Bits) ℓ) : Prop :=
  True

def Pre_MbOutIdeal (m : (ℓ : Loc Cert.MbOutIdeal.nD Cert.MbOutIdeal.τ Cert.MbOutIdeal.sig) → Buf (Elt Ideal) ℓ) : Prop :=
  True

def Pre_MbOutRefIdeal (m : (ℓ : Loc Cert.MbOutRefIdeal.nD Cert.MbOutRefIdeal.τ Cert.MbOutRefIdeal.sig) → Buf (Elt Ideal) ℓ) : Prop :=
  True

def Pre_AdAIn (m : (ℓ : Loc Cert.AdAIn.nD Cert.AdAIn.τ Cert.AdAIn.sig) → Buf (Elt Bits) ℓ) : Prop :=
  True

def Pre_AdAInIdeal (m : (ℓ : Loc Cert.AdAInIdeal.nD Cert.AdAInIdeal.τ Cert.AdAInIdeal.sig) → Buf (Elt Ideal) ℓ) : Prop :=
  True

def Pre_AdAInRefIdeal (m : (ℓ : Loc Cert.AdAInRefIdeal.nD Cert.AdAInRefIdeal.τ Cert.AdAInRefIdeal.sig) → Buf (Elt Ideal) ℓ) : Prop :=
  True

def Pre_AdAOut (m : (ℓ : Loc Cert.AdAOut.nD Cert.AdAOut.τ Cert.AdAOut.sig) → Buf (Elt Bits) ℓ) : Prop :=
  True

def Pre_AdAOutIdeal (m : (ℓ : Loc Cert.AdAOutIdeal.nD Cert.AdAOutIdeal.τ Cert.AdAOutIdeal.sig) → Buf (Elt Ideal) ℓ) : Prop :=
  True

def Pre_AdAOutRefIdeal (m : (ℓ : Loc Cert.AdAOutRefIdeal.nD Cert.AdAOutRefIdeal.τ Cert.AdAOutRefIdeal.sig) → Buf (Elt Ideal) ℓ) : Prop :=
  True

def Pre_AdBIn (m : (ℓ : Loc Cert.AdBIn.nD Cert.AdBIn.τ Cert.AdBIn.sig) → Buf (Elt Bits) ℓ) : Prop :=
  True

def Pre_AdBInIdeal (m : (ℓ : Loc Cert.AdBInIdeal.nD Cert.AdBInIdeal.τ Cert.AdBInIdeal.sig) → Buf (Elt Ideal) ℓ) : Prop :=
  True

def Pre_AdBInRefIdeal (m : (ℓ : Loc Cert.AdBInRefIdeal.nD Cert.AdBInRefIdeal.τ Cert.AdBInRefIdeal.sig) → Buf (Elt Ideal) ℓ) : Prop :=
  True

def Pre_AdBOut (m : (ℓ : Loc Cert.AdBOut.nD Cert.AdBOut.τ Cert.AdBOut.sig) → Buf (Elt Bits) ℓ) : Prop :=
  True

def Pre_AdBOutIdeal (m : (ℓ : Loc Cert.AdBOutIdeal.nD Cert.AdBOutIdeal.τ Cert.AdBOutIdeal.sig) → Buf (Elt Ideal) ℓ) : Prop :=
  True

def Pre_AdBOutRefIdeal (m : (ℓ : Loc Cert.AdBOutRefIdeal.nD Cert.AdBOutRefIdeal.τ Cert.AdBOutRefIdeal.sig) → Buf (Elt Ideal) ℓ) : Prop :=
  True

def Pre_AdFfnIn (m : (ℓ : Loc Cert.AdFfnIn.nD Cert.AdFfnIn.τ Cert.AdFfnIn.sig) → Buf (Elt Bits) ℓ) : Prop :=
  True

def Pre_AdFfnInIdeal (m : (ℓ : Loc Cert.AdFfnInIdeal.nD Cert.AdFfnInIdeal.τ Cert.AdFfnInIdeal.sig) → Buf (Elt Ideal) ℓ) : Prop :=
  True

def Pre_AdFfnInRefIdeal (m : (ℓ : Loc Cert.AdFfnInRefIdeal.nD Cert.AdFfnInRefIdeal.τ Cert.AdFfnInRefIdeal.sig) → Buf (Elt Ideal) ℓ) : Prop :=
  True

def Pre_AdFfnOut (m : (ℓ : Loc Cert.AdFfnOut.nD Cert.AdFfnOut.τ Cert.AdFfnOut.sig) → Buf (Elt Bits) ℓ) : Prop :=
  True

def Pre_AdFfnOutIdeal (m : (ℓ : Loc Cert.AdFfnOutIdeal.nD Cert.AdFfnOutIdeal.τ Cert.AdFfnOutIdeal.sig) → Buf (Elt Ideal) ℓ) : Prop :=
  True

def Pre_AdFfnOutRefIdeal (m : (ℓ : Loc Cert.AdFfnOutRefIdeal.nD Cert.AdFfnOutRefIdeal.τ Cert.AdFfnOutRefIdeal.sig) → Buf (Elt Ideal) ℓ) : Prop :=
  True

def Pre_AdSmall (m : (ℓ : Loc Cert.AdSmall.nD Cert.AdSmall.τ Cert.AdSmall.sig) → Buf (Elt Bits) ℓ) : Prop :=
  True

def Pre_AdSmallIdeal (m : (ℓ : Loc Cert.AdSmallIdeal.nD Cert.AdSmallIdeal.τ Cert.AdSmallIdeal.sig) → Buf (Elt Ideal) ℓ) : Prop :=
  True

def Pre_AdSmallRefIdeal (m : (ℓ : Loc Cert.AdSmallRefIdeal.nD Cert.AdSmallRefIdeal.τ Cert.AdSmallRefIdeal.sig) → Buf (Elt Ideal) ℓ) : Prop :=
  True

def Pre_AdRep (m : (ℓ : Loc Cert.AdRep.nD Cert.AdRep.τ Cert.AdRep.sig) → Buf (Elt Bits) ℓ) : Prop :=
  True

def Pre_AdRepIdeal (m : (ℓ : Loc Cert.AdRepIdeal.nD Cert.AdRepIdeal.τ Cert.AdRepIdeal.sig) → Buf (Elt Ideal) ℓ) : Prop :=
  True

def Pre_AdRepRefIdeal (m : (ℓ : Loc Cert.AdRepRefIdeal.nD Cert.AdRepRefIdeal.τ Cert.AdRepRefIdeal.sig) → Buf (Elt Ideal) ℓ) : Prop :=
  True

def Pre_MbConv (m : (ℓ : Loc Cert.MbConv.nD Cert.MbConv.τ Cert.MbConv.sig) → Buf (Elt Bits) ℓ) : Prop :=
  True

def Pre_MbConvIdeal (m : (ℓ : Loc Cert.MbConvIdeal.nD Cert.MbConvIdeal.τ Cert.MbConvIdeal.sig) → Buf (Elt Ideal) ℓ) : Prop :=
  True

def Pre_MbConvRefIdeal (m : (ℓ : Loc Cert.MbConvRefIdeal.nD Cert.MbConvRefIdeal.τ Cert.MbConvRefIdeal.sig) → Buf (Elt Ideal) ℓ) : Prop :=
  True

def Pre_HgPre (m : (ℓ : Loc Cert.HgPre.nD Cert.HgPre.τ Cert.HgPre.sig) → Buf (Elt Bits) ℓ) : Prop :=
  True

def Pre_HgPreIdeal (m : (ℓ : Loc Cert.HgPreIdeal.nD Cert.HgPreIdeal.τ Cert.HgPreIdeal.sig) → Buf (Elt Ideal) ℓ) : Prop :=
  True

def Pre_HgPreRefIdeal (m : (ℓ : Loc Cert.HgPreRefIdeal.nD Cert.HgPreRefIdeal.τ Cert.HgPreRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_HgIn [hHgIn : Cert.HgIn.Facts] : Prop :=
  ∀ (m : (ℓ : Loc Cert.HgIn.nD Cert.HgIn.τ Cert.HgIn.sig) → Buf (Elt Bits) ℓ) (g : Dev Cert.HgIn.nD → PrngReg), Pre_HgIn m →
    θ_run (Cert.HgIn.defs (F := Bits)) (onTc (τ := Cert.HgIn.τ) (Cert.HgIn.main (F := Bits))) ⟨m, fun _ => 0, g⟩ (fun r => (∀ c : Dev Cert.HgIn.nD,
      r.2.mem ((c.tc : Thread Cert.HgIn.nD Cert.HgIn.τ).loc Cert.HgIn.main_arg0) = m ((c.tc : Thread Cert.HgIn.nD Cert.HgIn.τ).loc Cert.HgIn.main_arg0)
      ∧ r.2.mem ((c.tc : Thread Cert.HgIn.nD Cert.HgIn.τ).loc Cert.HgIn.main_arg1) = m ((c.tc : Thread Cert.HgIn.nD Cert.HgIn.τ).loc Cert.HgIn.main_arg1)
      ∧ r.2.mem ((c.tc : Thread Cert.HgIn.nD Cert.HgIn.τ).loc Cert.HgIn.main_arg2) = m ((c.tc : Thread Cert.HgIn.nD Cert.HgIn.τ).loc Cert.HgIn.main_arg2)
      ∧ r.2.mem ((c.tc : Thread Cert.HgIn.nD Cert.HgIn.τ).loc Cert.HgIn.main_arg3) = m ((c.tc : Thread Cert.HgIn.nD Cert.HgIn.τ).loc Cert.HgIn.main_arg3)
      ∧ r.2.mem ((c.tc : Thread Cert.HgIn.nD Cert.HgIn.τ).loc Cert.HgIn.main_arg4) = m ((c.tc : Thread Cert.HgIn.nD Cert.HgIn.τ).loc Cert.HgIn.main_arg4))
      ∧ r.2.sem = fun _ => 0)

def quiescent_HgInIdeal [hHgInIdeal : Cert.HgInIdeal.Facts] : Prop :=
  ∀ (m : (ℓ : Loc Cert.HgInIdeal.nD Cert.HgInIdeal.τ Cert.HgInIdeal.sig) → Buf (Elt Ideal) ℓ) (g : Dev Cert.HgInIdeal.nD → PrngReg), Pre_HgInIdeal m →
    θ_run (Cert.HgInIdeal.defs (F := Ideal)) (onTc (τ := Cert.HgInIdeal.τ) (Cert.HgInIdeal.main (F := Ideal))) ⟨m, fun _ => 0, g⟩ (fun r => (∀ c : Dev Cert.HgInIdeal.nD,
      r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
      ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1)
      ∧ r.2.mem ((c.tc : Thread Cert.HgInIdeal.nD Cert.HgInIdeal.τ).loc Cert.HgInIdeal.main_arg2) = m ((c.tc : Thread Cert.HgInIdeal.nD Cert.HgInIdeal.τ).loc Cert.HgInIdeal.main_arg2)
      ∧ r.2.mem ((c.tc : Thread Cert.HgInIdeal.nD Cert.HgInIdeal.τ).loc Cert.HgInIdeal.main_arg3) = m ((c.tc : Thread Cert.HgInIdeal.nD Cert.HgInIdeal.τ).loc Cert.HgInIdeal.main_arg3)
      ∧ r.2.mem ((c.tc : Thread Cert.HgInIdeal.nD Cert.HgInIdeal.τ).loc Cert.HgInIdeal.main_arg4) = m ((c.tc : Thread Cert.HgInIdeal.nD Cert.HgInIdeal.τ).loc Cert.HgInIdeal.main_arg4))
      ∧ r.2.sem = fun _ => 0)

def quiescent_HgInRefIdeal [hHgInRefIdeal : Cert.HgInRefIdeal.Facts] : Prop :=
  ∀ (m : (ℓ : Loc Cert.HgInRefIdeal.nD Cert.HgInRefIdeal.τ Cert.HgInRefIdeal.sig) → Buf (Elt Ideal) ℓ) (g : Dev Cert.HgInRefIdeal.nD → PrngReg), Pre_HgInRefIdeal m →
    θ_run (Cert.HgInRefIdeal.defs (F := Ideal)) (onTc (τ := Cert.HgInRefIdeal.τ) (Cert.HgInRefIdeal.main (F := Ideal))) ⟨m, fun _ => 0, g⟩ (fun r => (∀ c : Dev Cert.HgInRefIdeal.nD,
      r.2.mem ((c.tc : Thread Cert.HgInRefIdeal.nD Cert.HgInRefIdeal.τ).loc Cert.HgInRefIdeal.main_arg0) = m ((c.tc : Thread Cert.HgInRefIdeal.nD Cert.HgInRefIdeal.τ).loc Cert.HgInRefIdeal.main_arg0)
      ∧ r.2.mem ((c.tc : Thread Cert.HgInRefIdeal.nD Cert.HgInRefIdeal.τ).loc Cert.HgInRefIdeal.main_arg1) = m ((c.tc : Thread Cert.HgInRefIdeal.nD Cert.HgInRefIdeal.τ).loc Cert.HgInRefIdeal.main_arg1)
      ∧ r.2.mem ((c.tc : Thread Cert.HgInRefIdeal.nD Cert.HgInRefIdeal.τ).loc Cert.HgInRefIdeal.main_arg2) = m ((c.tc : Thread Cert.HgInRefIdeal.nD Cert.HgInRefIdeal.τ).loc Cert.HgInRefIdeal.main_arg2)
      ∧ r.2.mem ((c.tc : Thread Cert.HgInRefIdeal.nD Cert.HgInRefIdeal.τ).loc Cert.HgInRefIdeal.main_arg3) = m ((c.tc : Thread Cert.HgInRefIdeal.nD Cert.HgInRefIdeal.τ).loc Cert.HgInRefIdeal.main_arg3)
      ∧ r.2.mem ((c.tc : Thread Cert.HgInRefIdeal.nD Cert.HgInRefIdeal.τ).loc Cert.HgInRefIdeal.main_arg4) = m ((c.tc : Thread Cert.HgInRefIdeal.nD Cert.HgInRefIdeal.τ).loc Cert.HgInRefIdeal.main_arg4))
      ∧ r.2.sem = fun _ => 0)

def quiescent_MbIn [hMbIn : Cert.MbIn.Facts] : Prop :=
  ∀ (m : (ℓ : Loc Cert.MbIn.nD Cert.MbIn.τ Cert.MbIn.sig) → Buf (Elt Bits) ℓ) (g : Dev Cert.MbIn.nD → PrngReg), Pre_MbIn m →
    θ_run (Cert.MbIn.defs (F := Bits)) (onTc (τ := Cert.MbIn.τ) (Cert.MbIn.main (F := Bits))) ⟨m, fun _ => 0, g⟩ (fun r => (∀ c : Dev Cert.MbIn.nD,
      r.2.mem ((c.tc : Thread Cert.MbIn.nD Cert.MbIn.τ).loc Cert.MbIn.main_arg0) = m ((c.tc : Thread Cert.MbIn.nD Cert.MbIn.τ).loc Cert.MbIn.main_arg0)
      ∧ r.2.mem ((c.tc : Thread Cert.MbIn.nD Cert.MbIn.τ).loc Cert.MbIn.main_arg1) = m ((c.tc : Thread Cert.MbIn.nD Cert.MbIn.τ).loc Cert.MbIn.main_arg1)
      ∧ r.2.mem ((c.tc : Thread Cert.MbIn.nD Cert.MbIn.τ).loc Cert.MbIn.main_arg2) = m ((c.tc : Thread Cert.MbIn.nD Cert.MbIn.τ).loc Cert.MbIn.main_arg2)
      ∧ r.2.mem ((c.tc : Thread Cert.MbIn.nD Cert.MbIn.τ).loc Cert.MbIn.main_arg3) = m ((c.tc : Thread Cert.MbIn.nD Cert.MbIn.τ).loc Cert.MbIn.main_arg3)
      ∧ r.2.mem ((c.tc : Thread Cert.MbIn.nD Cert.MbIn.τ).loc Cert.MbIn.main_arg4) = m ((c.tc : Thread Cert.MbIn.nD Cert.MbIn.τ).loc Cert.MbIn.main_arg4)
      ∧ r.2.mem ((c.tc : Thread Cert.MbIn.nD Cert.MbIn.τ).loc Cert.MbIn.main_arg5) = m ((c.tc : Thread Cert.MbIn.nD Cert.MbIn.τ).loc Cert.MbIn.main_arg5)
      ∧ r.2.mem ((c.tc : Thread Cert.MbIn.nD Cert.MbIn.τ).loc Cert.MbIn.main_arg6) = m ((c.tc : Thread Cert.MbIn.nD Cert.MbIn.τ).loc Cert.MbIn.main_arg6))
      ∧ r.2.sem = fun _ => 0)

def quiescent_MbInIdeal [hMbInIdeal : Cert.MbInIdeal.Facts] : Prop :=
  ∀ (m : (ℓ : Loc Cert.MbInIdeal.nD Cert.MbInIdeal.τ Cert.MbInIdeal.sig) → Buf (Elt Ideal) ℓ) (g : Dev Cert.MbInIdeal.nD → PrngReg), Pre_MbInIdeal m →
    θ_run (Cert.MbInIdeal.defs (F := Ideal)) (onTc (τ := Cert.MbInIdeal.τ) (Cert.MbInIdeal.main (F := Ideal))) ⟨m, fun _ => 0, g⟩ (fun r => (∀ c : Dev Cert.MbInIdeal.nD,
      r.2.mem ((c.tc : Thread Cert.MbInIdeal.nD Cert.MbInIdeal.τ).loc Cert.MbInIdeal.main_arg0) = m ((c.tc : Thread Cert.MbInIdeal.nD Cert.MbInIdeal.τ).loc Cert.MbInIdeal.main_arg0)
      ∧ r.2.mem ((c.tc : Thread Cert.MbInIdeal.nD Cert.MbInIdeal.τ).loc Cert.MbInIdeal.main_arg1) = m ((c.tc : Thread Cert.MbInIdeal.nD Cert.MbInIdeal.τ).loc Cert.MbInIdeal.main_arg1)
      ∧ r.2.mem ((c.tc : Thread Cert.MbInIdeal.nD Cert.MbInIdeal.τ).loc Cert.MbInIdeal.main_arg2) = m ((c.tc : Thread Cert.MbInIdeal.nD Cert.MbInIdeal.τ).loc Cert.MbInIdeal.main_arg2)
      ∧ r.2.mem ((c.tc : Thread Cert.MbInIdeal.nD Cert.MbInIdeal.τ).loc Cert.MbInIdeal.main_arg3) = m ((c.tc : Thread Cert.MbInIdeal.nD Cert.MbInIdeal.τ).loc Cert.MbInIdeal.main_arg3)
      ∧ r.2.mem ((c.tc : Thread Cert.MbInIdeal.nD Cert.MbInIdeal.τ).loc Cert.MbInIdeal.main_arg4) = m ((c.tc : Thread Cert.MbInIdeal.nD Cert.MbInIdeal.τ).loc Cert.MbInIdeal.main_arg4)
      ∧ r.2.mem ((c.tc : Thread Cert.MbInIdeal.nD Cert.MbInIdeal.τ).loc Cert.MbInIdeal.main_arg5) = m ((c.tc : Thread Cert.MbInIdeal.nD Cert.MbInIdeal.τ).loc Cert.MbInIdeal.main_arg5)
      ∧ r.2.mem ((c.tc : Thread Cert.MbInIdeal.nD Cert.MbInIdeal.τ).loc Cert.MbInIdeal.main_arg6) = m ((c.tc : Thread Cert.MbInIdeal.nD Cert.MbInIdeal.τ).loc Cert.MbInIdeal.main_arg6))
      ∧ r.2.sem = fun _ => 0)

def quiescent_MbInRefIdeal [hMbInRefIdeal : Cert.MbInRefIdeal.Facts] : Prop :=
  ∀ (m : (ℓ : Loc Cert.MbInRefIdeal.nD Cert.MbInRefIdeal.τ Cert.MbInRefIdeal.sig) → Buf (Elt Ideal) ℓ) (g : Dev Cert.MbInRefIdeal.nD → PrngReg), Pre_MbInRefIdeal m →
    θ_run (Cert.MbInRefIdeal.defs (F := Ideal)) (onTc (τ := Cert.MbInRefIdeal.τ) (Cert.MbInRefIdeal.main (F := Ideal))) ⟨m, fun _ => 0, g⟩ (fun r => (∀ c : Dev Cert.MbInRefIdeal.nD,
      r.2.mem ((c.tc : Thread Cert.MbInRefIdeal.nD Cert.MbInRefIdeal.τ).loc Cert.MbInRefIdeal.main_arg0) = m ((c.tc : Thread Cert.MbInRefIdeal.nD Cert.MbInRefIdeal.τ).loc Cert.MbInRefIdeal.main_arg0)
      ∧ r.2.mem ((c.tc : Thread Cert.MbInRefIdeal.nD Cert.MbInRefIdeal.τ).loc Cert.MbInRefIdeal.main_arg1) = m ((c.tc : Thread Cert.MbInRefIdeal.nD Cert.MbInRefIdeal.τ).loc Cert.MbInRefIdeal.main_arg1)
      ∧ r.2.mem ((c.tc : Thread Cert.MbInRefIdeal.nD Cert.MbInRefIdeal.τ).loc Cert.MbInRefIdeal.main_arg2) = m ((c.tc : Thread Cert.MbInRefIdeal.nD Cert.MbInRefIdeal.τ).loc Cert.MbInRefIdeal.main_arg2)
      ∧ r.2.mem ((c.tc : Thread Cert.MbInRefIdeal.nD Cert.MbInRefIdeal.τ).loc Cert.MbInRefIdeal.main_arg3) = m ((c.tc : Thread Cert.MbInRefIdeal.nD Cert.MbInRefIdeal.τ).loc Cert.MbInRefIdeal.main_arg3)
      ∧ r.2.mem ((c.tc : Thread Cert.MbInRefIdeal.nD Cert.MbInRefIdeal.τ).loc Cert.MbInRefIdeal.main_arg4) = m ((c.tc : Thread Cert.MbInRefIdeal.nD Cert.MbInRefIdeal.τ).loc Cert.MbInRefIdeal.main_arg4)
      ∧ r.2.mem ((c.tc : Thread Cert.MbInRefIdeal.nD Cert.MbInRefIdeal.τ).loc Cert.MbInRefIdeal.main_arg5) = m ((c.tc : Thread Cert.MbInRefIdeal.nD Cert.MbInRefIdeal.τ).loc Cert.MbInRefIdeal.main_arg5)
      ∧ r.2.mem ((c.tc : Thread Cert.MbInRefIdeal.nD Cert.MbInRefIdeal.τ).loc Cert.MbInRefIdeal.main_arg6) = m ((c.tc : Thread Cert.MbInRefIdeal.nD Cert.MbInRefIdeal.τ).loc Cert.MbInRefIdeal.main_arg6))
      ∧ r.2.sem = fun _ => 0)

def quiescent_HgOut [hHgOut : Cert.HgOut.Facts] : Prop :=
  ∀ (m : (ℓ : Loc Cert.HgOut.nD Cert.HgOut.τ Cert.HgOut.sig) → Buf (Elt Bits) ℓ) (g : Dev Cert.HgOut.nD → PrngReg), Pre_HgOut m →
    θ_run (Cert.HgOut.defs (F := Bits)) (onTc (τ := Cert.HgOut.τ) (Cert.HgOut.main (F := Bits))) ⟨m, fun _ => 0, g⟩ (fun r => (∀ c : Dev Cert.HgOut.nD,
      r.2.mem ((c.tc : Thread Cert.HgOut.nD Cert.HgOut.τ).loc Cert.HgOut.main_arg0) = m ((c.tc : Thread Cert.HgOut.nD Cert.HgOut.τ).loc Cert.HgOut.main_arg0)
      ∧ r.2.mem ((c.tc : Thread Cert.HgOut.nD Cert.HgOut.τ).loc Cert.HgOut.main_arg1) = m ((c.tc : Thread Cert.HgOut.nD Cert.HgOut.τ).loc Cert.HgOut.main_arg1)
      ∧ r.2.mem ((c.tc : Thread Cert.HgOut.nD Cert.HgOut.τ).loc Cert.HgOut.main_arg2) = m ((c.tc : Thread Cert.HgOut.nD Cert.HgOut.τ).loc Cert.HgOut.main_arg2)
      ∧ r.2.mem ((c.tc : Thread Cert.HgOut.nD Cert.HgOut.τ).loc Cert.HgOut.main_arg3) = m ((c.tc : Thread Cert.HgOut.nD Cert.HgOut.τ).loc Cert.HgOut.main_arg3)
      ∧ r.2.mem ((c.tc : Thread Cert.HgOut.nD Cert.HgOut.τ).loc Cert.HgOut.main_arg4) = m ((c.tc : Thread Cert.HgOut.nD Cert.HgOut.τ).loc Cert.HgOut.main_arg4))
      ∧ r.2.sem = fun _ => 0)

def quiescent_HgOutIdeal [hHgOutIdeal : Cert.HgOutIdeal.Facts] : Prop :=
  ∀ (m : (ℓ : Loc Cert.HgOutIdeal.nD Cert.HgOutIdeal.τ Cert.HgOutIdeal.sig) → Buf (Elt Ideal) ℓ) (g : Dev Cert.HgOutIdeal.nD → PrngReg), Pre_HgOutIdeal m →
    θ_run (Cert.HgOutIdeal.defs (F := Ideal)) (onTc (τ := Cert.HgOutIdeal.τ) (Cert.HgOutIdeal.main (F := Ideal))) ⟨m, fun _ => 0, g⟩ (fun r => (∀ c : Dev Cert.HgOutIdeal.nD,
      r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
      ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
      ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2)
      ∧ r.2.mem ((c.tc : Thread Cert.HgOutIdeal.nD Cert.HgOutIdeal.τ).loc Cert.HgOutIdeal.main_arg3) = m ((c.tc : Thread Cert.HgOutIdeal.nD Cert.HgOutIdeal.τ).loc Cert.HgOutIdeal.main_arg3)
      ∧ r.2.mem ((c.tc : Thread Cert.HgOutIdeal.nD Cert.HgOutIdeal.τ).loc Cert.HgOutIdeal.main_arg4) = m ((c.tc : Thread Cert.HgOutIdeal.nD Cert.HgOutIdeal.τ).loc Cert.HgOutIdeal.main_arg4))
      ∧ r.2.sem = fun _ => 0)

def quiescent_HgOutRefIdeal [hHgOutRefIdeal : Cert.HgOutRefIdeal.Facts] : Prop :=
  ∀ (m : (ℓ : Loc Cert.HgOutRefIdeal.nD Cert.HgOutRefIdeal.τ Cert.HgOutRefIdeal.sig) → Buf (Elt Ideal) ℓ) (g : Dev Cert.HgOutRefIdeal.nD → PrngReg), Pre_HgOutRefIdeal m →
    θ_run (Cert.HgOutRefIdeal.defs (F := Ideal)) (onTc (τ := Cert.HgOutRefIdeal.τ) (Cert.HgOutRefIdeal.main (F := Ideal))) ⟨m, fun _ => 0, g⟩ (fun r => (∀ c : Dev Cert.HgOutRefIdeal.nD,
      r.2.mem ((c.tc : Thread Cert.HgOutRefIdeal.nD Cert.HgOutRefIdeal.τ).loc Cert.HgOutRefIdeal.main_arg0) = m ((c.tc : Thread Cert.HgOutRefIdeal.nD Cert.HgOutRefIdeal.τ).loc Cert.HgOutRefIdeal.main_arg0)
      ∧ r.2.mem ((c.tc : Thread Cert.HgOutRefIdeal.nD Cert.HgOutRefIdeal.τ).loc Cert.HgOutRefIdeal.main_arg1) = m ((c.tc : Thread Cert.HgOutRefIdeal.nD Cert.HgOutRefIdeal.τ).loc Cert.HgOutRefIdeal.main_arg1)
      ∧ r.2.mem ((c.tc : Thread Cert.HgOutRefIdeal.nD Cert.HgOutRefIdeal.τ).loc Cert.HgOutRefIdeal.main_arg2) = m ((c.tc : Thread Cert.HgOutRefIdeal.nD Cert.HgOutRefIdeal.τ).loc Cert.HgOutRefIdeal.main_arg2)
      ∧ r.2.mem ((c.tc : Thread Cert.HgOutRefIdeal.nD Cert.HgOutRefIdeal.τ).loc Cert.HgOutRefIdeal.main_arg3) = m ((c.tc : Thread Cert.HgOutRefIdeal.nD Cert.HgOutRefIdeal.τ).loc Cert.HgOutRefIdeal.main_arg3)
      ∧ r.2.mem ((c.tc : Thread Cert.HgOutRefIdeal.nD Cert.HgOutRefIdeal.τ).loc Cert.HgOutRefIdeal.main_arg4) = m ((c.tc : Thread Cert.HgOutRefIdeal.nD Cert.HgOutRefIdeal.τ).loc Cert.HgOutRefIdeal.main_arg4))
      ∧ r.2.sem = fun _ => 0)

def quiescent_MbOut [hMbOut : Cert.MbOut.Facts] : Prop :=
  ∀ (m : (ℓ : Loc Cert.MbOut.nD Cert.MbOut.τ Cert.MbOut.sig) → Buf (Elt Bits) ℓ) (g : Dev Cert.MbOut.nD → PrngReg), Pre_MbOut m →
    θ_run (Cert.MbOut.defs (F := Bits)) (onTc (τ := Cert.MbOut.τ) (Cert.MbOut.main (F := Bits))) ⟨m, fun _ => 0, g⟩ (fun r => (∀ c : Dev Cert.MbOut.nD,
      r.2.mem ((c.tc : Thread Cert.MbOut.nD Cert.MbOut.τ).loc Cert.MbOut.main_arg0) = m ((c.tc : Thread Cert.MbOut.nD Cert.MbOut.τ).loc Cert.MbOut.main_arg0)
      ∧ r.2.mem ((c.tc : Thread Cert.MbOut.nD Cert.MbOut.τ).loc Cert.MbOut.main_arg1) = m ((c.tc : Thread Cert.MbOut.nD Cert.MbOut.τ).loc Cert.MbOut.main_arg1)
      ∧ r.2.mem ((c.tc : Thread Cert.MbOut.nD Cert.MbOut.τ).loc Cert.MbOut.main_arg2) = m ((c.tc : Thread Cert.MbOut.nD Cert.MbOut.τ).loc Cert.MbOut.main_arg2)
      ∧ r.2.mem ((c.tc : Thread Cert.MbOut.nD Cert.MbOut.τ).loc Cert.MbOut.main_arg3) = m ((c.tc : Thread Cert.MbOut.nD Cert.MbOut.τ).loc Cert.MbOut.main_arg3)
      ∧ r.2.mem ((c.tc : Thread Cert.MbOut.nD Cert.MbOut.τ).loc Cert.MbOut.main_arg4) = m ((c.tc : Thread Cert.MbOut.nD Cert.MbOut.τ).loc Cert.MbOut.main_arg4))
      ∧ r.2.sem = fun _ => 0)

def quiescent_MbOutIdeal [hMbOutIdeal : Cert.MbOutIdeal.Facts] : Prop :=
  ∀ (m : (ℓ : Loc Cert.MbOutIdeal.nD Cert.MbOutIdeal.τ Cert.MbOutIdeal.sig) → Buf (Elt Ideal) ℓ) (g : Dev Cert.MbOutIdeal.nD → PrngReg), Pre_MbOutIdeal m →
    θ_run (Cert.MbOutIdeal.defs (F := Ideal)) (onTc (τ := Cert.MbOutIdeal.τ) (Cert.MbOutIdeal.main (F := Ideal))) ⟨m, fun _ => 0, g⟩ (fun r => (∀ c : Dev Cert.MbOutIdeal.nD,
      r.2.mem ((c.tc : Thread Cert.MbOutIdeal.nD Cert.MbOutIdeal.τ).loc Cert.MbOutIdeal.main_arg0) = m ((c.tc : Thread Cert.MbOutIdeal.nD Cert.MbOutIdeal.τ).loc Cert.MbOutIdeal.main_arg0)
      ∧ r.2.mem ((c.tc : Thread Cert.MbOutIdeal.nD Cert.MbOutIdeal.τ).loc Cert.MbOutIdeal.main_arg1) = m ((c.tc : Thread Cert.MbOutIdeal.nD Cert.MbOutIdeal.τ).loc Cert.MbOutIdeal.main_arg1)
      ∧ r.2.mem ((c.tc : Thread Cert.MbOutIdeal.nD Cert.MbOutIdeal.τ).loc Cert.MbOutIdeal.main_arg2) = m ((c.tc : Thread Cert.MbOutIdeal.nD Cert.MbOutIdeal.τ).loc Cert.MbOutIdeal.main_arg2)
      ∧ r.2.mem ((c.tc : Thread Cert.MbOutIdeal.nD Cert.MbOutIdeal.τ).loc Cert.MbOutIdeal.main_arg3) = m ((c.tc : Thread Cert.MbOutIdeal.nD Cert.MbOutIdeal.τ).loc Cert.MbOutIdeal.main_arg3)
      ∧ r.2.mem ((c.tc : Thread Cert.MbOutIdeal.nD Cert.MbOutIdeal.τ).loc Cert.MbOutIdeal.main_arg4) = m ((c.tc : Thread Cert.MbOutIdeal.nD Cert.MbOutIdeal.τ).loc Cert.MbOutIdeal.main_arg4))
      ∧ r.2.sem = fun _ => 0)

def quiescent_MbOutRefIdeal [hMbOutRefIdeal : Cert.MbOutRefIdeal.Facts] : Prop :=
  ∀ (m : (ℓ : Loc Cert.MbOutRefIdeal.nD Cert.MbOutRefIdeal.τ Cert.MbOutRefIdeal.sig) → Buf (Elt Ideal) ℓ) (g : Dev Cert.MbOutRefIdeal.nD → PrngReg), Pre_MbOutRefIdeal m →
    θ_run (Cert.MbOutRefIdeal.defs (F := Ideal)) (onTc (τ := Cert.MbOutRefIdeal.τ) (Cert.MbOutRefIdeal.main (F := Ideal))) ⟨m, fun _ => 0, g⟩ (fun r => (∀ c : Dev Cert.MbOutRefIdeal.nD,
      r.2.mem ((c.tc : Thread Cert.MbOutRefIdeal.nD Cert.MbOutRefIdeal.τ).loc Cert.MbOutRefIdeal.main_arg0) = m ((c.tc : Thread Cert.MbOutRefIdeal.nD Cert.MbOutRefIdeal.τ).loc Cert.MbOutRefIdeal.main_arg0)
      ∧ r.2.mem ((c.tc : Thread Cert.MbOutRefIdeal.nD Cert.MbOutRefIdeal.τ).loc Cert.MbOutRefIdeal.main_arg1) = m ((c.tc : Thread Cert.MbOutRefIdeal.nD Cert.MbOutRefIdeal.τ).loc Cert.MbOutRefIdeal.main_arg1)
      ∧ r.2.mem ((c.tc : Thread Cert.MbOutRefIdeal.nD Cert.MbOutRefIdeal.τ).loc Cert.MbOutRefIdeal.main_arg2) = m ((c.tc : Thread Cert.MbOutRefIdeal.nD Cert.MbOutRefIdeal.τ).loc Cert.MbOutRefIdeal.main_arg2)
      ∧ r.2.mem ((c.tc : Thread Cert.MbOutRefIdeal.nD Cert.MbOutRefIdeal.τ).loc Cert.MbOutRefIdeal.main_arg3) = m ((c.tc : Thread Cert.MbOutRefIdeal.nD Cert.MbOutRefIdeal.τ).loc Cert.MbOutRefIdeal.main_arg3)
      ∧ r.2.mem ((c.tc : Thread Cert.MbOutRefIdeal.nD Cert.MbOutRefIdeal.τ).loc Cert.MbOutRefIdeal.main_arg4) = m ((c.tc : Thread Cert.MbOutRefIdeal.nD Cert.MbOutRefIdeal.τ).loc Cert.MbOutRefIdeal.main_arg4))
      ∧ r.2.sem = fun _ => 0)

def quiescent_AdAIn [hAdAIn : Cert.AdAIn.Facts] : Prop :=
  ∀ (m : (ℓ : Loc Cert.AdAIn.nD Cert.AdAIn.τ Cert.AdAIn.sig) → Buf (Elt Bits) ℓ) (g : Dev Cert.AdAIn.nD → PrngReg), Pre_AdAIn m →
    θ_run (Cert.AdAIn.defs (F := Bits)) (onTc (τ := Cert.AdAIn.τ) (Cert.AdAIn.main (F := Bits))) ⟨m, fun _ => 0, g⟩ (fun r => (∀ c : Dev Cert.AdAIn.nD,
      r.2.mem ((c.tc : Thread Cert.AdAIn.nD Cert.AdAIn.τ).loc Cert.AdAIn.main_arg0) = m ((c.tc : Thread Cert.AdAIn.nD Cert.AdAIn.τ).loc Cert.AdAIn.main_arg0)
      ∧ r.2.mem ((c.tc : Thread Cert.AdAIn.nD Cert.AdAIn.τ).loc Cert.AdAIn.main_arg1) = m ((c.tc : Thread Cert.AdAIn.nD Cert.AdAIn.τ).loc Cert.AdAIn.main_arg1)
      ∧ r.2.mem ((c.tc : Thread Cert.AdAIn.nD Cert.AdAIn.τ).loc Cert.AdAIn.main_arg2) = m ((c.tc : Thread Cert.AdAIn.nD Cert.AdAIn.τ).loc Cert.AdAIn.main_arg2)
      ∧ r.2.mem ((c.tc : Thread Cert.AdAIn.nD Cert.AdAIn.τ).loc Cert.AdAIn.main_arg3) = m ((c.tc : Thread Cert.AdAIn.nD Cert.AdAIn.τ).loc Cert.AdAIn.main_arg3)
      ∧ r.2.mem ((c.tc : Thread Cert.AdAIn.nD Cert.AdAIn.τ).loc Cert.AdAIn.main_arg4) = m ((c.tc : Thread Cert.AdAIn.nD Cert.AdAIn.τ).loc Cert.AdAIn.main_arg4))
      ∧ r.2.sem = fun _ => 0)

def quiescent_AdAInIdeal [hAdAInIdeal : Cert.AdAInIdeal.Facts] : Prop :=
  ∀ (m : (ℓ : Loc Cert.AdAInIdeal.nD Cert.AdAInIdeal.τ Cert.AdAInIdeal.sig) → Buf (Elt Ideal) ℓ) (g : Dev Cert.AdAInIdeal.nD → PrngReg), Pre_AdAInIdeal m →
    θ_run (Cert.AdAInIdeal.defs (F := Ideal)) (onTc (τ := Cert.AdAInIdeal.τ) (Cert.AdAInIdeal.main (F := Ideal))) ⟨m, fun _ => 0, g⟩ (fun r => (∀ c : Dev Cert.AdAInIdeal.nD,
      r.2.mem ((c.tc : Thread Cert.AdAInIdeal.nD Cert.AdAInIdeal.τ).loc Cert.AdAInIdeal.main_arg0) = m ((c.tc : Thread Cert.AdAInIdeal.nD Cert.AdAInIdeal.τ).loc Cert.AdAInIdeal.main_arg0)
      ∧ r.2.mem ((c.tc : Thread Cert.AdAInIdeal.nD Cert.AdAInIdeal.τ).loc Cert.AdAInIdeal.main_arg1) = m ((c.tc : Thread Cert.AdAInIdeal.nD Cert.AdAInIdeal.τ).loc Cert.AdAInIdeal.main_arg1)
      ∧ r.2.mem ((c.tc : Thread Cert.AdAInIdeal.nD Cert.AdAInIdeal.τ).loc Cert.AdAInIdeal.main_arg2) = m ((c.tc : Thread Cert.AdAInIdeal.nD Cert.AdAInIdeal.τ).loc Cert.AdAInIdeal.main_arg2)
      ∧ r.2.mem ((c.tc : Thread Cert.AdAInIdeal.nD Cert.AdAInIdeal.τ).loc Cert.AdAInIdeal.main_arg3) = m ((c.tc : Thread Cert.AdAInIdeal.nD Cert.AdAInIdeal.τ).loc Cert.AdAInIdeal.main_arg3)
      ∧ r.2.mem ((c.tc : Thread Cert.AdAInIdeal.nD Cert.AdAInIdeal.τ).loc Cert.AdAInIdeal.main_arg4) = m ((c.tc : Thread Cert.AdAInIdeal.nD Cert.AdAInIdeal.τ).loc Cert.AdAInIdeal.main_arg4))
      ∧ r.2.sem = fun _ => 0)

def quiescent_AdAInRefIdeal [hAdAInRefIdeal : Cert.AdAInRefIdeal.Facts] : Prop :=
  ∀ (m : (ℓ : Loc Cert.AdAInRefIdeal.nD Cert.AdAInRefIdeal.τ Cert.AdAInRefIdeal.sig) → Buf (Elt Ideal) ℓ) (g : Dev Cert.AdAInRefIdeal.nD → PrngReg), Pre_AdAInRefIdeal m →
    θ_run (Cert.AdAInRefIdeal.defs (F := Ideal)) (onTc (τ := Cert.AdAInRefIdeal.τ) (Cert.AdAInRefIdeal.main (F := Ideal))) ⟨m, fun _ => 0, g⟩ (fun r => (∀ c : Dev Cert.AdAInRefIdeal.nD,
      r.2.mem ((c.tc : Thread Cert.AdAInRefIdeal.nD Cert.AdAInRefIdeal.τ).loc Cert.AdAInRefIdeal.main_arg0) = m ((c.tc : Thread Cert.AdAInRefIdeal.nD Cert.AdAInRefIdeal.τ).loc Cert.AdAInRefIdeal.main_arg0)
      ∧ r.2.mem ((c.tc : Thread Cert.AdAInRefIdeal.nD Cert.AdAInRefIdeal.τ).loc Cert.AdAInRefIdeal.main_arg1) = m ((c.tc : Thread Cert.AdAInRefIdeal.nD Cert.AdAInRefIdeal.τ).loc Cert.AdAInRefIdeal.main_arg1)
      ∧ r.2.mem ((c.tc : Thread Cert.AdAInRefIdeal.nD Cert.AdAInRefIdeal.τ).loc Cert.AdAInRefIdeal.main_arg2) = m ((c.tc : Thread Cert.AdAInRefIdeal.nD Cert.AdAInRefIdeal.τ).loc Cert.AdAInRefIdeal.main_arg2)
      ∧ r.2.mem ((c.tc : Thread Cert.AdAInRefIdeal.nD Cert.AdAInRefIdeal.τ).loc Cert.AdAInRefIdeal.main_arg3) = m ((c.tc : Thread Cert.AdAInRefIdeal.nD Cert.AdAInRefIdeal.τ).loc Cert.AdAInRefIdeal.main_arg3)
      ∧ r.2.mem ((c.tc : Thread Cert.AdAInRefIdeal.nD Cert.AdAInRefIdeal.τ).loc Cert.AdAInRefIdeal.main_arg4) = m ((c.tc : Thread Cert.AdAInRefIdeal.nD Cert.AdAInRefIdeal.τ).loc Cert.AdAInRefIdeal.main_arg4))
      ∧ r.2.sem = fun _ => 0)

def quiescent_AdAOut [hAdAOut : Cert.AdAOut.Facts] : Prop :=
  ∀ (m : (ℓ : Loc Cert.AdAOut.nD Cert.AdAOut.τ Cert.AdAOut.sig) → Buf (Elt Bits) ℓ) (g : Dev Cert.AdAOut.nD → PrngReg), Pre_AdAOut m →
    θ_run (Cert.AdAOut.defs (F := Bits)) (onTc (τ := Cert.AdAOut.τ) (Cert.AdAOut.main (F := Bits))) ⟨m, fun _ => 0, g⟩ (fun r => (∀ c : Dev Cert.AdAOut.nD,
      r.2.mem ((c.tc : Thread Cert.AdAOut.nD Cert.AdAOut.τ).loc Cert.AdAOut.main_arg0) = m ((c.tc : Thread Cert.AdAOut.nD Cert.AdAOut.τ).loc Cert.AdAOut.main_arg0)
      ∧ r.2.mem ((c.tc : Thread Cert.AdAOut.nD Cert.AdAOut.τ).loc Cert.AdAOut.main_arg1) = m ((c.tc : Thread Cert.AdAOut.nD Cert.AdAOut.τ).loc Cert.AdAOut.main_arg1)
      ∧ r.2.mem ((c.tc : Thread Cert.AdAOut.nD Cert.AdAOut.τ).loc Cert.AdAOut.main_arg2) = m ((c.tc : Thread Cert.AdAOut.nD Cert.AdAOut.τ).loc Cert.AdAOut.main_arg2)
      ∧ r.2.mem ((c.tc : Thread Cert.AdAOut.nD Cert.AdAOut.τ).loc Cert.AdAOut.main_arg3) = m ((c.tc : Thread Cert.AdAOut.nD Cert.AdAOut.τ).loc Cert.AdAOut.main_arg3)
      ∧ r.2.mem ((c.tc : Thread Cert.AdAOut.nD Cert.AdAOut.τ).loc Cert.AdAOut.main_arg4) = m ((c.tc : Thread Cert.AdAOut.nD Cert.AdAOut.τ).loc Cert.AdAOut.main_arg4))
      ∧ r.2.sem = fun _ => 0)

def quiescent_AdAOutIdeal [hAdAOutIdeal : Cert.AdAOutIdeal.Facts] : Prop :=
  ∀ (m : (ℓ : Loc Cert.AdAOutIdeal.nD Cert.AdAOutIdeal.τ Cert.AdAOutIdeal.sig) → Buf (Elt Ideal) ℓ) (g : Dev Cert.AdAOutIdeal.nD → PrngReg), Pre_AdAOutIdeal m →
    θ_run (Cert.AdAOutIdeal.defs (F := Ideal)) (onTc (τ := Cert.AdAOutIdeal.τ) (Cert.AdAOutIdeal.main (F := Ideal))) ⟨m, fun _ => 0, g⟩ (fun r => (∀ c : Dev Cert.AdAOutIdeal.nD,
      r.2.mem ((c.tc : Thread Cert.AdAOutIdeal.nD Cert.AdAOutIdeal.τ).loc Cert.AdAOutIdeal.main_arg0) = m ((c.tc : Thread Cert.AdAOutIdeal.nD Cert.AdAOutIdeal.τ).loc Cert.AdAOutIdeal.main_arg0)
      ∧ r.2.mem ((c.tc : Thread Cert.AdAOutIdeal.nD Cert.AdAOutIdeal.τ).loc Cert.AdAOutIdeal.main_arg1) = m ((c.tc : Thread Cert.AdAOutIdeal.nD Cert.AdAOutIdeal.τ).loc Cert.AdAOutIdeal.main_arg1)
      ∧ r.2.mem ((c.tc : Thread Cert.AdAOutIdeal.nD Cert.AdAOutIdeal.τ).loc Cert.AdAOutIdeal.main_arg2) = m ((c.tc : Thread Cert.AdAOutIdeal.nD Cert.AdAOutIdeal.τ).loc Cert.AdAOutIdeal.main_arg2)
      ∧ r.2.mem ((c.tc : Thread Cert.AdAOutIdeal.nD Cert.AdAOutIdeal.τ).loc Cert.AdAOutIdeal.main_arg3) = m ((c.tc : Thread Cert.AdAOutIdeal.nD Cert.AdAOutIdeal.τ).loc Cert.AdAOutIdeal.main_arg3)
      ∧ r.2.mem ((c.tc : Thread Cert.AdAOutIdeal.nD Cert.AdAOutIdeal.τ).loc Cert.AdAOutIdeal.main_arg4) = m ((c.tc : Thread Cert.AdAOutIdeal.nD Cert.AdAOutIdeal.τ).loc Cert.AdAOutIdeal.main_arg4))
      ∧ r.2.sem = fun _ => 0)

def quiescent_AdAOutRefIdeal [hAdAOutRefIdeal : Cert.AdAOutRefIdeal.Facts] : Prop :=
  ∀ (m : (ℓ : Loc Cert.AdAOutRefIdeal.nD Cert.AdAOutRefIdeal.τ Cert.AdAOutRefIdeal.sig) → Buf (Elt Ideal) ℓ) (g : Dev Cert.AdAOutRefIdeal.nD → PrngReg), Pre_AdAOutRefIdeal m →
    θ_run (Cert.AdAOutRefIdeal.defs (F := Ideal)) (onTc (τ := Cert.AdAOutRefIdeal.τ) (Cert.AdAOutRefIdeal.main (F := Ideal))) ⟨m, fun _ => 0, g⟩ (fun r => (∀ c : Dev Cert.AdAOutRefIdeal.nD,
      r.2.mem ((c.tc : Thread Cert.AdAOutRefIdeal.nD Cert.AdAOutRefIdeal.τ).loc Cert.AdAOutRefIdeal.main_arg0) = m ((c.tc : Thread Cert.AdAOutRefIdeal.nD Cert.AdAOutRefIdeal.τ).loc Cert.AdAOutRefIdeal.main_arg0)
      ∧ r.2.mem ((c.tc : Thread Cert.AdAOutRefIdeal.nD Cert.AdAOutRefIdeal.τ).loc Cert.AdAOutRefIdeal.main_arg1) = m ((c.tc : Thread Cert.AdAOutRefIdeal.nD Cert.AdAOutRefIdeal.τ).loc Cert.AdAOutRefIdeal.main_arg1)
      ∧ r.2.mem ((c.tc : Thread Cert.AdAOutRefIdeal.nD Cert.AdAOutRefIdeal.τ).loc Cert.AdAOutRefIdeal.main_arg2) = m ((c.tc : Thread Cert.AdAOutRefIdeal.nD Cert.AdAOutRefIdeal.τ).loc Cert.AdAOutRefIdeal.main_arg2)
      ∧ r.2.mem ((c.tc : Thread Cert.AdAOutRefIdeal.nD Cert.AdAOutRefIdeal.τ).loc Cert.AdAOutRefIdeal.main_arg3) = m ((c.tc : Thread Cert.AdAOutRefIdeal.nD Cert.AdAOutRefIdeal.τ).loc Cert.AdAOutRefIdeal.main_arg3)
      ∧ r.2.mem ((c.tc : Thread Cert.AdAOutRefIdeal.nD Cert.AdAOutRefIdeal.τ).loc Cert.AdAOutRefIdeal.main_arg4) = m ((c.tc : Thread Cert.AdAOutRefIdeal.nD Cert.AdAOutRefIdeal.τ).loc Cert.AdAOutRefIdeal.main_arg4))
      ∧ r.2.sem = fun _ => 0)

def quiescent_AdBIn [hAdBIn : Cert.AdBIn.Facts] : Prop :=
  ∀ (m : (ℓ : Loc Cert.AdBIn.nD Cert.AdBIn.τ Cert.AdBIn.sig) → Buf (Elt Bits) ℓ) (g : Dev Cert.AdBIn.nD → PrngReg), Pre_AdBIn m →
    θ_run (Cert.AdBIn.defs (F := Bits)) (onTc (τ := Cert.AdBIn.τ) (Cert.AdBIn.main (F := Bits))) ⟨m, fun _ => 0, g⟩ (fun r => (∀ c : Dev Cert.AdBIn.nD,
      r.2.mem ((c.tc : Thread Cert.AdBIn.nD Cert.AdBIn.τ).loc Cert.AdBIn.main_arg0) = m ((c.tc : Thread Cert.AdBIn.nD Cert.AdBIn.τ).loc Cert.AdBIn.main_arg0)
      ∧ r.2.mem ((c.tc : Thread Cert.AdBIn.nD Cert.AdBIn.τ).loc Cert.AdBIn.main_arg1) = m ((c.tc : Thread Cert.AdBIn.nD Cert.AdBIn.τ).loc Cert.AdBIn.main_arg1)
      ∧ r.2.mem ((c.tc : Thread Cert.AdBIn.nD Cert.AdBIn.τ).loc Cert.AdBIn.main_arg2) = m ((c.tc : Thread Cert.AdBIn.nD Cert.AdBIn.τ).loc Cert.AdBIn.main_arg2)
      ∧ r.2.mem ((c.tc : Thread Cert.AdBIn.nD Cert.AdBIn.τ).loc Cert.AdBIn.main_arg3) = m ((c.tc : Thread Cert.AdBIn.nD Cert.AdBIn.τ).loc Cert.AdBIn.main_arg3)
      ∧ r.2.mem ((c.tc : Thread Cert.AdBIn.nD Cert.AdBIn.τ).loc Cert.AdBIn.main_arg4) = m ((c.tc : Thread Cert.AdBIn.nD Cert.AdBIn.τ).loc Cert.AdBIn.main_arg4))
      ∧ r.2.sem = fun _ => 0)

def quiescent_AdBInIdeal [hAdBInIdeal : Cert.AdBInIdeal.Facts] : Prop :=
  ∀ (m : (ℓ : Loc Cert.AdBInIdeal.nD Cert.AdBInIdeal.τ Cert.AdBInIdeal.sig) → Buf (Elt Ideal) ℓ) (g : Dev Cert.AdBInIdeal.nD → PrngReg), Pre_AdBInIdeal m →
    θ_run (Cert.AdBInIdeal.defs (F := Ideal)) (onTc (τ := Cert.AdBInIdeal.τ) (Cert.AdBInIdeal.main (F := Ideal))) ⟨m, fun _ => 0, g⟩ (fun r => (∀ c : Dev Cert.AdBInIdeal.nD,
      r.2.mem ((c.tc : Thread Cert.AdBInIdeal.nD Cert.AdBInIdeal.τ).loc Cert.AdBInIdeal.main_arg0) = m ((c.tc : Thread Cert.AdBInIdeal.nD Cert.AdBInIdeal.τ).loc Cert.AdBInIdeal.main_arg0)
      ∧ r.2.mem ((c.tc : Thread Cert.AdBInIdeal.nD Cert.AdBInIdeal.τ).loc Cert.AdBInIdeal.main_arg1) = m ((c.tc : Thread Cert.AdBInIdeal.nD Cert.AdBInIdeal.τ).loc Cert.AdBInIdeal.main_arg1)
      ∧ r.2.mem ((c.tc : Thread Cert.AdBInIdeal.nD Cert.AdBInIdeal.τ).loc Cert.AdBInIdeal.main_arg2) = m ((c.tc : Thread Cert.AdBInIdeal.nD Cert.AdBInIdeal.τ).loc Cert.AdBInIdeal.main_arg2)
      ∧ r.2.mem ((c.tc : Thread Cert.AdBInIdeal.nD Cert.AdBInIdeal.τ).loc Cert.AdBInIdeal.main_arg3) = m ((c.tc : Thread Cert.AdBInIdeal.nD Cert.AdBInIdeal.τ).loc Cert.AdBInIdeal.main_arg3)
      ∧ r.2.mem ((c.tc : Thread Cert.AdBInIdeal.nD Cert.AdBInIdeal.τ).loc Cert.AdBInIdeal.main_arg4) = m ((c.tc : Thread Cert.AdBInIdeal.nD Cert.AdBInIdeal.τ).loc Cert.AdBInIdeal.main_arg4))
      ∧ r.2.sem = fun _ => 0)

def quiescent_AdBInRefIdeal [hAdBInRefIdeal : Cert.AdBInRefIdeal.Facts] : Prop :=
  ∀ (m : (ℓ : Loc Cert.AdBInRefIdeal.nD Cert.AdBInRefIdeal.τ Cert.AdBInRefIdeal.sig) → Buf (Elt Ideal) ℓ) (g : Dev Cert.AdBInRefIdeal.nD → PrngReg), Pre_AdBInRefIdeal m →
    θ_run (Cert.AdBInRefIdeal.defs (F := Ideal)) (onTc (τ := Cert.AdBInRefIdeal.τ) (Cert.AdBInRefIdeal.main (F := Ideal))) ⟨m, fun _ => 0, g⟩ (fun r => (∀ c : Dev Cert.AdBInRefIdeal.nD,
      r.2.mem ((c.tc : Thread Cert.AdBInRefIdeal.nD Cert.AdBInRefIdeal.τ).loc Cert.AdBInRefIdeal.main_arg0) = m ((c.tc : Thread Cert.AdBInRefIdeal.nD Cert.AdBInRefIdeal.τ).loc Cert.AdBInRefIdeal.main_arg0)
      ∧ r.2.mem ((c.tc : Thread Cert.AdBInRefIdeal.nD Cert.AdBInRefIdeal.τ).loc Cert.AdBInRefIdeal.main_arg1) = m ((c.tc : Thread Cert.AdBInRefIdeal.nD Cert.AdBInRefIdeal.τ).loc Cert.AdBInRefIdeal.main_arg1)
      ∧ r.2.mem ((c.tc : Thread Cert.AdBInRefIdeal.nD Cert.AdBInRefIdeal.τ).loc Cert.AdBInRefIdeal.main_arg2) = m ((c.tc : Thread Cert.AdBInRefIdeal.nD Cert.AdBInRefIdeal.τ).loc Cert.AdBInRefIdeal.main_arg2)
      ∧ r.2.mem ((c.tc : Thread Cert.AdBInRefIdeal.nD Cert.AdBInRefIdeal.τ).loc Cert.AdBInRefIdeal.main_arg3) = m ((c.tc : Thread Cert.AdBInRefIdeal.nD Cert.AdBInRefIdeal.τ).loc Cert.AdBInRefIdeal.main_arg3)
      ∧ r.2.mem ((c.tc : Thread Cert.AdBInRefIdeal.nD Cert.AdBInRefIdeal.τ).loc Cert.AdBInRefIdeal.main_arg4) = m ((c.tc : Thread Cert.AdBInRefIdeal.nD Cert.AdBInRefIdeal.τ).loc Cert.AdBInRefIdeal.main_arg4))
      ∧ r.2.sem = fun _ => 0)

def quiescent_AdBOut [hAdBOut : Cert.AdBOut.Facts] : Prop :=
  ∀ (m : (ℓ : Loc Cert.AdBOut.nD Cert.AdBOut.τ Cert.AdBOut.sig) → Buf (Elt Bits) ℓ) (g : Dev Cert.AdBOut.nD → PrngReg), Pre_AdBOut m →
    θ_run (Cert.AdBOut.defs (F := Bits)) (onTc (τ := Cert.AdBOut.τ) (Cert.AdBOut.main (F := Bits))) ⟨m, fun _ => 0, g⟩ (fun r => (∀ c : Dev Cert.AdBOut.nD,
      r.2.mem ((c.tc : Thread Cert.AdBOut.nD Cert.AdBOut.τ).loc Cert.AdBOut.main_arg0) = m ((c.tc : Thread Cert.AdBOut.nD Cert.AdBOut.τ).loc Cert.AdBOut.main_arg0)
      ∧ r.2.mem ((c.tc : Thread Cert.AdBOut.nD Cert.AdBOut.τ).loc Cert.AdBOut.main_arg1) = m ((c.tc : Thread Cert.AdBOut.nD Cert.AdBOut.τ).loc Cert.AdBOut.main_arg1)
      ∧ r.2.mem ((c.tc : Thread Cert.AdBOut.nD Cert.AdBOut.τ).loc Cert.AdBOut.main_arg2) = m ((c.tc : Thread Cert.AdBOut.nD Cert.AdBOut.τ).loc Cert.AdBOut.main_arg2)
      ∧ r.2.mem ((c.tc : Thread Cert.AdBOut.nD Cert.AdBOut.τ).loc Cert.AdBOut.main_arg3) = m ((c.tc : Thread Cert.AdBOut.nD Cert.AdBOut.τ).loc Cert.AdBOut.main_arg3)
      ∧ r.2.mem ((c.tc : Thread Cert.AdBOut.nD Cert.AdBOut.τ).loc Cert.AdBOut.main_arg4) = m ((c.tc : Thread Cert.AdBOut.nD Cert.AdBOut.τ).loc Cert.AdBOut.main_arg4))
      ∧ r.2.sem = fun _ => 0)

def quiescent_AdBOutIdeal [hAdBOutIdeal : Cert.AdBOutIdeal.Facts] : Prop :=
  ∀ (m : (ℓ : Loc Cert.AdBOutIdeal.nD Cert.AdBOutIdeal.τ Cert.AdBOutIdeal.sig) → Buf (Elt Ideal) ℓ) (g : Dev Cert.AdBOutIdeal.nD → PrngReg), Pre_AdBOutIdeal m →
    θ_run (Cert.AdBOutIdeal.defs (F := Ideal)) (onTc (τ := Cert.AdBOutIdeal.τ) (Cert.AdBOutIdeal.main (F := Ideal))) ⟨m, fun _ => 0, g⟩ (fun r => (∀ c : Dev Cert.AdBOutIdeal.nD,
      r.2.mem ((c.tc : Thread Cert.AdBOutIdeal.nD Cert.AdBOutIdeal.τ).loc Cert.AdBOutIdeal.main_arg0) = m ((c.tc : Thread Cert.AdBOutIdeal.nD Cert.AdBOutIdeal.τ).loc Cert.AdBOutIdeal.main_arg0)
      ∧ r.2.mem ((c.tc : Thread Cert.AdBOutIdeal.nD Cert.AdBOutIdeal.τ).loc Cert.AdBOutIdeal.main_arg1) = m ((c.tc : Thread Cert.AdBOutIdeal.nD Cert.AdBOutIdeal.τ).loc Cert.AdBOutIdeal.main_arg1)
      ∧ r.2.mem ((c.tc : Thread Cert.AdBOutIdeal.nD Cert.AdBOutIdeal.τ).loc Cert.AdBOutIdeal.main_arg2) = m ((c.tc : Thread Cert.AdBOutIdeal.nD Cert.AdBOutIdeal.τ).loc Cert.AdBOutIdeal.main_arg2)
      ∧ r.2.mem ((c.tc : Thread Cert.AdBOutIdeal.nD Cert.AdBOutIdeal.τ).loc Cert.AdBOutIdeal.main_arg3) = m ((c.tc : Thread Cert.AdBOutIdeal.nD Cert.AdBOutIdeal.τ).loc Cert.AdBOutIdeal.main_arg3)
      ∧ r.2.mem ((c.tc : Thread Cert.AdBOutIdeal.nD Cert.AdBOutIdeal.τ).loc Cert.AdBOutIdeal.main_arg4) = m ((c.tc : Thread Cert.AdBOutIdeal.nD Cert.AdBOutIdeal.τ).loc Cert.AdBOutIdeal.main_arg4))
      ∧ r.2.sem = fun _ => 0)

def quiescent_AdBOutRefIdeal [hAdBOutRefIdeal : Cert.AdBOutRefIdeal.Facts] : Prop :=
  ∀ (m : (ℓ : Loc Cert.AdBOutRefIdeal.nD Cert.AdBOutRefIdeal.τ Cert.AdBOutRefIdeal.sig) → Buf (Elt Ideal) ℓ) (g : Dev Cert.AdBOutRefIdeal.nD → PrngReg), Pre_AdBOutRefIdeal m →
    θ_run (Cert.AdBOutRefIdeal.defs (F := Ideal)) (onTc (τ := Cert.AdBOutRefIdeal.τ) (Cert.AdBOutRefIdeal.main (F := Ideal))) ⟨m, fun _ => 0, g⟩ (fun r => (∀ c : Dev Cert.AdBOutRefIdeal.nD,
      r.2.mem ((c.tc : Thread Cert.AdBOutRefIdeal.nD Cert.AdBOutRefIdeal.τ).loc Cert.AdBOutRefIdeal.main_arg0) = m ((c.tc : Thread Cert.AdBOutRefIdeal.nD Cert.AdBOutRefIdeal.τ).loc Cert.AdBOutRefIdeal.main_arg0)
      ∧ r.2.mem ((c.tc : Thread Cert.AdBOutRefIdeal.nD Cert.AdBOutRefIdeal.τ).loc Cert.AdBOutRefIdeal.main_arg1) = m ((c.tc : Thread Cert.AdBOutRefIdeal.nD Cert.AdBOutRefIdeal.τ).loc Cert.AdBOutRefIdeal.main_arg1)
      ∧ r.2.mem ((c.tc : Thread Cert.AdBOutRefIdeal.nD Cert.AdBOutRefIdeal.τ).loc Cert.AdBOutRefIdeal.main_arg2) = m ((c.tc : Thread Cert.AdBOutRefIdeal.nD Cert.AdBOutRefIdeal.τ).loc Cert.AdBOutRefIdeal.main_arg2)
      ∧ r.2.mem ((c.tc : Thread Cert.AdBOutRefIdeal.nD Cert.AdBOutRefIdeal.τ).loc Cert.AdBOutRefIdeal.main_arg3) = m ((c.tc : Thread Cert.AdBOutRefIdeal.nD Cert.AdBOutRefIdeal.τ).loc Cert.AdBOutRefIdeal.main_arg3)
      ∧ r.2.mem ((c.tc : Thread Cert.AdBOutRefIdeal.nD Cert.AdBOutRefIdeal.τ).loc Cert.AdBOutRefIdeal.main_arg4) = m ((c.tc : Thread Cert.AdBOutRefIdeal.nD Cert.AdBOutRefIdeal.τ).loc Cert.AdBOutRefIdeal.main_arg4))
      ∧ r.2.sem = fun _ => 0)

def quiescent_AdFfnIn [hAdFfnIn : Cert.AdFfnIn.Facts] : Prop :=
  ∀ (m : (ℓ : Loc Cert.AdFfnIn.nD Cert.AdFfnIn.τ Cert.AdFfnIn.sig) → Buf (Elt Bits) ℓ) (g : Dev Cert.AdFfnIn.nD → PrngReg), Pre_AdFfnIn m →
    θ_run (Cert.AdFfnIn.defs (F := Bits)) (onTc (τ := Cert.AdFfnIn.τ) (Cert.AdFfnIn.main (F := Bits))) ⟨m, fun _ => 0, g⟩ (fun r => (∀ c : Dev Cert.AdFfnIn.nD,
      r.2.mem ((c.tc : Thread Cert.AdFfnIn.nD Cert.AdFfnIn.τ).loc Cert.AdFfnIn.main_arg0) = m ((c.tc : Thread Cert.AdFfnIn.nD Cert.AdFfnIn.τ).loc Cert.AdFfnIn.main_arg0)
      ∧ r.2.mem ((c.tc : Thread Cert.AdFfnIn.nD Cert.AdFfnIn.τ).loc Cert.AdFfnIn.main_arg1) = m ((c.tc : Thread Cert.AdFfnIn.nD Cert.AdFfnIn.τ).loc Cert.AdFfnIn.main_arg1)
      ∧ r.2.mem ((c.tc : Thread Cert.AdFfnIn.nD Cert.AdFfnIn.τ).loc Cert.AdFfnIn.main_arg2) = m ((c.tc : Thread Cert.AdFfnIn.nD Cert.AdFfnIn.τ).loc Cert.AdFfnIn.main_arg2)
      ∧ r.2.mem ((c.tc : Thread Cert.AdFfnIn.nD Cert.AdFfnIn.τ).loc Cert.AdFfnIn.main_arg3) = m ((c.tc : Thread Cert.AdFfnIn.nD Cert.AdFfnIn.τ).loc Cert.AdFfnIn.main_arg3)
      ∧ r.2.mem ((c.tc : Thread Cert.AdFfnIn.nD Cert.AdFfnIn.τ).loc Cert.AdFfnIn.main_arg4) = m ((c.tc : Thread Cert.AdFfnIn.nD Cert.AdFfnIn.τ).loc Cert.AdFfnIn.main_arg4)
      ∧ r.2.mem ((c.tc : Thread Cert.AdFfnIn.nD Cert.AdFfnIn.τ).loc Cert.AdFfnIn.main_arg5) = m ((c.tc : Thread Cert.AdFfnIn.nD Cert.AdFfnIn.τ).loc Cert.AdFfnIn.main_arg5)
      ∧ r.2.mem ((c.tc : Thread Cert.AdFfnIn.nD Cert.AdFfnIn.τ).loc Cert.AdFfnIn.main_arg6) = m ((c.tc : Thread Cert.AdFfnIn.nD Cert.AdFfnIn.τ).loc Cert.AdFfnIn.main_arg6))
      ∧ r.2.sem = fun _ => 0)

def quiescent_AdFfnInIdeal [hAdFfnInIdeal : Cert.AdFfnInIdeal.Facts] : Prop :=
  ∀ (m : (ℓ : Loc Cert.AdFfnInIdeal.nD Cert.AdFfnInIdeal.τ Cert.AdFfnInIdeal.sig) → Buf (Elt Ideal) ℓ) (g : Dev Cert.AdFfnInIdeal.nD → PrngReg), Pre_AdFfnInIdeal m →
    θ_run (Cert.AdFfnInIdeal.defs (F := Ideal)) (onTc (τ := Cert.AdFfnInIdeal.τ) (Cert.AdFfnInIdeal.main (F := Ideal))) ⟨m, fun _ => 0, g⟩ (fun r => (∀ c : Dev Cert.AdFfnInIdeal.nD,
      r.2.mem ((c.tc : Thread Cert.AdFfnInIdeal.nD Cert.AdFfnInIdeal.τ).loc Cert.AdFfnInIdeal.main_arg0) = m ((c.tc : Thread Cert.AdFfnInIdeal.nD Cert.AdFfnInIdeal.τ).loc Cert.AdFfnInIdeal.main_arg0)
      ∧ r.2.mem ((c.tc : Thread Cert.AdFfnInIdeal.nD Cert.AdFfnInIdeal.τ).loc Cert.AdFfnInIdeal.main_arg1) = m ((c.tc : Thread Cert.AdFfnInIdeal.nD Cert.AdFfnInIdeal.τ).loc Cert.AdFfnInIdeal.main_arg1)
      ∧ r.2.mem ((c.tc : Thread Cert.AdFfnInIdeal.nD Cert.AdFfnInIdeal.τ).loc Cert.AdFfnInIdeal.main_arg2) = m ((c.tc : Thread Cert.AdFfnInIdeal.nD Cert.AdFfnInIdeal.τ).loc Cert.AdFfnInIdeal.main_arg2)
      ∧ r.2.mem ((c.tc : Thread Cert.AdFfnInIdeal.nD Cert.AdFfnInIdeal.τ).loc Cert.AdFfnInIdeal.main_arg3) = m ((c.tc : Thread Cert.AdFfnInIdeal.nD Cert.AdFfnInIdeal.τ).loc Cert.AdFfnInIdeal.main_arg3)
      ∧ r.2.mem ((c.tc : Thread Cert.AdFfnInIdeal.nD Cert.AdFfnInIdeal.τ).loc Cert.AdFfnInIdeal.main_arg4) = m ((c.tc : Thread Cert.AdFfnInIdeal.nD Cert.AdFfnInIdeal.τ).loc Cert.AdFfnInIdeal.main_arg4)
      ∧ r.2.mem ((c.tc : Thread Cert.AdFfnInIdeal.nD Cert.AdFfnInIdeal.τ).loc Cert.AdFfnInIdeal.main_arg5) = m ((c.tc : Thread Cert.AdFfnInIdeal.nD Cert.AdFfnInIdeal.τ).loc Cert.AdFfnInIdeal.main_arg5)
      ∧ r.2.mem ((c.tc : Thread Cert.AdFfnInIdeal.nD Cert.AdFfnInIdeal.τ).loc Cert.AdFfnInIdeal.main_arg6) = m ((c.tc : Thread Cert.AdFfnInIdeal.nD Cert.AdFfnInIdeal.τ).loc Cert.AdFfnInIdeal.main_arg6))
      ∧ r.2.sem = fun _ => 0)

def quiescent_AdFfnInRefIdeal [hAdFfnInRefIdeal : Cert.AdFfnInRefIdeal.Facts] : Prop :=
  ∀ (m : (ℓ : Loc Cert.AdFfnInRefIdeal.nD Cert.AdFfnInRefIdeal.τ Cert.AdFfnInRefIdeal.sig) → Buf (Elt Ideal) ℓ) (g : Dev Cert.AdFfnInRefIdeal.nD → PrngReg), Pre_AdFfnInRefIdeal m →
    θ_run (Cert.AdFfnInRefIdeal.defs (F := Ideal)) (onTc (τ := Cert.AdFfnInRefIdeal.τ) (Cert.AdFfnInRefIdeal.main (F := Ideal))) ⟨m, fun _ => 0, g⟩ (fun r => (∀ c : Dev Cert.AdFfnInRefIdeal.nD,
      r.2.mem ((c.tc : Thread Cert.AdFfnInRefIdeal.nD Cert.AdFfnInRefIdeal.τ).loc Cert.AdFfnInRefIdeal.main_arg0) = m ((c.tc : Thread Cert.AdFfnInRefIdeal.nD Cert.AdFfnInRefIdeal.τ).loc Cert.AdFfnInRefIdeal.main_arg0)
      ∧ r.2.mem ((c.tc : Thread Cert.AdFfnInRefIdeal.nD Cert.AdFfnInRefIdeal.τ).loc Cert.AdFfnInRefIdeal.main_arg1) = m ((c.tc : Thread Cert.AdFfnInRefIdeal.nD Cert.AdFfnInRefIdeal.τ).loc Cert.AdFfnInRefIdeal.main_arg1)
      ∧ r.2.mem ((c.tc : Thread Cert.AdFfnInRefIdeal.nD Cert.AdFfnInRefIdeal.τ).loc Cert.AdFfnInRefIdeal.main_arg2) = m ((c.tc : Thread Cert.AdFfnInRefIdeal.nD Cert.AdFfnInRefIdeal.τ).loc Cert.AdFfnInRefIdeal.main_arg2)
      ∧ r.2.mem ((c.tc : Thread Cert.AdFfnInRefIdeal.nD Cert.AdFfnInRefIdeal.τ).loc Cert.AdFfnInRefIdeal.main_arg3) = m ((c.tc : Thread Cert.AdFfnInRefIdeal.nD Cert.AdFfnInRefIdeal.τ).loc Cert.AdFfnInRefIdeal.main_arg3)
      ∧ r.2.mem ((c.tc : Thread Cert.AdFfnInRefIdeal.nD Cert.AdFfnInRefIdeal.τ).loc Cert.AdFfnInRefIdeal.main_arg4) = m ((c.tc : Thread Cert.AdFfnInRefIdeal.nD Cert.AdFfnInRefIdeal.τ).loc Cert.AdFfnInRefIdeal.main_arg4)
      ∧ r.2.mem ((c.tc : Thread Cert.AdFfnInRefIdeal.nD Cert.AdFfnInRefIdeal.τ).loc Cert.AdFfnInRefIdeal.main_arg5) = m ((c.tc : Thread Cert.AdFfnInRefIdeal.nD Cert.AdFfnInRefIdeal.τ).loc Cert.AdFfnInRefIdeal.main_arg5)
      ∧ r.2.mem ((c.tc : Thread Cert.AdFfnInRefIdeal.nD Cert.AdFfnInRefIdeal.τ).loc Cert.AdFfnInRefIdeal.main_arg6) = m ((c.tc : Thread Cert.AdFfnInRefIdeal.nD Cert.AdFfnInRefIdeal.τ).loc Cert.AdFfnInRefIdeal.main_arg6))
      ∧ r.2.sem = fun _ => 0)

def quiescent_AdFfnOut [hAdFfnOut : Cert.AdFfnOut.Facts] : Prop :=
  ∀ (m : (ℓ : Loc Cert.AdFfnOut.nD Cert.AdFfnOut.τ Cert.AdFfnOut.sig) → Buf (Elt Bits) ℓ) (g : Dev Cert.AdFfnOut.nD → PrngReg), Pre_AdFfnOut m →
    θ_run (Cert.AdFfnOut.defs (F := Bits)) (onTc (τ := Cert.AdFfnOut.τ) (Cert.AdFfnOut.main (F := Bits))) ⟨m, fun _ => 0, g⟩ (fun r => (∀ c : Dev Cert.AdFfnOut.nD,
      r.2.mem ((c.tc : Thread Cert.AdFfnOut.nD Cert.AdFfnOut.τ).loc Cert.AdFfnOut.main_arg0) = m ((c.tc : Thread Cert.AdFfnOut.nD Cert.AdFfnOut.τ).loc Cert.AdFfnOut.main_arg0)
      ∧ r.2.mem ((c.tc : Thread Cert.AdFfnOut.nD Cert.AdFfnOut.τ).loc Cert.AdFfnOut.main_arg1) = m ((c.tc : Thread Cert.AdFfnOut.nD Cert.AdFfnOut.τ).loc Cert.AdFfnOut.main_arg1)
      ∧ r.2.mem ((c.tc : Thread Cert.AdFfnOut.nD Cert.AdFfnOut.τ).loc Cert.AdFfnOut.main_arg2) = m ((c.tc : Thread Cert.AdFfnOut.nD Cert.AdFfnOut.τ).loc Cert.AdFfnOut.main_arg2)
      ∧ r.2.mem ((c.tc : Thread Cert.AdFfnOut.nD Cert.AdFfnOut.τ).loc Cert.AdFfnOut.main_arg3) = m ((c.tc : Thread Cert.AdFfnOut.nD Cert.AdFfnOut.τ).loc Cert.AdFfnOut.main_arg3)
      ∧ r.2.mem ((c.tc : Thread Cert.AdFfnOut.nD Cert.AdFfnOut.τ).loc Cert.AdFfnOut.main_arg4) = m ((c.tc : Thread Cert.AdFfnOut.nD Cert.AdFfnOut.τ).loc Cert.AdFfnOut.main_arg4)
      ∧ r.2.mem ((c.tc : Thread Cert.AdFfnOut.nD Cert.AdFfnOut.τ).loc Cert.AdFfnOut.main_arg5) = m ((c.tc : Thread Cert.AdFfnOut.nD Cert.AdFfnOut.τ).loc Cert.AdFfnOut.main_arg5)
      ∧ r.2.mem ((c.tc : Thread Cert.AdFfnOut.nD Cert.AdFfnOut.τ).loc Cert.AdFfnOut.main_arg6) = m ((c.tc : Thread Cert.AdFfnOut.nD Cert.AdFfnOut.τ).loc Cert.AdFfnOut.main_arg6))
      ∧ r.2.sem = fun _ => 0)

def quiescent_AdFfnOutIdeal [hAdFfnOutIdeal : Cert.AdFfnOutIdeal.Facts] : Prop :=
  ∀ (m : (ℓ : Loc Cert.AdFfnOutIdeal.nD Cert.AdFfnOutIdeal.τ Cert.AdFfnOutIdeal.sig) → Buf (Elt Ideal) ℓ) (g : Dev Cert.AdFfnOutIdeal.nD → PrngReg), Pre_AdFfnOutIdeal m →
    θ_run (Cert.AdFfnOutIdeal.defs (F := Ideal)) (onTc (τ := Cert.AdFfnOutIdeal.τ) (Cert.AdFfnOutIdeal.main (F := Ideal))) ⟨m, fun _ => 0, g⟩ (fun r => (∀ c : Dev Cert.AdFfnOutIdeal.nD,
      r.2.mem ((c.tc : Thread Cert.AdFfnOutIdeal.nD Cert.AdFfnOutIdeal.τ).loc Cert.AdFfnOutIdeal.main_arg0) = m ((c.tc : Thread Cert.AdFfnOutIdeal.nD Cert.AdFfnOutIdeal.τ).loc Cert.AdFfnOutIdeal.main_arg0)
      ∧ r.2.mem ((c.tc : Thread Cert.AdFfnOutIdeal.nD Cert.AdFfnOutIdeal.τ).loc Cert.AdFfnOutIdeal.main_arg1) = m ((c.tc : Thread Cert.AdFfnOutIdeal.nD Cert.AdFfnOutIdeal.τ).loc Cert.AdFfnOutIdeal.main_arg1)
      ∧ r.2.mem ((c.tc : Thread Cert.AdFfnOutIdeal.nD Cert.AdFfnOutIdeal.τ).loc Cert.AdFfnOutIdeal.main_arg2) = m ((c.tc : Thread Cert.AdFfnOutIdeal.nD Cert.AdFfnOutIdeal.τ).loc Cert.AdFfnOutIdeal.main_arg2)
      ∧ r.2.mem ((c.tc : Thread Cert.AdFfnOutIdeal.nD Cert.AdFfnOutIdeal.τ).loc Cert.AdFfnOutIdeal.main_arg3) = m ((c.tc : Thread Cert.AdFfnOutIdeal.nD Cert.AdFfnOutIdeal.τ).loc Cert.AdFfnOutIdeal.main_arg3)
      ∧ r.2.mem ((c.tc : Thread Cert.AdFfnOutIdeal.nD Cert.AdFfnOutIdeal.τ).loc Cert.AdFfnOutIdeal.main_arg4) = m ((c.tc : Thread Cert.AdFfnOutIdeal.nD Cert.AdFfnOutIdeal.τ).loc Cert.AdFfnOutIdeal.main_arg4)
      ∧ r.2.mem ((c.tc : Thread Cert.AdFfnOutIdeal.nD Cert.AdFfnOutIdeal.τ).loc Cert.AdFfnOutIdeal.main_arg5) = m ((c.tc : Thread Cert.AdFfnOutIdeal.nD Cert.AdFfnOutIdeal.τ).loc Cert.AdFfnOutIdeal.main_arg5)
      ∧ r.2.mem ((c.tc : Thread Cert.AdFfnOutIdeal.nD Cert.AdFfnOutIdeal.τ).loc Cert.AdFfnOutIdeal.main_arg6) = m ((c.tc : Thread Cert.AdFfnOutIdeal.nD Cert.AdFfnOutIdeal.τ).loc Cert.AdFfnOutIdeal.main_arg6))
      ∧ r.2.sem = fun _ => 0)

def quiescent_AdFfnOutRefIdeal [hAdFfnOutRefIdeal : Cert.AdFfnOutRefIdeal.Facts] : Prop :=
  ∀ (m : (ℓ : Loc Cert.AdFfnOutRefIdeal.nD Cert.AdFfnOutRefIdeal.τ Cert.AdFfnOutRefIdeal.sig) → Buf (Elt Ideal) ℓ) (g : Dev Cert.AdFfnOutRefIdeal.nD → PrngReg), Pre_AdFfnOutRefIdeal m →
    θ_run (Cert.AdFfnOutRefIdeal.defs (F := Ideal)) (onTc (τ := Cert.AdFfnOutRefIdeal.τ) (Cert.AdFfnOutRefIdeal.main (F := Ideal))) ⟨m, fun _ => 0, g⟩ (fun r => (∀ c : Dev Cert.AdFfnOutRefIdeal.nD,
      r.2.mem ((c.tc : Thread Cert.AdFfnOutRefIdeal.nD Cert.AdFfnOutRefIdeal.τ).loc Cert.AdFfnOutRefIdeal.main_arg0) = m ((c.tc : Thread Cert.AdFfnOutRefIdeal.nD Cert.AdFfnOutRefIdeal.τ).loc Cert.AdFfnOutRefIdeal.main_arg0)
      ∧ r.2.mem ((c.tc : Thread Cert.AdFfnOutRefIdeal.nD Cert.AdFfnOutRefIdeal.τ).loc Cert.AdFfnOutRefIdeal.main_arg1) = m ((c.tc : Thread Cert.AdFfnOutRefIdeal.nD Cert.AdFfnOutRefIdeal.τ).loc Cert.AdFfnOutRefIdeal.main_arg1)
      ∧ r.2.mem ((c.tc : Thread Cert.AdFfnOutRefIdeal.nD Cert.AdFfnOutRefIdeal.τ).loc Cert.AdFfnOutRefIdeal.main_arg2) = m ((c.tc : Thread Cert.AdFfnOutRefIdeal.nD Cert.AdFfnOutRefIdeal.τ).loc Cert.AdFfnOutRefIdeal.main_arg2)
      ∧ r.2.mem ((c.tc : Thread Cert.AdFfnOutRefIdeal.nD Cert.AdFfnOutRefIdeal.τ).loc Cert.AdFfnOutRefIdeal.main_arg3) = m ((c.tc : Thread Cert.AdFfnOutRefIdeal.nD Cert.AdFfnOutRefIdeal.τ).loc Cert.AdFfnOutRefIdeal.main_arg3)
      ∧ r.2.mem ((c.tc : Thread Cert.AdFfnOutRefIdeal.nD Cert.AdFfnOutRefIdeal.τ).loc Cert.AdFfnOutRefIdeal.main_arg4) = m ((c.tc : Thread Cert.AdFfnOutRefIdeal.nD Cert.AdFfnOutRefIdeal.τ).loc Cert.AdFfnOutRefIdeal.main_arg4)
      ∧ r.2.mem ((c.tc : Thread Cert.AdFfnOutRefIdeal.nD Cert.AdFfnOutRefIdeal.τ).loc Cert.AdFfnOutRefIdeal.main_arg5) = m ((c.tc : Thread Cert.AdFfnOutRefIdeal.nD Cert.AdFfnOutRefIdeal.τ).loc Cert.AdFfnOutRefIdeal.main_arg5)
      ∧ r.2.mem ((c.tc : Thread Cert.AdFfnOutRefIdeal.nD Cert.AdFfnOutRefIdeal.τ).loc Cert.AdFfnOutRefIdeal.main_arg6) = m ((c.tc : Thread Cert.AdFfnOutRefIdeal.nD Cert.AdFfnOutRefIdeal.τ).loc Cert.AdFfnOutRefIdeal.main_arg6))
      ∧ r.2.sem = fun _ => 0)

def quiescent_AdSmall [hAdSmall : Cert.AdSmall.Facts] : Prop :=
  ∀ (m : (ℓ : Loc Cert.AdSmall.nD Cert.AdSmall.τ Cert.AdSmall.sig) → Buf (Elt Bits) ℓ) (g : Dev Cert.AdSmall.nD → PrngReg), Pre_AdSmall m →
    θ_run (Cert.AdSmall.defs (F := Bits)) (onTc (τ := Cert.AdSmall.τ) (Cert.AdSmall.main (F := Bits))) ⟨m, fun _ => 0, g⟩ (fun r => (∀ c : Dev Cert.AdSmall.nD,
      r.2.mem ((c.tc : Thread Cert.AdSmall.nD Cert.AdSmall.τ).loc Cert.AdSmall.main_arg0) = m ((c.tc : Thread Cert.AdSmall.nD Cert.AdSmall.τ).loc Cert.AdSmall.main_arg0)
      ∧ r.2.mem ((c.tc : Thread Cert.AdSmall.nD Cert.AdSmall.τ).loc Cert.AdSmall.main_arg1) = m ((c.tc : Thread Cert.AdSmall.nD Cert.AdSmall.τ).loc Cert.AdSmall.main_arg1)
      ∧ r.2.mem ((c.tc : Thread Cert.AdSmall.nD Cert.AdSmall.τ).loc Cert.AdSmall.main_arg2) = m ((c.tc : Thread Cert.AdSmall.nD Cert.AdSmall.τ).loc Cert.AdSmall.main_arg2)
      ∧ r.2.mem ((c.tc : Thread Cert.AdSmall.nD Cert.AdSmall.τ).loc Cert.AdSmall.main_arg3) = m ((c.tc : Thread Cert.AdSmall.nD Cert.AdSmall.τ).loc Cert.AdSmall.main_arg3)
      ∧ r.2.mem ((c.tc : Thread Cert.AdSmall.nD Cert.AdSmall.τ).loc Cert.AdSmall.main_arg4) = m ((c.tc : Thread Cert.AdSmall.nD Cert.AdSmall.τ).loc Cert.AdSmall.main_arg4)
      ∧ r.2.mem ((c.tc : Thread Cert.AdSmall.nD Cert.AdSmall.τ).loc Cert.AdSmall.main_arg5) = m ((c.tc : Thread Cert.AdSmall.nD Cert.AdSmall.τ).loc Cert.AdSmall.main_arg5)
      ∧ r.2.mem ((c.tc : Thread Cert.AdSmall.nD Cert.AdSmall.τ).loc Cert.AdSmall.main_arg6) = m ((c.tc : Thread Cert.AdSmall.nD Cert.AdSmall.τ).loc Cert.AdSmall.main_arg6)
      ∧ r.2.mem ((c.tc : Thread Cert.AdSmall.nD Cert.AdSmall.τ).loc Cert.AdSmall.main_arg7) = m ((c.tc : Thread Cert.AdSmall.nD Cert.AdSmall.τ).loc Cert.AdSmall.main_arg7)
      ∧ r.2.mem ((c.tc : Thread Cert.AdSmall.nD Cert.AdSmall.τ).loc Cert.AdSmall.main_arg8) = m ((c.tc : Thread Cert.AdSmall.nD Cert.AdSmall.τ).loc Cert.AdSmall.main_arg8)
      ∧ r.2.mem ((c.tc : Thread Cert.AdSmall.nD Cert.AdSmall.τ).loc Cert.AdSmall.main_arg9) = m ((c.tc : Thread Cert.AdSmall.nD Cert.AdSmall.τ).loc Cert.AdSmall.main_arg9)
      ∧ r.2.mem ((c.tc : Thread Cert.AdSmall.nD Cert.AdSmall.τ).loc Cert.AdSmall.main_arg10) = m ((c.tc : Thread Cert.AdSmall.nD Cert.AdSmall.τ).loc Cert.AdSmall.main_arg10)
      ∧ r.2.mem ((c.tc : Thread Cert.AdSmall.nD Cert.AdSmall.τ).loc Cert.AdSmall.main_arg11) = m ((c.tc : Thread Cert.AdSmall.nD Cert.AdSmall.τ).loc Cert.AdSmall.main_arg11)
      ∧ r.2.mem ((c.tc : Thread Cert.AdSmall.nD Cert.AdSmall.τ).loc Cert.AdSmall.main_arg12) = m ((c.tc : Thread Cert.AdSmall.nD Cert.AdSmall.τ).loc Cert.AdSmall.main_arg12)
      ∧ r.2.mem ((c.tc : Thread Cert.AdSmall.nD Cert.AdSmall.τ).loc Cert.AdSmall.main_arg13) = m ((c.tc : Thread Cert.AdSmall.nD Cert.AdSmall.τ).loc Cert.AdSmall.main_arg13))
      ∧ r.2.sem = fun _ => 0)

def quiescent_AdSmallIdeal [hAdSmallIdeal : Cert.AdSmallIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg), Pre_AdSmallIdeal m →
    θ_run (Cert.AdSmallIdeal.defs (F := Ideal)) (onTc (τ := Cert.AdSmallIdeal.τ) (Cert.AdSmallIdeal.main (F := Ideal))) ⟨m, fun _ => 0, g⟩ (fun r => (∀ c : Dev Cert.AdSmallIdeal.nD,
      r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
      ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
      ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
      ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3)
      ∧ r.2.mem ((c.tc : Thread Cert.AdSmallIdeal.nD Cert.AdSmallIdeal.τ).loc Cert.AdSmallIdeal.main_arg4) = m ((c.tc : Thread Cert.AdSmallIdeal.nD Cert.AdSmallIdeal.τ).loc Cert.AdSmallIdeal.main_arg4)
      ∧ r.2.mem ((c.tc : Thread Cert.AdSmallIdeal.nD Cert.AdSmallIdeal.τ).loc Cert.AdSmallIdeal.main_arg5) = m ((c.tc : Thread Cert.AdSmallIdeal.nD Cert.AdSmallIdeal.τ).loc Cert.AdSmallIdeal.main_arg5)
      ∧ r.2.mem ((c.tc : Thread Cert.AdSmallIdeal.nD Cert.AdSmallIdeal.τ).loc Cert.AdSmallIdeal.main_arg6) = m ((c.tc : Thread Cert.AdSmallIdeal.nD Cert.AdSmallIdeal.τ).loc Cert.AdSmallIdeal.main_arg6)
      ∧ r.2.mem ((c.tc : Thread Cert.AdSmallIdeal.nD Cert.AdSmallIdeal.τ).loc Cert.AdSmallIdeal.main_arg7) = m ((c.tc : Thread Cert.AdSmallIdeal.nD Cert.AdSmallIdeal.τ).loc Cert.AdSmallIdeal.main_arg7)
      ∧ r.2.mem ((c.tc : Thread Cert.AdSmallIdeal.nD Cert.AdSmallIdeal.τ).loc Cert.AdSmallIdeal.main_arg8) = m ((c.tc : Thread Cert.AdSmallIdeal.nD Cert.AdSmallIdeal.τ).loc Cert.AdSmallIdeal.main_arg8)
      ∧ r.2.mem ((c.tc : Thread Cert.AdSmallIdeal.nD Cert.AdSmallIdeal.τ).loc Cert.AdSmallIdeal.main_arg9) = m ((c.tc : Thread Cert.AdSmallIdeal.nD Cert.AdSmallIdeal.τ).loc Cert.AdSmallIdeal.main_arg9)
      ∧ r.2.mem ((c.tc : Thread Cert.AdSmallIdeal.nD Cert.AdSmallIdeal.τ).loc Cert.AdSmallIdeal.main_arg10) = m ((c.tc : Thread Cert.AdSmallIdeal.nD Cert.AdSmallIdeal.τ).loc Cert.AdSmallIdeal.main_arg10)
      ∧ r.2.mem ((c.tc : Thread Cert.AdSmallIdeal.nD Cert.AdSmallIdeal.τ).loc Cert.AdSmallIdeal.main_arg11) = m ((c.tc : Thread Cert.AdSmallIdeal.nD Cert.AdSmallIdeal.τ).loc Cert.AdSmallIdeal.main_arg11)
      ∧ r.2.mem ((c.tc : Thread Cert.AdSmallIdeal.nD Cert.AdSmallIdeal.τ).loc Cert.AdSmallIdeal.main_arg12) = m ((c.tc : Thread Cert.AdSmallIdeal.nD Cert.AdSmallIdeal.τ).loc Cert.AdSmallIdeal.main_arg12)
      ∧ r.2.mem ((c.tc : Thread Cert.AdSmallIdeal.nD Cert.AdSmallIdeal.τ).loc Cert.AdSmallIdeal.main_arg13) = m ((c.tc : Thread Cert.AdSmallIdeal.nD Cert.AdSmallIdeal.τ).loc Cert.AdSmallIdeal.main_arg13))
      ∧ r.2.sem = fun _ => 0)

def quiescent_AdSmallRefIdeal [hAdSmallRefIdeal : Cert.AdSmallRefIdeal.Facts] : Prop :=
  ∀ (m : (ℓ : Loc Cert.AdSmallRefIdeal.nD Cert.AdSmallRefIdeal.τ Cert.AdSmallRefIdeal.sig) → Buf (Elt Ideal) ℓ) (g : Dev Cert.AdSmallRefIdeal.nD → PrngReg), Pre_AdSmallRefIdeal m →
    θ_run (Cert.AdSmallRefIdeal.defs (F := Ideal)) (onTc (τ := Cert.AdSmallRefIdeal.τ) (Cert.AdSmallRefIdeal.main (F := Ideal))) ⟨m, fun _ => 0, g⟩ (fun r => (∀ c : Dev Cert.AdSmallRefIdeal.nD,
      r.2.mem ((c.tc : Thread Cert.AdSmallRefIdeal.nD Cert.AdSmallRefIdeal.τ).loc Cert.AdSmallRefIdeal.main_arg0) = m ((c.tc : Thread Cert.AdSmallRefIdeal.nD Cert.AdSmallRefIdeal.τ).loc Cert.AdSmallRefIdeal.main_arg0)
      ∧ r.2.mem ((c.tc : Thread Cert.AdSmallRefIdeal.nD Cert.AdSmallRefIdeal.τ).loc Cert.AdSmallRefIdeal.main_arg1) = m ((c.tc : Thread Cert.AdSmallRefIdeal.nD Cert.AdSmallRefIdeal.τ).loc Cert.AdSmallRefIdeal.main_arg1)
      ∧ r.2.mem ((c.tc : Thread Cert.AdSmallRefIdeal.nD Cert.AdSmallRefIdeal.τ).loc Cert.AdSmallRefIdeal.main_arg2) = m ((c.tc : Thread Cert.AdSmallRefIdeal.nD Cert.AdSmallRefIdeal.τ).loc Cert.AdSmallRefIdeal.main_arg2)
      ∧ r.2.mem ((c.tc : Thread Cert.AdSmallRefIdeal.nD Cert.AdSmallRefIdeal.τ).loc Cert.AdSmallRefIdeal.main_arg3) = m ((c.tc : Thread Cert.AdSmallRefIdeal.nD Cert.AdSmallRefIdeal.τ).loc Cert.AdSmallRefIdeal.main_arg3)
      ∧ r.2.mem ((c.tc : Thread Cert.AdSmallRefIdeal.nD Cert.AdSmallRefIdeal.τ).loc Cert.AdSmallRefIdeal.main_arg4) = m ((c.tc : Thread Cert.AdSmallRefIdeal.nD Cert.AdSmallRefIdeal.τ).loc Cert.AdSmallRefIdeal.main_arg4)
      ∧ r.2.mem ((c.tc : Thread Cert.AdSmallRefIdeal.nD Cert.AdSmallRefIdeal.τ).loc Cert.AdSmallRefIdeal.main_arg5) = m ((c.tc : Thread Cert.AdSmallRefIdeal.nD Cert.AdSmallRefIdeal.τ).loc Cert.AdSmallRefIdeal.main_arg5)
      ∧ r.2.mem ((c.tc : Thread Cert.AdSmallRefIdeal.nD Cert.AdSmallRefIdeal.τ).loc Cert.AdSmallRefIdeal.main_arg6) = m ((c.tc : Thread Cert.AdSmallRefIdeal.nD Cert.AdSmallRefIdeal.τ).loc Cert.AdSmallRefIdeal.main_arg6)
      ∧ r.2.mem ((c.tc : Thread Cert.AdSmallRefIdeal.nD Cert.AdSmallRefIdeal.τ).loc Cert.AdSmallRefIdeal.main_arg7) = m ((c.tc : Thread Cert.AdSmallRefIdeal.nD Cert.AdSmallRefIdeal.τ).loc Cert.AdSmallRefIdeal.main_arg7)
      ∧ r.2.mem ((c.tc : Thread Cert.AdSmallRefIdeal.nD Cert.AdSmallRefIdeal.τ).loc Cert.AdSmallRefIdeal.main_arg8) = m ((c.tc : Thread Cert.AdSmallRefIdeal.nD Cert.AdSmallRefIdeal.τ).loc Cert.AdSmallRefIdeal.main_arg8)
      ∧ r.2.mem ((c.tc : Thread Cert.AdSmallRefIdeal.nD Cert.AdSmallRefIdeal.τ).loc Cert.AdSmallRefIdeal.main_arg9) = m ((c.tc : Thread Cert.AdSmallRefIdeal.nD Cert.AdSmallRefIdeal.τ).loc Cert.AdSmallRefIdeal.main_arg9)
      ∧ r.2.mem ((c.tc : Thread Cert.AdSmallRefIdeal.nD Cert.AdSmallRefIdeal.τ).loc Cert.AdSmallRefIdeal.main_arg10) = m ((c.tc : Thread Cert.AdSmallRefIdeal.nD Cert.AdSmallRefIdeal.τ).loc Cert.AdSmallRefIdeal.main_arg10)
      ∧ r.2.mem ((c.tc : Thread Cert.AdSmallRefIdeal.nD Cert.AdSmallRefIdeal.τ).loc Cert.AdSmallRefIdeal.main_arg11) = m ((c.tc : Thread Cert.AdSmallRefIdeal.nD Cert.AdSmallRefIdeal.τ).loc Cert.AdSmallRefIdeal.main_arg11)
      ∧ r.2.mem ((c.tc : Thread Cert.AdSmallRefIdeal.nD Cert.AdSmallRefIdeal.τ).loc Cert.AdSmallRefIdeal.main_arg12) = m ((c.tc : Thread Cert.AdSmallRefIdeal.nD Cert.AdSmallRefIdeal.τ).loc Cert.AdSmallRefIdeal.main_arg12)
      ∧ r.2.mem ((c.tc : Thread Cert.AdSmallRefIdeal.nD Cert.AdSmallRefIdeal.τ).loc Cert.AdSmallRefIdeal.main_arg13) = m ((c.tc : Thread Cert.AdSmallRefIdeal.nD Cert.AdSmallRefIdeal.τ).loc Cert.AdSmallRefIdeal.main_arg13))
      ∧ r.2.sem = fun _ => 0)

def quiescent_AdRep [hAdRep : Cert.AdRep.Facts] : Prop :=
  ∀ (m : (ℓ : Loc Cert.AdRep.nD Cert.AdRep.τ Cert.AdRep.sig) → Buf (Elt Bits) ℓ) (g : Dev Cert.AdRep.nD → PrngReg), Pre_AdRep m →
    θ_run (Cert.AdRep.defs (F := Bits)) (onTc (τ := Cert.AdRep.τ) (Cert.AdRep.main (F := Bits))) ⟨m, fun _ => 0, g⟩ (fun r => (∀ c : Dev Cert.AdRep.nD,
      r.2.mem ((c.tc : Thread Cert.AdRep.nD Cert.AdRep.τ).loc Cert.AdRep.main_arg0) = m ((c.tc : Thread Cert.AdRep.nD Cert.AdRep.τ).loc Cert.AdRep.main_arg0)
      ∧ r.2.mem ((c.tc : Thread Cert.AdRep.nD Cert.AdRep.τ).loc Cert.AdRep.main_arg1) = m ((c.tc : Thread Cert.AdRep.nD Cert.AdRep.τ).loc Cert.AdRep.main_arg1)
      ∧ r.2.mem ((c.tc : Thread Cert.AdRep.nD Cert.AdRep.τ).loc Cert.AdRep.main_arg2) = m ((c.tc : Thread Cert.AdRep.nD Cert.AdRep.τ).loc Cert.AdRep.main_arg2)
      ∧ r.2.mem ((c.tc : Thread Cert.AdRep.nD Cert.AdRep.τ).loc Cert.AdRep.main_arg3) = m ((c.tc : Thread Cert.AdRep.nD Cert.AdRep.τ).loc Cert.AdRep.main_arg3)
      ∧ r.2.mem ((c.tc : Thread Cert.AdRep.nD Cert.AdRep.τ).loc Cert.AdRep.main_arg4) = m ((c.tc : Thread Cert.AdRep.nD Cert.AdRep.τ).loc Cert.AdRep.main_arg4)
      ∧ r.2.mem ((c.tc : Thread Cert.AdRep.nD Cert.AdRep.τ).loc Cert.AdRep.main_arg5) = m ((c.tc : Thread Cert.AdRep.nD Cert.AdRep.τ).loc Cert.AdRep.main_arg5)
      ∧ r.2.mem ((c.tc : Thread Cert.AdRep.nD Cert.AdRep.τ).loc Cert.AdRep.main_arg6) = m ((c.tc : Thread Cert.AdRep.nD Cert.AdRep.τ).loc Cert.AdRep.main_arg6)
      ∧ r.2.mem ((c.tc : Thread Cert.AdRep.nD Cert.AdRep.τ).loc Cert.AdRep.main_arg7) = m ((c.tc : Thread Cert.AdRep.nD Cert.AdRep.τ).loc Cert.AdRep.main_arg7)
      ∧ r.2.mem ((c.tc : Thread Cert.AdRep.nD Cert.AdRep.τ).loc Cert.AdRep.main_arg8) = m ((c.tc : Thread Cert.AdRep.nD Cert.AdRep.τ).loc Cert.AdRep.main_arg8)
      ∧ r.2.mem ((c.tc : Thread Cert.AdRep.nD Cert.AdRep.τ).loc Cert.AdRep.main_arg9) = m ((c.tc : Thread Cert.AdRep.nD Cert.AdRep.τ).loc Cert.AdRep.main_arg9)
      ∧ r.2.mem ((c.tc : Thread Cert.AdRep.nD Cert.AdRep.τ).loc Cert.AdRep.main_arg10) = m ((c.tc : Thread Cert.AdRep.nD Cert.AdRep.τ).loc Cert.AdRep.main_arg10)
      ∧ r.2.mem ((c.tc : Thread Cert.AdRep.nD Cert.AdRep.τ).loc Cert.AdRep.main_arg11) = m ((c.tc : Thread Cert.AdRep.nD Cert.AdRep.τ).loc Cert.AdRep.main_arg11)
      ∧ r.2.mem ((c.tc : Thread Cert.AdRep.nD Cert.AdRep.τ).loc Cert.AdRep.main_arg12) = m ((c.tc : Thread Cert.AdRep.nD Cert.AdRep.τ).loc Cert.AdRep.main_arg12)
      ∧ r.2.mem ((c.tc : Thread Cert.AdRep.nD Cert.AdRep.τ).loc Cert.AdRep.main_arg13) = m ((c.tc : Thread Cert.AdRep.nD Cert.AdRep.τ).loc Cert.AdRep.main_arg13)
      ∧ r.2.mem ((c.tc : Thread Cert.AdRep.nD Cert.AdRep.τ).loc Cert.AdRep.main_arg14) = m ((c.tc : Thread Cert.AdRep.nD Cert.AdRep.τ).loc Cert.AdRep.main_arg14)
      ∧ r.2.mem ((c.tc : Thread Cert.AdRep.nD Cert.AdRep.τ).loc Cert.AdRep.main_arg15) = m ((c.tc : Thread Cert.AdRep.nD Cert.AdRep.τ).loc Cert.AdRep.main_arg15)
      ∧ r.2.mem ((c.tc : Thread Cert.AdRep.nD Cert.AdRep.τ).loc Cert.AdRep.main_arg16) = m ((c.tc : Thread Cert.AdRep.nD Cert.AdRep.τ).loc Cert.AdRep.main_arg16)
      ∧ r.2.mem ((c.tc : Thread Cert.AdRep.nD Cert.AdRep.τ).loc Cert.AdRep.main_arg17) = m ((c.tc : Thread Cert.AdRep.nD Cert.AdRep.τ).loc Cert.AdRep.main_arg17)
      ∧ r.2.mem ((c.tc : Thread Cert.AdRep.nD Cert.AdRep.τ).loc Cert.AdRep.main_arg18) = m ((c.tc : Thread Cert.AdRep.nD Cert.AdRep.τ).loc Cert.AdRep.main_arg18)
      ∧ r.2.mem ((c.tc : Thread Cert.AdRep.nD Cert.AdRep.τ).loc Cert.AdRep.main_arg19) = m ((c.tc : Thread Cert.AdRep.nD Cert.AdRep.τ).loc Cert.AdRep.main_arg19)
      ∧ r.2.mem ((c.tc : Thread Cert.AdRep.nD Cert.AdRep.τ).loc Cert.AdRep.main_arg20) = m ((c.tc : Thread Cert.AdRep.nD Cert.AdRep.τ).loc Cert.AdRep.main_arg20)
      ∧ r.2.mem ((c.tc : Thread Cert.AdRep.nD Cert.AdRep.τ).loc Cert.AdRep.main_arg21) = m ((c.tc : Thread Cert.AdRep.nD Cert.AdRep.τ).loc Cert.AdRep.main_arg21)
      ∧ r.2.mem ((c.tc : Thread Cert.AdRep.nD Cert.AdRep.τ).loc Cert.AdRep.main_arg22) = m ((c.tc : Thread Cert.AdRep.nD Cert.AdRep.τ).loc Cert.AdRep.main_arg22)
      ∧ r.2.mem ((c.tc : Thread Cert.AdRep.nD Cert.AdRep.τ).loc Cert.AdRep.main_arg23) = m ((c.tc : Thread Cert.AdRep.nD Cert.AdRep.τ).loc Cert.AdRep.main_arg23)
      ∧ r.2.mem ((c.tc : Thread Cert.AdRep.nD Cert.AdRep.τ).loc Cert.AdRep.main_arg24) = m ((c.tc : Thread Cert.AdRep.nD Cert.AdRep.τ).loc Cert.AdRep.main_arg24)
      ∧ r.2.mem ((c.tc : Thread Cert.AdRep.nD Cert.AdRep.τ).loc Cert.AdRep.main_arg25) = m ((c.tc : Thread Cert.AdRep.nD Cert.AdRep.τ).loc Cert.AdRep.main_arg25)
      ∧ r.2.mem ((c.tc : Thread Cert.AdRep.nD Cert.AdRep.τ).loc Cert.AdRep.main_arg26) = m ((c.tc : Thread Cert.AdRep.nD Cert.AdRep.τ).loc Cert.AdRep.main_arg26)
      ∧ r.2.mem ((c.tc : Thread Cert.AdRep.nD Cert.AdRep.τ).loc Cert.AdRep.main_arg27) = m ((c.tc : Thread Cert.AdRep.nD Cert.AdRep.τ).loc Cert.AdRep.main_arg27))
      ∧ r.2.sem = fun _ => 0)

def quiescent_AdRepIdeal [hAdRepIdeal : Cert.AdRepIdeal.Facts] : Prop :=
  ∀ (m : (ℓ : Loc Cert.AdRepIdeal.nD Cert.AdRepIdeal.τ Cert.AdRepIdeal.sig) → Buf (Elt Ideal) ℓ) (g : Dev Cert.AdRepIdeal.nD → PrngReg), Pre_AdRepIdeal m →
    θ_run (Cert.AdRepIdeal.defs (F := Ideal)) (onTc (τ := Cert.AdRepIdeal.τ) (Cert.AdRepIdeal.main (F := Ideal))) ⟨m, fun _ => 0, g⟩ (fun r => (∀ c : Dev Cert.AdRepIdeal.nD,
      r.2.mem ((c.tc : Thread Cert.AdRepIdeal.nD Cert.AdRepIdeal.τ).loc Cert.AdRepIdeal.main_arg0) = m ((c.tc : Thread Cert.AdRepIdeal.nD Cert.AdRepIdeal.τ).loc Cert.AdRepIdeal.main_arg0)
      ∧ r.2.mem ((c.tc : Thread Cert.AdRepIdeal.nD Cert.AdRepIdeal.τ).loc Cert.AdRepIdeal.main_arg1) = m ((c.tc : Thread Cert.AdRepIdeal.nD Cert.AdRepIdeal.τ).loc Cert.AdRepIdeal.main_arg1)
      ∧ r.2.mem ((c.tc : Thread Cert.AdRepIdeal.nD Cert.AdRepIdeal.τ).loc Cert.AdRepIdeal.main_arg2) = m ((c.tc : Thread Cert.AdRepIdeal.nD Cert.AdRepIdeal.τ).loc Cert.AdRepIdeal.main_arg2)
      ∧ r.2.mem ((c.tc : Thread Cert.AdRepIdeal.nD Cert.AdRepIdeal.τ).loc Cert.AdRepIdeal.main_arg3) = m ((c.tc : Thread Cert.AdRepIdeal.nD Cert.AdRepIdeal.τ).loc Cert.AdRepIdeal.main_arg3)
      ∧ r.2.mem ((c.tc : Thread Cert.AdRepIdeal.nD Cert.AdRepIdeal.τ).loc Cert.AdRepIdeal.main_arg4) = m ((c.tc : Thread Cert.AdRepIdeal.nD Cert.AdRepIdeal.τ).loc Cert.AdRepIdeal.main_arg4)
      ∧ r.2.mem ((c.tc : Thread Cert.AdRepIdeal.nD Cert.AdRepIdeal.τ).loc Cert.AdRepIdeal.main_arg5) = m ((c.tc : Thread Cert.AdRepIdeal.nD Cert.AdRepIdeal.τ).loc Cert.AdRepIdeal.main_arg5)
      ∧ r.2.mem ((c.tc : Thread Cert.AdRepIdeal.nD Cert.AdRepIdeal.τ).loc Cert.AdRepIdeal.main_arg6) = m ((c.tc : Thread Cert.AdRepIdeal.nD Cert.AdRepIdeal.τ).loc Cert.AdRepIdeal.main_arg6)
      ∧ r.2.mem ((c.tc : Thread Cert.AdRepIdeal.nD Cert.AdRepIdeal.τ).loc Cert.AdRepIdeal.main_arg7) = m ((c.tc : Thread Cert.AdRepIdeal.nD Cert.AdRepIdeal.τ).loc Cert.AdRepIdeal.main_arg7)
      ∧ r.2.mem ((c.tc : Thread Cert.AdRepIdeal.nD Cert.AdRepIdeal.τ).loc Cert.AdRepIdeal.main_arg8) = m ((c.tc : Thread Cert.AdRepIdeal.nD Cert.AdRepIdeal.τ).loc Cert.AdRepIdeal.main_arg8)
      ∧ r.2.mem ((c.tc : Thread Cert.AdRepIdeal.nD Cert.AdRepIdeal.τ).loc Cert.AdRepIdeal.main_arg9) = m ((c.tc : Thread Cert.AdRepIdeal.nD Cert.AdRepIdeal.τ).loc Cert.AdRepIdeal.main_arg9)
      ∧ r.2.mem ((c.tc : Thread Cert.AdRepIdeal.nD Cert.AdRepIdeal.τ).loc Cert.AdRepIdeal.main_arg10) = m ((c.tc : Thread Cert.AdRepIdeal.nD Cert.AdRepIdeal.τ).loc Cert.AdRepIdeal.main_arg10)
      ∧ r.2.mem ((c.tc : Thread Cert.AdRepIdeal.nD Cert.AdRepIdeal.τ).loc Cert.AdRepIdeal.main_arg11) = m ((c.tc : Thread Cert.AdRepIdeal.nD Cert.AdRepIdeal.τ).loc Cert.AdRepIdeal.main_arg11)
      ∧ r.2.mem ((c.tc : Thread Cert.AdRepIdeal.nD Cert.AdRepIdeal.τ).loc Cert.AdRepIdeal.main_arg12) = m ((c.tc : Thread Cert.AdRepIdeal.nD Cert.AdRepIdeal.τ).loc Cert.AdRepIdeal.main_arg12)
      ∧ r.2.mem ((c.tc : Thread Cert.AdRepIdeal.nD Cert.AdRepIdeal.τ).loc Cert.AdRepIdeal.main_arg13) = m ((c.tc : Thread Cert.AdRepIdeal.nD Cert.AdRepIdeal.τ).loc Cert.AdRepIdeal.main_arg13)
      ∧ r.2.mem ((c.tc : Thread Cert.AdRepIdeal.nD Cert.AdRepIdeal.τ).loc Cert.AdRepIdeal.main_arg14) = m ((c.tc : Thread Cert.AdRepIdeal.nD Cert.AdRepIdeal.τ).loc Cert.AdRepIdeal.main_arg14)
      ∧ r.2.mem ((c.tc : Thread Cert.AdRepIdeal.nD Cert.AdRepIdeal.τ).loc Cert.AdRepIdeal.main_arg15) = m ((c.tc : Thread Cert.AdRepIdeal.nD Cert.AdRepIdeal.τ).loc Cert.AdRepIdeal.main_arg15)
      ∧ r.2.mem ((c.tc : Thread Cert.AdRepIdeal.nD Cert.AdRepIdeal.τ).loc Cert.AdRepIdeal.main_arg16) = m ((c.tc : Thread Cert.AdRepIdeal.nD Cert.AdRepIdeal.τ).loc Cert.AdRepIdeal.main_arg16)
      ∧ r.2.mem ((c.tc : Thread Cert.AdRepIdeal.nD Cert.AdRepIdeal.τ).loc Cert.AdRepIdeal.main_arg17) = m ((c.tc : Thread Cert.AdRepIdeal.nD Cert.AdRepIdeal.τ).loc Cert.AdRepIdeal.main_arg17)
      ∧ r.2.mem ((c.tc : Thread Cert.AdRepIdeal.nD Cert.AdRepIdeal.τ).loc Cert.AdRepIdeal.main_arg18) = m ((c.tc : Thread Cert.AdRepIdeal.nD Cert.AdRepIdeal.τ).loc Cert.AdRepIdeal.main_arg18)
      ∧ r.2.mem ((c.tc : Thread Cert.AdRepIdeal.nD Cert.AdRepIdeal.τ).loc Cert.AdRepIdeal.main_arg19) = m ((c.tc : Thread Cert.AdRepIdeal.nD Cert.AdRepIdeal.τ).loc Cert.AdRepIdeal.main_arg19)
      ∧ r.2.mem ((c.tc : Thread Cert.AdRepIdeal.nD Cert.AdRepIdeal.τ).loc Cert.AdRepIdeal.main_arg20) = m ((c.tc : Thread Cert.AdRepIdeal.nD Cert.AdRepIdeal.τ).loc Cert.AdRepIdeal.main_arg20)
      ∧ r.2.mem ((c.tc : Thread Cert.AdRepIdeal.nD Cert.AdRepIdeal.τ).loc Cert.AdRepIdeal.main_arg21) = m ((c.tc : Thread Cert.AdRepIdeal.nD Cert.AdRepIdeal.τ).loc Cert.AdRepIdeal.main_arg21)
      ∧ r.2.mem ((c.tc : Thread Cert.AdRepIdeal.nD Cert.AdRepIdeal.τ).loc Cert.AdRepIdeal.main_arg22) = m ((c.tc : Thread Cert.AdRepIdeal.nD Cert.AdRepIdeal.τ).loc Cert.AdRepIdeal.main_arg22)
      ∧ r.2.mem ((c.tc : Thread Cert.AdRepIdeal.nD Cert.AdRepIdeal.τ).loc Cert.AdRepIdeal.main_arg23) = m ((c.tc : Thread Cert.AdRepIdeal.nD Cert.AdRepIdeal.τ).loc Cert.AdRepIdeal.main_arg23)
      ∧ r.2.mem ((c.tc : Thread Cert.AdRepIdeal.nD Cert.AdRepIdeal.τ).loc Cert.AdRepIdeal.main_arg24) = m ((c.tc : Thread Cert.AdRepIdeal.nD Cert.AdRepIdeal.τ).loc Cert.AdRepIdeal.main_arg24)
      ∧ r.2.mem ((c.tc : Thread Cert.AdRepIdeal.nD Cert.AdRepIdeal.τ).loc Cert.AdRepIdeal.main_arg25) = m ((c.tc : Thread Cert.AdRepIdeal.nD Cert.AdRepIdeal.τ).loc Cert.AdRepIdeal.main_arg25)
      ∧ r.2.mem ((c.tc : Thread Cert.AdRepIdeal.nD Cert.AdRepIdeal.τ).loc Cert.AdRepIdeal.main_arg26) = m ((c.tc : Thread Cert.AdRepIdeal.nD Cert.AdRepIdeal.τ).loc Cert.AdRepIdeal.main_arg26)
      ∧ r.2.mem ((c.tc : Thread Cert.AdRepIdeal.nD Cert.AdRepIdeal.τ).loc Cert.AdRepIdeal.main_arg27) = m ((c.tc : Thread Cert.AdRepIdeal.nD Cert.AdRepIdeal.τ).loc Cert.AdRepIdeal.main_arg27))
      ∧ r.2.sem = fun _ => 0)

def quiescent_AdRepRefIdeal [hAdRepRefIdeal : Cert.AdRepRefIdeal.Facts] : Prop :=
  ∀ (m : (ℓ : Loc Cert.AdRepRefIdeal.nD Cert.AdRepRefIdeal.τ Cert.AdRepRefIdeal.sig) → Buf (Elt Ideal) ℓ) (g : Dev Cert.AdRepRefIdeal.nD → PrngReg), Pre_AdRepRefIdeal m →
    θ_run (Cert.AdRepRefIdeal.defs (F := Ideal)) (onTc (τ := Cert.AdRepRefIdeal.τ) (Cert.AdRepRefIdeal.main (F := Ideal))) ⟨m, fun _ => 0, g⟩ (fun r => (∀ c : Dev Cert.AdRepRefIdeal.nD,
      r.2.mem ((c.tc : Thread Cert.AdRepRefIdeal.nD Cert.AdRepRefIdeal.τ).loc Cert.AdRepRefIdeal.main_arg0) = m ((c.tc : Thread Cert.AdRepRefIdeal.nD Cert.AdRepRefIdeal.τ).loc Cert.AdRepRefIdeal.main_arg0)
      ∧ r.2.mem ((c.tc : Thread Cert.AdRepRefIdeal.nD Cert.AdRepRefIdeal.τ).loc Cert.AdRepRefIdeal.main_arg1) = m ((c.tc : Thread Cert.AdRepRefIdeal.nD Cert.AdRepRefIdeal.τ).loc Cert.AdRepRefIdeal.main_arg1)
      ∧ r.2.mem ((c.tc : Thread Cert.AdRepRefIdeal.nD Cert.AdRepRefIdeal.τ).loc Cert.AdRepRefIdeal.main_arg2) = m ((c.tc : Thread Cert.AdRepRefIdeal.nD Cert.AdRepRefIdeal.τ).loc Cert.AdRepRefIdeal.main_arg2)
      ∧ r.2.mem ((c.tc : Thread Cert.AdRepRefIdeal.nD Cert.AdRepRefIdeal.τ).loc Cert.AdRepRefIdeal.main_arg3) = m ((c.tc : Thread Cert.AdRepRefIdeal.nD Cert.AdRepRefIdeal.τ).loc Cert.AdRepRefIdeal.main_arg3)
      ∧ r.2.mem ((c.tc : Thread Cert.AdRepRefIdeal.nD Cert.AdRepRefIdeal.τ).loc Cert.AdRepRefIdeal.main_arg4) = m ((c.tc : Thread Cert.AdRepRefIdeal.nD Cert.AdRepRefIdeal.τ).loc Cert.AdRepRefIdeal.main_arg4)
      ∧ r.2.mem ((c.tc : Thread Cert.AdRepRefIdeal.nD Cert.AdRepRefIdeal.τ).loc Cert.AdRepRefIdeal.main_arg5) = m ((c.tc : Thread Cert.AdRepRefIdeal.nD Cert.AdRepRefIdeal.τ).loc Cert.AdRepRefIdeal.main_arg5)
      ∧ r.2.mem ((c.tc : Thread Cert.AdRepRefIdeal.nD Cert.AdRepRefIdeal.τ).loc Cert.AdRepRefIdeal.main_arg6) = m ((c.tc : Thread Cert.AdRepRefIdeal.nD Cert.AdRepRefIdeal.τ).loc Cert.AdRepRefIdeal.main_arg6)
      ∧ r.2.mem ((c.tc : Thread Cert.AdRepRefIdeal.nD Cert.AdRepRefIdeal.τ).loc Cert.AdRepRefIdeal.main_arg7) = m ((c.tc : Thread Cert.AdRepRefIdeal.nD Cert.AdRepRefIdeal.τ).loc Cert.AdRepRefIdeal.main_arg7)
      ∧ r.2.mem ((c.tc : Thread Cert.AdRepRefIdeal.nD Cert.AdRepRefIdeal.τ).loc Cert.AdRepRefIdeal.main_arg8) = m ((c.tc : Thread Cert.AdRepRefIdeal.nD Cert.AdRepRefIdeal.τ).loc Cert.AdRepRefIdeal.main_arg8)
      ∧ r.2.mem ((c.tc : Thread Cert.AdRepRefIdeal.nD Cert.AdRepRefIdeal.τ).loc Cert.AdRepRefIdeal.main_arg9) = m ((c.tc : Thread Cert.AdRepRefIdeal.nD Cert.AdRepRefIdeal.τ).loc Cert.AdRepRefIdeal.main_arg9)
      ∧ r.2.mem ((c.tc : Thread Cert.AdRepRefIdeal.nD Cert.AdRepRefIdeal.τ).loc Cert.AdRepRefIdeal.main_arg10) = m ((c.tc : Thread Cert.AdRepRefIdeal.nD Cert.AdRepRefIdeal.τ).loc Cert.AdRepRefIdeal.main_arg10)
      ∧ r.2.mem ((c.tc : Thread Cert.AdRepRefIdeal.nD Cert.AdRepRefIdeal.τ).loc Cert.AdRepRefIdeal.main_arg11) = m ((c.tc : Thread Cert.AdRepRefIdeal.nD Cert.AdRepRefIdeal.τ).loc Cert.AdRepRefIdeal.main_arg11)
      ∧ r.2.mem ((c.tc : Thread Cert.AdRepRefIdeal.nD Cert.AdRepRefIdeal.τ).loc Cert.AdRepRefIdeal.main_arg12) = m ((c.tc : Thread Cert.AdRepRefIdeal.nD Cert.AdRepRefIdeal.τ).loc Cert.AdRepRefIdeal.main_arg12)
      ∧ r.2.mem ((c.tc : Thread Cert.AdRepRefIdeal.nD Cert.AdRepRefIdeal.τ).loc Cert.AdRepRefIdeal.main_arg13) = m ((c.tc : Thread Cert.AdRepRefIdeal.nD Cert.AdRepRefIdeal.τ).loc Cert.AdRepRefIdeal.main_arg13)
      ∧ r.2.mem ((c.tc : Thread Cert.AdRepRefIdeal.nD Cert.AdRepRefIdeal.τ).loc Cert.AdRepRefIdeal.main_arg14) = m ((c.tc : Thread Cert.AdRepRefIdeal.nD Cert.AdRepRefIdeal.τ).loc Cert.AdRepRefIdeal.main_arg14)
      ∧ r.2.mem ((c.tc : Thread Cert.AdRepRefIdeal.nD Cert.AdRepRefIdeal.τ).loc Cert.AdRepRefIdeal.main_arg15) = m ((c.tc : Thread Cert.AdRepRefIdeal.nD Cert.AdRepRefIdeal.τ).loc Cert.AdRepRefIdeal.main_arg15)
      ∧ r.2.mem ((c.tc : Thread Cert.AdRepRefIdeal.nD Cert.AdRepRefIdeal.τ).loc Cert.AdRepRefIdeal.main_arg16) = m ((c.tc : Thread Cert.AdRepRefIdeal.nD Cert.AdRepRefIdeal.τ).loc Cert.AdRepRefIdeal.main_arg16)
      ∧ r.2.mem ((c.tc : Thread Cert.AdRepRefIdeal.nD Cert.AdRepRefIdeal.τ).loc Cert.AdRepRefIdeal.main_arg17) = m ((c.tc : Thread Cert.AdRepRefIdeal.nD Cert.AdRepRefIdeal.τ).loc Cert.AdRepRefIdeal.main_arg17)
      ∧ r.2.mem ((c.tc : Thread Cert.AdRepRefIdeal.nD Cert.AdRepRefIdeal.τ).loc Cert.AdRepRefIdeal.main_arg18) = m ((c.tc : Thread Cert.AdRepRefIdeal.nD Cert.AdRepRefIdeal.τ).loc Cert.AdRepRefIdeal.main_arg18)
      ∧ r.2.mem ((c.tc : Thread Cert.AdRepRefIdeal.nD Cert.AdRepRefIdeal.τ).loc Cert.AdRepRefIdeal.main_arg19) = m ((c.tc : Thread Cert.AdRepRefIdeal.nD Cert.AdRepRefIdeal.τ).loc Cert.AdRepRefIdeal.main_arg19)
      ∧ r.2.mem ((c.tc : Thread Cert.AdRepRefIdeal.nD Cert.AdRepRefIdeal.τ).loc Cert.AdRepRefIdeal.main_arg20) = m ((c.tc : Thread Cert.AdRepRefIdeal.nD Cert.AdRepRefIdeal.τ).loc Cert.AdRepRefIdeal.main_arg20)
      ∧ r.2.mem ((c.tc : Thread Cert.AdRepRefIdeal.nD Cert.AdRepRefIdeal.τ).loc Cert.AdRepRefIdeal.main_arg21) = m ((c.tc : Thread Cert.AdRepRefIdeal.nD Cert.AdRepRefIdeal.τ).loc Cert.AdRepRefIdeal.main_arg21)
      ∧ r.2.mem ((c.tc : Thread Cert.AdRepRefIdeal.nD Cert.AdRepRefIdeal.τ).loc Cert.AdRepRefIdeal.main_arg22) = m ((c.tc : Thread Cert.AdRepRefIdeal.nD Cert.AdRepRefIdeal.τ).loc Cert.AdRepRefIdeal.main_arg22)
      ∧ r.2.mem ((c.tc : Thread Cert.AdRepRefIdeal.nD Cert.AdRepRefIdeal.τ).loc Cert.AdRepRefIdeal.main_arg23) = m ((c.tc : Thread Cert.AdRepRefIdeal.nD Cert.AdRepRefIdeal.τ).loc Cert.AdRepRefIdeal.main_arg23)
      ∧ r.2.mem ((c.tc : Thread Cert.AdRepRefIdeal.nD Cert.AdRepRefIdeal.τ).loc Cert.AdRepRefIdeal.main_arg24) = m ((c.tc : Thread Cert.AdRepRefIdeal.nD Cert.AdRepRefIdeal.τ).loc Cert.AdRepRefIdeal.main_arg24)
      ∧ r.2.mem ((c.tc : Thread Cert.AdRepRefIdeal.nD Cert.AdRepRefIdeal.τ).loc Cert.AdRepRefIdeal.main_arg25) = m ((c.tc : Thread Cert.AdRepRefIdeal.nD Cert.AdRepRefIdeal.τ).loc Cert.AdRepRefIdeal.main_arg25)
      ∧ r.2.mem ((c.tc : Thread Cert.AdRepRefIdeal.nD Cert.AdRepRefIdeal.τ).loc Cert.AdRepRefIdeal.main_arg26) = m ((c.tc : Thread Cert.AdRepRefIdeal.nD Cert.AdRepRefIdeal.τ).loc Cert.AdRepRefIdeal.main_arg26)
      ∧ r.2.mem ((c.tc : Thread Cert.AdRepRefIdeal.nD Cert.AdRepRefIdeal.τ).loc Cert.AdRepRefIdeal.main_arg27) = m ((c.tc : Thread Cert.AdRepRefIdeal.nD Cert.AdRepRefIdeal.τ).loc Cert.AdRepRefIdeal.main_arg27))
      ∧ r.2.sem = fun _ => 0)

def quiescent_MbConv [hMbConv : Cert.MbConv.Facts] : Prop :=
  ∀ (m : (ℓ : Loc Cert.MbConv.nD Cert.MbConv.τ Cert.MbConv.sig) → Buf (Elt Bits) ℓ) (g : Dev Cert.MbConv.nD → PrngReg), Pre_MbConv m →
    θ_run (Cert.MbConv.defs (F := Bits)) (onTc (τ := Cert.MbConv.τ) (Cert.MbConv.main (F := Bits))) ⟨m, fun _ => 0, g⟩ (fun r => (∀ c : Dev Cert.MbConv.nD,
      r.2.mem ((c.tc : Thread Cert.MbConv.nD Cert.MbConv.τ).loc Cert.MbConv.main_arg0) = m ((c.tc : Thread Cert.MbConv.nD Cert.MbConv.τ).loc Cert.MbConv.main_arg0)
      ∧ r.2.mem ((c.tc : Thread Cert.MbConv.nD Cert.MbConv.τ).loc Cert.MbConv.main_arg1) = m ((c.tc : Thread Cert.MbConv.nD Cert.MbConv.τ).loc Cert.MbConv.main_arg1)
      ∧ r.2.mem ((c.tc : Thread Cert.MbConv.nD Cert.MbConv.τ).loc Cert.MbConv.main_arg2) = m ((c.tc : Thread Cert.MbConv.nD Cert.MbConv.τ).loc Cert.MbConv.main_arg2)
      ∧ r.2.mem ((c.tc : Thread Cert.MbConv.nD Cert.MbConv.τ).loc Cert.MbConv.main_arg3) = m ((c.tc : Thread Cert.MbConv.nD Cert.MbConv.τ).loc Cert.MbConv.main_arg3)
      ∧ r.2.mem ((c.tc : Thread Cert.MbConv.nD Cert.MbConv.τ).loc Cert.MbConv.main_arg4) = m ((c.tc : Thread Cert.MbConv.nD Cert.MbConv.τ).loc Cert.MbConv.main_arg4)
      ∧ r.2.mem ((c.tc : Thread Cert.MbConv.nD Cert.MbConv.τ).loc Cert.MbConv.main_arg5) = m ((c.tc : Thread Cert.MbConv.nD Cert.MbConv.τ).loc Cert.MbConv.main_arg5))
      ∧ r.2.sem = fun _ => 0)

def quiescent_MbConvIdeal [hMbConvIdeal : Cert.MbConvIdeal.Facts] : Prop :=
  ∀ (m : (ℓ : Loc Cert.MbConvIdeal.nD Cert.MbConvIdeal.τ Cert.MbConvIdeal.sig) → Buf (Elt Ideal) ℓ) (g : Dev Cert.MbConvIdeal.nD → PrngReg), Pre_MbConvIdeal m →
    θ_run (Cert.MbConvIdeal.defs (F := Ideal)) (onTc (τ := Cert.MbConvIdeal.τ) (Cert.MbConvIdeal.main (F := Ideal))) ⟨m, fun _ => 0, g⟩ (fun r => (∀ c : Dev Cert.MbConvIdeal.nD,
      r.2.mem ((c.tc : Thread Cert.MbConvIdeal.nD Cert.MbConvIdeal.τ).loc Cert.MbConvIdeal.main_arg0) = m ((c.tc : Thread Cert.MbConvIdeal.nD Cert.MbConvIdeal.τ).loc Cert.MbConvIdeal.main_arg0)
      ∧ r.2.mem ((c.tc : Thread Cert.MbConvIdeal.nD Cert.MbConvIdeal.τ).loc Cert.MbConvIdeal.main_arg1) = m ((c.tc : Thread Cert.MbConvIdeal.nD Cert.MbConvIdeal.τ).loc Cert.MbConvIdeal.main_arg1)
      ∧ r.2.mem ((c.tc : Thread Cert.MbConvIdeal.nD Cert.MbConvIdeal.τ).loc Cert.MbConvIdeal.main_arg2) = m ((c.tc : Thread Cert.MbConvIdeal.nD Cert.MbConvIdeal.τ).loc Cert.MbConvIdeal.main_arg2)
      ∧ r.2.mem ((c.tc : Thread Cert.MbConvIdeal.nD Cert.MbConvIdeal.τ).loc Cert.MbConvIdeal.main_arg3) = m ((c.tc : Thread Cert.MbConvIdeal.nD Cert.MbConvIdeal.τ).loc Cert.MbConvIdeal.main_arg3)
      ∧ r.2.mem ((c.tc : Thread Cert.MbConvIdeal.nD Cert.MbConvIdeal.τ).loc Cert.MbConvIdeal.main_arg4) = m ((c.tc : Thread Cert.MbConvIdeal.nD Cert.MbConvIdeal.τ).loc Cert.MbConvIdeal.main_arg4)
      ∧ r.2.mem ((c.tc : Thread Cert.MbConvIdeal.nD Cert.MbConvIdeal.τ).loc Cert.MbConvIdeal.main_arg5) = m ((c.tc : Thread Cert.MbConvIdeal.nD Cert.MbConvIdeal.τ).loc Cert.MbConvIdeal.main_arg5))
      ∧ r.2.sem = fun _ => 0)

def quiescent_MbConvRefIdeal [hMbConvRefIdeal : Cert.MbConvRefIdeal.Facts] : Prop :=
  ∀ (m : (ℓ : Loc Cert.MbConvRefIdeal.nD Cert.MbConvRefIdeal.τ Cert.MbConvRefIdeal.sig) → Buf (Elt Ideal) ℓ) (g : Dev Cert.MbConvRefIdeal.nD → PrngReg), Pre_MbConvRefIdeal m →
    θ_run (Cert.MbConvRefIdeal.defs (F := Ideal)) (onTc (τ := Cert.MbConvRefIdeal.τ) (Cert.MbConvRefIdeal.main (F := Ideal))) ⟨m, fun _ => 0, g⟩ (fun r => (∀ c : Dev Cert.MbConvRefIdeal.nD,
      r.2.mem ((c.tc : Thread Cert.MbConvRefIdeal.nD Cert.MbConvRefIdeal.τ).loc Cert.MbConvRefIdeal.main_arg0) = m ((c.tc : Thread Cert.MbConvRefIdeal.nD Cert.MbConvRefIdeal.τ).loc Cert.MbConvRefIdeal.main_arg0)
      ∧ r.2.mem ((c.tc : Thread Cert.MbConvRefIdeal.nD Cert.MbConvRefIdeal.τ).loc Cert.MbConvRefIdeal.main_arg1) = m ((c.tc : Thread Cert.MbConvRefIdeal.nD Cert.MbConvRefIdeal.τ).loc Cert.MbConvRefIdeal.main_arg1)
      ∧ r.2.mem ((c.tc : Thread Cert.MbConvRefIdeal.nD Cert.MbConvRefIdeal.τ).loc Cert.MbConvRefIdeal.main_arg2) = m ((c.tc : Thread Cert.MbConvRefIdeal.nD Cert.MbConvRefIdeal.τ).loc Cert.MbConvRefIdeal.main_arg2)
      ∧ r.2.mem ((c.tc : Thread Cert.MbConvRefIdeal.nD Cert.MbConvRefIdeal.τ).loc Cert.MbConvRefIdeal.main_arg3) = m ((c.tc : Thread Cert.MbConvRefIdeal.nD Cert.MbConvRefIdeal.τ).loc Cert.MbConvRefIdeal.main_arg3)
      ∧ r.2.mem ((c.tc : Thread Cert.MbConvRefIdeal.nD Cert.MbConvRefIdeal.τ).loc Cert.MbConvRefIdeal.main_arg4) = m ((c.tc : Thread Cert.MbConvRefIdeal.nD Cert.MbConvRefIdeal.τ).loc Cert.MbConvRefIdeal.main_arg4)
      ∧ r.2.mem ((c.tc : Thread Cert.MbConvRefIdeal.nD Cert.MbConvRefIdeal.τ).loc Cert.MbConvRefIdeal.main_arg5) = m ((c.tc : Thread Cert.MbConvRefIdeal.nD Cert.MbConvRefIdeal.τ).loc Cert.MbConvRefIdeal.main_arg5))
      ∧ r.2.sem = fun _ => 0)

def quiescent_HgPre [hHgPre : Cert.HgPre.Facts] : Prop :=
  ∀ (m : (ℓ : Loc Cert.HgPre.nD Cert.HgPre.τ Cert.HgPre.sig) → Buf (Elt Bits) ℓ) (g : Dev Cert.HgPre.nD → PrngReg), Pre_HgPre m →
    θ_run (Cert.HgPre.defs (F := Bits)) (onTc (τ := Cert.HgPre.τ) (Cert.HgPre.main (F := Bits))) ⟨m, fun _ => 0, g⟩ (fun r => (∀ c : Dev Cert.HgPre.nD,
      r.2.mem ((c.tc : Thread Cert.HgPre.nD Cert.HgPre.τ).loc Cert.HgPre.main_arg0) = m ((c.tc : Thread Cert.HgPre.nD Cert.HgPre.τ).loc Cert.HgPre.main_arg0)
      ∧ r.2.mem ((c.tc : Thread Cert.HgPre.nD Cert.HgPre.τ).loc Cert.HgPre.main_arg1) = m ((c.tc : Thread Cert.HgPre.nD Cert.HgPre.τ).loc Cert.HgPre.main_arg1))
      ∧ r.2.sem = fun _ => 0)

def quiescent_HgPreIdeal [hHgPreIdeal : Cert.HgPreIdeal.Facts] : Prop :=
  ∀ (m : (ℓ : Loc Cert.HgPreIdeal.nD Cert.HgPreIdeal.τ Cert.HgPreIdeal.sig) → Buf (Elt Ideal) ℓ) (g : Dev Cert.HgPreIdeal.nD → PrngReg), Pre_HgPreIdeal m →
    θ_run (Cert.HgPreIdeal.defs (F := Ideal)) (onTc (τ := Cert.HgPreIdeal.τ) (Cert.HgPreIdeal.main (F := Ideal))) ⟨m, fun _ => 0, g⟩ (fun r => (∀ c : Dev Cert.HgPreIdeal.nD,
      r.2.mem ((c.tc : Thread Cert.HgPreIdeal.nD Cert.HgPreIdeal.τ).loc Cert.HgPreIdeal.main_arg0) = m ((c.tc : Thread Cert.HgPreIdeal.nD Cert.HgPreIdeal.τ).loc Cert.HgPreIdeal.main_arg0)
      ∧ r.2.mem ((c.tc : Thread Cert.HgPreIdeal.nD Cert.HgPreIdeal.τ).loc Cert.HgPreIdeal.main_arg1) = m ((c.tc : Thread Cert.HgPreIdeal.nD Cert.HgPreIdeal.τ).loc Cert.HgPreIdeal.main_arg1))
      ∧ r.2.sem = fun _ => 0)

def quiescent_HgPreRefIdeal [hHgPreRefIdeal : Cert.HgPreRefIdeal.Facts] : Prop :=
  ∀ (m : (ℓ : Loc Cert.HgPreRefIdeal.nD Cert.HgPreRefIdeal.τ Cert.HgPreRefIdeal.sig) → Buf (Elt Ideal) ℓ) (g : Dev Cert.HgPreRefIdeal.nD → PrngReg), Pre_HgPreRefIdeal m →
    θ_run (Cert.HgPreRefIdeal.defs (F := Ideal)) (onTc (τ := Cert.HgPreRefIdeal.τ) (Cert.HgPreRefIdeal.main (F := Ideal))) ⟨m, fun _ => 0, g⟩ (fun r => (∀ c : Dev Cert.HgPreRefIdeal.nD,
      r.2.mem ((c.tc : Thread Cert.HgPreRefIdeal.nD Cert.HgPreRefIdeal.τ).loc Cert.HgPreRefIdeal.main_arg0) = m ((c.tc : Thread Cert.HgPreRefIdeal.nD Cert.HgPreRefIdeal.τ).loc Cert.HgPreRefIdeal.main_arg0)
      ∧ r.2.mem ((c.tc : Thread Cert.HgPreRefIdeal.nD Cert.HgPreRefIdeal.τ).loc Cert.HgPreRefIdeal.main_arg1) = m ((c.tc : Thread Cert.HgPreRefIdeal.nD Cert.HgPreRefIdeal.τ).loc Cert.HgPreRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)) (v2 : (c : Dev Cert.FfnIdeal.nD) → Buf (Elt Ideal) ((c.tc : Thread Cert.FfnIdeal.nD Cert.FfnIdeal.τ).loc Cert.FfnIdeal.main_v14_0)) (v3 : (c : Dev Cert.FfnIdeal.nD) → Buf (Elt Ideal) ((c.tc : Thread Cert.FfnIdeal.nD Cert.FfnIdeal.τ).loc Cert.FfnIdeal.main_v14_1)) (v4 : (c : Dev Cert.FfnIdeal.nD) → Buf (Elt Ideal) ((c.tc : Thread Cert.FfnIdeal.nD Cert.FfnIdeal.τ).loc Cert.FfnIdeal.main_v14_2)) (v5 : (c : Dev Cert.FfnIdeal.nD) → Buf (Elt Ideal) ((c.tc : Thread Cert.FfnIdeal.nD Cert.FfnIdeal.τ).loc Cert.FfnIdeal.main_v12)) (v6 : (c : Dev Cert.FfnIdeal.nD) → Buf (Elt Ideal) ((c.tc : Thread Cert.FfnIdeal.nD Cert.FfnIdeal.τ).loc Cert.FfnIdeal.main_v13)) (v7 : (c : Dev Cert.FfnIdeal.nD) → Buf (Elt Ideal) ((c.tc : Thread Cert.FfnIdeal.nD Cert.FfnIdeal.τ).loc Cert.FfnIdeal.main_v10_2)) (v8 : (c : Dev Cert.FfnIdeal.nD) → Buf (Elt Ideal) ((c.tc : Thread Cert.FfnIdeal.nD Cert.FfnIdeal.τ).loc Cert.FfnIdeal.main_v10_3)) (v9 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_v14_0) = v2 c
          ∧ r.2.mem ((c.tc : Thread Cert.FfnIdeal.nD Cert.FfnIdeal.τ).loc Cert.FfnIdeal.main_v14_1) = v3 c
          ∧ r.2.mem ((c.tc : Thread Cert.FfnIdeal.nD Cert.FfnIdeal.τ).loc Cert.FfnIdeal.main_v14_2) = v4 c
          ∧ r.2.mem ((c.tc : Thread Cert.FfnIdeal.nD Cert.FfnIdeal.τ).loc Cert.FfnIdeal.main_v12) = v5 c
          ∧ r.2.mem ((c.tc : Thread Cert.FfnIdeal.nD Cert.FfnIdeal.τ).loc Cert.FfnIdeal.main_v13) = v6 c
          ∧ r.2.mem ((c.tc : Thread Cert.FfnIdeal.nD Cert.FfnIdeal.τ).loc Cert.FfnIdeal.main_v10_2) = v7 c
          ∧ r.2.mem ((c.tc : Thread Cert.FfnIdeal.nD Cert.FfnIdeal.τ).loc Cert.FfnIdeal.main_v10_3) = v8 c
          ∧ r.2.mem ((c.tc : Thread Cert.FfnIdeal.nD Cert.FfnIdeal.τ).loc Cert.FfnIdeal.main_v9) = v9 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_v127) = v1 c
          ∧ r.2.mem ((c.tc : Thread Cert.FfnRefIdeal.nD Cert.FfnRefIdeal.τ).loc Cert.FfnRefIdeal.main_v114) = v2 c
          ∧ r.2.mem ((c.tc : Thread Cert.FfnRefIdeal.nD Cert.FfnRefIdeal.τ).loc Cert.FfnRefIdeal.main_v128) = v3 c
          ∧ r.2.mem ((c.tc : Thread Cert.FfnRefIdeal.nD Cert.FfnRefIdeal.τ).loc Cert.FfnRefIdeal.main_v97) = v4 c
          ∧ r.2.mem ((c.tc : Thread Cert.FfnRefIdeal.nD Cert.FfnRefIdeal.τ).loc Cert.FfnRefIdeal.main_v129) = v5 c
          ∧ r.2.mem ((c.tc : Thread Cert.FfnRefIdeal.nD Cert.FfnRefIdeal.τ).loc Cert.FfnRefIdeal.main_v130) = v6 c
          ∧ r.2.mem ((c.tc : Thread Cert.FfnRefIdeal.nD Cert.FfnRefIdeal.τ).loc Cert.FfnRefIdeal.main_v90) = v7 c
          ∧ r.2.mem ((c.tc : Thread Cert.FfnRefIdeal.nD Cert.FfnRefIdeal.τ).loc Cert.FfnRefIdeal.main_v56) = v8 c
          ∧ r.2.mem ((c.tc : Thread Cert.FfnRefIdeal.nD Cert.FfnRefIdeal.τ).loc Cert.FfnRefIdeal.main_v50) = v9 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_HgIn_HgInIdeal : Prop :=
  True

def algebraic_HgInIdeal_HgInRefIdeal [hHgInIdeal : Cert.HgInIdeal.Facts] [hHgInRefIdeal : Cert.HgInRefIdeal.Facts] : Prop :=
  ∀ (m : (ℓ : Loc Cert.HgInIdeal.nD Cert.HgInIdeal.τ Cert.HgInIdeal.sig) → Buf (Elt Ideal) ℓ) (g : Dev Cert.HgInIdeal.nD → PrngReg)
    (m' : (ℓ : Loc Cert.HgInRefIdeal.nD Cert.HgInRefIdeal.τ Cert.HgInRefIdeal.sig) → Buf (Elt Ideal) ℓ) (g' : Dev Cert.HgInRefIdeal.nD → PrngReg), Pre_HgInIdeal m →
    (∀ c : Dev Cert.HgInIdeal.nD,
      m' ((c.tc : Thread Cert.HgInRefIdeal.nD Cert.HgInRefIdeal.τ).loc Cert.HgInRefIdeal.main_arg0) = m ((c.tc : Thread Cert.HgInIdeal.nD Cert.HgInIdeal.τ).loc Cert.HgInIdeal.main_arg0)
      ∧ m' ((c.tc : Thread Cert.HgInRefIdeal.nD Cert.HgInRefIdeal.τ).loc Cert.HgInRefIdeal.main_arg1) = m ((c.tc : Thread Cert.HgInIdeal.nD Cert.HgInIdeal.τ).loc Cert.HgInIdeal.main_arg1)
      ∧ m' ((c.tc : Thread Cert.HgInRefIdeal.nD Cert.HgInRefIdeal.τ).loc Cert.HgInRefIdeal.main_arg2) = m ((c.tc : Thread Cert.HgInIdeal.nD Cert.HgInIdeal.τ).loc Cert.HgInIdeal.main_arg2)
      ∧ m' ((c.tc : Thread Cert.HgInRefIdeal.nD Cert.HgInRefIdeal.τ).loc Cert.HgInRefIdeal.main_arg3) = m ((c.tc : Thread Cert.HgInIdeal.nD Cert.HgInIdeal.τ).loc Cert.HgInIdeal.main_arg3)
      ∧ m' ((c.tc : Thread Cert.HgInRefIdeal.nD Cert.HgInRefIdeal.τ).loc Cert.HgInRefIdeal.main_arg4) = m ((c.tc : Thread Cert.HgInIdeal.nD Cert.HgInIdeal.τ).loc Cert.HgInIdeal.main_arg4)) →
    ∃ (v0 : (c : Dev Cert.HgInIdeal.nD) → Buf (Elt Ideal) ((c.tc : Thread Cert.HgInIdeal.nD Cert.HgInIdeal.τ).loc Cert.HgInIdeal.main_v3)) (v1 : (c : Dev Cert.HgInIdeal.nD) → Buf (Elt Ideal) ((c.tc : Thread Cert.HgInIdeal.nD Cert.HgInIdeal.τ).loc Cert.HgInIdeal.main_v4)) (v2 : (c : Dev Cert.HgInIdeal.nD) → Buf (Elt Ideal) ((c.tc : Thread Cert.HgInIdeal.nD Cert.HgInIdeal.τ).loc Cert.HgInIdeal.main_v5_0)) (v3 : (c : Dev Cert.HgInIdeal.nD) → Buf (Elt Ideal) ((c.tc : Thread Cert.HgInIdeal.nD Cert.HgInIdeal.τ).loc Cert.HgInIdeal.main_v5_1)) (v4 : (c : Dev Cert.HgInIdeal.nD) → Buf (Elt Ideal) ((c.tc : Thread Cert.HgInIdeal.nD Cert.HgInIdeal.τ).loc Cert.HgInIdeal.main_v5_2)),
      θ_run (Cert.HgInIdeal.defs (F := Ideal)) (onTc (τ := Cert.HgInIdeal.τ) (Cert.HgInIdeal.main (F := Ideal))) ⟨m, fun _ => 0, g⟩ (fun r => ∀ c : Dev Cert.HgInIdeal.nD,
          r.2.mem ((c.tc : Thread Cert.HgInIdeal.nD Cert.HgInIdeal.τ).loc Cert.HgInIdeal.main_v3) = v0 c
          ∧ r.2.mem ((c.tc : Thread Cert.HgInIdeal.nD Cert.HgInIdeal.τ).loc Cert.HgInIdeal.main_v4) = v1 c
          ∧ r.2.mem ((c.tc : Thread Cert.HgInIdeal.nD Cert.HgInIdeal.τ).loc Cert.HgInIdeal.main_v5_0) = v2 c
          ∧ r.2.mem ((c.tc : Thread Cert.HgInIdeal.nD Cert.HgInIdeal.τ).loc Cert.HgInIdeal.main_v5_1) = v3 c
          ∧ r.2.mem ((c.tc : Thread Cert.HgInIdeal.nD Cert.HgInIdeal.τ).loc Cert.HgInIdeal.main_v5_2) = v4 c
          ∧ r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
          ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1)
          ∧ r.2.mem ((c.tc : Thread Cert.HgInIdeal.nD Cert.HgInIdeal.τ).loc Cert.HgInIdeal.main_arg2) = m ((c.tc : Thread Cert.HgInIdeal.nD Cert.HgInIdeal.τ).loc Cert.HgInIdeal.main_arg2)
          ∧ r.2.mem ((c.tc : Thread Cert.HgInIdeal.nD Cert.HgInIdeal.τ).loc Cert.HgInIdeal.main_arg3) = m ((c.tc : Thread Cert.HgInIdeal.nD Cert.HgInIdeal.τ).loc Cert.HgInIdeal.main_arg3)
          ∧ r.2.mem ((c.tc : Thread Cert.HgInIdeal.nD Cert.HgInIdeal.τ).loc Cert.HgInIdeal.main_arg4) = m ((c.tc : Thread Cert.HgInIdeal.nD Cert.HgInIdeal.τ).loc Cert.HgInIdeal.main_arg4))
      ∧ θ_run (Cert.HgInRefIdeal.defs (F := Ideal)) (onTc (τ := Cert.HgInRefIdeal.τ) (Cert.HgInRefIdeal.main (F := Ideal))) ⟨m', fun _ => 0, g'⟩ (fun r => ∀ c : Dev Cert.HgInRefIdeal.nD,
          r.2.mem ((c.tc : Thread Cert.HgInRefIdeal.nD Cert.HgInRefIdeal.τ).loc Cert.HgInRefIdeal.main_v15) = v0 c
          ∧ r.2.mem ((c.tc : Thread Cert.HgInRefIdeal.nD Cert.HgInRefIdeal.τ).loc Cert.HgInRefIdeal.main_v40) = v1 c
          ∧ r.2.mem ((c.tc : Thread Cert.HgInRefIdeal.nD Cert.HgInRefIdeal.τ).loc Cert.HgInRefIdeal.main_v38) = v2 c
          ∧ r.2.mem ((c.tc : Thread Cert.HgInRefIdeal.nD Cert.HgInRefIdeal.τ).loc Cert.HgInRefIdeal.main_v41) = v3 c
          ∧ r.2.mem ((c.tc : Thread Cert.HgInRefIdeal.nD Cert.HgInRefIdeal.τ).loc Cert.HgInRefIdeal.main_v21) = v4 c
          ∧ r.2.mem ((c.tc : Thread Cert.HgInRefIdeal.nD Cert.HgInRefIdeal.τ).loc Cert.HgInRefIdeal.main_arg0) = m' ((c.tc : Thread Cert.HgInRefIdeal.nD Cert.HgInRefIdeal.τ).loc Cert.HgInRefIdeal.main_arg0)
          ∧ r.2.mem ((c.tc : Thread Cert.HgInRefIdeal.nD Cert.HgInRefIdeal.τ).loc Cert.HgInRefIdeal.main_arg1) = m' ((c.tc : Thread Cert.HgInRefIdeal.nD Cert.HgInRefIdeal.τ).loc Cert.HgInRefIdeal.main_arg1)
          ∧ r.2.mem ((c.tc : Thread Cert.HgInRefIdeal.nD Cert.HgInRefIdeal.τ).loc Cert.HgInRefIdeal.main_arg2) = m' ((c.tc : Thread Cert.HgInRefIdeal.nD Cert.HgInRefIdeal.τ).loc Cert.HgInRefIdeal.main_arg2)
          ∧ r.2.mem ((c.tc : Thread Cert.HgInRefIdeal.nD Cert.HgInRefIdeal.τ).loc Cert.HgInRefIdeal.main_arg3) = m' ((c.tc : Thread Cert.HgInRefIdeal.nD Cert.HgInRefIdeal.τ).loc Cert.HgInRefIdeal.main_arg3)
          ∧ r.2.mem ((c.tc : Thread Cert.HgInRefIdeal.nD Cert.HgInRefIdeal.τ).loc Cert.HgInRefIdeal.main_arg4) = m' ((c.tc : Thread Cert.HgInRefIdeal.nD Cert.HgInRefIdeal.τ).loc Cert.HgInRefIdeal.main_arg4))

def preserves_MbIn_MbInIdeal : Prop :=
  True

def algebraic_MbInIdeal_MbInRefIdeal [hMbInIdeal : Cert.MbInIdeal.Facts] [hMbInRefIdeal : Cert.MbInRefIdeal.Facts] : Prop :=
  ∀ (m : (ℓ : Loc Cert.MbInIdeal.nD Cert.MbInIdeal.τ Cert.MbInIdeal.sig) → Buf (Elt Ideal) ℓ) (g : Dev Cert.MbInIdeal.nD → PrngReg)
    (m' : (ℓ : Loc Cert.MbInRefIdeal.nD Cert.MbInRefIdeal.τ Cert.MbInRefIdeal.sig) → Buf (Elt Ideal) ℓ) (g' : Dev Cert.MbInRefIdeal.nD → PrngReg), Pre_MbInIdeal m →
    (∀ c : Dev Cert.MbInIdeal.nD,
      m' ((c.tc : Thread Cert.MbInRefIdeal.nD Cert.MbInRefIdeal.τ).loc Cert.MbInRefIdeal.main_arg0) = m ((c.tc : Thread Cert.MbInIdeal.nD Cert.MbInIdeal.τ).loc Cert.MbInIdeal.main_arg0)
      ∧ m' ((c.tc : Thread Cert.MbInRefIdeal.nD Cert.MbInRefIdeal.τ).loc Cert.MbInRefIdeal.main_arg1) = m ((c.tc : Thread Cert.MbInIdeal.nD Cert.MbInIdeal.τ).loc Cert.MbInIdeal.main_arg1)
      ∧ m' ((c.tc : Thread Cert.MbInRefIdeal.nD Cert.MbInRefIdeal.τ).loc Cert.MbInRefIdeal.main_arg2) = m ((c.tc : Thread Cert.MbInIdeal.nD Cert.MbInIdeal.τ).loc Cert.MbInIdeal.main_arg2)
      ∧ m' ((c.tc : Thread Cert.MbInRefIdeal.nD Cert.MbInRefIdeal.τ).loc Cert.MbInRefIdeal.main_arg3) = m ((c.tc : Thread Cert.MbInIdeal.nD Cert.MbInIdeal.τ).loc Cert.MbInIdeal.main_arg3)
      ∧ m' ((c.tc : Thread Cert.MbInRefIdeal.nD Cert.MbInRefIdeal.τ).loc Cert.MbInRefIdeal.main_arg4) = m ((c.tc : Thread Cert.MbInIdeal.nD Cert.MbInIdeal.τ).loc Cert.MbInIdeal.main_arg4)
      ∧ m' ((c.tc : Thread Cert.MbInRefIdeal.nD Cert.MbInRefIdeal.τ).loc Cert.MbInRefIdeal.main_arg5) = m ((c.tc : Thread Cert.MbInIdeal.nD Cert.MbInIdeal.τ).loc Cert.MbInIdeal.main_arg5)
      ∧ m' ((c.tc : Thread Cert.MbInRefIdeal.nD Cert.MbInRefIdeal.τ).loc Cert.MbInRefIdeal.main_arg6) = m ((c.tc : Thread Cert.MbInIdeal.nD Cert.MbInIdeal.τ).loc Cert.MbInIdeal.main_arg6)) →
    ∃ (v0 : (c : Dev Cert.MbInIdeal.nD) → Buf (Elt Ideal) ((c.tc : Thread Cert.MbInIdeal.nD Cert.MbInIdeal.τ).loc Cert.MbInIdeal.main_v8)) (v1 : (c : Dev Cert.MbInIdeal.nD) → Buf (Elt Ideal) ((c.tc : Thread Cert.MbInIdeal.nD Cert.MbInIdeal.τ).loc Cert.MbInIdeal.main_v9)) (v2 : (c : Dev Cert.MbInIdeal.nD) → Buf (Elt Ideal) ((c.tc : Thread Cert.MbInIdeal.nD Cert.MbInIdeal.τ).loc Cert.MbInIdeal.main_v10)) (v3 : (c : Dev Cert.MbInIdeal.nD) → Buf (Elt Ideal) ((c.tc : Thread Cert.MbInIdeal.nD Cert.MbInIdeal.τ).loc Cert.MbInIdeal.main_v13)) (v4 : (c : Dev Cert.MbInIdeal.nD) → Buf (Elt Ideal) ((c.tc : Thread Cert.MbInIdeal.nD Cert.MbInIdeal.τ).loc Cert.MbInIdeal.main_v14)) (v5 : (c : Dev Cert.MbInIdeal.nD) → Buf (Elt Ideal) ((c.tc : Thread Cert.MbInIdeal.nD Cert.MbInIdeal.τ).loc Cert.MbInIdeal.main_v15)) (v6 : (c : Dev Cert.MbInIdeal.nD) → Buf (Elt Ideal) ((c.tc : Thread Cert.MbInIdeal.nD Cert.MbInIdeal.τ).loc Cert.MbInIdeal.main_v16_0)) (v7 : (c : Dev Cert.MbInIdeal.nD) → Buf (Elt Ideal) ((c.tc : Thread Cert.MbInIdeal.nD Cert.MbInIdeal.τ).loc Cert.MbInIdeal.main_v16_1)) (v8 : (c : Dev Cert.MbInIdeal.nD) → Buf (Elt Ideal) ((c.tc : Thread Cert.MbInIdeal.nD Cert.MbInIdeal.τ).loc Cert.MbInIdeal.main_v16_2)),
      θ_run (Cert.MbInIdeal.defs (F := Ideal)) (onTc (τ := Cert.MbInIdeal.τ) (Cert.MbInIdeal.main (F := Ideal))) ⟨m, fun _ => 0, g⟩ (fun r => ∀ c : Dev Cert.MbInIdeal.nD,
          r.2.mem ((c.tc : Thread Cert.MbInIdeal.nD Cert.MbInIdeal.τ).loc Cert.MbInIdeal.main_v8) = v0 c
          ∧ r.2.mem ((c.tc : Thread Cert.MbInIdeal.nD Cert.MbInIdeal.τ).loc Cert.MbInIdeal.main_v9) = v1 c
          ∧ r.2.mem ((c.tc : Thread Cert.MbInIdeal.nD Cert.MbInIdeal.τ).loc Cert.MbInIdeal.main_v10) = v2 c
          ∧ r.2.mem ((c.tc : Thread Cert.MbInIdeal.nD Cert.MbInIdeal.τ).loc Cert.MbInIdeal.main_v13) = v3 c
          ∧ r.2.mem ((c.tc : Thread Cert.MbInIdeal.nD Cert.MbInIdeal.τ).loc Cert.MbInIdeal.main_v14) = v4 c
          ∧ r.2.mem ((c.tc : Thread Cert.MbInIdeal.nD Cert.MbInIdeal.τ).loc Cert.MbInIdeal.main_v15) = v5 c
          ∧ r.2.mem ((c.tc : Thread Cert.MbInIdeal.nD Cert.MbInIdeal.τ).loc Cert.MbInIdeal.main_v16_0) = v6 c
          ∧ r.2.mem ((c.tc : Thread Cert.MbInIdeal.nD Cert.MbInIdeal.τ).loc Cert.MbInIdeal.main_v16_1) = v7 c
          ∧ r.2.mem ((c.tc : Thread Cert.MbInIdeal.nD Cert.MbInIdeal.τ).loc Cert.MbInIdeal.main_v16_2) = v8 c
          ∧ r.2.mem ((c.tc : Thread Cert.MbInIdeal.nD Cert.MbInIdeal.τ).loc Cert.MbInIdeal.main_arg0) = m ((c.tc : Thread Cert.MbInIdeal.nD Cert.MbInIdeal.τ).loc Cert.MbInIdeal.main_arg0)
          ∧ r.2.mem ((c.tc : Thread Cert.MbInIdeal.nD Cert.MbInIdeal.τ).loc Cert.MbInIdeal.main_arg1) = m ((c.tc : Thread Cert.MbInIdeal.nD Cert.MbInIdeal.τ).loc Cert.MbInIdeal.main_arg1)
          ∧ r.2.mem ((c.tc : Thread Cert.MbInIdeal.nD Cert.MbInIdeal.τ).loc Cert.MbInIdeal.main_arg2) = m ((c.tc : Thread Cert.MbInIdeal.nD Cert.MbInIdeal.τ).loc Cert.MbInIdeal.main_arg2)
          ∧ r.2.mem ((c.tc : Thread Cert.MbInIdeal.nD Cert.MbInIdeal.τ).loc Cert.MbInIdeal.main_arg3) = m ((c.tc : Thread Cert.MbInIdeal.nD Cert.MbInIdeal.τ).loc Cert.MbInIdeal.main_arg3)
          ∧ r.2.mem ((c.tc : Thread Cert.MbInIdeal.nD Cert.MbInIdeal.τ).loc Cert.MbInIdeal.main_arg4) = m ((c.tc : Thread Cert.MbInIdeal.nD Cert.MbInIdeal.τ).loc Cert.MbInIdeal.main_arg4)
          ∧ r.2.mem ((c.tc : Thread Cert.MbInIdeal.nD Cert.MbInIdeal.τ).loc Cert.MbInIdeal.main_arg5) = m ((c.tc : Thread Cert.MbInIdeal.nD Cert.MbInIdeal.τ).loc Cert.MbInIdeal.main_arg5)
          ∧ r.2.mem ((c.tc : Thread Cert.MbInIdeal.nD Cert.MbInIdeal.τ).loc Cert.MbInIdeal.main_arg6) = m ((c.tc : Thread Cert.MbInIdeal.nD Cert.MbInIdeal.τ).loc Cert.MbInIdeal.main_arg6))
      ∧ θ_run (Cert.MbInRefIdeal.defs (F := Ideal)) (onTc (τ := Cert.MbInRefIdeal.τ) (Cert.MbInRefIdeal.main (F := Ideal))) ⟨m', fun _ => 0, g'⟩ (fun r => ∀ c : Dev Cert.MbInRefIdeal.nD,
          r.2.mem ((c.tc : Thread Cert.MbInRefIdeal.nD Cert.MbInRefIdeal.τ).loc Cert.MbInRefIdeal.main_v16) = v0 c
          ∧ r.2.mem ((c.tc : Thread Cert.MbInRefIdeal.nD Cert.MbInRefIdeal.τ).loc Cert.MbInRefIdeal.main_v17) = v1 c
          ∧ r.2.mem ((c.tc : Thread Cert.MbInRefIdeal.nD Cert.MbInRefIdeal.τ).loc Cert.MbInRefIdeal.main_v18) = v2 c
          ∧ r.2.mem ((c.tc : Thread Cert.MbInRefIdeal.nD Cert.MbInRefIdeal.τ).loc Cert.MbInRefIdeal.main_v43) = v3 c
          ∧ r.2.mem ((c.tc : Thread Cert.MbInRefIdeal.nD Cert.MbInRefIdeal.τ).loc Cert.MbInRefIdeal.main_v44) = v4 c
          ∧ r.2.mem ((c.tc : Thread Cert.MbInRefIdeal.nD Cert.MbInRefIdeal.τ).loc Cert.MbInRefIdeal.main_v45) = v5 c
          ∧ r.2.mem ((c.tc : Thread Cert.MbInRefIdeal.nD Cert.MbInRefIdeal.τ).loc Cert.MbInRefIdeal.main_v42) = v6 c
          ∧ r.2.mem ((c.tc : Thread Cert.MbInRefIdeal.nD Cert.MbInRefIdeal.τ).loc Cert.MbInRefIdeal.main_v46) = v7 c
          ∧ r.2.mem ((c.tc : Thread Cert.MbInRefIdeal.nD Cert.MbInRefIdeal.τ).loc Cert.MbInRefIdeal.main_v25) = v8 c
          ∧ r.2.mem ((c.tc : Thread Cert.MbInRefIdeal.nD Cert.MbInRefIdeal.τ).loc Cert.MbInRefIdeal.main_arg0) = m' ((c.tc : Thread Cert.MbInRefIdeal.nD Cert.MbInRefIdeal.τ).loc Cert.MbInRefIdeal.main_arg0)
          ∧ r.2.mem ((c.tc : Thread Cert.MbInRefIdeal.nD Cert.MbInRefIdeal.τ).loc Cert.MbInRefIdeal.main_arg1) = m' ((c.tc : Thread Cert.MbInRefIdeal.nD Cert.MbInRefIdeal.τ).loc Cert.MbInRefIdeal.main_arg1)
          ∧ r.2.mem ((c.tc : Thread Cert.MbInRefIdeal.nD Cert.MbInRefIdeal.τ).loc Cert.MbInRefIdeal.main_arg2) = m' ((c.tc : Thread Cert.MbInRefIdeal.nD Cert.MbInRefIdeal.τ).loc Cert.MbInRefIdeal.main_arg2)
          ∧ r.2.mem ((c.tc : Thread Cert.MbInRefIdeal.nD Cert.MbInRefIdeal.τ).loc Cert.MbInRefIdeal.main_arg3) = m' ((c.tc : Thread Cert.MbInRefIdeal.nD Cert.MbInRefIdeal.τ).loc Cert.MbInRefIdeal.main_arg3)
          ∧ r.2.mem ((c.tc : Thread Cert.MbInRefIdeal.nD Cert.MbInRefIdeal.τ).loc Cert.MbInRefIdeal.main_arg4) = m' ((c.tc : Thread Cert.MbInRefIdeal.nD Cert.MbInRefIdeal.τ).loc Cert.MbInRefIdeal.main_arg4)
          ∧ r.2.mem ((c.tc : Thread Cert.MbInRefIdeal.nD Cert.MbInRefIdeal.τ).loc Cert.MbInRefIdeal.main_arg5) = m' ((c.tc : Thread Cert.MbInRefIdeal.nD Cert.MbInRefIdeal.τ).loc Cert.MbInRefIdeal.main_arg5)
          ∧ r.2.mem ((c.tc : Thread Cert.MbInRefIdeal.nD Cert.MbInRefIdeal.τ).loc Cert.MbInRefIdeal.main_arg6) = m' ((c.tc : Thread Cert.MbInRefIdeal.nD Cert.MbInRefIdeal.τ).loc Cert.MbInRefIdeal.main_arg6))

def preserves_HgOut_HgOutIdeal : Prop :=
  True

def algebraic_HgOutIdeal_HgOutRefIdeal [hHgOutIdeal : Cert.HgOutIdeal.Facts] [hHgOutRefIdeal : Cert.HgOutRefIdeal.Facts] : Prop :=
  ∀ (m : (ℓ : Loc Cert.HgOutIdeal.nD Cert.HgOutIdeal.τ Cert.HgOutIdeal.sig) → Buf (Elt Ideal) ℓ) (g : Dev Cert.HgOutIdeal.nD → PrngReg)
    (m' : (ℓ : Loc Cert.HgOutRefIdeal.nD Cert.HgOutRefIdeal.τ Cert.HgOutRefIdeal.sig) → Buf (Elt Ideal) ℓ) (g' : Dev Cert.HgOutRefIdeal.nD → PrngReg), Pre_HgOutIdeal m →
    (∀ c : Dev Cert.HgOutIdeal.nD,
      m' ((c.tc : Thread Cert.HgOutRefIdeal.nD Cert.HgOutRefIdeal.τ).loc Cert.HgOutRefIdeal.main_arg0) = m ((c.tc : Thread Cert.HgOutIdeal.nD Cert.HgOutIdeal.τ).loc Cert.HgOutIdeal.main_arg0)
      ∧ m' ((c.tc : Thread Cert.HgOutRefIdeal.nD Cert.HgOutRefIdeal.τ).loc Cert.HgOutRefIdeal.main_arg1) = m ((c.tc : Thread Cert.HgOutIdeal.nD Cert.HgOutIdeal.τ).loc Cert.HgOutIdeal.main_arg1)
      ∧ m' ((c.tc : Thread Cert.HgOutRefIdeal.nD Cert.HgOutRefIdeal.τ).loc Cert.HgOutRefIdeal.main_arg2) = m ((c.tc : Thread Cert.HgOutIdeal.nD Cert.HgOutIdeal.τ).loc Cert.HgOutIdeal.main_arg2)
      ∧ m' ((c.tc : Thread Cert.HgOutRefIdeal.nD Cert.HgOutRefIdeal.τ).loc Cert.HgOutRefIdeal.main_arg3) = m ((c.tc : Thread Cert.HgOutIdeal.nD Cert.HgOutIdeal.τ).loc Cert.HgOutIdeal.main_arg3)
      ∧ m' ((c.tc : Thread Cert.HgOutRefIdeal.nD Cert.HgOutRefIdeal.τ).loc Cert.HgOutRefIdeal.main_arg4) = m ((c.tc : Thread Cert.HgOutIdeal.nD Cert.HgOutIdeal.τ).loc Cert.HgOutIdeal.main_arg4)) →
    ∃ (v0 : (c : Dev Cert.HgOutIdeal.nD) → Buf (Elt Ideal) ((c.tc : Thread Cert.HgOutIdeal.nD Cert.HgOutIdeal.τ).loc Cert.HgOutIdeal.main_v3_0)) (v1 : (c : Dev Cert.HgOutIdeal.nD) → Buf (Elt Ideal) ((c.tc : Thread Cert.HgOutIdeal.nD Cert.HgOutIdeal.τ).loc Cert.HgOutIdeal.main_v3_1)) (v2 : (c : Dev Cert.HgOutIdeal.nD) → Buf (Elt Ideal) ((c.tc : Thread Cert.HgOutIdeal.nD Cert.HgOutIdeal.τ).loc Cert.HgOutIdeal.main_v4)) (v3 : (c : Dev Cert.HgOutIdeal.nD) → Buf (Elt Ideal) ((c.tc : Thread Cert.HgOutIdeal.nD Cert.HgOutIdeal.τ).loc Cert.HgOutIdeal.main_v5)),
      θ_run (Cert.HgOutIdeal.defs (F := Ideal)) (onTc (τ := Cert.HgOutIdeal.τ) (Cert.HgOutIdeal.main (F := Ideal))) ⟨m, fun _ => 0, g⟩ (fun r => ∀ c : Dev Cert.HgOutIdeal.nD,
          r.2.mem ((c.tc : Thread Cert.HgOutIdeal.nD Cert.HgOutIdeal.τ).loc Cert.HgOutIdeal.main_v3_0) = v0 c
          ∧ r.2.mem ((c.tc : Thread Cert.HgOutIdeal.nD Cert.HgOutIdeal.τ).loc Cert.HgOutIdeal.main_v3_1) = v1 c
          ∧ r.2.mem ((c.tc : Thread Cert.HgOutIdeal.nD Cert.HgOutIdeal.τ).loc Cert.HgOutIdeal.main_v4) = v2 c
          ∧ r.2.mem ((c.tc : Thread Cert.HgOutIdeal.nD Cert.HgOutIdeal.τ).loc Cert.HgOutIdeal.main_v5) = v3 c
          ∧ r.2.mem ((c.tc : Thread Cert.HgOutIdeal.nD Cert.HgOutIdeal.τ).loc Cert.HgOutIdeal.main_arg0) = m ((c.tc : Thread Cert.HgOutIdeal.nD Cert.HgOutIdeal.τ).loc Cert.HgOutIdeal.main_arg0)
          ∧ r.2.mem ((c.tc : Thread Cert.HgOutIdeal.nD Cert.HgOutIdeal.τ).loc Cert.HgOutIdeal.main_arg1) = m ((c.tc : Thread Cert.HgOutIdeal.nD Cert.HgOutIdeal.τ).loc Cert.HgOutIdeal.main_arg1)
          ∧ r.2.mem ((c.tc : Thread Cert.HgOutIdeal.nD Cert.HgOutIdeal.τ).loc Cert.HgOutIdeal.main_arg2) = m ((c.tc : Thread Cert.HgOutIdeal.nD Cert.HgOutIdeal.τ).loc Cert.HgOutIdeal.main_arg2)
          ∧ r.2.mem ((c.tc : Thread Cert.HgOutIdeal.nD Cert.HgOutIdeal.τ).loc Cert.HgOutIdeal.main_arg3) = m ((c.tc : Thread Cert.HgOutIdeal.nD Cert.HgOutIdeal.τ).loc Cert.HgOutIdeal.main_arg3)
          ∧ r.2.mem ((c.tc : Thread Cert.HgOutIdeal.nD Cert.HgOutIdeal.τ).loc Cert.HgOutIdeal.main_arg4) = m ((c.tc : Thread Cert.HgOutIdeal.nD Cert.HgOutIdeal.τ).loc Cert.HgOutIdeal.main_arg4))
      ∧ θ_run (Cert.HgOutRefIdeal.defs (F := Ideal)) (onTc (τ := Cert.HgOutRefIdeal.τ) (Cert.HgOutRefIdeal.main (F := Ideal))) ⟨m', fun _ => 0, g'⟩ (fun r => ∀ c : Dev Cert.HgOutRefIdeal.nD,
          r.2.mem ((c.tc : Thread Cert.HgOutRefIdeal.nD Cert.HgOutRefIdeal.τ).loc Cert.HgOutRefIdeal.main_v1) = v0 c
          ∧ r.2.mem ((c.tc : Thread Cert.HgOutRefIdeal.nD Cert.HgOutRefIdeal.τ).loc Cert.HgOutRefIdeal.main_v17) = v1 c
          ∧ r.2.mem ((c.tc : Thread Cert.HgOutRefIdeal.nD Cert.HgOutRefIdeal.τ).loc Cert.HgOutRefIdeal.main_v4) = v2 c
          ∧ r.2.mem ((c.tc : Thread Cert.HgOutRefIdeal.nD Cert.HgOutRefIdeal.τ).loc Cert.HgOutRefIdeal.main_v3) = v3 c
          ∧ r.2.mem ((c.tc : Thread Cert.HgOutRefIdeal.nD Cert.HgOutRefIdeal.τ).loc Cert.HgOutRefIdeal.main_arg0) = m' ((c.tc : Thread Cert.HgOutRefIdeal.nD Cert.HgOutRefIdeal.τ).loc Cert.HgOutRefIdeal.main_arg0)
          ∧ r.2.mem ((c.tc : Thread Cert.HgOutRefIdeal.nD Cert.HgOutRefIdeal.τ).loc Cert.HgOutRefIdeal.main_arg1) = m' ((c.tc : Thread Cert.HgOutRefIdeal.nD Cert.HgOutRefIdeal.τ).loc Cert.HgOutRefIdeal.main_arg1)
          ∧ r.2.mem ((c.tc : Thread Cert.HgOutRefIdeal.nD Cert.HgOutRefIdeal.τ).loc Cert.HgOutRefIdeal.main_arg2) = m' ((c.tc : Thread Cert.HgOutRefIdeal.nD Cert.HgOutRefIdeal.τ).loc Cert.HgOutRefIdeal.main_arg2)
          ∧ r.2.mem ((c.tc : Thread Cert.HgOutRefIdeal.nD Cert.HgOutRefIdeal.τ).loc Cert.HgOutRefIdeal.main_arg3) = m' ((c.tc : Thread Cert.HgOutRefIdeal.nD Cert.HgOutRefIdeal.τ).loc Cert.HgOutRefIdeal.main_arg3)
          ∧ r.2.mem ((c.tc : Thread Cert.HgOutRefIdeal.nD Cert.HgOutRefIdeal.τ).loc Cert.HgOutRefIdeal.main_arg4) = m' ((c.tc : Thread Cert.HgOutRefIdeal.nD Cert.HgOutRefIdeal.τ).loc Cert.HgOutRefIdeal.main_arg4))

def preserves_MbOut_MbOutIdeal : Prop :=
  True

def algebraic_MbOutIdeal_MbOutRefIdeal [hMbOutIdeal : Cert.MbOutIdeal.Facts] [hMbOutRefIdeal : Cert.MbOutRefIdeal.Facts] : Prop :=
  ∀ (m : (ℓ : Loc Cert.MbOutIdeal.nD Cert.MbOutIdeal.τ Cert.MbOutIdeal.sig) → Buf (Elt Ideal) ℓ) (g : Dev Cert.MbOutIdeal.nD → PrngReg)
    (m' : (ℓ : Loc Cert.MbOutRefIdeal.nD Cert.MbOutRefIdeal.τ Cert.MbOutRefIdeal.sig) → Buf (Elt Ideal) ℓ) (g' : Dev Cert.MbOutRefIdeal.nD → PrngReg), Pre_MbOutIdeal m →
    (∀ c : Dev Cert.MbOutIdeal.nD,
      m' ((c.tc : Thread Cert.MbOutRefIdeal.nD Cert.MbOutRefIdeal.τ).loc Cert.MbOutRefIdeal.main_arg0) = m ((c.tc : Thread Cert.MbOutIdeal.nD Cert.MbOutIdeal.τ).loc Cert.MbOutIdeal.main_arg0)
      ∧ m' ((c.tc : Thread Cert.MbOutRefIdeal.nD Cert.MbOutRefIdeal.τ).loc Cert.MbOutRefIdeal.main_arg1) = m ((c.tc : Thread Cert.MbOutIdeal.nD Cert.MbOutIdeal.τ).loc Cert.MbOutIdeal.main_arg1)
      ∧ m' ((c.tc : Thread Cert.MbOutRefIdeal.nD Cert.MbOutRefIdeal.τ).loc Cert.MbOutRefIdeal.main_arg2) = m ((c.tc : Thread Cert.MbOutIdeal.nD Cert.MbOutIdeal.τ).loc Cert.MbOutIdeal.main_arg2)
      ∧ m' ((c.tc : Thread Cert.MbOutRefIdeal.nD Cert.MbOutRefIdeal.τ).loc Cert.MbOutRefIdeal.main_arg3) = m ((c.tc : Thread Cert.MbOutIdeal.nD Cert.MbOutIdeal.τ).loc Cert.MbOutIdeal.main_arg3)
      ∧ m' ((c.tc : Thread Cert.MbOutRefIdeal.nD Cert.MbOutRefIdeal.τ).loc Cert.MbOutRefIdeal.main_arg4) = m ((c.tc : Thread Cert.MbOutIdeal.nD Cert.MbOutIdeal.τ).loc Cert.MbOutIdeal.main_arg4)) →
    ∃ (v0 : (c : Dev Cert.MbOutIdeal.nD) → Buf (Elt Ideal) ((c.tc : Thread Cert.MbOutIdeal.nD Cert.MbOutIdeal.τ).loc Cert.MbOutIdeal.main_v3_0)) (v1 : (c : Dev Cert.MbOutIdeal.nD) → Buf (Elt Ideal) ((c.tc : Thread Cert.MbOutIdeal.nD Cert.MbOutIdeal.τ).loc Cert.MbOutIdeal.main_v3_1)) (v2 : (c : Dev Cert.MbOutIdeal.nD) → Buf (Elt Ideal) ((c.tc : Thread Cert.MbOutIdeal.nD Cert.MbOutIdeal.τ).loc Cert.MbOutIdeal.main_v4)) (v3 : (c : Dev Cert.MbOutIdeal.nD) → Buf (Elt Ideal) ((c.tc : Thread Cert.MbOutIdeal.nD Cert.MbOutIdeal.τ).loc Cert.MbOutIdeal.main_v5)),
      θ_run (Cert.MbOutIdeal.defs (F := Ideal)) (onTc (τ := Cert.MbOutIdeal.τ) (Cert.MbOutIdeal.main (F := Ideal))) ⟨m, fun _ => 0, g⟩ (fun r => ∀ c : Dev Cert.MbOutIdeal.nD,
          r.2.mem ((c.tc : Thread Cert.MbOutIdeal.nD Cert.MbOutIdeal.τ).loc Cert.MbOutIdeal.main_v3_0) = v0 c
          ∧ r.2.mem ((c.tc : Thread Cert.MbOutIdeal.nD Cert.MbOutIdeal.τ).loc Cert.MbOutIdeal.main_v3_1) = v1 c
          ∧ r.2.mem ((c.tc : Thread Cert.MbOutIdeal.nD Cert.MbOutIdeal.τ).loc Cert.MbOutIdeal.main_v4) = v2 c
          ∧ r.2.mem ((c.tc : Thread Cert.MbOutIdeal.nD Cert.MbOutIdeal.τ).loc Cert.MbOutIdeal.main_v5) = v3 c
          ∧ r.2.mem ((c.tc : Thread Cert.MbOutIdeal.nD Cert.MbOutIdeal.τ).loc Cert.MbOutIdeal.main_arg0) = m ((c.tc : Thread Cert.MbOutIdeal.nD Cert.MbOutIdeal.τ).loc Cert.MbOutIdeal.main_arg0)
          ∧ r.2.mem ((c.tc : Thread Cert.MbOutIdeal.nD Cert.MbOutIdeal.τ).loc Cert.MbOutIdeal.main_arg1) = m ((c.tc : Thread Cert.MbOutIdeal.nD Cert.MbOutIdeal.τ).loc Cert.MbOutIdeal.main_arg1)
          ∧ r.2.mem ((c.tc : Thread Cert.MbOutIdeal.nD Cert.MbOutIdeal.τ).loc Cert.MbOutIdeal.main_arg2) = m ((c.tc : Thread Cert.MbOutIdeal.nD Cert.MbOutIdeal.τ).loc Cert.MbOutIdeal.main_arg2)
          ∧ r.2.mem ((c.tc : Thread Cert.MbOutIdeal.nD Cert.MbOutIdeal.τ).loc Cert.MbOutIdeal.main_arg3) = m ((c.tc : Thread Cert.MbOutIdeal.nD Cert.MbOutIdeal.τ).loc Cert.MbOutIdeal.main_arg3)
          ∧ r.2.mem ((c.tc : Thread Cert.MbOutIdeal.nD Cert.MbOutIdeal.τ).loc Cert.MbOutIdeal.main_arg4) = m ((c.tc : Thread Cert.MbOutIdeal.nD Cert.MbOutIdeal.τ).loc Cert.MbOutIdeal.main_arg4))
      ∧ θ_run (Cert.MbOutRefIdeal.defs (F := Ideal)) (onTc (τ := Cert.MbOutRefIdeal.τ) (Cert.MbOutRefIdeal.main (F := Ideal))) ⟨m', fun _ => 0, g'⟩ (fun r => ∀ c : Dev Cert.MbOutRefIdeal.nD,
          r.2.mem ((c.tc : Thread Cert.MbOutRefIdeal.nD Cert.MbOutRefIdeal.τ).loc Cert.MbOutRefIdeal.main_v1) = v0 c
          ∧ r.2.mem ((c.tc : Thread Cert.MbOutRefIdeal.nD Cert.MbOutRefIdeal.τ).loc Cert.MbOutRefIdeal.main_v17) = v1 c
          ∧ r.2.mem ((c.tc : Thread Cert.MbOutRefIdeal.nD Cert.MbOutRefIdeal.τ).loc Cert.MbOutRefIdeal.main_v4) = v2 c
          ∧ r.2.mem ((c.tc : Thread Cert.MbOutRefIdeal.nD Cert.MbOutRefIdeal.τ).loc Cert.MbOutRefIdeal.main_v3) = v3 c
          ∧ r.2.mem ((c.tc : Thread Cert.MbOutRefIdeal.nD Cert.MbOutRefIdeal.τ).loc Cert.MbOutRefIdeal.main_arg0) = m' ((c.tc : Thread Cert.MbOutRefIdeal.nD Cert.MbOutRefIdeal.τ).loc Cert.MbOutRefIdeal.main_arg0)
          ∧ r.2.mem ((c.tc : Thread Cert.MbOutRefIdeal.nD Cert.MbOutRefIdeal.τ).loc Cert.MbOutRefIdeal.main_arg1) = m' ((c.tc : Thread Cert.MbOutRefIdeal.nD Cert.MbOutRefIdeal.τ).loc Cert.MbOutRefIdeal.main_arg1)
          ∧ r.2.mem ((c.tc : Thread Cert.MbOutRefIdeal.nD Cert.MbOutRefIdeal.τ).loc Cert.MbOutRefIdeal.main_arg2) = m' ((c.tc : Thread Cert.MbOutRefIdeal.nD Cert.MbOutRefIdeal.τ).loc Cert.MbOutRefIdeal.main_arg2)
          ∧ r.2.mem ((c.tc : Thread Cert.MbOutRefIdeal.nD Cert.MbOutRefIdeal.τ).loc Cert.MbOutRefIdeal.main_arg3) = m' ((c.tc : Thread Cert.MbOutRefIdeal.nD Cert.MbOutRefIdeal.τ).loc Cert.MbOutRefIdeal.main_arg3)
          ∧ r.2.mem ((c.tc : Thread Cert.MbOutRefIdeal.nD Cert.MbOutRefIdeal.τ).loc Cert.MbOutRefIdeal.main_arg4) = m' ((c.tc : Thread Cert.MbOutRefIdeal.nD Cert.MbOutRefIdeal.τ).loc Cert.MbOutRefIdeal.main_arg4))

def preserves_AdAIn_AdAInIdeal : Prop :=
  IdealRules.named_const.Statement Cert.AdAInIdeal.κ "inv_c1" .f32 0x3FC48605#32 ((8388608 / 5463681 : ℝ) : EReal)
  ∧ IdealRules.named_const.Statement Cert.AdAInIdeal.κ "inv_c2" .f32 0x42C8E6D3#32 ((268435456 / 2672307 : ℝ) : EReal)

def algebraic_AdAInIdeal_AdAInRefIdeal [hAdAInIdeal : Cert.AdAInIdeal.Facts] [hAdAInRefIdeal : Cert.AdAInRefIdeal.Facts] : Prop :=
  ∀ (m : (ℓ : Loc Cert.AdAInIdeal.nD Cert.AdAInIdeal.τ Cert.AdAInIdeal.sig) → Buf (Elt Ideal) ℓ) (g : Dev Cert.AdAInIdeal.nD → PrngReg)
    (m' : (ℓ : Loc Cert.AdAInRefIdeal.nD Cert.AdAInRefIdeal.τ Cert.AdAInRefIdeal.sig) → Buf (Elt Ideal) ℓ) (g' : Dev Cert.AdAInRefIdeal.nD → PrngReg), Pre_AdAInIdeal m →
    (∀ c : Dev Cert.AdAInIdeal.nD,
      m' ((c.tc : Thread Cert.AdAInRefIdeal.nD Cert.AdAInRefIdeal.τ).loc Cert.AdAInRefIdeal.main_arg0) = m ((c.tc : Thread Cert.AdAInIdeal.nD Cert.AdAInIdeal.τ).loc Cert.AdAInIdeal.main_arg0)
      ∧ m' ((c.tc : Thread Cert.AdAInRefIdeal.nD Cert.AdAInRefIdeal.τ).loc Cert.AdAInRefIdeal.main_arg1) = m ((c.tc : Thread Cert.AdAInIdeal.nD Cert.AdAInIdeal.τ).loc Cert.AdAInIdeal.main_arg1)
      ∧ m' ((c.tc : Thread Cert.AdAInRefIdeal.nD Cert.AdAInRefIdeal.τ).loc Cert.AdAInRefIdeal.main_arg2) = m ((c.tc : Thread Cert.AdAInIdeal.nD Cert.AdAInIdeal.τ).loc Cert.AdAInIdeal.main_arg2)
      ∧ m' ((c.tc : Thread Cert.AdAInRefIdeal.nD Cert.AdAInRefIdeal.τ).loc Cert.AdAInRefIdeal.main_arg3) = m ((c.tc : Thread Cert.AdAInIdeal.nD Cert.AdAInIdeal.τ).loc Cert.AdAInIdeal.main_arg3)
      ∧ m' ((c.tc : Thread Cert.AdAInRefIdeal.nD Cert.AdAInRefIdeal.τ).loc Cert.AdAInRefIdeal.main_arg4) = m ((c.tc : Thread Cert.AdAInIdeal.nD Cert.AdAInIdeal.τ).loc Cert.AdAInIdeal.main_arg4)) →
    ∃ (v0 : (c : Dev Cert.AdAInIdeal.nD) → Buf (Elt Ideal) ((c.tc : Thread Cert.AdAInIdeal.nD Cert.AdAInIdeal.τ).loc Cert.AdAInIdeal.main_v1_0)) (v1 : (c : Dev Cert.AdAInIdeal.nD) → Buf (Elt Ideal) ((c.tc : Thread Cert.AdAInIdeal.nD Cert.AdAInIdeal.τ).loc Cert.AdAInIdeal.main_v1_1)) (v2 : (c : Dev Cert.AdAInIdeal.nD) → Buf (Elt Ideal) ((c.tc : Thread Cert.AdAInIdeal.nD Cert.AdAInIdeal.τ).loc Cert.AdAInIdeal.main_v1_2)) (v3 : (c : Dev Cert.AdAInIdeal.nD) → Buf (Elt Ideal) ((c.tc : Thread Cert.AdAInIdeal.nD Cert.AdAInIdeal.τ).loc Cert.AdAInIdeal.main_v1_3)),
      θ_run (Cert.AdAInIdeal.defs (F := Ideal)) (onTc (τ := Cert.AdAInIdeal.τ) (Cert.AdAInIdeal.main (F := Ideal))) ⟨m, fun _ => 0, g⟩ (fun r => ∀ c : Dev Cert.AdAInIdeal.nD,
          r.2.mem ((c.tc : Thread Cert.AdAInIdeal.nD Cert.AdAInIdeal.τ).loc Cert.AdAInIdeal.main_v1_0) = v0 c
          ∧ r.2.mem ((c.tc : Thread Cert.AdAInIdeal.nD Cert.AdAInIdeal.τ).loc Cert.AdAInIdeal.main_v1_1) = v1 c
          ∧ r.2.mem ((c.tc : Thread Cert.AdAInIdeal.nD Cert.AdAInIdeal.τ).loc Cert.AdAInIdeal.main_v1_2) = v2 c
          ∧ r.2.mem ((c.tc : Thread Cert.AdAInIdeal.nD Cert.AdAInIdeal.τ).loc Cert.AdAInIdeal.main_v1_3) = v3 c
          ∧ r.2.mem ((c.tc : Thread Cert.AdAInIdeal.nD Cert.AdAInIdeal.τ).loc Cert.AdAInIdeal.main_arg0) = m ((c.tc : Thread Cert.AdAInIdeal.nD Cert.AdAInIdeal.τ).loc Cert.AdAInIdeal.main_arg0)
          ∧ r.2.mem ((c.tc : Thread Cert.AdAInIdeal.nD Cert.AdAInIdeal.τ).loc Cert.AdAInIdeal.main_arg1) = m ((c.tc : Thread Cert.AdAInIdeal.nD Cert.AdAInIdeal.τ).loc Cert.AdAInIdeal.main_arg1)
          ∧ r.2.mem ((c.tc : Thread Cert.AdAInIdeal.nD Cert.AdAInIdeal.τ).loc Cert.AdAInIdeal.main_arg2) = m ((c.tc : Thread Cert.AdAInIdeal.nD Cert.AdAInIdeal.τ).loc Cert.AdAInIdeal.main_arg2)
          ∧ r.2.mem ((c.tc : Thread Cert.AdAInIdeal.nD Cert.AdAInIdeal.τ).loc Cert.AdAInIdeal.main_arg3) = m ((c.tc : Thread Cert.AdAInIdeal.nD Cert.AdAInIdeal.τ).loc Cert.AdAInIdeal.main_arg3)
          ∧ r.2.mem ((c.tc : Thread Cert.AdAInIdeal.nD Cert.AdAInIdeal.τ).loc Cert.AdAInIdeal.main_arg4) = m ((c.tc : Thread Cert.AdAInIdeal.nD Cert.AdAInIdeal.τ).loc Cert.AdAInIdeal.main_arg4))
      ∧ θ_run (Cert.AdAInRefIdeal.defs (F := Ideal)) (onTc (τ := Cert.AdAInRefIdeal.τ) (Cert.AdAInRefIdeal.main (F := Ideal))) ⟨m', fun _ => 0, g'⟩ (fun r => ∀ c : Dev Cert.AdAInRefIdeal.nD,
          r.2.mem ((c.tc : Thread Cert.AdAInRefIdeal.nD Cert.AdAInRefIdeal.τ).loc Cert.AdAInRefIdeal.main_v2) = v0 c
          ∧ r.2.mem ((c.tc : Thread Cert.AdAInRefIdeal.nD Cert.AdAInRefIdeal.τ).loc Cert.AdAInRefIdeal.main_v26) = v1 c
          ∧ r.2.mem ((c.tc : Thread Cert.AdAInRefIdeal.nD Cert.AdAInRefIdeal.τ).loc Cert.AdAInRefIdeal.main_v7) = v2 c
          ∧ r.2.mem ((c.tc : Thread Cert.AdAInRefIdeal.nD Cert.AdAInRefIdeal.τ).loc Cert.AdAInRefIdeal.main_v13) = v3 c
          ∧ r.2.mem ((c.tc : Thread Cert.AdAInRefIdeal.nD Cert.AdAInRefIdeal.τ).loc Cert.AdAInRefIdeal.main_arg0) = m' ((c.tc : Thread Cert.AdAInRefIdeal.nD Cert.AdAInRefIdeal.τ).loc Cert.AdAInRefIdeal.main_arg0)
          ∧ r.2.mem ((c.tc : Thread Cert.AdAInRefIdeal.nD Cert.AdAInRefIdeal.τ).loc Cert.AdAInRefIdeal.main_arg1) = m' ((c.tc : Thread Cert.AdAInRefIdeal.nD Cert.AdAInRefIdeal.τ).loc Cert.AdAInRefIdeal.main_arg1)
          ∧ r.2.mem ((c.tc : Thread Cert.AdAInRefIdeal.nD Cert.AdAInRefIdeal.τ).loc Cert.AdAInRefIdeal.main_arg2) = m' ((c.tc : Thread Cert.AdAInRefIdeal.nD Cert.AdAInRefIdeal.τ).loc Cert.AdAInRefIdeal.main_arg2)
          ∧ r.2.mem ((c.tc : Thread Cert.AdAInRefIdeal.nD Cert.AdAInRefIdeal.τ).loc Cert.AdAInRefIdeal.main_arg3) = m' ((c.tc : Thread Cert.AdAInRefIdeal.nD Cert.AdAInRefIdeal.τ).loc Cert.AdAInRefIdeal.main_arg3)
          ∧ r.2.mem ((c.tc : Thread Cert.AdAInRefIdeal.nD Cert.AdAInRefIdeal.τ).loc Cert.AdAInRefIdeal.main_arg4) = m' ((c.tc : Thread Cert.AdAInRefIdeal.nD Cert.AdAInRefIdeal.τ).loc Cert.AdAInRefIdeal.main_arg4))

def preserves_AdAOut_AdAOutIdeal : Prop :=
  IdealRules.named_const.Statement Cert.AdAOutIdeal.κ "inv_c1" .f32 0x3FC48605#32 ((8388608 / 5463681 : ℝ) : EReal)
  ∧ IdealRules.named_const.Statement Cert.AdAOutIdeal.κ "inv_c2" .f32 0x42C8E6D3#32 ((268435456 / 2672307 : ℝ) : EReal)

def algebraic_AdAOutIdeal_AdAOutRefIdeal [hAdAOutIdeal : Cert.AdAOutIdeal.Facts] [hAdAOutRefIdeal : Cert.AdAOutRefIdeal.Facts] : Prop :=
  ∀ (m : (ℓ : Loc Cert.AdAOutIdeal.nD Cert.AdAOutIdeal.τ Cert.AdAOutIdeal.sig) → Buf (Elt Ideal) ℓ) (g : Dev Cert.AdAOutIdeal.nD → PrngReg)
    (m' : (ℓ : Loc Cert.AdAOutRefIdeal.nD Cert.AdAOutRefIdeal.τ Cert.AdAOutRefIdeal.sig) → Buf (Elt Ideal) ℓ) (g' : Dev Cert.AdAOutRefIdeal.nD → PrngReg), Pre_AdAOutIdeal m →
    (∀ c : Dev Cert.AdAOutIdeal.nD,
      m' ((c.tc : Thread Cert.AdAOutRefIdeal.nD Cert.AdAOutRefIdeal.τ).loc Cert.AdAOutRefIdeal.main_arg0) = m ((c.tc : Thread Cert.AdAOutIdeal.nD Cert.AdAOutIdeal.τ).loc Cert.AdAOutIdeal.main_arg0)
      ∧ m' ((c.tc : Thread Cert.AdAOutRefIdeal.nD Cert.AdAOutRefIdeal.τ).loc Cert.AdAOutRefIdeal.main_arg1) = m ((c.tc : Thread Cert.AdAOutIdeal.nD Cert.AdAOutIdeal.τ).loc Cert.AdAOutIdeal.main_arg1)
      ∧ m' ((c.tc : Thread Cert.AdAOutRefIdeal.nD Cert.AdAOutRefIdeal.τ).loc Cert.AdAOutRefIdeal.main_arg2) = m ((c.tc : Thread Cert.AdAOutIdeal.nD Cert.AdAOutIdeal.τ).loc Cert.AdAOutIdeal.main_arg2)
      ∧ m' ((c.tc : Thread Cert.AdAOutRefIdeal.nD Cert.AdAOutRefIdeal.τ).loc Cert.AdAOutRefIdeal.main_arg3) = m ((c.tc : Thread Cert.AdAOutIdeal.nD Cert.AdAOutIdeal.τ).loc Cert.AdAOutIdeal.main_arg3)
      ∧ m' ((c.tc : Thread Cert.AdAOutRefIdeal.nD Cert.AdAOutRefIdeal.τ).loc Cert.AdAOutRefIdeal.main_arg4) = m ((c.tc : Thread Cert.AdAOutIdeal.nD Cert.AdAOutIdeal.τ).loc Cert.AdAOutIdeal.main_arg4)) →
    ∃ (v0 : (c : Dev Cert.AdAOutIdeal.nD) → Buf (Elt Ideal) ((c.tc : Thread Cert.AdAOutIdeal.nD Cert.AdAOutIdeal.τ).loc Cert.AdAOutIdeal.main_v1_0)) (v1 : (c : Dev Cert.AdAOutIdeal.nD) → Buf (Elt Ideal) ((c.tc : Thread Cert.AdAOutIdeal.nD Cert.AdAOutIdeal.τ).loc Cert.AdAOutIdeal.main_v1_1)) (v2 : (c : Dev Cert.AdAOutIdeal.nD) → Buf (Elt Ideal) ((c.tc : Thread Cert.AdAOutIdeal.nD Cert.AdAOutIdeal.τ).loc Cert.AdAOutIdeal.main_v1_2)) (v3 : (c : Dev Cert.AdAOutIdeal.nD) → Buf (Elt Ideal) ((c.tc : Thread Cert.AdAOutIdeal.nD Cert.AdAOutIdeal.τ).loc Cert.AdAOutIdeal.main_v1_3)),
      θ_run (Cert.AdAOutIdeal.defs (F := Ideal)) (onTc (τ := Cert.AdAOutIdeal.τ) (Cert.AdAOutIdeal.main (F := Ideal))) ⟨m, fun _ => 0, g⟩ (fun r => ∀ c : Dev Cert.AdAOutIdeal.nD,
          r.2.mem ((c.tc : Thread Cert.AdAOutIdeal.nD Cert.AdAOutIdeal.τ).loc Cert.AdAOutIdeal.main_v1_0) = v0 c
          ∧ r.2.mem ((c.tc : Thread Cert.AdAOutIdeal.nD Cert.AdAOutIdeal.τ).loc Cert.AdAOutIdeal.main_v1_1) = v1 c
          ∧ r.2.mem ((c.tc : Thread Cert.AdAOutIdeal.nD Cert.AdAOutIdeal.τ).loc Cert.AdAOutIdeal.main_v1_2) = v2 c
          ∧ r.2.mem ((c.tc : Thread Cert.AdAOutIdeal.nD Cert.AdAOutIdeal.τ).loc Cert.AdAOutIdeal.main_v1_3) = v3 c
          ∧ r.2.mem ((c.tc : Thread Cert.AdAOutIdeal.nD Cert.AdAOutIdeal.τ).loc Cert.AdAOutIdeal.main_arg0) = m ((c.tc : Thread Cert.AdAOutIdeal.nD Cert.AdAOutIdeal.τ).loc Cert.AdAOutIdeal.main_arg0)
          ∧ r.2.mem ((c.tc : Thread Cert.AdAOutIdeal.nD Cert.AdAOutIdeal.τ).loc Cert.AdAOutIdeal.main_arg1) = m ((c.tc : Thread Cert.AdAOutIdeal.nD Cert.AdAOutIdeal.τ).loc Cert.AdAOutIdeal.main_arg1)
          ∧ r.2.mem ((c.tc : Thread Cert.AdAOutIdeal.nD Cert.AdAOutIdeal.τ).loc Cert.AdAOutIdeal.main_arg2) = m ((c.tc : Thread Cert.AdAOutIdeal.nD Cert.AdAOutIdeal.τ).loc Cert.AdAOutIdeal.main_arg2)
          ∧ r.2.mem ((c.tc : Thread Cert.AdAOutIdeal.nD Cert.AdAOutIdeal.τ).loc Cert.AdAOutIdeal.main_arg3) = m ((c.tc : Thread Cert.AdAOutIdeal.nD Cert.AdAOutIdeal.τ).loc Cert.AdAOutIdeal.main_arg3)
          ∧ r.2.mem ((c.tc : Thread Cert.AdAOutIdeal.nD Cert.AdAOutIdeal.τ).loc Cert.AdAOutIdeal.main_arg4) = m ((c.tc : Thread Cert.AdAOutIdeal.nD Cert.AdAOutIdeal.τ).loc Cert.AdAOutIdeal.main_arg4))
      ∧ θ_run (Cert.AdAOutRefIdeal.defs (F := Ideal)) (onTc (τ := Cert.AdAOutRefIdeal.τ) (Cert.AdAOutRefIdeal.main (F := Ideal))) ⟨m', fun _ => 0, g'⟩ (fun r => ∀ c : Dev Cert.AdAOutRefIdeal.nD,
          r.2.mem ((c.tc : Thread Cert.AdAOutRefIdeal.nD Cert.AdAOutRefIdeal.τ).loc Cert.AdAOutRefIdeal.main_v2) = v0 c
          ∧ r.2.mem ((c.tc : Thread Cert.AdAOutRefIdeal.nD Cert.AdAOutRefIdeal.τ).loc Cert.AdAOutRefIdeal.main_v26) = v1 c
          ∧ r.2.mem ((c.tc : Thread Cert.AdAOutRefIdeal.nD Cert.AdAOutRefIdeal.τ).loc Cert.AdAOutRefIdeal.main_v7) = v2 c
          ∧ r.2.mem ((c.tc : Thread Cert.AdAOutRefIdeal.nD Cert.AdAOutRefIdeal.τ).loc Cert.AdAOutRefIdeal.main_v13) = v3 c
          ∧ r.2.mem ((c.tc : Thread Cert.AdAOutRefIdeal.nD Cert.AdAOutRefIdeal.τ).loc Cert.AdAOutRefIdeal.main_arg0) = m' ((c.tc : Thread Cert.AdAOutRefIdeal.nD Cert.AdAOutRefIdeal.τ).loc Cert.AdAOutRefIdeal.main_arg0)
          ∧ r.2.mem ((c.tc : Thread Cert.AdAOutRefIdeal.nD Cert.AdAOutRefIdeal.τ).loc Cert.AdAOutRefIdeal.main_arg1) = m' ((c.tc : Thread Cert.AdAOutRefIdeal.nD Cert.AdAOutRefIdeal.τ).loc Cert.AdAOutRefIdeal.main_arg1)
          ∧ r.2.mem ((c.tc : Thread Cert.AdAOutRefIdeal.nD Cert.AdAOutRefIdeal.τ).loc Cert.AdAOutRefIdeal.main_arg2) = m' ((c.tc : Thread Cert.AdAOutRefIdeal.nD Cert.AdAOutRefIdeal.τ).loc Cert.AdAOutRefIdeal.main_arg2)
          ∧ r.2.mem ((c.tc : Thread Cert.AdAOutRefIdeal.nD Cert.AdAOutRefIdeal.τ).loc Cert.AdAOutRefIdeal.main_arg3) = m' ((c.tc : Thread Cert.AdAOutRefIdeal.nD Cert.AdAOutRefIdeal.τ).loc Cert.AdAOutRefIdeal.main_arg3)
          ∧ r.2.mem ((c.tc : Thread Cert.AdAOutRefIdeal.nD Cert.AdAOutRefIdeal.τ).loc Cert.AdAOutRefIdeal.main_arg4) = m' ((c.tc : Thread Cert.AdAOutRefIdeal.nD Cert.AdAOutRefIdeal.τ).loc Cert.AdAOutRefIdeal.main_arg4))

def preserves_AdBIn_AdBInIdeal : Prop :=
  IdealRules.named_const.Statement Cert.AdBInIdeal.κ "inv_c1" .f32 0x3FC48605#32 ((8388608 / 5463681 : ℝ) : EReal)
  ∧ IdealRules.named_const.Statement Cert.AdBInIdeal.κ "inv_c2" .f32 0x42C8E6D3#32 ((268435456 / 2672307 : ℝ) : EReal)

def algebraic_AdBInIdeal_AdBInRefIdeal [hAdBInIdeal : Cert.AdBInIdeal.Facts] [hAdBInRefIdeal : Cert.AdBInRefIdeal.Facts] : Prop :=
  ∀ (m : (ℓ : Loc Cert.AdBInIdeal.nD Cert.AdBInIdeal.τ Cert.AdBInIdeal.sig) → Buf (Elt Ideal) ℓ) (g : Dev Cert.AdBInIdeal.nD → PrngReg)
    (m' : (ℓ : Loc Cert.AdBInRefIdeal.nD Cert.AdBInRefIdeal.τ Cert.AdBInRefIdeal.sig) → Buf (Elt Ideal) ℓ) (g' : Dev Cert.AdBInRefIdeal.nD → PrngReg), Pre_AdBInIdeal m →
    (∀ c : Dev Cert.AdBInIdeal.nD,
      m' ((c.tc : Thread Cert.AdBInRefIdeal.nD Cert.AdBInRefIdeal.τ).loc Cert.AdBInRefIdeal.main_arg0) = m ((c.tc : Thread Cert.AdBInIdeal.nD Cert.AdBInIdeal.τ).loc Cert.AdBInIdeal.main_arg0)
      ∧ m' ((c.tc : Thread Cert.AdBInRefIdeal.nD Cert.AdBInRefIdeal.τ).loc Cert.AdBInRefIdeal.main_arg1) = m ((c.tc : Thread Cert.AdBInIdeal.nD Cert.AdBInIdeal.τ).loc Cert.AdBInIdeal.main_arg1)
      ∧ m' ((c.tc : Thread Cert.AdBInRefIdeal.nD Cert.AdBInRefIdeal.τ).loc Cert.AdBInRefIdeal.main_arg2) = m ((c.tc : Thread Cert.AdBInIdeal.nD Cert.AdBInIdeal.τ).loc Cert.AdBInIdeal.main_arg2)
      ∧ m' ((c.tc : Thread Cert.AdBInRefIdeal.nD Cert.AdBInRefIdeal.τ).loc Cert.AdBInRefIdeal.main_arg3) = m ((c.tc : Thread Cert.AdBInIdeal.nD Cert.AdBInIdeal.τ).loc Cert.AdBInIdeal.main_arg3)
      ∧ m' ((c.tc : Thread Cert.AdBInRefIdeal.nD Cert.AdBInRefIdeal.τ).loc Cert.AdBInRefIdeal.main_arg4) = m ((c.tc : Thread Cert.AdBInIdeal.nD Cert.AdBInIdeal.τ).loc Cert.AdBInIdeal.main_arg4)) →
    ∃ (v0 : (c : Dev Cert.AdBInIdeal.nD) → Buf (Elt Ideal) ((c.tc : Thread Cert.AdBInIdeal.nD Cert.AdBInIdeal.τ).loc Cert.AdBInIdeal.main_v0_0)) (v1 : (c : Dev Cert.AdBInIdeal.nD) → Buf (Elt Ideal) ((c.tc : Thread Cert.AdBInIdeal.nD Cert.AdBInIdeal.τ).loc Cert.AdBInIdeal.main_v0_1)) (v2 : (c : Dev Cert.AdBInIdeal.nD) → Buf (Elt Ideal) ((c.tc : Thread Cert.AdBInIdeal.nD Cert.AdBInIdeal.τ).loc Cert.AdBInIdeal.main_v0_2)) (v3 : (c : Dev Cert.AdBInIdeal.nD) → Buf (Elt Ideal) ((c.tc : Thread Cert.AdBInIdeal.nD Cert.AdBInIdeal.τ).loc Cert.AdBInIdeal.main_v0_3)),
      θ_run (Cert.AdBInIdeal.defs (F := Ideal)) (onTc (τ := Cert.AdBInIdeal.τ) (Cert.AdBInIdeal.main (F := Ideal))) ⟨m, fun _ => 0, g⟩ (fun r => ∀ c : Dev Cert.AdBInIdeal.nD,
          r.2.mem ((c.tc : Thread Cert.AdBInIdeal.nD Cert.AdBInIdeal.τ).loc Cert.AdBInIdeal.main_v0_0) = v0 c
          ∧ r.2.mem ((c.tc : Thread Cert.AdBInIdeal.nD Cert.AdBInIdeal.τ).loc Cert.AdBInIdeal.main_v0_1) = v1 c
          ∧ r.2.mem ((c.tc : Thread Cert.AdBInIdeal.nD Cert.AdBInIdeal.τ).loc Cert.AdBInIdeal.main_v0_2) = v2 c
          ∧ r.2.mem ((c.tc : Thread Cert.AdBInIdeal.nD Cert.AdBInIdeal.τ).loc Cert.AdBInIdeal.main_v0_3) = v3 c
          ∧ r.2.mem ((c.tc : Thread Cert.AdBInIdeal.nD Cert.AdBInIdeal.τ).loc Cert.AdBInIdeal.main_arg0) = m ((c.tc : Thread Cert.AdBInIdeal.nD Cert.AdBInIdeal.τ).loc Cert.AdBInIdeal.main_arg0)
          ∧ r.2.mem ((c.tc : Thread Cert.AdBInIdeal.nD Cert.AdBInIdeal.τ).loc Cert.AdBInIdeal.main_arg1) = m ((c.tc : Thread Cert.AdBInIdeal.nD Cert.AdBInIdeal.τ).loc Cert.AdBInIdeal.main_arg1)
          ∧ r.2.mem ((c.tc : Thread Cert.AdBInIdeal.nD Cert.AdBInIdeal.τ).loc Cert.AdBInIdeal.main_arg2) = m ((c.tc : Thread Cert.AdBInIdeal.nD Cert.AdBInIdeal.τ).loc Cert.AdBInIdeal.main_arg2)
          ∧ r.2.mem ((c.tc : Thread Cert.AdBInIdeal.nD Cert.AdBInIdeal.τ).loc Cert.AdBInIdeal.main_arg3) = m ((c.tc : Thread Cert.AdBInIdeal.nD Cert.AdBInIdeal.τ).loc Cert.AdBInIdeal.main_arg3)
          ∧ r.2.mem ((c.tc : Thread Cert.AdBInIdeal.nD Cert.AdBInIdeal.τ).loc Cert.AdBInIdeal.main_arg4) = m ((c.tc : Thread Cert.AdBInIdeal.nD Cert.AdBInIdeal.τ).loc Cert.AdBInIdeal.main_arg4))
      ∧ θ_run (Cert.AdBInRefIdeal.defs (F := Ideal)) (onTc (τ := Cert.AdBInRefIdeal.τ) (Cert.AdBInRefIdeal.main (F := Ideal))) ⟨m', fun _ => 0, g'⟩ (fun r => ∀ c : Dev Cert.AdBInRefIdeal.nD,
          r.2.mem ((c.tc : Thread Cert.AdBInRefIdeal.nD Cert.AdBInRefIdeal.τ).loc Cert.AdBInRefIdeal.main_v2) = v0 c
          ∧ r.2.mem ((c.tc : Thread Cert.AdBInRefIdeal.nD Cert.AdBInRefIdeal.τ).loc Cert.AdBInRefIdeal.main_v26) = v1 c
          ∧ r.2.mem ((c.tc : Thread Cert.AdBInRefIdeal.nD Cert.AdBInRefIdeal.τ).loc Cert.AdBInRefIdeal.main_v7) = v2 c
          ∧ r.2.mem ((c.tc : Thread Cert.AdBInRefIdeal.nD Cert.AdBInRefIdeal.τ).loc Cert.AdBInRefIdeal.main_v13) = v3 c
          ∧ r.2.mem ((c.tc : Thread Cert.AdBInRefIdeal.nD Cert.AdBInRefIdeal.τ).loc Cert.AdBInRefIdeal.main_arg0) = m' ((c.tc : Thread Cert.AdBInRefIdeal.nD Cert.AdBInRefIdeal.τ).loc Cert.AdBInRefIdeal.main_arg0)
          ∧ r.2.mem ((c.tc : Thread Cert.AdBInRefIdeal.nD Cert.AdBInRefIdeal.τ).loc Cert.AdBInRefIdeal.main_arg1) = m' ((c.tc : Thread Cert.AdBInRefIdeal.nD Cert.AdBInRefIdeal.τ).loc Cert.AdBInRefIdeal.main_arg1)
          ∧ r.2.mem ((c.tc : Thread Cert.AdBInRefIdeal.nD Cert.AdBInRefIdeal.τ).loc Cert.AdBInRefIdeal.main_arg2) = m' ((c.tc : Thread Cert.AdBInRefIdeal.nD Cert.AdBInRefIdeal.τ).loc Cert.AdBInRefIdeal.main_arg2)
          ∧ r.2.mem ((c.tc : Thread Cert.AdBInRefIdeal.nD Cert.AdBInRefIdeal.τ).loc Cert.AdBInRefIdeal.main_arg3) = m' ((c.tc : Thread Cert.AdBInRefIdeal.nD Cert.AdBInRefIdeal.τ).loc Cert.AdBInRefIdeal.main_arg3)
          ∧ r.2.mem ((c.tc : Thread Cert.AdBInRefIdeal.nD Cert.AdBInRefIdeal.τ).loc Cert.AdBInRefIdeal.main_arg4) = m' ((c.tc : Thread Cert.AdBInRefIdeal.nD Cert.AdBInRefIdeal.τ).loc Cert.AdBInRefIdeal.main_arg4))

def preserves_AdBOut_AdBOutIdeal : Prop :=
  IdealRules.named_const.Statement Cert.AdBOutIdeal.κ "inv_c1" .f32 0x3FC48605#32 ((8388608 / 5463681 : ℝ) : EReal)
  ∧ IdealRules.named_const.Statement Cert.AdBOutIdeal.κ "inv_c2" .f32 0x42C8E6D3#32 ((268435456 / 2672307 : ℝ) : EReal)

def algebraic_AdBOutIdeal_AdBOutRefIdeal [hAdBOutIdeal : Cert.AdBOutIdeal.Facts] [hAdBOutRefIdeal : Cert.AdBOutRefIdeal.Facts] : Prop :=
  ∀ (m : (ℓ : Loc Cert.AdBOutIdeal.nD Cert.AdBOutIdeal.τ Cert.AdBOutIdeal.sig) → Buf (Elt Ideal) ℓ) (g : Dev Cert.AdBOutIdeal.nD → PrngReg)
    (m' : (ℓ : Loc Cert.AdBOutRefIdeal.nD Cert.AdBOutRefIdeal.τ Cert.AdBOutRefIdeal.sig) → Buf (Elt Ideal) ℓ) (g' : Dev Cert.AdBOutRefIdeal.nD → PrngReg), Pre_AdBOutIdeal m →
    (∀ c : Dev Cert.AdBOutIdeal.nD,
      m' ((c.tc : Thread Cert.AdBOutRefIdeal.nD Cert.AdBOutRefIdeal.τ).loc Cert.AdBOutRefIdeal.main_arg0) = m ((c.tc : Thread Cert.AdBOutIdeal.nD Cert.AdBOutIdeal.τ).loc Cert.AdBOutIdeal.main_arg0)
      ∧ m' ((c.tc : Thread Cert.AdBOutRefIdeal.nD Cert.AdBOutRefIdeal.τ).loc Cert.AdBOutRefIdeal.main_arg1) = m ((c.tc : Thread Cert.AdBOutIdeal.nD Cert.AdBOutIdeal.τ).loc Cert.AdBOutIdeal.main_arg1)
      ∧ m' ((c.tc : Thread Cert.AdBOutRefIdeal.nD Cert.AdBOutRefIdeal.τ).loc Cert.AdBOutRefIdeal.main_arg2) = m ((c.tc : Thread Cert.AdBOutIdeal.nD Cert.AdBOutIdeal.τ).loc Cert.AdBOutIdeal.main_arg2)
      ∧ m' ((c.tc : Thread Cert.AdBOutRefIdeal.nD Cert.AdBOutRefIdeal.τ).loc Cert.AdBOutRefIdeal.main_arg3) = m ((c.tc : Thread Cert.AdBOutIdeal.nD Cert.AdBOutIdeal.τ).loc Cert.AdBOutIdeal.main_arg3)
      ∧ m' ((c.tc : Thread Cert.AdBOutRefIdeal.nD Cert.AdBOutRefIdeal.τ).loc Cert.AdBOutRefIdeal.main_arg4) = m ((c.tc : Thread Cert.AdBOutIdeal.nD Cert.AdBOutIdeal.τ).loc Cert.AdBOutIdeal.main_arg4)) →
    ∃ (v0 : (c : Dev Cert.AdBOutIdeal.nD) → Buf (Elt Ideal) ((c.tc : Thread Cert.AdBOutIdeal.nD Cert.AdBOutIdeal.τ).loc Cert.AdBOutIdeal.main_v0_0)) (v1 : (c : Dev Cert.AdBOutIdeal.nD) → Buf (Elt Ideal) ((c.tc : Thread Cert.AdBOutIdeal.nD Cert.AdBOutIdeal.τ).loc Cert.AdBOutIdeal.main_v0_1)) (v2 : (c : Dev Cert.AdBOutIdeal.nD) → Buf (Elt Ideal) ((c.tc : Thread Cert.AdBOutIdeal.nD Cert.AdBOutIdeal.τ).loc Cert.AdBOutIdeal.main_v0_2)) (v3 : (c : Dev Cert.AdBOutIdeal.nD) → Buf (Elt Ideal) ((c.tc : Thread Cert.AdBOutIdeal.nD Cert.AdBOutIdeal.τ).loc Cert.AdBOutIdeal.main_v0_3)),
      θ_run (Cert.AdBOutIdeal.defs (F := Ideal)) (onTc (τ := Cert.AdBOutIdeal.τ) (Cert.AdBOutIdeal.main (F := Ideal))) ⟨m, fun _ => 0, g⟩ (fun r => ∀ c : Dev Cert.AdBOutIdeal.nD,
          r.2.mem ((c.tc : Thread Cert.AdBOutIdeal.nD Cert.AdBOutIdeal.τ).loc Cert.AdBOutIdeal.main_v0_0) = v0 c
          ∧ r.2.mem ((c.tc : Thread Cert.AdBOutIdeal.nD Cert.AdBOutIdeal.τ).loc Cert.AdBOutIdeal.main_v0_1) = v1 c
          ∧ r.2.mem ((c.tc : Thread Cert.AdBOutIdeal.nD Cert.AdBOutIdeal.τ).loc Cert.AdBOutIdeal.main_v0_2) = v2 c
          ∧ r.2.mem ((c.tc : Thread Cert.AdBOutIdeal.nD Cert.AdBOutIdeal.τ).loc Cert.AdBOutIdeal.main_v0_3) = v3 c
          ∧ r.2.mem ((c.tc : Thread Cert.AdBOutIdeal.nD Cert.AdBOutIdeal.τ).loc Cert.AdBOutIdeal.main_arg0) = m ((c.tc : Thread Cert.AdBOutIdeal.nD Cert.AdBOutIdeal.τ).loc Cert.AdBOutIdeal.main_arg0)
          ∧ r.2.mem ((c.tc : Thread Cert.AdBOutIdeal.nD Cert.AdBOutIdeal.τ).loc Cert.AdBOutIdeal.main_arg1) = m ((c.tc : Thread Cert.AdBOutIdeal.nD Cert.AdBOutIdeal.τ).loc Cert.AdBOutIdeal.main_arg1)
          ∧ r.2.mem ((c.tc : Thread Cert.AdBOutIdeal.nD Cert.AdBOutIdeal.τ).loc Cert.AdBOutIdeal.main_arg2) = m ((c.tc : Thread Cert.AdBOutIdeal.nD Cert.AdBOutIdeal.τ).loc Cert.AdBOutIdeal.main_arg2)
          ∧ r.2.mem ((c.tc : Thread Cert.AdBOutIdeal.nD Cert.AdBOutIdeal.τ).loc Cert.AdBOutIdeal.main_arg3) = m ((c.tc : Thread Cert.AdBOutIdeal.nD Cert.AdBOutIdeal.τ).loc Cert.AdBOutIdeal.main_arg3)
          ∧ r.2.mem ((c.tc : Thread Cert.AdBOutIdeal.nD Cert.AdBOutIdeal.τ).loc Cert.AdBOutIdeal.main_arg4) = m ((c.tc : Thread Cert.AdBOutIdeal.nD Cert.AdBOutIdeal.τ).loc Cert.AdBOutIdeal.main_arg4))
      ∧ θ_run (Cert.AdBOutRefIdeal.defs (F := Ideal)) (onTc (τ := Cert.AdBOutRefIdeal.τ) (Cert.AdBOutRefIdeal.main (F := Ideal))) ⟨m', fun _ => 0, g'⟩ (fun r => ∀ c : Dev Cert.AdBOutRefIdeal.nD,
          r.2.mem ((c.tc : Thread Cert.AdBOutRefIdeal.nD Cert.AdBOutRefIdeal.τ).loc Cert.AdBOutRefIdeal.main_v2) = v0 c
          ∧ r.2.mem ((c.tc : Thread Cert.AdBOutRefIdeal.nD Cert.AdBOutRefIdeal.τ).loc Cert.AdBOutRefIdeal.main_v26) = v1 c
          ∧ r.2.mem ((c.tc : Thread Cert.AdBOutRefIdeal.nD Cert.AdBOutRefIdeal.τ).loc Cert.AdBOutRefIdeal.main_v7) = v2 c
          ∧ r.2.mem ((c.tc : Thread Cert.AdBOutRefIdeal.nD Cert.AdBOutRefIdeal.τ).loc Cert.AdBOutRefIdeal.main_v13) = v3 c
          ∧ r.2.mem ((c.tc : Thread Cert.AdBOutRefIdeal.nD Cert.AdBOutRefIdeal.τ).loc Cert.AdBOutRefIdeal.main_arg0) = m' ((c.tc : Thread Cert.AdBOutRefIdeal.nD Cert.AdBOutRefIdeal.τ).loc Cert.AdBOutRefIdeal.main_arg0)
          ∧ r.2.mem ((c.tc : Thread Cert.AdBOutRefIdeal.nD Cert.AdBOutRefIdeal.τ).loc Cert.AdBOutRefIdeal.main_arg1) = m' ((c.tc : Thread Cert.AdBOutRefIdeal.nD Cert.AdBOutRefIdeal.τ).loc Cert.AdBOutRefIdeal.main_arg1)
          ∧ r.2.mem ((c.tc : Thread Cert.AdBOutRefIdeal.nD Cert.AdBOutRefIdeal.τ).loc Cert.AdBOutRefIdeal.main_arg2) = m' ((c.tc : Thread Cert.AdBOutRefIdeal.nD Cert.AdBOutRefIdeal.τ).loc Cert.AdBOutRefIdeal.main_arg2)
          ∧ r.2.mem ((c.tc : Thread Cert.AdBOutRefIdeal.nD Cert.AdBOutRefIdeal.τ).loc Cert.AdBOutRefIdeal.main_arg3) = m' ((c.tc : Thread Cert.AdBOutRefIdeal.nD Cert.AdBOutRefIdeal.τ).loc Cert.AdBOutRefIdeal.main_arg3)
          ∧ r.2.mem ((c.tc : Thread Cert.AdBOutRefIdeal.nD Cert.AdBOutRefIdeal.τ).loc Cert.AdBOutRefIdeal.main_arg4) = m' ((c.tc : Thread Cert.AdBOutRefIdeal.nD Cert.AdBOutRefIdeal.τ).loc Cert.AdBOutRefIdeal.main_arg4))

def preserves_AdFfnIn_AdFfnInIdeal : Prop :=
  IdealRules.named_const.Statement Cert.AdFfnInIdeal.κ "inv_c1" .f32 0x3FC48605#32 ((8388608 / 5463681 : ℝ) : EReal)
  ∧ IdealRules.named_const.Statement Cert.AdFfnInIdeal.κ "inv_c2" .f32 0x42C8E6D3#32 ((268435456 / 2672307 : ℝ) : EReal)

def algebraic_AdFfnInIdeal_AdFfnInRefIdeal [hAdFfnInIdeal : Cert.AdFfnInIdeal.Facts] [hAdFfnInRefIdeal : Cert.AdFfnInRefIdeal.Facts] : Prop :=
  ∀ (m : (ℓ : Loc Cert.AdFfnInIdeal.nD Cert.AdFfnInIdeal.τ Cert.AdFfnInIdeal.sig) → Buf (Elt Ideal) ℓ) (g : Dev Cert.AdFfnInIdeal.nD → PrngReg)
    (m' : (ℓ : Loc Cert.AdFfnInRefIdeal.nD Cert.AdFfnInRefIdeal.τ Cert.AdFfnInRefIdeal.sig) → Buf (Elt Ideal) ℓ) (g' : Dev Cert.AdFfnInRefIdeal.nD → PrngReg), Pre_AdFfnInIdeal m →
    (∀ c : Dev Cert.AdFfnInIdeal.nD,
      m' ((c.tc : Thread Cert.AdFfnInRefIdeal.nD Cert.AdFfnInRefIdeal.τ).loc Cert.AdFfnInRefIdeal.main_arg0) = m ((c.tc : Thread Cert.AdFfnInIdeal.nD Cert.AdFfnInIdeal.τ).loc Cert.AdFfnInIdeal.main_arg0)
      ∧ m' ((c.tc : Thread Cert.AdFfnInRefIdeal.nD Cert.AdFfnInRefIdeal.τ).loc Cert.AdFfnInRefIdeal.main_arg1) = m ((c.tc : Thread Cert.AdFfnInIdeal.nD Cert.AdFfnInIdeal.τ).loc Cert.AdFfnInIdeal.main_arg1)
      ∧ m' ((c.tc : Thread Cert.AdFfnInRefIdeal.nD Cert.AdFfnInRefIdeal.τ).loc Cert.AdFfnInRefIdeal.main_arg2) = m ((c.tc : Thread Cert.AdFfnInIdeal.nD Cert.AdFfnInIdeal.τ).loc Cert.AdFfnInIdeal.main_arg2)
      ∧ m' ((c.tc : Thread Cert.AdFfnInRefIdeal.nD Cert.AdFfnInRefIdeal.τ).loc Cert.AdFfnInRefIdeal.main_arg3) = m ((c.tc : Thread Cert.AdFfnInIdeal.nD Cert.AdFfnInIdeal.τ).loc Cert.AdFfnInIdeal.main_arg3)
      ∧ m' ((c.tc : Thread Cert.AdFfnInRefIdeal.nD Cert.AdFfnInRefIdeal.τ).loc Cert.AdFfnInRefIdeal.main_arg4) = m ((c.tc : Thread Cert.AdFfnInIdeal.nD Cert.AdFfnInIdeal.τ).loc Cert.AdFfnInIdeal.main_arg4)
      ∧ m' ((c.tc : Thread Cert.AdFfnInRefIdeal.nD Cert.AdFfnInRefIdeal.τ).loc Cert.AdFfnInRefIdeal.main_arg5) = m ((c.tc : Thread Cert.AdFfnInIdeal.nD Cert.AdFfnInIdeal.τ).loc Cert.AdFfnInIdeal.main_arg5)
      ∧ m' ((c.tc : Thread Cert.AdFfnInRefIdeal.nD Cert.AdFfnInRefIdeal.τ).loc Cert.AdFfnInRefIdeal.main_arg6) = m ((c.tc : Thread Cert.AdFfnInIdeal.nD Cert.AdFfnInIdeal.τ).loc Cert.AdFfnInIdeal.main_arg6)) →
    ∃ (v0 : (c : Dev Cert.AdFfnInIdeal.nD) → Buf (Elt Ideal) ((c.tc : Thread Cert.AdFfnInIdeal.nD Cert.AdFfnInIdeal.τ).loc Cert.AdFfnInIdeal.main_v1_0)) (v1 : (c : Dev Cert.AdFfnInIdeal.nD) → Buf (Elt Ideal) ((c.tc : Thread Cert.AdFfnInIdeal.nD Cert.AdFfnInIdeal.τ).loc Cert.AdFfnInIdeal.main_v1_1)) (v2 : (c : Dev Cert.AdFfnInIdeal.nD) → Buf (Elt Ideal) ((c.tc : Thread Cert.AdFfnInIdeal.nD Cert.AdFfnInIdeal.τ).loc Cert.AdFfnInIdeal.main_v1_2)) (v3 : (c : Dev Cert.AdFfnInIdeal.nD) → Buf (Elt Ideal) ((c.tc : Thread Cert.AdFfnInIdeal.nD Cert.AdFfnInIdeal.τ).loc Cert.AdFfnInIdeal.main_v1_3)),
      θ_run (Cert.AdFfnInIdeal.defs (F := Ideal)) (onTc (τ := Cert.AdFfnInIdeal.τ) (Cert.AdFfnInIdeal.main (F := Ideal))) ⟨m, fun _ => 0, g⟩ (fun r => ∀ c : Dev Cert.AdFfnInIdeal.nD,
          r.2.mem ((c.tc : Thread Cert.AdFfnInIdeal.nD Cert.AdFfnInIdeal.τ).loc Cert.AdFfnInIdeal.main_v1_0) = v0 c
          ∧ r.2.mem ((c.tc : Thread Cert.AdFfnInIdeal.nD Cert.AdFfnInIdeal.τ).loc Cert.AdFfnInIdeal.main_v1_1) = v1 c
          ∧ r.2.mem ((c.tc : Thread Cert.AdFfnInIdeal.nD Cert.AdFfnInIdeal.τ).loc Cert.AdFfnInIdeal.main_v1_2) = v2 c
          ∧ r.2.mem ((c.tc : Thread Cert.AdFfnInIdeal.nD Cert.AdFfnInIdeal.τ).loc Cert.AdFfnInIdeal.main_v1_3) = v3 c
          ∧ r.2.mem ((c.tc : Thread Cert.AdFfnInIdeal.nD Cert.AdFfnInIdeal.τ).loc Cert.AdFfnInIdeal.main_arg0) = m ((c.tc : Thread Cert.AdFfnInIdeal.nD Cert.AdFfnInIdeal.τ).loc Cert.AdFfnInIdeal.main_arg0)
          ∧ r.2.mem ((c.tc : Thread Cert.AdFfnInIdeal.nD Cert.AdFfnInIdeal.τ).loc Cert.AdFfnInIdeal.main_arg1) = m ((c.tc : Thread Cert.AdFfnInIdeal.nD Cert.AdFfnInIdeal.τ).loc Cert.AdFfnInIdeal.main_arg1)
          ∧ r.2.mem ((c.tc : Thread Cert.AdFfnInIdeal.nD Cert.AdFfnInIdeal.τ).loc Cert.AdFfnInIdeal.main_arg2) = m ((c.tc : Thread Cert.AdFfnInIdeal.nD Cert.AdFfnInIdeal.τ).loc Cert.AdFfnInIdeal.main_arg2)
          ∧ r.2.mem ((c.tc : Thread Cert.AdFfnInIdeal.nD Cert.AdFfnInIdeal.τ).loc Cert.AdFfnInIdeal.main_arg3) = m ((c.tc : Thread Cert.AdFfnInIdeal.nD Cert.AdFfnInIdeal.τ).loc Cert.AdFfnInIdeal.main_arg3)
          ∧ r.2.mem ((c.tc : Thread Cert.AdFfnInIdeal.nD Cert.AdFfnInIdeal.τ).loc Cert.AdFfnInIdeal.main_arg4) = m ((c.tc : Thread Cert.AdFfnInIdeal.nD Cert.AdFfnInIdeal.τ).loc Cert.AdFfnInIdeal.main_arg4)
          ∧ r.2.mem ((c.tc : Thread Cert.AdFfnInIdeal.nD Cert.AdFfnInIdeal.τ).loc Cert.AdFfnInIdeal.main_arg5) = m ((c.tc : Thread Cert.AdFfnInIdeal.nD Cert.AdFfnInIdeal.τ).loc Cert.AdFfnInIdeal.main_arg5)
          ∧ r.2.mem ((c.tc : Thread Cert.AdFfnInIdeal.nD Cert.AdFfnInIdeal.τ).loc Cert.AdFfnInIdeal.main_arg6) = m ((c.tc : Thread Cert.AdFfnInIdeal.nD Cert.AdFfnInIdeal.τ).loc Cert.AdFfnInIdeal.main_arg6))
      ∧ θ_run (Cert.AdFfnInRefIdeal.defs (F := Ideal)) (onTc (τ := Cert.AdFfnInRefIdeal.τ) (Cert.AdFfnInRefIdeal.main (F := Ideal))) ⟨m', fun _ => 0, g'⟩ (fun r => ∀ c : Dev Cert.AdFfnInRefIdeal.nD,
          r.2.mem ((c.tc : Thread Cert.AdFfnInRefIdeal.nD Cert.AdFfnInRefIdeal.τ).loc Cert.AdFfnInRefIdeal.main_v6) = v0 c
          ∧ r.2.mem ((c.tc : Thread Cert.AdFfnInRefIdeal.nD Cert.AdFfnInRefIdeal.τ).loc Cert.AdFfnInRefIdeal.main_v30) = v1 c
          ∧ r.2.mem ((c.tc : Thread Cert.AdFfnInRefIdeal.nD Cert.AdFfnInRefIdeal.τ).loc Cert.AdFfnInRefIdeal.main_v11) = v2 c
          ∧ r.2.mem ((c.tc : Thread Cert.AdFfnInRefIdeal.nD Cert.AdFfnInRefIdeal.τ).loc Cert.AdFfnInRefIdeal.main_v17) = v3 c
          ∧ r.2.mem ((c.tc : Thread Cert.AdFfnInRefIdeal.nD Cert.AdFfnInRefIdeal.τ).loc Cert.AdFfnInRefIdeal.main_arg0) = m' ((c.tc : Thread Cert.AdFfnInRefIdeal.nD Cert.AdFfnInRefIdeal.τ).loc Cert.AdFfnInRefIdeal.main_arg0)
          ∧ r.2.mem ((c.tc : Thread Cert.AdFfnInRefIdeal.nD Cert.AdFfnInRefIdeal.τ).loc Cert.AdFfnInRefIdeal.main_arg1) = m' ((c.tc : Thread Cert.AdFfnInRefIdeal.nD Cert.AdFfnInRefIdeal.τ).loc Cert.AdFfnInRefIdeal.main_arg1)
          ∧ r.2.mem ((c.tc : Thread Cert.AdFfnInRefIdeal.nD Cert.AdFfnInRefIdeal.τ).loc Cert.AdFfnInRefIdeal.main_arg2) = m' ((c.tc : Thread Cert.AdFfnInRefIdeal.nD Cert.AdFfnInRefIdeal.τ).loc Cert.AdFfnInRefIdeal.main_arg2)
          ∧ r.2.mem ((c.tc : Thread Cert.AdFfnInRefIdeal.nD Cert.AdFfnInRefIdeal.τ).loc Cert.AdFfnInRefIdeal.main_arg3) = m' ((c.tc : Thread Cert.AdFfnInRefIdeal.nD Cert.AdFfnInRefIdeal.τ).loc Cert.AdFfnInRefIdeal.main_arg3)
          ∧ r.2.mem ((c.tc : Thread Cert.AdFfnInRefIdeal.nD Cert.AdFfnInRefIdeal.τ).loc Cert.AdFfnInRefIdeal.main_arg4) = m' ((c.tc : Thread Cert.AdFfnInRefIdeal.nD Cert.AdFfnInRefIdeal.τ).loc Cert.AdFfnInRefIdeal.main_arg4)
          ∧ r.2.mem ((c.tc : Thread Cert.AdFfnInRefIdeal.nD Cert.AdFfnInRefIdeal.τ).loc Cert.AdFfnInRefIdeal.main_arg5) = m' ((c.tc : Thread Cert.AdFfnInRefIdeal.nD Cert.AdFfnInRefIdeal.τ).loc Cert.AdFfnInRefIdeal.main_arg5)
          ∧ r.2.mem ((c.tc : Thread Cert.AdFfnInRefIdeal.nD Cert.AdFfnInRefIdeal.τ).loc Cert.AdFfnInRefIdeal.main_arg6) = m' ((c.tc : Thread Cert.AdFfnInRefIdeal.nD Cert.AdFfnInRefIdeal.τ).loc Cert.AdFfnInRefIdeal.main_arg6))

def preserves_AdFfnOut_AdFfnOutIdeal : Prop :=
  IdealRules.named_const.Statement Cert.AdFfnOutIdeal.κ "inv_c1" .f32 0x3FC48605#32 ((8388608 / 5463681 : ℝ) : EReal)
  ∧ IdealRules.named_const.Statement Cert.AdFfnOutIdeal.κ "inv_c2" .f32 0x42C8E6D3#32 ((268435456 / 2672307 : ℝ) : EReal)

def algebraic_AdFfnOutIdeal_AdFfnOutRefIdeal [hAdFfnOutIdeal : Cert.AdFfnOutIdeal.Facts] [hAdFfnOutRefIdeal : Cert.AdFfnOutRefIdeal.Facts] : Prop :=
  ∀ (m : (ℓ : Loc Cert.AdFfnOutIdeal.nD Cert.AdFfnOutIdeal.τ Cert.AdFfnOutIdeal.sig) → Buf (Elt Ideal) ℓ) (g : Dev Cert.AdFfnOutIdeal.nD → PrngReg)
    (m' : (ℓ : Loc Cert.AdFfnOutRefIdeal.nD Cert.AdFfnOutRefIdeal.τ Cert.AdFfnOutRefIdeal.sig) → Buf (Elt Ideal) ℓ) (g' : Dev Cert.AdFfnOutRefIdeal.nD → PrngReg), Pre_AdFfnOutIdeal m →
    (∀ c : Dev Cert.AdFfnOutIdeal.nD,
      m' ((c.tc : Thread Cert.AdFfnOutRefIdeal.nD Cert.AdFfnOutRefIdeal.τ).loc Cert.AdFfnOutRefIdeal.main_arg0) = m ((c.tc : Thread Cert.AdFfnOutIdeal.nD Cert.AdFfnOutIdeal.τ).loc Cert.AdFfnOutIdeal.main_arg0)
      ∧ m' ((c.tc : Thread Cert.AdFfnOutRefIdeal.nD Cert.AdFfnOutRefIdeal.τ).loc Cert.AdFfnOutRefIdeal.main_arg1) = m ((c.tc : Thread Cert.AdFfnOutIdeal.nD Cert.AdFfnOutIdeal.τ).loc Cert.AdFfnOutIdeal.main_arg1)
      ∧ m' ((c.tc : Thread Cert.AdFfnOutRefIdeal.nD Cert.AdFfnOutRefIdeal.τ).loc Cert.AdFfnOutRefIdeal.main_arg2) = m ((c.tc : Thread Cert.AdFfnOutIdeal.nD Cert.AdFfnOutIdeal.τ).loc Cert.AdFfnOutIdeal.main_arg2)
      ∧ m' ((c.tc : Thread Cert.AdFfnOutRefIdeal.nD Cert.AdFfnOutRefIdeal.τ).loc Cert.AdFfnOutRefIdeal.main_arg3) = m ((c.tc : Thread Cert.AdFfnOutIdeal.nD Cert.AdFfnOutIdeal.τ).loc Cert.AdFfnOutIdeal.main_arg3)
      ∧ m' ((c.tc : Thread Cert.AdFfnOutRefIdeal.nD Cert.AdFfnOutRefIdeal.τ).loc Cert.AdFfnOutRefIdeal.main_arg4) = m ((c.tc : Thread Cert.AdFfnOutIdeal.nD Cert.AdFfnOutIdeal.τ).loc Cert.AdFfnOutIdeal.main_arg4)
      ∧ m' ((c.tc : Thread Cert.AdFfnOutRefIdeal.nD Cert.AdFfnOutRefIdeal.τ).loc Cert.AdFfnOutRefIdeal.main_arg5) = m ((c.tc : Thread Cert.AdFfnOutIdeal.nD Cert.AdFfnOutIdeal.τ).loc Cert.AdFfnOutIdeal.main_arg5)
      ∧ m' ((c.tc : Thread Cert.AdFfnOutRefIdeal.nD Cert.AdFfnOutRefIdeal.τ).loc Cert.AdFfnOutRefIdeal.main_arg6) = m ((c.tc : Thread Cert.AdFfnOutIdeal.nD Cert.AdFfnOutIdeal.τ).loc Cert.AdFfnOutIdeal.main_arg6)) →
    ∃ (v0 : (c : Dev Cert.AdFfnOutIdeal.nD) → Buf (Elt Ideal) ((c.tc : Thread Cert.AdFfnOutIdeal.nD Cert.AdFfnOutIdeal.τ).loc Cert.AdFfnOutIdeal.main_v1_0)) (v1 : (c : Dev Cert.AdFfnOutIdeal.nD) → Buf (Elt Ideal) ((c.tc : Thread Cert.AdFfnOutIdeal.nD Cert.AdFfnOutIdeal.τ).loc Cert.AdFfnOutIdeal.main_v1_1)) (v2 : (c : Dev Cert.AdFfnOutIdeal.nD) → Buf (Elt Ideal) ((c.tc : Thread Cert.AdFfnOutIdeal.nD Cert.AdFfnOutIdeal.τ).loc Cert.AdFfnOutIdeal.main_v1_2)) (v3 : (c : Dev Cert.AdFfnOutIdeal.nD) → Buf (Elt Ideal) ((c.tc : Thread Cert.AdFfnOutIdeal.nD Cert.AdFfnOutIdeal.τ).loc Cert.AdFfnOutIdeal.main_v1_3)),
      θ_run (Cert.AdFfnOutIdeal.defs (F := Ideal)) (onTc (τ := Cert.AdFfnOutIdeal.τ) (Cert.AdFfnOutIdeal.main (F := Ideal))) ⟨m, fun _ => 0, g⟩ (fun r => ∀ c : Dev Cert.AdFfnOutIdeal.nD,
          r.2.mem ((c.tc : Thread Cert.AdFfnOutIdeal.nD Cert.AdFfnOutIdeal.τ).loc Cert.AdFfnOutIdeal.main_v1_0) = v0 c
          ∧ r.2.mem ((c.tc : Thread Cert.AdFfnOutIdeal.nD Cert.AdFfnOutIdeal.τ).loc Cert.AdFfnOutIdeal.main_v1_1) = v1 c
          ∧ r.2.mem ((c.tc : Thread Cert.AdFfnOutIdeal.nD Cert.AdFfnOutIdeal.τ).loc Cert.AdFfnOutIdeal.main_v1_2) = v2 c
          ∧ r.2.mem ((c.tc : Thread Cert.AdFfnOutIdeal.nD Cert.AdFfnOutIdeal.τ).loc Cert.AdFfnOutIdeal.main_v1_3) = v3 c
          ∧ r.2.mem ((c.tc : Thread Cert.AdFfnOutIdeal.nD Cert.AdFfnOutIdeal.τ).loc Cert.AdFfnOutIdeal.main_arg0) = m ((c.tc : Thread Cert.AdFfnOutIdeal.nD Cert.AdFfnOutIdeal.τ).loc Cert.AdFfnOutIdeal.main_arg0)
          ∧ r.2.mem ((c.tc : Thread Cert.AdFfnOutIdeal.nD Cert.AdFfnOutIdeal.τ).loc Cert.AdFfnOutIdeal.main_arg1) = m ((c.tc : Thread Cert.AdFfnOutIdeal.nD Cert.AdFfnOutIdeal.τ).loc Cert.AdFfnOutIdeal.main_arg1)
          ∧ r.2.mem ((c.tc : Thread Cert.AdFfnOutIdeal.nD Cert.AdFfnOutIdeal.τ).loc Cert.AdFfnOutIdeal.main_arg2) = m ((c.tc : Thread Cert.AdFfnOutIdeal.nD Cert.AdFfnOutIdeal.τ).loc Cert.AdFfnOutIdeal.main_arg2)
          ∧ r.2.mem ((c.tc : Thread Cert.AdFfnOutIdeal.nD Cert.AdFfnOutIdeal.τ).loc Cert.AdFfnOutIdeal.main_arg3) = m ((c.tc : Thread Cert.AdFfnOutIdeal.nD Cert.AdFfnOutIdeal.τ).loc Cert.AdFfnOutIdeal.main_arg3)
          ∧ r.2.mem ((c.tc : Thread Cert.AdFfnOutIdeal.nD Cert.AdFfnOutIdeal.τ).loc Cert.AdFfnOutIdeal.main_arg4) = m ((c.tc : Thread Cert.AdFfnOutIdeal.nD Cert.AdFfnOutIdeal.τ).loc Cert.AdFfnOutIdeal.main_arg4)
          ∧ r.2.mem ((c.tc : Thread Cert.AdFfnOutIdeal.nD Cert.AdFfnOutIdeal.τ).loc Cert.AdFfnOutIdeal.main_arg5) = m ((c.tc : Thread Cert.AdFfnOutIdeal.nD Cert.AdFfnOutIdeal.τ).loc Cert.AdFfnOutIdeal.main_arg5)
          ∧ r.2.mem ((c.tc : Thread Cert.AdFfnOutIdeal.nD Cert.AdFfnOutIdeal.τ).loc Cert.AdFfnOutIdeal.main_arg6) = m ((c.tc : Thread Cert.AdFfnOutIdeal.nD Cert.AdFfnOutIdeal.τ).loc Cert.AdFfnOutIdeal.main_arg6))
      ∧ θ_run (Cert.AdFfnOutRefIdeal.defs (F := Ideal)) (onTc (τ := Cert.AdFfnOutRefIdeal.τ) (Cert.AdFfnOutRefIdeal.main (F := Ideal))) ⟨m', fun _ => 0, g'⟩ (fun r => ∀ c : Dev Cert.AdFfnOutRefIdeal.nD,
          r.2.mem ((c.tc : Thread Cert.AdFfnOutRefIdeal.nD Cert.AdFfnOutRefIdeal.τ).loc Cert.AdFfnOutRefIdeal.main_v6) = v0 c
          ∧ r.2.mem ((c.tc : Thread Cert.AdFfnOutRefIdeal.nD Cert.AdFfnOutRefIdeal.τ).loc Cert.AdFfnOutRefIdeal.main_v30) = v1 c
          ∧ r.2.mem ((c.tc : Thread Cert.AdFfnOutRefIdeal.nD Cert.AdFfnOutRefIdeal.τ).loc Cert.AdFfnOutRefIdeal.main_v11) = v2 c
          ∧ r.2.mem ((c.tc : Thread Cert.AdFfnOutRefIdeal.nD Cert.AdFfnOutRefIdeal.τ).loc Cert.AdFfnOutRefIdeal.main_v17) = v3 c
          ∧ r.2.mem ((c.tc : Thread Cert.AdFfnOutRefIdeal.nD Cert.AdFfnOutRefIdeal.τ).loc Cert.AdFfnOutRefIdeal.main_arg0) = m' ((c.tc : Thread Cert.AdFfnOutRefIdeal.nD Cert.AdFfnOutRefIdeal.τ).loc Cert.AdFfnOutRefIdeal.main_arg0)
          ∧ r.2.mem ((c.tc : Thread Cert.AdFfnOutRefIdeal.nD Cert.AdFfnOutRefIdeal.τ).loc Cert.AdFfnOutRefIdeal.main_arg1) = m' ((c.tc : Thread Cert.AdFfnOutRefIdeal.nD Cert.AdFfnOutRefIdeal.τ).loc Cert.AdFfnOutRefIdeal.main_arg1)
          ∧ r.2.mem ((c.tc : Thread Cert.AdFfnOutRefIdeal.nD Cert.AdFfnOutRefIdeal.τ).loc Cert.AdFfnOutRefIdeal.main_arg2) = m' ((c.tc : Thread Cert.AdFfnOutRefIdeal.nD Cert.AdFfnOutRefIdeal.τ).loc Cert.AdFfnOutRefIdeal.main_arg2)
          ∧ r.2.mem ((c.tc : Thread Cert.AdFfnOutRefIdeal.nD Cert.AdFfnOutRefIdeal.τ).loc Cert.AdFfnOutRefIdeal.main_arg3) = m' ((c.tc : Thread Cert.AdFfnOutRefIdeal.nD Cert.AdFfnOutRefIdeal.τ).loc Cert.AdFfnOutRefIdeal.main_arg3)
          ∧ r.2.mem ((c.tc : Thread Cert.AdFfnOutRefIdeal.nD Cert.AdFfnOutRefIdeal.τ).loc Cert.AdFfnOutRefIdeal.main_arg4) = m' ((c.tc : Thread Cert.AdFfnOutRefIdeal.nD Cert.AdFfnOutRefIdeal.τ).loc Cert.AdFfnOutRefIdeal.main_arg4)
          ∧ r.2.mem ((c.tc : Thread Cert.AdFfnOutRefIdeal.nD Cert.AdFfnOutRefIdeal.τ).loc Cert.AdFfnOutRefIdeal.main_arg5) = m' ((c.tc : Thread Cert.AdFfnOutRefIdeal.nD Cert.AdFfnOutRefIdeal.τ).loc Cert.AdFfnOutRefIdeal.main_arg5)
          ∧ r.2.mem ((c.tc : Thread Cert.AdFfnOutRefIdeal.nD Cert.AdFfnOutRefIdeal.τ).loc Cert.AdFfnOutRefIdeal.main_arg6) = m' ((c.tc : Thread Cert.AdFfnOutRefIdeal.nD Cert.AdFfnOutRefIdeal.τ).loc Cert.AdFfnOutRefIdeal.main_arg6))

def preserves_AdSmall_AdSmallIdeal : Prop :=
  IdealRules.named_const.Statement Cert.AdSmallIdeal.κ "inv_c1" .f32 0x3FC48605#32 ((8388608 / 5463681 : ℝ) : EReal)
  ∧ IdealRules.named_const.Statement Cert.AdSmallIdeal.κ "inv_c2" .f32 0x42C8E6D3#32 ((268435456 / 2672307 : ℝ) : EReal)

def algebraic_AdSmallIdeal_AdSmallRefIdeal [hAdSmallIdeal : Cert.AdSmallIdeal.Facts] [hAdSmallRefIdeal : Cert.AdSmallRefIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg)
    (m' : (ℓ : Loc Cert.AdSmallRefIdeal.nD Cert.AdSmallRefIdeal.τ Cert.AdSmallRefIdeal.sig) → Buf (Elt Ideal) ℓ) (g' : Dev Cert.AdSmallRefIdeal.nD → PrngReg), Pre_AdSmallIdeal m →
    (∀ c : Dev Cert.AdSmallIdeal.nD,
      m' ((c.tc : Thread Cert.AdSmallRefIdeal.nD Cert.AdSmallRefIdeal.τ).loc Cert.AdSmallRefIdeal.main_arg0) = m ((c.tc : Thread Cert.AdSmallIdeal.nD Cert.AdSmallIdeal.τ).loc Cert.AdSmallIdeal.main_arg0)
      ∧ m' ((c.tc : Thread Cert.AdSmallRefIdeal.nD Cert.AdSmallRefIdeal.τ).loc Cert.AdSmallRefIdeal.main_arg1) = m ((c.tc : Thread Cert.AdSmallIdeal.nD Cert.AdSmallIdeal.τ).loc Cert.AdSmallIdeal.main_arg1)
      ∧ m' ((c.tc : Thread Cert.AdSmallRefIdeal.nD Cert.AdSmallRefIdeal.τ).loc Cert.AdSmallRefIdeal.main_arg2) = m ((c.tc : Thread Cert.AdSmallIdeal.nD Cert.AdSmallIdeal.τ).loc Cert.AdSmallIdeal.main_arg2)
      ∧ m' ((c.tc : Thread Cert.AdSmallRefIdeal.nD Cert.AdSmallRefIdeal.τ).loc Cert.AdSmallRefIdeal.main_arg3) = m ((c.tc : Thread Cert.AdSmallIdeal.nD Cert.AdSmallIdeal.τ).loc Cert.AdSmallIdeal.main_arg3)
      ∧ m' ((c.tc : Thread Cert.AdSmallRefIdeal.nD Cert.AdSmallRefIdeal.τ).loc Cert.AdSmallRefIdeal.main_arg4) = m ((c.tc : Thread Cert.AdSmallIdeal.nD Cert.AdSmallIdeal.τ).loc Cert.AdSmallIdeal.main_arg4)
      ∧ m' ((c.tc : Thread Cert.AdSmallRefIdeal.nD Cert.AdSmallRefIdeal.τ).loc Cert.AdSmallRefIdeal.main_arg5) = m ((c.tc : Thread Cert.AdSmallIdeal.nD Cert.AdSmallIdeal.τ).loc Cert.AdSmallIdeal.main_arg5)
      ∧ m' ((c.tc : Thread Cert.AdSmallRefIdeal.nD Cert.AdSmallRefIdeal.τ).loc Cert.AdSmallRefIdeal.main_arg6) = m ((c.tc : Thread Cert.AdSmallIdeal.nD Cert.AdSmallIdeal.τ).loc Cert.AdSmallIdeal.main_arg6)
      ∧ m' ((c.tc : Thread Cert.AdSmallRefIdeal.nD Cert.AdSmallRefIdeal.τ).loc Cert.AdSmallRefIdeal.main_arg7) = m ((c.tc : Thread Cert.AdSmallIdeal.nD Cert.AdSmallIdeal.τ).loc Cert.AdSmallIdeal.main_arg7)
      ∧ m' ((c.tc : Thread Cert.AdSmallRefIdeal.nD Cert.AdSmallRefIdeal.τ).loc Cert.AdSmallRefIdeal.main_arg8) = m ((c.tc : Thread Cert.AdSmallIdeal.nD Cert.AdSmallIdeal.τ).loc Cert.AdSmallIdeal.main_arg8)
      ∧ m' ((c.tc : Thread Cert.AdSmallRefIdeal.nD Cert.AdSmallRefIdeal.τ).loc Cert.AdSmallRefIdeal.main_arg9) = m ((c.tc : Thread Cert.AdSmallIdeal.nD Cert.AdSmallIdeal.τ).loc Cert.AdSmallIdeal.main_arg9)
      ∧ m' ((c.tc : Thread Cert.AdSmallRefIdeal.nD Cert.AdSmallRefIdeal.τ).loc Cert.AdSmallRefIdeal.main_arg10) = m ((c.tc : Thread Cert.AdSmallIdeal.nD Cert.AdSmallIdeal.τ).loc Cert.AdSmallIdeal.main_arg10)
      ∧ m' ((c.tc : Thread Cert.AdSmallRefIdeal.nD Cert.AdSmallRefIdeal.τ).loc Cert.AdSmallRefIdeal.main_arg11) = m ((c.tc : Thread Cert.AdSmallIdeal.nD Cert.AdSmallIdeal.τ).loc Cert.AdSmallIdeal.main_arg11)
      ∧ m' ((c.tc : Thread Cert.AdSmallRefIdeal.nD Cert.AdSmallRefIdeal.τ).loc Cert.AdSmallRefIdeal.main_arg12) = m ((c.tc : Thread Cert.AdSmallIdeal.nD Cert.AdSmallIdeal.τ).loc Cert.AdSmallIdeal.main_arg12)
      ∧ m' ((c.tc : Thread Cert.AdSmallRefIdeal.nD Cert.AdSmallRefIdeal.τ).loc Cert.AdSmallRefIdeal.main_arg13) = m ((c.tc : Thread Cert.AdSmallIdeal.nD Cert.AdSmallIdeal.τ).loc Cert.AdSmallIdeal.main_arg13)) →
    ∃ (v0 : (c : Dev Cert.AdSmallIdeal.nD) → Buf (Elt Ideal) ((c.tc : Thread Cert.AdSmallIdeal.nD Cert.AdSmallIdeal.τ).loc Cert.AdSmallIdeal.main_v26)) (v1 : (c : Dev Cert.AdSmallIdeal.nD) → Buf (Elt Ideal) ((c.tc : Thread Cert.AdSmallIdeal.nD Cert.AdSmallIdeal.τ).loc Cert.AdSmallIdeal.main_v32)) (v2 : (c : Dev Cert.AdSmallIdeal.nD) → Buf (Elt Ideal) ((c.tc : Thread Cert.AdSmallIdeal.nD Cert.AdSmallIdeal.τ).loc Cert.AdSmallIdeal.main_v38)) (v3 : (c : Dev Cert.AdSmallIdeal.nD) → Buf (Elt Ideal) ((c.tc : Thread Cert.AdSmallIdeal.nD Cert.AdSmallIdeal.τ).loc Cert.AdSmallIdeal.main_v44)) (v4 : (c : Dev Cert.AdSmallIdeal.nD) → Buf (Elt Ideal) ((c.tc : Thread Cert.AdSmallIdeal.nD Cert.AdSmallIdeal.τ).loc Cert.AdSmallIdeal.main_v27)) (v5 : (c : Dev Cert.AdSmallIdeal.nD) → Buf (Elt Ideal) ((c.tc : Thread Cert.AdSmallIdeal.nD Cert.AdSmallIdeal.τ).loc Cert.AdSmallIdeal.main_v33)) (v6 : (c : Dev Cert.AdSmallIdeal.nD) → Buf (Elt Ideal) ((c.tc : Thread Cert.AdSmallIdeal.nD Cert.AdSmallIdeal.τ).loc Cert.AdSmallIdeal.main_v39)) (v7 : (c : Dev Cert.AdSmallIdeal.nD) → Buf (Elt Ideal) ((c.tc : Thread Cert.AdSmallIdeal.nD Cert.AdSmallIdeal.τ).loc Cert.AdSmallIdeal.main_v45)) (v8 : (c : Dev Cert.AdSmallIdeal.nD) → Buf (Elt Ideal) ((c.tc : Thread Cert.AdSmallIdeal.nD Cert.AdSmallIdeal.τ).loc Cert.AdSmallIdeal.main_v28)) (v9 : (c : Dev Cert.AdSmallIdeal.nD) → Buf (Elt Ideal) ((c.tc : Thread Cert.AdSmallIdeal.nD Cert.AdSmallIdeal.τ).loc Cert.AdSmallIdeal.main_v34)) (v10 : (c : Dev Cert.AdSmallIdeal.nD) → Buf (Elt Ideal) ((c.tc : Thread Cert.AdSmallIdeal.nD Cert.AdSmallIdeal.τ).loc Cert.AdSmallIdeal.main_v40)) (v11 : (c : Dev Cert.AdSmallIdeal.nD) → Buf (Elt Ideal) ((c.tc : Thread Cert.AdSmallIdeal.nD Cert.AdSmallIdeal.τ).loc Cert.AdSmallIdeal.main_v46)) (v12 : (c : Dev Cert.AdSmallIdeal.nD) → Buf (Elt Ideal) ((c.tc : Thread Cert.AdSmallIdeal.nD Cert.AdSmallIdeal.τ).loc Cert.AdSmallIdeal.main_v30)) (v13 : (c : Dev Cert.AdSmallIdeal.nD) → Buf (Elt Ideal) ((c.tc : Thread Cert.AdSmallIdeal.nD Cert.AdSmallIdeal.τ).loc Cert.AdSmallIdeal.main_v36)) (v14 : (c : Dev Cert.AdSmallIdeal.nD) → Buf (Elt Ideal) ((c.tc : Thread Cert.AdSmallIdeal.nD Cert.AdSmallIdeal.τ).loc Cert.AdSmallIdeal.main_v42)) (v15 : (c : Dev Cert.AdSmallIdeal.nD) → Buf (Elt Ideal) ((c.tc : Thread Cert.AdSmallIdeal.nD Cert.AdSmallIdeal.τ).loc Cert.AdSmallIdeal.main_v48)),
      θ_run (Cert.AdSmallIdeal.defs (F := Ideal)) (onTc (τ := Cert.AdSmallIdeal.τ) (Cert.AdSmallIdeal.main (F := Ideal))) ⟨m, fun _ => 0, g⟩ (fun r => ∀ c : Dev Cert.AdSmallIdeal.nD,
          r.2.mem ((c.tc : Thread Cert.AdSmallIdeal.nD Cert.AdSmallIdeal.τ).loc Cert.AdSmallIdeal.main_v26) = v0 c
          ∧ r.2.mem ((c.tc : Thread Cert.AdSmallIdeal.nD Cert.AdSmallIdeal.τ).loc Cert.AdSmallIdeal.main_v32) = v1 c
          ∧ r.2.mem ((c.tc : Thread Cert.AdSmallIdeal.nD Cert.AdSmallIdeal.τ).loc Cert.AdSmallIdeal.main_v38) = v2 c
          ∧ r.2.mem ((c.tc : Thread Cert.AdSmallIdeal.nD Cert.AdSmallIdeal.τ).loc Cert.AdSmallIdeal.main_v44) = v3 c
          ∧ r.2.mem ((c.tc : Thread Cert.AdSmallIdeal.nD Cert.AdSmallIdeal.τ).loc Cert.AdSmallIdeal.main_v27) = v4 c
          ∧ r.2.mem ((c.tc : Thread Cert.AdSmallIdeal.nD Cert.AdSmallIdeal.τ).loc Cert.AdSmallIdeal.main_v33) = v5 c
          ∧ r.2.mem ((c.tc : Thread Cert.AdSmallIdeal.nD Cert.AdSmallIdeal.τ).loc Cert.AdSmallIdeal.main_v39) = v6 c
          ∧ r.2.mem ((c.tc : Thread Cert.AdSmallIdeal.nD Cert.AdSmallIdeal.τ).loc Cert.AdSmallIdeal.main_v45) = v7 c
          ∧ r.2.mem ((c.tc : Thread Cert.AdSmallIdeal.nD Cert.AdSmallIdeal.τ).loc Cert.AdSmallIdeal.main_v28) = v8 c
          ∧ r.2.mem ((c.tc : Thread Cert.AdSmallIdeal.nD Cert.AdSmallIdeal.τ).loc Cert.AdSmallIdeal.main_v34) = v9 c
          ∧ r.2.mem ((c.tc : Thread Cert.AdSmallIdeal.nD Cert.AdSmallIdeal.τ).loc Cert.AdSmallIdeal.main_v40) = v10 c
          ∧ r.2.mem ((c.tc : Thread Cert.AdSmallIdeal.nD Cert.AdSmallIdeal.τ).loc Cert.AdSmallIdeal.main_v46) = v11 c
          ∧ r.2.mem ((c.tc : Thread Cert.AdSmallIdeal.nD Cert.AdSmallIdeal.τ).loc Cert.AdSmallIdeal.main_v30) = v12 c
          ∧ r.2.mem ((c.tc : Thread Cert.AdSmallIdeal.nD Cert.AdSmallIdeal.τ).loc Cert.AdSmallIdeal.main_v36) = v13 c
          ∧ r.2.mem ((c.tc : Thread Cert.AdSmallIdeal.nD Cert.AdSmallIdeal.τ).loc Cert.AdSmallIdeal.main_v42) = v14 c
          ∧ r.2.mem ((c.tc : Thread Cert.AdSmallIdeal.nD Cert.AdSmallIdeal.τ).loc Cert.AdSmallIdeal.main_v48) = v15 c
          ∧ r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
          ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
          ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
          ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3)
          ∧ r.2.mem ((c.tc : Thread Cert.AdSmallIdeal.nD Cert.AdSmallIdeal.τ).loc Cert.AdSmallIdeal.main_arg4) = m ((c.tc : Thread Cert.AdSmallIdeal.nD Cert.AdSmallIdeal.τ).loc Cert.AdSmallIdeal.main_arg4)
          ∧ r.2.mem ((c.tc : Thread Cert.AdSmallIdeal.nD Cert.AdSmallIdeal.τ).loc Cert.AdSmallIdeal.main_arg5) = m ((c.tc : Thread Cert.AdSmallIdeal.nD Cert.AdSmallIdeal.τ).loc Cert.AdSmallIdeal.main_arg5)
          ∧ r.2.mem ((c.tc : Thread Cert.AdSmallIdeal.nD Cert.AdSmallIdeal.τ).loc Cert.AdSmallIdeal.main_arg6) = m ((c.tc : Thread Cert.AdSmallIdeal.nD Cert.AdSmallIdeal.τ).loc Cert.AdSmallIdeal.main_arg6)
          ∧ r.2.mem ((c.tc : Thread Cert.AdSmallIdeal.nD Cert.AdSmallIdeal.τ).loc Cert.AdSmallIdeal.main_arg7) = m ((c.tc : Thread Cert.AdSmallIdeal.nD Cert.AdSmallIdeal.τ).loc Cert.AdSmallIdeal.main_arg7)
          ∧ r.2.mem ((c.tc : Thread Cert.AdSmallIdeal.nD Cert.AdSmallIdeal.τ).loc Cert.AdSmallIdeal.main_arg8) = m ((c.tc : Thread Cert.AdSmallIdeal.nD Cert.AdSmallIdeal.τ).loc Cert.AdSmallIdeal.main_arg8)
          ∧ r.2.mem ((c.tc : Thread Cert.AdSmallIdeal.nD Cert.AdSmallIdeal.τ).loc Cert.AdSmallIdeal.main_arg9) = m ((c.tc : Thread Cert.AdSmallIdeal.nD Cert.AdSmallIdeal.τ).loc Cert.AdSmallIdeal.main_arg9)
          ∧ r.2.mem ((c.tc : Thread Cert.AdSmallIdeal.nD Cert.AdSmallIdeal.τ).loc Cert.AdSmallIdeal.main_arg10) = m ((c.tc : Thread Cert.AdSmallIdeal.nD Cert.AdSmallIdeal.τ).loc Cert.AdSmallIdeal.main_arg10)
          ∧ r.2.mem ((c.tc : Thread Cert.AdSmallIdeal.nD Cert.AdSmallIdeal.τ).loc Cert.AdSmallIdeal.main_arg11) = m ((c.tc : Thread Cert.AdSmallIdeal.nD Cert.AdSmallIdeal.τ).loc Cert.AdSmallIdeal.main_arg11)
          ∧ r.2.mem ((c.tc : Thread Cert.AdSmallIdeal.nD Cert.AdSmallIdeal.τ).loc Cert.AdSmallIdeal.main_arg12) = m ((c.tc : Thread Cert.AdSmallIdeal.nD Cert.AdSmallIdeal.τ).loc Cert.AdSmallIdeal.main_arg12)
          ∧ r.2.mem ((c.tc : Thread Cert.AdSmallIdeal.nD Cert.AdSmallIdeal.τ).loc Cert.AdSmallIdeal.main_arg13) = m ((c.tc : Thread Cert.AdSmallIdeal.nD Cert.AdSmallIdeal.τ).loc Cert.AdSmallIdeal.main_arg13))
      ∧ θ_run (Cert.AdSmallRefIdeal.defs (F := Ideal)) (onTc (τ := Cert.AdSmallRefIdeal.τ) (Cert.AdSmallRefIdeal.main (F := Ideal))) ⟨m', fun _ => 0, g'⟩ (fun r => ∀ c : Dev Cert.AdSmallRefIdeal.nD,
          r.2.mem ((c.tc : Thread Cert.AdSmallRefIdeal.nD Cert.AdSmallRefIdeal.τ).loc Cert.AdSmallRefIdeal.main_v3) = v0 c
          ∧ r.2.mem ((c.tc : Thread Cert.AdSmallRefIdeal.nD Cert.AdSmallRefIdeal.τ).loc Cert.AdSmallRefIdeal.main_v27) = v1 c
          ∧ r.2.mem ((c.tc : Thread Cert.AdSmallRefIdeal.nD Cert.AdSmallRefIdeal.τ).loc Cert.AdSmallRefIdeal.main_v8) = v2 c
          ∧ r.2.mem ((c.tc : Thread Cert.AdSmallRefIdeal.nD Cert.AdSmallRefIdeal.τ).loc Cert.AdSmallRefIdeal.main_v14) = v3 c
          ∧ r.2.mem ((c.tc : Thread Cert.AdSmallRefIdeal.nD Cert.AdSmallRefIdeal.τ).loc Cert.AdSmallRefIdeal.main_v28) = v4 c
          ∧ r.2.mem ((c.tc : Thread Cert.AdSmallRefIdeal.nD Cert.AdSmallRefIdeal.τ).loc Cert.AdSmallRefIdeal.main_v52) = v5 c
          ∧ r.2.mem ((c.tc : Thread Cert.AdSmallRefIdeal.nD Cert.AdSmallRefIdeal.τ).loc Cert.AdSmallRefIdeal.main_v33) = v6 c
          ∧ r.2.mem ((c.tc : Thread Cert.AdSmallRefIdeal.nD Cert.AdSmallRefIdeal.τ).loc Cert.AdSmallRefIdeal.main_v39) = v7 c
          ∧ r.2.mem ((c.tc : Thread Cert.AdSmallRefIdeal.nD Cert.AdSmallRefIdeal.τ).loc Cert.AdSmallRefIdeal.main_v53) = v8 c
          ∧ r.2.mem ((c.tc : Thread Cert.AdSmallRefIdeal.nD Cert.AdSmallRefIdeal.τ).loc Cert.AdSmallRefIdeal.main_v77) = v9 c
          ∧ r.2.mem ((c.tc : Thread Cert.AdSmallRefIdeal.nD Cert.AdSmallRefIdeal.τ).loc Cert.AdSmallRefIdeal.main_v58) = v10 c
          ∧ r.2.mem ((c.tc : Thread Cert.AdSmallRefIdeal.nD Cert.AdSmallRefIdeal.τ).loc Cert.AdSmallRefIdeal.main_v64) = v11 c
          ∧ r.2.mem ((c.tc : Thread Cert.AdSmallRefIdeal.nD Cert.AdSmallRefIdeal.τ).loc Cert.AdSmallRefIdeal.main_v79) = v12 c
          ∧ r.2.mem ((c.tc : Thread Cert.AdSmallRefIdeal.nD Cert.AdSmallRefIdeal.τ).loc Cert.AdSmallRefIdeal.main_v103) = v13 c
          ∧ r.2.mem ((c.tc : Thread Cert.AdSmallRefIdeal.nD Cert.AdSmallRefIdeal.τ).loc Cert.AdSmallRefIdeal.main_v84) = v14 c
          ∧ r.2.mem ((c.tc : Thread Cert.AdSmallRefIdeal.nD Cert.AdSmallRefIdeal.τ).loc Cert.AdSmallRefIdeal.main_v90) = v15 c
          ∧ r.2.mem ((c.tc : Thread Cert.AdSmallRefIdeal.nD Cert.AdSmallRefIdeal.τ).loc Cert.AdSmallRefIdeal.main_arg0) = m' ((c.tc : Thread Cert.AdSmallRefIdeal.nD Cert.AdSmallRefIdeal.τ).loc Cert.AdSmallRefIdeal.main_arg0)
          ∧ r.2.mem ((c.tc : Thread Cert.AdSmallRefIdeal.nD Cert.AdSmallRefIdeal.τ).loc Cert.AdSmallRefIdeal.main_arg1) = m' ((c.tc : Thread Cert.AdSmallRefIdeal.nD Cert.AdSmallRefIdeal.τ).loc Cert.AdSmallRefIdeal.main_arg1)
          ∧ r.2.mem ((c.tc : Thread Cert.AdSmallRefIdeal.nD Cert.AdSmallRefIdeal.τ).loc Cert.AdSmallRefIdeal.main_arg2) = m' ((c.tc : Thread Cert.AdSmallRefIdeal.nD Cert.AdSmallRefIdeal.τ).loc Cert.AdSmallRefIdeal.main_arg2)
          ∧ r.2.mem ((c.tc : Thread Cert.AdSmallRefIdeal.nD Cert.AdSmallRefIdeal.τ).loc Cert.AdSmallRefIdeal.main_arg3) = m' ((c.tc : Thread Cert.AdSmallRefIdeal.nD Cert.AdSmallRefIdeal.τ).loc Cert.AdSmallRefIdeal.main_arg3)
          ∧ r.2.mem ((c.tc : Thread Cert.AdSmallRefIdeal.nD Cert.AdSmallRefIdeal.τ).loc Cert.AdSmallRefIdeal.main_arg4) = m' ((c.tc : Thread Cert.AdSmallRefIdeal.nD Cert.AdSmallRefIdeal.τ).loc Cert.AdSmallRefIdeal.main_arg4)
          ∧ r.2.mem ((c.tc : Thread Cert.AdSmallRefIdeal.nD Cert.AdSmallRefIdeal.τ).loc Cert.AdSmallRefIdeal.main_arg5) = m' ((c.tc : Thread Cert.AdSmallRefIdeal.nD Cert.AdSmallRefIdeal.τ).loc Cert.AdSmallRefIdeal.main_arg5)
          ∧ r.2.mem ((c.tc : Thread Cert.AdSmallRefIdeal.nD Cert.AdSmallRefIdeal.τ).loc Cert.AdSmallRefIdeal.main_arg6) = m' ((c.tc : Thread Cert.AdSmallRefIdeal.nD Cert.AdSmallRefIdeal.τ).loc Cert.AdSmallRefIdeal.main_arg6)
          ∧ r.2.mem ((c.tc : Thread Cert.AdSmallRefIdeal.nD Cert.AdSmallRefIdeal.τ).loc Cert.AdSmallRefIdeal.main_arg7) = m' ((c.tc : Thread Cert.AdSmallRefIdeal.nD Cert.AdSmallRefIdeal.τ).loc Cert.AdSmallRefIdeal.main_arg7)
          ∧ r.2.mem ((c.tc : Thread Cert.AdSmallRefIdeal.nD Cert.AdSmallRefIdeal.τ).loc Cert.AdSmallRefIdeal.main_arg8) = m' ((c.tc : Thread Cert.AdSmallRefIdeal.nD Cert.AdSmallRefIdeal.τ).loc Cert.AdSmallRefIdeal.main_arg8)
          ∧ r.2.mem ((c.tc : Thread Cert.AdSmallRefIdeal.nD Cert.AdSmallRefIdeal.τ).loc Cert.AdSmallRefIdeal.main_arg9) = m' ((c.tc : Thread Cert.AdSmallRefIdeal.nD Cert.AdSmallRefIdeal.τ).loc Cert.AdSmallRefIdeal.main_arg9)
          ∧ r.2.mem ((c.tc : Thread Cert.AdSmallRefIdeal.nD Cert.AdSmallRefIdeal.τ).loc Cert.AdSmallRefIdeal.main_arg10) = m' ((c.tc : Thread Cert.AdSmallRefIdeal.nD Cert.AdSmallRefIdeal.τ).loc Cert.AdSmallRefIdeal.main_arg10)
          ∧ r.2.mem ((c.tc : Thread Cert.AdSmallRefIdeal.nD Cert.AdSmallRefIdeal.τ).loc Cert.AdSmallRefIdeal.main_arg11) = m' ((c.tc : Thread Cert.AdSmallRefIdeal.nD Cert.AdSmallRefIdeal.τ).loc Cert.AdSmallRefIdeal.main_arg11)
          ∧ r.2.mem ((c.tc : Thread Cert.AdSmallRefIdeal.nD Cert.AdSmallRefIdeal.τ).loc Cert.AdSmallRefIdeal.main_arg12) = m' ((c.tc : Thread Cert.AdSmallRefIdeal.nD Cert.AdSmallRefIdeal.τ).loc Cert.AdSmallRefIdeal.main_arg12)
          ∧ r.2.mem ((c.tc : Thread Cert.AdSmallRefIdeal.nD Cert.AdSmallRefIdeal.τ).loc Cert.AdSmallRefIdeal.main_arg13) = m' ((c.tc : Thread Cert.AdSmallRefIdeal.nD Cert.AdSmallRefIdeal.τ).loc Cert.AdSmallRefIdeal.main_arg13))

def preserves_AdRep_AdRepIdeal : Prop :=
  IdealRules.named_const.Statement Cert.AdRepIdeal.κ "inv_c1" .f32 0x3FC48605#32 ((8388608 / 5463681 : ℝ) : EReal)
  ∧ IdealRules.named_const.Statement Cert.AdRepIdeal.κ "inv_c2" .f32 0x42C8E6D3#32 ((268435456 / 2672307 : ℝ) : EReal)

def algebraic_AdRepIdeal_AdRepRefIdeal [hAdRepIdeal : Cert.AdRepIdeal.Facts] [hAdRepRefIdeal : Cert.AdRepRefIdeal.Facts] : Prop :=
  ∀ (m : (ℓ : Loc Cert.AdRepIdeal.nD Cert.AdRepIdeal.τ Cert.AdRepIdeal.sig) → Buf (Elt Ideal) ℓ) (g : Dev Cert.AdRepIdeal.nD → PrngReg)
    (m' : (ℓ : Loc Cert.AdRepRefIdeal.nD Cert.AdRepRefIdeal.τ Cert.AdRepRefIdeal.sig) → Buf (Elt Ideal) ℓ) (g' : Dev Cert.AdRepRefIdeal.nD → PrngReg), Pre_AdRepIdeal m →
    (∀ c : Dev Cert.AdRepIdeal.nD,
      m' ((c.tc : Thread Cert.AdRepRefIdeal.nD Cert.AdRepRefIdeal.τ).loc Cert.AdRepRefIdeal.main_arg0) = m ((c.tc : Thread Cert.AdRepIdeal.nD Cert.AdRepIdeal.τ).loc Cert.AdRepIdeal.main_arg0)
      ∧ m' ((c.tc : Thread Cert.AdRepRefIdeal.nD Cert.AdRepRefIdeal.τ).loc Cert.AdRepRefIdeal.main_arg1) = m ((c.tc : Thread Cert.AdRepIdeal.nD Cert.AdRepIdeal.τ).loc Cert.AdRepIdeal.main_arg1)
      ∧ m' ((c.tc : Thread Cert.AdRepRefIdeal.nD Cert.AdRepRefIdeal.τ).loc Cert.AdRepRefIdeal.main_arg2) = m ((c.tc : Thread Cert.AdRepIdeal.nD Cert.AdRepIdeal.τ).loc Cert.AdRepIdeal.main_arg2)
      ∧ m' ((c.tc : Thread Cert.AdRepRefIdeal.nD Cert.AdRepRefIdeal.τ).loc Cert.AdRepRefIdeal.main_arg3) = m ((c.tc : Thread Cert.AdRepIdeal.nD Cert.AdRepIdeal.τ).loc Cert.AdRepIdeal.main_arg3)
      ∧ m' ((c.tc : Thread Cert.AdRepRefIdeal.nD Cert.AdRepRefIdeal.τ).loc Cert.AdRepRefIdeal.main_arg4) = m ((c.tc : Thread Cert.AdRepIdeal.nD Cert.AdRepIdeal.τ).loc Cert.AdRepIdeal.main_arg4)
      ∧ m' ((c.tc : Thread Cert.AdRepRefIdeal.nD Cert.AdRepRefIdeal.τ).loc Cert.AdRepRefIdeal.main_arg5) = m ((c.tc : Thread Cert.AdRepIdeal.nD Cert.AdRepIdeal.τ).loc Cert.AdRepIdeal.main_arg5)
      ∧ m' ((c.tc : Thread Cert.AdRepRefIdeal.nD Cert.AdRepRefIdeal.τ).loc Cert.AdRepRefIdeal.main_arg6) = m ((c.tc : Thread Cert.AdRepIdeal.nD Cert.AdRepIdeal.τ).loc Cert.AdRepIdeal.main_arg6)
      ∧ m' ((c.tc : Thread Cert.AdRepRefIdeal.nD Cert.AdRepRefIdeal.τ).loc Cert.AdRepRefIdeal.main_arg7) = m ((c.tc : Thread Cert.AdRepIdeal.nD Cert.AdRepIdeal.τ).loc Cert.AdRepIdeal.main_arg7)
      ∧ m' ((c.tc : Thread Cert.AdRepRefIdeal.nD Cert.AdRepRefIdeal.τ).loc Cert.AdRepRefIdeal.main_arg8) = m ((c.tc : Thread Cert.AdRepIdeal.nD Cert.AdRepIdeal.τ).loc Cert.AdRepIdeal.main_arg8)
      ∧ m' ((c.tc : Thread Cert.AdRepRefIdeal.nD Cert.AdRepRefIdeal.τ).loc Cert.AdRepRefIdeal.main_arg9) = m ((c.tc : Thread Cert.AdRepIdeal.nD Cert.AdRepIdeal.τ).loc Cert.AdRepIdeal.main_arg9)
      ∧ m' ((c.tc : Thread Cert.AdRepRefIdeal.nD Cert.AdRepRefIdeal.τ).loc Cert.AdRepRefIdeal.main_arg10) = m ((c.tc : Thread Cert.AdRepIdeal.nD Cert.AdRepIdeal.τ).loc Cert.AdRepIdeal.main_arg10)
      ∧ m' ((c.tc : Thread Cert.AdRepRefIdeal.nD Cert.AdRepRefIdeal.τ).loc Cert.AdRepRefIdeal.main_arg11) = m ((c.tc : Thread Cert.AdRepIdeal.nD Cert.AdRepIdeal.τ).loc Cert.AdRepIdeal.main_arg11)
      ∧ m' ((c.tc : Thread Cert.AdRepRefIdeal.nD Cert.AdRepRefIdeal.τ).loc Cert.AdRepRefIdeal.main_arg12) = m ((c.tc : Thread Cert.AdRepIdeal.nD Cert.AdRepIdeal.τ).loc Cert.AdRepIdeal.main_arg12)
      ∧ m' ((c.tc : Thread Cert.AdRepRefIdeal.nD Cert.AdRepRefIdeal.τ).loc Cert.AdRepRefIdeal.main_arg13) = m ((c.tc : Thread Cert.AdRepIdeal.nD Cert.AdRepIdeal.τ).loc Cert.AdRepIdeal.main_arg13)
      ∧ m' ((c.tc : Thread Cert.AdRepRefIdeal.nD Cert.AdRepRefIdeal.τ).loc Cert.AdRepRefIdeal.main_arg14) = m ((c.tc : Thread Cert.AdRepIdeal.nD Cert.AdRepIdeal.τ).loc Cert.AdRepIdeal.main_arg14)
      ∧ m' ((c.tc : Thread Cert.AdRepRefIdeal.nD Cert.AdRepRefIdeal.τ).loc Cert.AdRepRefIdeal.main_arg15) = m ((c.tc : Thread Cert.AdRepIdeal.nD Cert.AdRepIdeal.τ).loc Cert.AdRepIdeal.main_arg15)
      ∧ m' ((c.tc : Thread Cert.AdRepRefIdeal.nD Cert.AdRepRefIdeal.τ).loc Cert.AdRepRefIdeal.main_arg16) = m ((c.tc : Thread Cert.AdRepIdeal.nD Cert.AdRepIdeal.τ).loc Cert.AdRepIdeal.main_arg16)
      ∧ m' ((c.tc : Thread Cert.AdRepRefIdeal.nD Cert.AdRepRefIdeal.τ).loc Cert.AdRepRefIdeal.main_arg17) = m ((c.tc : Thread Cert.AdRepIdeal.nD Cert.AdRepIdeal.τ).loc Cert.AdRepIdeal.main_arg17)
      ∧ m' ((c.tc : Thread Cert.AdRepRefIdeal.nD Cert.AdRepRefIdeal.τ).loc Cert.AdRepRefIdeal.main_arg18) = m ((c.tc : Thread Cert.AdRepIdeal.nD Cert.AdRepIdeal.τ).loc Cert.AdRepIdeal.main_arg18)
      ∧ m' ((c.tc : Thread Cert.AdRepRefIdeal.nD Cert.AdRepRefIdeal.τ).loc Cert.AdRepRefIdeal.main_arg19) = m ((c.tc : Thread Cert.AdRepIdeal.nD Cert.AdRepIdeal.τ).loc Cert.AdRepIdeal.main_arg19)
      ∧ m' ((c.tc : Thread Cert.AdRepRefIdeal.nD Cert.AdRepRefIdeal.τ).loc Cert.AdRepRefIdeal.main_arg20) = m ((c.tc : Thread Cert.AdRepIdeal.nD Cert.AdRepIdeal.τ).loc Cert.AdRepIdeal.main_arg20)
      ∧ m' ((c.tc : Thread Cert.AdRepRefIdeal.nD Cert.AdRepRefIdeal.τ).loc Cert.AdRepRefIdeal.main_arg21) = m ((c.tc : Thread Cert.AdRepIdeal.nD Cert.AdRepIdeal.τ).loc Cert.AdRepIdeal.main_arg21)
      ∧ m' ((c.tc : Thread Cert.AdRepRefIdeal.nD Cert.AdRepRefIdeal.τ).loc Cert.AdRepRefIdeal.main_arg22) = m ((c.tc : Thread Cert.AdRepIdeal.nD Cert.AdRepIdeal.τ).loc Cert.AdRepIdeal.main_arg22)
      ∧ m' ((c.tc : Thread Cert.AdRepRefIdeal.nD Cert.AdRepRefIdeal.τ).loc Cert.AdRepRefIdeal.main_arg23) = m ((c.tc : Thread Cert.AdRepIdeal.nD Cert.AdRepIdeal.τ).loc Cert.AdRepIdeal.main_arg23)
      ∧ m' ((c.tc : Thread Cert.AdRepRefIdeal.nD Cert.AdRepRefIdeal.τ).loc Cert.AdRepRefIdeal.main_arg24) = m ((c.tc : Thread Cert.AdRepIdeal.nD Cert.AdRepIdeal.τ).loc Cert.AdRepIdeal.main_arg24)
      ∧ m' ((c.tc : Thread Cert.AdRepRefIdeal.nD Cert.AdRepRefIdeal.τ).loc Cert.AdRepRefIdeal.main_arg25) = m ((c.tc : Thread Cert.AdRepIdeal.nD Cert.AdRepIdeal.τ).loc Cert.AdRepIdeal.main_arg25)
      ∧ m' ((c.tc : Thread Cert.AdRepRefIdeal.nD Cert.AdRepRefIdeal.τ).loc Cert.AdRepRefIdeal.main_arg26) = m ((c.tc : Thread Cert.AdRepIdeal.nD Cert.AdRepIdeal.τ).loc Cert.AdRepIdeal.main_arg26)
      ∧ m' ((c.tc : Thread Cert.AdRepRefIdeal.nD Cert.AdRepRefIdeal.τ).loc Cert.AdRepRefIdeal.main_arg27) = m ((c.tc : Thread Cert.AdRepIdeal.nD Cert.AdRepIdeal.τ).loc Cert.AdRepIdeal.main_arg27)) →
    ∃ (v0 : (c : Dev Cert.AdRepIdeal.nD) → Buf (Elt Ideal) ((c.tc : Thread Cert.AdRepIdeal.nD Cert.AdRepIdeal.τ).loc Cert.AdRepIdeal.main_v54)) (v1 : (c : Dev Cert.AdRepIdeal.nD) → Buf (Elt Ideal) ((c.tc : Thread Cert.AdRepIdeal.nD Cert.AdRepIdeal.τ).loc Cert.AdRepIdeal.main_v37)) (v2 : (c : Dev Cert.AdRepIdeal.nD) → Buf (Elt Ideal) ((c.tc : Thread Cert.AdRepIdeal.nD Cert.AdRepIdeal.τ).loc Cert.AdRepIdeal.main_v57)) (v3 : (c : Dev Cert.AdRepIdeal.nD) → Buf (Elt Ideal) ((c.tc : Thread Cert.AdRepIdeal.nD Cert.AdRepIdeal.τ).loc Cert.AdRepIdeal.main_v77)) (v4 : (c : Dev Cert.AdRepIdeal.nD) → Buf (Elt Ideal) ((c.tc : Thread Cert.AdRepIdeal.nD Cert.AdRepIdeal.τ).loc Cert.AdRepIdeal.main_v97)) (v5 : (c : Dev Cert.AdRepIdeal.nD) → Buf (Elt Ideal) ((c.tc : Thread Cert.AdRepIdeal.nD Cert.AdRepIdeal.τ).loc Cert.AdRepIdeal.main_v39)) (v6 : (c : Dev Cert.AdRepIdeal.nD) → Buf (Elt Ideal) ((c.tc : Thread Cert.AdRepIdeal.nD Cert.AdRepIdeal.τ).loc Cert.AdRepIdeal.main_v59)) (v7 : (c : Dev Cert.AdRepIdeal.nD) → Buf (Elt Ideal) ((c.tc : Thread Cert.AdRepIdeal.nD Cert.AdRepIdeal.τ).loc Cert.AdRepIdeal.main_v79)) (v8 : (c : Dev Cert.AdRepIdeal.nD) → Buf (Elt Ideal) ((c.tc : Thread Cert.AdRepIdeal.nD Cert.AdRepIdeal.τ).loc Cert.AdRepIdeal.main_v99)) (v9 : (c : Dev Cert.AdRepIdeal.nD) → Buf (Elt Ideal) ((c.tc : Thread Cert.AdRepIdeal.nD Cert.AdRepIdeal.τ).loc Cert.AdRepIdeal.main_v41)) (v10 : (c : Dev Cert.AdRepIdeal.nD) → Buf (Elt Ideal) ((c.tc : Thread Cert.AdRepIdeal.nD Cert.AdRepIdeal.τ).loc Cert.AdRepIdeal.main_v61)) (v11 : (c : Dev Cert.AdRepIdeal.nD) → Buf (Elt Ideal) ((c.tc : Thread Cert.AdRepIdeal.nD Cert.AdRepIdeal.τ).loc Cert.AdRepIdeal.main_v81)) (v12 : (c : Dev Cert.AdRepIdeal.nD) → Buf (Elt Ideal) ((c.tc : Thread Cert.AdRepIdeal.nD Cert.AdRepIdeal.τ).loc Cert.AdRepIdeal.main_v101)) (v13 : (c : Dev Cert.AdRepIdeal.nD) → Buf (Elt Ideal) ((c.tc : Thread Cert.AdRepIdeal.nD Cert.AdRepIdeal.τ).loc Cert.AdRepIdeal.main_v43)) (v14 : (c : Dev Cert.AdRepIdeal.nD) → Buf (Elt Ideal) ((c.tc : Thread Cert.AdRepIdeal.nD Cert.AdRepIdeal.τ).loc Cert.AdRepIdeal.main_v63)) (v15 : (c : Dev Cert.AdRepIdeal.nD) → Buf (Elt Ideal) ((c.tc : Thread Cert.AdRepIdeal.nD Cert.AdRepIdeal.τ).loc Cert.AdRepIdeal.main_v83)) (v16 : (c : Dev Cert.AdRepIdeal.nD) → Buf (Elt Ideal) ((c.tc : Thread Cert.AdRepIdeal.nD Cert.AdRepIdeal.τ).loc Cert.AdRepIdeal.main_v103)) (v17 : (c : Dev Cert.AdRepIdeal.nD) → Buf (Elt Ideal) ((c.tc : Thread Cert.AdRepIdeal.nD Cert.AdRepIdeal.τ).loc Cert.AdRepIdeal.main_v45)) (v18 : (c : Dev Cert.AdRepIdeal.nD) → Buf (Elt Ideal) ((c.tc : Thread Cert.AdRepIdeal.nD Cert.AdRepIdeal.τ).loc Cert.AdRepIdeal.main_v65)) (v19 : (c : Dev Cert.AdRepIdeal.nD) → Buf (Elt Ideal) ((c.tc : Thread Cert.AdRepIdeal.nD Cert.AdRepIdeal.τ).loc Cert.AdRepIdeal.main_v85)) (v20 : (c : Dev Cert.AdRepIdeal.nD) → Buf (Elt Ideal) ((c.tc : Thread Cert.AdRepIdeal.nD Cert.AdRepIdeal.τ).loc Cert.AdRepIdeal.main_v105)) (v21 : (c : Dev Cert.AdRepIdeal.nD) → Buf (Elt Ideal) ((c.tc : Thread Cert.AdRepIdeal.nD Cert.AdRepIdeal.τ).loc Cert.AdRepIdeal.main_v47)) (v22 : (c : Dev Cert.AdRepIdeal.nD) → Buf (Elt Ideal) ((c.tc : Thread Cert.AdRepIdeal.nD Cert.AdRepIdeal.τ).loc Cert.AdRepIdeal.main_v67)) (v23 : (c : Dev Cert.AdRepIdeal.nD) → Buf (Elt Ideal) ((c.tc : Thread Cert.AdRepIdeal.nD Cert.AdRepIdeal.τ).loc Cert.AdRepIdeal.main_v87)) (v24 : (c : Dev Cert.AdRepIdeal.nD) → Buf (Elt Ideal) ((c.tc : Thread Cert.AdRepIdeal.nD Cert.AdRepIdeal.τ).loc Cert.AdRepIdeal.main_v107)) (v25 : (c : Dev Cert.AdRepIdeal.nD) → Buf (Elt Ideal) ((c.tc : Thread Cert.AdRepIdeal.nD Cert.AdRepIdeal.τ).loc Cert.AdRepIdeal.main_v49)) (v26 : (c : Dev Cert.AdRepIdeal.nD) → Buf (Elt Ideal) ((c.tc : Thread Cert.AdRepIdeal.nD Cert.AdRepIdeal.τ).loc Cert.AdRepIdeal.main_v69)) (v27 : (c : Dev Cert.AdRepIdeal.nD) → Buf (Elt Ideal) ((c.tc : Thread Cert.AdRepIdeal.nD Cert.AdRepIdeal.τ).loc Cert.AdRepIdeal.main_v89)) (v28 : (c : Dev Cert.AdRepIdeal.nD) → Buf (Elt Ideal) ((c.tc : Thread Cert.AdRepIdeal.nD Cert.AdRepIdeal.τ).loc Cert.AdRepIdeal.main_v109)) (v29 : (c : Dev Cert.AdRepIdeal.nD) → Buf (Elt Ideal) ((c.tc : Thread Cert.AdRepIdeal.nD Cert.AdRepIdeal.τ).loc Cert.AdRepIdeal.main_v51)) (v30 : (c : Dev Cert.AdRepIdeal.nD) → Buf (Elt Ideal) ((c.tc : Thread Cert.AdRepIdeal.nD Cert.AdRepIdeal.τ).loc Cert.AdRepIdeal.main_v71)) (v31 : (c : Dev Cert.AdRepIdeal.nD) → Buf (Elt Ideal) ((c.tc : Thread Cert.AdRepIdeal.nD Cert.AdRepIdeal.τ).loc Cert.AdRepIdeal.main_v91)) (v32 : (c : Dev Cert.AdRepIdeal.nD) → Buf (Elt Ideal) ((c.tc : Thread Cert.AdRepIdeal.nD Cert.AdRepIdeal.τ).loc Cert.AdRepIdeal.main_v111)) (v33 : (c : Dev Cert.AdRepIdeal.nD) → Buf (Elt Ideal) ((c.tc : Thread Cert.AdRepIdeal.nD Cert.AdRepIdeal.τ).loc Cert.AdRepIdeal.main_v52)) (v34 : (c : Dev Cert.AdRepIdeal.nD) → Buf (Elt Ideal) ((c.tc : Thread Cert.AdRepIdeal.nD Cert.AdRepIdeal.τ).loc Cert.AdRepIdeal.main_v72)) (v35 : (c : Dev Cert.AdRepIdeal.nD) → Buf (Elt Ideal) ((c.tc : Thread Cert.AdRepIdeal.nD Cert.AdRepIdeal.τ).loc Cert.AdRepIdeal.main_v92)) (v36 : (c : Dev Cert.AdRepIdeal.nD) → Buf (Elt Ideal) ((c.tc : Thread Cert.AdRepIdeal.nD Cert.AdRepIdeal.τ).loc Cert.AdRepIdeal.main_v112)),
      θ_run (Cert.AdRepIdeal.defs (F := Ideal)) (onTc (τ := Cert.AdRepIdeal.τ) (Cert.AdRepIdeal.main (F := Ideal))) ⟨m, fun _ => 0, g⟩ (fun r => ∀ c : Dev Cert.AdRepIdeal.nD,
          r.2.mem ((c.tc : Thread Cert.AdRepIdeal.nD Cert.AdRepIdeal.τ).loc Cert.AdRepIdeal.main_v54) = v0 c
          ∧ r.2.mem ((c.tc : Thread Cert.AdRepIdeal.nD Cert.AdRepIdeal.τ).loc Cert.AdRepIdeal.main_v37) = v1 c
          ∧ r.2.mem ((c.tc : Thread Cert.AdRepIdeal.nD Cert.AdRepIdeal.τ).loc Cert.AdRepIdeal.main_v57) = v2 c
          ∧ r.2.mem ((c.tc : Thread Cert.AdRepIdeal.nD Cert.AdRepIdeal.τ).loc Cert.AdRepIdeal.main_v77) = v3 c
          ∧ r.2.mem ((c.tc : Thread Cert.AdRepIdeal.nD Cert.AdRepIdeal.τ).loc Cert.AdRepIdeal.main_v97) = v4 c
          ∧ r.2.mem ((c.tc : Thread Cert.AdRepIdeal.nD Cert.AdRepIdeal.τ).loc Cert.AdRepIdeal.main_v39) = v5 c
          ∧ r.2.mem ((c.tc : Thread Cert.AdRepIdeal.nD Cert.AdRepIdeal.τ).loc Cert.AdRepIdeal.main_v59) = v6 c
          ∧ r.2.mem ((c.tc : Thread Cert.AdRepIdeal.nD Cert.AdRepIdeal.τ).loc Cert.AdRepIdeal.main_v79) = v7 c
          ∧ r.2.mem ((c.tc : Thread Cert.AdRepIdeal.nD Cert.AdRepIdeal.τ).loc Cert.AdRepIdeal.main_v99) = v8 c
          ∧ r.2.mem ((c.tc : Thread Cert.AdRepIdeal.nD Cert.AdRepIdeal.τ).loc Cert.AdRepIdeal.main_v41) = v9 c
          ∧ r.2.mem ((c.tc : Thread Cert.AdRepIdeal.nD Cert.AdRepIdeal.τ).loc Cert.AdRepIdeal.main_v61) = v10 c
          ∧ r.2.mem ((c.tc : Thread Cert.AdRepIdeal.nD Cert.AdRepIdeal.τ).loc Cert.AdRepIdeal.main_v81) = v11 c
          ∧ r.2.mem ((c.tc : Thread Cert.AdRepIdeal.nD Cert.AdRepIdeal.τ).loc Cert.AdRepIdeal.main_v101) = v12 c
          ∧ r.2.mem ((c.tc : Thread Cert.AdRepIdeal.nD Cert.AdRepIdeal.τ).loc Cert.AdRepIdeal.main_v43) = v13 c
          ∧ r.2.mem ((c.tc : Thread Cert.AdRepIdeal.nD Cert.AdRepIdeal.τ).loc Cert.AdRepIdeal.main_v63) = v14 c
          ∧ r.2.mem ((c.tc : Thread Cert.AdRepIdeal.nD Cert.AdRepIdeal.τ).loc Cert.AdRepIdeal.main_v83) = v15 c
          ∧ r.2.mem ((c.tc : Thread Cert.AdRepIdeal.nD Cert.AdRepIdeal.τ).loc Cert.AdRepIdeal.main_v103) = v16 c
          ∧ r.2.mem ((c.tc : Thread Cert.AdRepIdeal.nD Cert.AdRepIdeal.τ).loc Cert.AdRepIdeal.main_v45) = v17 c
          ∧ r.2.mem ((c.tc : Thread Cert.AdRepIdeal.nD Cert.AdRepIdeal.τ).loc Cert.AdRepIdeal.main_v65) = v18 c
          ∧ r.2.mem ((c.tc : Thread Cert.AdRepIdeal.nD Cert.AdRepIdeal.τ).loc Cert.AdRepIdeal.main_v85) = v19 c
          ∧ r.2.mem ((c.tc : Thread Cert.AdRepIdeal.nD Cert.AdRepIdeal.τ).loc Cert.AdRepIdeal.main_v105) = v20 c
          ∧ r.2.mem ((c.tc : Thread Cert.AdRepIdeal.nD Cert.AdRepIdeal.τ).loc Cert.AdRepIdeal.main_v47) = v21 c
          ∧ r.2.mem ((c.tc : Thread Cert.AdRepIdeal.nD Cert.AdRepIdeal.τ).loc Cert.AdRepIdeal.main_v67) = v22 c
          ∧ r.2.mem ((c.tc : Thread Cert.AdRepIdeal.nD Cert.AdRepIdeal.τ).loc Cert.AdRepIdeal.main_v87) = v23 c
          ∧ r.2.mem ((c.tc : Thread Cert.AdRepIdeal.nD Cert.AdRepIdeal.τ).loc Cert.AdRepIdeal.main_v107) = v24 c
          ∧ r.2.mem ((c.tc : Thread Cert.AdRepIdeal.nD Cert.AdRepIdeal.τ).loc Cert.AdRepIdeal.main_v49) = v25 c
          ∧ r.2.mem ((c.tc : Thread Cert.AdRepIdeal.nD Cert.AdRepIdeal.τ).loc Cert.AdRepIdeal.main_v69) = v26 c
          ∧ r.2.mem ((c.tc : Thread Cert.AdRepIdeal.nD Cert.AdRepIdeal.τ).loc Cert.AdRepIdeal.main_v89) = v27 c
          ∧ r.2.mem ((c.tc : Thread Cert.AdRepIdeal.nD Cert.AdRepIdeal.τ).loc Cert.AdRepIdeal.main_v109) = v28 c
          ∧ r.2.mem ((c.tc : Thread Cert.AdRepIdeal.nD Cert.AdRepIdeal.τ).loc Cert.AdRepIdeal.main_v51) = v29 c
          ∧ r.2.mem ((c.tc : Thread Cert.AdRepIdeal.nD Cert.AdRepIdeal.τ).loc Cert.AdRepIdeal.main_v71) = v30 c
          ∧ r.2.mem ((c.tc : Thread Cert.AdRepIdeal.nD Cert.AdRepIdeal.τ).loc Cert.AdRepIdeal.main_v91) = v31 c
          ∧ r.2.mem ((c.tc : Thread Cert.AdRepIdeal.nD Cert.AdRepIdeal.τ).loc Cert.AdRepIdeal.main_v111) = v32 c
          ∧ r.2.mem ((c.tc : Thread Cert.AdRepIdeal.nD Cert.AdRepIdeal.τ).loc Cert.AdRepIdeal.main_v52) = v33 c
          ∧ r.2.mem ((c.tc : Thread Cert.AdRepIdeal.nD Cert.AdRepIdeal.τ).loc Cert.AdRepIdeal.main_v72) = v34 c
          ∧ r.2.mem ((c.tc : Thread Cert.AdRepIdeal.nD Cert.AdRepIdeal.τ).loc Cert.AdRepIdeal.main_v92) = v35 c
          ∧ r.2.mem ((c.tc : Thread Cert.AdRepIdeal.nD Cert.AdRepIdeal.τ).loc Cert.AdRepIdeal.main_v112) = v36 c
          ∧ r.2.mem ((c.tc : Thread Cert.AdRepIdeal.nD Cert.AdRepIdeal.τ).loc Cert.AdRepIdeal.main_arg0) = m ((c.tc : Thread Cert.AdRepIdeal.nD Cert.AdRepIdeal.τ).loc Cert.AdRepIdeal.main_arg0)
          ∧ r.2.mem ((c.tc : Thread Cert.AdRepIdeal.nD Cert.AdRepIdeal.τ).loc Cert.AdRepIdeal.main_arg1) = m ((c.tc : Thread Cert.AdRepIdeal.nD Cert.AdRepIdeal.τ).loc Cert.AdRepIdeal.main_arg1)
          ∧ r.2.mem ((c.tc : Thread Cert.AdRepIdeal.nD Cert.AdRepIdeal.τ).loc Cert.AdRepIdeal.main_arg2) = m ((c.tc : Thread Cert.AdRepIdeal.nD Cert.AdRepIdeal.τ).loc Cert.AdRepIdeal.main_arg2)
          ∧ r.2.mem ((c.tc : Thread Cert.AdRepIdeal.nD Cert.AdRepIdeal.τ).loc Cert.AdRepIdeal.main_arg3) = m ((c.tc : Thread Cert.AdRepIdeal.nD Cert.AdRepIdeal.τ).loc Cert.AdRepIdeal.main_arg3)
          ∧ r.2.mem ((c.tc : Thread Cert.AdRepIdeal.nD Cert.AdRepIdeal.τ).loc Cert.AdRepIdeal.main_arg4) = m ((c.tc : Thread Cert.AdRepIdeal.nD Cert.AdRepIdeal.τ).loc Cert.AdRepIdeal.main_arg4)
          ∧ r.2.mem ((c.tc : Thread Cert.AdRepIdeal.nD Cert.AdRepIdeal.τ).loc Cert.AdRepIdeal.main_arg5) = m ((c.tc : Thread Cert.AdRepIdeal.nD Cert.AdRepIdeal.τ).loc Cert.AdRepIdeal.main_arg5)
          ∧ r.2.mem ((c.tc : Thread Cert.AdRepIdeal.nD Cert.AdRepIdeal.τ).loc Cert.AdRepIdeal.main_arg6) = m ((c.tc : Thread Cert.AdRepIdeal.nD Cert.AdRepIdeal.τ).loc Cert.AdRepIdeal.main_arg6)
          ∧ r.2.mem ((c.tc : Thread Cert.AdRepIdeal.nD Cert.AdRepIdeal.τ).loc Cert.AdRepIdeal.main_arg7) = m ((c.tc : Thread Cert.AdRepIdeal.nD Cert.AdRepIdeal.τ).loc Cert.AdRepIdeal.main_arg7)
          ∧ r.2.mem ((c.tc : Thread Cert.AdRepIdeal.nD Cert.AdRepIdeal.τ).loc Cert.AdRepIdeal.main_arg8) = m ((c.tc : Thread Cert.AdRepIdeal.nD Cert.AdRepIdeal.τ).loc Cert.AdRepIdeal.main_arg8)
          ∧ r.2.mem ((c.tc : Thread Cert.AdRepIdeal.nD Cert.AdRepIdeal.τ).loc Cert.AdRepIdeal.main_arg9) = m ((c.tc : Thread Cert.AdRepIdeal.nD Cert.AdRepIdeal.τ).loc Cert.AdRepIdeal.main_arg9)
          ∧ r.2.mem ((c.tc : Thread Cert.AdRepIdeal.nD Cert.AdRepIdeal.τ).loc Cert.AdRepIdeal.main_arg10) = m ((c.tc : Thread Cert.AdRepIdeal.nD Cert.AdRepIdeal.τ).loc Cert.AdRepIdeal.main_arg10)
          ∧ r.2.mem ((c.tc : Thread Cert.AdRepIdeal.nD Cert.AdRepIdeal.τ).loc Cert.AdRepIdeal.main_arg11) = m ((c.tc : Thread Cert.AdRepIdeal.nD Cert.AdRepIdeal.τ).loc Cert.AdRepIdeal.main_arg11)
          ∧ r.2.mem ((c.tc : Thread Cert.AdRepIdeal.nD Cert.AdRepIdeal.τ).loc Cert.AdRepIdeal.main_arg12) = m ((c.tc : Thread Cert.AdRepIdeal.nD Cert.AdRepIdeal.τ).loc Cert.AdRepIdeal.main_arg12)
          ∧ r.2.mem ((c.tc : Thread Cert.AdRepIdeal.nD Cert.AdRepIdeal.τ).loc Cert.AdRepIdeal.main_arg13) = m ((c.tc : Thread Cert.AdRepIdeal.nD Cert.AdRepIdeal.τ).loc Cert.AdRepIdeal.main_arg13)
          ∧ r.2.mem ((c.tc : Thread Cert.AdRepIdeal.nD Cert.AdRepIdeal.τ).loc Cert.AdRepIdeal.main_arg14) = m ((c.tc : Thread Cert.AdRepIdeal.nD Cert.AdRepIdeal.τ).loc Cert.AdRepIdeal.main_arg14)
          ∧ r.2.mem ((c.tc : Thread Cert.AdRepIdeal.nD Cert.AdRepIdeal.τ).loc Cert.AdRepIdeal.main_arg15) = m ((c.tc : Thread Cert.AdRepIdeal.nD Cert.AdRepIdeal.τ).loc Cert.AdRepIdeal.main_arg15)
          ∧ r.2.mem ((c.tc : Thread Cert.AdRepIdeal.nD Cert.AdRepIdeal.τ).loc Cert.AdRepIdeal.main_arg16) = m ((c.tc : Thread Cert.AdRepIdeal.nD Cert.AdRepIdeal.τ).loc Cert.AdRepIdeal.main_arg16)
          ∧ r.2.mem ((c.tc : Thread Cert.AdRepIdeal.nD Cert.AdRepIdeal.τ).loc Cert.AdRepIdeal.main_arg17) = m ((c.tc : Thread Cert.AdRepIdeal.nD Cert.AdRepIdeal.τ).loc Cert.AdRepIdeal.main_arg17)
          ∧ r.2.mem ((c.tc : Thread Cert.AdRepIdeal.nD Cert.AdRepIdeal.τ).loc Cert.AdRepIdeal.main_arg18) = m ((c.tc : Thread Cert.AdRepIdeal.nD Cert.AdRepIdeal.τ).loc Cert.AdRepIdeal.main_arg18)
          ∧ r.2.mem ((c.tc : Thread Cert.AdRepIdeal.nD Cert.AdRepIdeal.τ).loc Cert.AdRepIdeal.main_arg19) = m ((c.tc : Thread Cert.AdRepIdeal.nD Cert.AdRepIdeal.τ).loc Cert.AdRepIdeal.main_arg19)
          ∧ r.2.mem ((c.tc : Thread Cert.AdRepIdeal.nD Cert.AdRepIdeal.τ).loc Cert.AdRepIdeal.main_arg20) = m ((c.tc : Thread Cert.AdRepIdeal.nD Cert.AdRepIdeal.τ).loc Cert.AdRepIdeal.main_arg20)
          ∧ r.2.mem ((c.tc : Thread Cert.AdRepIdeal.nD Cert.AdRepIdeal.τ).loc Cert.AdRepIdeal.main_arg21) = m ((c.tc : Thread Cert.AdRepIdeal.nD Cert.AdRepIdeal.τ).loc Cert.AdRepIdeal.main_arg21)
          ∧ r.2.mem ((c.tc : Thread Cert.AdRepIdeal.nD Cert.AdRepIdeal.τ).loc Cert.AdRepIdeal.main_arg22) = m ((c.tc : Thread Cert.AdRepIdeal.nD Cert.AdRepIdeal.τ).loc Cert.AdRepIdeal.main_arg22)
          ∧ r.2.mem ((c.tc : Thread Cert.AdRepIdeal.nD Cert.AdRepIdeal.τ).loc Cert.AdRepIdeal.main_arg23) = m ((c.tc : Thread Cert.AdRepIdeal.nD Cert.AdRepIdeal.τ).loc Cert.AdRepIdeal.main_arg23)
          ∧ r.2.mem ((c.tc : Thread Cert.AdRepIdeal.nD Cert.AdRepIdeal.τ).loc Cert.AdRepIdeal.main_arg24) = m ((c.tc : Thread Cert.AdRepIdeal.nD Cert.AdRepIdeal.τ).loc Cert.AdRepIdeal.main_arg24)
          ∧ r.2.mem ((c.tc : Thread Cert.AdRepIdeal.nD Cert.AdRepIdeal.τ).loc Cert.AdRepIdeal.main_arg25) = m ((c.tc : Thread Cert.AdRepIdeal.nD Cert.AdRepIdeal.τ).loc Cert.AdRepIdeal.main_arg25)
          ∧ r.2.mem ((c.tc : Thread Cert.AdRepIdeal.nD Cert.AdRepIdeal.τ).loc Cert.AdRepIdeal.main_arg26) = m ((c.tc : Thread Cert.AdRepIdeal.nD Cert.AdRepIdeal.τ).loc Cert.AdRepIdeal.main_arg26)
          ∧ r.2.mem ((c.tc : Thread Cert.AdRepIdeal.nD Cert.AdRepIdeal.τ).loc Cert.AdRepIdeal.main_arg27) = m ((c.tc : Thread Cert.AdRepIdeal.nD Cert.AdRepIdeal.τ).loc Cert.AdRepIdeal.main_arg27))
      ∧ θ_run (Cert.AdRepRefIdeal.defs (F := Ideal)) (onTc (τ := Cert.AdRepRefIdeal.τ) (Cert.AdRepRefIdeal.main (F := Ideal))) ⟨m', fun _ => 0, g'⟩ (fun r => ∀ c : Dev Cert.AdRepRefIdeal.nD,
          r.2.mem ((c.tc : Thread Cert.AdRepRefIdeal.nD Cert.AdRepRefIdeal.τ).loc Cert.AdRepRefIdeal.main_v236) = v0 c
          ∧ r.2.mem ((c.tc : Thread Cert.AdRepRefIdeal.nD Cert.AdRepRefIdeal.τ).loc Cert.AdRepRefIdeal.main_v3) = v1 c
          ∧ r.2.mem ((c.tc : Thread Cert.AdRepRefIdeal.nD Cert.AdRepRefIdeal.τ).loc Cert.AdRepRefIdeal.main_v27) = v2 c
          ∧ r.2.mem ((c.tc : Thread Cert.AdRepRefIdeal.nD Cert.AdRepRefIdeal.τ).loc Cert.AdRepRefIdeal.main_v8) = v3 c
          ∧ r.2.mem ((c.tc : Thread Cert.AdRepRefIdeal.nD Cert.AdRepRefIdeal.τ).loc Cert.AdRepRefIdeal.main_v14) = v4 c
          ∧ r.2.mem ((c.tc : Thread Cert.AdRepRefIdeal.nD Cert.AdRepRefIdeal.τ).loc Cert.AdRepRefIdeal.main_v29) = v5 c
          ∧ r.2.mem ((c.tc : Thread Cert.AdRepRefIdeal.nD Cert.AdRepRefIdeal.τ).loc Cert.AdRepRefIdeal.main_v53) = v6 c
          ∧ r.2.mem ((c.tc : Thread Cert.AdRepRefIdeal.nD Cert.AdRepRefIdeal.τ).loc Cert.AdRepRefIdeal.main_v34) = v7 c
          ∧ r.2.mem ((c.tc : Thread Cert.AdRepRefIdeal.nD Cert.AdRepRefIdeal.τ).loc Cert.AdRepRefIdeal.main_v40) = v8 c
          ∧ r.2.mem ((c.tc : Thread Cert.AdRepRefIdeal.nD Cert.AdRepRefIdeal.τ).loc Cert.AdRepRefIdeal.main_v55) = v9 c
          ∧ r.2.mem ((c.tc : Thread Cert.AdRepRefIdeal.nD Cert.AdRepRefIdeal.τ).loc Cert.AdRepRefIdeal.main_v79) = v10 c
          ∧ r.2.mem ((c.tc : Thread Cert.AdRepRefIdeal.nD Cert.AdRepRefIdeal.τ).loc Cert.AdRepRefIdeal.main_v60) = v11 c
          ∧ r.2.mem ((c.tc : Thread Cert.AdRepRefIdeal.nD Cert.AdRepRefIdeal.τ).loc Cert.AdRepRefIdeal.main_v66) = v12 c
          ∧ r.2.mem ((c.tc : Thread Cert.AdRepRefIdeal.nD Cert.AdRepRefIdeal.τ).loc Cert.AdRepRefIdeal.main_v81) = v13 c
          ∧ r.2.mem ((c.tc : Thread Cert.AdRepRefIdeal.nD Cert.AdRepRefIdeal.τ).loc Cert.AdRepRefIdeal.main_v105) = v14 c
          ∧ r.2.mem ((c.tc : Thread Cert.AdRepRefIdeal.nD Cert.AdRepRefIdeal.τ).loc Cert.AdRepRefIdeal.main_v86) = v15 c
          ∧ r.2.mem ((c.tc : Thread Cert.AdRepRefIdeal.nD Cert.AdRepRefIdeal.τ).loc Cert.AdRepRefIdeal.main_v92) = v16 c
          ∧ r.2.mem ((c.tc : Thread Cert.AdRepRefIdeal.nD Cert.AdRepRefIdeal.τ).loc Cert.AdRepRefIdeal.main_v107) = v17 c
          ∧ r.2.mem ((c.tc : Thread Cert.AdRepRefIdeal.nD Cert.AdRepRefIdeal.τ).loc Cert.AdRepRefIdeal.main_v131) = v18 c
          ∧ r.2.mem ((c.tc : Thread Cert.AdRepRefIdeal.nD Cert.AdRepRefIdeal.τ).loc Cert.AdRepRefIdeal.main_v112) = v19 c
          ∧ r.2.mem ((c.tc : Thread Cert.AdRepRefIdeal.nD Cert.AdRepRefIdeal.τ).loc Cert.AdRepRefIdeal.main_v118) = v20 c
          ∧ r.2.mem ((c.tc : Thread Cert.AdRepRefIdeal.nD Cert.AdRepRefIdeal.τ).loc Cert.AdRepRefIdeal.main_v133) = v21 c
          ∧ r.2.mem ((c.tc : Thread Cert.AdRepRefIdeal.nD Cert.AdRepRefIdeal.τ).loc Cert.AdRepRefIdeal.main_v157) = v22 c
          ∧ r.2.mem ((c.tc : Thread Cert.AdRepRefIdeal.nD Cert.AdRepRefIdeal.τ).loc Cert.AdRepRefIdeal.main_v138) = v23 c
          ∧ r.2.mem ((c.tc : Thread Cert.AdRepRefIdeal.nD Cert.AdRepRefIdeal.τ).loc Cert.AdRepRefIdeal.main_v144) = v24 c
          ∧ r.2.mem ((c.tc : Thread Cert.AdRepRefIdeal.nD Cert.AdRepRefIdeal.τ).loc Cert.AdRepRefIdeal.main_v159) = v25 c
          ∧ r.2.mem ((c.tc : Thread Cert.AdRepRefIdeal.nD Cert.AdRepRefIdeal.τ).loc Cert.AdRepRefIdeal.main_v183) = v26 c
          ∧ r.2.mem ((c.tc : Thread Cert.AdRepRefIdeal.nD Cert.AdRepRefIdeal.τ).loc Cert.AdRepRefIdeal.main_v164) = v27 c
          ∧ r.2.mem ((c.tc : Thread Cert.AdRepRefIdeal.nD Cert.AdRepRefIdeal.τ).loc Cert.AdRepRefIdeal.main_v170) = v28 c
          ∧ r.2.mem ((c.tc : Thread Cert.AdRepRefIdeal.nD Cert.AdRepRefIdeal.τ).loc Cert.AdRepRefIdeal.main_v185) = v29 c
          ∧ r.2.mem ((c.tc : Thread Cert.AdRepRefIdeal.nD Cert.AdRepRefIdeal.τ).loc Cert.AdRepRefIdeal.main_v209) = v30 c
          ∧ r.2.mem ((c.tc : Thread Cert.AdRepRefIdeal.nD Cert.AdRepRefIdeal.τ).loc Cert.AdRepRefIdeal.main_v190) = v31 c
          ∧ r.2.mem ((c.tc : Thread Cert.AdRepRefIdeal.nD Cert.AdRepRefIdeal.τ).loc Cert.AdRepRefIdeal.main_v196) = v32 c
          ∧ r.2.mem ((c.tc : Thread Cert.AdRepRefIdeal.nD Cert.AdRepRefIdeal.τ).loc Cert.AdRepRefIdeal.main_v210) = v33 c
          ∧ r.2.mem ((c.tc : Thread Cert.AdRepRefIdeal.nD Cert.AdRepRefIdeal.τ).loc Cert.AdRepRefIdeal.main_v234) = v34 c
          ∧ r.2.mem ((c.tc : Thread Cert.AdRepRefIdeal.nD Cert.AdRepRefIdeal.τ).loc Cert.AdRepRefIdeal.main_v215) = v35 c
          ∧ r.2.mem ((c.tc : Thread Cert.AdRepRefIdeal.nD Cert.AdRepRefIdeal.τ).loc Cert.AdRepRefIdeal.main_v221) = v36 c
          ∧ r.2.mem ((c.tc : Thread Cert.AdRepRefIdeal.nD Cert.AdRepRefIdeal.τ).loc Cert.AdRepRefIdeal.main_arg0) = m' ((c.tc : Thread Cert.AdRepRefIdeal.nD Cert.AdRepRefIdeal.τ).loc Cert.AdRepRefIdeal.main_arg0)
          ∧ r.2.mem ((c.tc : Thread Cert.AdRepRefIdeal.nD Cert.AdRepRefIdeal.τ).loc Cert.AdRepRefIdeal.main_arg1) = m' ((c.tc : Thread Cert.AdRepRefIdeal.nD Cert.AdRepRefIdeal.τ).loc Cert.AdRepRefIdeal.main_arg1)
          ∧ r.2.mem ((c.tc : Thread Cert.AdRepRefIdeal.nD Cert.AdRepRefIdeal.τ).loc Cert.AdRepRefIdeal.main_arg2) = m' ((c.tc : Thread Cert.AdRepRefIdeal.nD Cert.AdRepRefIdeal.τ).loc Cert.AdRepRefIdeal.main_arg2)
          ∧ r.2.mem ((c.tc : Thread Cert.AdRepRefIdeal.nD Cert.AdRepRefIdeal.τ).loc Cert.AdRepRefIdeal.main_arg3) = m' ((c.tc : Thread Cert.AdRepRefIdeal.nD Cert.AdRepRefIdeal.τ).loc Cert.AdRepRefIdeal.main_arg3)
          ∧ r.2.mem ((c.tc : Thread Cert.AdRepRefIdeal.nD Cert.AdRepRefIdeal.τ).loc Cert.AdRepRefIdeal.main_arg4) = m' ((c.tc : Thread Cert.AdRepRefIdeal.nD Cert.AdRepRefIdeal.τ).loc Cert.AdRepRefIdeal.main_arg4)
          ∧ r.2.mem ((c.tc : Thread Cert.AdRepRefIdeal.nD Cert.AdRepRefIdeal.τ).loc Cert.AdRepRefIdeal.main_arg5) = m' ((c.tc : Thread Cert.AdRepRefIdeal.nD Cert.AdRepRefIdeal.τ).loc Cert.AdRepRefIdeal.main_arg5)
          ∧ r.2.mem ((c.tc : Thread Cert.AdRepRefIdeal.nD Cert.AdRepRefIdeal.τ).loc Cert.AdRepRefIdeal.main_arg6) = m' ((c.tc : Thread Cert.AdRepRefIdeal.nD Cert.AdRepRefIdeal.τ).loc Cert.AdRepRefIdeal.main_arg6)
          ∧ r.2.mem ((c.tc : Thread Cert.AdRepRefIdeal.nD Cert.AdRepRefIdeal.τ).loc Cert.AdRepRefIdeal.main_arg7) = m' ((c.tc : Thread Cert.AdRepRefIdeal.nD Cert.AdRepRefIdeal.τ).loc Cert.AdRepRefIdeal.main_arg7)
          ∧ r.2.mem ((c.tc : Thread Cert.AdRepRefIdeal.nD Cert.AdRepRefIdeal.τ).loc Cert.AdRepRefIdeal.main_arg8) = m' ((c.tc : Thread Cert.AdRepRefIdeal.nD Cert.AdRepRefIdeal.τ).loc Cert.AdRepRefIdeal.main_arg8)
          ∧ r.2.mem ((c.tc : Thread Cert.AdRepRefIdeal.nD Cert.AdRepRefIdeal.τ).loc Cert.AdRepRefIdeal.main_arg9) = m' ((c.tc : Thread Cert.AdRepRefIdeal.nD Cert.AdRepRefIdeal.τ).loc Cert.AdRepRefIdeal.main_arg9)
          ∧ r.2.mem ((c.tc : Thread Cert.AdRepRefIdeal.nD Cert.AdRepRefIdeal.τ).loc Cert.AdRepRefIdeal.main_arg10) = m' ((c.tc : Thread Cert.AdRepRefIdeal.nD Cert.AdRepRefIdeal.τ).loc Cert.AdRepRefIdeal.main_arg10)
          ∧ r.2.mem ((c.tc : Thread Cert.AdRepRefIdeal.nD Cert.AdRepRefIdeal.τ).loc Cert.AdRepRefIdeal.main_arg11) = m' ((c.tc : Thread Cert.AdRepRefIdeal.nD Cert.AdRepRefIdeal.τ).loc Cert.AdRepRefIdeal.main_arg11)
          ∧ r.2.mem ((c.tc : Thread Cert.AdRepRefIdeal.nD Cert.AdRepRefIdeal.τ).loc Cert.AdRepRefIdeal.main_arg12) = m' ((c.tc : Thread Cert.AdRepRefIdeal.nD Cert.AdRepRefIdeal.τ).loc Cert.AdRepRefIdeal.main_arg12)
          ∧ r.2.mem ((c.tc : Thread Cert.AdRepRefIdeal.nD Cert.AdRepRefIdeal.τ).loc Cert.AdRepRefIdeal.main_arg13) = m' ((c.tc : Thread Cert.AdRepRefIdeal.nD Cert.AdRepRefIdeal.τ).loc Cert.AdRepRefIdeal.main_arg13)
          ∧ r.2.mem ((c.tc : Thread Cert.AdRepRefIdeal.nD Cert.AdRepRefIdeal.τ).loc Cert.AdRepRefIdeal.main_arg14) = m' ((c.tc : Thread Cert.AdRepRefIdeal.nD Cert.AdRepRefIdeal.τ).loc Cert.AdRepRefIdeal.main_arg14)
          ∧ r.2.mem ((c.tc : Thread Cert.AdRepRefIdeal.nD Cert.AdRepRefIdeal.τ).loc Cert.AdRepRefIdeal.main_arg15) = m' ((c.tc : Thread Cert.AdRepRefIdeal.nD Cert.AdRepRefIdeal.τ).loc Cert.AdRepRefIdeal.main_arg15)
          ∧ r.2.mem ((c.tc : Thread Cert.AdRepRefIdeal.nD Cert.AdRepRefIdeal.τ).loc Cert.AdRepRefIdeal.main_arg16) = m' ((c.tc : Thread Cert.AdRepRefIdeal.nD Cert.AdRepRefIdeal.τ).loc Cert.AdRepRefIdeal.main_arg16)
          ∧ r.2.mem ((c.tc : Thread Cert.AdRepRefIdeal.nD Cert.AdRepRefIdeal.τ).loc Cert.AdRepRefIdeal.main_arg17) = m' ((c.tc : Thread Cert.AdRepRefIdeal.nD Cert.AdRepRefIdeal.τ).loc Cert.AdRepRefIdeal.main_arg17)
          ∧ r.2.mem ((c.tc : Thread Cert.AdRepRefIdeal.nD Cert.AdRepRefIdeal.τ).loc Cert.AdRepRefIdeal.main_arg18) = m' ((c.tc : Thread Cert.AdRepRefIdeal.nD Cert.AdRepRefIdeal.τ).loc Cert.AdRepRefIdeal.main_arg18)
          ∧ r.2.mem ((c.tc : Thread Cert.AdRepRefIdeal.nD Cert.AdRepRefIdeal.τ).loc Cert.AdRepRefIdeal.main_arg19) = m' ((c.tc : Thread Cert.AdRepRefIdeal.nD Cert.AdRepRefIdeal.τ).loc Cert.AdRepRefIdeal.main_arg19)
          ∧ r.2.mem ((c.tc : Thread Cert.AdRepRefIdeal.nD Cert.AdRepRefIdeal.τ).loc Cert.AdRepRefIdeal.main_arg20) = m' ((c.tc : Thread Cert.AdRepRefIdeal.nD Cert.AdRepRefIdeal.τ).loc Cert.AdRepRefIdeal.main_arg20)
          ∧ r.2.mem ((c.tc : Thread Cert.AdRepRefIdeal.nD Cert.AdRepRefIdeal.τ).loc Cert.AdRepRefIdeal.main_arg21) = m' ((c.tc : Thread Cert.AdRepRefIdeal.nD Cert.AdRepRefIdeal.τ).loc Cert.AdRepRefIdeal.main_arg21)
          ∧ r.2.mem ((c.tc : Thread Cert.AdRepRefIdeal.nD Cert.AdRepRefIdeal.τ).loc Cert.AdRepRefIdeal.main_arg22) = m' ((c.tc : Thread Cert.AdRepRefIdeal.nD Cert.AdRepRefIdeal.τ).loc Cert.AdRepRefIdeal.main_arg22)
          ∧ r.2.mem ((c.tc : Thread Cert.AdRepRefIdeal.nD Cert.AdRepRefIdeal.τ).loc Cert.AdRepRefIdeal.main_arg23) = m' ((c.tc : Thread Cert.AdRepRefIdeal.nD Cert.AdRepRefIdeal.τ).loc Cert.AdRepRefIdeal.main_arg23)
          ∧ r.2.mem ((c.tc : Thread Cert.AdRepRefIdeal.nD Cert.AdRepRefIdeal.τ).loc Cert.AdRepRefIdeal.main_arg24) = m' ((c.tc : Thread Cert.AdRepRefIdeal.nD Cert.AdRepRefIdeal.τ).loc Cert.AdRepRefIdeal.main_arg24)
          ∧ r.2.mem ((c.tc : Thread Cert.AdRepRefIdeal.nD Cert.AdRepRefIdeal.τ).loc Cert.AdRepRefIdeal.main_arg25) = m' ((c.tc : Thread Cert.AdRepRefIdeal.nD Cert.AdRepRefIdeal.τ).loc Cert.AdRepRefIdeal.main_arg25)
          ∧ r.2.mem ((c.tc : Thread Cert.AdRepRefIdeal.nD Cert.AdRepRefIdeal.τ).loc Cert.AdRepRefIdeal.main_arg26) = m' ((c.tc : Thread Cert.AdRepRefIdeal.nD Cert.AdRepRefIdeal.τ).loc Cert.AdRepRefIdeal.main_arg26)
          ∧ r.2.mem ((c.tc : Thread Cert.AdRepRefIdeal.nD Cert.AdRepRefIdeal.τ).loc Cert.AdRepRefIdeal.main_arg27) = m' ((c.tc : Thread Cert.AdRepRefIdeal.nD Cert.AdRepRefIdeal.τ).loc Cert.AdRepRefIdeal.main_arg27))

def preserves_MbConv_MbConvIdeal : Prop :=
  True

def algebraic_MbConvIdeal_MbConvRefIdeal [hMbConvIdeal : Cert.MbConvIdeal.Facts] [hMbConvRefIdeal : Cert.MbConvRefIdeal.Facts] : Prop :=
  ∀ (m : (ℓ : Loc Cert.MbConvIdeal.nD Cert.MbConvIdeal.τ Cert.MbConvIdeal.sig) → Buf (Elt Ideal) ℓ) (g : Dev Cert.MbConvIdeal.nD → PrngReg)
    (m' : (ℓ : Loc Cert.MbConvRefIdeal.nD Cert.MbConvRefIdeal.τ Cert.MbConvRefIdeal.sig) → Buf (Elt Ideal) ℓ) (g' : Dev Cert.MbConvRefIdeal.nD → PrngReg), Pre_MbConvIdeal m →
    (∀ c : Dev Cert.MbConvIdeal.nD,
      m' ((c.tc : Thread Cert.MbConvRefIdeal.nD Cert.MbConvRefIdeal.τ).loc Cert.MbConvRefIdeal.main_arg0) = m ((c.tc : Thread Cert.MbConvIdeal.nD Cert.MbConvIdeal.τ).loc Cert.MbConvIdeal.main_arg0)
      ∧ m' ((c.tc : Thread Cert.MbConvRefIdeal.nD Cert.MbConvRefIdeal.τ).loc Cert.MbConvRefIdeal.main_arg1) = m ((c.tc : Thread Cert.MbConvIdeal.nD Cert.MbConvIdeal.τ).loc Cert.MbConvIdeal.main_arg1)
      ∧ m' ((c.tc : Thread Cert.MbConvRefIdeal.nD Cert.MbConvRefIdeal.τ).loc Cert.MbConvRefIdeal.main_arg2) = m ((c.tc : Thread Cert.MbConvIdeal.nD Cert.MbConvIdeal.τ).loc Cert.MbConvIdeal.main_arg2)
      ∧ m' ((c.tc : Thread Cert.MbConvRefIdeal.nD Cert.MbConvRefIdeal.τ).loc Cert.MbConvRefIdeal.main_arg3) = m ((c.tc : Thread Cert.MbConvIdeal.nD Cert.MbConvIdeal.τ).loc Cert.MbConvIdeal.main_arg3)
      ∧ m' ((c.tc : Thread Cert.MbConvRefIdeal.nD Cert.MbConvRefIdeal.τ).loc Cert.MbConvRefIdeal.main_arg4) = m ((c.tc : Thread Cert.MbConvIdeal.nD Cert.MbConvIdeal.τ).loc Cert.MbConvIdeal.main_arg4)
      ∧ m' ((c.tc : Thread Cert.MbConvRefIdeal.nD Cert.MbConvRefIdeal.τ).loc Cert.MbConvRefIdeal.main_arg5) = m ((c.tc : Thread Cert.MbConvIdeal.nD Cert.MbConvIdeal.τ).loc Cert.MbConvIdeal.main_arg5)) →
    ∃ (v0 : (c : Dev Cert.MbConvIdeal.nD) → Buf (Elt Ideal) ((c.tc : Thread Cert.MbConvIdeal.nD Cert.MbConvIdeal.τ).loc Cert.MbConvIdeal.main_v0)) (v1 : (c : Dev Cert.MbConvIdeal.nD) → Buf (Elt Ideal) ((c.tc : Thread Cert.MbConvIdeal.nD Cert.MbConvIdeal.τ).loc Cert.MbConvIdeal.main_v1_0)) (v2 : (c : Dev Cert.MbConvIdeal.nD) → Buf (Elt Ideal) ((c.tc : Thread Cert.MbConvIdeal.nD Cert.MbConvIdeal.τ).loc Cert.MbConvIdeal.main_v1_1)) (v3 : (c : Dev Cert.MbConvIdeal.nD) → Buf (Elt Ideal) ((c.tc : Thread Cert.MbConvIdeal.nD Cert.MbConvIdeal.τ).loc Cert.MbConvIdeal.main_v1_2)),
      θ_run (Cert.MbConvIdeal.defs (F := Ideal)) (onTc (τ := Cert.MbConvIdeal.τ) (Cert.MbConvIdeal.main (F := Ideal))) ⟨m, fun _ => 0, g⟩ (fun r => ∀ c : Dev Cert.MbConvIdeal.nD,
          r.2.mem ((c.tc : Thread Cert.MbConvIdeal.nD Cert.MbConvIdeal.τ).loc Cert.MbConvIdeal.main_v0) = v0 c
          ∧ r.2.mem ((c.tc : Thread Cert.MbConvIdeal.nD Cert.MbConvIdeal.τ).loc Cert.MbConvIdeal.main_v1_0) = v1 c
          ∧ r.2.mem ((c.tc : Thread Cert.MbConvIdeal.nD Cert.MbConvIdeal.τ).loc Cert.MbConvIdeal.main_v1_1) = v2 c
          ∧ r.2.mem ((c.tc : Thread Cert.MbConvIdeal.nD Cert.MbConvIdeal.τ).loc Cert.MbConvIdeal.main_v1_2) = v3 c
          ∧ r.2.mem ((c.tc : Thread Cert.MbConvIdeal.nD Cert.MbConvIdeal.τ).loc Cert.MbConvIdeal.main_arg0) = m ((c.tc : Thread Cert.MbConvIdeal.nD Cert.MbConvIdeal.τ).loc Cert.MbConvIdeal.main_arg0)
          ∧ r.2.mem ((c.tc : Thread Cert.MbConvIdeal.nD Cert.MbConvIdeal.τ).loc Cert.MbConvIdeal.main_arg1) = m ((c.tc : Thread Cert.MbConvIdeal.nD Cert.MbConvIdeal.τ).loc Cert.MbConvIdeal.main_arg1)
          ∧ r.2.mem ((c.tc : Thread Cert.MbConvIdeal.nD Cert.MbConvIdeal.τ).loc Cert.MbConvIdeal.main_arg2) = m ((c.tc : Thread Cert.MbConvIdeal.nD Cert.MbConvIdeal.τ).loc Cert.MbConvIdeal.main_arg2)
          ∧ r.2.mem ((c.tc : Thread Cert.MbConvIdeal.nD Cert.MbConvIdeal.τ).loc Cert.MbConvIdeal.main_arg3) = m ((c.tc : Thread Cert.MbConvIdeal.nD Cert.MbConvIdeal.τ).loc Cert.MbConvIdeal.main_arg3)
          ∧ r.2.mem ((c.tc : Thread Cert.MbConvIdeal.nD Cert.MbConvIdeal.τ).loc Cert.MbConvIdeal.main_arg4) = m ((c.tc : Thread Cert.MbConvIdeal.nD Cert.MbConvIdeal.τ).loc Cert.MbConvIdeal.main_arg4)
          ∧ r.2.mem ((c.tc : Thread Cert.MbConvIdeal.nD Cert.MbConvIdeal.τ).loc Cert.MbConvIdeal.main_arg5) = m ((c.tc : Thread Cert.MbConvIdeal.nD Cert.MbConvIdeal.τ).loc Cert.MbConvIdeal.main_arg5))
      ∧ θ_run (Cert.MbConvRefIdeal.defs (F := Ideal)) (onTc (τ := Cert.MbConvRefIdeal.τ) (Cert.MbConvRefIdeal.main (F := Ideal))) ⟨m', fun _ => 0, g'⟩ (fun r => ∀ c : Dev Cert.MbConvRefIdeal.nD,
          r.2.mem ((c.tc : Thread Cert.MbConvRefIdeal.nD Cert.MbConvRefIdeal.τ).loc Cert.MbConvRefIdeal.main_v45_0) = v0 c
          ∧ r.2.mem ((c.tc : Thread Cert.MbConvRefIdeal.nD Cert.MbConvRefIdeal.τ).loc Cert.MbConvRefIdeal.main_v110) = v1 c
          ∧ r.2.mem ((c.tc : Thread Cert.MbConvRefIdeal.nD Cert.MbConvRefIdeal.τ).loc Cert.MbConvRefIdeal.main_v109) = v2 c
          ∧ r.2.mem ((c.tc : Thread Cert.MbConvRefIdeal.nD Cert.MbConvRefIdeal.τ).loc Cert.MbConvRefIdeal.main_v49) = v3 c
          ∧ r.2.mem ((c.tc : Thread Cert.MbConvRefIdeal.nD Cert.MbConvRefIdeal.τ).loc Cert.MbConvRefIdeal.main_arg0) = m' ((c.tc : Thread Cert.MbConvRefIdeal.nD Cert.MbConvRefIdeal.τ).loc Cert.MbConvRefIdeal.main_arg0)
          ∧ r.2.mem ((c.tc : Thread Cert.MbConvRefIdeal.nD Cert.MbConvRefIdeal.τ).loc Cert.MbConvRefIdeal.main_arg1) = m' ((c.tc : Thread Cert.MbConvRefIdeal.nD Cert.MbConvRefIdeal.τ).loc Cert.MbConvRefIdeal.main_arg1)
          ∧ r.2.mem ((c.tc : Thread Cert.MbConvRefIdeal.nD Cert.MbConvRefIdeal.τ).loc Cert.MbConvRefIdeal.main_arg2) = m' ((c.tc : Thread Cert.MbConvRefIdeal.nD Cert.MbConvRefIdeal.τ).loc Cert.MbConvRefIdeal.main_arg2)
          ∧ r.2.mem ((c.tc : Thread Cert.MbConvRefIdeal.nD Cert.MbConvRefIdeal.τ).loc Cert.MbConvRefIdeal.main_arg3) = m' ((c.tc : Thread Cert.MbConvRefIdeal.nD Cert.MbConvRefIdeal.τ).loc Cert.MbConvRefIdeal.main_arg3)
          ∧ r.2.mem ((c.tc : Thread Cert.MbConvRefIdeal.nD Cert.MbConvRefIdeal.τ).loc Cert.MbConvRefIdeal.main_arg4) = m' ((c.tc : Thread Cert.MbConvRefIdeal.nD Cert.MbConvRefIdeal.τ).loc Cert.MbConvRefIdeal.main_arg4)
          ∧ r.2.mem ((c.tc : Thread Cert.MbConvRefIdeal.nD Cert.MbConvRefIdeal.τ).loc Cert.MbConvRefIdeal.main_arg5) = m' ((c.tc : Thread Cert.MbConvRefIdeal.nD Cert.MbConvRefIdeal.τ).loc Cert.MbConvRefIdeal.main_arg5))

def preserves_HgPre_HgPreIdeal : Prop :=
  True

def algebraic_HgPreIdeal_HgPreRefIdeal [hHgPreIdeal : Cert.HgPreIdeal.Facts] [hHgPreRefIdeal : Cert.HgPreRefIdeal.Facts] : Prop :=
  ∀ (m : (ℓ : Loc Cert.HgPreIdeal.nD Cert.HgPreIdeal.τ Cert.HgPreIdeal.sig) → Buf (Elt Ideal) ℓ) (g : Dev Cert.HgPreIdeal.nD → PrngReg)
    (m' : (ℓ : Loc Cert.HgPreRefIdeal.nD Cert.HgPreRefIdeal.τ Cert.HgPreRefIdeal.sig) → Buf (Elt Ideal) ℓ) (g' : Dev Cert.HgPreRefIdeal.nD → PrngReg), Pre_HgPreIdeal m →
    (∀ c : Dev Cert.HgPreIdeal.nD,
      m' ((c.tc : Thread Cert.HgPreRefIdeal.nD Cert.HgPreRefIdeal.τ).loc Cert.HgPreRefIdeal.main_arg0) = m ((c.tc : Thread Cert.HgPreIdeal.nD Cert.HgPreIdeal.τ).loc Cert.HgPreIdeal.main_arg0)
      ∧ m' ((c.tc : Thread Cert.HgPreRefIdeal.nD Cert.HgPreRefIdeal.τ).loc Cert.HgPreRefIdeal.main_arg1) = m ((c.tc : Thread Cert.HgPreIdeal.nD Cert.HgPreIdeal.τ).loc Cert.HgPreIdeal.main_arg1)) →
    ∃ (v0 : (c : Dev Cert.HgPreIdeal.nD) → Buf (Elt Ideal) ((c.tc : Thread Cert.HgPreIdeal.nD Cert.HgPreIdeal.τ).loc Cert.HgPreIdeal.main_v0_0)) (v1 : (c : Dev Cert.HgPreIdeal.nD) → Buf (Elt Ideal) ((c.tc : Thread Cert.HgPreIdeal.nD Cert.HgPreIdeal.τ).loc Cert.HgPreIdeal.main_v0_1)) (v2 : (c : Dev Cert.HgPreIdeal.nD) → Buf (Elt Ideal) ((c.tc : Thread Cert.HgPreIdeal.nD Cert.HgPreIdeal.τ).loc Cert.HgPreIdeal.main_v0_2)) (v3 : (c : Dev Cert.HgPreIdeal.nD) → Buf (Elt Ideal) ((c.tc : Thread Cert.HgPreIdeal.nD Cert.HgPreIdeal.τ).loc Cert.HgPreIdeal.main_v0_3)) (v4 : (c : Dev Cert.HgPreIdeal.nD) → Buf (Elt Ideal) ((c.tc : Thread Cert.HgPreIdeal.nD Cert.HgPreIdeal.τ).loc Cert.HgPreIdeal.main_v0_4)),
      θ_run (Cert.HgPreIdeal.defs (F := Ideal)) (onTc (τ := Cert.HgPreIdeal.τ) (Cert.HgPreIdeal.main (F := Ideal))) ⟨m, fun _ => 0, g⟩ (fun r => ∀ c : Dev Cert.HgPreIdeal.nD,
          r.2.mem ((c.tc : Thread Cert.HgPreIdeal.nD Cert.HgPreIdeal.τ).loc Cert.HgPreIdeal.main_v0_0) = v0 c
          ∧ r.2.mem ((c.tc : Thread Cert.HgPreIdeal.nD Cert.HgPreIdeal.τ).loc Cert.HgPreIdeal.main_v0_1) = v1 c
          ∧ r.2.mem ((c.tc : Thread Cert.HgPreIdeal.nD Cert.HgPreIdeal.τ).loc Cert.HgPreIdeal.main_v0_2) = v2 c
          ∧ r.2.mem ((c.tc : Thread Cert.HgPreIdeal.nD Cert.HgPreIdeal.τ).loc Cert.HgPreIdeal.main_v0_3) = v3 c
          ∧ r.2.mem ((c.tc : Thread Cert.HgPreIdeal.nD Cert.HgPreIdeal.τ).loc Cert.HgPreIdeal.main_v0_4) = v4 c
          ∧ r.2.mem ((c.tc : Thread Cert.HgPreIdeal.nD Cert.HgPreIdeal.τ).loc Cert.HgPreIdeal.main_arg0) = m ((c.tc : Thread Cert.HgPreIdeal.nD Cert.HgPreIdeal.τ).loc Cert.HgPreIdeal.main_arg0)
          ∧ r.2.mem ((c.tc : Thread Cert.HgPreIdeal.nD Cert.HgPreIdeal.τ).loc Cert.HgPreIdeal.main_arg1) = m ((c.tc : Thread Cert.HgPreIdeal.nD Cert.HgPreIdeal.τ).loc Cert.HgPreIdeal.main_arg1))
      ∧ θ_run (Cert.HgPreRefIdeal.defs (F := Ideal)) (onTc (τ := Cert.HgPreRefIdeal.τ) (Cert.HgPreRefIdeal.main (F := Ideal))) ⟨m', fun _ => 0, g'⟩ (fun r => ∀ c : Dev Cert.HgPreRefIdeal.nD,
          r.2.mem ((c.tc : Thread Cert.HgPreRefIdeal.nD Cert.HgPreRefIdeal.τ).loc Cert.HgPreRefIdeal.main_v51) = v0 c
          ∧ r.2.mem ((c.tc : Thread Cert.HgPreRefIdeal.nD Cert.HgPreRefIdeal.τ).loc Cert.HgPreRefIdeal.main_v31) = v1 c
          ∧ r.2.mem ((c.tc : Thread Cert.HgPreRefIdeal.nD Cert.HgPreRefIdeal.τ).loc Cert.HgPreRefIdeal.main_v33) = v2 c
          ∧ r.2.mem ((c.tc : Thread Cert.HgPreRefIdeal.nD Cert.HgPreRefIdeal.τ).loc Cert.HgPreRefIdeal.main_v48) = v3 c
          ∧ r.2.mem ((c.tc : Thread Cert.HgPreRefIdeal.nD Cert.HgPreRefIdeal.τ).loc Cert.HgPreRefIdeal.main_v50) = v4 c
          ∧ r.2.mem ((c.tc : Thread Cert.HgPreRefIdeal.nD Cert.HgPreRefIdeal.τ).loc Cert.HgPreRefIdeal.main_arg0) = m' ((c.tc : Thread Cert.HgPreRefIdeal.nD Cert.HgPreRefIdeal.τ).loc Cert.HgPreRefIdeal.main_arg0)
          ∧ r.2.mem ((c.tc : Thread Cert.HgPreRefIdeal.nD Cert.HgPreRefIdeal.τ).loc Cert.HgPreRefIdeal.main_arg1) = m' ((c.tc : Thread Cert.HgPreRefIdeal.nD Cert.HgPreRefIdeal.τ).loc Cert.HgPreRefIdeal.main_arg1))

def Claim : Prop :=
  ∃ (hFfn : Cert.Ffn.Facts) (hFfnIdeal : Cert.FfnIdeal.Facts) (hFfnRefIdeal : Cert.FfnRefIdeal.Facts) (hHgIn : Cert.HgIn.Facts) (hHgInIdeal : Cert.HgInIdeal.Facts) (hHgInRefIdeal : Cert.HgInRefIdeal.Facts) (hMbIn : Cert.MbIn.Facts) (hMbInIdeal : Cert.MbInIdeal.Facts) (hMbInRefIdeal : Cert.MbInRefIdeal.Facts) (hHgOut : Cert.HgOut.Facts) (hHgOutIdeal : Cert.HgOutIdeal.Facts) (hHgOutRefIdeal : Cert.HgOutRefIdeal.Facts) (hMbOut : Cert.MbOut.Facts) (hMbOutIdeal : Cert.MbOutIdeal.Facts) (hMbOutRefIdeal : Cert.MbOutRefIdeal.Facts) (hAdAIn : Cert.AdAIn.Facts) (hAdAInIdeal : Cert.AdAInIdeal.Facts) (hAdAInRefIdeal : Cert.AdAInRefIdeal.Facts) (hAdAOut : Cert.AdAOut.Facts) (hAdAOutIdeal : Cert.AdAOutIdeal.Facts) (hAdAOutRefIdeal : Cert.AdAOutRefIdeal.Facts) (hAdBIn : Cert.AdBIn.Facts) (hAdBInIdeal : Cert.AdBInIdeal.Facts) (hAdBInRefIdeal : Cert.AdBInRefIdeal.Facts) (hAdBOut : Cert.AdBOut.Facts) (hAdBOutIdeal : Cert.AdBOutIdeal.Facts) (hAdBOutRefIdeal : Cert.AdBOutRefIdeal.Facts) (hAdFfnIn : Cert.AdFfnIn.Facts) (hAdFfnInIdeal : Cert.AdFfnInIdeal.Facts) (hAdFfnInRefIdeal : Cert.AdFfnInRefIdeal.Facts) (hAdFfnOut : Cert.AdFfnOut.Facts) (hAdFfnOutIdeal : Cert.AdFfnOutIdeal.Facts) (hAdFfnOutRefIdeal : Cert.AdFfnOutRefIdeal.Facts) (hAdSmall : Cert.AdSmall.Facts) (hAdSmallIdeal : Cert.AdSmallIdeal.Facts) (hAdSmallRefIdeal : Cert.AdSmallRefIdeal.Facts) (hAdRep : Cert.AdRep.Facts) (hAdRepIdeal : Cert.AdRepIdeal.Facts) (hAdRepRefIdeal : Cert.AdRepRefIdeal.Facts) (hMbConv : Cert.MbConv.Facts) (hMbConvIdeal : Cert.MbConvIdeal.Facts) (hMbConvRefIdeal : Cert.MbConvRefIdeal.Facts) (hHgPre : Cert.HgPre.Facts) (hHgPreIdeal : Cert.HgPreIdeal.Facts) (hHgPreRefIdeal : Cert.HgPreRefIdeal.Facts),
    quiescent_Ffn (hFfn := hFfn)
    ∧ quiescent_FfnIdeal (hFfnIdeal := hFfnIdeal)
    ∧ quiescent_FfnRefIdeal (hFfnRefIdeal := hFfnRefIdeal)
    ∧ quiescent_HgIn (hHgIn := hHgIn)
    ∧ quiescent_HgInIdeal (hHgInIdeal := hHgInIdeal)
    ∧ quiescent_HgInRefIdeal (hHgInRefIdeal := hHgInRefIdeal)
    ∧ quiescent_MbIn (hMbIn := hMbIn)
    ∧ quiescent_MbInIdeal (hMbInIdeal := hMbInIdeal)
    ∧ quiescent_MbInRefIdeal (hMbInRefIdeal := hMbInRefIdeal)
    ∧ quiescent_HgOut (hHgOut := hHgOut)
    ∧ quiescent_HgOutIdeal (hHgOutIdeal := hHgOutIdeal)
    ∧ quiescent_HgOutRefIdeal (hHgOutRefIdeal := hHgOutRefIdeal)
    ∧ quiescent_MbOut (hMbOut := hMbOut)
    ∧ quiescent_MbOutIdeal (hMbOutIdeal := hMbOutIdeal)
    ∧ quiescent_MbOutRefIdeal (hMbOutRefIdeal := hMbOutRefIdeal)
    ∧ quiescent_AdAIn (hAdAIn := hAdAIn)
    ∧ quiescent_AdAInIdeal (hAdAInIdeal := hAdAInIdeal)
    ∧ quiescent_AdAInRefIdeal (hAdAInRefIdeal := hAdAInRefIdeal)
    ∧ quiescent_AdAOut (hAdAOut := hAdAOut)
    ∧ quiescent_AdAOutIdeal (hAdAOutIdeal := hAdAOutIdeal)
    ∧ quiescent_AdAOutRefIdeal (hAdAOutRefIdeal := hAdAOutRefIdeal)
    ∧ quiescent_AdBIn (hAdBIn := hAdBIn)
    ∧ quiescent_AdBInIdeal (hAdBInIdeal := hAdBInIdeal)
    ∧ quiescent_AdBInRefIdeal (hAdBInRefIdeal := hAdBInRefIdeal)
    ∧ quiescent_AdBOut (hAdBOut := hAdBOut)
    ∧ quiescent_AdBOutIdeal (hAdBOutIdeal := hAdBOutIdeal)
    ∧ quiescent_AdBOutRefIdeal (hAdBOutRefIdeal := hAdBOutRefIdeal)
    ∧ quiescent_AdFfnIn (hAdFfnIn := hAdFfnIn)
    ∧ quiescent_AdFfnInIdeal (hAdFfnInIdeal := hAdFfnInIdeal)
    ∧ quiescent_AdFfnInRefIdeal (hAdFfnInRefIdeal := hAdFfnInRefIdeal)
    ∧ quiescent_AdFfnOut (hAdFfnOut := hAdFfnOut)
    ∧ quiescent_AdFfnOutIdeal (hAdFfnOutIdeal := hAdFfnOutIdeal)
    ∧ quiescent_AdFfnOutRefIdeal (hAdFfnOutRefIdeal := hAdFfnOutRefIdeal)
    ∧ quiescent_AdSmall (hAdSmall := hAdSmall)
    ∧ quiescent_AdSmallIdeal (hAdSmallIdeal := hAdSmallIdeal)
    ∧ quiescent_AdSmallRefIdeal (hAdSmallRefIdeal := hAdSmallRefIdeal)
    ∧ quiescent_AdRep (hAdRep := hAdRep)
    ∧ quiescent_AdRepIdeal (hAdRepIdeal := hAdRepIdeal)
    ∧ quiescent_AdRepRefIdeal (hAdRepRefIdeal := hAdRepRefIdeal)
    ∧ quiescent_MbConv (hMbConv := hMbConv)
    ∧ quiescent_MbConvIdeal (hMbConvIdeal := hMbConvIdeal)
    ∧ quiescent_MbConvRefIdeal (hMbConvRefIdeal := hMbConvRefIdeal)
    ∧ quiescent_HgPre (hHgPre := hHgPre)
    ∧ quiescent_HgPreIdeal (hHgPreIdeal := hHgPreIdeal)
    ∧ quiescent_HgPreRefIdeal (hHgPreRefIdeal := hHgPreRefIdeal)
    ∧ preserves_Ffn_FfnIdeal
    ∧ algebraic_FfnIdeal_FfnRefIdeal (hFfnIdeal := hFfnIdeal) (hFfnRefIdeal := hFfnRefIdeal)
    ∧ preserves_HgIn_HgInIdeal
    ∧ algebraic_HgInIdeal_HgInRefIdeal (hHgInIdeal := hHgInIdeal) (hHgInRefIdeal := hHgInRefIdeal)
    ∧ preserves_MbIn_MbInIdeal
    ∧ algebraic_MbInIdeal_MbInRefIdeal (hMbInIdeal := hMbInIdeal) (hMbInRefIdeal := hMbInRefIdeal)
    ∧ preserves_HgOut_HgOutIdeal
    ∧ algebraic_HgOutIdeal_HgOutRefIdeal (hHgOutIdeal := hHgOutIdeal) (hHgOutRefIdeal := hHgOutRefIdeal)
    ∧ preserves_MbOut_MbOutIdeal
    ∧ algebraic_MbOutIdeal_MbOutRefIdeal (hMbOutIdeal := hMbOutIdeal) (hMbOutRefIdeal := hMbOutRefIdeal)
    ∧ preserves_AdAIn_AdAInIdeal
    ∧ algebraic_AdAInIdeal_AdAInRefIdeal (hAdAInIdeal := hAdAInIdeal) (hAdAInRefIdeal := hAdAInRefIdeal)
    ∧ preserves_AdAOut_AdAOutIdeal
    ∧ algebraic_AdAOutIdeal_AdAOutRefIdeal (hAdAOutIdeal := hAdAOutIdeal) (hAdAOutRefIdeal := hAdAOutRefIdeal)
    ∧ preserves_AdBIn_AdBInIdeal
    ∧ algebraic_AdBInIdeal_AdBInRefIdeal (hAdBInIdeal := hAdBInIdeal) (hAdBInRefIdeal := hAdBInRefIdeal)
    ∧ preserves_AdBOut_AdBOutIdeal
    ∧ algebraic_AdBOutIdeal_AdBOutRefIdeal (hAdBOutIdeal := hAdBOutIdeal) (hAdBOutRefIdeal := hAdBOutRefIdeal)
    ∧ preserves_AdFfnIn_AdFfnInIdeal
    ∧ algebraic_AdFfnInIdeal_AdFfnInRefIdeal (hAdFfnInIdeal := hAdFfnInIdeal) (hAdFfnInRefIdeal := hAdFfnInRefIdeal)
    ∧ preserves_AdFfnOut_AdFfnOutIdeal
    ∧ algebraic_AdFfnOutIdeal_AdFfnOutRefIdeal (hAdFfnOutIdeal := hAdFfnOutIdeal) (hAdFfnOutRefIdeal := hAdFfnOutRefIdeal)
    ∧ preserves_AdSmall_AdSmallIdeal
    ∧ algebraic_AdSmallIdeal_AdSmallRefIdeal (hAdSmallIdeal := hAdSmallIdeal) (hAdSmallRefIdeal := hAdSmallRefIdeal)
    ∧ preserves_AdRep_AdRepIdeal
    ∧ algebraic_AdRepIdeal_AdRepRefIdeal (hAdRepIdeal := hAdRepIdeal) (hAdRepRefIdeal := hAdRepRefIdeal)
    ∧ preserves_MbConv_MbConvIdeal
    ∧ algebraic_MbConvIdeal_MbConvRefIdeal (hMbConvIdeal := hMbConvIdeal) (hMbConvRefIdeal := hMbConvRefIdeal)
    ∧ preserves_HgPre_HgPreIdeal
    ∧ algebraic_HgPreIdeal_HgPreRefIdeal (hHgPreIdeal := hHgPreIdeal) (hHgPreRefIdeal := hHgPreRefIdeal)
-- ==== Ffn.lean ====
abbrev S4096x1024 : Shape := ⟨2, ![4096, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S4096x2816 : Shape := ⟨2, ![4096, 2816]⟩
abbrev S1024x1024 : Shape := ⟨2, ![1024, 1024]⟩
abbrev S1024x2816 : Shape := ⟨2, ![1024, 2816]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S4096x256 : Shape := ⟨2, ![4096, 256]⟩
abbrev S128 : Shape := ⟨1, ![128]⟩
abbrev S2x128 : Shape := ⟨2, ![2, 128]⟩
abbrev S4096x512 : Shape := ⟨2, ![4096, 512]⟩
abbrev S4096x1408 : Shape := ⟨2, ![4096, 1408]⟩
abbrev S512x1408 : Shape := ⟨2, ![512, 1408]⟩
abbrev S1024 : Shape := ⟨1, ![1024]⟩

abbrev nBuf : Space → Nat
  | .hbm => 29
  | .vmem => 95
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x2816, .f32⟩
  | .hbm, ⟨4, _⟩ => ⟨S1x2816, .f32⟩
  | .hbm, ⟨5, _⟩ => ⟨S2816x1024, .f32⟩
  | .hbm, ⟨6, _⟩ => ⟨S1x1024, .f32⟩
  | .hbm, ⟨7, _⟩ => ⟨S4096x1024, .f32⟩
  | .hbm, ⟨8, _⟩ => ⟨S1024x5632, .bf16⟩
  | .hbm, ⟨9, _⟩ => ⟨S2816x1024, .bf16⟩
  | .hbm, ⟨10, _⟩ => ⟨S4096x1024, .bf16⟩
  | .hbm, ⟨11, _⟩ => ⟨S4096x2816, .f32⟩
  | .hbm, ⟨12, _⟩ => ⟨S4096x2816, .f32⟩
  | .hbm, ⟨13, _⟩ => ⟨S4096x2816, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S4096x2816, .f32⟩
  | .hbm, ⟨18, _⟩ => ⟨S2816x1024, .f32⟩
  | .hbm, ⟨19, _⟩ => ⟨S4096x2816, .bf16⟩
  | .hbm, ⟨20, _⟩ => ⟨S4096x2816, .bf16⟩
  | .hbm, ⟨21, _⟩ => ⟨S3x2816, .f32⟩
  | .hbm, ⟨22, _⟩ => ⟨S1x2816, .f32⟩
  | .hbm, ⟨23, _⟩ => ⟨S4096x1024, .f32⟩
  | .hbm, ⟨24, _⟩ => ⟨S1024x2816, .f32⟩
  | .hbm, ⟨25, _⟩ => ⟨S1024x2816, .f32⟩
  | .hbm, ⟨26, _⟩ => ⟨S4096x1024, .f32⟩
  | .hbm, ⟨27, _⟩ => ⟨S4096x1024, .bf16⟩
  | .hbm, ⟨28, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2816, .bf16⟩
  | .local _ .vmem, ⟨8, _⟩ => ⟨S1024x2816, .f32⟩
  | .local _ .vmem, ⟨9, _⟩ => ⟨S1024x2816, .f32⟩
  | .local _ .vmem, ⟨10, _⟩ => ⟨S1024x1024, .bf16⟩
  | .local _ .vmem, ⟨11, _⟩ => ⟨S1024x1024, .bf16⟩
  | .local _ .vmem, ⟨12, _⟩ => ⟨S1024x2816, .bf16⟩
  | .local _ .vmem, ⟨13, _⟩ => ⟨S1024x2816, .f32⟩
  | .local _ .vmem, ⟨14, _⟩ => ⟨S1024x2816, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S3x128, .f32⟩
  | .local _ .vmem, ⟨20, _⟩ => ⟨S3x128, .f32⟩
  | .local _ .vmem, ⟨21, _⟩ => ⟨S1x128, .f32⟩
  | .local _ .vmem, ⟨22, _⟩ => ⟨S1x128, .f32⟩
  | .local _ .vmem, ⟨23, _⟩ => ⟨S4096x128, .bf16⟩
  | .local _ .vmem, ⟨24, _⟩ => ⟨S4096x128, .bf16⟩
  | .local _ .vmem, ⟨25, _⟩ => ⟨S512x2816, .bf16⟩
  | .local _ .vmem, ⟨26, _⟩ => ⟨S512x2816, .bf16⟩
  | .local _ .vmem, ⟨27, _⟩ => ⟨S2816x1024, .bf16⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .bf16⟩
  | .local _ .vmem, ⟨34, _⟩ => ⟨S512x1024, .bf16⟩
  | .local _ .vmem, ⟨35, _⟩ => ⟨S1024x1024, .bf16⟩
  | .local _ .vmem, ⟨36, _⟩ => ⟨S1024x1024, .bf16⟩
  | .local _ .vmem, ⟨37, _⟩ => ⟨S2816x1024, .bf16⟩
  | .local _ .vmem, ⟨38, _⟩ => ⟨S1024x2816, .f32⟩
  | .local _ .vmem, ⟨39, _⟩ => ⟨S1024x2816, .f32⟩
  | .local _ .vmem, ⟨40, _⟩ => ⟨S4096x256, .bf16⟩
  | .local _ .vmem, ⟨41, _⟩ => ⟨S4096x256, .bf16⟩
  | .local _ .vmem, ⟨42, _⟩ => ⟨S4096x1024, .bf16⟩
  | .local _ .vmem, ⟨43, _⟩ => ⟨S256x1024, .f32⟩
  | .local _ .vmem, ⟨44, _⟩ => ⟨S256x1024, .f32⟩
  | .local _ .vmem, ⟨45, _⟩ => ⟨S4096x128, .f32⟩
  | .local _ .vmem, ⟨46, _⟩ => ⟨S4096x128, .f32⟩
  | .local _ .vmem, ⟨47, _⟩ => ⟨S4096x128, .f32⟩
  | .local _ .vmem, ⟨48, _⟩ => ⟨S4096x128, .f32⟩
  | .local _ .vmem, ⟨49, _⟩ => ⟨S4096x128, .f32⟩
  | .local _ .vmem, ⟨50, _⟩ => ⟨S4096x128, .f32⟩
  | .local _ .vmem, ⟨51, _⟩ => ⟨S3x128, .f32⟩
  | .local _ .vmem, ⟨52, _⟩ => ⟨S3x128, .f32⟩
  | .local _ .vmem, ⟨53, _⟩ => ⟨S1x128, .f32⟩
  | .local _ .vmem, ⟨54, _⟩ => ⟨S1x128, .f32⟩
  | .local _ .vmem, ⟨55, _⟩ => ⟨S4096x128, .bf16⟩
  | .local _ .vmem, ⟨56, _⟩ => ⟨S4096x128, .bf16⟩
  | .local _ .vmem, ⟨57, _⟩ => ⟨S4096x128, .bf16⟩
  | .local _ .vmem, ⟨58, _⟩ => ⟨S4096x128, .bf16⟩
  | .local _ .vmem, ⟨59, _⟩ => ⟨S3x128, .f32⟩
  | .local _ .vmem, ⟨60, _⟩ => ⟨S3x128, .f32⟩
  | .local _ .vmem, ⟨61, _⟩ => ⟨S1x128, .f32⟩
  | .local _ .vmem, ⟨62, _⟩ => ⟨S1x128, .f32⟩
  | .local _ .vmem, ⟨63, _⟩ => ⟨S1024x2816, .bf16⟩
  | .local _ .vmem, ⟨64, _⟩ => ⟨S1024x2816, .bf16⟩
  | .local _ .vmem, ⟨65, _⟩ => ⟨S1024x2816, .bf16⟩
  | .local _ .vmem, ⟨66, _⟩ => ⟨S1024x1024, .f32⟩
  | .local _ .vmem, ⟨67, _⟩ => ⟨S1024x1024, .f32⟩
  | .local _ .vmem, ⟨68, _⟩ => ⟨S4096x512, .bf16⟩
  | .local _ .vmem, ⟨69, _⟩ => ⟨S4096x512, .bf16⟩
  | .local _ .vmem, ⟨70, _⟩ => ⟨S4096x1408, .bf16⟩
  | .local _ .vmem, ⟨71, _⟩ => ⟨S4096x1408, .bf16⟩
  | .local _ .vmem, ⟨72, _⟩ => ⟨S512x1408, .f32⟩
  | .local _ .vmem, ⟨73, _⟩ => ⟨S512x1408, .f32⟩
  | .local _ .vmem, ⟨74, _⟩ => ⟨S4096x512, .bf16⟩
  | .local _ .vmem, ⟨75, _⟩ => ⟨S4096x512, .bf16⟩
  | .local _ .vmem, ⟨76, _⟩ => ⟨S4096x1408, .bf16⟩
  | .local _ .vmem, ⟨77, _⟩ => ⟨S4096x1408, .bf16⟩
  | .local _ .vmem, ⟨78, _⟩ => ⟨S512x1408, .f32⟩
  | .local _ .vmem, ⟨79, _⟩ => ⟨S512x1408, .f32⟩
  | .local _ .vmem, ⟨80, _⟩ => ⟨S512x2816, .bf16⟩
  | .local _ .vmem, ⟨81, _⟩ => ⟨S512x2816, .bf16⟩
  | .local _ .vmem, ⟨82, _⟩ => ⟨S1024x2816, .bf16⟩
  | .local _ .vmem, ⟨83, _⟩ => ⟨S512x1024, .f32⟩
  | .local _ .vmem, ⟨84, _⟩ => ⟨S512x1024, .f32⟩
  | .local _ .vmem, ⟨85, _⟩ => ⟨S1x1024, .f32⟩
  | .local _ .vmem, ⟨86, _⟩ => ⟨S512x1024, .f32⟩
  | .local _ .vmem, ⟨87, _⟩ => ⟨S512x1024, .f32⟩
  | .local _ .vmem, ⟨88, _⟩ => ⟨S512x1024, .f32⟩
  | .local _ .vmem, ⟨89, _⟩ => ⟨S512x1024, .f32⟩
  | .local _ .vmem, ⟨90, _⟩ => ⟨S512x1024, .f32⟩
  | .local _ .vmem, ⟨91, _⟩ => ⟨S512x1024, .f32⟩
  | .local _ .vmem, ⟨92, _⟩ => ⟨S512x1024, .bf16⟩
  | .local _ .vmem, ⟨93, _⟩ => ⟨S512x1024, .bf16⟩
  | .local _ .vmem, ⟨94, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg4_1 : Ref sig .tc := ⟨.vmem, 32, rfl⟩
abbrev cc4_stg5_0 : Ref sig .tc := ⟨.vmem, 33, rfl⟩
abbrev cc4_stg5_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc7_stg3_0 : Ref sig .tc := ⟨.vmem, 51, rfl⟩
abbrev cc7_stg3_1 : Ref sig .tc := ⟨.vmem, 52, rfl⟩
abbrev cc7_stg4_0 : Ref sig .tc := ⟨.vmem, 53, rfl⟩
abbrev cc7_stg4_1 : Ref sig .tc := ⟨.vmem, 54, rfl⟩
abbrev cc7_stg5_0 : Ref sig .tc := ⟨.vmem, 55, rfl⟩
abbrev cc7_stg5_1 : Ref sig .tc := ⟨.vmem, 56, rfl⟩
abbrev cc7_stg6_0 : Ref sig .tc := ⟨.vmem, 57, rfl⟩
abbrev cc7_stg6_1 : Ref sig .tc := ⟨.vmem, 58, rfl⟩
abbrev cc7_stg7_0 : Ref sig .tc := ⟨.vmem, 59, rfl⟩
abbrev cc7_stg7_1 : Ref sig .tc := ⟨.vmem, 60, rfl⟩
abbrev cc7_stg8_0 : Ref sig .tc := ⟨.vmem, 61, rfl⟩
abbrev cc7_stg8_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg2_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg1_1 : Ref sig .tc := ⟨.vmem, 71, rfl⟩
abbrev cc9_stg2_0 : Ref sig .tc := ⟨.vmem, 72, rfl⟩
abbrev cc9_stg2_1 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg1_1 : Ref sig .tc := ⟨.vmem, 77, rfl⟩
abbrev cc10_stg2_0 : Ref sig .tc := ⟨.vmem, 78, rfl⟩
abbrev cc10_stg2_1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg2_0 : Ref sig .tc := ⟨.vmem, 83, rfl⟩
abbrev cc11_stg2_1 : Ref sig .tc := ⟨.vmem, 84, rfl⟩
abbrev cc11_stg3_0 : Ref sig .tc := ⟨.vmem, 85, rfl⟩
abbrev cc11_stg4_0 : Ref sig .tc := ⟨.vmem, 86, rfl⟩
abbrev cc11_stg4_1 : Ref sig .tc := ⟨.vmem, 87, rfl⟩
abbrev cc11_stg5_0 : Ref sig .tc := ⟨.vmem, 88, rfl⟩
abbrev cc11_stg5_1 : Ref sig .tc := ⟨.vmem, 89, rfl⟩
abbrev cc11_stg6_0 : Ref sig .tc := ⟨.vmem, 90, rfl⟩
abbrev cc11_stg6_1 : Ref sig .tc := ⟨.vmem, 91, rfl⟩
abbrev cc11_stg7_0 : Ref sig .tc := ⟨.vmem, 92, rfl⟩
abbrev cc11_stg7_1 : Ref sig .tc := ⟨.vmem, 93, rfl⟩
abbrev cc11_stg8_0 : Ref sig .tc := ⟨.vmem, 94, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc4_sem5_0 : DmaSem sig := 33
abbrev cc4_sem5_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc7_sem3_0 : DmaSem sig := 51
abbrev cc7_sem3_1 : DmaSem sig := 52
abbrev cc7_sem4_0 : DmaSem sig := 53
abbrev cc7_sem4_1 : DmaSem sig := 54
abbrev cc7_sem5_0 : DmaSem sig := 55
abbrev cc7_sem5_1 : DmaSem sig := 56
abbrev cc7_sem6_0 : DmaSem sig := 57
abbrev cc7_sem6_1 : DmaSem sig := 58
abbrev cc7_sem7_0 : DmaSem sig := 59
abbrev cc7_sem7_1 : DmaSem sig := 60
abbrev cc7_sem8_0 : DmaSem sig := 61
abbrev cc7_sem8_1 : DmaSem sig := 62
abbrev cc8_sem0_0 : DmaSem sig := 63
abbrev cc8_sem0_1 : DmaSem sig := 64
abbrev cc8_sem1_0 : DmaSem sig := 65
abbrev cc8_sem2_0 : DmaSem sig := 66
abbrev cc8_sem2_1 : DmaSem sig := 67
abbrev cc9_sem0_0 : DmaSem sig := 68
abbrev cc9_sem0_1 : DmaSem sig := 69
abbrev cc9_sem1_0 : DmaSem sig := 70
abbrev cc9_sem1_1 : DmaSem sig := 71
abbrev cc9_sem2_0 : DmaSem sig := 72
abbrev cc9_sem2_1 : DmaSem sig := 73
abbrev cc10_sem0_0 : DmaSem sig := 74
abbrev cc10_sem0_1 : DmaSem sig := 75
abbrev cc10_sem1_0 : DmaSem sig := 76
abbrev cc10_sem1_1 : DmaSem sig := 77
abbrev cc10_sem2_0 : DmaSem sig := 78
abbrev cc10_sem2_1 : DmaSem sig := 79
abbrev cc11_sem0_0 : DmaSem sig := 80
abbrev cc11_sem0_1 : DmaSem sig := 81
abbrev cc11_sem1_0 : DmaSem sig := 82
abbrev cc11_sem2_0 : DmaSem sig := 83
abbrev cc11_sem2_1 : DmaSem sig := 84
abbrev cc11_sem3_0 : DmaSem sig := 85
abbrev cc11_sem4_0 : DmaSem sig := 86
abbrev cc11_sem4_1 : DmaSem sig := 87
abbrev cc11_sem5_0 : DmaSem sig := 88
abbrev cc11_sem5_1 : DmaSem sig := 89
abbrev cc11_sem6_0 : DmaSem sig := 90
abbrev cc11_sem6_1 : DmaSem sig := 91
abbrev cc11_sem7_0 : DmaSem sig := 92
abbrev cc11_sem7_1 : DmaSem sig := 93
abbrev cc11_sem8_0 : DmaSem sig := 94

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x2816 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x2816 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![22], ![false]⟩

def cc3_transform_0 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_1 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_3 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2816x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2816x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 2 → Memref sig .tc .vmem S1024x2816 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![11, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S4096x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![22], ![false]⟩

def cc7_transform_0 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc7_transform_1 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc7_transform_2 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc7_transform_3 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc7_transform_4 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S4096x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4096x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4096x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S3x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4096x128 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S4096x128 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S3x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S1x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨2, ![4, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x2816 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 1 → Memref sig .tc .vmem S1024x2816 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![2, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S4096x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S4096x1408 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S512x1408 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![2, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S4096x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4096x1408 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S512x1408 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S512x2816 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1024x2816 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S512x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S512x1024 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S512x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S512x1024 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S512x1024 .bf16 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 1 → Memref sig .tc .vmem S1x1024 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]
-- ==== FfnRefIdeal.lean ====
abbrev S4096x1024 : Shape := ⟨2, ![4096, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S2816 : Shape := ⟨1, ![2816]⟩
abbrev S4095x2816 : Shape := ⟨2, ![4095, 2816]⟩
abbrev S1024x2816 : Shape := ⟨2, ![1024, 2816]⟩
abbrev S5632x1024 : Shape := ⟨2, ![5632, 1024]⟩
abbrev S1024 : Shape := ⟨1, ![1024]⟩

abbrev nBuf : Space → Nat
  | .hbm => 180
  | .vmem => 0
  | .smem => 0
  | _ => 0

abbrev hbmTy0_0 (i : Nat) : BufTy := match i % 128 with
  | 0 => ⟨S4096x1024, .f32⟩
  | 1 => ⟨S1x1024, .f32⟩
  | 2 => ⟨S1024x5632, .f32⟩
  | 3 => ⟨S3x2816, .f32⟩
  | 4 => ⟨S1x2816, .f32⟩
  | 5 => ⟨S2816x1024, .f32⟩
  | 6 => ⟨S1x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x5632, .f32⟩
  | 28 => ⟨S4096x2816, .f32⟩
  | 29 => ⟨S4096x2816, .f32⟩
  | 30 => ⟨S_, .f32⟩
  | 31 => ⟨S1x2816, .f32⟩
  | 32 => ⟨S1x2816, .f32⟩
  | 33 => ⟨S2816, .f32⟩
  | 34 => ⟨S4095x2816, .f32⟩
  | 35 => ⟨S4096x2816, .f32⟩
  | 36 => ⟨S_, .f32⟩
  | 37 => ⟨S1x2816, .f32⟩
  | 38 => ⟨S1x2816, .f32⟩
  | 39 => ⟨S4096x2816, .f32⟩
  | 40 => ⟨S4096x2816, .f32⟩
  | 41 => ⟨S1x2816, .f32⟩
  | 42 => ⟨S2816, .f32⟩
  | 43 => ⟨S1x2816, .f32⟩
  | 44 => ⟨S4096x2816, .f32⟩
  | 45 => ⟨S4096x2816, .f32⟩
  | 46 => ⟨S4096x2816, .f32⟩
  | 47 => ⟨S1x2816, .f32⟩
  | 48 => ⟨S2816, .f32⟩
  | 49 => ⟨S4095x2816, .f32⟩
  | 50 => ⟨S4096x2816, .f32⟩
  | 51 => ⟨S_, .f32⟩
  | 52 => ⟨S1x2816, .f32⟩
  | 53 => ⟨S1x2816, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S4096x2816, .f32⟩
  | 60 => ⟨S4096x2816, .f32⟩
  | 61 => ⟨S_, .f32⟩
  | 62 => ⟨S4096x2816, .f32⟩
  | 63 => ⟨S4096x2816, .f32⟩
  | 64 => ⟨S_, .f32⟩
  | 65 => ⟨S4096x2816, .f32⟩
  | 66 => ⟨S4096x2816, .f32⟩
  | 67 => ⟨S_, .f32⟩
  | 68 => ⟨S4096x2816, .f32⟩
  | 69 => ⟨S4096x2816, .f32⟩
  | 70 => ⟨S4096x2816, .f32⟩
  | 71 => ⟨S4096x2816, .f32⟩
  | 72 => ⟨S4096x2816, .f32⟩
  | 73 => ⟨S4096x1024, .f32⟩
  | 74 => ⟨S4096x1024, .f32⟩
  | 75 => ⟨S4096x1024, .f32⟩
  | 76 => ⟨S1024x2816, .f32⟩
  | 77 => ⟨S2816x1024, .f32⟩
  | 78 => ⟨S4096x2816, .f32⟩
  | 79 => ⟨S4096x2816, .f32⟩
  | 80 => ⟨S4096x2816, .f32⟩
  | 81 => ⟨S4096x2816, .f32⟩
  | 82 => ⟨S4096x2816, .f32⟩
  | 83 => ⟨S4096x2816, .f32⟩
  | 84 => ⟨S4096x2816, .f32⟩
  | 85 => ⟨S_, .f32⟩
  | 86 => ⟨S2816, .f32⟩
  | 87 => ⟨S1x2816, .f32⟩
  | 88 => ⟨S4096x2816, .f32⟩
  | 89 => ⟨S4096x2816, .f32⟩
  | 90 => ⟨S4096x2816, .f32⟩
  | 91 => ⟨S_, .f32⟩
  | 92 => ⟨S2816, .f32⟩
  | 93 => ⟨S1x2816, .f32⟩
  | 94 => ⟨S_, .f32⟩
  | 95 => ⟨S2816, .f32⟩
  | 96 => ⟨S4095x2816, .f32⟩
  | 97 => ⟨S1x2816, .f32⟩
  | 98 => ⟨S_, .f32⟩
  | 99 => ⟨S4096x2816, .f32⟩
  | 100 => ⟨S1x2816, .f32⟩
  | 101 => ⟨S_, .f32⟩
  | 102 => ⟨S3x2816, .f32⟩
  | 103 => ⟨S4096x2816, .f32⟩
  | 104 => ⟨S4096x2816, .f32⟩
  | 105 => ⟨S4096x2816, .f32⟩
  | 106 => ⟨S4096x2816, .f32⟩
  | 107 => ⟨S_, .f32⟩
  | 108 => ⟨S2816, .f32⟩
  | 109 => ⟨S1x2816, .f32⟩
  | 110 => ⟨S_, .f32⟩
  | 111 => ⟨S2816, .f32⟩
  | 112 => ⟨S1x2816, .f32⟩
  | 113 => ⟨S_, .f32⟩
  | 114 => ⟨S3x2816, .f32⟩
  | 115 => ⟨S3x2816, .f32⟩
  | 116 => ⟨S4096x2816, .f32⟩
  | 117 => ⟨S4096x2816, .f32⟩
  | 118 => ⟨S4096x2816, .f32⟩
  | 119 => ⟨S_, .f32⟩
  | 120 => ⟨S2816, .f32⟩
  | 121 => ⟨S1x2816, .f32⟩
  | 122 => ⟨S_, .f32⟩
  | 123 => ⟨S2816, .f32⟩
  | 124 => ⟨S1x2816, .f32⟩
  | 125 => ⟨S4095x2816, .f32⟩
  | 126 => ⟨S_, .f32⟩
  | 127 => ⟨S4096x2816, .f32⟩
  | _ => ⟨S4096x1024, .f32⟩

abbrev hbmTy0_1 (i : Nat) : BufTy := match i % 128 with
  | 0 => ⟨S4096x2816, .f32⟩
  | 1 => ⟨S1x2816, .f32⟩
  | 2 => ⟨S_, .f32⟩
  | 3 => ⟨S3x2816, .f32⟩
  | 4 => ⟨S3x2816, .f32⟩
  | 5 => ⟨S4096x5632, .f32⟩
  | 6 => ⟨S5632x1024, .f32⟩
  | 7 => ⟨S1024x5632, .f32⟩
  | 8 => ⟨S4096x1024, .f32⟩
  | 9 => ⟨S4096x1024, .f32⟩
  | 10 => ⟨S_, .f32⟩
  | 11 => ⟨S1024, .f32⟩
  | 12 => ⟨S1x1024, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S4096x1024, .f32⟩
  | 20 => ⟨S4096x1024, .f32⟩
  | 21 => ⟨S4096x1024, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1, .f32⟩
  | 44 => ⟨S4096x1024, .f32⟩
  | 45 => ⟨S4096x1024, .f32⟩
  | 46 => ⟨S4096x1024, .f32⟩
  | 47 => ⟨S4096x1024, .f32⟩
  | 48 => ⟨S4096x1024, .bf16⟩
  | 49 => ⟨S4096x1024, .bf16⟩
  | 50 => ⟨S1024x2816, .f32⟩
  | 51 => ⟨S1024x2816, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v44_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v44_1 : Ref sig .tc := ⟨.hbm, 70, rfl⟩
abbrev main_v44_0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_7 : Ref sig .tc := ⟨.hbm, 91, rfl⟩
abbrev main_v60 : Ref sig .tc := ⟨.hbm, 92, rfl⟩
abbrev main_v61 : Ref sig .tc := ⟨.hbm, 93, rfl⟩
abbrev main_cst_8 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_9 : Ref sig .tc := ⟨.hbm, 98, rfl⟩
abbrev main_v65 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_14 : Ref sig .tc := ⟨.hbm, 119, rfl⟩
abbrev main_v81 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_16 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_18 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_19 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_20 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_22 : Ref sig .tc := ⟨.hbm, 162, rfl⟩
abbrev main_v116 : Ref sig .tc := ⟨.hbm, 163, rfl⟩
abbrev main_v117 : Ref sig .tc := ⟨.hbm, 164, rfl⟩
abbrev main_cst_23 : Ref sig .tc := ⟨.hbm, 165, rfl⟩
abbrev main_v118 : Ref sig .tc := ⟨.hbm, 166, rfl⟩
abbrev main_v119 : Ref sig .tc := ⟨.hbm, 167, rfl⟩
abbrev main_cst_24 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩

abbrev nD : Nat := 1
abbrev τ : Topo := Topo.v7x

variable {F : FTy → Type} [FloatOps F]
-- ==== HgIn.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S4096x512 : Shape := ⟨2, ![4096, 512]⟩
abbrev S8x1024x640 : Shape := ⟨3, ![8, 1024, 640]⟩
abbrev S4096x640 : Shape := ⟨2, ![4096, 640]⟩
abbrev S1x1024x640 : Shape := ⟨3, ![1, 1024, 640]⟩
abbrev S1024x640 : Shape := ⟨2, ![1024, 640]⟩
abbrev S256x5120 : Shape := ⟨2, ![256, 5120]⟩
abbrev S1024 : Shape := ⟨1, ![1024]⟩

abbrev nBuf : Space → Nat
  | .hbm => 13
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S1024x5120, .bf16⟩
  | .hbm, ⟨6, _⟩ => ⟨S4096x5120, .bf16⟩
  | .hbm, ⟨7, _⟩ => ⟨S4096x1024, .bf16⟩
  | .hbm, ⟨8, _⟩ => ⟨S4096x5120, .f32⟩
  | .hbm, ⟨9, _⟩ => ⟨S8x1024x640, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S4096x1024, .bf16⟩
  | .local _ .vmem, ⟨6, _⟩ => ⟨S1024x512, .bf16⟩
  | .local _ .vmem, ⟨7, _⟩ => ⟨S1024x512, .bf16⟩
  | .local _ .vmem, ⟨8, _⟩ => ⟨S4096x512, .f32⟩
  | .local _ .vmem, ⟨9, _⟩ => ⟨S4096x512, .f32⟩
  | .local _ .vmem, ⟨10, _⟩ => ⟨S4096x1024, .bf16⟩
  | .local _ .vmem, ⟨11, _⟩ => ⟨S4096x640, .bf16⟩
  | .local _ .vmem, ⟨12, _⟩ => ⟨S4096x640, .bf16⟩
  | .local _ .vmem, ⟨13, _⟩ => ⟨S1x1024x640, .f32⟩
  | .local _ .vmem, ⟨14, _⟩ => ⟨S1x1024x640, .f32⟩
  | .local _ .vmem, ⟨15, _⟩ => ⟨S256x5120, .bf16⟩
  | .local _ .vmem, ⟨16, _⟩ => ⟨S256x5120, .bf16⟩
  | .local _ .vmem, ⟨17, _⟩ => ⟨S1024x5120, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg4_1 : Ref sig .tc := ⟨.vmem, 22, rfl⟩
abbrev cc3_stg5_0 : Ref sig .tc := ⟨.vmem, 23, rfl⟩
abbrev cc3_stg5_1 : Ref sig .tc := ⟨.vmem, 24, rfl⟩
abbrev cc3_stg6_0 : Ref sig .tc := ⟨.vmem, 25, rfl⟩
abbrev cc3_stg6_1 : Ref sig .tc := ⟨.vmem, 26, rfl⟩
abbrev cc3_stg7_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem4_0 : DmaSem sig := 21
abbrev cc3_sem4_1 : DmaSem sig := 22
abbrev cc3_sem5_0 : DmaSem sig := 23
abbrev cc3_sem5_1 : DmaSem sig := 24
abbrev cc3_sem6_0 : DmaSem sig := 25
abbrev cc3_sem6_1 : DmaSem sig := 26
abbrev cc3_sem7_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x5120 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x5120 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]
-- ==== HgInRefIdeal.lean ====
abbrev S4096x1024 : Shape := ⟨2, ![4096, 1024]⟩
abbrev S1x1024 : Shape := ⟨2, ![1, 1024]⟩
abbrev S1024x5120 : Shape := ⟨2, ![1024, 5120]⟩
abbrev S4096x5120 : Shape := ⟨2, ![4096, 5120]⟩
abbrev S_ : Shape := ⟨0, ![]⟩
abbrev S4096 : Shape := ⟨1, ![4096]⟩
abbrev S4096x1 : Shape := ⟨2, ![4096, 1]⟩
abbrev S5120x1024 : Shape := ⟨2, ![5120, 1024]⟩
abbrev S1024 : Shape := ⟨1, ![1024]⟩
abbrev S1024x8x640 : Shape := ⟨3, ![1024, 8, 640]⟩
abbrev S8x1024x640 : Shape := ⟨3, ![8, 1024, 640]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5120, .f32⟩
  | .hbm, ⟨3, _⟩ => ⟨S4096x5120, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5120, .f32⟩
  | .hbm, ⟨25, _⟩ => ⟨S5120x1024, .f32⟩
  | .hbm, ⟨26, _⟩ => ⟨S1024x5120, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S1024x8x640, .f32⟩
  | .hbm, ⟨53, _⟩ => ⟨S8x1024x640, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== MbIn.lean ====
abbrev S4096x1024 : Shape := ⟨2, ![4096, 1024]⟩
abbrev S1x1024 : Shape := ⟨2, ![1, 1024]⟩
abbrev S1024x6208 : Shape := ⟨2, ![1024, 6208]⟩
abbrev S4096x2048 : Shape := ⟨2, ![4096, 2048]⟩
abbrev S4096x4096 : Shape := ⟨2, ![4096, 4096]⟩
abbrev S4096x64 : Shape := ⟨2, ![4096, 64]⟩
abbrev S1024x2048 : Shape := ⟨2, ![1024, 2048]⟩
abbrev S1024x4096 : Shape := ⟨2, ![1024, 4096]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S512x1024 : Shape := ⟨2, ![512, 1024]⟩
abbrev S512x4096 : Shape := ⟨2, ![512, 4096]⟩
abbrev S1024x512 : Shape := ⟨2, ![1024, 512]⟩
abbrev S512x64 : Shape := ⟨2, ![512, 64]⟩
abbrev S512 : Shape := ⟨1, ![512]⟩
abbrev S512x1 : Shape := ⟨2, ![512, 1]⟩
abbrev S1024 : Shape := ⟨1, ![1024]⟩

abbrev nBuf : Space → Nat
  | .hbm => 26
  | .vmem => 59
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6208, .f32⟩
  | .hbm, ⟨3, _⟩ => ⟨S4096x2048, .f32⟩
  | .hbm, ⟨4, _⟩ => ⟨S4096x4096, .f32⟩
  | .hbm, ⟨5, _⟩ => ⟨S4096x64, .f32⟩
  | .hbm, ⟨6, _⟩ => ⟨S4096x1024, .f32⟩
  | .hbm, ⟨7, _⟩ => ⟨S1024x6208, .bf16⟩
  | .hbm, ⟨8, _⟩ => ⟨S4096x2048, .bf16⟩
  | .hbm, ⟨9, _⟩ => ⟨S4096x4096, .bf16⟩
  | .hbm, ⟨10, _⟩ => ⟨S4096x64, .bf16⟩
  | .hbm, ⟨11, _⟩ => ⟨S1024x2048, .bf16⟩
  | .hbm, ⟨12, _⟩ => ⟨S1024x4096, .bf16⟩
  | .hbm, ⟨13, _⟩ => ⟨S1024x64, .bf16⟩
  | .hbm, ⟨14, _⟩ => ⟨S4096x1024, .bf16⟩
  | .hbm, ⟨15, _⟩ => ⟨S4096x2048, .f32⟩
  | .hbm, ⟨16, _⟩ => ⟨S4096x4096, .f32⟩
  | .hbm, ⟨17, _⟩ => ⟨S4096x64, .f32⟩
  | .hbm, ⟨18, _⟩ => ⟨S4096x1024, .f32⟩
  | .hbm, ⟨19, _⟩ => ⟨S4096x1024, .f32⟩
  | .hbm, ⟨20, _⟩ => ⟨S1024x2048, .f32⟩
  | .hbm, ⟨21, _⟩ => ⟨S1024x4096, .f32⟩
  | .hbm, ⟨22, _⟩ => ⟨S1024x64, .f32⟩
  | .hbm, ⟨23, _⟩ => ⟨S4096x1024, .f32⟩
  | .hbm, ⟨24, _⟩ => ⟨S4096x1024, .bf16⟩
  | .hbm, ⟨25, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .f32⟩
  | .local _ .vmem, ⟨9, _⟩ => ⟨S1024x2048, .f32⟩
  | .local _ .vmem, ⟨10, _⟩ => ⟨S512x1024, .bf16⟩
  | .local _ .vmem, ⟨11, _⟩ => ⟨S512x1024, .bf16⟩
  | .local _ .vmem, ⟨12, _⟩ => ⟨S1024x4096, .bf16⟩
  | .local _ .vmem, ⟨13, _⟩ => ⟨S512x4096, .f32⟩
  | .local _ .vmem, ⟨14, _⟩ => ⟨S512x4096, .f32⟩
  | .local _ .vmem, ⟨15, _⟩ => ⟨S4096x1024, .bf16⟩
  | .local _ .vmem, ⟨16, _⟩ => ⟨S1024x64, .bf16⟩
  | .local _ .vmem, ⟨17, _⟩ => ⟨S4096x64, .f32⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x1024, .f32⟩
  | .local _ .vmem, ⟨22, _⟩ => ⟨S1024x1024, .f32⟩
  | .local _ .vmem, ⟨23, _⟩ => ⟨S1024x4096, .bf16⟩
  | .local _ .vmem, ⟨24, _⟩ => ⟨S1024x4096, .bf16⟩
  | .local _ .vmem, ⟨25, _⟩ => ⟨S512x4096, .bf16⟩
  | .local _ .vmem, ⟨26, _⟩ => ⟨S512x4096, .bf16⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S4096x1024, .bf16⟩
  | .local _ .vmem, ⟨32, _⟩ => ⟨S4096x1024, .bf16⟩
  | .local _ .vmem, ⟨33, _⟩ => ⟨S4096x1024, .bf16⟩
  | .local _ .vmem, ⟨34, _⟩ => ⟨S1024x1024, .f32⟩
  | .local _ .vmem, ⟨35, _⟩ => ⟨S1024x1024, .f32⟩
  | .local _ .vmem, ⟨36, _⟩ => ⟨S4096x1024, .bf16⟩
  | .local _ .vmem, ⟨37, _⟩ => ⟨S4096x1024, .bf16⟩
  | .local _ .vmem, ⟨38, _⟩ => ⟨S4096x1024, .bf16⟩
  | .local _ .vmem, ⟨39, _⟩ => ⟨S1024x1024, .f32⟩
  | .local _ .vmem, ⟨40, _⟩ => ⟨S1024x1024, .f32⟩
  | .local _ .vmem, ⟨41, _⟩ => ⟨S4096x1024, .bf16⟩
  | .local _ .vmem, ⟨42, _⟩ => ⟨S4096x64, .bf16⟩
  | .local _ .vmem, ⟨43, _⟩ => ⟨S1024x64, .f32⟩
  | .local _ .vmem, ⟨44, _⟩ => ⟨S512x64, .bf16⟩
  | .local _ .vmem, ⟨45, _⟩ => ⟨S512x64, .bf16⟩
  | .local _ .vmem, ⟨46, _⟩ => ⟨S1024x64, .bf16⟩
  | .local _ .vmem, ⟨47, _⟩ => ⟨S512x1024, .f32⟩
  | .local _ .vmem, ⟨48, _⟩ => ⟨S512x1024, .f32⟩
  | .local _ .vmem, ⟨49, _⟩ => ⟨S1x1024, .f32⟩
  | .local _ .vmem, ⟨50, _⟩ => ⟨S512x1024, .f32⟩
  | .local _ .vmem, ⟨51, _⟩ => ⟨S512x1024, .f32⟩
  | .local _ .vmem, ⟨52, _⟩ => ⟨S512x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .f32⟩
  | .local _ .vmem, ⟨56, _⟩ => ⟨S512x1024, .bf16⟩
  | .local _ .vmem, ⟨57, _⟩ => ⟨S512x1024, .bf16⟩
  | .local _ .vmem, ⟨58, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc5_stg3_0 : Ref sig .tc := ⟨.vmem, 29, rfl⟩
abbrev cc5_stg3_1 : Ref sig .tc := ⟨.vmem, 30, rfl⟩
abbrev cc6_stg0_0 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg1_1 : Ref sig .tc := ⟨.vmem, 38, rfl⟩
abbrev cc7_stg2_0 : Ref sig .tc := ⟨.vmem, 39, rfl⟩
abbrev cc7_stg2_1 : Ref sig .tc := ⟨.vmem, 40, rfl⟩
abbrev cc8_stg0_0 : Ref sig .tc := ⟨.vmem, 41, rfl⟩
abbrev cc8_stg1_0 : Ref sig .tc := ⟨.vmem, 42, rfl⟩
abbrev cc8_stg2_0 : Ref sig .tc := ⟨.vmem, 43, rfl⟩
abbrev cc9_stg0_0 : Ref sig .tc := ⟨.vmem, 44, rfl⟩
abbrev cc9_stg0_1 : Ref sig .tc := ⟨.vmem, 45, rfl⟩
abbrev cc9_stg1_0 : Ref sig .tc := ⟨.vmem, 46, rfl⟩
abbrev cc9_stg2_0 : Ref sig .tc := ⟨.vmem, 47, rfl⟩
abbrev cc9_stg2_1 : Ref sig .tc := ⟨.vmem, 48, rfl⟩
abbrev cc9_stg3_0 : Ref sig .tc := ⟨.vmem, 49, rfl⟩
abbrev cc9_stg4_0 : Ref sig .tc := ⟨.vmem, 50, rfl⟩
abbrev cc9_stg4_1 : Ref sig .tc := ⟨.vmem, 51, rfl⟩
abbrev cc9_stg5_0 : Ref sig .tc := ⟨.vmem, 52, rfl⟩
abbrev cc9_stg5_1 : Ref sig .tc := ⟨.vmem, 53, rfl⟩
abbrev cc9_stg6_0 : Ref sig .tc := ⟨.vmem, 54, rfl⟩
abbrev cc9_stg6_1 : Ref sig .tc := ⟨.vmem, 55, rfl⟩
abbrev cc9_stg7_0 : Ref sig .tc := ⟨.vmem, 56, rfl⟩
abbrev cc9_stg7_1 : Ref sig .tc := ⟨.vmem, 57, rfl⟩
abbrev cc9_stg8_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem1_1 : DmaSem sig := 26
abbrev cc5_sem2_0 : DmaSem sig := 27
abbrev cc5_sem2_1 : DmaSem sig := 28
abbrev cc5_sem3_0 : DmaSem sig := 29
abbrev cc5_sem3_1 : DmaSem sig := 30
abbrev cc6_sem0_0 : DmaSem sig := 31
abbrev cc6_sem1_0 : DmaSem sig := 32
abbrev cc6_sem1_1 : DmaSem sig := 33
abbrev cc6_sem2_0 : DmaSem sig := 34
abbrev cc6_sem2_1 : DmaSem sig := 35
abbrev cc7_sem0_0 : DmaSem sig := 36
abbrev cc7_sem1_0 : DmaSem sig := 37
abbrev cc7_sem1_1 : DmaSem sig := 38
abbrev cc7_sem2_0 : DmaSem sig := 39
abbrev cc7_sem2_1 : DmaSem sig := 40
abbrev cc8_sem0_0 : DmaSem sig := 41
abbrev cc8_sem1_0 : DmaSem sig := 42
abbrev cc8_sem2_0 : DmaSem sig := 43
abbrev cc9_sem0_0 : DmaSem sig := 44
abbrev cc9_sem0_1 : DmaSem sig := 45
abbrev cc9_sem1_0 : DmaSem sig := 46
abbrev cc9_sem2_0 : DmaSem sig := 47
abbrev cc9_sem2_1 : DmaSem sig := 48
abbrev cc9_sem3_0 : DmaSem sig := 49
abbrev cc9_sem4_0 : DmaSem sig := 50
abbrev cc9_sem4_1 : DmaSem sig := 51
abbrev cc9_sem5_0 : DmaSem sig := 52
abbrev cc9_sem5_1 : DmaSem sig := 53
abbrev cc9_sem6_0 : DmaSem sig := 54
abbrev cc9_sem6_1 : DmaSem sig := 55
abbrev cc9_sem7_0 : DmaSem sig := 56
abbrev cc9_sem7_1 : DmaSem sig := 57
abbrev cc9_sem8_0 : DmaSem sig := 58

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S1024x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S4096x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![4, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1024x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S4096x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 1], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S4096x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 1 → Memref sig .tc .vmem S4096x64 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1024x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1024x64 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x1024 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S512x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S512x1024 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S512x1024 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S512x1024 .bf16 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 1 → Memref sig .tc .vmem S1x1024 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]
-- ==== MbInRefIdeal.lean ====
abbrev S4096x1024 : Shape := ⟨2, ![4096, 1024]⟩
abbrev S1x1024 : Shape := ⟨2, ![1, 1024]⟩
abbrev S1024x6208 : Shape := ⟨2, ![1024, 6208]⟩
abbrev S4096x2048 : Shape := ⟨2, ![4096, 2048]⟩
abbrev S4096x4096 : Shape := ⟨2, ![4096, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S4096x6208 : Shape := ⟨2, ![4096, 6208]⟩
abbrev S6208x1024 : Shape := ⟨2, ![6208, 1024]⟩
abbrev S1024 : Shape := ⟨1, ![1024]⟩
abbrev S1024x2048 : Shape := ⟨2, ![1024, 2048]⟩
abbrev S1024x4096 : Shape := ⟨2, ![1024, 4096]⟩
abbrev S1024x64 : Shape := ⟨2, ![1024, 64]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6208, .f32⟩
  | .hbm, ⟨3, _⟩ => ⟨S4096x2048, .f32⟩
  | .hbm, ⟨4, _⟩ => ⟨S4096x4096, .f32⟩
  | .hbm, ⟨5, _⟩ => ⟨S4096x64, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x6208, .f32⟩
  | .hbm, ⟨27, _⟩ => ⟨S4096x2048, .f32⟩
  | .hbm, ⟨28, _⟩ => ⟨S4096x4096, .f32⟩
  | .hbm, ⟨29, _⟩ => ⟨S4096x64, .f32⟩
  | .hbm, ⟨30, _⟩ => ⟨S4096x6208, .f32⟩
  | .hbm, ⟨31, _⟩ => ⟨S6208x1024, .f32⟩
  | .hbm, ⟨32, _⟩ => ⟨S1024x6208, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1024x2048, .f32⟩
  | .hbm, ⟨59, _⟩ => ⟨S1024x4096, .f32⟩
  | .hbm, ⟨60, _⟩ => ⟨S1024x64, .f32⟩
  | .hbm, ⟨61, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== HgOut.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S4096x512 : Shape := ⟨2, ![4096, 512]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4096x1024, .bf16⟩
  | .local _ .vmem, ⟨11, _⟩ => ⟨S512x1024, .bf16⟩
  | .local _ .vmem, ⟨12, _⟩ => ⟨S512x1024, .bf16⟩
  | .local _ .vmem, ⟨13, _⟩ => ⟨S4096x512, .f32⟩
  | .local _ .vmem, ⟨14, _⟩ => ⟨S4096x512, .f32⟩
  | .local _ .vmem, ⟨15, _⟩ => ⟨S4096x1024, .bf16⟩
  | .local _ .vmem, ⟨16, _⟩ => ⟨S4096x1024, .bf16⟩
  | .local _ .vmem, ⟨17, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem2_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]
-- ==== HgOutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MbOut.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x2048 : Shape := ⟨2, ![1024, 2048]⟩

abbrev nBuf : Space → Nat
  | .hbm => 12
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2048, .bf16⟩
  | .hbm, ⟨6, _⟩ => ⟨S2048x1024, .bf16⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x2048, .f32⟩
  | .hbm, ⟨11, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S1024x2048, .f32⟩
  | .local _ .vmem, ⟨14, _⟩ => ⟨S1024x2048, .f32⟩
  | .local _ .vmem, ⟨15, _⟩ => ⟨S4096x1024, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .f32⟩
  | .local _ .vmem, ⟨19, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== MbOutRefIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S4096x2048, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== AdAIn.lean ====
abbrev S7x1024x640 : Shape := ⟨3, ![7, 1024, 640]⟩
abbrev S1024x640 : Shape := ⟨2, ![1024, 640]⟩
abbrev S1x1024x640 : Shape := ⟨3, ![1, 1024, 640]⟩
abbrev S7x256x640 : Shape := ⟨3, ![7, 256, 640]⟩
abbrev S1x256x640 : Shape := ⟨3, ![1, 256, 640]⟩
abbrev S256x640 : Shape := ⟨2, ![256, 640]⟩

abbrev nBuf : Space → Nat
  | .hbm => 10
  | .vmem => 18
  | .smem => 0
  | _ => 0

abbrev bufTy : (tb : Table) → Fin (tcTables nBuf tb) → BufTy
  | .hbm, ⟨0, _⟩ => ⟨S7x1024x640, .f32⟩
  | .hbm, ⟨1, _⟩ => ⟨S1024x640, .f32⟩
  | .hbm, ⟨2, _⟩ => ⟨S1x1024x640, .f32⟩
  | .hbm, ⟨3, _⟩ => ⟨S1x1024x640, .f32⟩
  | .hbm, ⟨4, _⟩ => ⟨S1x1024x640, .f32⟩
  | .hbm, ⟨5, _⟩ => ⟨S7x1024x640, .bf16⟩
  | .hbm, ⟨6, _⟩ => ⟨S1x1024x640, .f32⟩
  | .hbm, ⟨7, _⟩ => ⟨S1x1024x640, .f32⟩
  | .hbm, ⟨8, _⟩ => ⟨S1x1024x640, .f32⟩
  | .hbm, ⟨9, _⟩ => ⟨S1x1024x640, .f32⟩
  | .local _ .vmem, ⟨0, _⟩ => ⟨S7x256x640, .bf16⟩
  | .local _ .vmem, ⟨1, _⟩ => ⟨S7x256x640, .bf16⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S256x640, .f32⟩
  | .local _ .vmem, ⟨9, _⟩ => ⟨S256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | _, _ => ⟨S7x1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdAInIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdAInRefIdeal.lean ====
abbrev S7x1024x640 : Shape := ⟨3, ![7, 1024, 640]⟩
abbrev S1024x640 : Shape := ⟨2, ![1024, 640]⟩
abbrev S1x1024x640 : Shape := ⟨3, ![1, 1024, 640]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S7x1024x640, .f32⟩
  | .hbm, ⟨1, _⟩ => ⟨S1024x640, .f32⟩
  | .hbm, ⟨2, _⟩ => ⟨S1x1024x640, .f32⟩
  | .hbm, ⟨3, _⟩ => ⟨S1x1024x640, .f32⟩
  | .hbm, ⟨4, _⟩ => ⟨S1x1024x640, .f32⟩
  | .hbm, ⟨5, _⟩ => ⟨S_, .f32⟩
  | .hbm, ⟨6, _⟩ => ⟨S1024x640, .f32⟩
  | .hbm, ⟨7, _⟩ => ⟨S1024x640, .f32⟩
  | .hbm, ⟨8, _⟩ => ⟨S1x1024x640, .f32⟩
  | .hbm, ⟨9, _⟩ => ⟨S_, .f32⟩
  | .hbm, ⟨10, _⟩ => ⟨S1x1024x640, .f32⟩
  | .hbm, ⟨11, _⟩ => ⟨S1x1024x640, .f32⟩
  | .hbm, ⟨12, _⟩ => ⟨S_, .f32⟩
  | .hbm, ⟨13, _⟩ => ⟨S1x1024x640, .f32⟩
  | .hbm, ⟨14, _⟩ => ⟨S1x1024x640, .f32⟩
  | .hbm, ⟨15, _⟩ => ⟨S1x1024x640, .f32⟩
  | .hbm, ⟨16, _⟩ => ⟨S_, .f32⟩
  | .hbm, ⟨17, _⟩ => ⟨S1x1024x640, .f32⟩
  | .hbm, ⟨18, _⟩ => ⟨S1x1024x640, .f32⟩
  | .hbm, ⟨19, _⟩ => ⟨S1x1024x640, .f32⟩
  | .hbm, ⟨20, _⟩ => ⟨S_, .f32⟩
  | .hbm, ⟨21, _⟩ => ⟨S1x1024x640, .f32⟩
  | .hbm, ⟨22, _⟩ => ⟨S1x1024x640, .f32⟩
  | .hbm, ⟨23, _⟩ => ⟨S1x1024x640, .f32⟩
  | .hbm, ⟨24, _⟩ => ⟨S_, .f32⟩
  | .hbm, ⟨25, _⟩ => ⟨S1x1024x640, .f32⟩
  | .hbm, ⟨26, _⟩ => ⟨S1x1024x640, .f32⟩
  | .hbm, ⟨27, _⟩ => ⟨S_, .f32⟩
  | .hbm, ⟨28, _⟩ => ⟨S1x1024x640, .f32⟩
  | .hbm, ⟨29, _⟩ => ⟨S1x1024x640, .f32⟩
  | .hbm, ⟨30, _⟩ => ⟨S1x1024x640, .f32⟩
  | .hbm, ⟨31, _⟩ => ⟨S_, .f32⟩
  | .hbm, ⟨32, _⟩ => ⟨S1x1024x640, .f32⟩
  | .hbm, ⟨33, _⟩ => ⟨S1x1024x640, .f32⟩
  | .hbm, ⟨34, _⟩ => ⟨S1x1024x640, .f32⟩
  | .hbm, ⟨35, _⟩ => ⟨S_, .f32⟩
  | .hbm, ⟨36, _⟩ => ⟨S1x1024x640, .f32⟩
  | .hbm, ⟨37, _⟩ => ⟨S1x1024x640, .f32⟩
  | .hbm, ⟨38, _⟩ => ⟨S1x1024x640, .f32⟩
  | .hbm, ⟨39, _⟩ => ⟨S_, .f32⟩
  | .hbm, ⟨40, _⟩ => ⟨S1x1024x640, .f32⟩
  | .hbm, ⟨41, _⟩ => ⟨S1x1024x640, .f32⟩
  | _, _ => ⟨S7x1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdAOut.lean ====
abbrev S7x128x1024 : Shape := ⟨3, ![7, 128, 1024]⟩
abbrev S128x1024 : Shape := ⟨2, ![128, 1024]⟩
abbrev S1x128x1024 : Shape := ⟨3, ![1, 128, 1024]⟩

abbrev nBuf : Space → Nat
  | .hbm => 10
  | .vmem => 9
  | .smem => 0
  | _ => 0

abbrev bufTy : (tb : Table) → Fin (tcTables nBuf tb) → BufTy
  | .hbm, ⟨0, _⟩ => ⟨S7x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S7x128x1024, .bf16⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .local _ .vmem, ⟨0, _⟩ => ⟨S7x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | _, _ => ⟨S7x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdAOutIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdAOutRefIdeal.lean ====
abbrev S7x128x1024 : Shape := ⟨3, ![7, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S7x128x1024, .f32⟩
  | .hbm, ⟨1, _⟩ => ⟨S128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S1x128x1024, .f32⟩
  | .hbm, ⟨9, _⟩ => ⟨S_, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | _, _ => ⟨S7x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdBIn.lean ====
abbrev S7x1024x776 : Shape := ⟨3, ![7, 1024, 776]⟩
abbrev S1024x776 : Shape := ⟨2, ![1024, 776]⟩
abbrev S1x1024x776 : Shape := ⟨3, ![1, 1024, 776]⟩
abbrev S7x256x776 : Shape := ⟨3, ![7, 256, 776]⟩
abbrev S1x256x776 : Shape := ⟨3, ![1, 256, 776]⟩
abbrev S256x776 : Shape := ⟨2, ![256, 776]⟩

abbrev nBuf : Space → Nat
  | .hbm => 9
  | .vmem => 18
  | .smem => 0
  | _ => 0

abbrev bufTy : (tb : Table) → Fin (tcTables nBuf tb) → BufTy
  | .hbm, ⟨0, _⟩ => ⟨S7x1024x776, .f32⟩
  | .hbm, ⟨1, _⟩ => ⟨S1024x776, .f32⟩
  | .hbm, ⟨2, _⟩ => ⟨S1x1024x776, .f32⟩
  | .hbm, ⟨3, _⟩ => ⟨S1x1024x776, .f32⟩
  | .hbm, ⟨4, _⟩ => ⟨S1x1024x776, .f32⟩
  | .hbm, ⟨5, _⟩ => ⟨S1x1024x776, .f32⟩
  | .hbm, ⟨6, _⟩ => ⟨S1x1024x776, .f32⟩
  | .hbm, ⟨7, _⟩ => ⟨S1x1024x776, .f32⟩
  | .hbm, ⟨8, _⟩ => ⟨S1x1024x776, .f32⟩
  | .local _ .vmem, ⟨0, _⟩ => ⟨S7x256x776, .f32⟩
  | .local _ .vmem, ⟨1, _⟩ => ⟨S7x256x776, .f32⟩
  | .local _ .vmem, ⟨2, _⟩ => ⟨S1x256x776, .f32⟩
  | .local _ .vmem, ⟨3, _⟩ => ⟨S1x256x776, .f32⟩
  | .local _ .vmem, ⟨4, _⟩ => ⟨S1x256x776, .f32⟩
  | .local _ .vmem, ⟨5, _⟩ => ⟨S1x256x776, .f32⟩
  | .local _ .vmem, ⟨6, _⟩ => ⟨S1x256x776, .f32⟩
  | .local _ .vmem, ⟨7, _⟩ => ⟨S1x256x776, .f32⟩
  | .local _ .vmem, ⟨8, _⟩ => ⟨S256x776, .f32⟩
  | .local _ .vmem, ⟨9, _⟩ => ⟨S256x776, .f32⟩
  | .local _ .vmem, ⟨10, _⟩ => ⟨S1x256x776, .f32⟩
  | .local _ .vmem, ⟨11, _⟩ => ⟨S1x256x776, .f32⟩
  | .local _ .vmem, ⟨12, _⟩ => ⟨S1x256x776, .f32⟩
  | .local _ .vmem, ⟨13, _⟩ => ⟨S1x256x776, .f32⟩
  | .local _ .vmem, ⟨14, _⟩ => ⟨S1x256x776, .f32⟩
  | .local _ .vmem, ⟨15, _⟩ => ⟨S1x256x776, .f32⟩
  | .local _ .vmem, ⟨16, _⟩ => ⟨S1x256x776, .f32⟩
  | .local _ .vmem, ⟨17, _⟩ => ⟨S1x256x776, .f32⟩
  | _, _ => ⟨S7x1024x776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x256x776 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x776 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x776 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x776 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x776 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x776 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x776 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x776 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x776 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdBInIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdBInRefIdeal.lean ====
abbrev S7x1024x776 : Shape := ⟨3, ![7, 1024, 776]⟩
abbrev S1024x776 : Shape := ⟨2, ![1024, 776]⟩
abbrev S1x1024x776 : Shape := ⟨3, ![1, 1024, 776]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S7x1024x776, .f32⟩
  | .hbm, ⟨1, _⟩ => ⟨S1024x776, .f32⟩
  | .hbm, ⟨2, _⟩ => ⟨S1x1024x776, .f32⟩
  | .hbm, ⟨3, _⟩ => ⟨S1x1024x776, .f32⟩
  | .hbm, ⟨4, _⟩ => ⟨S1x1024x776, .f32⟩
  | .hbm, ⟨5, _⟩ => ⟨S_, .f32⟩
  | .hbm, ⟨6, _⟩ => ⟨S1024x776, .f32⟩
  | .hbm, ⟨7, _⟩ => ⟨S1024x776, .f32⟩
  | .hbm, ⟨8, _⟩ => ⟨S1x1024x776, .f32⟩
  | .hbm, ⟨9, _⟩ => ⟨S_, .f32⟩
  | .hbm, ⟨10, _⟩ => ⟨S1x1024x776, .f32⟩
  | .hbm, ⟨11, _⟩ => ⟨S1x1024x776, .f32⟩
  | .hbm, ⟨12, _⟩ => ⟨S_, .f32⟩
  | .hbm, ⟨13, _⟩ => ⟨S1x1024x776, .f32⟩
  | .hbm, ⟨14, _⟩ => ⟨S1x1024x776, .f32⟩
  | .hbm, ⟨15, _⟩ => ⟨S1x1024x776, .f32⟩
  | .hbm, ⟨16, _⟩ => ⟨S_, .f32⟩
  | .hbm, ⟨17, _⟩ => ⟨S1x1024x776, .f32⟩
  | .hbm, ⟨18, _⟩ => ⟨S1x1024x776, .f32⟩
  | .hbm, ⟨19, _⟩ => ⟨S1x1024x776, .f32⟩
  | .hbm, ⟨20, _⟩ => ⟨S_, .f32⟩
  | .hbm, ⟨21, _⟩ => ⟨S1x1024x776, .f32⟩
  | .hbm, ⟨22, _⟩ => ⟨S1x1024x776, .f32⟩
  | .hbm, ⟨23, _⟩ => ⟨S1x1024x776, .f32⟩
  | .hbm, ⟨24, _⟩ => ⟨S_, .f32⟩
  | .hbm, ⟨25, _⟩ => ⟨S1x1024x776, .f32⟩
  | .hbm, ⟨26, _⟩ => ⟨S1x1024x776, .f32⟩
  | .hbm, ⟨27, _⟩ => ⟨S_, .f32⟩
  | .hbm, ⟨28, _⟩ => ⟨S1x1024x776, .f32⟩
  | .hbm, ⟨29, _⟩ => ⟨S1x1024x776, .f32⟩
  | .hbm, ⟨30, _⟩ => ⟨S1x1024x776, .f32⟩
  | .hbm, ⟨31, _⟩ => ⟨S_, .f32⟩
  | .hbm, ⟨32, _⟩ => ⟨S1x1024x776, .f32⟩
  | .hbm, ⟨33, _⟩ => ⟨S1x1024x776, .f32⟩
  | .hbm, ⟨34, _⟩ => ⟨S1x1024x776, .f32⟩
  | .hbm, ⟨35, _⟩ => ⟨S_, .f32⟩
  | .hbm, ⟨36, _⟩ => ⟨S1x1024x776, .f32⟩
  | .hbm, ⟨37, _⟩ => ⟨S1x1024x776, .f32⟩
  | .hbm, ⟨38, _⟩ => ⟨S1x1024x776, .f32⟩
  | .hbm, ⟨39, _⟩ => ⟨S_, .f32⟩
  | .hbm, ⟨40, _⟩ => ⟨S1x1024x776, .f32⟩
  | .hbm, ⟨41, _⟩ => ⟨S1x1024x776, .f32⟩
  | _, _ => ⟨S7x1024x776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdBOut.lean ====
abbrev S7x256x1024 : Shape := ⟨3, ![7, 256, 1024]⟩
abbrev S256x1024 : Shape := ⟨2, ![256, 1024]⟩
abbrev S1x256x1024 : Shape := ⟨3, ![1, 256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S7x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S7x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | _, _ => ⟨S7x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdBOutIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdBOutRefIdeal.lean ====
abbrev S7x256x1024 : Shape := ⟨3, ![7, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S7x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S1x256x1024, .f32⟩
  | .hbm, ⟨9, _⟩ => ⟨S_, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S1x256x1024, .f32⟩
  | .hbm, ⟨24, _⟩ => ⟨S_, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | .hbm, ⟨38, _⟩ => ⟨S1x256x1024, .f32⟩
  | .hbm, ⟨39, _⟩ => ⟨S_, .f32⟩
  | .hbm, ⟨40, _⟩ => ⟨S1x256x1024, .f32⟩
  | .hbm, ⟨41, _⟩ => ⟨S1x256x1024, .f32⟩
  | _, _ => ⟨S7x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdFfnIn.lean ====
abbrev S7x1024x704 : Shape := ⟨3, ![7, 1024, 704]⟩
abbrev S1024x704 : Shape := ⟨2, ![1024, 704]⟩
abbrev S2x1024x704 : Shape := ⟨3, ![2, 1024, 704]⟩
abbrev S7x256x704 : Shape := ⟨3, ![7, 256, 704]⟩
abbrev S1x256x704 : Shape := ⟨3, ![1, 256, 704]⟩
abbrev S256x704 : Shape := ⟨2, ![256, 704]⟩

abbrev nBuf : Space → Nat
  | .hbm => 15
  | .vmem => 36
  | .smem => 0
  | _ => 0

abbrev bufTy : (tb : Table) → Fin (tcTables nBuf tb) → BufTy
  | .hbm, ⟨0, _⟩ => ⟨S7x1024x704, .f32⟩
  | .hbm, ⟨1, _⟩ => ⟨S1024x704, .f32⟩
  | .hbm, ⟨2, _⟩ => ⟨S7x1024x704, .f32⟩
  | .hbm, ⟨3, _⟩ => ⟨S1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S2x1024x704, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .local _ .vmem, ⟨0, _⟩ => ⟨S7x256x704, .f32⟩
  | .local _ .vmem, ⟨1, _⟩ => ⟨S7x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S256x704, .f32⟩
  | .local _ .vmem, ⟨9, _⟩ => ⟨S256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S7x256x704, .f32⟩
  | .local _ .vmem, ⟨19, _⟩ => ⟨S7x256x704, .f32⟩
  | .local _ .vmem, ⟨20, _⟩ => ⟨S1x256x704, .f32⟩
  | .local _ .vmem, ⟨21, _⟩ => ⟨S1x256x704, .f32⟩
  | .local _ .vmem, ⟨22, _⟩ => ⟨S1x256x704, .f32⟩
  | .local _ .vmem, ⟨23, _⟩ => ⟨S1x256x704, .f32⟩
  | .local _ .vmem, ⟨24, _⟩ => ⟨S1x256x704, .f32⟩
  | .local _ .vmem, ⟨25, _⟩ => ⟨S1x256x704, .f32⟩
  | .local _ .vmem, ⟨26, _⟩ => ⟨S256x704, .f32⟩
  | .local _ .vmem, ⟨27, _⟩ => ⟨S256x704, .f32⟩
  | .local _ .vmem, ⟨28, _⟩ => ⟨S1x256x704, .f32⟩
  | .local _ .vmem, ⟨29, _⟩ => ⟨S1x256x704, .f32⟩
  | .local _ .vmem, ⟨30, _⟩ => ⟨S1x256x704, .f32⟩
  | .local _ .vmem, ⟨31, _⟩ => ⟨S1x256x704, .f32⟩
  | .local _ .vmem, ⟨32, _⟩ => ⟨S1x256x704, .f32⟩
  | .local _ .vmem, ⟨33, _⟩ => ⟨S1x256x704, .f32⟩
  | .local _ .vmem, ⟨34, _⟩ => ⟨S1x256x704, .f32⟩
  | .local _ .vmem, ⟨35, _⟩ => ⟨S1x256x704, .f32⟩
  | _, _ => ⟨S7x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S7x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S7x256x704 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x704 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x704 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x704 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x704 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x704 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x704 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x704 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x704 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdFfnInIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdFfnInRefIdeal.lean ====
abbrev S7x1024x704 : Shape := ⟨3, ![7, 1024, 704]⟩
abbrev S1024x704 : Shape := ⟨2, ![1024, 704]⟩
abbrev S2x1024x704 : Shape := ⟨3, ![2, 1024, 704]⟩
abbrev S_ : Shape := ⟨0, ![]⟩
abbrev S1x1024x704 : Shape := ⟨3, ![1, 1024, 704]⟩

abbrev nBuf : Space → Nat
  | .hbm => 49
  | .vmem => 0
  | .smem => 0
  | _ => 0

abbrev bufTy : (tb : Table) → Fin (tcTables nBuf tb) → BufTy
  | .hbm, ⟨0, _⟩ => ⟨S7x1024x704, .f32⟩
  | .hbm, ⟨1, _⟩ => ⟨S1024x704, .f32⟩
  | .hbm, ⟨2, _⟩ => ⟨S7x1024x704, .f32⟩
  | .hbm, ⟨3, _⟩ => ⟨S1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1x1024x704, .f32⟩
  | .hbm, ⟨14, _⟩ => ⟨S1x1024x704, .f32⟩
  | .hbm, ⟨15, _⟩ => ⟨S2x1024x704, .f32⟩
  | .hbm, ⟨16, _⟩ => ⟨S_, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S_, .f32⟩
  | .hbm, ⟨47, _⟩ => ⟨S2x1024x704, .f32⟩
  | .hbm, ⟨48, _⟩ => ⟨S2x1024x704, .f32⟩
  | _, _ => ⟨S7x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdFfnOut.lean ====
abbrev S7x352x1024 : Shape := ⟨3, ![7, 352, 1024]⟩
abbrev S352x1024 : Shape := ⟨2, ![352, 1024]⟩
abbrev S2x352x1024 : Shape := ⟨3, ![2, 352, 1024]⟩
abbrev S7x176x1024 : Shape := ⟨3, ![7, 176, 1024]⟩
abbrev S1x176x1024 : Shape := ⟨3, ![1, 176, 1024]⟩
abbrev S176x1024 : Shape := ⟨2, ![176, 1024]⟩

abbrev nBuf : Space → Nat
  | .hbm => 15
  | .vmem => 36
  | .smem => 0
  | _ => 0

abbrev bufTy : (tb : Table) → Fin (tcTables nBuf tb) → BufTy
  | .hbm, ⟨0, _⟩ => ⟨S7x352x1024, .f32⟩
  | .hbm, ⟨1, _⟩ => ⟨S352x1024, .f32⟩
  | .hbm, ⟨2, _⟩ => ⟨S7x352x1024, .f32⟩
  | .hbm, ⟨3, _⟩ => ⟨S352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .local _ .vmem, ⟨0, _⟩ => ⟨S7x176x1024, .f32⟩
  | .local _ .vmem, ⟨1, _⟩ => ⟨S7x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S7x176x1024, .f32⟩
  | .local _ .vmem, ⟨19, _⟩ => ⟨S7x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x176x1024, .f32⟩
  | .local _ .vmem, ⟨25, _⟩ => ⟨S1x176x1024, .f32⟩
  | .local _ .vmem, ⟨26, _⟩ => ⟨S176x1024, .f32⟩
  | .local _ .vmem, ⟨27, _⟩ => ⟨S176x1024, .f32⟩
  | .local _ .vmem, ⟨28, _⟩ => ⟨S1x176x1024, .f32⟩
  | .local _ .vmem, ⟨29, _⟩ => ⟨S1x176x1024, .f32⟩
  | .local _ .vmem, ⟨30, _⟩ => ⟨S1x176x1024, .f32⟩
  | .local _ .vmem, ⟨31, _⟩ => ⟨S1x176x1024, .f32⟩
  | .local _ .vmem, ⟨32, _⟩ => ⟨S1x176x1024, .f32⟩
  | .local _ .vmem, ⟨33, _⟩ => ⟨S1x176x1024, .f32⟩
  | .local _ .vmem, ⟨34, _⟩ => ⟨S1x176x1024, .f32⟩
  | .local _ .vmem, ⟨35, _⟩ => ⟨S1x176x1024, .f32⟩
  | _, _ => ⟨S7x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S7x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S7x176x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x176x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S176x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x176x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== AdFfnOutIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdFfnOutRefIdeal.lean ====
abbrev S7x352x1024 : Shape := ⟨3, ![7, 352, 1024]⟩
abbrev S352x1024 : Shape := ⟨2, ![352, 1024]⟩
abbrev S2x352x1024 : Shape := ⟨3, ![2, 352, 1024]⟩
abbrev S_ : Shape := ⟨0, ![]⟩
abbrev S1x352x1024 : Shape := ⟨3, ![1, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S7x352x1024, .f32⟩
  | .hbm, ⟨1, _⟩ => ⟨S352x1024, .f32⟩
  | .hbm, ⟨2, _⟩ => ⟨S7x352x1024, .f32⟩
  | .hbm, ⟨3, _⟩ => ⟨S352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S1x352x1024, .f32⟩
  | .hbm, ⟨14, _⟩ => ⟨S1x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | _, _ => ⟨S7x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdSmall.lean ====
abbrev S7x16x512 : Shape := ⟨3, ![7, 16, 512]⟩
abbrev S16x512 : Shape := ⟨2, ![16, 512]⟩
abbrev S1x5x512 : Shape := ⟨3, ![1, 5, 512]⟩
abbrev S1x512 : Shape := ⟨2, ![1, 512]⟩
abbrev S1x256 : Shape := ⟨2, ![1, 256]⟩
abbrev S2x3x352 : Shape := ⟨3, ![2, 3, 352]⟩
abbrev S5x512 : Shape := ⟨2, ![5, 512]⟩
abbrev S_ : Shape := ⟨0, ![]⟩
abbrev S6x352 : Shape := ⟨2, ![6, 352]⟩
abbrev S6x512 : Shape := ⟨2, ![6, 512]⟩
abbrev S13x512 : Shape := ⟨2, ![13, 512]⟩
abbrev S1x16x512 : Shape := ⟨3, ![1, 16, 512]⟩

abbrev nBuf : Space → Nat
  | .hbm => 96
  | .vmem => 9
  | .smem => 0
  | _ => 0

abbrev bufTy : (tb : Table) → Fin (tcTables nBuf tb) → BufTy
  | .hbm, ⟨0, _⟩ => ⟨S7x16x512, .f32⟩
  | .hbm, ⟨1, _⟩ => ⟨S16x512, .f32⟩
  | .hbm, ⟨2, _⟩ => ⟨S1x5x512, .f32⟩
  | .hbm, ⟨3, _⟩ => ⟨S1x5x512, .f32⟩
  | .hbm, ⟨4, _⟩ => ⟨S1x5x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S2x3x352, .f32⟩
  | .hbm, ⟨12, _⟩ => ⟨S2x3x352, .f32⟩
  | .hbm, ⟨13, _⟩ => ⟨S2x3x352, .f32⟩
  | .hbm, ⟨14, _⟩ => ⟨S5x512, .f32⟩
  | .hbm, ⟨15, _⟩ => ⟨S_, .i32⟩
  | .hbm, ⟨16, _⟩ => ⟨S_, .f32⟩
  | .hbm, ⟨17, _⟩ => ⟨S5x512, .f32⟩
  | .hbm, ⟨18, _⟩ => ⟨S_, .i32⟩
  | .hbm, ⟨19, _⟩ => ⟨S_, .f32⟩
  | .hbm, ⟨20, _⟩ => ⟨S1x512, .f32⟩
  | .hbm, ⟨21, _⟩ => ⟨S_, .i32⟩
  | .hbm, ⟨22, _⟩ => ⟨S_, .f32⟩
  | .hbm, ⟨23, _⟩ => ⟨S1x512, .f32⟩
  | .hbm, ⟨24, _⟩ => ⟨S6x352, .f32⟩
  | .hbm, ⟨25, _⟩ => ⟨S_, .i32⟩
  | .hbm, ⟨26, _⟩ => ⟨S_, .f32⟩
  | .hbm, ⟨27, _⟩ => ⟨S6x512, .f32⟩
  | .hbm, ⟨28, _⟩ => ⟨S13x512, .f32⟩
  | .hbm, ⟨29, _⟩ => ⟨S_, .i32⟩
  | .hbm, ⟨30, _⟩ => ⟨S_, .f32⟩
  | .hbm, ⟨31, _⟩ => ⟨S16x512, .f32⟩
  | .hbm, ⟨32, _⟩ => ⟨S5x512, .f32⟩
  | .hbm, ⟨33, _⟩ => ⟨S_, .i32⟩
  | .hbm, ⟨34, _⟩ => ⟨S_, .f32⟩
  | .hbm, ⟨35, _⟩ => ⟨S5x512, .f32⟩
  | .hbm, ⟨36, _⟩ => ⟨S_, .i32⟩
  | .hbm, ⟨37, _⟩ => ⟨S_, .f32⟩
  | .hbm, ⟨38, _⟩ => ⟨S1x512, .f32⟩
  | .hbm, ⟨39, _⟩ => ⟨S_, .i32⟩
  | .hbm, ⟨40, _⟩ => ⟨S_, .f32⟩
  | .hbm, ⟨41, _⟩ => ⟨S1x512, .f32⟩
  | .hbm, ⟨42, _⟩ => ⟨S6x352, .f32⟩
  | .hbm, ⟨43, _⟩ => ⟨S_, .i32⟩
  | .hbm, ⟨44, _⟩ => ⟨S_, .f32⟩
  | .hbm, ⟨45, _⟩ => ⟨S6x512, .f32⟩
  | .hbm, ⟨46, _⟩ => ⟨S13x512, .f32⟩
  | .hbm, ⟨47, _⟩ => ⟨S_, .i32⟩
  | .hbm, ⟨48, _⟩ => ⟨S_, .f32⟩
  | .hbm, ⟨49, _⟩ => ⟨S16x512, .f32⟩
  | .hbm, ⟨50, _⟩ => ⟨S5x512, .f32⟩
  | .hbm, ⟨51, _⟩ => ⟨S_, .i32⟩
  | .hbm, ⟨52, _⟩ => ⟨S_, .f32⟩
  | .hbm, ⟨53, _⟩ => ⟨S5x512, .f32⟩
  | .hbm, ⟨54, _⟩ => ⟨S_, .i32⟩
  | .hbm, ⟨55, _⟩ => ⟨S_, .f32⟩
  | .hbm, ⟨56, _⟩ => ⟨S1x512, .f32⟩
  | .hbm, ⟨57, _⟩ => ⟨S_, .i32⟩
  | .hbm, ⟨58, _⟩ => ⟨S_, .f32⟩
  | .hbm, ⟨59, _⟩ => ⟨S1x512, .f32⟩
  | .hbm, ⟨60, _⟩ => ⟨S6x352, .f32⟩
  | .hbm, ⟨61, _⟩ => ⟨S_, .i32⟩
  | .hbm, ⟨62, _⟩ => ⟨S_, .f32⟩
  | .hbm, ⟨63, _⟩ => ⟨S6x512, .f32⟩
  | .hbm, ⟨64, _⟩ => ⟨S13x512, .f32⟩
  | .hbm, ⟨65, _⟩ => ⟨S_, .i32⟩
  | .hbm, ⟨66, _⟩ => ⟨S_, .f32⟩
  | .hbm, ⟨67, _⟩ => ⟨S16x512, .f32⟩
  | .hbm, ⟨68, _⟩ => ⟨S16x512, .f32⟩
  | .hbm, ⟨69, _⟩ => ⟨S16x512, .f32⟩
  | .hbm, ⟨70, _⟩ => ⟨S16x512, .f32⟩
  | .hbm, ⟨71, _⟩ => ⟨S16x512, .f32⟩
  | .hbm, ⟨72, _⟩ => ⟨S5x512, .f32⟩
  | .hbm, ⟨73, _⟩ => ⟨S1x5x512, .f32⟩
  | .hbm, ⟨74, _⟩ => ⟨S1x512, .f32⟩
  | .hbm, ⟨75, _⟩ => ⟨S1x256, .f32⟩
  | .hbm, ⟨76, _⟩ => ⟨S6x352, .f32⟩
  | .hbm, ⟨77, _⟩ => ⟨S2x3x352, .f32⟩
  | .hbm, ⟨78, _⟩ => ⟨S5x512, .f32⟩
  | .hbm, ⟨79, _⟩ => ⟨S1x5x512, .f32⟩
  | .hbm, ⟨80, _⟩ => ⟨S1x512, .f32⟩
  | .hbm, ⟨81, _⟩ => ⟨S1x256, .f32⟩
  | .hbm, ⟨82, _⟩ => ⟨S6x352, .f32⟩
  | .hbm, ⟨83, _⟩ => ⟨S2x3x352, .f32⟩
  | .hbm, ⟨84, _⟩ => ⟨S5x512, .f32⟩
  | .hbm, ⟨85, _⟩ => ⟨S1x5x512, .f32⟩
  | .hbm, ⟨86, _⟩ => ⟨S1x512, .f32⟩
  | .hbm, ⟨87, _⟩ => ⟨S1x256, .f32⟩
  | .hbm, ⟨88, _⟩ => ⟨S6x352, .f32⟩
  | .hbm, ⟨89, _⟩ => ⟨S2x3x352, .f32⟩
  | .hbm, ⟨90, _⟩ => ⟨S5x512, .f32⟩
  | .hbm, ⟨91, _⟩ => ⟨S1x5x512, .f32⟩
  | .hbm, ⟨92, _⟩ => ⟨S1x512, .f32⟩
  | .hbm, ⟨93, _⟩ => ⟨S1x256, .f32⟩
  | .hbm, ⟨94, _⟩ => ⟨S6x352, .f32⟩
  | .hbm, ⟨95, _⟩ => ⟨S2x3x352, .f32⟩
  | .local _ .vmem, ⟨0, _⟩ => ⟨S7x16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | _, _ => ⟨S7x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_c_0 : Ref sig .tc := ⟨.hbm, 18, rfl⟩
abbrev main_call1_v0 : Ref sig .tc := ⟨.hbm, 19, rfl⟩
abbrev main_v2 : Ref sig .tc := ⟨.hbm, 20, rfl⟩
abbrev main_c_1 : Ref sig .tc := ⟨.hbm, 21, rfl⟩
abbrev main_call2_v0 : Ref sig .tc := ⟨.hbm, 22, rfl⟩
abbrev main_v3 : Ref sig .tc := ⟨.hbm, 23, rfl⟩
abbrev main_v4 : Ref sig .tc := ⟨.hbm, 24, rfl⟩
abbrev main_c_2 : Ref sig .tc := ⟨.hbm, 25, rfl⟩
abbrev main_call3_v0 : Ref sig .tc := ⟨.hbm, 26, rfl⟩
abbrev main_v5 : Ref sig .tc := ⟨.hbm, 27, rfl⟩
abbrev main_v6 : Ref sig .tc := ⟨.hbm, 28, rfl⟩
abbrev main_c_3 : Ref sig .tc := ⟨.hbm, 29, rfl⟩
abbrev main_call4_v0 : Ref sig .tc := ⟨.hbm, 30, rfl⟩
abbrev main_v7 : Ref sig .tc := ⟨.hbm, 31, rfl⟩
abbrev main_v8 : Ref sig .tc := ⟨.hbm, 32, rfl⟩
abbrev main_c_4 : Ref sig .tc := ⟨.hbm, 33, rfl⟩
abbrev main_call5_v0 : Ref sig .tc := ⟨.hbm, 34, rfl⟩
abbrev main_v9 : Ref sig .tc := ⟨.hbm, 35, rfl⟩
abbrev main_c_5 : Ref sig .tc := ⟨.hbm, 36, rfl⟩
abbrev main_call6_v0 : Ref sig .tc := ⟨.hbm, 37, rfl⟩
abbrev main_v10 : Ref sig .tc := ⟨.hbm, 38, rfl⟩
abbrev main_c_6 : Ref sig .tc := ⟨.hbm, 39, rfl⟩
abbrev main_call7_v0 : Ref sig .tc := ⟨.hbm, 40, rfl⟩
abbrev main_v11 : Ref sig .tc := ⟨.hbm, 41, rfl⟩
abbrev main_v12 : Ref sig .tc := ⟨.hbm, 42, rfl⟩
abbrev main_c_7 : Ref sig .tc := ⟨.hbm, 43, rfl⟩
abbrev main_call8_v0 : Ref sig .tc := ⟨.hbm, 44, rfl⟩
abbrev main_v13 : Ref sig .tc := ⟨.hbm, 45, rfl⟩
abbrev main_v14 : Ref sig .tc := ⟨.hbm, 46, rfl⟩
abbrev main_c_8 : Ref sig .tc := ⟨.hbm, 47, rfl⟩
abbrev main_call9_v0 : Ref sig .tc := ⟨.hbm, 48, rfl⟩
abbrev main_v15 : Ref sig .tc := ⟨.hbm, 49, rfl⟩
abbrev main_v16 : Ref sig .tc := ⟨.hbm, 50, rfl⟩
abbrev main_c_9 : Ref sig .tc := ⟨.hbm, 51, rfl⟩
abbrev main_call10_v0 : Ref sig .tc := ⟨.hbm, 52, rfl⟩
abbrev main_v17 : Ref sig .tc := ⟨.hbm, 53, rfl⟩
abbrev main_c_10 : Ref sig .tc := ⟨.hbm, 54, rfl⟩
abbrev main_call11_v0 : Ref sig .tc := ⟨.hbm, 55, rfl⟩
abbrev main_v18 : Ref sig .tc := ⟨.hbm, 56, rfl⟩
abbrev main_c_11 : Ref sig .tc := ⟨.hbm, 57, rfl⟩
abbrev main_call12_v0 : Ref sig .tc := ⟨.hbm, 58, rfl⟩
abbrev main_v19 : Ref sig .tc := ⟨.hbm, 59, rfl⟩
abbrev main_v20 : Ref sig .tc := ⟨.hbm, 60, rfl⟩
abbrev main_c_12 : Ref sig .tc := ⟨.hbm, 61, rfl⟩
abbrev main_call13_v0 : Ref sig .tc := ⟨.hbm, 62, rfl⟩
abbrev main_v21 : Ref sig .tc := ⟨.hbm, 63, rfl⟩
abbrev main_v22 : Ref sig .tc := ⟨.hbm, 64, rfl⟩
abbrev main_c_13 : Ref sig .tc := ⟨.hbm, 65, rfl⟩
abbrev main_call14_v0 : Ref sig .tc := ⟨.hbm, 66, rfl⟩
abbrev main_v23 : Ref sig .tc := ⟨.hbm, 67, rfl⟩
abbrev main_v24_0 : Ref sig .tc := ⟨.hbm, 68, rfl⟩
abbrev main_v24_1 : Ref sig .tc := ⟨.hbm, 69, rfl⟩
abbrev main_v24_2 : Ref sig .tc := ⟨.hbm, 70, rfl⟩
abbrev main_v24_3 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S7x16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdSmallIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdSmallRefIdeal.lean ====
abbrev S7x16x512 : Shape := ⟨3, ![7, 16, 512]⟩
abbrev S16x512 : Shape := ⟨2, ![16, 512]⟩
abbrev S1x5x512 : Shape := ⟨3, ![1, 5, 512]⟩
abbrev S1x512 : Shape := ⟨2, ![1, 512]⟩
abbrev S1x256 : Shape := ⟨2, ![1, 256]⟩
abbrev S2x3x352 : Shape := ⟨3, ![2, 3, 352]⟩
abbrev S_ : Shape := ⟨0, ![]⟩
abbrev S5x512 : Shape := ⟨2, ![5, 512]⟩
abbrev S6x352 : Shape := ⟨2, ![6, 352]⟩

abbrev nBuf : Space → Nat
  | .hbm => 155
  | .vmem => 0
  | .smem => 0
  | _ => 0

abbrev hbmTy0_0 (i : Nat) : BufTy := match i % 128 with
  | 0 => ⟨S7x16x512, .f32⟩
  | 1 => ⟨S16x512, .f32⟩
  | 2 => ⟨S1x5x512, .f32⟩
  | 3 => ⟨S1x5x512, .f32⟩
  | 4 => ⟨S1x5x512, .f32⟩
  | 5 => ⟨S1x512, .f32⟩
  | 6 => ⟨S1x512, .f32⟩
  | 7 => ⟨S1x512, .f32⟩
  | 8 => ⟨S1x256, .f32⟩
  | 9 => ⟨S1x256, .f32⟩
  | 10 => ⟨S1x256, .f32⟩
  | 11 => ⟨S2x3x352, .f32⟩
  | 12 => ⟨S2x3x352, .f32⟩
  | 13 => ⟨S2x3x352, .f32⟩
  | 14 => ⟨S_, .f32⟩
  | 15 => ⟨S16x512, .f32⟩
  | 16 => ⟨S16x512, .f32⟩
  | 17 => ⟨S5x512, .f32⟩
  | 18 => ⟨S1x5x512, .f32⟩
  | 19 => ⟨S_, .f32⟩
  | 20 => ⟨S1x5x512, .f32⟩
  | 21 => ⟨S1x5x512, .f32⟩
  | 22 => ⟨S_, .f32⟩
  | 23 => ⟨S1x5x512, .f32⟩
  | 24 => ⟨S1x5x512, .f32⟩
  | 25 => ⟨S1x5x512, .f32⟩
  | 26 => ⟨S_, .f32⟩
  | 27 => ⟨S1x5x512, .f32⟩
  | 28 => ⟨S1x5x512, .f32⟩
  | 29 => ⟨S1x5x512, .f32⟩
  | 30 => ⟨S_, .f32⟩
  | 31 => ⟨S1x5x512, .f32⟩
  | 32 => ⟨S1x5x512, .f32⟩
  | 33 => ⟨S1x5x512, .f32⟩
  | 34 => ⟨S_, .f32⟩
  | 35 => ⟨S1x5x512, .f32⟩
  | 36 => ⟨S1x5x512, .f32⟩
  | 37 => ⟨S_, .f32⟩
  | 38 => ⟨S1x5x512, .f32⟩
  | 39 => ⟨S1x5x512, .f32⟩
  | 40 => ⟨S1x5x512, .f32⟩
  | 41 => ⟨S_, .f32⟩
  | 42 => ⟨S1x5x512, .f32⟩
  | 43 => ⟨S1x5x512, .f32⟩
  | 44 => ⟨S1x5x512, .f32⟩
  | 45 => ⟨S_, .f32⟩
  | 46 => ⟨S1x5x512, .f32⟩
  | 47 => ⟨S1x5x512, .f32⟩
  | 48 => ⟨S1x5x512, .f32⟩
  | 49 => ⟨S_, .f32⟩
  | 50 => ⟨S1x5x512, .f32⟩
  | 51 => ⟨S1x5x512, .f32⟩
  | 52 => ⟨S1x512, .f32⟩
  | 53 => ⟨S_, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x256, .f32⟩
  | 87 => ⟨S_, .f32⟩
  | 88 => ⟨S1x256, .f32⟩
  | 89 => ⟨S1x256, .f32⟩
  | 90 => ⟨S_, .f32⟩
  | 91 => ⟨S1x256, .f32⟩
  | 92 => ⟨S1x256, .f32⟩
  | 93 => ⟨S1x256, .f32⟩
  | 94 => ⟨S_, .f32⟩
  | 95 => ⟨S1x256, .f32⟩
  | 96 => ⟨S1x256, .f32⟩
  | 97 => ⟨S1x256, .f32⟩
  | 98 => ⟨S_, .f32⟩
  | 99 => ⟨S1x256, .f32⟩
  | 100 => ⟨S1x256, .f32⟩
  | 101 => ⟨S1x256, .f32⟩
  | 102 => ⟨S_, .f32⟩
  | 103 => ⟨S1x256, .f32⟩
  | 104 => ⟨S1x256, .f32⟩
  | 105 => ⟨S_, .f32⟩
  | 106 => ⟨S1x256, .f32⟩
  | 107 => ⟨S1x256, .f32⟩
  | 108 => ⟨S1x256, .f32⟩
  | 109 => ⟨S_, .f32⟩
  | 110 => ⟨S1x256, .f32⟩
  | 111 => ⟨S1x256, .f32⟩
  | 112 => ⟨S1x256, .f32⟩
  | 113 => ⟨S_, .f32⟩
  | 114 => ⟨S1x256, .f32⟩
  | 115 => ⟨S1x256, .f32⟩
  | 116 => ⟨S1x256, .f32⟩
  | 117 => ⟨S_, .f32⟩
  | 118 => ⟨S1x256, .f32⟩
  | 119 => ⟨S1x256, .f32⟩
  | 120 => ⟨S6x352, .f32⟩
  | 121 => ⟨S2x3x352, .f32⟩
  | 122 => ⟨S_, .f32⟩
  | 123 => ⟨S2x3x352, .f32⟩
  | 124 => ⟨S2x3x352, .f32⟩
  | 125 => ⟨S_, .f32⟩
  | 126 => ⟨S2x3x352, .f32⟩
  | 127 => ⟨S2x3x352, .f32⟩
  | _ => ⟨S7x16x512, .f32⟩

abbrev hbmTy0_1 (i : Nat) : BufTy := match i % 128 with
  | 0 => ⟨S2x3x352, .f32⟩
  | 1 => ⟨S_, .f32⟩
  | 2 => ⟨S2x3x352, .f32⟩
  | 3 => ⟨S2x3x352, .f32⟩
  | 4 => ⟨S2x3x352, .f32⟩
  | 5 => ⟨S_, .f32⟩
  | 6 => ⟨S2x3x352, .f32⟩
  | 7 => ⟨S2x3x352, .f32⟩
  | 8 => ⟨S2x3x352, .f32⟩
  | 9 => ⟨S_, .f32⟩
  | 10 => ⟨S2x3x352, .f32⟩
  | 11 => ⟨S2x3x352, .f32⟩
  | 12 => ⟨S_, .f32⟩
  | 13 => ⟨S2x3x352, .f32⟩
  | 14 => ⟨S2x3x352, .f32⟩
  | 15 => ⟨S2x3x352, .f32⟩
  | 16 => ⟨S_, .f32⟩
  | 17 => ⟨S2x3x352, .f32⟩
  | 18 => ⟨S2x3x352, .f32⟩
  | 19 => ⟨S2x3x352, .f32⟩
  | 20 => ⟨S_, .f32⟩
  | 21 => ⟨S2x3x352, .f32⟩
  | 22 => ⟨S2x3x352, .f32⟩
  | 23 => ⟨S2x3x352, .f32⟩
  | 24 => ⟨S_, .f32⟩
  | 25 => ⟨S2x3x352, .f32⟩
  | 26 => ⟨S2x3x352, .f32⟩
  | _ => ⟨S7x16x512, .f32⟩

abbrev hbmTy (i : Nat) : BufTy := match i / 128 with
  | 0 => hbmTy0_0 i
  | 1 => hbmTy0_1 i
  | _ => ⟨S7x16x512, .f32⟩

abbrev bufTy : (tb : Table) → Fin (tcTables nBuf tb) → BufTy
  | .hbm, ⟨i, _⟩ => hbmTy i
  | _, _ => ⟨S7x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_13 : Ref sig .tc := ⟨.hbm, 68, rfl⟩
abbrev main_v40 : Ref sig .tc := ⟨.hbm, 69, rfl⟩
abbrev main_v41 : Ref sig .tc := ⟨.hbm, 70, rfl⟩
abbrev main_cst_14 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_16 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_18 : Ref sig .tc := ⟨.hbm, 87, rfl⟩
abbrev main_v54 : Ref sig .tc := ⟨.hbm, 88, rfl⟩
abbrev main_v55 : Ref sig .tc := ⟨.hbm, 89, rfl⟩
abbrev main_cst_19 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_20 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_21 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_22 : Ref sig .tc := ⟨.hbm, 102, rfl⟩
abbrev main_v65 : Ref sig .tc := ⟨.hbm, 103, rfl⟩
abbrev main_v66 : Ref sig .tc := ⟨.hbm, 104, rfl⟩
abbrev main_cst_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_24 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_25 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_26 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_27 : Ref sig .tc := ⟨.hbm, 122, rfl⟩
abbrev main_v80 : Ref sig .tc := ⟨.hbm, 123, rfl⟩
abbrev main_v81 : Ref sig .tc := ⟨.hbm, 124, rfl⟩
abbrev main_cst_28 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_29 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_30 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_31 : Ref sig .tc := ⟨.hbm, 137, rfl⟩
abbrev main_v91 : Ref sig .tc := ⟨.hbm, 138, rfl⟩
abbrev main_v92 : Ref sig .tc := ⟨.hbm, 139, rfl⟩
abbrev main_cst_32 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_33 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_34 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_35 : Ref sig .tc := ⟨.hbm, 152, rfl⟩
abbrev main_v102 : Ref sig .tc := ⟨.hbm, 153, rfl⟩
abbrev main_v103 : Ref sig .tc := ⟨.hbm, 154, rfl⟩

abbrev nD : Nat := 1
abbrev τ : Topo := Topo.v7x

variable {F : FTy → Type} [FloatOps F]
-- ==== AdRep.lean ====
abbrev S8x16x1024 : Shape := ⟨3, ![8, 16, 1024]⟩
abbrev S2x1024 : Shape := ⟨2, ![2, 1024]⟩
abbrev S3x1024 : Shape := ⟨2, ![3, 1024]⟩
abbrev S1x128 : Shape := ⟨2, ![1, 128]⟩
abbrev S1x2x32 : Shape := ⟨3, ![1, 2, 32]⟩
abbrev S1x32 : Shape := ⟨2, ![1, 32]⟩
abbrev S2x2816 : Shape := ⟨2, ![2, 2816]⟩
abbrev S1024 : Shape := ⟨1, ![1024]⟩
abbrev S_ : Shape := ⟨0, ![]⟩
abbrev S1 : Shape := ⟨1, ![1]⟩
abbrev S2048 : Shape := ⟨1, ![2048]⟩
abbrev S3072 : Shape := ⟨1, ![3072]⟩
abbrev S128 : Shape := ⟨1, ![128]⟩
abbrev S64 : Shape := ⟨1, ![64]⟩
abbrev S32 : Shape := ⟨1, ![32]⟩
abbrev S5632 : Shape := ⟨1, ![5632]⟩
abbrev S14113 : Shape := ⟨1, ![14113]⟩
abbrev S16384 : Shape := ⟨1, ![16384]⟩
abbrev S16x1024 : Shape := ⟨2, ![16, 1024]⟩
abbrev S1x16x1024 : Shape := ⟨3, ![1, 16, 1024]⟩

abbrev nBuf : Space → Nat
  | .hbm => 153
  | .vmem => 8
  | .smem => 0
  | _ => 0

abbrev hbmTy0_0 (i : Nat) : BufTy := match i % 128 with
  | 0 => ⟨S8x16x1024, .f32⟩
  | 1 => ⟨S2x1024, .f32⟩
  | 2 => ⟨S2x1024, .f32⟩
  | 3 => ⟨S2x1024, .f32⟩
  | 4 => ⟨S2x1024, .f32⟩
  | 5 => ⟨S2x1024, .f32⟩
  | 6 => ⟨S2x1024, .f32⟩
  | 7 => ⟨S3x1024, .f32⟩
  | 8 => ⟨S3x1024, .f32⟩
  | 9 => ⟨S3x1024, .f32⟩
  | 10 => ⟨S1x128, .f32⟩
  | 11 => ⟨S1x128, .f32⟩
  | 12 => ⟨S1x128, .f32⟩
  | 13 => ⟨S1x2x32, .f32⟩
  | 14 => ⟨S1x2x32, .f32⟩
  | 15 => ⟨S1x2x32, .f32⟩
  | 16 => ⟨S1x2x32, .f32⟩
  | 17 => ⟨S1x2x32, .f32⟩
  | 18 => ⟨S1x2x32, .f32⟩
  | 19 => ⟨S1x32, .f32⟩
  | 20 => ⟨S1x32, .f32⟩
  | 21 => ⟨S1x32, .f32⟩
  | 22 => ⟨S2x2816, .f32⟩
  | 23 => ⟨S2x2816, .f32⟩
  | 24 => ⟨S2x2816, .f32⟩
  | 25 => ⟨S1024, .f32⟩
  | 26 => ⟨S1024, .f32⟩
  | 27 => ⟨S1024, .f32⟩
  | 28 => ⟨S_, .f32⟩
  | 29 => ⟨S1, .f32⟩
  | 30 => ⟨S2048, .f32⟩
  | 31 => ⟨S2048, .f32⟩
  | 32 => ⟨S3072, .f32⟩
  | 33 => ⟨S128, .f32⟩
  | 34 => ⟨S64, .f32⟩
  | 35 => ⟨S64, .f32⟩
  | 36 => ⟨S32, .f32⟩
  | 37 => ⟨S5632, .f32⟩
  | 38 => ⟨S14113, .f32⟩
  | 39 => ⟨S_, .i32⟩
  | 40 => ⟨S_, .f32⟩
  | 41 => ⟨S16384, .f32⟩
  | 42 => ⟨S16x1024, .f32⟩
  | 43 => ⟨S2048, .f32⟩
  | 44 => ⟨S2048, .f32⟩
  | 45 => ⟨S3072, .f32⟩
  | 46 => ⟨S128, .f32⟩
  | 47 => ⟨S64, .f32⟩
  | 48 => ⟨S64, .f32⟩
  | 49 => ⟨S32, .f32⟩
  | 50 => ⟨S5632, .f32⟩
  | 51 => ⟨S14113, .f32⟩
  | 52 => ⟨S_, .i32⟩
  | 53 => ⟨S_, .f32⟩
  | 54 => ⟨S16384, .f32⟩
  | 55 => ⟨S16x1024, .f32⟩
  | 56 => ⟨S2048, .f32⟩
  | 57 => ⟨S2048, .f32⟩
  | 58 => ⟨S3072, .f32⟩
  | 59 => ⟨S128, .f32⟩
  | 60 => ⟨S64, .f32⟩
  | 61 => ⟨S64, .f32⟩
  | 62 => ⟨S32, .f32⟩
  | 63 => ⟨S5632, .f32⟩
  | 64 => ⟨S14113, .f32⟩
  | 65 => ⟨S_, .i32⟩
  | 66 => ⟨S_, .f32⟩
  | 67 => ⟨S16384, .f32⟩
  | 68 => ⟨S16x1024, .f32⟩
  | 69 => ⟨S16x1024, .f32⟩
  | 70 => ⟨S16x1024, .f32⟩
  | 71 => ⟨S16x1024, .f32⟩
  | 72 => ⟨S16x1024, .f32⟩
  | 73 => ⟨S16384, .f32⟩
  | 74 => ⟨S2048, .f32⟩
  | 75 => ⟨S2x1024, .f32⟩
  | 76 => ⟨S2048, .f32⟩
  | 77 => ⟨S2x1024, .f32⟩
  | 78 => ⟨S3072, .f32⟩
  | 79 => ⟨S3x1024, .f32⟩
  | 80 => ⟨S128, .f32⟩
  | 81 => ⟨S1x128, .f32⟩
  | 82 => ⟨S64, .f32⟩
  | 83 => ⟨S1x2x32, .f32⟩
  | 84 => ⟨S64, .f32⟩
  | 85 => ⟨S1x2x32, .f32⟩
  | 86 => ⟨S32, .f32⟩
  | 87 => ⟨S1x32, .f32⟩
  | 88 => ⟨S5632, .f32⟩
  | 89 => ⟨S2x2816, .f32⟩
  | 90 => ⟨S1024, .f32⟩
  | 91 => ⟨S1, .f32⟩
  | 92 => ⟨S_, .f32⟩
  | 93 => ⟨S16384, .f32⟩
  | 94 => ⟨S2048, .f32⟩
  | 95 => ⟨S2x1024, .f32⟩
  | 96 => ⟨S2048, .f32⟩
  | 97 => ⟨S2x1024, .f32⟩
  | 98 => ⟨S3072, .f32⟩
  | 99 => ⟨S3x1024, .f32⟩
  | 100 => ⟨S128, .f32⟩
  | 101 => ⟨S1x128, .f32⟩
  | 102 => ⟨S64, .f32⟩
  | 103 => ⟨S1x2x32, .f32⟩
  | 104 => ⟨S64, .f32⟩
  | 105 => ⟨S1x2x32, .f32⟩
  | 106 => ⟨S32, .f32⟩
  | 107 => ⟨S1x32, .f32⟩
  | 108 => ⟨S5632, .f32⟩
  | 109 => ⟨S2x2816, .f32⟩
  | 110 => ⟨S1024, .f32⟩
  | 111 => ⟨S1, .f32⟩
  | 112 => ⟨S_, .f32⟩
  | 113 => ⟨S16384, .f32⟩
  | 114 => ⟨S2048, .f32⟩
  | 115 => ⟨S2x1024, .f32⟩
  | 116 => ⟨S2048, .f32⟩
  | 117 => ⟨S2x1024, .f32⟩
  | 118 => ⟨S3072, .f32⟩
  | 119 => ⟨S3x1024, .f32⟩
  | 120 => ⟨S128, .f32⟩
  | 121 => ⟨S1x128, .f32⟩
  | 122 => ⟨S64, .f32⟩
  | 123 => ⟨S1x2x32, .f32⟩
  | 124 => ⟨S64, .f32⟩
  | 125 => ⟨S1x2x32, .f32⟩
  | 126 => ⟨S32, .f32⟩
  | 127 => ⟨S1x32, .f32⟩
  | _ => ⟨S8x16x1024, .f32⟩

abbrev hbmTy0_1 (i : Nat) : BufTy := match i % 128 with
  | 0 => ⟨S5632, .f32⟩
  | 1 => ⟨S2x2816, .f32⟩
  | 2 => ⟨S1024, .f32⟩
  | 3 => ⟨S1, .f32⟩
  | 4 => ⟨S_, .f32⟩
  | 5 => ⟨S16384, .f32⟩
  | 6 => ⟨S2048, .f32⟩
  | 7 => ⟨S2x1024, .f32⟩
  | 8 => ⟨S2048, .f32⟩
  | 9 => ⟨S2x1024, .f32⟩
  | 10 => ⟨S3072, .f32⟩
  | 11 => ⟨S3x1024, .f32⟩
  | 12 => ⟨S128, .f32⟩
  | 13 => ⟨S1x128, .f32⟩
  | 14 => ⟨S64, .f32⟩
  | 15 => ⟨S1x2x32, .f32⟩
  | 16 => ⟨S64, .f32⟩
  | 17 => ⟨S1x2x32, .f32⟩
  | 18 => ⟨S32, .f32⟩
  | 19 => ⟨S1x32, .f32⟩
  | 20 => ⟨S5632, .f32⟩
  | 21 => ⟨S2x2816, .f32⟩
  | 22 => ⟨S1024, .f32⟩
  | 23 => ⟨S1, .f32⟩
  | 24 => ⟨S_, .f32⟩
  | _ => ⟨S8x16x1024, .f32⟩

abbrev hbmTy (i : Nat) : BufTy := match i / 128 with
  | 0 => hbmTy0_0 i
  | 1 => hbmTy0_1 i
  | _ => ⟨S8x16x1024, .f32⟩

abbrev bufTy : (tb : Table) → Fin (tcTables nBuf tb) → BufTy
  | .hbm, ⟨i, _⟩ => hbmTy i
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c : Ref sig .tc := ⟨.hbm, 39, rfl⟩
abbrev main_call0_v0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_0 : Ref sig .tc := ⟨.hbm, 52, rfl⟩
abbrev main_call1_v0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_1 : Ref sig .tc := ⟨.hbm, 65, rfl⟩
abbrev main_call2_v0 : Ref sig .tc := ⟨.hbm, 66, rfl⟩
abbrev main_v32 : Ref sig .tc := ⟨.hbm, 67, rfl⟩
abbrev main_v33 : Ref sig .tc := ⟨.hbm, 68, rfl⟩
abbrev main_v34_0 : Ref sig .tc := ⟨.hbm, 69, rfl⟩
abbrev main_v34_1 : Ref sig .tc := ⟨.hbm, 70, rfl⟩
abbrev main_v34_2 : Ref sig .tc := ⟨.hbm, 71, rfl⟩
abbrev main_v34_3 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdRepIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdRepRefIdeal.lean ====
abbrev S8x16x1024 : Shape := ⟨3, ![8, 16, 1024]⟩
abbrev S2x1024 : Shape := ⟨2, ![2, 1024]⟩
abbrev S3x1024 : Shape := ⟨2, ![3, 1024]⟩
abbrev S1x128 : Shape := ⟨2, ![1, 128]⟩
abbrev S1x2x32 : Shape := ⟨3, ![1, 2, 32]⟩
abbrev S1x32 : Shape := ⟨2, ![1, 32]⟩
abbrev S2x2816 : Shape := ⟨2, ![2, 2816]⟩
abbrev S1024 : Shape := ⟨1, ![1024]⟩
abbrev S_ : Shape := ⟨0, ![]⟩
abbrev S16x1024 : Shape := ⟨2, ![16, 1024]⟩
abbrev S16384 : Shape := ⟨1, ![16384]⟩
abbrev S2048 : Shape := ⟨1, ![2048]⟩
abbrev S3072 : Shape := ⟨1, ![3072]⟩
abbrev S128 : Shape := ⟨1, ![128]⟩
abbrev S64 : Shape := ⟨1, ![64]⟩
abbrev S32 : Shape := ⟨1, ![32]⟩
abbrev S5632 : Shape := ⟨1, ![5632]⟩
abbrev S1 : Shape := ⟨1, ![1]⟩

abbrev nBuf : Space → Nat
  | .hbm => 347
  | .vmem => 0
  | .smem => 0
  | _ => 0

abbrev hbmTy0_0 (i : Nat) : BufTy := match i % 128 with
  | 0 => ⟨S8x16x1024, .f32⟩
  | 1 => ⟨S2x1024, .f32⟩
  | 2 => ⟨S2x1024, .f32⟩
  | 3 => ⟨S2x1024, .f32⟩
  | 4 => ⟨S2x1024, .f32⟩
  | 5 => ⟨S2x1024, .f32⟩
  | 6 => ⟨S2x1024, .f32⟩
  | 7 => ⟨S3x1024, .f32⟩
  | 8 => ⟨S3x1024, .f32⟩
  | 9 => ⟨S3x1024, .f32⟩
  | 10 => ⟨S1x128, .f32⟩
  | 11 => ⟨S1x128, .f32⟩
  | 12 => ⟨S1x128, .f32⟩
  | 13 => ⟨S1x2x32, .f32⟩
  | 14 => ⟨S1x2x32, .f32⟩
  | 15 => ⟨S1x2x32, .f32⟩
  | 16 => ⟨S1x2x32, .f32⟩
  | 17 => ⟨S1x2x32, .f32⟩
  | 18 => ⟨S1x2x32, .f32⟩
  | 19 => ⟨S1x32, .f32⟩
  | 20 => ⟨S1x32, .f32⟩
  | 21 => ⟨S1x32, .f32⟩
  | 22 => ⟨S2x2816, .f32⟩
  | 23 => ⟨S2x2816, .f32⟩
  | 24 => ⟨S2x2816, .f32⟩
  | 25 => ⟨S1024, .f32⟩
  | 26 => ⟨S1024, .f32⟩
  | 27 => ⟨S1024, .f32⟩
  | 28 => ⟨S_, .f32⟩
  | 29 => ⟨S16x1024, .f32⟩
  | 30 => ⟨S16384, .f32⟩
  | 31 => ⟨S2048, .f32⟩
  | 32 => ⟨S2x1024, .f32⟩
  | 33 => ⟨S_, .f32⟩
  | 34 => ⟨S2x1024, .f32⟩
  | 35 => ⟨S2x1024, .f32⟩
  | 36 => ⟨S_, .f32⟩
  | 37 => ⟨S2x1024, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S2x1024, .f32⟩
  | 44 => ⟨S_, .f32⟩
  | 45 => ⟨S2x1024, .f32⟩
  | 46 => ⟨S2x1024, .f32⟩
  | 47 => ⟨S2x1024, .f32⟩
  | 48 => ⟨S_, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2048, .f32⟩
  | 67 => ⟨S2x1024, .f32⟩
  | 68 => ⟨S_, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S2x1024, .f32⟩
  | 83 => ⟨S_, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S2x1024, .f32⟩
  | 90 => ⟨S_, .f32⟩
  | 91 => ⟨S2x1024, .f32⟩
  | 92 => ⟨S2x1024, .f32⟩
  | 93 => ⟨S2x1024, .f32⟩
  | 94 => ⟨S_, .f32⟩
  | 95 => ⟨S2x1024, .f32⟩
  | 96 => ⟨S2x1024, .f32⟩
  | 97 => ⟨S2x1024, .f32⟩
  | 98 => ⟨S_, .f32⟩
  | 99 => ⟨S2x1024, .f32⟩
  | 100 => ⟨S2x1024, .f32⟩
  | 101 => ⟨S3072, .f32⟩
  | 102 => ⟨S3x1024, .f32⟩
  | 103 => ⟨S_, .f32⟩
  | 104 => ⟨S3x1024, .f32⟩
  | 105 => ⟨S3x1024, .f32⟩
  | 106 => ⟨S_, .f32⟩
  | 107 => ⟨S3x1024, .f32⟩
  | 108 => ⟨S3x1024, .f32⟩
  | 109 => ⟨S3x1024, .f32⟩
  | 110 => ⟨S_, .f32⟩
  | 111 => ⟨S3x1024, .f32⟩
  | 112 => ⟨S3x1024, .f32⟩
  | 113 => ⟨S3x1024, .f32⟩
  | 114 => ⟨S_, .f32⟩
  | 115 => ⟨S3x1024, .f32⟩
  | 116 => ⟨S3x1024, .f32⟩
  | 117 => ⟨S3x1024, .f32⟩
  | 118 => ⟨S_, .f32⟩
  | 119 => ⟨S3x1024, .f32⟩
  | 120 => ⟨S3x1024, .f32⟩
  | 121 => ⟨S_, .f32⟩
  | 122 => ⟨S3x1024, .f32⟩
  | 123 => ⟨S3x1024, .f32⟩
  | 124 => ⟨S3x1024, .f32⟩
  | 125 => ⟨S_, .f32⟩
  | 126 => ⟨S3x1024, .f32⟩
  | 127 => ⟨S3x1024, .f32⟩
  | _ => ⟨S8x16x1024, .f32⟩

abbrev hbmTy0_1 (i : Nat) : BufTy := match i % 128 with
  | 0 => ⟨S3x1024, .f32⟩
  | 1 => ⟨S_, .f32⟩
  | 2 => ⟨S3x1024, .f32⟩
  | 3 => ⟨S3x1024, .f32⟩
  | 4 => ⟨S3x1024, .f32⟩
  | 5 => ⟨S_, .f32⟩
  | 6 => ⟨S3x1024, .f32⟩
  | 7 => ⟨S3x1024, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S64, .f32⟩
  | 44 => ⟨S1x2x32, .f32⟩
  | 45 => ⟨S_, .f32⟩
  | 46 => ⟨S1x2x32, .f32⟩
  | 47 => ⟨S1x2x32, .f32⟩
  | 48 => ⟨S_, .f32⟩
  | 49 => ⟨S1x2x32, .f32⟩
  | 50 => ⟨S1x2x32, .f32⟩
  | 51 => ⟨S1x2x32, .f32⟩
  | 52 => ⟨S_, .f32⟩
  | 53 => ⟨S1x2x32, .f32⟩
  | 54 => ⟨S1x2x32, .f32⟩
  | 55 => ⟨S1x2x32, .f32⟩
  | 56 => ⟨S_, .f32⟩
  | 57 => ⟨S1x2x32, .f32⟩
  | 58 => ⟨S1x2x32, .f32⟩
  | 59 => ⟨S1x2x32, .f32⟩
  | 60 => ⟨S_, .f32⟩
  | 61 => ⟨S1x2x32, .f32⟩
  | 62 => ⟨S1x2x32, .f32⟩
  | 63 => ⟨S_, .f32⟩
  | 64 => ⟨S1x2x32, .f32⟩
  | 65 => ⟨S1x2x32, .f32⟩
  | 66 => ⟨S1x2x32, .f32⟩
  | 67 => ⟨S_, .f32⟩
  | 68 => ⟨S1x2x32, .f32⟩
  | 69 => ⟨S1x2x32, .f32⟩
  | 70 => ⟨S1x2x32, .f32⟩
  | 71 => ⟨S_, .f32⟩
  | 72 => ⟨S1x2x32, .f32⟩
  | 73 => ⟨S1x2x32, .f32⟩
  | 74 => ⟨S1x2x32, .f32⟩
  | 75 => ⟨S_, .f32⟩
  | 76 => ⟨S1x2x32, .f32⟩
  | 77 => ⟨S1x2x32, .f32⟩
  | 78 => ⟨S64, .f32⟩
  | 79 => ⟨S1x2x32, .f32⟩
  | 80 => ⟨S_, .f32⟩
  | 81 => ⟨S1x2x32, .f32⟩
  | 82 => ⟨S1x2x32, .f32⟩
  | 83 => ⟨S_, .f32⟩
  | 84 => ⟨S1x2x32, .f32⟩
  | 85 => ⟨S1x2x32, .f32⟩
  | 86 => ⟨S1x2x32, .f32⟩
  | 87 => ⟨S_, .f32⟩
  | 88 => ⟨S1x2x32, .f32⟩
  | 89 => ⟨S1x2x32, .f32⟩
  | 90 => ⟨S1x2x32, .f32⟩
  | 91 => ⟨S_, .f32⟩
  | 92 => ⟨S1x2x32, .f32⟩
  | 93 => ⟨S1x2x32, .f32⟩
  | 94 => ⟨S1x2x32, .f32⟩
  | 95 => ⟨S_, .f32⟩
  | 96 => ⟨S1x2x32, .f32⟩
  | 97 => ⟨S1x2x32, .f32⟩
  | 98 => ⟨S_, .f32⟩
  | 99 => ⟨S1x2x32, .f32⟩
  | 100 => ⟨S1x2x32, .f32⟩
  | 101 => ⟨S1x2x32, .f32⟩
  | 102 => ⟨S_, .f32⟩
  | 103 => ⟨S1x2x32, .f32⟩
  | 104 => ⟨S1x2x32, .f32⟩
  | 105 => ⟨S1x2x32, .f32⟩
  | 106 => ⟨S_, .f32⟩
  | 107 => ⟨S1x2x32, .f32⟩
  | 108 => ⟨S1x2x32, .f32⟩
  | 109 => ⟨S1x2x32, .f32⟩
  | 110 => ⟨S_, .f32⟩
  | 111 => ⟨S1x2x32, .f32⟩
  | 112 => ⟨S1x2x32, .f32⟩
  | 113 => ⟨S32, .f32⟩
  | 114 => ⟨S1x32, .f32⟩
  | 115 => ⟨S_, .f32⟩
  | 116 => ⟨S1x32, .f32⟩
  | 117 => ⟨S1x32, .f32⟩
  | 118 => ⟨S_, .f32⟩
  | 119 => ⟨S1x32, .f32⟩
  | 120 => ⟨S1x32, .f32⟩
  | 121 => ⟨S1x32, .f32⟩
  | 122 => ⟨S_, .f32⟩
  | 123 => ⟨S1x32, .f32⟩
  | 124 => ⟨S1x32, .f32⟩
  | 125 => ⟨S1x32, .f32⟩
  | 126 => ⟨S_, .f32⟩
  | 127 => ⟨S1x32, .f32⟩
  | _ => ⟨S8x16x1024, .f32⟩

abbrev hbmTy0_2 (i : Nat) : BufTy := match i % 128 with
  | 0 => ⟨S1x32, .f32⟩
  | 1 => ⟨S1x32, .f32⟩
  | 2 => ⟨S_, .f32⟩
  | 3 => ⟨S1x32, .f32⟩
  | 4 => ⟨S1x32, .f32⟩
  | 5 => ⟨S_, .f32⟩
  | 6 => ⟨S1x32, .f32⟩
  | 7 => ⟨S1x32, .f32⟩
  | 8 => ⟨S1x32, .f32⟩
  | 9 => ⟨S_, .f32⟩
  | 10 => ⟨S1x32, .f32⟩
  | 11 => ⟨S1x32, .f32⟩
  | 12 => ⟨S1x32, .f32⟩
  | 13 => ⟨S_, .f32⟩
  | 14 => ⟨S1x32, .f32⟩
  | 15 => ⟨S1x32, .f32⟩
  | 16 => ⟨S1x32, .f32⟩
  | 17 => ⟨S_, .f32⟩
  | 18 => ⟨S1x32, .f32⟩
  | 19 => ⟨S1x32, .f32⟩
  | 20 => ⟨S5632, .f32⟩
  | 21 => ⟨S2x2816, .f32⟩
  | 22 => ⟨S_, .f32⟩
  | 23 => ⟨S2x2816, .f32⟩
  | 24 => ⟨S2x2816, .f32⟩
  | 25 => ⟨S_, .f32⟩
  | 26 => ⟨S2x2816, .f32⟩
  | 27 => ⟨S2x2816, .f32⟩
  | 28 => ⟨S2x2816, .f32⟩
  | 29 => ⟨S_, .f32⟩
  | 30 => ⟨S2x2816, .f32⟩
  | 31 => ⟨S2x2816, .f32⟩
  | 32 => ⟨S2x2816, .f32⟩
  | 33 => ⟨S_, .f32⟩
  | 34 => ⟨S2x2816, .f32⟩
  | 35 => ⟨S2x2816, .f32⟩
  | 36 => ⟨S2x2816, .f32⟩
  | 37 => ⟨S_, .f32⟩
  | 38 => ⟨S2x2816, .f32⟩
  | 39 => ⟨S2x2816, .f32⟩
  | 40 => ⟨S_, .f32⟩
  | 41 => ⟨S2x2816, .f32⟩
  | 42 => ⟨S2x2816, .f32⟩
  | 43 => ⟨S2x2816, .f32⟩
  | 44 => ⟨S_, .f32⟩
  | 45 => ⟨S2x2816, .f32⟩
  | 46 => ⟨S2x2816, .f32⟩
  | 47 => ⟨S2x2816, .f32⟩
  | 48 => ⟨S_, .f32⟩
  | 49 => ⟨S2x2816, .f32⟩
  | 50 => ⟨S2x2816, .f32⟩
  | 51 => ⟨S2x2816, .f32⟩
  | 52 => ⟨S_, .f32⟩
  | 53 => ⟨S2x2816, .f32⟩
  | 54 => ⟨S2x2816, .f32⟩
  | 55 => ⟨S1024, .f32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1, .f32⟩
  | 90 => ⟨S_, .f32⟩
  | _ => ⟨S8x16x1024, .f32⟩

abbrev hbmTy (i : Nat) : BufTy := match i / 128 with
  | 0 => hbmTy0_0 i
  | 1 => hbmTy0_1 i
  | 2 => hbmTy0_2 i
  | _ => ⟨S8x16x1024, .f32⟩

abbrev bufTy : (tb : Table) → Fin (tcTables nBuf tb) → BufTy
  | .hbm, ⟨i, _⟩ => hbmTy i
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_3 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_4 : Ref sig .tc := ⟨.hbm, 48, rfl⟩
abbrev main_v15 : Ref sig .tc := ⟨.hbm, 49, rfl⟩
abbrev main_v16 : Ref sig .tc := ⟨.hbm, 50, rfl⟩
abbrev main_cst_5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_6 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_7 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_8 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_9 : Ref sig .tc := ⟨.hbm, 68, rfl⟩
abbrev main_v30 : Ref sig .tc := ⟨.hbm, 69, rfl⟩
abbrev main_v31 : Ref sig .tc := ⟨.hbm, 70, rfl⟩
abbrev main_cst_10 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_11 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_12 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_cst_13 : Ref sig .tc := ⟨.hbm, 83, rfl⟩
abbrev main_v41 : Ref sig .tc := ⟨.hbm, 84, rfl⟩
abbrev main_v42 : Ref sig .tc := ⟨.hbm, 85, rfl⟩
abbrev main_cst_14 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_15 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_16 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_17 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_18 : Ref sig .tc := ⟨.hbm, 103, rfl⟩
abbrev main_v56 : Ref sig .tc := ⟨.hbm, 104, rfl⟩
abbrev main_v57 : Ref sig .tc := ⟨.hbm, 105, rfl⟩
abbrev main_cst_19 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_20 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_21 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_22 : Ref sig .tc := ⟨.hbm, 118, rfl⟩
abbrev main_v67 : Ref sig .tc := ⟨.hbm, 119, rfl⟩
abbrev main_v68 : Ref sig .tc := ⟨.hbm, 120, rfl⟩
abbrev main_cst_23 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_24 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_25 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_26 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_27 : Ref sig .tc := ⟨.hbm, 138, rfl⟩
abbrev main_v82 : Ref sig .tc := ⟨.hbm, 139, rfl⟩
abbrev main_v83 : Ref sig .tc := ⟨.hbm, 140, rfl⟩
abbrev main_cst_28 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_29 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_30 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_31 : Ref sig .tc := ⟨.hbm, 153, rfl⟩
abbrev main_v93 : Ref sig .tc := ⟨.hbm, 154, rfl⟩
abbrev main_v94 : Ref sig .tc := ⟨.hbm, 155, rfl⟩
abbrev main_cst_32 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_cst_33 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_34 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_35 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_36 : Ref sig .tc := ⟨.hbm, 173, rfl⟩
abbrev main_v108 : Ref sig .tc := ⟨.hbm, 174, rfl⟩
abbrev main_v109 : Ref sig .tc := ⟨.hbm, 175, rfl⟩
abbrev main_cst_37 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_38 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_39 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_40 : Ref sig .tc := ⟨.hbm, 188, rfl⟩
abbrev main_v119 : Ref sig .tc := ⟨.hbm, 189, rfl⟩
abbrev main_v120 : Ref sig .tc := ⟨.hbm, 190, rfl⟩
abbrev main_cst_41 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_cst_42 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_cst_43 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_cst_44 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_cst_45 : Ref sig .tc := ⟨.hbm, 208, rfl⟩
abbrev main_v134 : Ref sig .tc := ⟨.hbm, 209, rfl⟩
abbrev main_v135 : Ref sig .tc := ⟨.hbm, 210, rfl⟩
abbrev main_cst_46 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_47 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_48 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_cst_49 : Ref sig .tc := ⟨.hbm, 223, rfl⟩
abbrev main_v145 : Ref sig .tc := ⟨.hbm, 224, rfl⟩
abbrev main_v146 : Ref sig .tc := ⟨.hbm, 225, rfl⟩
abbrev main_cst_50 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_cst_51 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_cst_52 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_cst_53 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_cst_54 : Ref sig .tc := ⟨.hbm, 243, rfl⟩
abbrev main_v160 : Ref sig .tc := ⟨.hbm, 244, rfl⟩
abbrev main_v161 : Ref sig .tc := ⟨.hbm, 245, rfl⟩
abbrev main_cst_55 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_56 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_57 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_cst_58 : Ref sig .tc := ⟨.hbm, 258, rfl⟩
abbrev main_v171 : Ref sig .tc := ⟨.hbm, 259, rfl⟩
abbrev main_v172 : Ref sig .tc := ⟨.hbm, 260, rfl⟩
abbrev main_cst_59 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_cst_60 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_cst_61 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_cst_62 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_cst_63 : Ref sig .tc := ⟨.hbm, 278, rfl⟩
abbrev main_v186 : Ref sig .tc := ⟨.hbm, 279, rfl⟩
abbrev main_v187 : Ref sig .tc := ⟨.hbm, 280, rfl⟩
abbrev main_cst_64 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_cst_65 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_cst_66 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_cst_67 : Ref sig .tc := ⟨.hbm, 293, rfl⟩
abbrev main_v197 : Ref sig .tc := ⟨.hbm, 294, rfl⟩
abbrev main_v198 : Ref sig .tc := ⟨.hbm, 295, rfl⟩
abbrev main_cst_68 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_cst_69 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_cst_70 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_cst_71 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_cst_72 : Ref sig .tc := ⟨.hbm, 312, rfl⟩
abbrev main_v211 : Ref sig .tc := ⟨.hbm, 313, rfl⟩
abbrev main_v212 : Ref sig .tc := ⟨.hbm, 314, rfl⟩
abbrev main_cst_73 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_cst_74 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_cst_75 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_cst_76 : Ref sig .tc := ⟨.hbm, 327, rfl⟩
abbrev main_v222 : Ref sig .tc := ⟨.hbm, 328, rfl⟩
abbrev main_v223 : Ref sig .tc := ⟨.hbm, 329, rfl⟩
abbrev main_cst_77 : Ref sig .tc := ⟨.hbm, 330, rfl⟩
abbrev main_v224 : Ref sig .tc := ⟨.hbm, 331, rfl⟩
abbrev main_v225 : Ref sig .tc := ⟨.hbm, 332, rfl⟩
abbrev main_v226 : Ref sig .tc := ⟨.hbm, 333, rfl⟩
abbrev main_cst_78 : Ref sig .tc := ⟨.hbm, 334, rfl⟩
abbrev main_v227 : Ref sig .tc := ⟨.hbm, 335, rfl⟩
abbrev main_v228 : Ref sig .tc := ⟨.hbm, 336, rfl⟩
abbrev main_v229 : Ref sig .tc := ⟨.hbm, 337, rfl⟩
abbrev main_cst_79 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_cst_80 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩

abbrev nD : Nat := 1
abbrev τ : Topo := Topo.v7x

variable {F : FTy → Type} [FloatOps F]
-- ==== MbConv.lean ====
abbrev S4096x4096 : Shape := ⟨2, ![4096, 4096]⟩
abbrev S5x4096 : Shape := ⟨2, ![5, 4096]⟩
abbrev S1x4096 : Shape := ⟨2, ![1, 4096]⟩
abbrev S4096x2048 : Shape := ⟨2, ![4096, 2048]⟩
abbrev S4096x1024 : Shape := ⟨2, ![4096, 1024]⟩
abbrev S4096x128 : Shape := ⟨2, ![4096, 128]⟩
abbrev S5x128 : Shape := ⟨2, ![5, 128]⟩
abbrev S1x128 : Shape := ⟨2, ![1, 128]⟩
abbrev S8x128 : Shape := ⟨2, ![8, 128]⟩
abbrev S4088x128 : Shape := ⟨2, ![4088, 128]⟩
abbrev S128 : Shape := ⟨1, ![128]⟩
abbrev S4x128 : Shape := ⟨2, ![4, 128]⟩
abbrev S3x128 : Shape := ⟨2, ![3, 128]⟩
abbrev S2x128 : Shape := ⟨2, ![2, 128]⟩

abbrev nBuf : Space → Nat
  | .hbm => 10
  | .vmem => 26
  | .smem => 0
  | _ => 0

abbrev bufTy : (tb : Table) → Fin (tcTables nBuf tb) → BufTy
  | .hbm, ⟨0, _⟩ => ⟨S4096x4096, .f32⟩
  | .hbm, ⟨1, _⟩ => ⟨S5x4096, .f32⟩
  | .hbm, ⟨2, _⟩ => ⟨S1x4096, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S4096x4096, .bf16⟩
  | .hbm, ⟨8, _⟩ => ⟨S5x4096, .f32⟩
  | .hbm, ⟨9, _⟩ => ⟨S1x4096, .f32⟩
  | .local _ .vmem, ⟨0, _⟩ => ⟨S4096x128, .f32⟩
  | .local _ .vmem, ⟨1, _⟩ => ⟨S4096x128, .f32⟩
  | .local _ .vmem, ⟨2, _⟩ => ⟨S5x128, .f32⟩
  | .local _ .vmem, ⟨3, _⟩ => ⟨S5x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S5x128, .f32⟩
  | .local _ .vmem, ⟨17, _⟩ => ⟨S5x128, .f32⟩
  | .local _ .vmem, ⟨18, _⟩ => ⟨S1x128, .f32⟩
  | .local _ .vmem, ⟨19, _⟩ => ⟨S1x128, .f32⟩
  | .local _ .vmem, ⟨20, _⟩ => ⟨S4096x128, .bf16⟩
  | .local _ .vmem, ⟨21, _⟩ => ⟨S4096x128, .bf16⟩
  | .local _ .vmem, ⟨22, _⟩ => ⟨S5x128, .f32⟩
  | .local _ .vmem, ⟨23, _⟩ => ⟨S5x128, .f32⟩
  | .local _ .vmem, ⟨24, _⟩ => ⟨S1x128, .f32⟩
  | .local _ .vmem, ⟨25, _⟩ => ⟨S1x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc1_transform_3 (i : grid1.Coords) : Fin 2 → Nat :=
  let arg0 : BitVec 32 := BitVec.ofNat 32 (i 0).val
  let c16_i32 : BitVec 32 := 16#32
  let v0 : BitVec 32 := Scalar.subi arg0 c16_i32
  let c8_i32 : BitVec 32 := 8#32
  let v1 : BitVec 32 := Scalar.subi v0 c8_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![c0_i32_0.toNat, v3.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== MbConvRefIdeal.lean ====
abbrev S4096x4096 : Shape := ⟨2, ![4096, 4096]⟩
abbrev S5x4096 : Shape := ⟨2, ![5, 4096]⟩
abbrev S1x4096 : Shape := ⟨2, ![1, 4096]⟩
abbrev S4096x2048 : Shape := ⟨2, ![4096, 2048]⟩
abbrev S4096x1024 : Shape := ⟨2, ![4096, 1024]⟩
abbrev S_ : Shape := ⟨0, ![]⟩
abbrev S2x4096 : Shape := ⟨2, ![2, 4096]⟩
abbrev S4096 : Shape := ⟨1, ![4096]⟩
abbrev S4094x4096 : Shape := ⟨2, ![4094, 4096]⟩
abbrev S4095x4096 : Shape := ⟨2, ![4095, 4096]⟩

abbrev nBuf : Space → Nat
  | .hbm => 158
  | .vmem => 0
  | .smem => 0
  | _ => 0

abbrev hbmTy0_0 (i : Nat) : BufTy := match i % 128 with
  | 0 => ⟨S4096x4096, .f32⟩
  | 1 => ⟨S5x4096, .f32⟩
  | 2 => ⟨S1x4096, .f32⟩
  | 3 => ⟨S4096x2048, .f32⟩
  | 4 => ⟨S4096x1024, .f32⟩
  | 5 => ⟨S4096x1024, .f32⟩
  | 6 => ⟨S_, .f32⟩
  | 7 => ⟨S1x4096, .f32⟩
  | 8 => ⟨S_, .f32⟩
  | 9 => ⟨S2x4096, .f32⟩
  | 10 => ⟨S1x4096, .f32⟩
  | 11 => ⟨S4096, .f32⟩
  | 12 => ⟨S4094x4096, .f32⟩
  | 13 => ⟨S4096x4096, .f32⟩
  | 14 => ⟨S_, .f32⟩
  | 15 => ⟨S2x4096, .f32⟩
  | 16 => ⟨S1x4096, .f32⟩
  | 17 => ⟨S4096x4096, .f32⟩
  | 18 => ⟨S4096x4096, .f32⟩
  | 19 => ⟨S1x4096, .f32⟩
  | 20 => ⟨S4096, .f32⟩
  | 21 => ⟨S4095x4096, .f32⟩
  | 22 => ⟨S4096x4096, .f32⟩
  | 23 => ⟨S_, .f32⟩
  | 24 => ⟨S1x4096, .f32⟩
  | 25 => ⟨S1x4096, .f32⟩
  | 26 => ⟨S4096x4096, .f32⟩
  | 27 => ⟨S4096x4096, .f32⟩
  | 28 => ⟨S4096x4096, .f32⟩
  | 29 => ⟨S1x4096, .f32⟩
  | 30 => ⟨S4096, .f32⟩
  | 31 => ⟨S1x4096, .f32⟩
  | 32 => ⟨S4096x4096, .f32⟩
  | 33 => ⟨S4096x4096, .f32⟩
  | 34 => ⟨S4096x4096, .f32⟩
  | 35 => ⟨S1x4096, .f32⟩
  | 36 => ⟨S4096, .f32⟩
  | 37 => ⟨S4095x4096, .f32⟩
  | 38 => ⟨S4096x4096, .f32⟩
  | 39 => ⟨S_, .f32⟩
  | 40 => ⟨S1x4096, .f32⟩
  | 41 => ⟨S1x4096, .f32⟩
  | 42 => ⟨S4096x4096, .f32⟩
  | 43 => ⟨S4096x4096, .f32⟩
  | 44 => ⟨S4096x4096, .f32⟩
  | 45 => ⟨S1x4096, .f32⟩
  | 46 => ⟨S4096, .f32⟩
  | 47 => ⟨S4094x4096, .f32⟩
  | 48 => ⟨S4096x4096, .f32⟩
  | 49 => ⟨S_, .f32⟩
  | 50 => ⟨S2x4096, .f32⟩
  | 51 => ⟨S1x4096, .f32⟩
  | 52 => ⟨S4096x4096, .f32⟩
  | 53 => ⟨S4096x4096, .f32⟩
  | 54 => ⟨S4096x4096, .f32⟩
  | 55 => ⟨S4096x4096, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S_, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S_, .f32⟩
  | 76 => ⟨S4096, .f32⟩
  | 77 => ⟨S1x4096, .f32⟩
  | 78 => ⟨S4096x4096, .f32⟩
  | 79 => ⟨S4096x4096, .f32⟩
  | 80 => ⟨S4096x4096, .f32⟩
  | 81 => ⟨S_, .f32⟩
  | 82 => ⟨S4096, .f32⟩
  | 83 => ⟨S1x4096, .f32⟩
  | 84 => ⟨S_, .f32⟩
  | 85 => ⟨S4096, .f32⟩
  | 86 => ⟨S4094x4096, .f32⟩
  | 87 => ⟨S2x4096, .f32⟩
  | 88 => ⟨S_, .f32⟩
  | 89 => ⟨S4096x4096, .f32⟩
  | 90 => ⟨S1x4096, .f32⟩
  | 91 => ⟨S_, .f32⟩
  | 92 => ⟨S5x4096, .f32⟩
  | 93 => ⟨S4096x4096, .f32⟩
  | 94 => ⟨S4096x4096, .f32⟩
  | 95 => ⟨S4096x4096, .f32⟩
  | 96 => ⟨S_, .f32⟩
  | 97 => ⟨S4096, .f32⟩
  | 98 => ⟨S1x4096, .f32⟩
  | 99 => ⟨S_, .f32⟩
  | 100 => ⟨S4096, .f32⟩
  | 101 => ⟨S4095x4096, .f32⟩
  | 102 => ⟨S1x4096, .f32⟩
  | 103 => ⟨S_, .f32⟩
  | 104 => ⟨S4096x4096, .f32⟩
  | 105 => ⟨S4096x4096, .f32⟩
  | 106 => ⟨S1x4096, .f32⟩
  | 107 => ⟨S_, .f32⟩
  | 108 => ⟨S5x4096, .f32⟩
  | 109 => ⟨S5x4096, .f32⟩
  | 110 => ⟨S4096x4096, .f32⟩
  | 111 => ⟨S4096x4096, .f32⟩
  | 112 => ⟨S4096x4096, .f32⟩
  | 113 => ⟨S4096x4096, .f32⟩
  | 114 => ⟨S_, .f32⟩
  | 115 => ⟨S4096, .f32⟩
  | 116 => ⟨S1x4096, .f32⟩
  | 117 => ⟨S_, .f32⟩
  | 118 => ⟨S4096, .f32⟩
  | 119 => ⟨S1x4096, .f32⟩
  | 120 => ⟨S_, .f32⟩
  | 121 => ⟨S5x4096, .f32⟩
  | 122 => ⟨S5x4096, .f32⟩
  | 123 => ⟨S4096x4096, .f32⟩
  | 124 => ⟨S4096x4096, .f32⟩
  | 125 => ⟨S4096x4096, .f32⟩
  | 126 => ⟨S_, .f32⟩
  | 127 => ⟨S4096, .f32⟩
  | _ => ⟨S4096x4096, .f32⟩

abbrev hbmTy0_1 (i : Nat) : BufTy := match i % 128 with
  | 0 => ⟨S1x4096, .f32⟩
  | 1 => ⟨S_, .f32⟩
  | 2 => ⟨S4096, .f32⟩
  | 3 => ⟨S1x4096, .f32⟩
  | 4 => ⟨S4095x4096, .f32⟩
  | 5 => ⟨S_, .f32⟩
  | 6 => ⟨S4096x4096, .f32⟩
  | 7 => ⟨S4096x4096, .f32⟩
  | 8 => ⟨S1x4096, .f32⟩
  | 9 => ⟨S_, .f32⟩
  | 10 => ⟨S5x4096, .f32⟩
  | 11 => ⟨S5x4096, .f32⟩
  | 12 => ⟨S4096x4096, .f32⟩
  | 13 => ⟨S4096x4096, .f32⟩
  | 14 => ⟨S4096x4096, .f32⟩
  | 15 => ⟨S_, .f32⟩
  | 16 => ⟨S4096, .f32⟩
  | 17 => ⟨S1x4096, .f32⟩
  | 18 => ⟨S_, .f32⟩
  | 19 => ⟨S4096, .f32⟩
  | 20 => ⟨S2x4096, .f32⟩
  | 21 => ⟨S4094x4096, .f32⟩
  | 22 => ⟨S_, .f32⟩
  | 23 => ⟨S4096x4096, .f32⟩
  | 24 => ⟨S4096x4096, .f32⟩
  | 25 => ⟨S1x4096, .f32⟩
  | 26 => ⟨S_, .f32⟩
  | 27 => ⟨S5x4096, .f32⟩
  | 28 => ⟨S5x4096, .f32⟩
  | 29 => ⟨S4096x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v45_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v45_1 : Ref sig .tc := ⟨.hbm, 68, rfl⟩
abbrev main_v45_0 : Ref sig .tc := ⟨.hbm, 69, rfl⟩
abbrev main_v46 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v47 : Ref sig .tc := ⟨.hbm, 74, rfl⟩
abbrev main_cst_5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_14 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_17 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_23 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_24 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩

abbrev nD : Nat := 1
abbrev τ : Topo := Topo.v7x

variable {F : FTy → Type} [FloatOps F]
-- ==== HgPre.lean ====
abbrev S4096x5120 : Shape := ⟨2, ![4096, 5120]⟩
abbrev S2x1024 : Shape := ⟨2, ![2, 1024]⟩
abbrev S4096x1024 : Shape := ⟨2, ![4096, 1024]⟩
abbrev S256x1024 : Shape := ⟨2, ![256, 1024]⟩
abbrev S1024 : Shape := ⟨1, ![1024]⟩
abbrev S1x1024 : Shape := ⟨2, ![1, 1024]⟩

abbrev nBuf : Space → Nat
  | .hbm => 7
  | .vmem => 17
  | .smem => 0
  | _ => 0

abbrev bufTy : (tb : Table) → Fin (tcTables nBuf tb) → BufTy
  | .hbm, ⟨0, _⟩ => ⟨S4096x5120, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgPreRefIdeal.lean ====
abbrev S4096x5120 : Shape := ⟨2, ![4096, 5120]⟩
abbrev S2x1024 : Shape := ⟨2, ![2, 1024]⟩
abbrev S4096x1024 : Shape := ⟨2, ![4096, 1024]⟩
abbrev S_ : Shape := ⟨0, ![]⟩
abbrev S1024 : Shape := ⟨1, ![1024]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S_, .f32⟩
  | .hbm, ⟨21, _⟩ => ⟨S2x1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S4096x1024, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_call0_cst : Ref sig .tc := ⟨.hbm, 19, rfl⟩
abbrev main_call0_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Proof.Spec.lean ====
/- The layers' mathematics on matrices of extended reals: products, the RMS norm and its gradient, the
   depthwise convolution of three taps with its gate, and the gradient of those. -/
module

public import Idealize.ShloMosaic.Lib.Pipeline.ValueKit

@[expose] public section

noncomputable section

namespace Cert.Spec

open Idealize.ShloMosaic Idealize.ShloMosaic.TcCoe

/-- The shape of a matrix. -/
abbrev Sh (a b : ℕ) : Shape := ⟨2, ![a, b]⟩

/-- A matrix of extended reals. -/
abbrev Mat (a b : ℕ) : Type := (Sh a b).Idx → EReal

variable {M K N : ℕ}

/-- The product `X W`. -/
def mm (X : Mat M K) (W : Mat K N) : Mat M N := fun j => ∑ k : Fin K, X (ix2 (j 0) k) * W (ix2 k (j 1))

/-- The product `X Wᵀ`. -/
def mmt (X : Mat M K) (W : Mat N K) : Mat M N := fun j => ∑ k : Fin K, X (ix2 (j 0) k) * W (ix2 (j 1) k)

/-- The product `Xᵀ W`. -/
def tmm (X : Mat K M) (W : Mat K N) : Mat M N := fun j => ∑ k : Fin K, X (ix2 k (j 0)) * W (ix2 k (j 1))

/-- The sum of two matrices. -/
def add (X Y : Mat M N) : Mat M N := fun j => X j + Y j

/-- The `n` columns from column `o` on. -/
def cols (o n : ℕ) (h : o + n ≤ N) (X : Mat M N) : Mat M n :=
  fun j => X (ix2 (j 0) ⟨o + (j 1).val, lt_of_lt_of_le (Nat.add_lt_add_left (j 1).isLt o) h⟩)

/-! ## The RMS norm of rows of 1024, and its gradient -/

/-- The mean square of row `i`, with the norm's epsilon. -/
def ms (X : Mat M 1024) (i : Fin M) : EReal :=
  Ideal.div (∑ k : Fin 1024, X (ix2 i k) * X (ix2 i k)) (Ideal.ofBits .f32 0x44800000#32) + Ideal.ofBits .f32 0x358637BD#32

/-- The RMS norm with weights `w`. -/
def rms (X : Mat M 1024) (w : Mat 1 1024) : Mat M 1024 := fun j => X j * Ideal.rsqrt (ms X (j 0)) * w (ix2 0 (j 1))

/-- What row `i`'s mean square gets from the cotangent `D`. -/
def rmsQ (X : Mat M 1024) (w : Mat 1 1024) (D : Mat M 1024) (i : Fin M) : EReal :=
  Ideal.div ((∑ k : Fin 1024, X (ix2 i k) * (D (ix2 i k) * w (ix2 0 k)))
    * (Ideal.ofBits .f32 0xBF000000#32 * Ideal.div (Ideal.rsqrt (ms X i)) (ms X i))) (Ideal.ofBits .f32 0x44800000#32)

/-- The norm's gradient in `X`, with the residual's cotangent `R` added. -/
def rmsDx (X : Mat M 1024) (w : Mat 1 1024) (D R : Mat M 1024) : Mat M 1024 := fun j =>
  D j * w (ix2 0 (j 1)) * Ideal.rsqrt (ms X (j 0)) + X j * rmsQ X w D (j 0) + rmsQ X w D (j 0) * X j + R j

/-- The norm's gradient in its weights. -/
def rmsDw (X D : Mat M 1024) : Mat 1 1024 := fun j =>
  ∑ r : Fin M, X (ix2 r (j 1)) * Ideal.rsqrt (ms X r) * D (ix2 r (j 1))

/-! ## The convolution of three taps down the rows, the gate, and their gradients -/

/-- The rows moved down by one, a row of zeros on top. -/
def dn (X : Mat M N) : Mat M N := fun j =>
  if (j 0).val = 0 then 0 else X (ix2 ⟨(j 0).val - 1, lt_of_le_of_lt (Nat.sub_le _ _) (j 0).isLt⟩ (j 1))

/-- The rows moved up by one, a row of zeros at the bottom. -/
def up (X : Mat M N) : Mat M N := fun j =>
  if h : (j 0).val + 1 < M then X (ix2 ⟨(j 0).val + 1, h⟩ (j 1)) else 0

/-- The convolution. -/
def conv (X : Mat M N) (w : Mat 3 N) (b : Mat 1 N) : Mat M N := fun j =>
  b (ix2 0 (j 1)) + w (ix2 0 (j 1)) * dn X j + w (ix2 1 (j 1)) * X j + w (ix2 2 (j 1)) * up X j

/-- The gate `silu (conv X) · Y`. -/
def glu (X Y : Mat M N) (w : Mat 3 N) (b : Mat 1 N) : Mat M N := fun j =>
  conv X w b j * Ideal.logistic (conv X w b j) * Y j

/-- The gate's gradient in `Y`. -/
def gluDy (X D : Mat M N) (w : Mat 3 N) (b : Mat 1 N) : Mat M N := fun j =>
  conv X w b j * Ideal.logistic (conv X w b j) * D j

/-- The gate's gradient in the convolution. -/
def gluDc (X Y D : Mat M N) (w : Mat 3 N) (b : Mat 1 N) : Mat M N := fun j =>
  D j * Y j * Ideal.logistic (conv X w b j)
    + conv X w b j * (D j * Y j) * (Ideal.logistic (conv X w b j) * (1 - Ideal.logistic (conv X w b j)))

/-- Row `r` of `w` times each row of `X`. -/
def scale (r : Fin 3) (w : Mat 3 N) (X : Mat M N) : Mat M N := fun j => w (ix2 r (j 1)) * X j

/-- The convolution's gradient in its operand. -/
def convDx (w : Mat 3 N) (C : Mat M N) : Mat M N := fun j =>
  dn (scale 2 w C) j + scale 1 w C j + up (scale 0 w C) j

/-- The convolution's gradient in its bias. -/
def convDb (C : Mat M N) : Mat 1 N := fun j => ∑ r : Fin M, C (ix2 r (j 1))

/-- The convolution's gradient in its taps. -/
def convDw (X C : Mat M N) : Mat 3 N := fun j =>
  if (j 0).val = 0 then ∑ r : Fin M, C (ix2 r (j 1)) * dn X (ix2 r (j 1))
  else if (j 0).val = 1 then ∑ r : Fin M, C (ix2 r (j 1)) * X (ix2 r (j 1))
  else ∑ r : Fin M, C (ix2 r (j 1)) * up X (ix2 r (j 1))

end Cert.Spec

end
-- ==== Proof.MbConvSpec.lean ====
/- The convolution of five taps down the rows of the Mamba-2 mixer, its activation, and their gradients. -/
module

public import proofs.«01_k».proof.Proof.Spec

@[expose] public section

noncomputable section

namespace Cert.Spec.MbConv

open Cert.Spec Idealize.ShloMosaic Idealize.ShloMosaic.TcCoe

variable {M N : ℕ}

/-- The rows moved down by `k`, rows of zeros on top. -/
def dnk (k : ℕ) (X : Mat M N) : Mat M N := fun j =>
  if (j 0).val < k then 0 else X (ix2 ⟨(j 0).val - k, lt_of_le_of_lt (Nat.sub_le _ _) (j 0).isLt⟩ (j 1))

/-- The rows moved up by `k`, rows of zeros at the bottom. -/
def upk (k : ℕ) (X : Mat M N) : Mat M N := fun j =>
  if h : (j 0).val + k < M then X (ix2 ⟨(j 0).val + k, h⟩ (j 1)) else 0

/-- The convolution. -/
def conv5 (X : Mat M N) (w : Mat 5 N) (b : Mat 1 N) : Mat M N := fun j =>
  b (ix2 0 (j 1)) + w (ix2 0 (j 1)) * dnk 2 X j + w (ix2 1 (j 1)) * dnk 1 X j + w (ix2 2 (j 1)) * X j
    + w (ix2 3 (j 1)) * upk 1 X j + w (ix2 4 (j 1)) * upk 2 X j

/-- The activation `silu (conv5 X)`. -/
def act (X : Mat M N) (w : Mat 5 N) (b : Mat 1 N) : Mat M N := fun j =>
  conv5 X w b j * Ideal.logistic (conv5 X w b j)

/-- The activation's gradient in the convolution. -/
def actDc (X D : Mat M N) (w : Mat 5 N) (b : Mat 1 N) : Mat M N := fun j =>
  D j * Ideal.logistic (conv5 X w b j)
    + conv5 X w b j * D j * (Ideal.logistic (conv5 X w b j) * (1 - Ideal.logistic (conv5 X w b j)))

/-- Row `r` of `w` times each row of `X`. -/
def scale5 (r : Fin 5) (w : Mat 5 N) (X : Mat M N) : Mat M N := fun j => w (ix2 r (j 1)) * X j

/-- The convolution's gradient in its operand. -/
def conv5Dx (w : Mat 5 N) (C : Mat M N) : Mat M N := fun j =>
  dnk 2 (scale5 4 w C) j + dnk 1 (scale5 3 w C) j + scale5 2 w C j + upk 1 (scale5 1 w C) j + upk 2 (scale5 0 w C) j

/-- The convolution's gradient in its taps. -/
def conv5Dw (X C : Mat M N) : Mat 5 N := fun j =>
  if (j 0).val = 0 then ∑ r : Fin M, C (ix2 r (j 1)) * dnk 2 X (ix2 r (j 1))
  else if (j 0).val = 1 then ∑ r : Fin M, C (ix2 r (j 1)) * dnk 1 X (ix2 r (j 1))
  else if (j 0).val = 2 then ∑ r : Fin M, C (ix2 r (j 1)) * X (ix2 r (j 1))
  else if (j 0).val = 3 then ∑ r : Fin M, C (ix2 r (j 1)) * upk 1 X (ix2 r (j 1))
  else ∑ r : Fin M, C (ix2 r (j 1)) * upk 2 X (ix2 r (j 1))

/-- The three parts of the cotangent, beside each other. -/
def cat3 (X : Mat 4096 2048) (Y Z : Mat 4096 1024) : Mat 4096 4096 := fun j =>
  if h : (j 1).val < 2048 then X (ix2 (j 0) ⟨(j 1).val, h⟩)
  else if h' : (j 1).val < 3072 then Y (ix2 (j 0) ⟨(j 1).val - 2048, by omega⟩)
  else Z (ix2 (j 0) ⟨(j 1).val - 3072, by have h4 : (j 1).val < 4096 := (j 1).isLt; omega⟩)

/-! ## The program's results -/

/-- The activated rows. -/
def Y (x0 : Mat 4096 4096) (x1 : Mat 5 4096) (x2 : Mat 1 4096) : Mat 4096 4096 := act x0 x1 x2
/-- The cotangent of the convolution. -/
def C (x0 : Mat 4096 4096) (x1 : Mat 5 4096) (x2 : Mat 1 4096) (x3 : Mat 4096 2048) (x4 x5 : Mat 4096 1024) : Mat 4096 4096 :=
  actDc x0 (cat3 x3 x4 x5) x1 x2
/-- The cotangent of the rows. -/
def DX (x0 : Mat 4096 4096) (x1 : Mat 5 4096) (x2 : Mat 1 4096) (x3 : Mat 4096 2048) (x4 x5 : Mat 4096 1024) : Mat 4096 4096 :=
  conv5Dx x1 (C x0 x1 x2 x3 x4 x5)
/-- The gradient of the taps. -/
def DW (x0 : Mat 4096 4096) (x1 : Mat 5 4096) (x2 : Mat 1 4096) (x3 : Mat 4096 2048) (x4 x5 : Mat 4096 1024) : Mat 5 4096 :=
  conv5Dw x0 (C x0 x1 x2 x3 x4 x5)
/-- The gradient of the bias. -/
def DB (x0 : Mat 4096 4096) (x1 : Mat 5 4096) (x2 : Mat 1 4096) (x3 : Mat 4096 2048) (x4 x5 : Mat 4096 1024) : Mat 1 4096 :=
  convDb (C x0 x1 x2 x3 x4 x5)

end Cert.Spec.MbConv

end
-- ==== Proof.MbConvMat.lean ====
/- The convolution of the Mamba-2 mixer and its gradient: what the two regions leave, from what they find. Each point does
   128 columns, and everything here is column by column. -/
module

public import proofs.«01_k».proof.Proof.MbConvSpec
public import proofs.«01_k».proof.Proof.Gen.MbConvIdeal.Frame

@[expose] public section

set_option maxRecDepth 65536

noncomputable section

namespace Cert.MbConvIdeal.Val

open Cert.MbConvIdeal Cert.MbConvIdeal.Gen Cert.Spec Cert.Spec.MbConv Idealize.ShloMosaic Idealize.ShloMosaic.TcCoe Idealize.SL.Sem
open Idealize.ShloMosaic.Pipeline (Dat)

/-! ## The kernel's shifts by one row and by two -/

theorem sge1_zero : ∀ n : ℕ, n < 8 → n < 1 → IntOp.cmpi CmpIPredicate.sge (BitVec.ofNat 32 n) 1#32 = 0#1 := by decide
theorem sge1_pos : ∀ n : ℕ, n < 8 → ¬n < 1 → IntOp.cmpi CmpIPredicate.sge (BitVec.ofNat 32 n) 1#32 = 1#1 := by decide
theorem sge2_zero : ∀ n : ℕ, n < 8 → n < 2 → IntOp.cmpi CmpIPredicate.sge (BitVec.ofNat 32 n) 2#32 = 0#1 := by decide
theorem sge2_pos : ∀ n : ℕ, n < 8 → ¬n < 2 → IntOp.cmpi CmpIPredicate.sge (BitVec.ofNat 32 n) 2#32 = 1#1 := by decide
theorem slt7_last : ∀ n : ℕ, n < 8 → ¬n < 7 → IntOp.cmpi CmpIPredicate.slt (BitVec.ofNat 32 n) 7#32 = 0#1 := by decide
theorem slt7_pos : ∀ n : ℕ, n < 8 → n < 7 → IntOp.cmpi CmpIPredicate.slt (BitVec.ofNat 32 n) 7#32 = 1#1 := by decide
theorem slt6_last : ∀ n : ℕ, n < 8 → ¬n < 6 → IntOp.cmpi CmpIPredicate.slt (BitVec.ofNat 32 n) 6#32 = 0#1 := by decide
theorem slt6_pos : ∀ n : ℕ, n < 8 → n < 6 → IntOp.cmpi CmpIPredicate.slt (BitVec.ofNat 32 n) 6#32 = 1#1 := by decide

/-- The shift down by `k` rows, as the kernel writes it. -/
def rotDn (k : BitVec 32) (v : FVec Ideal S4096x128 .f32) : FVec Ideal S4096x128 .f32 :=
  concatenate S4096x128 0 [⟨S8x128, select (cmpi .sge (iota .tc S8x128 32 [0] iota_S8x128_d0_w32) (broadcast S8x128 k))
      (extractStridedSlice S8x128 ![0, 0] (dynamicRotate 0 k none v rotates_S4096x128_d0) slices_S4096x128_o0_0_S8x128)
      (broadcast S8x128 (Scalar.ofBits .f32 0x00000000#32))⟩,
    ⟨S4088x128, extractStridedSlice S4088x128 ![8, 0] (dynamicRotate 0 k none v rotates_S4096x128_d0) slices_S4096x128_o8_0_S4088x128⟩]
    concatenates_S8x128_S4088x128_S4096x128_d0

/-- The shift up, as the kernel writes it: a rotation by `k`, whose rows are kept below row `l` of the last eight. -/
def rotUp (k l : BitVec 32) (v : FVec Ideal S4096x128 .f32) : FVec Ideal S4096x128 .f32 :=
  concatenate S4096x128 0 [⟨S4088x128, extractStridedSlice S4088x128 ![0, 0] (dynamicRotate 0 k none v rotates_S4096x128_d0) slices_S4096x128_o0_0_S4088x128⟩,
    ⟨S8x128, select (cmpi .slt (iota .tc S8x128 32 [0] iota_S8x128_d0_w32) (broadcast S8x128 l))
      (extractStridedSlice S8x128 ![4088, 0] (dynamicRotate 0 k none v rotates_S4096x128_d0) slices_S4096x128_o4088_0_S8x128)
      (broadcast S8x128 (Scalar.ofBits .f32 0x00000000#32))⟩]
    concatenates_S4088x128_S8x128_S4096x128_d0

theorem rotDn1_at (v : FVec Ideal S4096x128 .f32) (y : S4096x128.Idx) : rotDn 1#32 v y = dnk (M := 4096) (N := 128) 1 v y := by
  have hb : (y 0).val < 4096 := (y 0).isLt
  pointwise [rotDn]
  unfold dnk
  by_cases h8 : (y 0).val < 8
  · rw [dif_pos h8]
    by_cases hz : (y 0).val < 1
    · rw [if_pos hz, sge1_zero _ h8 hz]; rfl
    · rw [if_neg hz, sge1_pos _ h8 hz]
      refine congrArg v (congrArg (ix2 · (y 1)) (Fin.ext ?_))
      show ((y 0).val + 4096 - 1) % 4096 = (y 0).val - 1
      omega
  · have hz : ¬(y 0).val < 1 := by omega
    refine (dif_neg h8).trans (Eq.trans ?_ (if_neg hz).symm)
    refine congrArg v (congrArg (ix2 · (y 1)) (Fin.ext ?_))
    show (8 + ((y 0).val - 8) + 4096 - 1) % 4096 = (y 0).val - 1
    omega

theorem rotDn2_at (v : FVec Ideal S4096x128 .f32) (y : S4096x128.Idx) : rotDn 2#32 v y = dnk (M := 4096) (N := 128) 2 v y := by
  have hb : (y 0).val < 4096 := (y 0).isLt
  pointwise [rotDn]
  unfold dnk
  by_cases h8 : (y 0).val < 8
  · rw [dif_pos h8]
    by_cases hz : (y 0).val < 2
    · rw [if_pos hz, sge2_zero _ h8 hz]; rfl
    · rw [if_neg hz, sge2_pos _ h8 hz]
      refine congrArg v (congrArg (ix2 · (y 1)) (Fin.ext ?_))
      show ((y 0).val + 4096 - 2) % 4096 = (y 0).val - 2
      omega
  · have hz : ¬(y 0).val < 2 := by omega
    refine (dif_neg h8).trans (Eq.trans ?_ (if_neg hz).symm)
    refine congrArg v (congrArg (ix2 · (y 1)) (Fin.ext ?_))
    show (8 + ((y 0).val - 8) + 4096 - 2) % 4096 = (y 0).val - 2
    omega

theorem rotUp1_at (v : FVec Ideal S4096x128 .f32) (y : S4096x128.Idx) : rotUp 4095#32 7#32 v y = upk (M := 4096) (N := 128) 1 v y := by
  have hb : (y 0).val < 4096 := (y 0).isLt
  pointwise [rotUp]
  unfold upk
  by_cases h8 : (y 0).val < 4088
  · rw [dif_pos h8, dif_pos (by omega)]
    refine congrArg v (congrArg (ix2 · (y 1)) (Fin.ext ?_))
    show ((y 0).val + 4096 - 4095) % 4096 = (y 0).val + 1
    omega
  · rw [dif_neg h8]
    by_cases hz : (y 0).val - 4088 < 7
    · rw [dif_pos (by omega), slt7_pos _ (by omega) hz]
      refine congrArg v (congrArg (ix2 · (y 1)) (Fin.ext ?_))
      show (4088 + ((y 0).val - 4088) + 4096 - 4095) % 4096 = (y 0).val + 1
      omega
    · rw [dif_neg (by omega), slt7_last _ (by omega) hz]; rfl

theorem rotUp2_at (v : FVec Ideal S4096x128 .f32) (y : S4096x128.Idx) : rotUp 4094#32 6#32 v y = upk (M := 4096) (N := 128) 2 v y := by
  have hb : (y 0).val < 4096 := (y 0).isLt
  pointwise [rotUp]
  unfold upk
  by_cases h8 : (y 0).val < 4088
  · rw [dif_pos h8, dif_pos (by omega)]
    refine congrArg v (congrArg (ix2 · (y 1)) (Fin.ext ?_))
    show ((y 0).val + 4096 - 4094) % 4096 = (y 0).val + 2
    omega
  · rw [dif_neg h8]
    by_cases hz : (y 0).val - 4088 < 6
    · rw [dif_pos (by omega), slt6_pos _ (by omega) hz]
      refine congrArg v (congrArg (ix2 · (y 1)) (Fin.ext ?_))
      show (4088 + ((y 0).val - 4088) + 4096 - 4094) % 4096 = (y 0).val + 2
      omega
    · rw [dif_neg (by omega), slt6_last _ (by omega) hz]; rfl

theorem pay6 (v : Vec Ideal S4096x128 .f32) : k1_pay6 v = dnk (M := 4096) (N := 128) 2 v := funext fun y => rotDn2_at v y
theorem pay8 (v : Vec Ideal S4096x128 .f32) : k1_pay8 v = dnk (M := 4096) (N := 128) 1 v := funext fun y => rotDn1_at v y
theorem pay13 (v : Vec Ideal S4096x128 .f32) : k1_pay13 v = upk (M := 4096) (N := 128) 1 v := funext fun y => rotUp1_at v y
theorem pay15 (v : Vec Ideal S4096x128 .f32) : k1_pay15 v = upk (M := 4096) (N := 128) 2 v := funext fun y => rotUp2_at v y

/-! ## The payloads on a block of 128 columns -/

variable (x0 D : Vec Ideal S4096x128 .f32) (w : Vec Ideal S5x128 .f32) (b : Vec Ideal S1x128 .f32)

theorem pay9 : k1_pay9 x0 w b = fun j => b (ix2 0 (j 1)) + w (ix2 0 (j 1)) * dnk (M := 4096) (N := 128) 2 x0 j
    + w (ix2 1 (j 1)) * dnk (M := 4096) (N := 128) 1 x0 j := by
  funext y
  pointwise [k1_pay9, k1_pay5, k1_pay7, pay6, pay8]

theorem pay11 : k1_pay11 w = fun j => w (ix2 2 (j 1)) := by
  funext y
  pointwise [k1_pay11, k1_pay10]

theorem pay16 : k1_pay16 x0 w D (k1_pay9 x0 w b) (k1_pay11 w) = actDc (M := 4096) (N := 128) x0 D w b := by
  funext y
  pointwise [k1_pay16, k1_pay12, k1_pay14, pay9, pay11, pay13, pay15, actDc, conv5]

theorem pay0 : k0_pay1 x0 w (k0_pay2 x0 w b) (k0_pay3 w) (k0_pay4 x0) = act (M := 4096) (N := 128) x0 w b := by
  have e : k0_pay2 x0 w b = fun j => b (ix2 0 (j 1)) + w (ix2 0 (j 1)) * dnk (M := 4096) (N := 128) 2 x0 j
      + w (ix2 1 (j 1)) * dnk (M := 4096) (N := 128) 1 x0 j + w (ix2 2 (j 1)) * x0 j := by
    refine Eq.trans (b := addf (k1_pay9 x0 w b) (mulf (k1_pay11 w) x0)) rfl ?_
    rw [pay9, pay11]
    funext y
    pointwise []
  have e4 : k0_pay4 x0 = upk (M := 4096) (N := 128) 1 x0 := pay13 x0
  have e0 : k0_pay1 x0 w (k0_pay2 x0 w b) (k0_pay3 w) (k0_pay4 x0)
      = mulf (addf (addf (k0_pay2 x0 w b) (mulf (broadcastTo S4096x128 (k1_pay12 w) broadcasts_S1x128_S4096x128) (k0_pay4 x0)))
          (mulf (broadcastTo S4096x128 (k1_pay14 w) broadcasts_S1x128_S4096x128) (k1_pay15 x0)))
        (logistic (addf (addf (k0_pay2 x0 w b) (mulf (broadcastTo S4096x128 (k1_pay12 w) broadcasts_S1x128_S4096x128) (k0_pay4 x0)))
          (mulf (broadcastTo S4096x128 (k1_pay14 w) broadcasts_S1x128_S4096x128) (k1_pay15 x0)))) := rfl
  rw [e0, e, e4, pay15]
  funext y
  pointwise [k1_pay12, k1_pay14, act, conv5]

theorem pay3 (C : Vec Ideal S4096x128 .f32) (P Q : FVec Ideal S4096x128 .f32) (hC : k1_pay16 x0 w D P Q = C) :
    k1_pay3 (k1_pay5 w) C (k1_pay21 (k1_pay10 w) (k1_pay12 w) C (k1_pay19 x0 w D P Q) (k1_pay20 x0 w D P Q)) (k1_pay24 (k1_pay7 w) C)
    = conv5Dx (M := 4096) (N := 128) w C := by
  have e0 : mulf (broadcastTo S4096x128 (k1_pay5 w) broadcasts_S1x128_S4096x128) C = scale5 (M := 4096) (N := 128) 0 w C := by
    funext y; pointwise [k1_pay5, scale5]
  have e1 : mulf (broadcastTo S4096x128 (k1_pay7 w) broadcasts_S1x128_S4096x128) C = scale5 (M := 4096) (N := 128) 1 w C := by
    funext y; pointwise [k1_pay7, scale5]
  have e2 : mulf (broadcastTo S4096x128 (k1_pay10 w) broadcasts_S1x128_S4096x128) C = scale5 (M := 4096) (N := 128) 2 w C := by
    funext y; pointwise [k1_pay10, scale5]
  have e3 : mulf (broadcastTo S4096x128 (k1_pay12 w) broadcasts_S1x128_S4096x128) C = scale5 (M := 4096) (N := 128) 3 w C := by
    funext y; pointwise [k1_pay12, scale5]
  have e4 : mulf (broadcastTo S4096x128 (k1_pay14 w) broadcasts_S1x128_S4096x128) C = scale5 (M := 4096) (N := 128) 4 w C := by
    funext y; pointwise [k1_pay14, scale5]
  funext y
  refine Eq.trans (b := addf (addf (addf (addf (rotDn 2#32 (mulf (broadcastTo S4096x128 (k1_pay14 w) broadcasts_S1x128_S4096x128) (k1_pay16 x0 w D P Q)))
      (rotDn 1#32 (mulf (broadcastTo S4096x128 (k1_pay12 w) broadcasts_S1x128_S4096x128) C)))
      (mulf (broadcastTo S4096x128 (k1_pay10 w) broadcasts_S1x128_S4096x128) C))
      (rotUp 4095#32 7#32 (mulf (broadcastTo S4096x128 (k1_pay7 w) broadcasts_S1x128_S4096x128) C)))
      (rotUp 4094#32 6#32 (mulf (broadcastTo S4096x128 (k1_pay5 w) broadcasts_S1x128_S4096x128) C)) y) rfl ?_
  rw [hC, e0, e1, e2, e3, e4]
  pointwise [rotDn1_at, rotDn2_at, rotUp1_at, rotUp2_at, conv5Dx]

theorem pay1 (C : Vec Ideal S4096x128 .f32) : k1_pay1 (F := Ideal) C = convDb (M := 4096) (N := 128) C := by
  funext y
  pointwise [k1_pay1, convDb]

theorem taps (n : ℕ) (hn : n < 5) (A B C D E : EReal) :
    (((((if _ : n < 4 then 0 else A) + if _ : n < 4 then if _ : n < 3 then 0 else B else 0) + if _ : n < 3 then if _ : n < 2 then 0 else C else 0)
      + if _ : n < 2 then if _ : n < 1 then 0 else D else 0) + if _ : n < 1 then E else 0)
      = if n = 0 then E else if n = 1 then D else if n = 2 then C else if n = 3 then B else A := by
  rcases n with _ | _ | _ | _ | _ | n
  · simp
  · simp
  · simp
  · simp
  · simp
  · omega

theorem pay2 (C : Vec Ideal S4096x128 .f32) (P Q : FVec Ideal S4096x128 .f32) (hC : k1_pay16 x0 w D P Q = C) :
    k1_pay2 (k1_pay6 x0) C (k1_pay22 x0 (k1_pay13 x0) C (k1_pay17 x0 w D P Q)) (k1_pay23 (k1_pay8 x0) C)
    = conv5Dw (M := 4096) (N := 128) x0 C := by
  unfold k1_pay17
  rw [hC, pay6, pay8, pay13, pay15]
  funext y
  pointwise [k1_pay2, k1_pay22, k1_pay23, conv5Dw]
  exact taps _ (y 0).isLt _ _ _ _ _

/-! The values the second region names on the way. -/

theorem ld0 (x : Vec Ideal S4096x128 .f32) : View.ld x r1_0 = x := by funext y; pointwise []
theorem ld1 (x : Vec Ideal S5x128 .f32) : View.ld x r1_1 = x := by funext y; pointwise []
theorem ld2 (x : Vec Ideal S1x128 .f32) : View.ld x r1_2 = x := by funext y; pointwise []; blk_ext []

variable (i : grid1.Coords) (v1 v2 v3 : Vec Ideal S4096x128 .f32)

theorem pay25 : k1_pay25 i x0 v1 v2 v3 w b = k1_pay4 i v1 v2 v3 := by unfold k1_pay25; rw [ld0, ld0, ld0]
theorem pay26 : k1_pay26 i x0 v1 v2 v3 w b = k1_pay9 x0 w b := by unfold k1_pay26; rw [ld0, ld1, ld2]
theorem pay27 : k1_pay27 i x0 v1 v2 v3 w b = k1_pay11 w := by unfold k1_pay27; rw [ld1]
theorem pay28 : k1_pay28 i x0 v1 v2 v3 w b = actDc (M := 4096) (N := 128) x0 (k1_pay4 i v1 v2 v3) w b := by
  unfold k1_pay28; rw [ld0, ld1, pay25, pay26, pay27, pay16]

/-! ## Column by column -/

section Cols
variable {M N n o : ℕ} (h : o + n ≤ N) (X D C : Mat M N) (u : Mat 5 N) (d : Mat 1 N)

theorem act_cols : act (cols o n h X) (cols o n h u) (cols o n h d) = cols o n h (act X u d) := rfl
theorem actDc_cols : actDc (cols o n h X) (cols o n h D) (cols o n h u) (cols o n h d) = cols o n h (actDc X D u d) := rfl
theorem conv5Dx_cols : conv5Dx (cols o n h u) (cols o n h C) = cols o n h (conv5Dx u C) := rfl
theorem convDb_cols : convDb (cols o n h C) = cols o n h (convDb C) := rfl
theorem conv5Dw_cols : conv5Dw (cols o n h X) (cols o n h C) = cols o n h (conv5Dw X C) := rfl

end Cols

/-! ## The arrays the two regions leave -/

variable (V : (c : Dev nD) → (b : Ref sig .tc) → Buf (Elt Ideal) ((c : Thread nD τ).loc b))

theorem idx0 : ∀ t : Fin cfg0.N, win0_0.index t = ![0, t.val] ∧ win0_1.index t = ![0, t.val] ∧ win0_2.index t = ![0, t.val] ∧ win0_3.index t = ![0, t.val] :=
  (by decide +kernel : ∀ t : Fin grid0.N, _)

theorem bnd0 (t : Fin cfg0.N) : t.val * 128 + 128 ≤ 4096 := by
  have h : t.val < 32 := lt_of_lt_of_eq t.isLt N_0
  omega

theorem blk0_0 (c : Dev nD) (t : Fin cfg0.N) :
    (iblk0 V c 0 t : Mat 4096 128) = cols (M := 4096) (N := 4096) (t.val * 128) 128 (bnd0 t) (V c main_arg0) := by
  funext y
  unfold cols
  blk_ext [iblk0, idx0 t]

theorem blk0_1 (c : Dev nD) (t : Fin cfg0.N) :
    (iblk0 V c 1 t : Mat 5 128) = cols (M := 5) (N := 4096) (t.val * 128) 128 (bnd0 t) (V c main_arg1) := by
  funext y
  unfold cols
  blk_ext [iblk0, idx0 t]

theorem blk0_2 (c : Dev nD) (t : Fin cfg0.N) :
    (iblk0 V c 2 t : Mat 1 128) = cols (M := 1) (N := 4096) (t.val * 128) 128 (bnd0 t) (V c main_arg2) := by
  funext y
  unfold cols
  blk_ext [iblk0, idx0 t]

theorem idx1 : ∀ t : Fin cfg1.N, win1_0.index t = ![0, t.val] ∧ win1_4.index t = ![0, t.val] ∧ win1_5.index t = ![0, t.val] ∧ win1_6.index t = ![0, t.val] ∧ win1_7.index t = ![0, t.val] ∧ win1_8.index t = ![0, t.val] :=
  (by decide +kernel : ∀ t : Fin grid1.N, _)

theorem bnd1 (t : Fin cfg1.N) : t.val * 128 + 128 ≤ 4096 := by
  have h : t.val < 32 := lt_of_lt_of_eq t.isLt N_1
  omega

theorem blk1_0 (c : Dev nD) (t : Fin cfg1.N) :
    (iblk1 V c 0 t : Mat 4096 128) = cols (M := 4096) (N := 4096) (t.val * 128) 128 (bnd1 t) (V c main_arg0) := by
  funext y
  unfold cols
  blk_ext [iblk1, idx1 t]

theorem blk1_4 (c : Dev nD) (t : Fin cfg1.N) :
    (iblk1 V c 4 t : Mat 5 128) = cols (M := 5) (N := 4096) (t.val * 128) 128 (bnd1 t) (V c main_arg1) := by
  funext y
  unfold cols
  blk_ext [iblk1, idx1 t]

theorem blk1_5 (c : Dev nD) (t : Fin cfg1.N) :
    (iblk1 V c 5 t : Mat 1 128) = cols (M := 1) (N := 4096) (t.val * 128) 128 (bnd1 t) (V c main_arg2) := by
  funext y
  unfold cols
  blk_ext [iblk1, idx1 t]

theorem idx1_1 : ∀ t : Fin cfg1.N, t.val < 16 → win1_1.index t = ![0, t.val] :=
  (by decide +kernel : ∀ t : Fin grid1.N, _)
theorem idx1_2 : ∀ t : Fin cfg1.N, ¬t.val < 16 → t.val < 24 → win1_2.index t = ![0, t.val - 16] :=
  (by decide +kernel : ∀ t : Fin grid1.N, _)
theorem idx1_3 : ∀ t : Fin cfg1.N, ¬t.val < 24 → win1_3.index t = ![0, t.val - 24] :=
  (by decide +kernel : ∀ t : Fin grid1.N, _)
theorem lt16 : ∀ t : Fin cfg1.N, Scalar.cmpi .slt (BitVec.ofNat 32 (grid1.coords t 0).val) 16#32 = if t.val < 16 then 1#1 else 0#1 :=
  (by decide +kernel : ∀ t : Fin grid1.N, _)
theorem lt24 : ∀ t : Fin cfg1.N, Scalar.cmpi .slt (BitVec.ofNat 32 (grid1.coords t 0).val) 24#32 = if t.val < 24 then 1#1 else 0#1 :=
  (by decide +kernel : ∀ t : Fin grid1.N, _)

/-- The part of the cotangent a point selects. -/
theorem blk1_c (c : Dev nD) (t : Fin cfg1.N) :
    (k1_pay4 (F := Ideal) (grid1.coords t) (iblk1 V c 1 t) (iblk1 V c 2 t) (iblk1 V c 3 t) : Mat 4096 128)
      = cols (M := 4096) (N := 4096) (t.val * 128) 128 (bnd1 t) (cat3 (V c main_arg3) (V c main_arg4) (V c main_arg5)) := by
  have hb := bnd1 t
  show Scalar.select (Scalar.cmpi .slt (BitVec.ofNat 32 (grid1.coords t 0).val) 16#32) (iblk1 V c 1 t)
    (Scalar.select (Scalar.cmpi .slt (BitVec.ofNat 32 (grid1.coords t 0).val) 24#32) (iblk1 V c 2 t) (iblk1 V c 3 t)) = _
  rw [lt16, lt24]
  funext y
  have hy : (y 1).val < 128 := (y 1).isLt
  by_cases h : t.val < 16
  · rw [if_pos h]
    refine Eq.trans (b := iblk1 V c 1 t y) rfl ?_
    refine Eq.trans ?_ (dif_pos (show t.val * 128 + (y 1).val < 2048 by omega)).symm
    blk_ext [iblk1, idx1_1 t h]
  · rw [if_neg h]
    by_cases h' : t.val < 24
    · rw [if_pos h']
      refine Eq.trans (b := iblk1 V c 2 t y) rfl ?_
      refine Eq.trans ?_ ((dif_neg (show ¬t.val * 128 + (y 1).val < 2048 by omega)).trans
        (dif_pos (show t.val * 128 + (y 1).val < 3072 by omega))).symm
      blk_ext [iblk1, idx1_2 t h h']
    · rw [if_neg h']
      refine Eq.trans (b := iblk1 V c 3 t y) rfl ?_
      refine Eq.trans ?_ ((dif_neg (show ¬t.val * 128 + (y 1).val < 2048 by omega)).trans
        (dif_neg (show ¬t.val * 128 + (y 1).val < 3072 by omega))).symm
      blk_ext [iblk1, idx1_3 t h']

theorem val0 (c : Dev nD) : (dat0 V c).arrAt 3 cfg0.N = Y (V c main_arg0) (V c main_arg1) (V c main_arg2) := by
  refine (dat0 V c).arrAt_eq_of_covers 3 _ (by decide +kernel) fun t _ y => ?_
  blk_simp
  rw [after0_3]; frame_out
  refine (congrFun (pay0 (iblk0 V c 0 t) (iblk0 V c 1 t) (iblk0 V c 2 t)) y).trans ?_
  rw [blk0_0, blk0_1, blk0_2, act_cols]
  unfold cols Y
  blk_ext [idx0 t]

theorem val1_6 (c : Dev nD) : (dat1 V c).arrAt 6 cfg1.N
      = DX (V c main_arg0) (V c main_arg1) (V c main_arg2) (V c main_arg3) (V c main_arg4) (V c main_arg5) := by
  refine (dat1 V c).arrAt_eq_of_covers 6 _ (by decide +kernel) fun t _ y => ?_
  blk_simp
  rw [after1_6]; frame_out
  rw [pay25, pay26, pay27, pay28]
  refine (congrFun (pay3 (iblk1 V c 0 t) _ (iblk1 V c 4 t) _ _ _ (pay16 ..)) y).trans ?_
  rw [blk1_0, blk1_4, blk1_5, blk1_c, actDc_cols, conv5Dx_cols]
  unfold cols DX Spec.MbConv.C
  blk_ext [idx1 t]

theorem val1_7 (c : Dev nD) : (dat1 V c).arrAt 7 cfg1.N
      = DW (V c main_arg0) (V c main_arg1) (V c main_arg2) (V c main_arg3) (V c main_arg4) (V c main_arg5) := by
  refine (dat1 V c).arrAt_eq_of_covers 7 _ (by decide +kernel) fun t _ y => ?_
  blk_simp
  rw [after1_7]; frame_out
  rw [pay25, pay26, pay27, pay28]
  refine (congrFun (pay2 (iblk1 V c 0 t) _ (iblk1 V c 4 t) _ _ _ (pay16 ..)) y).trans ?_
  rw [blk1_0, blk1_4, blk1_5, blk1_c, actDc_cols, conv5Dw_cols]
  unfold cols DW Spec.MbConv.C
  blk_ext [idx1 t]

theorem val1_8 (c : Dev nD) : (dat1 V c).arrAt 8 cfg1.N
      = DB (V c main_arg0) (V c main_arg1) (V c main_arg2) (V c main_arg3) (V c main_arg4) (V c main_arg5) := by
  refine (dat1 V c).arrAt_eq_of_covers 8 _ (by decide +kernel) fun t _ y => ?_
  blk_simp
  rw [after1_8]; frame_out
  rw [pay28]
  refine (congrFun (pay1 _) y).trans ?_
  rw [blk1_0, blk1_4, blk1_5, blk1_c, actDc_cols, convDb_cols]
  unfold cols DB Spec.MbConv.C
  blk_ext [idx1 t]

end Cert.MbConvIdeal.Val

end
-- ==== Proof.MbConvRun.lean ====
/- The convolution of the mixer and its gradient run, and what they leave: the regions one after another. -/
module

public import proofs.«01_k».proof.Proof.MbConvSpec
public import proofs.«01_k».proof.Proof.MbConvMat
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.MbConvIdeal.Val

open Cert.MbConvIdeal Cert.MbConvIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W2 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W2 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W2 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem at_main_v0_1 (c : Dev nD) : V1 m ρ c main_v0 = Cert.Spec.MbConv.Y (m ((c : Thread nD τ).loc main_arg0)) (m ((c : Thread nD τ).loc main_arg1)) (m ((c : Thread nD τ).loc main_arg2)) :=
  (W1_arr m ρ c 3).trans (val0 (V0 m ρ) c)

theorem at_main_v0_2 (c : Dev nD) : V2 m ρ c main_v0 = Cert.Spec.MbConv.Y (m ((c : Thread nD τ).loc main_arg0)) (m ((c : Thread nD τ).loc main_arg1)) (m ((c : Thread nD τ).loc main_arg2)) :=
  (W2_of m ρ c main_v0 (by decide)).trans (at_main_v0_1 m ρ c)

theorem at_main_v1_0_2 (c : Dev nD) : V2 m ρ c main_v1_0 = Cert.Spec.MbConv.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((val1_6 (V1 m ρ) c).trans ?_)
  rw [arg1 m ρ c main_arg0 (by decide), arg1 m ρ c main_arg1 (by decide), arg1 m ρ c main_arg2 (by decide), arg1 m ρ c main_arg3 (by decide), arg1 m ρ c main_arg4 (by decide), arg1 m ρ c main_arg5 (by decide)]

theorem at_main_v1_1_2 (c : Dev nD) : V2 m ρ c main_v1_1 = Cert.Spec.MbConv.DW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 7).trans ((val1_7 (V1 m ρ) c).trans ?_)
  rw [arg1 m ρ c main_arg0 (by decide), arg1 m ρ c main_arg1 (by decide), arg1 m ρ c main_arg2 (by decide), arg1 m ρ c main_arg3 (by decide), arg1 m ρ c main_arg4 (by decide), arg1 m ρ c main_arg5 (by decide)]

theorem at_main_v1_2_2 (c : Dev nD) : V2 m ρ c main_v1_2 = Cert.Spec.MbConv.DB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 8).trans ((val1_8 (V1 m ρ) c).trans ?_)
  rw [arg1 m ρ c main_arg0 (by decide), arg1 m ρ c main_arg1 (by decide), arg1 m ρ c main_arg2 (by decide), arg1 m ρ c main_arg3 (by decide), arg1 m ρ c main_arg4 (by decide), arg1 m ρ c main_arg5 (by decide)]

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.mem ((c.tc : Thread nD τ).loc main_v0) = Cert.Spec.MbConv.Y (m ((c : Thread nD τ).loc main_arg0)) (m ((c : Thread nD τ).loc main_arg1)) (m ((c : Thread nD τ).loc main_arg2))
      ∧ r.2.mem ((c.tc : Thread nD τ).loc main_v1_0) = Cert.Spec.MbConv.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_1) = Cert.Spec.MbConv.DW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_2) = Cert.Spec.MbConv.DB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V2 m ρ c b :=
    fun b hb => h.1 c _ (mem_uc b hb)
  exact ⟨⟨(g main_arg0 (by decide)).trans (arg2 m ρ c main_arg0 (by decide)), (g main_arg1 (by decide)).trans (arg2 m ρ c main_arg1 (by decide)), (g main_arg2 (by decide)).trans (arg2 m ρ c main_arg2 (by decide)), (g main_arg3 (by decide)).trans (arg2 m ρ c main_arg3 (by decide)), (g main_arg4 (by decide)).trans (arg2 m ρ c main_arg4 (by decide)), (g main_arg5 (by decide)).trans (arg2 m ρ c main_arg5 (by decide))⟩,
    (g main_v0 (by decide)).trans (at_main_v0_2 m ρ c),
    (g main_v1_0 (by decide)).trans (at_main_v1_0_2 m ρ c),
    (g main_v1_1 (by decide)).trans (at_main_v1_1_2 m ρ c),
    (g main_v1_2 (by decide)).trans (at_main_v1_2_2 m ρ c)⟩

end Cert.MbConvIdeal.Val

end
-- ==== Proof.MbConvRef.lean ====
/- The reference's results are the mathematics of the mixer's convolution. -/
module

public import proofs.«01_k».proof.Proof.MbConvSpec
public import proofs.«01_k».proof.Proof.Gen.MbConvRefIdeal.Read

@[expose] public section

set_option maxRecDepth 16384

noncomputable section

namespace Cert.MbConvRefIdeal.Val

open Cert.MbConvRefIdeal Cert.MbConvRefIdeal.Gen Cert.MbConvRefIdeal.Read Cert.Spec Cert.Spec.MbConv Idealize.ShloMosaic Idealize.ShloMosaic.TcCoe Idealize.SL.Sem

variable (x0 : Mat 4096 4096) (x1 : Mat 5 4096) (x2 : Mat 1 4096) (x3 : Mat 4096 2048) (x4 x5 : Mat 4096 1024)

theorem last_first (a b c d e f : EReal) : a + b + c + d + e + f = f + a + b + c + d + e := by abel

theorem dite_swap {p q : Prop} [Decidable p] [Decidable q] (hpq : p ↔ q) (f : p → EReal)
    (g : q → EReal) (hfg : ∀ h h', f h = g h') :
    (if h : p then f h else 0) = if h : q then g h else 0 := by
  by_cases h : p
  · rw [dif_pos h, dif_pos (hpq.mp h)]
    exact hfg _ _
  · rw [dif_neg h, dif_neg fun h' => h (hpq.mpr h')]

theorem taps (n : ℕ) (hn : n < 5) (A B C D E : EReal) :
    (((((if _ : 4 ≤ n ∧ n - 4 < 1 then A else 0) + if _ : 3 ≤ n ∧ n - 3 < 1 then B else 0) + if _ : 2 ≤ n ∧ n - 2 < 1 then C else 0)
      + if _ : 1 ≤ n ∧ n - 1 < 1 then D else 0) + if _ : n < 1 then E else 0)
      = if n = 0 then E else if n = 1 then D else if n = 2 then C else if n = 3 then B else A := by
  rcases n with _ | _ | _ | _ | _ | n
  · simp
  · simp
  · simp
  · simp
  · simp
  · omega

theorem r5 : val_main_v5 (F := Ideal) x0 = dnk 2 x0 := by
  unfold val_main_v5 val_main_v4 val_main_v1 val_main_cst_0
  funext y
  pointwise [dnk]
  by_cases h : (y 0).val < 2
  · exact (dif_pos h).trans (if_pos h).symm
  · exact (dif_neg h).trans (if_neg h).symm

theorem r13 : val_main_v13 (F := Ideal) x0 = dnk 1 x0 := by
  unfold val_main_v13 val_main_v12 val_main_v0 val_main_cst
  funext y
  pointwise [dnk]
  by_cases h : (y 0).val < 1
  · exact (dif_pos h).trans (if_pos h).symm
  · exact (dif_neg h).trans (if_neg h).symm

theorem r28 : val_main_v28 (F := Ideal) x0 = upk 1 x0 := by
  unfold val_main_v28 val_main_v27 val_main_v0 val_main_cst
  funext y
  pointwise [upk]
  refine dite_swap ?_ _ _ ?_
  · constructor <;> intro h <;> omega
  · intro h h'
    exact congrArg x0 (congrArg (ix2 · (y 1)) (Fin.ext (Nat.add_comm _ _)))

theorem r37 : val_main_v37 (F := Ideal) x0 = upk 2 x0 := by
  unfold val_main_v37 val_main_v36 val_main_v1 val_main_cst_0
  funext y
  pointwise [upk]
  refine dite_swap ?_ _ _ ?_
  · constructor <;> intro h <;> omega
  · intro h h'
    exact congrArg x0 (congrArg (ix2 · (y 1)) (Fin.ext (Nat.add_comm _ _)))

theorem r44 : val_main_v44 (F := Ideal) x0 x1 x2 = conv5 x0 x1 x2 := by
  unfold val_main_v44 val_main_v43 val_main_v42 val_main_v41 val_main_v40 val_main_v39 val_main_v35 val_main_v34 val_main_v33 val_main_v32 val_main_v31 val_main_v30 val_main_v26 val_main_v25 val_main_v24 val_main_v23 val_main_v22 val_main_v21 val_main_v20 val_main_v19 val_main_v18 val_main_v17 val_main_v16 val_main_v15 val_main_v11 val_main_v10 val_main_v9 val_main_v8 val_main_v7 val_main_v3 val_main_v2
  rw [r5, r13, r28, r37]
  funext y
  pointwise [conv5]
  exact last_first _ _ _ _ _ _

theorem r45_2 : val_main_v45_2 (F := Ideal) x0 x1 x2 = fun j => Ideal.logistic (conv5 x0 x1 x2 j) := by
  unfold val_main_v45_2 val_main_call0_v4 val_main_call0_v3 val_main_call0_v2 val_main_call0_v1 val_main_call0_v0 val_main_call0_cst val_main_call0_cst_0
  rw [r44]
  generalize conv5 x0 x1 x2 = z0
  funext y
  pointwise [Ideal.logistic]

theorem r45_0 : val_main_v45_0 (F := Ideal) x0 x1 x2 = Y x0 x1 x2 := by
  unfold val_main_v45_0 Y
  rw [r45_2, r44]
  funext y
  pointwise [act]

theorem r46 : val_main_v46 (F := Ideal) x3 x4 x5 = cat3 x3 x4 x5 := by
  funext y
  pointwise [val_main_v46, cat3]
  by_cases h : (y 1).val < 2048
  · rw [dif_pos h, dif_pos h]
  · rw [dif_neg h, dif_neg h]
    by_cases h' : (y 1).val < 3072
    · rw [dif_pos (show (y 1).val - 2048 < 1024 by omega), dif_pos h']
    · rw [dif_neg (show ¬(y 1).val - 2048 < 1024 by omega), dif_neg h']
      exact congrArg x5 (congrArg (ix2 (y 0) ·) (Fin.ext (Nat.sub_sub _ _ _)))

theorem r47 : val_main_v47 (F := Ideal) x0 x1 x2 x3 x4 x5 = C x0 x1 x2 x3 x4 x5 := by
  unfold val_main_v47 val_main_call1_v2 val_main_call1_v1 val_main_call1_v0 val_main_v45_1 val_main_call0_v7 val_main_call0_v6 val_main_call0_cst_1 C
  rw [r45_2, r44, r46]
  generalize cat3 x3 x4 x5 = z0
  funext y
  pointwise [actDc]

theorem r49 : val_main_v49 (F := Ideal) x0 x1 x2 x3 x4 x5 = DB x0 x1 x2 x3 x4 x5 := by
  unfold val_main_v49 val_main_v48 DB
  rw [r47]
  generalize C x0 x1 x2 x3 x4 x5 = z0
  funext y
  pointwise [val_main_cst_5, convDb]

theorem r51 : val_main_v51 (F := Ideal) x0 x1 x2 x3 x4 x5 = scale5 4 x1 (C x0 x1 x2 x3 x4 x5) := by
  unfold val_main_v51 val_main_v50 val_main_v39 val_main_v35 val_main_v34
  rw [r47]
  generalize C x0 x1 x2 x3 x4 x5 = z0
  funext y
  pointwise [scale5]

theorem r62 : val_main_v62 (F := Ideal) x0 x1 x2 x3 x4 x5 = scale5 3 x1 (C x0 x1 x2 x3 x4 x5) := by
  unfold val_main_v62 val_main_v61 val_main_v30 val_main_v26 val_main_v25
  rw [r47]
  generalize C x0 x1 x2 x3 x4 x5 = z0
  funext y
  pointwise [scale5]

theorem r75 : val_main_v75 (F := Ideal) x0 x1 x2 x3 x4 x5 = scale5 2 x1 (C x0 x1 x2 x3 x4 x5) := by
  unfold val_main_v75 val_main_v74 val_main_v21 val_main_v20 val_main_v19
  rw [r47]
  generalize C x0 x1 x2 x3 x4 x5 = z0
  funext y
  pointwise [scale5]

theorem r85 : val_main_v85 (F := Ideal) x0 x1 x2 x3 x4 x5 = scale5 1 x1 (C x0 x1 x2 x3 x4 x5) := by
  unfold val_main_v85 val_main_v84 val_main_v15 val_main_v11 val_main_v10
  rw [r47]
  generalize C x0 x1 x2 x3 x4 x5 = z0
  funext y
  pointwise [scale5]

theorem r98 : val_main_v98 (F := Ideal) x0 x1 x2 x3 x4 x5 = scale5 0 x1 (C x0 x1 x2 x3 x4 x5) := by
  unfold val_main_v98 val_main_v97 val_main_v7 val_main_v3 val_main_v2
  rw [r47]
  generalize C x0 x1 x2 x3 x4 x5 = z0
  funext y
  pointwise [scale5]

theorem r58 : val_main_v58 (F := Ideal) x0 x1 x2 x3 x4 x5 = dnk 2 (scale5 4 x1 (C x0 x1 x2 x3 x4 x5)) := by
  unfold val_main_v58 val_main_v56 val_main_cst_8
  rw [r51]
  generalize scale5 4 x1 (C x0 x1 x2 x3 x4 x5) = z0
  funext y
  pointwise [dnk]
  have hb : (y 0).val < 4096 := (y 0).isLt
  by_cases h : (y 0).val < 2
  · exact (dif_neg (show ¬(2 ≤ (y 0).val ∧ (y 0).val - 2 < 4094) by omega)).trans (if_pos h).symm
  · exact (dif_pos (show 2 ≤ (y 0).val ∧ (y 0).val - 2 < 4094 by omega)).trans (if_neg h).symm

theorem r69 : val_main_v69 (F := Ideal) x0 x1 x2 x3 x4 x5 = dnk 1 (scale5 3 x1 (C x0 x1 x2 x3 x4 x5)) := by
  unfold val_main_v69 val_main_v67 val_main_cst_12
  rw [r62]
  generalize scale5 3 x1 (C x0 x1 x2 x3 x4 x5) = z0
  funext y
  pointwise [dnk]
  have hb : (y 0).val < 4096 := (y 0).isLt
  by_cases h : (y 0).val < 1
  · exact (dif_neg (show ¬(1 ≤ (y 0).val ∧ (y 0).val - 1 < 4095) by omega)).trans (if_pos h).symm
  · exact (dif_pos (show 1 ≤ (y 0).val ∧ (y 0).val - 1 < 4095 by omega)).trans (if_neg h).symm

theorem r92 : val_main_v92 (F := Ideal) x0 x1 x2 x3 x4 x5 = upk 1 (scale5 1 x1 (C x0 x1 x2 x3 x4 x5)) := by
  unfold val_main_v92 val_main_v91 val_main_cst_19
  rw [r85]
  generalize scale5 1 x1 (C x0 x1 x2 x3 x4 x5) = z0
  funext y
  pointwise [upk]
  refine dite_swap ?_ _ _ ?_
  · constructor <;> intro h <;> omega
  · intro h h'
    exact congrArg z0 (congrArg (ix2 · (y 1)) (Fin.ext (Nat.add_comm _ _)))

theorem r105 : val_main_v105 (F := Ideal) x0 x1 x2 x3 x4 x5 = upk 2 (scale5 0 x1 (C x0 x1 x2 x3 x4 x5)) := by
  unfold val_main_v105 val_main_v104 val_main_cst_23
  rw [r98]
  generalize scale5 0 x1 (C x0 x1 x2 x3 x4 x5) = z0
  funext y
  pointwise [upk]
  refine dite_swap ?_ _ _ ?_
  · constructor <;> intro h <;> omega
  · intro h h'
    exact congrArg z0 (congrArg (ix2 · (y 1)) (Fin.ext (Nat.add_comm _ _)))

theorem r110 : val_main_v110 (F := Ideal) x0 x1 x2 x3 x4 x5 = DX x0 x1 x2 x3 x4 x5 := by
  unfold val_main_v110 val_main_v106 val_main_v93 val_main_v76 val_main_v70 DX
  rw [r58, r69, r75, r92, r105]
  generalize C x0 x1 x2 x3 x4 x5 = z0
  funext y
  pointwise [conv5Dx]

theorem r109 : val_main_v109 (F := Ideal) x0 x1 x2 x3 x4 x5 = DW x0 x1 x2 x3 x4 x5 := by
  unfold val_main_v109 val_main_v108 val_main_v107 val_main_v102 val_main_v101 val_main_v100 val_main_v99 val_main_v96 val_main_v95 val_main_v94 val_main_v89 val_main_v88 val_main_v87 val_main_v86 val_main_v83 val_main_v82 val_main_v81 val_main_v80 val_main_v79 val_main_v78 val_main_v77 val_main_v73 val_main_v72 val_main_v71 val_main_v66 val_main_v65 val_main_v64 val_main_v63 val_main_v60 val_main_v59 val_main_v55 val_main_v54 val_main_v53 val_main_v52 val_main_cst_6 val_main_cst_7 val_main_cst_9 val_main_cst_10 val_main_cst_11 val_main_cst_13 val_main_cst_14 val_main_cst_15 val_main_cst_16 val_main_cst_17 val_main_cst_18 val_main_cst_20 val_main_cst_21 val_main_cst_22 val_main_cst_24 DW
  rw [r47, r5, r13, r28, r37]
  generalize C x0 x1 x2 x3 x4 x5 = z0
  funext y
  pointwise [conv5Dw]
  simp only [Fin.sum_univ_one]
  exact taps _ (y 0).isLt _ _ _ _ _

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45_0) = MbConv.Y (m ((c.tc : Thread nD τ).loc main_arg0)) (m ((c.tc : Thread nD τ).loc main_arg1)) (m ((c.tc : Thread nD τ).loc main_arg2))
      ∧ r.2.mem ((c.tc : Thread nD τ).loc main_v110) = MbConv.DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v109) = MbConv.DW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v49) = MbConv.DB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.MbConvRefIdeal.Value.run m ρ)
  obtain ⟨h0, h1, h2, h3, h4, h5, h6, h7, h8, h9⟩ := h c
  exact ⟨h0.trans ((val_main_v45_0_eq ..).trans (r45_0 ..)),
    h1.trans ((val_main_v110_eq ..).trans (r110 ..)),
    h2.trans ((val_main_v109_eq ..).trans (r109 ..)),
    h3.trans ((val_main_v49_eq ..).trans (r49 ..)),
    h4, h5, h6, h7, h8, h9⟩

end Cert.MbConvRefIdeal.Val

end
-- ==== Proof.HgPreSpec.lean ====
/- The gates of the first mixer: the softmax of two rows of logits, and what the gates make of the projection. -/
module

public import proofs.«01_k».proof.Proof.Spec

@[expose] public section

noncomputable section

namespace Cert.Spec.HgPre

open Cert.Spec Idealize.ShloMosaic Idealize.ShloMosaic.TcCoe

variable {M N : ℕ}

/-- Each column's largest logit. -/
def top (w : Mat 2 N) (k : Fin N) : EReal :=
  max (Ideal.ofBits .f32 0xFF800000#32) (Finset.fold max (Ideal.ofBits .f32 0xFF800000#32) (fun r : Fin 2 => w (ix2 r k)) Finset.univ)

/-- The softmax down the columns. -/
def soft (w : Mat 2 N) : Mat 2 N := fun j =>
  Ideal.div (Ideal.exp (w (ix2 (j 0) (j 1)) - top w (j 1))) (∑ r : Fin 2, Ideal.exp (w (ix2 r (j 1)) - top w (j 1)))

/-- The lower bound of the gates: the softmax's first row. -/
def low (w : Mat 2 N) : Mat 1 N := fun j => soft w (ix2 0 (j 1))

/-- A gate, above its lower bound. -/
def gate (w : Mat 2 N) (X : Mat M N) : Mat M N := fun j =>
  low w (ix2 0 (j 1)) + (1 - low w (ix2 0 (j 1))) * Ideal.logistic (X j)

/-- The gate's logarithm. -/
def lgate (w : Mat 2 N) (X : Mat M N) : Mat M N := fun j => Ideal.log (gate w X j)

/-- What the gate lets in. -/
def kgate (w : Mat 2 N) (X : Mat M N) : Mat M N := fun j => 1 - gate w X j

/-- The activation. -/
def silu (X : Mat M N) : Mat M N := fun j => X j * Ideal.logistic (X j)

/-! The results: the activation of the first columns, the gates of the second and of the third. -/

variable (x0 : Mat 4096 5120) (x1 : Mat 2 1024)

def Q : Mat 4096 1024 := silu (cols 0 1024 (by decide) x0)
def LF : Mat 4096 1024 := lgate x1 (cols 1024 1024 (by decide) x0)
def KF : Mat 4096 1024 := kgate x1 (cols 1024 1024 (by decide) x0)
def LB : Mat 4096 1024 := lgate x1 (cols 2048 1024 (by decide) x0)
def KB : Mat 4096 1024 := kgate x1 (cols 2048 1024 (by decide) x0)

end Cert.Spec.HgPre

end
-- ==== Proof.HgPreMat.lean ====
/- The gates of the first mixer: what the region leaves, from what it finds. -/
module

public import proofs.«01_k».proof.Proof.HgPreSpec
public import proofs.«01_k».proof.Proof.Gen.HgPreIdeal.Frame

@[expose] public section

set_option maxRecDepth 16384

noncomputable section

namespace Cert.HgPreIdeal.Val

open Cert.HgPreIdeal Cert.HgPreIdeal.Gen Cert.Spec Cert.Spec.HgPre Idealize.ShloMosaic Idealize.ShloMosaic.TcCoe Idealize.SL.Sem
open Idealize.ShloMosaic.Pipeline (Dat)

theorem pay1 (w : Mat 2 1024) : k0_pay1 (F := Ideal) w = low w := by
  funext y
  pointwise [k0_pay1, low, soft, top]

variable (v : Mat 256 1024) (w : Mat 2 1024)

theorem pay2 : k0_pay2 (F := Ideal) v w = gate w v := by
  unfold k0_pay2 gate
  rw [pay1]
  generalize low w = b
  funext y
  pointwise []

theorem pay5 : k0_pay5 (F := Ideal) v w = gate w v := by
  unfold k0_pay5 gate
  rw [pay1]
  generalize low w = b
  funext y
  pointwise []

theorem pay3 : k0_pay3 (F := Ideal) v w = lgate w v := by
  unfold k0_pay3 lgate
  rw [pay2]
  generalize gate w v = g
  funext y
  pointwise []

theorem pay6 : k0_pay6 (F := Ideal) v w = lgate w v := by
  unfold k0_pay6 lgate
  rw [pay5]
  generalize gate w v = g
  funext y
  pointwise []

theorem pay4 : k0_pay4 (F := Ideal) v w = kgate w v := by
  unfold k0_pay4 kgate
  rw [pay2]
  generalize gate w v = g
  funext y
  pointwise []

theorem pay7 : k0_pay7 (F := Ideal) v w = kgate w v := by
  unfold k0_pay7 kgate
  rw [pay5]
  generalize gate w v = g
  funext y
  pointwise []

theorem pay8 : k0_pay8 (F := Ideal) v = silu v := by
  funext y
  pointwise [k0_pay8, silu]

variable (m : (ℓ : Loc nD τ sig) → Buf (Elt Ideal) ℓ)

theorem idx0 : ∀ t : Fin cfg0.N, win0_0.index t = ![t.val, 0] ∧ win0_1.index t = ![t.val, 1] ∧ win0_2.index t = ![t.val, 2]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem blk3 (c : Dev nD) (t : Fin cfg0.N) : iblk m c 3 t = V m c main_arg1 := by
  funext y
  blk_ext [iblk, idx0 t]

theorem v4 (c : Dev nD) : (dats m 0 c).arrAt 4 cfg0.N = Q (V m c main_arg0) := by
  refine (dats m 0 c).arrAt_eq_of_covers 4 _ (by decide +kernel) fun t _ y => ?_
  blk_simp
  rw [after0_4]; frame_out
  refine (congrFun (pay8 (iblk m c 0 t)) y).trans ?_
  unfold Q silu
  blk_point [cols, iblk, V, idx0 t]

theorem v5 (c : Dev nD) : (dats m 0 c).arrAt 5 cfg0.N = LF (V m c main_arg0) (V m c main_arg1) := by
  refine (dats m 0 c).arrAt_eq_of_covers 5 _ (by decide +kernel) fun t _ y => ?_
  blk_simp
  rw [after0_5]; frame_out
  refine (congrFun (pay3 (iblk m c 1 t) (iblk m c 3 t)) y).trans ?_
  rw [blk3]
  unfold LF lgate gate
  generalize low (V m c main_arg1) = b
  blk_point [cols, iblk, V, idx0 t]

theorem v6 (c : Dev nD) : (dats m 0 c).arrAt 6 cfg0.N = KF (V m c main_arg0) (V m c main_arg1) := by
  refine (dats m 0 c).arrAt_eq_of_covers 6 _ (by decide +kernel) fun t _ y => ?_
  blk_simp
  rw [after0_6]; frame_out
  refine (congrFun (pay4 (iblk m c 1 t) (iblk m c 3 t)) y).trans ?_
  rw [blk3]
  unfold KF kgate gate
  generalize low (V m c main_arg1) = b
  blk_point [cols, iblk, V, idx0 t]

theorem v7 (c : Dev nD) : (dats m 0 c).arrAt 7 cfg0.N = LB (V m c main_arg0) (V m c main_arg1) := by
  refine (dats m 0 c).arrAt_eq_of_covers 7 _ (by decide +kernel) fun t _ y => ?_
  blk_simp
  rw [after0_7]; frame_out
  refine (congrFun (pay6 (iblk m c 2 t) (iblk m c 3 t)) y).trans ?_
  rw [blk3]
  unfold LB lgate gate
  generalize low (V m c main_arg1) = b
  blk_point [cols, iblk, V, idx0 t]

theorem v8 (c : Dev nD) : (dats m 0 c).arrAt 8 cfg0.N = KB (V m c main_arg0) (V m c main_arg1) := by
  refine (dats m 0 c).arrAt_eq_of_covers 8 _ (by decide +kernel) fun t _ y => ?_
  blk_simp
  rw [after0_8]; frame_out
  refine (congrFun (pay7 (iblk m c 2 t) (iblk m c 3 t)) y).trans ?_
  rw [blk3]
  unfold KB kgate gate
  generalize low (V m c main_arg1) = b
  blk_point [cols, iblk, V, idx0 t]

end Cert.HgPreIdeal.Val

end
-- ==== Proof.HgPreRun.lean ====
/- The gates of the first mixer run, and what they leave. -/
module

public import proofs.«01_k».proof.Proof.HgPreMat

@[expose] public section

set_option maxRecDepth 16384

noncomputable section

namespace Cert.HgPreIdeal.Val

open Cert.HgPreIdeal Cert.HgPreIdeal.Gen Cert.Spec Idealize.ShloMosaic Idealize.ShloMosaic.TcCoe Idealize.SL.Sem

variable (m : (ℓ : Loc nD τ sig) → Buf (Elt Ideal) ℓ) (ρ : Dev nD → PrngReg)

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1))
      ∧ r.2.mem ((c.tc : Thread nD τ).loc main_v0_0) = Cert.Spec.HgPre.Q (m ((c : Thread nD τ).loc main_arg0))
      ∧ r.2.mem ((c.tc : Thread nD τ).loc main_v0_1) = Cert.Spec.HgPre.LF (m ((c : Thread nD τ).loc main_arg0)) (m ((c : Thread nD τ).loc main_arg1))
      ∧ r.2.mem ((c.tc : Thread nD τ).loc main_v0_2) = Cert.Spec.HgPre.KF (m ((c : Thread nD τ).loc main_arg0)) (m ((c : Thread nD τ).loc main_arg1))
      ∧ r.2.mem ((c.tc : Thread nD τ).loc main_v0_3) = Cert.Spec.HgPre.LB (m ((c : Thread nD τ).loc main_arg0)) (m ((c : Thread nD τ).loc main_arg1))
      ∧ r.2.mem ((c.tc : Thread nD τ).loc main_v0_4) = Cert.Spec.HgPre.KB (m ((c : Thread nD τ).loc main_arg0)) (m ((c : Thread nD τ).loc main_arg1)))
      ∧ r.2.sem = fun _ => 0) := by
  exact (θ_run defs _ _).mono (fun r h => ⟨fun c => ⟨h.1.1 c, ((h.2.1 c).1 4).trans (v4 m c), ((h.2.1 c).1 5).trans (v5 m c), ((h.2.1 c).1 6).trans (v6 m c), ((h.2.1 c).1 7).trans (v7 m c), ((h.2.1 c).1 8).trans (v8 m c)⟩, h.2.2⟩)
    (θ_run_and (frame m ρ) (run_main_quiescent m ρ))

end Cert.HgPreIdeal.Val

end
-- ==== Proof.HgPreRef.lean ====
/- The reference's results are the mathematics of the first mixer's gates. -/
module

public import proofs.«01_k».proof.Proof.HgPreSpec
public import proofs.«01_k».proof.Proof.Gen.HgPreRefIdeal.Read

@[expose] public section

set_option maxRecDepth 16384

noncomputable section

namespace Cert.HgPreRefIdeal.Val

open Cert.HgPreRefIdeal Cert.HgPreRefIdeal.Gen Cert.HgPreRefIdeal.Read Cert.Spec Cert.Spec.HgPre Idealize.ShloMosaic Idealize.ShloMosaic.TcCoe Idealize.SL.Sem

/-- The first row of the cumulative sum is the first row. -/
theorem cum0 (g : FVec Ideal S2x1024 .f32) (z : S_.Idx → EReal) (hz : ∀ i, z i = 0) (k : Fin 1024) :
    Host.reduceWindowAdd (F := Ideal) (φ := .f32) ![2, 1] ![1, 1] ![1, 0] ![0, 0] g z
      reduceWindows_S2x1024_S2x1024_w2s1p1_0_w1s1p0_0 h_S_ (ix2 0 k) = g (ix2 0 k) := by
  unfold Host.reduceWindowAdd
  rw [Ideal.hostReduceWindowAdd_def, hz]
  unfold Ideal.hostReduceWindowAdd Host.reduceWindow
  dsimp only
  have e : List.finRange (Shape.numel ⟨2, ![2, 1]⟩) = [⟨0, by decide⟩, ⟨1, by decide⟩] := by decide
  rw [e]
  simp only [List.foldl]
  have e0 : ∀ a, ((Shape.rowMajor ⟨2, ![2, 1]⟩).symm ⟨0, by decide⟩ a).val = 0 := by decide
  have e1 : ∀ a : Fin 2, ((Shape.rowMajor ⟨2, ![2, 1]⟩).symm ⟨1, by decide⟩ a).val = ![1, 0] a := by decide
  rw [dif_neg, dif_pos]
  · rw [zero_add, zero_add]
    refine congrArg g (funext fun a => Fin.ext ?_)
    dsimp only
    rw [e1 a]
    fin_cases a
    · rfl
    · exact (Nat.mul_one k.val)
  · intro a
    rw [e1 a]
    fin_cases a
    · exact ⟨Nat.le_refl 1, Nat.one_lt_two.trans' Nat.zero_lt_one⟩
    · exact ⟨Nat.zero_le _, (Nat.mul_one k.val).symm ▸ k.isLt⟩
  · intro h
    have h0 := (h 0).1
    rw [e0] at h0
    exact Nat.not_succ_le_zero 0 h0

variable (x0 : Mat 4096 5120) (x1 : Mat 2 1024)

theorem r5 : val_main_v5 (F := Ideal) x1 = fun i => top x1 (i 0) := by
  funext y
  pointwise [val_main_v5, val_main_v4, val_main_v3, val_main_cst, val_main_cst_0, top]

theorem r13 : val_main_v13 (F := Ideal) x1 = soft x1 := by
  unfold val_main_v13 val_main_v12 val_main_v11 val_main_v10 val_main_v9 val_main_v8 val_main_v7 val_main_v6 val_main_cst_1 soft
  rw [r5]
  generalize top x1 = g
  funext y
  pointwise []

theorem z0 (i : S_.Idx) : val_main_call0_call0_v0 (F := Ideal) i = 0 := by
  pointwise [val_main_call0_call0_v0, val_main_call0_call0_cst]

theorem r16 : val_main_v16 (F := Ideal) x1 = fun i => low x1 (ix2 0 (i 0)) := by
  have h : ∀ k : Fin 1024, val_main_v14 (F := Ideal) x1 (ix2 0 k) = soft x1 (ix2 0 k) := fun k => by
    unfold val_main_v14
    rw [r13]
    exact cum0 _ _ z0 k
  unfold val_main_v16 val_main_v15 low
  revert h
  generalize val_main_v14 (F := Ideal) x1 = g
  generalize soft x1 = s
  intro h
  funext y
  pointwise []
  exact h _

theorem r1 : val_main_v1 (F := Ideal) x0 = cols 1024 1024 (by decide) x0 := by
  funext y
  pointwise [val_main_v1, cols]

theorem r30 : val_main_v30 (F := Ideal) x0 x1 = gate x1 (cols 1024 1024 (by decide) x0) := by
  unfold val_main_v30 val_main_v29 val_main_v28 val_main_v27 val_main_v26 val_main_v25 val_main_v24 val_main_v23 val_main_v22 val_main_v21 val_main_v20 val_main_v19 val_main_v18 val_main_v17 val_main_cst_2 val_main_cst_3 val_main_cst_4 gate
  rw [r16, r1]
  generalize low x1 = b
  generalize cols 1024 1024 _ x0 = X
  funext y
  pointwise [Ideal.logistic]

theorem r2 : val_main_v2 (F := Ideal) x0 = cols 2048 1024 (by decide) x0 := by
  funext y
  pointwise [val_main_v2, cols]

theorem r47 : val_main_v47 (F := Ideal) x0 x1 = gate x1 (cols 2048 1024 (by decide) x0) := by
  unfold val_main_v47 val_main_v46 val_main_v45 val_main_v44 val_main_v43 val_main_v42 val_main_v41 val_main_v40 val_main_v39 val_main_v38 val_main_v37 val_main_v36 val_main_v35 val_main_v34 val_main_cst_6 val_main_cst_7 val_main_cst_8 gate
  rw [r16, r2]
  generalize low x1 = b
  generalize cols 2048 1024 _ x0 = X
  funext y
  pointwise [Ideal.logistic]

theorem r31 : val_main_v31 (F := Ideal) x0 x1 = LF x0 x1 := by
  unfold val_main_v31 LF lgate
  rw [r30]
  generalize gate x1 _ = g
  funext y
  pointwise []

theorem r33 : val_main_v33 (F := Ideal) x0 x1 = KF x0 x1 := by
  unfold val_main_v33 val_main_v32 val_main_cst_5 KF kgate
  rw [r30]
  generalize gate x1 _ = g
  funext y
  pointwise []

theorem r48 : val_main_v48 (F := Ideal) x0 x1 = LB x0 x1 := by
  unfold val_main_v48 LB lgate
  rw [r47]
  generalize gate x1 _ = g
  funext y
  pointwise []

theorem r50 : val_main_v50 (F := Ideal) x0 x1 = KB x0 x1 := by
  unfold val_main_v50 val_main_v49 val_main_cst_9 KB kgate
  rw [r47]
  generalize gate x1 _ = g
  funext y
  pointwise []

theorem r0 : val_main_v0 (F := Ideal) x0 = cols 0 1024 (by decide) x0 := by
  funext y
  pointwise [val_main_v0, cols]

theorem r51 : val_main_v51 (F := Ideal) x0 = Q x0 := by
  unfold val_main_v51 val_main_call1_v5 val_main_call1_v4 val_main_call1_v3 val_main_call1_v2 val_main_call1_v1 val_main_call1_v0 val_main_call1_cst val_main_call1_cst_0 Q silu
  rw [r0]
  generalize cols 0 1024 _ x0 = X
  funext y
  pointwise [Ideal.logistic]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v51) = HgPre.Q (m ((c.tc : Thread nD τ).loc main_arg0))
      ∧ r.2.mem ((c.tc : Thread nD τ).loc main_v31) = HgPre.LF (m ((c.tc : Thread nD τ).loc main_arg0)) (m ((c.tc : Thread nD τ).loc main_arg1))
      ∧ r.2.mem ((c.tc : Thread nD τ).loc main_v33) = HgPre.KF (m ((c.tc : Thread nD τ).loc main_arg0)) (m ((c.tc : Thread nD τ).loc main_arg1))
      ∧ r.2.mem ((c.tc : Thread nD τ).loc main_v48) = HgPre.LB (m ((c.tc : Thread nD τ).loc main_arg0)) (m ((c.tc : Thread nD τ).loc main_arg1))
      ∧ r.2.mem ((c.tc : Thread nD τ).loc main_v50) = HgPre.KB (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.HgPreRefIdeal.Value.run m ρ)
  obtain ⟨h0, h1, h2, h3, h4, h5, h6⟩ := h c
  exact ⟨h0.trans ((val_main_v51_eq ..).trans (r51 ..)),
    h1.trans ((val_main_v31_eq ..).trans (r31 ..)),
    h2.trans ((val_main_v33_eq ..).trans (r33 ..)),
    h3.trans ((val_main_v48_eq ..).trans (r48 ..)),
    h4.trans ((val_main_v50_eq ..).trans (r50 ..)),
    h5, h6⟩

end Cert.HgPreRefIdeal.Val

end
-- ==== Proof.FfnSpec.lean ====
/- The layer of a gated convolution: forward and backward, as functions of its arguments. -/
module

public import proofs.«01_k».proof.Proof.Spec

@[expose] public section

noncomputable section

namespace Cert.Spec.Ffn

open Cert.Spec

/-- The normed rows. -/
def U (x0 : Mat 4096 1024) (x1 : Mat 1 1024) : Mat 4096 1024 := rms x0 x1
/-- The gate's rows, before the convolution. -/
def G (x0 : Mat 4096 1024) (x1 : Mat 1 1024) (x2 : Mat 1024 5632) : Mat 4096 2816 := mm (U x0 x1) (cols 0 2816 (by decide) x2)
/-- What is gated. -/
def A (x0 : Mat 4096 1024) (x1 : Mat 1 1024) (x2 : Mat 1024 5632) : Mat 4096 2816 := mm (U x0 x1) (cols 2816 2816 (by decide) x2)
/-- The gated rows. -/
def Y (x0 : Mat 4096 1024) (x1 : Mat 1 1024) (x2 : Mat 1024 5632) (x3 : Mat 3 2816) (x4 : Mat 1 2816) : Mat 4096 2816 := glu (G x0 x1 x2) (A x0 x1 x2) x3 x4
/-- The layer's result. -/
def O (x0 : Mat 4096 1024) (x1 : Mat 1 1024) (x2 : Mat 1024 5632) (x3 : Mat 3 2816) (x4 : Mat 1 2816) (x5 : Mat 2816 1024) : Mat 4096 1024 := add (mm (Y x0 x1 x2 x3 x4) x5) x0
/-- The next layer's normed rows. -/
def NX (x0 : Mat 4096 1024) (x1 : Mat 1 1024) (x2 : Mat 1024 5632) (x3 : Mat 3 2816) (x4 : Mat 1 2816) (x5 : Mat 2816 1024) (x6 : Mat 1 1024) : Mat 4096 1024 := rms (O x0 x1 x2 x3 x4 x5) x6
/-- The cotangent of the gated rows. -/
def DY (x5 : Mat 2816 1024) (x7 : Mat 4096 1024) : Mat 4096 2816 := mmt x7 x5
/-- The gradient of the output weights. -/
def DWO (x0 : Mat 4096 1024) (x1 : Mat 1 1024) (x2 : Mat 1024 5632) (x3 : Mat 3 2816) (x4 : Mat 1 2816) (x7 : Mat 4096 1024) : Mat 2816 1024 := tmm (Y x0 x1 x2 x3 x4) x7
/-- The cotangent of the convolution. -/
def C (x0 : Mat 4096 1024) (x1 : Mat 1 1024) (x2 : Mat 1024 5632) (x3 : Mat 3 2816) (x4 : Mat 1 2816) (x5 : Mat 2816 1024) (x7 : Mat 4096 1024) : Mat 4096 2816 := gluDc (G x0 x1 x2) (A x0 x1 x2) (DY x5 x7) x3 x4
/-- The cotangent of the gate's rows. -/
def DPG (x0 : Mat 4096 1024) (x1 : Mat 1 1024) (x2 : Mat 1024 5632) (x3 : Mat 3 2816) (x4 : Mat 1 2816) (x5 : Mat 2816 1024) (x7 : Mat 4096 1024) : Mat 4096 2816 := convDx x3 (C x0 x1 x2 x3 x4 x5 x7)
/-- The cotangent of what is gated. -/
def DPV (x0 : Mat 4096 1024) (x1 : Mat 1 1024) (x2 : Mat 1024 5632) (x3 : Mat 3 2816) (x4 : Mat 1 2816) (x5 : Mat 2816 1024) (x7 : Mat 4096 1024) : Mat 4096 2816 := glu (G x0 x1 x2) (DY x5 x7) x3 x4
/-- The gradient of the convolution's taps. -/
def DCW (x0 : Mat 4096 1024) (x1 : Mat 1 1024) (x2 : Mat 1024 5632) (x3 : Mat 3 2816) (x4 : Mat 1 2816) (x5 : Mat 2816 1024) (x7 : Mat 4096 1024) : Mat 3 2816 := convDw (G x0 x1 x2) (C x0 x1 x2 x3 x4 x5 x7)
/-- The gradient of the convolution's bias. -/
def DCB (x0 : Mat 4096 1024) (x1 : Mat 1 1024) (x2 : Mat 1024 5632) (x3 : Mat 3 2816) (x4 : Mat 1 2816) (x5 : Mat 2816 1024) (x7 : Mat 4096 1024) : Mat 1 2816 := convDb (C x0 x1 x2 x3 x4 x5 x7)
/-- The gate's part of the normed rows' cotangent. -/
def DG (x0 : Mat 4096 1024) (x1 : Mat 1 1024) (x2 : Mat 1024 5632) (x3 : Mat 3 2816) (x4 : Mat 1 2816) (x5 : Mat 2816 1024) (x7 : Mat 4096 1024) : Mat 4096 1024 := mmt (DPG x0 x1 x2 x3 x4 x5 x7) (cols 0 2816 (by decide) x2)
/-- The gradient of the first half of the input weights. -/
def DWG (x0 : Mat 4096 1024) (x1 : Mat 1 1024) (x2 : Mat 1024 5632) (x3 : Mat 3 2816) (x4 : Mat 1 2816) (x5 : Mat 2816 1024) (x7 : Mat 4096 1024) : Mat 1024 2816 := tmm (U x0 x1) (DPG x0 x1 x2 x3 x4 x5 x7)
/-- The gradient of the second half of the input weights. -/
def DWV (x0 : Mat 4096 1024) (x1 : Mat 1 1024) (x2 : Mat 1024 5632) (x3 : Mat 3 2816) (x4 : Mat 1 2816) (x5 : Mat 2816 1024) (x7 : Mat 4096 1024) : Mat 1024 2816 := tmm (U x0 x1) (DPV x0 x1 x2 x3 x4 x5 x7)
/-- The cotangent of the normed rows. -/
def DU (x0 : Mat 4096 1024) (x1 : Mat 1 1024) (x2 : Mat 1024 5632) (x3 : Mat 3 2816) (x4 : Mat 1 2816) (x5 : Mat 2816 1024) (x7 : Mat 4096 1024) : Mat 4096 1024 := add (mmt (DPV x0 x1 x2 x3 x4 x5 x7) (cols 2816 2816 (by decide) x2)) (DG x0 x1 x2 x3 x4 x5 x7)
/-- The gradient of the layer's argument. -/
def DX (x0 : Mat 4096 1024) (x1 : Mat 1 1024) (x2 : Mat 1024 5632) (x3 : Mat 3 2816) (x4 : Mat 1 2816) (x5 : Mat 2816 1024) (x7 : Mat 4096 1024) : Mat 4096 1024 := rmsDx x0 x1 (DU x0 x1 x2 x3 x4 x5 x7) x7
/-- The gradient of the norm's weights. -/
def DNW (x0 : Mat 4096 1024) (x1 : Mat 1 1024) (x2 : Mat 1024 5632) (x3 : Mat 3 2816) (x4 : Mat 1 2816) (x5 : Mat 2816 1024) (x7 : Mat 4096 1024) : Mat 1 1024 := rmsDw x0 (DU x0 x1 x2 x3 x4 x5 x7)

end Cert.Spec.Ffn

end
-- ==== Proof.FfnMat.lean ====
/- The products and the forward norm of the layer: what each of those regions leaves, from what it finds. -/
module

public import proofs.«01_k».proof.Proof.Spec
public import proofs.«01_k».proof.Proof.Gen.FfnIdeal.Frame

@[expose] public section

set_option maxRecDepth 16384

noncomputable section

namespace Cert.FfnIdeal.Val

open Cert.FfnIdeal Cert.FfnIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem point0 (c : Dev nD) (t : Fin cfg0.N) (y : S256x1024.Idx) :
    k0_pay1 (iblk0 V c 0 t) (iblk0 V c 1 t) y
      = rms (M := 4096) (V c main_arg0) (V c main_arg1) (((cfg0.win 2).blk t).view.emb y) := by
  pointwise [k0_pay1, rms, ms]
  blk_point [iblk0, idx0 t]

theorem val0 (c : Dev nD) : (dat0 V c).arrAt 2 cfg0.N
      = rms (M := 4096) (V c main_arg0) (V c main_arg1) := by
  refine (dat0 V c).arrAt_eq_of_covers 2 _ (by decide +kernel) fun t _ y => ?_
  blk_simp
  rw [after0_2]; frame_out
  exact point0 V c t y

theorem idx1 : ∀ t : Fin cfg1.N, win1_0.index t = ![t.val, 0] ∧ win1_1.index t = ![0, 0] ∧ win1_2.index t = ![t.val, 0] :=
  (by decide +kernel : ∀ t : Fin grid1.N, _)

theorem point1 (c : Dev nD) (t : Fin cfg1.N) (y : S1024x2816.Idx) :
    k1_pay1 (iblk1 V c 0 t) (iblk1 V c 1 t) y
      = mm (M := 4096) (K := 1024) (N := 2816) (V c main_v2) (cols (M := 1024) (N := 5632) 0 2816 (by decide) (V c main_v0)) (((cfg1.win 2).blk t).view.emb y) := by
  pointwise [k1_pay1, mm, cols]
  blk_point [iblk1, idx1 t]

theorem val1 (c : Dev nD) : (dat1 V c).arrAt 2 cfg1.N
      = mm (M := 4096) (K := 1024) (N := 2816) (V c main_v2) (cols (M := 1024) (N := 5632) 0 2816 (by decide) (V c main_v0)) := by
  refine (dat1 V c).arrAt_eq_of_covers 2 _ (by decide +kernel) fun t _ y => ?_
  blk_simp
  rw [after1_2]; frame_out
  exact point1 V c t y

theorem idx2 : ∀ t : Fin cfg2.N, win2_0.index t = ![t.val, 0] ∧ win2_1.index t = ![0, 1] ∧ win2_2.index t = ![t.val, 0] :=
  (by decide +kernel : ∀ t : Fin grid2.N, _)

theorem point2 (c : Dev nD) (t : Fin cfg2.N) (y : S1024x2816.Idx) :
    k2_pay1 (iblk2 V c 0 t) (iblk2 V c 1 t) y
      = mm (M := 4096) (K := 1024) (N := 2816) (V c main_v2) (cols (M := 1024) (N := 5632) 2816 2816 (by decide) (V c main_v0)) (((cfg2.win 2).blk t).view.emb y) := by
  pointwise [k2_pay1, mm, cols]
  blk_point [iblk2, idx2 t]

theorem val2 (c : Dev nD) : (dat2 V c).arrAt 2 cfg2.N
      = mm (M := 4096) (K := 1024) (N := 2816) (V c main_v2) (cols (M := 1024) (N := 5632) 2816 2816 (by decide) (V c main_v0)) := by
  refine (dat2 V c).arrAt_eq_of_covers 2 _ (by decide +kernel) fun t _ y => ?_
  blk_simp
  rw [after2_2]; frame_out
  exact point2 V c t y

theorem idx4 : ∀ t : Fin cfg4.N, win4_0.index t = ![t.val, 0] ∧ win4_1.index t = ![0, 0] ∧ win4_2.index t = ![t.val, 0] ∧ win4_3.index t = ![0, 0] ∧ win4_4.index t = ![t.val, 0] ∧ win4_5.index t = ![t.val, 0] :=
  (by decide +kernel : ∀ t : Fin grid4.N, _)

theorem point4a (c : Dev nD) (t : Fin cfg4.N) (y : S512x1024.Idx) :
    k4_pay1 (iblk4 V c 0 t) (iblk4 V c 1 t) (iblk4 V c 2 t) y
      = add (M := 4096) (N := 1024) (mm (K := 2816) (V c main_v5) (V c main_v1)) (V c main_arg0) (((cfg4.win 4).blk t).view.emb y) := by
  pointwise [k4_pay1, mm, add]
  blk_point [iblk4, idx4 t]

theorem val4a (c : Dev nD) : (dat4 V c).arrAt 4 cfg4.N
      = add (M := 4096) (N := 1024) (mm (K := 2816) (V c main_v5) (V c main_v1)) (V c main_arg0) := by
  refine (dat4 V c).arrAt_eq_of_covers 4 _ (by decide +kernel) fun t _ y => ?_
  blk_simp
  rw [after4_4]; frame_out
  exact point4a V c t y

theorem point4b (c : Dev nD) (t : Fin cfg4.N) (y : S512x1024.Idx) :
    k4_pay2 (iblk4 V c 0 t) (iblk4 V c 1 t) (iblk4 V c 2 t) (iblk4 V c 3 t) y
      = rms (M := 4096) (add (M := 4096) (N := 1024) (mm (K := 2816) (V c main_v5) (V c main_v1)) (V c main_arg0)) (V c main_arg6) (((cfg4.win 5).blk t).view.emb y) := by
  pointwise [k4_pay2, k4_pay1, mm, add, rms, ms]
  blk_point [iblk4, idx4 t]

theorem val4b (c : Dev nD) : (dat4 V c).arrAt 5 cfg4.N
      = rms (M := 4096) (add (M := 4096) (N := 1024) (mm (K := 2816) (V c main_v5) (V c main_v1)) (V c main_arg0)) (V c main_arg6) := by
  refine (dat4 V c).arrAt_eq_of_covers 5 _ (by decide +kernel) fun t _ y => ?_
  blk_simp
  rw [after4_5]; frame_out
  exact point4b V c t y

theorem idx5 : ∀ t : Fin cfg5.N, win5_0.index t = ![t.val, 0] ∧ win5_1.index t = ![0, 0] ∧ win5_2.index t = ![t.val, 0] :=
  (by decide +kernel : ∀ t : Fin grid5.N, _)

theorem point5 (c : Dev nD) (t : Fin cfg5.N) (y : S1024x2816.Idx) :
    k5_pay1 (iblk5 V c 0 t) (iblk5 V c 1 t) y
      = mmt (M := 4096) (K := 1024) (N := 2816) (V c main_v7) (V c main_v1) (((cfg5.win 2).blk t).view.emb y) := by
  pointwise [k5_pay1, mmt]
  blk_point [iblk5, idx5 t]

theorem val5 (c : Dev nD) : (dat5 V c).arrAt 2 cfg5.N
      = mmt (M := 4096) (K := 1024) (N := 2816) (V c main_v7) (V c main_v1) := by
  refine (dat5 V c).arrAt_eq_of_covers 2 _ (by decide +kernel) fun t _ y => ?_
  blk_simp
  rw [after5_2]; frame_out
  exact point5 V c t y

theorem idx6 : ∀ t : Fin cfg6.N, win6_0.index t = ![0, t.val] ∧ win6_1.index t = ![0, 0] ∧ win6_2.index t = ![t.val, 0] :=
  (by decide +kernel : ∀ t : Fin grid6.N, _)

theorem point6 (c : Dev nD) (t : Fin cfg6.N) (y : S256x1024.Idx) :
    k6_pay1 (iblk6 V c 0 t) (iblk6 V c 1 t) y
      = tmm (K := 4096) (M := 2816) (N := 1024) (V c main_v5) (V c main_v7) (((cfg6.win 2).blk t).view.emb y) := by
  pointwise [k6_pay1, tmm]
  blk_point [iblk6, idx6 t]

theorem val6 (c : Dev nD) : (dat6 V c).arrAt 2 cfg6.N
      = tmm (K := 4096) (M := 2816) (N := 1024) (V c main_v5) (V c main_v7) := by
  refine (dat6 V c).arrAt_eq_of_covers 2 _ (by decide +kernel) fun t _ y => ?_
  blk_simp
  rw [after6_2]; frame_out
  exact point6 V c t y

theorem idx8 : ∀ t : Fin cfg8.N, win8_0.index t = ![t.val, 0] ∧ win8_1.index t = ![0, 0] ∧ win8_2.index t = ![t.val, 0] :=
  (by decide +kernel : ∀ t : Fin grid8.N, _)

theorem point8 (c : Dev nD) (t : Fin cfg8.N) (y : S1024x1024.Idx) :
    k8_pay1 (iblk8 V c 0 t) (iblk8 V c 1 t) y
      = mmt (M := 4096) (K := 2816) (N := 1024) (V c main_v10_0) (cols (M := 1024) (N := 5632) 0 2816 (by decide) (V c main_v0)) (((cfg8.win 2).blk t).view.emb y) := by
  pointwise [k8_pay1, mmt, cols]
  blk_point [iblk8, idx8 t]

theorem val8 (c : Dev nD) : (dat8 V c).arrAt 2 cfg8.N
      = mmt (M := 4096) (K := 2816) (N := 1024) (V c main_v10_0) (cols (M := 1024) (N := 5632) 0 2816 (by decide) (V c main_v0)) := by
  refine (dat8 V c).arrAt_eq_of_covers 2 _ (by decide +kernel) fun t _ y => ?_
  blk_simp
  rw [after8_2]; frame_out
  exact point8 V c t y

theorem idx9 : ∀ t : Fin cfg9.N, win9_0.index t = ![0, t.val / 2] ∧ win9_1.index t = ![0, t.val % 2] ∧ win9_2.index t = ![t.val / 2, t.val % 2] :=
  (by decide +kernel : ∀ t : Fin grid9.N, _)

theorem point9 (c : Dev nD) (t : Fin cfg9.N) (y : S512x1408.Idx) :
    k9_pay1 (iblk9 V c 0 t) (iblk9 V c 1 t) y
      = tmm (K := 4096) (M := 1024) (N := 2816) (V c main_v2) (V c main_v10_0) (((cfg9.win 2).blk t).view.emb y) := by
  pointwise [k9_pay1, tmm]
  blk_point [iblk9, idx9 t]

theorem val9 (c : Dev nD) : (dat9 V c).arrAt 2 cfg9.N
      = tmm (K := 4096) (M := 1024) (N := 2816) (V c main_v2) (V c main_v10_0) := by
  refine (dat9 V c).arrAt_eq_of_covers 2 _ (by decide +kernel) fun t _ y => ?_
  blk_simp
  rw [after9_2]; frame_out
  exact point9 V c t y

theorem idx10 : ∀ t : Fin cfg10.N, win10_0.index t = ![0, t.val / 2] ∧ win10_1.index t = ![0, t.val % 2] ∧ win10_2.index t = ![t.val / 2, t.val % 2] :=
  (by decide +kernel : ∀ t : Fin grid10.N, _)

theorem point10 (c : Dev nD) (t : Fin cfg10.N) (y : S512x1408.Idx) :
    k10_pay1 (iblk10 V c 0 t) (iblk10 V c 1 t) y
      = tmm (K := 4096) (M := 1024) (N := 2816) (V c main_v2) (V c main_v10_1) (((cfg10.win 2).blk t).view.emb y) := by
  pointwise [k10_pay1, tmm]
  blk_point [iblk10, idx10 t]

theorem val10 (c : Dev nD) : (dat10 V c).arrAt 2 cfg10.N
      = tmm (K := 4096) (M := 1024) (N := 2816) (V c main_v2) (V c main_v10_1) := by
  refine (dat10 V c).arrAt_eq_of_covers 2 _ (by decide +kernel) fun t _ y => ?_
  blk_simp
  rw [after10_2]; frame_out
  exact point10 V c t y

end Cert.FfnIdeal.Val

end
-- ==== Proof.FfnConv.lean ====
/- The convolution, its gate and their gradients: what those two regions of the layer leave, from what they find. Each point
   does 128 columns, and everything here is column by column. -/
module

public import proofs.«01_k».proof.Proof.Spec
public import proofs.«01_k».proof.Proof.Gen.FfnIdeal.Frame

@[expose] public section

set_option maxRecDepth 65536

noncomputable section

namespace Cert.FfnIdeal.Val

open Cert.FfnIdeal Cert.FfnIdeal.Gen Cert.Spec Idealize.ShloMosaic Idealize.ShloMosaic.TcCoe Idealize.SL.Sem
open Idealize.ShloMosaic.Pipeline (Dat)

/-! ## The kernel's two shifts by one row -/

theorem sge_zero : ∀ n : ℕ, n < 8 → n = 0 → IntOp.cmpi CmpIPredicate.sge (BitVec.ofNat 32 n) 1#32 = 0#1 := by decide
theorem sge_pos : ∀ n : ℕ, n < 8 → n ≠ 0 → IntOp.cmpi CmpIPredicate.sge (BitVec.ofNat 32 n) 1#32 = 1#1 := by decide
theorem slt_last : ∀ n : ℕ, n < 8 → n = 7 → IntOp.cmpi CmpIPredicate.slt (BitVec.ofNat 32 n) 7#32 = 0#1 := by decide
theorem slt_pos : ∀ n : ℕ, n < 8 → n ≠ 7 → IntOp.cmpi CmpIPredicate.slt (BitVec.ofNat 32 n) 7#32 = 1#1 := by decide

/-- The shift down, as the kernel writes it. -/
def rotDn (v : FVec Ideal S4096x128 .f32) : FVec Ideal S4096x128 .f32 :=
  concatenate S4096x128 0 [⟨S8x128, select (cmpi .sge (iota .tc S8x128 32 [0] iota_S8x128_d0_w32) (broadcast S8x128 1#32))
      (extractStridedSlice S8x128 ![0, 0] (dynamicRotate 0 1#32 none v rotates_S4096x128_d0) slices_S4096x128_o0_0_S8x128)
      (broadcast S8x128 (Scalar.ofBits .f32 0x00000000#32))⟩,
    ⟨S4088x128, extractStridedSlice S4088x128 ![8, 0] (dynamicRotate 0 1#32 none v rotates_S4096x128_d0) slices_S4096x128_o8_0_S4088x128⟩]
    concatenates_S8x128_S4088x128_S4096x128_d0

/-- The shift up, as the kernel writes it. -/
def rotUp (v : FVec Ideal S4096x128 .f32) : FVec Ideal S4096x128 .f32 :=
  concatenate S4096x128 0 [⟨S4088x128, extractStridedSlice S4088x128 ![0, 0] (dynamicRotate 0 4095#32 none v rotates_S4096x128_d0) slices_S4096x128_o0_0_S4088x128⟩,
    ⟨S8x128, select (cmpi .slt (iota .tc S8x128 32 [0] iota_S8x128_d0_w32) (broadcast S8x128 7#32))
      (extractStridedSlice S8x128 ![4088, 0] (dynamicRotate 0 4095#32 none v rotates_S4096x128_d0) slices_S4096x128_o4088_0_S8x128)
      (broadcast S8x128 (Scalar.ofBits .f32 0x00000000#32))⟩]
    concatenates_S4088x128_S8x128_S4096x128_d0

theorem rotDn_at (v : FVec Ideal S4096x128 .f32) (y : S4096x128.Idx) : rotDn v y = dn (M := 4096) (N := 128) v y := by
  have hb : (y 0).val < 4096 := (y 0).isLt
  pointwise [rotDn]
  unfold dn
  by_cases h8 : (y 0).val < 8
  · rw [dif_pos h8]
    by_cases hz : (y 0).val = 0
    · rw [if_pos hz, sge_zero _ h8 hz]; rfl
    · rw [if_neg hz, sge_pos _ h8 hz]
      refine congrArg v (congrArg (ix2 · (y 1)) (Fin.ext ?_))
      show ((y 0).val + 4096 - 1) % 4096 = (y 0).val - 1
      omega
  · have hz : ¬(y 0).val = 0 := by omega
    refine (dif_neg h8).trans (Eq.trans ?_ (if_neg hz).symm)
    refine congrArg v (congrArg (ix2 · (y 1)) (Fin.ext ?_))
    show (8 + ((y 0).val - 8) + 4096 - 1) % 4096 = (y 0).val - 1
    omega

theorem rotUp_at (v : FVec Ideal S4096x128 .f32) (y : S4096x128.Idx) : rotUp v y = up (M := 4096) (N := 128) v y := by
  have hb : (y 0).val < 4096 := (y 0).isLt
  pointwise [rotUp]
  unfold up
  by_cases h8 : (y 0).val < 4088
  · rw [dif_pos h8, dif_pos (by omega)]
    refine congrArg v (congrArg (ix2 · (y 1)) (Fin.ext ?_))
    show ((y 0).val + 4096 - 4095) % 4096 = (y 0).val + 1
    omega
  · rw [dif_neg h8]
    by_cases hz : (y 0).val - 4088 = 7
    · rw [dif_neg (by omega), slt_last _ (by omega) hz]; rfl
    · rw [dif_pos (by omega), slt_pos _ (by omega) hz]
      refine congrArg v (congrArg (ix2 · (y 1)) (Fin.ext ?_))
      show (4088 + ((y 0).val - 4088) + 4096 - 4095) % 4096 = (y 0).val + 1
      omega

theorem pay4 (v : Vec Ideal S4096x128 .f32) : k7_pay4 v = v := by funext y; pointwise [k7_pay4]
theorem pay5 (v : Vec Ideal S4096x128 .f32) : k7_pay5 v = v := by funext y; pointwise [k7_pay5]
theorem pay6 (v : Vec Ideal S4096x128 .f32) : k7_pay6 v = v := by funext y; pointwise [k7_pay6]
theorem pay8 (v : Vec Ideal S4096x128 .f32) : k7_pay8 v = dn (M := 4096) (N := 128) v := by
  funext y; exact (rotDn_at (k7_pay4 v) y).trans (by rw [pay4])
theorem pay11 (v : Vec Ideal S4096x128 .f32) : k7_pay11 v = up (M := 4096) (N := 128) v := by
  funext y; exact (rotUp_at (k7_pay4 v) y).trans (by rw [pay4])

/-! ## The payloads on a block of 128 columns -/

variable (x0 x1 x2 : Vec Ideal S4096x128 .f32) (w : Vec Ideal S3x128 .f32) (b : Vec Ideal S1x128 .f32)

theorem pay12 : k7_pay12 x0 w b = conv (M := 4096) (N := 128) x0 w b := by
  funext y
  pointwise [k7_pay12, k7_pay7, k7_pay9, k7_pay10, pay8, pay11, pay4, conv]

theorem pay13 : k7_pay13 x0 w b = fun j => Ideal.logistic (conv (M := 4096) (N := 128) x0 w b j) := by
  funext y
  unfold k7_pay13
  rw [pay12]
  pointwise []

theorem pay15 : k7_pay15 x2 (k7_pay12 x0 w b) (k7_pay13 x0 w b) = glu (M := 4096) (N := 128) x0 x2 w b := by
  funext y
  rw [pay12, pay13]
  pointwise [k7_pay15, glu]

theorem pay16 : k7_pay16 x1 x2 (k7_pay12 x0 w b) (k7_pay13 x0 w b) (k7_pay14 x0 w b)
    = gluDc (M := 4096) (N := 128) x0 x1 x2 w b := by
  funext y
  unfold k7_pay14
  rw [pay12, pay13]
  pointwise [k7_pay16, gluDc]

theorem pay2 : k7_pay2 (k7_pay17 x1 x2 (k7_pay9 w) (k7_pay10 w) (k7_pay12 x0 w b) (k7_pay13 x0 w b) (k7_pay14 x0 w b))
      (k7_pay22 x1 x2 (k7_pay7 w) (k7_pay12 x0 w b) (k7_pay13 x0 w b) (k7_pay14 x0 w b)) k7_pay23
      (k7_pay24 x1 x2 (k7_pay7 w) (k7_pay12 x0 w b) (k7_pay13 x0 w b) (k7_pay14 x0 w b)) (Scalar.ofBits .f32 0x00000000#32)
    = convDx (M := 4096) (N := 128) w (gluDc (M := 4096) (N := 128) x0 x1 x2 w b) := by
  have e2 : mulf (broadcastTo S4096x128 (k7_pay10 w) broadcasts_S1x128_S4096x128) (gluDc (M := 4096) (N := 128) x0 x1 x2 w b)
      = scale (M := 4096) (N := 128) 2 w (gluDc (M := 4096) (N := 128) x0 x1 x2 w b) := by funext y; pointwise [k7_pay10, scale]
  have e0 : mulf (broadcastTo S4096x128 (k7_pay7 w) broadcasts_S1x128_S4096x128) (gluDc (M := 4096) (N := 128) x0 x1 x2 w b)
      = scale (M := 4096) (N := 128) 0 w (gluDc (M := 4096) (N := 128) x0 x1 x2 w b) := by funext y; pointwise [k7_pay7, scale]
  have e1 : mulf (broadcastTo S4096x128 (k7_pay9 w) broadcasts_S1x128_S4096x128) (gluDc (M := 4096) (N := 128) x0 x1 x2 w b)
      = scale (M := 4096) (N := 128) 1 w (gluDc (M := 4096) (N := 128) x0 x1 x2 w b) := by funext y; pointwise [k7_pay9, scale]
  funext y
  refine Eq.trans (b := addf (addf (rotDn (mulf (broadcastTo S4096x128 (k7_pay10 w) broadcasts_S1x128_S4096x128)
      (k7_pay16 x1 x2 (k7_pay12 x0 w b) (k7_pay13 x0 w b) (k7_pay14 x0 w b))))
      (mulf (broadcastTo S4096x128 (k7_pay9 w) broadcasts_S1x128_S4096x128)
      (k7_pay16 x1 x2 (k7_pay12 x0 w b) (k7_pay13 x0 w b) (k7_pay14 x0 w b))))
      (rotUp (mulf (broadcastTo S4096x128 (k7_pay7 w) broadcasts_S1x128_S4096x128)
      (k7_pay16 x1 x2 (k7_pay12 x0 w b) (k7_pay13 x0 w b) (k7_pay14 x0 w b)))) y) rfl ?_
  rw [pay16, e0, e1, e2]
  pointwise [rotDn_at, rotUp_at, convDx]

theorem pay19 : k7_pay19 x1 x2 (k7_pay12 x0 w b) (k7_pay13 x0 w b) (k7_pay14 x0 w b)
    = convDb (M := 4096) (N := 128) (gluDc (M := 4096) (N := 128) x0 x1 x2 w b) := by
  funext y
  unfold k7_pay19
  rw [pay16]
  pointwise [convDb]

theorem pay3 : k3_pay1 x0 x2 w b = glu (M := 4096) (N := 128) x0 x2 w b := by
  refine Eq.trans (b := k7_pay3 (k7_pay15 (k7_pay6 x2) (k7_pay12 x0 w b) (k7_pay13 x0 w b))) rfl ?_
  rw [pay6, pay15]
  funext y
  pointwise [k7_pay3]

theorem taps (n : ℕ) (A B C : EReal) :
    ((if _ : n < 2 then 0 else A) + (if _ : n < 2 then if _ : n < 1 then 0 else B else 0) + if _ : n < 1 then C else 0)
      = if n = 0 then C else if n = 1 then B else A := by
  rcases n with _ | _ | n <;> simp

theorem pay1 : k7_pay1 (k7_pay18 (k7_pay4 x0) x1 x2 (k7_pay11 x0) (k7_pay12 x0 w b) (k7_pay13 x0 w b) (k7_pay14 x0 w b))
      (k7_pay20 x1 x2 (k7_pay8 x0) (k7_pay12 x0 w b) (k7_pay13 x0 w b) (k7_pay14 x0 w b))
    = convDw (M := 4096) (N := 128) x0 (gluDc (M := 4096) (N := 128) x0 x1 x2 w b) := by
  funext y
  unfold k7_pay18 k7_pay20
  rw [pay16, pay4, pay8, pay11]
  generalize gluDc (M := 4096) (N := 128) x0 x1 x2 w b = C
  pointwise [k7_pay1, convDw]
  exact taps _ _ _ _

/-! The values the second region names on the way. -/

theorem ld0 (x : Vec Ideal S4096x128 .f32) : View.ld x r7_0 = x := by funext y; pointwise []
theorem ld1 (x : Vec Ideal S3x128 .f32) : View.ld x r7_1 = x := by funext y; pointwise []
theorem ld2 (x : Vec Ideal S1x128 .f32) : View.ld x r7_2 = x := by funext y; pointwise []; blk_ext []
theorem pay25 : k7_pay25 x0 x1 x2 w b = x1 := by unfold k7_pay25; rw [ld0, pay5]
theorem pay26 : k7_pay26 x0 x1 x2 w b = x2 := by unfold k7_pay26; rw [ld0, pay6]
theorem pay27 : k7_pay27 x0 x1 x2 w b = k7_pay7 w := by unfold k7_pay27; rw [ld1]
theorem pay28 : k7_pay28 x0 x1 x2 w b = k7_pay12 x0 w b := by unfold k7_pay28; rw [ld0, ld1, ld2]
theorem pay29 : k7_pay29 x0 x1 x2 w b = k7_pay13 x0 w b := by unfold k7_pay29; rw [ld0, ld1, ld2]
theorem pay30 : k7_pay30 x0 x1 x2 w b = k7_pay14 x0 w b := by unfold k7_pay30; rw [ld0, ld1, ld2]

/-! ## Columns commute with all of it -/

section Cols

variable {M N n o : ℕ} (h : o + n ≤ N) (X Y D C : Mat M N) (u : Mat 3 N) (d : Mat 1 N)

theorem glu_cols : glu (cols o n h X) (cols o n h Y) (cols o n h u) (cols o n h d) = cols o n h (glu X Y u d) := rfl
theorem gluDc_cols : gluDc (cols o n h X) (cols o n h Y) (cols o n h D) (cols o n h u) (cols o n h d) = cols o n h (gluDc X Y D u d) := rfl
theorem convDx_cols : convDx (cols o n h u) (cols o n h C) = cols o n h (convDx u C) := rfl
theorem convDb_cols : convDb (cols o n h C) = cols o n h (convDb C) := rfl
theorem convDw_cols : convDw (cols o n h X) (cols o n h C) = cols o n h (convDw X C) := rfl

end Cols

/-! ## The arrays the two regions leave -/

variable (V : (c : Dev nD) → (b : Ref sig .tc) → Buf (Elt Ideal) ((c : Thread nD τ).loc b))

theorem idx3 : ∀ t : Fin cfg3.N, win3_0.index t = ![0, t.val] ∧ win3_1.index t = ![0, t.val] ∧ win3_2.index t = ![0, t.val] ∧ win3_3.index t = ![0, t.val] ∧ win3_4.index t = ![0, t.val] :=
  (by decide +kernel : ∀ t : Fin grid3.N, _)

theorem bnd3 (t : Fin cfg3.N) : t.val * 128 + 128 ≤ 2816 := by
  have h : t.val < 22 := lt_of_lt_of_eq t.isLt N_3
  omega

theorem blk3_0 (c : Dev nD) (t : Fin cfg3.N) :
    (iblk3 V c 0 t : Mat 4096 128) = cols (M := 4096) (N := 2816) (t.val * 128) 128 (bnd3 t) (V c main_v3) := by
  funext y
  unfold cols
  blk_ext [iblk3, idx3 t]

theorem blk3_1 (c : Dev nD) (t : Fin cfg3.N) :
    (iblk3 V c 1 t : Mat 4096 128) = cols (M := 4096) (N := 2816) (t.val * 128) 128 (bnd3 t) (V c main_v4) := by
  funext y
  unfold cols
  blk_ext [iblk3, idx3 t]

theorem blk3_2 (c : Dev nD) (t : Fin cfg3.N) :
    (iblk3 V c 2 t : Mat 3 128) = cols (M := 3) (N := 2816) (t.val * 128) 128 (bnd3 t) (V c main_arg3) := by
  funext y
  unfold cols
  blk_ext [iblk3, idx3 t]

theorem blk3_3 (c : Dev nD) (t : Fin cfg3.N) :
    (iblk3 V c 3 t : Mat 1 128) = cols (M := 1) (N := 2816) (t.val * 128) 128 (bnd3 t) (V c main_arg4) := by
  funext y
  unfold cols
  blk_ext [iblk3, idx3 t]

theorem idx7 : ∀ t : Fin cfg7.N, win7_0.index t = ![0, t.val] ∧ win7_1.index t = ![0, t.val] ∧ win7_2.index t = ![0, t.val] ∧ win7_3.index t = ![0, t.val] ∧ win7_4.index t = ![0, t.val] ∧ win7_5.index t = ![0, t.val] ∧ win7_6.index t = ![0, t.val] ∧ win7_7.index t = ![0, t.val] ∧ win7_8.index t = ![0, t.val] :=
  (by decide +kernel : ∀ t : Fin grid7.N, _)

theorem bnd7 (t : Fin cfg7.N) : t.val * 128 + 128 ≤ 2816 := by
  have h : t.val < 22 := lt_of_lt_of_eq t.isLt N_7
  omega

theorem blk7_0 (c : Dev nD) (t : Fin cfg7.N) :
    (iblk7 V c 0 t : Mat 4096 128) = cols (M := 4096) (N := 2816) (t.val * 128) 128 (bnd7 t) (V c main_v3) := by
  funext y
  unfold cols
  blk_ext [iblk7, idx7 t]

theorem blk7_1 (c : Dev nD) (t : Fin cfg7.N) :
    (iblk7 V c 1 t : Mat 4096 128) = cols (M := 4096) (N := 2816) (t.val * 128) 128 (bnd7 t) (V c main_v4) := by
  funext y
  unfold cols
  blk_ext [iblk7, idx7 t]

theorem blk7_2 (c : Dev nD) (t : Fin cfg7.N) :
    (iblk7 V c 2 t : Mat 4096 128) = cols (M := 4096) (N := 2816) (t.val * 128) 128 (bnd7 t) (V c main_v8) := by
  funext y
  unfold cols
  blk_ext [iblk7, idx7 t]

theorem blk7_3 (c : Dev nD) (t : Fin cfg7.N) :
    (iblk7 V c 3 t : Mat 3 128) = cols (M := 3) (N := 2816) (t.val * 128) 128 (bnd7 t) (V c main_arg3) := by
  funext y
  unfold cols
  blk_ext [iblk7, idx7 t]

theorem blk7_4 (c : Dev nD) (t : Fin cfg7.N) :
    (iblk7 V c 4 t : Mat 1 128) = cols (M := 1) (N := 2816) (t.val * 128) 128 (bnd7 t) (V c main_arg4) := by
  funext y
  unfold cols
  blk_ext [iblk7, idx7 t]

theorem val3_4 (c : Dev nD) : (dat3 V c).arrAt 4 cfg3.N
      = glu (M := 4096) (N := 2816) (V c main_v3) (V c main_v4) (V c main_arg3) (V c main_arg4) := by
  refine (dat3 V c).arrAt_eq_of_covers 4 _ (by decide +kernel) fun t _ y => ?_
  blk_simp
  rw [after3_4]; frame_out
  refine (congrFun (pay3 (iblk3 V c 0 t) (iblk3 V c 1 t) (iblk3 V c 2 t) (iblk3 V c 3 t)) y).trans ?_
  rw [blk3_0, blk3_1, blk3_2, blk3_3, glu_cols]
  unfold cols
  blk_ext [idx3 t]

theorem val7_5 (c : Dev nD) : (dat7 V c).arrAt 5 cfg7.N
      = convDx (M := 4096) (N := 2816) (V c main_arg3) (gluDc (M := 4096) (N := 2816) (V c main_v3) (V c main_v4) (V c main_v8) (V c main_arg3) (V c main_arg4)) := by
  refine (dat7 V c).arrAt_eq_of_covers 5 _ (by decide +kernel) fun t _ y => ?_
  blk_simp
  rw [after7_5]; frame_out
  rw [pay25, pay26, pay27, pay28, pay29, pay30]
  refine (congrFun (pay2 (iblk7 V c 0 t) (iblk7 V c 1 t) (iblk7 V c 2 t) (iblk7 V c 3 t) (iblk7 V c 4 t)) y).trans ?_
  rw [blk7_0, blk7_1, blk7_2, blk7_3, blk7_4, gluDc_cols, convDx_cols]
  unfold cols
  blk_ext [idx7 t]

theorem val7_6 (c : Dev nD) : (dat7 V c).arrAt 6 cfg7.N
      = glu (M := 4096) (N := 2816) (V c main_v3) (V c main_v8) (V c main_arg3) (V c main_arg4) := by
  refine (dat7 V c).arrAt_eq_of_covers 6 _ (by decide +kernel) fun t _ y => ?_
  blk_simp
  rw [after7_6]; frame_out
  rw [pay26, pay28, pay29]
  refine (congrFun (pay15 (iblk7 V c 0 t) (iblk7 V c 2 t) (iblk7 V c 3 t) (iblk7 V c 4 t)) y).trans ?_
  rw [blk7_0, blk7_2, blk7_3, blk7_4, glu_cols]
  unfold cols
  blk_ext [idx7 t]

theorem val7_7 (c : Dev nD) : (dat7 V c).arrAt 7 cfg7.N
      = convDw (M := 4096) (N := 2816) (V c main_v3) (gluDc (M := 4096) (N := 2816) (V c main_v3) (V c main_v4) (V c main_v8) (V c main_arg3) (V c main_arg4)) := by
  refine (dat7 V c).arrAt_eq_of_covers 7 _ (by decide +kernel) fun t _ y => ?_
  blk_simp
  rw [after7_7]; frame_out
  rw [pay25, pay26, pay28, pay29, pay30]
  refine (congrFun (pay1 (iblk7 V c 0 t) (iblk7 V c 1 t) (iblk7 V c 2 t) (iblk7 V c 3 t) (iblk7 V c 4 t)) y).trans ?_
  rw [blk7_0, blk7_1, blk7_2, blk7_3, blk7_4, gluDc_cols, convDw_cols]
  unfold cols
  blk_ext [idx7 t]

theorem val7_8 (c : Dev nD) : (dat7 V c).arrAt 8 cfg7.N
      = convDb (M := 4096) (N := 2816) (gluDc (M := 4096) (N := 2816) (V c main_v3) (V c main_v4) (V c main_v8) (V c main_arg3) (V c main_arg4)) := by
  refine (dat7 V c).arrAt_eq_of_covers 8 _ (by decide +kernel) fun t _ y => ?_
  blk_simp
  rw [after7_8]; frame_out
  rw [pay25, pay26, pay28, pay29, pay30]
  refine (congrFun (pay19 (iblk7 V c 0 t) (iblk7 V c 1 t) (iblk7 V c 2 t) (iblk7 V c 3 t) (iblk7 V c 4 t)) y).trans ?_
  rw [blk7_0, blk7_1, blk7_2, blk7_3, blk7_4, gluDc_cols, convDb_cols]
  unfold cols
  blk_ext [idx7 t]

end Cert.FfnIdeal.Val

end
-- ==== Proof.FfnNorm.lean ====
/- The last region of the layer: the second half of the product with the input weights, and the gradient of the forward norm, whose
   weights' part is summed over the rows point by point. -/
module

public import proofs.«01_k».proof.Proof.Spec
public import proofs.«01_k».proof.Proof.Gen.FfnIdeal.Frame

@[expose] public section

set_option maxRecDepth 16384

noncomputable section

namespace Cert.FfnIdeal.Val

open Cert.FfnIdeal Cert.FfnIdeal.Gen Cert.Spec Idealize.ShloMosaic Idealize.ShloMosaic.TcCoe Idealize.SL.Sem
open Idealize.ShloMosaic.Pipeline (Dat)

/-! ## The payloads on a block of 512 rows -/

variable (p : Vec Ideal S512x2816 .bf16) (w : Vec Ideal S1024x2816 .bf16) (h : Vec Ideal S512x1024 .f32) (g : Vec Ideal S1x1024 .f32)
  (r a : Vec Ideal S512x1024 .f32)

/-- The cotangent of the norm on a block. -/
abbrev duB : Mat 512 1024 := add (mmt (M := 512) (K := 2816) (N := 1024) p w) a

theorem kpay5 : k11_pay5 p w a = duB p w a := by
  funext y; pointwise [k11_pay5, duB, add, mmt]

theorem kpay6 : k11_pay6 h = fun j => ms (M := 512) h (j 0) := by
  funext y; pointwise [k11_pay6, ms]

theorem kpay7 : k11_pay7 h = fun j => Ideal.rsqrt (ms (M := 512) h (j 0)) := by
  funext y; unfold k11_pay7; rw [kpay6]; pointwise []

theorem kpay9 : k11_pay9 p w a g = fun j => duB p w a j * g (ix2 0 (j 1)) := by
  funext y; unfold k11_pay9; rw [kpay5]; generalize duB p w a = D; pointwise []

theorem kpay10 : k11_pay10 p w a h g = fun j => duB p w a j * g (ix2 0 (j 1)) * Ideal.rsqrt (ms (M := 512) h (j 0)) := by
  funext y; unfold k11_pay10; rw [kpay9, kpay7]; generalize duB p w a = D; pointwise []

theorem kpay11 : k11_pay11 p w a h g = fun j => rmsQ (M := 512) h g (duB p w a) (j 0) := by
  funext y; unfold k11_pay11; rw [kpay9, kpay7, kpay6]; generalize duB p w a = D; pointwise [rmsQ]; exact Fin.sum_univ_one _

theorem kpay1 : k11_pay1 h (k11_pay10 p w a h g) (k11_pay11 p w a h g) (k11_pay12 p w a h g) r
    = rmsDx (M := 512) h g (duB p w a) r := by
  funext y; unfold k11_pay12; rw [kpay10, kpay11]; generalize duB p w a = D; pointwise [k11_pay1, rmsDx]

theorem kpay2 : k11_pay2 h (k11_pay10 p w a h g) (k11_pay11 p w a h g) (k11_pay12 p w a h g) r
    = rmsDx (M := 512) h g (duB p w a) r := by
  funext y; unfold k11_pay2; rw [kpay1]; generalize duB p w a = D; pointwise []

theorem kpay8 : k11_pay8 p w a h = rmsDw (M := 512) h (duB p w a) := by
  funext y; unfold k11_pay8; rw [kpay5, kpay7]; generalize duB p w a = D; pointwise [rmsDw]

theorem kpay4 (x acc : Vec Ideal S1x1024 .f32) (j : S1x1024.Idx) : k11_pay4 x acc j = acc j + x j := by pointwise [k11_pay4]
theorem kpay3 (j : S1x1024.Idx) : k11_pay3 (F := Ideal) j = 0 := by pointwise [k11_pay3]

variable (V : (c : Dev nD) → (b : Ref sig .tc) → Buf (Elt Ideal) ((c : Thread nD τ).loc b))

theorem idx11 : ∀ t : Fin cfg11.N, win11_0.index t = ![t.val, 0] ∧ win11_1.index t = ![0, 1] ∧ win11_2.index t = ![t.val, 0]
    ∧ win11_3.index t = ![0, 0] ∧ win11_4.index t = ![t.val, 0] ∧ win11_5.index t = ![t.val, 0] ∧ win11_6.index t = ![t.val, 0]
    ∧ win11_7.index t = ![t.val, 0] ∧ win11_8.index t = ![0, 0] :=
  (by decide +kernel : ∀ t : Fin grid11.N, _)

/-- The cotangent of the norm. -/
abbrev du (c : Dev nD) : Mat 4096 1024 :=
  add (mmt (M := 4096) (K := 2816) (N := 1024) (V c main_v10_1) (cols (M := 1024) (N := 5632) 2816 2816 (by decide) (V c main_v0))) (V c main_v11)

/-! ## Rows commute with all of it -/

/-- The `n` rows from row `o` on. -/
abbrev rows {M N : ℕ} (o n : ℕ) (h : o + n ≤ M) (X : Mat M N) : Mat n N :=
  fun j => X (ix2 ⟨o + (j 0).val, lt_of_lt_of_le (Nat.add_lt_add_left (j 0).isLt o) h⟩ (j 1))

theorem bnd11 (t : Fin cfg11.N) : t.val * 512 + 512 ≤ 4096 := by
  have h : t.val < 8 := lt_of_lt_of_eq t.isLt N_11
  omega

theorem blk11_0 (c : Dev nD) (t : Fin cfg11.N) :
    (iblk11 V c 0 t : Mat 512 2816) = rows (M := 4096) (t.val * 512) 512 (bnd11 t) (V c main_v10_1) := by
  funext y; unfold rows; blk_ext [iblk11, idx11 t]
theorem blk11_1 (c : Dev nD) (t : Fin cfg11.N) :
    (iblk11 V c 1 t : Mat 1024 2816) = cols (M := 1024) (N := 5632) 2816 2816 (by decide) (V c main_v0) := by
  funext y; unfold cols; blk_ext [iblk11, idx11 t]
theorem blk11_2 (c : Dev nD) (t : Fin cfg11.N) :
    (iblk11 V c 2 t : Mat 512 1024) = rows (M := 4096) (t.val * 512) 512 (bnd11 t) (V c main_arg0) := by
  funext y; unfold rows; blk_ext [iblk11, idx11 t]
theorem blk11_3 (c : Dev nD) (t : Fin cfg11.N) : (iblk11 V c 3 t : Mat 1 1024) = V c main_arg1 := by
  funext y; blk_ext [iblk11, idx11 t]
theorem blk11_4 (c : Dev nD) (t : Fin cfg11.N) :
    (iblk11 V c 4 t : Mat 512 1024) = rows (M := 4096) (t.val * 512) 512 (bnd11 t) (V c main_arg7) := by
  funext y; unfold rows; blk_ext [iblk11, idx11 t]
theorem blk11_5 (c : Dev nD) (t : Fin cfg11.N) :
    (iblk11 V c 5 t : Mat 512 1024) = rows (M := 4096) (t.val * 512) 512 (bnd11 t) (V c main_v11) := by
  funext y; unfold rows; blk_ext [iblk11, idx11 t]

theorem duB_rows (c : Dev nD) (t : Fin cfg11.N) : duB (iblk11 V c 0 t) (iblk11 V c 1 t) (iblk11 V c 5 t)
    = rows (M := 4096) (t.val * 512) 512 (bnd11 t) (du V c) := by
  unfold duB
  rw [blk11_0, blk11_1, blk11_5]
  rfl

theorem rmsDx_rows {M n o : ℕ} (h : o + n ≤ M) (X D R : Mat M 1024) (w : Mat 1 1024) :
    rmsDx (rows o n h X) w (rows o n h D) (rows o n h R) = rows o n h (rmsDx X w D R) := rfl

theorem v11_6 (c : Dev nD) : (dat11 V c).arrAt 6 cfg11.N
      = rmsDx (M := 4096) (V c main_arg0) (V c main_arg1) (du V c) (V c main_arg7) := by
  refine (dat11 V c).arrAt_eq_of_covers 6 _ (by decide +kernel) fun t _ y => ?_
  blk_simp
  rw [after11_6]
  refine Eq.trans (b := rmsDx (M := 512) (iblk11 V c 2 t) (iblk11 V c 3 t) (duB (iblk11 V c 0 t) (iblk11 V c 1 t) (iblk11 V c 5 t))
    (iblk11 V c 4 t) y) ?_ ?_
  · by_cases h0 : t.val % 8 = 0
    · rw [outsAt11_A V c t h0]; frame_out; rw [kpay1]
    · rw [outsAt11_B V c t h0]; frame_out; rw [kpay1]
  · rw [duB_rows, blk11_2, blk11_3, blk11_4, rmsDx_rows]
    unfold rows
    blk_ext [idx11 t]

theorem v11_7 (c : Dev nD) : (dat11 V c).arrAt 7 cfg11.N
      = rmsDx (M := 4096) (V c main_arg0) (V c main_arg1) (du V c) (V c main_arg7) := by
  refine (dat11 V c).arrAt_eq_of_covers 7 _ (by decide +kernel) fun t _ y => ?_
  blk_simp
  rw [after11_7]
  refine Eq.trans (b := rmsDx (M := 512) (iblk11 V c 2 t) (iblk11 V c 3 t) (duB (iblk11 V c 0 t) (iblk11 V c 1 t) (iblk11 V c 5 t))
    (iblk11 V c 4 t) y) ?_ ?_
  · by_cases h0 : t.val % 8 = 0
    · rw [outsAt11_A V c t h0]; frame_out; rw [kpay2]
    · rw [outsAt11_B V c t h0]; frame_out; rw [kpay2]
  · rw [duB_rows, blk11_2, blk11_3, blk11_4, rmsDx_rows]
    unfold rows
    blk_ext [idx11 t]

/-- What row `r` adds to the weights' gradient. -/
abbrev row (X D : Mat 4096 1024) (i : Fin 1024) (r : Fin 4096) : EReal :=
  X (ix2 r i) * Ideal.rsqrt (ms X r) * D (ix2 r i)

theorem kpay8_rows (c : Dev nD) (t : Fin cfg11.N) : k11_pay8 (iblk11 V c 0 t) (iblk11 V c 1 t) (iblk11 V c 5 t) (iblk11 V c 2 t)
    = fun j : (Sh 1 1024).Idx => ∑ k : Fin 512, row (V c main_arg0) (du V c) (j 1)
      ⟨t.val * 512 + k.val, lt_of_lt_of_le (Nat.add_lt_add_left k.isLt _) (bnd11 t)⟩ := by
  rw [kpay8, duB_rows, blk11_2]
  rfl

theorem v11_8 (c : Dev nD) : (dat11 V c).arrAt 8 cfg11.N = rmsDw (M := 4096) (V c main_arg0) (du V c) := by
  refine (dat11 V c).arrAt_eq_of_covers 8 _ (by decide +kernel) fun t hf y => ?_
  have ht : t.val < 8 := lt_of_lt_of_eq t.isLt N_11
  blk_simp
  rw [after11_8, Pipeline.eq_sum_fin_of_reset_step_apply_of_flush (fun n h => (outsAt11 V c n h).2.2) 8 (fun _ => 0) _
    (fun t h j => by rw [outsAt11_A V c t h]; frame_out; rw [kpay4, kpay3])
    (fun t h j => by rw [outsAt11_B V c t h]; frame_out; rw [kpay4]) t ((flush11_8 t).mp hf) _, zero_add]
  have e : (win11_8.blk t).view.emb y = (y : (Sh 1 1024).Idx) := by blk_ext [idx11 t]
  rw [e]
  refine (Fin.sum_fin_congr fun s => congrFun (kpay8_rows V c _) y).trans ?_
  unfold rmsDw
  refine Fin.sum_mul_add_congr fun s k hl => ?_
  refine congrArg (row (V c main_arg0) (du V c) (y 1)) (Fin.ext ?_)
  show (8 * (t.val / 8) + s.val) * 512 + k.val = s.val * 512 + k.val
  omega

end Cert.FfnIdeal.Val

end
-- ==== Proof.FfnRun.lean ====
/- The layer runs, and what it leaves: the regions one after another. -/
module

public import proofs.«01_k».proof.Proof.FfnSpec
public import proofs.«01_k».proof.Proof.FfnMat
public import proofs.«01_k».proof.Proof.FfnConv
public import proofs.«01_k».proof.Proof.FfnNorm
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.FfnIdeal.Val

open Cert.FfnIdeal Cert.FfnIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W14 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W14 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W14 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem arg3 (c : Dev nD) (a : Ref sig .tc) (h : a ∈ argRefs) : V3 m ρ c a = m ((c : Thread nD τ).loc a) := W3_args m ρ c a h

theorem arg4 (c : Dev nD) (a : Ref sig .tc) (h : a ∈ argRefs) : V4 m ρ c a = m ((c : Thread nD τ).loc a) := W4_args m ρ c a h

theorem arg5 (c : Dev nD) (a : Ref sig .tc) (h : a ∈ argRefs) : V5 m ρ c a = m ((c : Thread nD τ).loc a) := W5_args m ρ c a h

theorem arg6 (c : Dev nD) (a : Ref sig .tc) (h : a ∈ argRefs) : V6 m ρ c a = m ((c : Thread nD τ).loc a) := W6_args m ρ c a h

theorem arg7 (c : Dev nD) (a : Ref sig .tc) (h : a ∈ argRefs) : V7 m ρ c a = m ((c : Thread nD τ).loc a) := W7_args m ρ c a h

theorem arg8 (c : Dev nD) (a : Ref sig .tc) (h : a ∈ argRefs) : V8 m ρ c a = m ((c : Thread nD τ).loc a) := W8_args m ρ c a h

theorem arg9 (c : Dev nD) (a : Ref sig .tc) (h : a ∈ argRefs) : V9 m ρ c a = m ((c : Thread nD τ).loc a) := W9_args m ρ c a h

theorem arg10 (c : Dev nD) (a : Ref sig .tc) (h : a ∈ argRefs) : V10 m ρ c a = m ((c : Thread nD τ).loc a) := W10_args m ρ c a h

theorem arg11 (c : Dev nD) (a : Ref sig .tc) (h : a ∈ argRefs) : V11 m ρ c a = m ((c : Thread nD τ).loc a) := W11_args m ρ c a h

theorem arg12 (c : Dev nD) (a : Ref sig .tc) (h : a ∈ argRefs) : V12 m ρ c a = m ((c : Thread nD τ).loc a) := W12_args m ρ c a h

theorem arg13 (c : Dev nD) (a : Ref sig .tc) (h : a ∈ argRefs) : V13 m ρ c a = m ((c : Thread nD τ).loc a) := W13_args m ρ c a h

theorem arg14 (c : Dev nD) (a : Ref sig .tc) (h : a ∈ argRefs) : V14 m ρ c a = m ((c : Thread nD τ).loc a) := W14_args m ρ c a h

theorem at_main_v0_1 (c : Dev nD) : V1 m ρ c main_v0 = m ((c : Thread nD τ).loc main_arg2) := by
  show StableHlo.after hostOps0 (W0 m ρ c) (Proc.devRef .tc main_v0) = _
  unfold_abbrev_sides
  after_results
  rfl

theorem at_main_v1_1 (c : Dev nD) : V1 m ρ c main_v1 = m ((c : Thread nD τ).loc main_arg5) := by
  show StableHlo.after hostOps0 (W0 m ρ c) (Proc.devRef .tc main_v1) = _
  unfold_abbrev_sides
  after_results
  rfl

theorem at_main_v2_2 (c : Dev nD) : V2 m ρ c main_v2 = Cert.Spec.Ffn.U (m ((c : Thread nD τ).loc main_arg0)) (m ((c : Thread nD τ).loc main_arg1)) := by
  refine (W2_arr m ρ c 2).trans ((val0 (V1 m ρ) c).trans ?_)
  rw [arg1 m ρ c main_arg0 (by decide), arg1 m ρ c main_arg1 (by decide)]
  rfl

theorem at_main_v0_2 (c : Dev nD) : V2 m ρ c main_v0 = m ((c : Thread nD τ).loc main_arg2) :=
  (W2_of m ρ c main_v0 (by decide)).trans (at_main_v0_1 m ρ c)

theorem at_main_v3_3 (c : Dev nD) : V3 m ρ c main_v3 = Cert.Spec.Ffn.G (m ((c : Thread nD τ).loc main_arg0)) (m ((c : Thread nD τ).loc main_arg1)) (m ((c : Thread nD τ).loc main_arg2)) := by
  refine (W3_arr m ρ c 2).trans ((val1 (V2 m ρ) c).trans ?_)
  rw [at_main_v2_2 m ρ c, at_main_v0_2 m ρ c]
  rfl

theorem at_main_v2_3 (c : Dev nD) : V3 m ρ c main_v2 = Cert.Spec.Ffn.U (m ((c : Thread nD τ).loc main_arg0)) (m ((c : Thread nD τ).loc main_arg1)) :=
  (W3_of m ρ c main_v2 (by decide)).trans (at_main_v2_2 m ρ c)

theorem at_main_v0_3 (c : Dev nD) : V3 m ρ c main_v0 = m ((c : Thread nD τ).loc main_arg2) :=
  (W3_of m ρ c main_v0 (by decide)).trans (at_main_v0_2 m ρ c)

theorem at_main_v4_4 (c : Dev nD) : V4 m ρ c main_v4 = Cert.Spec.Ffn.A (m ((c : Thread nD τ).loc main_arg0)) (m ((c : Thread nD τ).loc main_arg1)) (m ((c : Thread nD τ).loc main_arg2)) := by
  refine (W4_arr m ρ c 2).trans ((val2 (V3 m ρ) c).trans ?_)
  rw [at_main_v2_3 m ρ c, at_main_v0_3 m ρ c]
  rfl

theorem at_main_v3_4 (c : Dev nD) : V4 m ρ c main_v3 = Cert.Spec.Ffn.G (m ((c : Thread nD τ).loc main_arg0)) (m ((c : Thread nD τ).loc main_arg1)) (m ((c : Thread nD τ).loc main_arg2)) :=
  (W4_of m ρ c main_v3 (by decide)).trans (at_main_v3_3 m ρ c)

theorem at_main_v5_5 (c : Dev nD) : V5 m ρ c main_v5 = Cert.Spec.Ffn.Y (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 4).trans ((val3_4 (V4 m ρ) c).trans ?_)
  rw [at_main_v3_4 m ρ c, at_main_v4_4 m ρ c, arg4 m ρ c main_arg3 (by decide), arg4 m ρ c main_arg4 (by decide)]
  rfl

theorem at_main_v1_2 (c : Dev nD) : V2 m ρ c main_v1 = m ((c : Thread nD τ).loc main_arg5) :=
  (W2_of m ρ c main_v1 (by decide)).trans (at_main_v1_1 m ρ c)

theorem at_main_v1_3 (c : Dev nD) : V3 m ρ c main_v1 = m ((c : Thread nD τ).loc main_arg5) :=
  (W3_of m ρ c main_v1 (by decide)).trans (at_main_v1_2 m ρ c)

theorem at_main_v1_4 (c : Dev nD) : V4 m ρ c main_v1 = m ((c : Thread nD τ).loc main_arg5) :=
  (W4_of m ρ c main_v1 (by decide)).trans (at_main_v1_3 m ρ c)

theorem at_main_v1_5 (c : Dev nD) : V5 m ρ c main_v1 = m ((c : Thread nD τ).loc main_arg5) :=
  (W5_of m ρ c main_v1 (by decide)).trans (at_main_v1_4 m ρ c)

theorem at_main_v6_0_6 (c : Dev nD) : V6 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 4).trans ((val4a (V5 m ρ) c).trans ?_)
  rw [at_main_v5_5 m ρ c, at_main_v1_5 m ρ c, arg5 m ρ c main_arg0 (by decide)]
  rfl

theorem at_main_v6_1_6 (c : Dev nD) : V6 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 5).trans ((val4b (V5 m ρ) c).trans ?_)
  rw [at_main_v5_5 m ρ c, at_main_v1_5 m ρ c, arg5 m ρ c main_arg0 (by decide), arg5 m ρ c main_arg6 (by decide)]
  rfl

theorem at_main_v7_7 (c : Dev nD) : V7 m ρ c main_v7 = m ((c : Thread nD τ).loc main_arg7) := by
  refine Eq.trans (b := truncf (F := Ideal) (φ := .f32) .bf16 (V6 m ρ c main_arg7) bitsLt_bf16_f32) ?_ ?_
  · unfold_abbrev_sides
    after_results
  · rw [arg6 m ρ c main_arg7 (by decide)]
    rfl

theorem at_main_v1_6 (c : Dev nD) : V6 m ρ c main_v1 = m ((c : Thread nD τ).loc main_arg5) :=
  (W6_of m ρ c main_v1 (by decide)).trans (at_main_v1_5 m ρ c)

theorem at_main_v1_7 (c : Dev nD) : V7 m ρ c main_v1 = m ((c : Thread nD τ).loc main_arg5) :=
  (W7_of m ρ c main_v1 (by decide)).trans (at_main_v1_6 m ρ c)

theorem at_main_v8_8 (c : Dev nD) : V8 m ρ c main_v8 = Cert.Spec.Ffn.DY (m ((c : Thread nD τ).loc main_arg5)) (m ((c : Thread nD τ).loc main_arg7)) := by
  refine (W8_arr m ρ c 2).trans ((val5 (V7 m ρ) c).trans ?_)
  rw [at_main_v7_7 m ρ c, at_main_v1_7 m ρ c]
  rfl

theorem at_main_v5_6 (c : Dev nD) : V6 m ρ c main_v5 = Cert.Spec.Ffn.Y (m ((c : Thread nD τ).loc main_arg0)) (m ((c : Thread nD τ).loc main_arg1)) (m ((c : Thread nD τ).loc main_arg2)) (m ((c : Thread nD τ).loc main_arg3)) (m ((c : Thread nD τ).loc main_arg4)) :=
  (W6_of m ρ c main_v5 (by decide)).trans (at_main_v5_5 m ρ c)

theorem at_main_v5_7 (c : Dev nD) : V7 m ρ c main_v5 = Cert.Spec.Ffn.Y (m ((c : Thread nD τ).loc main_arg0)) (m ((c : Thread nD τ).loc main_arg1)) (m ((c : Thread nD τ).loc main_arg2)) (m ((c : Thread nD τ).loc main_arg3)) (m ((c : Thread nD τ).loc main_arg4)) :=
  (W7_of m ρ c main_v5 (by decide)).trans (at_main_v5_6 m ρ c)

theorem at_main_v5_8 (c : Dev nD) : V8 m ρ c main_v5 = Cert.Spec.Ffn.Y (m ((c : Thread nD τ).loc main_arg0)) (m ((c : Thread nD τ).loc main_arg1)) (m ((c : Thread nD τ).loc main_arg2)) (m ((c : Thread nD τ).loc main_arg3)) (m ((c : Thread nD τ).loc main_arg4)) :=
  (W8_of m ρ c main_v5 (by decide)).trans (at_main_v5_7 m ρ c)

theorem at_main_v7_8 (c : Dev nD) : V8 m ρ c main_v7 = m ((c : Thread nD τ).loc main_arg7) :=
  (W8_of m ρ c main_v7 (by decide)).trans (at_main_v7_7 m ρ c)

theorem at_main_v9_9 (c : Dev nD) : V9 m ρ c main_v9 = Cert.Spec.Ffn.DWO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W9_arr m ρ c 2).trans ((val6 (V8 m ρ) c).trans ?_)
  rw [at_main_v5_8 m ρ c, at_main_v7_8 m ρ c]
  rfl

theorem at_main_v3_5 (c : Dev nD) : V5 m ρ c main_v3 = Cert.Spec.Ffn.G (m ((c : Thread nD τ).loc main_arg0)) (m ((c : Thread nD τ).loc main_arg1)) (m ((c : Thread nD τ).loc main_arg2)) :=
  (W5_of m ρ c main_v3 (by decide)).trans (at_main_v3_4 m ρ c)

theorem at_main_v3_6 (c : Dev nD) : V6 m ρ c main_v3 = Cert.Spec.Ffn.G (m ((c : Thread nD τ).loc main_arg0)) (m ((c : Thread nD τ).loc main_arg1)) (m ((c : Thread nD τ).loc main_arg2)) :=
  (W6_of m ρ c main_v3 (by decide)).trans (at_main_v3_5 m ρ c)

theorem at_main_v3_7 (c : Dev nD) : V7 m ρ c main_v3 = Cert.Spec.Ffn.G (m ((c : Thread nD τ).loc main_arg0)) (m ((c : Thread nD τ).loc main_arg1)) (m ((c : Thread nD τ).loc main_arg2)) :=
  (W7_of m ρ c main_v3 (by decide)).trans (at_main_v3_6 m ρ c)

theorem at_main_v3_8 (c : Dev nD) : V8 m ρ c main_v3 = Cert.Spec.Ffn.G (m ((c : Thread nD τ).loc main_arg0)) (m ((c : Thread nD τ).loc main_arg1)) (m ((c : Thread nD τ).loc main_arg2)) :=
  (W8_of m ρ c main_v3 (by decide)).trans (at_main_v3_7 m ρ c)

theorem at_main_v3_9 (c : Dev nD) : V9 m ρ c main_v3 = Cert.Spec.Ffn.G (m ((c : Thread nD τ).loc main_arg0)) (m ((c : Thread nD τ).loc main_arg1)) (m ((c : Thread nD τ).loc main_arg2)) :=
  (W9_of m ρ c main_v3 (by decide)).trans (at_main_v3_8 m ρ c)

theorem at_main_v4_5 (c : Dev nD) : V5 m ρ c main_v4 = Cert.Spec.Ffn.A (m ((c : Thread nD τ).loc main_arg0)) (m ((c : Thread nD τ).loc main_arg1)) (m ((c : Thread nD τ).loc main_arg2)) :=
  (W5_of m ρ c main_v4 (by decide)).trans (at_main_v4_4 m ρ c)

theorem at_main_v4_6 (c : Dev nD) : V6 m ρ c main_v4 = Cert.Spec.Ffn.A (m ((c : Thread nD τ).loc main_arg0)) (m ((c : Thread nD τ).loc main_arg1)) (m ((c : Thread nD τ).loc main_arg2)) :=
  (W6_of m ρ c main_v4 (by decide)).trans (at_main_v4_5 m ρ c)

theorem at_main_v4_7 (c : Dev nD) : V7 m ρ c main_v4 = Cert.Spec.Ffn.A (m ((c : Thread nD τ).loc main_arg0)) (m ((c : Thread nD τ).loc main_arg1)) (m ((c : Thread nD τ).loc main_arg2)) :=
  (W7_of m ρ c main_v4 (by decide)).trans (at_main_v4_6 m ρ c)

theorem at_main_v4_8 (c : Dev nD) : V8 m ρ c main_v4 = Cert.Spec.Ffn.A (m ((c : Thread nD τ).loc main_arg0)) (m ((c : Thread nD τ).loc main_arg1)) (m ((c : Thread nD τ).loc main_arg2)) :=
  (W8_of m ρ c main_v4 (by decide)).trans (at_main_v4_7 m ρ c)

theorem at_main_v4_9 (c : Dev nD) : V9 m ρ c main_v4 = Cert.Spec.Ffn.A (m ((c : Thread nD τ).loc main_arg0)) (m ((c : Thread nD τ).loc main_arg1)) (m ((c : Thread nD τ).loc main_arg2)) :=
  (W9_of m ρ c main_v4 (by decide)).trans (at_main_v4_8 m ρ c)

theorem at_main_v8_9 (c : Dev nD) : V9 m ρ c main_v8 = Cert.Spec.Ffn.DY (m ((c : Thread nD τ).loc main_arg5)) (m ((c : Thread nD τ).loc main_arg7)) :=
  (W9_of m ρ c main_v8 (by decide)).trans (at_main_v8_8 m ρ c)

theorem at_main_v10_0_10 (c : Dev nD) : V10 m ρ c main_v10_0 = Cert.Spec.Ffn.DPG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W10_arr m ρ c 5).trans ((val7_5 (V9 m ρ) c).trans ?_)
  rw [at_main_v3_9 m ρ c, at_main_v4_9 m ρ c, at_main_v8_9 m ρ c, arg9 m ρ c main_arg3 (by decide), arg9 m ρ c main_arg4 (by decide)]
  rfl

theorem at_main_v10_1_10 (c : Dev nD) : V10 m ρ c main_v10_1 = Cert.Spec.Ffn.DPV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W10_arr m ρ c 6).trans ((val7_6 (V9 m ρ) c).trans ?_)
  rw [at_main_v3_9 m ρ c, at_main_v8_9 m ρ c, arg9 m ρ c main_arg3 (by decide), arg9 m ρ c main_arg4 (by decide)]
  rfl

theorem at_main_v10_2_10 (c : Dev nD) : V10 m ρ c main_v10_2 = Cert.Spec.Ffn.DCW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W10_arr m ρ c 7).trans ((val7_7 (V9 m ρ) c).trans ?_)
  rw [at_main_v3_9 m ρ c, at_main_v4_9 m ρ c, at_main_v8_9 m ρ c, arg9 m ρ c main_arg3 (by decide), arg9 m ρ c main_arg4 (by decide)]
  rfl

theorem at_main_v10_3_10 (c : Dev nD) : V10 m ρ c main_v10_3 = Cert.Spec.Ffn.DCB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W10_arr m ρ c 8).trans ((val7_8 (V9 m ρ) c).trans ?_)
  rw [at_main_v3_9 m ρ c, at_main_v4_9 m ρ c, at_main_v8_9 m ρ c, arg9 m ρ c main_arg3 (by decide), arg9 m ρ c main_arg4 (by decide)]
  rfl

theorem at_main_v0_4 (c : Dev nD) : V4 m ρ c main_v0 = m ((c : Thread nD τ).loc main_arg2) :=
  (W4_of m ρ c main_v0 (by decide)).trans (at_main_v0_3 m ρ c)

theorem at_main_v0_5 (c : Dev nD) : V5 m ρ c main_v0 = m ((c : Thread nD τ).loc main_arg2) :=
  (W5_of m ρ c main_v0 (by decide)).trans (at_main_v0_4 m ρ c)

theorem at_main_v0_6 (c : Dev nD) : V6 m ρ c main_v0 = m ((c : Thread nD τ).loc main_arg2) :=
  (W6_of m ρ c main_v0 (by decide)).trans (at_main_v0_5 m ρ c)

theorem at_main_v0_7 (c : Dev nD) : V7 m ρ c main_v0 = m ((c : Thread nD τ).loc main_arg2) :=
  (W7_of m ρ c main_v0 (by decide)).trans (at_main_v0_6 m ρ c)

theorem at_main_v0_8 (c : Dev nD) : V8 m ρ c main_v0 = m ((c : Thread nD τ).loc main_arg2) :=
  (W8_of m ρ c main_v0 (by decide)).trans (at_main_v0_7 m ρ c)

theorem at_main_v0_9 (c : Dev nD) : V9 m ρ c main_v0 = m ((c : Thread nD τ).loc main_arg2) :=
  (W9_of m ρ c main_v0 (by decide)).trans (at_main_v0_8 m ρ c)

theorem at_main_v0_10 (c : Dev nD) : V10 m ρ c main_v0 = m ((c : Thread nD τ).loc main_arg2) :=
  (W10_of m ρ c main_v0 (by decide)).trans (at_main_v0_9 m ρ c)

theorem at_main_v11_11 (c : Dev nD) : V11 m ρ c main_v11 = Cert.Spec.Ffn.DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W11_arr m ρ c 2).trans ((val8 (V10 m ρ) c).trans ?_)
  rw [at_main_v10_0_10 m ρ c, at_main_v0_10 m ρ c]
  rfl

theorem at_main_v2_4 (c : Dev nD) : V4 m ρ c main_v2 = Cert.Spec.Ffn.U (m ((c : Thread nD τ).loc main_arg0)) (m ((c : Thread nD τ).loc main_arg1)) :=
  (W4_of m ρ c main_v2 (by decide)).trans (at_main_v2_3 m ρ c)

theorem at_main_v2_5 (c : Dev nD) : V5 m ρ c main_v2 = Cert.Spec.Ffn.U (m ((c : Thread nD τ).loc main_arg0)) (m ((c : Thread nD τ).loc main_arg1)) :=
  (W5_of m ρ c main_v2 (by decide)).trans (at_main_v2_4 m ρ c)

theorem at_main_v2_6 (c : Dev nD) : V6 m ρ c main_v2 = Cert.Spec.Ffn.U (m ((c : Thread nD τ).loc main_arg0)) (m ((c : Thread nD τ).loc main_arg1)) :=
  (W6_of m ρ c main_v2 (by decide)).trans (at_main_v2_5 m ρ c)

theorem at_main_v2_7 (c : Dev nD) : V7 m ρ c main_v2 = Cert.Spec.Ffn.U (m ((c : Thread nD τ).loc main_arg0)) (m ((c : Thread nD τ).loc main_arg1)) :=
  (W7_of m ρ c main_v2 (by decide)).trans (at_main_v2_6 m ρ c)

theorem at_main_v2_8 (c : Dev nD) : V8 m ρ c main_v2 = Cert.Spec.Ffn.U (m ((c : Thread nD τ).loc main_arg0)) (m ((c : Thread nD τ).loc main_arg1)) :=
  (W8_of m ρ c main_v2 (by decide)).trans (at_main_v2_7 m ρ c)

theorem at_main_v2_9 (c : Dev nD) : V9 m ρ c main_v2 = Cert.Spec.Ffn.U (m ((c : Thread nD τ).loc main_arg0)) (m ((c : Thread nD τ).loc main_arg1)) :=
  (W9_of m ρ c main_v2 (by decide)).trans (at_main_v2_8 m ρ c)

theorem at_main_v2_10 (c : Dev nD) : V10 m ρ c main_v2 = Cert.Spec.Ffn.U (m ((c : Thread nD τ).loc main_arg0)) (m ((c : Thread nD τ).loc main_arg1)) :=
  (W10_of m ρ c main_v2 (by decide)).trans (at_main_v2_9 m ρ c)

theorem at_main_v2_11 (c : Dev nD) : V11 m ρ c main_v2 = Cert.Spec.Ffn.U (m ((c : Thread nD τ).loc main_arg0)) (m ((c : Thread nD τ).loc main_arg1)) :=
  (W11_of m ρ c main_v2 (by decide)).trans (at_main_v2_10 m ρ c)

theorem at_main_v10_0_11 (c : Dev nD) : V11 m ρ c main_v10_0 = Cert.Spec.Ffn.DPG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W11_of m ρ c main_v10_0 (by decide)).trans (at_main_v10_0_10 m ρ c)

theorem at_main_v12_12 (c : Dev nD) : V12 m ρ c main_v12 = Cert.Spec.Ffn.DWG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W12_arr m ρ c 2).trans ((val9 (V11 m ρ) c).trans ?_)
  rw [at_main_v2_11 m ρ c, at_main_v10_0_11 m ρ c]
  rfl

theorem at_main_v2_12 (c : Dev nD) : V12 m ρ c main_v2 = Cert.Spec.Ffn.U (m ((c : Thread nD τ).loc main_arg0)) (m ((c : Thread nD τ).loc main_arg1)) :=
  (W12_of m ρ c main_v2 (by decide)).trans (at_main_v2_11 m ρ c)

theorem at_main_v10_1_11 (c : Dev nD) : V11 m ρ c main_v10_1 = Cert.Spec.Ffn.DPV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W11_of m ρ c main_v10_1 (by decide)).trans (at_main_v10_1_10 m ρ c)

theorem at_main_v10_1_12 (c : Dev nD) : V12 m ρ c main_v10_1 = Cert.Spec.Ffn.DPV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W12_of m ρ c main_v10_1 (by decide)).trans (at_main_v10_1_11 m ρ c)

theorem at_main_v13_13 (c : Dev nD) : V13 m ρ c main_v13 = Cert.Spec.Ffn.DWV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W13_arr m ρ c 2).trans ((val10 (V12 m ρ) c).trans ?_)
  rw [at_main_v2_12 m ρ c, at_main_v10_1_12 m ρ c]
  rfl

theorem at_main_v10_1_13 (c : Dev nD) : V13 m ρ c main_v10_1 = Cert.Spec.Ffn.DPV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W13_of m ρ c main_v10_1 (by decide)).trans (at_main_v10_1_12 m ρ c)

theorem at_main_v0_11 (c : Dev nD) : V11 m ρ c main_v0 = m ((c : Thread nD τ).loc main_arg2) :=
  (W11_of m ρ c main_v0 (by decide)).trans (at_main_v0_10 m ρ c)

theorem at_main_v0_12 (c : Dev nD) : V12 m ρ c main_v0 = m ((c : Thread nD τ).loc main_arg2) :=
  (W12_of m ρ c main_v0 (by decide)).trans (at_main_v0_11 m ρ c)

theorem at_main_v0_13 (c : Dev nD) : V13 m ρ c main_v0 = m ((c : Thread nD τ).loc main_arg2) :=
  (W13_of m ρ c main_v0 (by decide)).trans (at_main_v0_12 m ρ c)

theorem at_main_v11_12 (c : Dev nD) : V12 m ρ c main_v11 = Cert.Spec.Ffn.DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W12_of m ρ c main_v11 (by decide)).trans (at_main_v11_11 m ρ c)

theorem at_main_v11_13 (c : Dev nD) : V13 m ρ c main_v11 = Cert.Spec.Ffn.DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W13_of m ρ c main_v11 (by decide)).trans (at_main_v11_12 m ρ c)

theorem at_main_v14_0_14 (c : Dev nD) : V14 m ρ c main_v14_0 = Cert.Spec.Ffn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W14_arr m ρ c 6).trans ((v11_6 (V13 m ρ) c).trans ?_)
  unfold du
  rw [at_main_v10_1_13 m ρ c, at_main_v0_13 m ρ c, at_main_v11_13 m ρ c, arg13 m ρ c main_arg0 (by decide), arg13 m ρ c main_arg1 (by decide), arg13 m ρ c main_arg7 (by decide)]
  rfl

theorem at_main_v14_1_14 (c : Dev nD) : V14 m ρ c main_v14_1 = Cert.Spec.Ffn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W14_arr m ρ c 7).trans ((v11_7 (V13 m ρ) c).trans ?_)
  unfold du
  rw [at_main_v10_1_13 m ρ c, at_main_v0_13 m ρ c, at_main_v11_13 m ρ c, arg13 m ρ c main_arg0 (by decide), arg13 m ρ c main_arg1 (by decide), arg13 m ρ c main_arg7 (by decide)]
  rfl

theorem at_main_v14_2_14 (c : Dev nD) : V14 m ρ c main_v14_2 = Cert.Spec.Ffn.DNW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W14_arr m ρ c 8).trans ((v11_8 (V13 m ρ) c).trans ?_)
  unfold du
  rw [at_main_v10_1_13 m ρ c, at_main_v0_13 m ρ c, at_main_v11_13 m ρ c, arg13 m ρ c main_arg0 (by decide)]
  rfl

theorem at_main_v6_0_7 (c : Dev nD) : V7 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_of m ρ c main_v6_0 (by decide)).trans (at_main_v6_0_6 m ρ c)

theorem at_main_v6_0_8 (c : Dev nD) : V8 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_of m ρ c main_v6_0 (by decide)).trans (at_main_v6_0_7 m ρ c)

theorem at_main_v6_0_9 (c : Dev nD) : V9 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_of m ρ c main_v6_0 (by decide)).trans (at_main_v6_0_8 m ρ c)

theorem at_main_v6_0_10 (c : Dev nD) : V10 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_of m ρ c main_v6_0 (by decide)).trans (at_main_v6_0_9 m ρ c)

theorem at_main_v6_0_11 (c : Dev nD) : V11 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W11_of m ρ c main_v6_0 (by decide)).trans (at_main_v6_0_10 m ρ c)

theorem at_main_v6_0_12 (c : Dev nD) : V12 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W12_of m ρ c main_v6_0 (by decide)).trans (at_main_v6_0_11 m ρ c)

theorem at_main_v6_0_13 (c : Dev nD) : V13 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W13_of m ρ c main_v6_0 (by decide)).trans (at_main_v6_0_12 m ρ c)

theorem at_main_v6_0_14 (c : Dev nD) : V14 m ρ c main_v6_0 = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W14_of m ρ c main_v6_0 (by decide)).trans (at_main_v6_0_13 m ρ c)

theorem at_main_v6_1_7 (c : Dev nD) : V7 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W7_of m ρ c main_v6_1 (by decide)).trans (at_main_v6_1_6 m ρ c)

theorem at_main_v6_1_8 (c : Dev nD) : V8 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_of m ρ c main_v6_1 (by decide)).trans (at_main_v6_1_7 m ρ c)

theorem at_main_v6_1_9 (c : Dev nD) : V9 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_of m ρ c main_v6_1 (by decide)).trans (at_main_v6_1_8 m ρ c)

theorem at_main_v6_1_10 (c : Dev nD) : V10 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_of m ρ c main_v6_1 (by decide)).trans (at_main_v6_1_9 m ρ c)

theorem at_main_v6_1_11 (c : Dev nD) : V11 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W11_of m ρ c main_v6_1 (by decide)).trans (at_main_v6_1_10 m ρ c)

theorem at_main_v6_1_12 (c : Dev nD) : V12 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W12_of m ρ c main_v6_1 (by decide)).trans (at_main_v6_1_11 m ρ c)

theorem at_main_v6_1_13 (c : Dev nD) : V13 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W13_of m ρ c main_v6_1 (by decide)).trans (at_main_v6_1_12 m ρ c)

theorem at_main_v6_1_14 (c : Dev nD) : V14 m ρ c main_v6_1 = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W14_of m ρ c main_v6_1 (by decide)).trans (at_main_v6_1_13 m ρ c)

theorem at_main_v12_13 (c : Dev nD) : V13 m ρ c main_v12 = Cert.Spec.Ffn.DWG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W13_of m ρ c main_v12 (by decide)).trans (at_main_v12_12 m ρ c)

theorem at_main_v12_14 (c : Dev nD) : V14 m ρ c main_v12 = Cert.Spec.Ffn.DWG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W14_of m ρ c main_v12 (by decide)).trans (at_main_v12_13 m ρ c)

theorem at_main_v13_14 (c : Dev nD) : V14 m ρ c main_v13 = Cert.Spec.Ffn.DWV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W14_of m ρ c main_v13 (by decide)).trans (at_main_v13_13 m ρ c)

theorem at_main_v10_2_11 (c : Dev nD) : V11 m ρ c main_v10_2 = Cert.Spec.Ffn.DCW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W11_of m ρ c main_v10_2 (by decide)).trans (at_main_v10_2_10 m ρ c)

theorem at_main_v10_2_12 (c : Dev nD) : V12 m ρ c main_v10_2 = Cert.Spec.Ffn.DCW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W12_of m ρ c main_v10_2 (by decide)).trans (at_main_v10_2_11 m ρ c)

theorem at_main_v10_2_13 (c : Dev nD) : V13 m ρ c main_v10_2 = Cert.Spec.Ffn.DCW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W13_of m ρ c main_v10_2 (by decide)).trans (at_main_v10_2_12 m ρ c)

theorem at_main_v10_2_14 (c : Dev nD) : V14 m ρ c main_v10_2 = Cert.Spec.Ffn.DCW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W14_of m ρ c main_v10_2 (by decide)).trans (at_main_v10_2_13 m ρ c)

theorem at_main_v10_3_11 (c : Dev nD) : V11 m ρ c main_v10_3 = Cert.Spec.Ffn.DCB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W11_of m ρ c main_v10_3 (by decide)).trans (at_main_v10_3_10 m ρ c)

theorem at_main_v10_3_12 (c : Dev nD) : V12 m ρ c main_v10_3 = Cert.Spec.Ffn.DCB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W12_of m ρ c main_v10_3 (by decide)).trans (at_main_v10_3_11 m ρ c)

theorem at_main_v10_3_13 (c : Dev nD) : V13 m ρ c main_v10_3 = Cert.Spec.Ffn.DCB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W13_of m ρ c main_v10_3 (by decide)).trans (at_main_v10_3_12 m ρ c)

theorem at_main_v10_3_14 (c : Dev nD) : V14 m ρ c main_v10_3 = Cert.Spec.Ffn.DCB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) :=
  (W14_of m ρ c main_v10_3 (by decide)).trans (at_main_v10_3_13 m ρ c)

theorem at_main_v9_10 (c : Dev nD) : V10 m ρ c main_v9 = Cert.Spec.Ffn.DWO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (W10_of m ρ c main_v9 (by decide)).trans (at_main_v9_9 m ρ c)

theorem at_main_v9_11 (c : Dev nD) : V11 m ρ c main_v9 = Cert.Spec.Ffn.DWO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (W11_of m ρ c main_v9 (by decide)).trans (at_main_v9_10 m ρ c)

theorem at_main_v9_12 (c : Dev nD) : V12 m ρ c main_v9 = Cert.Spec.Ffn.DWO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (W12_of m ρ c main_v9 (by decide)).trans (at_main_v9_11 m ρ c)

theorem at_main_v9_13 (c : Dev nD) : V13 m ρ c main_v9 = Cert.Spec.Ffn.DWO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (W13_of m ρ c main_v9 (by decide)).trans (at_main_v9_12 m ρ c)

theorem at_main_v9_14 (c : Dev nD) : V14 m ρ c main_v9 = Cert.Spec.Ffn.DWO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  (W14_of m ρ c main_v9 (by decide)).trans (at_main_v9_13 m ρ c)

/-- Every run ends with the results at the layer's mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.mem ((c.tc : Thread nD τ).loc main_v6_0) = Cert.Spec.Ffn.O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v6_1) = Cert.Spec.Ffn.NX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v14_0) = Cert.Spec.Ffn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v14_1) = Cert.Spec.Ffn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v14_2) = Cert.Spec.Ffn.DNW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v12) = Cert.Spec.Ffn.DWG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v13) = Cert.Spec.Ffn.DWV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v10_2) = Cert.Spec.Ffn.DCW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v10_3) = Cert.Spec.Ffn.DCB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7))
      ∧ r.2.mem ((c.tc : Thread nD τ).loc main_v9) = Cert.Spec.Ffn.DWO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V14 m ρ c b :=
    fun b hb => h.1 c _ (mem_uc b hb)
  exact ⟨⟨(g main_arg0 (by decide)).trans (arg14 m ρ c main_arg0 (by decide)), (g main_arg1 (by decide)).trans (arg14 m ρ c main_arg1 (by decide)), (g main_arg2 (by decide)).trans (arg14 m ρ c main_arg2 (by decide)), (g main_arg3 (by decide)).trans (arg14 m ρ c main_arg3 (by decide)), (g main_arg4 (by decide)).trans (arg14 m ρ c main_arg4 (by decide)), (g main_arg5 (by decide)).trans (arg14 m ρ c main_arg5 (by decide)), (g main_arg6 (by decide)).trans (arg14 m ρ c main_arg6 (by decide)), (g main_arg7 (by decide)).trans (arg14 m ρ c main_arg7 (by decide))⟩,
    (g main_v6_0 (by decide)).trans (at_main_v6_0_14 m ρ c),
    (g main_v6_1 (by decide)).trans (at_main_v6_1_14 m ρ c),
    (g main_v14_0 (by decide)).trans (at_main_v14_0_14 m ρ c),
    (g main_v14_1 (by decide)).trans (at_main_v14_1_14 m ρ c),
    (g main_v14_2 (by decide)).trans (at_main_v14_2_14 m ρ c),
    (g main_v12 (by decide)).trans (at_main_v12_14 m ρ c),
    (g main_v13 (by decide)).trans (at_main_v13_14 m ρ c),
    (g main_v10_2 (by decide)).trans (at_main_v10_2_14 m ρ c),
    (g main_v10_3 (by decide)).trans (at_main_v10_3_14 m ρ c),
    (g main_v9 (by decide)).trans (at_main_v9_14 m ρ c)⟩

end Cert.FfnIdeal.Val

end
-- ==== Proof.FfnRef.lean ====
/- The reference's results are the layer's mathematics. -/
module

public import proofs.«01_k».proof.Proof.FfnSpec
public import proofs.«01_k».proof.Proof.Gen.FfnRefIdeal.Read

@[expose] public section

set_option maxRecDepth 16384

noncomputable section

namespace Cert.FfnRefIdeal.Val

open Cert.FfnRefIdeal Cert.FfnRefIdeal.Gen Cert.FfnRefIdeal.Read Cert.Spec Idealize.ShloMosaic Idealize.ShloMosaic.TcCoe Idealize.SL.Sem

variable (x0 : Mat 4096 1024) (x1 : Mat 1 1024) (x2 : Mat 1024 5632) (x3 : Mat 3 2816) (x4 : Mat 1 2816) (x5 : Mat 2816 1024) (x6 : Mat 1 1024) (x7 : Mat 4096 1024)

theorem last_first (a b c d : EReal) : a + b + c + d = d + a + b + c := by abel
theorem first_last (a b c d : EReal) : d + a + b + c = a + b + c + d := by abel

theorem dite_swap {p q : Prop} [Decidable p] [Decidable q] (hpq : p ↔ q) (f : p → EReal)
    (g : q → EReal) (hfg : ∀ h h', f h = g h') :
    (if h : p then f h else 0) = if h : q then g h else 0 := by
  by_cases h : p
  · rw [dif_pos h, dif_pos (hpq.mp h)]
    exact hfg _ _
  · rw [dif_neg h, dif_neg fun h' => h (hpq.mpr h')]

theorem taps (n : ℕ) (hn : n < 3) (A B C : EReal) :
    ((if _ : 2 ≤ n ∧ n - 2 < 1 then A else 0) + (if _ : 1 ≤ n ∧ n - 1 < 1 then B else 0) + if _ : n < 1 then C else 0)
      = if n = 0 then C else if n = 1 then B else A := by
  rcases n with _ | _ | _ | n
  · simp
  · simp
  · simp
  · omega

theorem r7 : val_main_v7 (F := Ideal) x0 = fun j => Ideal.rsqrt (ms (M := 4096) x0 (j 0)) := by
  funext y
  pointwise [val_main_v7, val_main_v6, val_main_v5, val_main_v4, val_main_v3, val_main_v2, val_main_v1, val_main_v0, val_main_cst, val_main_cst_0, val_main_cst_1, ms]

theorem r6 : val_main_v6 (F := Ideal) x0 = fun j => ms (M := 4096) x0 (j 0) := by
  funext y
  pointwise [val_main_v6, val_main_v5, val_main_v4, val_main_v3, val_main_v2, val_main_v1, val_main_v0, val_main_cst, val_main_cst_0, val_main_cst_1, ms]

theorem r14 : val_main_v14 (F := Ideal) x0 x1 = Ffn.U x0 x1 := by
  unfold val_main_v14 val_main_v12 val_main_v11 val_main_v13 Ffn.U
  rw [r7]
  funext y
  pointwise [rms]

theorem r16 : val_main_v16 (F := Ideal) x0 x1 x2 = Ffn.G x0 x1 x2 := by
  unfold val_main_v16 val_main_v15 Ffn.G
  rw [r14]
  generalize Ffn.U x0 x1 = z0
  funext y
  pointwise [mm, cols]

theorem r17 : val_main_v17 (F := Ideal) x0 x1 x2 = Ffn.A x0 x1 x2 := by
  unfold val_main_v17 val_main_v15 Ffn.A
  rw [r14]
  generalize Ffn.U x0 x1 = z0
  funext y
  pointwise [mm, cols]

theorem r22 : val_main_v22 (F := Ideal) x0 x1 x2 = dn (Ffn.G x0 x1 x2) := by
  unfold val_main_v22 val_main_v21 val_main_v18 val_main_cst_3
  rw [r16]
  generalize Ffn.G x0 x1 x2 = z0
  funext y
  pointwise [dn]
  by_cases h : (y 0).val < 1
  · exact (dif_pos h).trans (if_pos (by omega)).symm
  · exact (dif_neg h).trans (if_neg (by omega)).symm

theorem r36 : val_main_v36 (F := Ideal) x0 x1 x2 = up (Ffn.G x0 x1 x2) := by
  unfold val_main_v36 val_main_v35 val_main_v18 val_main_cst_3
  rw [r16]
  generalize Ffn.G x0 x1 x2 = z0
  funext y
  pointwise [up]
  refine dite_swap ?_ _ _ ?_
  · constructor <;> intro h <;> omega
  · intro h h'
    exact congrArg z0 (congrArg (ix2 · (y 1)) (Fin.ext (Nat.add_comm _ _)))

theorem r43 : val_main_v43 (F := Ideal) x0 x1 x2 x3 x4 = conv (Ffn.G x0 x1 x2) x3 x4 := by
  unfold val_main_v43 val_main_v42 val_main_v41 val_main_v40 val_main_v39 val_main_v38 val_main_v34 val_main_v33 val_main_v32 val_main_v31 val_main_v30 val_main_v29 val_main_v28 val_main_v27 val_main_v26 val_main_v25 val_main_v24 val_main_v20 val_main_v19
  rw [r22, r36, r16]
  generalize Ffn.G x0 x1 x2 = z0
  funext y
  pointwise [conv]
  exact last_first _ _ _ _

theorem r44_2 : val_main_v44_2 (F := Ideal) x0 x1 x2 x3 x4 = fun j => Ideal.logistic (conv (Ffn.G x0 x1 x2) x3 x4 j) := by
  unfold val_main_v44_2 val_main_call0_v4 val_main_call0_v3 val_main_call0_v2 val_main_call0_v1 val_main_call0_v0 val_main_call0_cst val_main_call0_cst_0
  rw [r43]
  generalize conv (Ffn.G x0 x1 x2) x3 x4 = z0
  funext y
  pointwise [Ideal.logistic]

theorem r44_0 : val_main_v44_0 (F := Ideal) x0 x1 x2 x3 x4 = fun j => conv (Ffn.G x0 x1 x2) x3 x4 j * Ideal.logistic (conv (Ffn.G x0 x1 x2) x3 x4 j) := by
  unfold val_main_v44_0
  rw [r44_2, r43]
  generalize conv (Ffn.G x0 x1 x2) x3 x4 = z0
  funext y
  pointwise []

theorem r45 : val_main_v45 (F := Ideal) x0 x1 x2 x3 x4 = Ffn.Y x0 x1 x2 x3 x4 := by
  unfold val_main_v45 Ffn.Y
  rw [r44_0, r17]
  generalize Ffn.G x0 x1 x2 = z0
  generalize Ffn.A x0 x1 x2 = z1
  funext y
  pointwise [glu]

theorem r47 : val_main_v47 (F := Ideal) x0 x1 x2 x3 x4 x5 = Ffn.O x0 x1 x2 x3 x4 x5 := by
  unfold val_main_v47 val_main_v46 Ffn.O
  rw [r45]
  generalize Ffn.Y x0 x1 x2 x3 x4 = z0
  funext y
  pointwise [add, mm]
  exact add_comm _ _

theorem r48 : val_main_v48 (F := Ideal) x7 = x7 := by
  funext y
  pointwise [val_main_v48]

theorem r50 : val_main_v50 (F := Ideal) x0 x1 x2 x3 x4 x7 = Ffn.DWO x0 x1 x2 x3 x4 x7 := by
  unfold val_main_v50 val_main_v49 Ffn.DWO
  rw [r48, r45]
  generalize Ffn.Y x0 x1 x2 x3 x4 = z0
  funext y
  pointwise [tmm]
  exact Finset.sum_congr rfl fun _ _ => mul_comm _ _

theorem r51 : val_main_v51 (F := Ideal) x5 x7 = Ffn.DY x5 x7 := by
  unfold val_main_v51 Ffn.DY
  rw [r48]
  funext y
  pointwise [mmt]

theorem r52 : val_main_v52 (F := Ideal) x0 x1 x2 x3 x4 x5 x7 = Ffn.DPV x0 x1 x2 x3 x4 x5 x7 := by
  unfold val_main_v52 Ffn.DPV
  rw [r44_0, r51]
  generalize Ffn.G x0 x1 x2 = z0
  generalize Ffn.DY x5 x7 = z1
  funext y
  pointwise [glu]

theorem r54 : val_main_v54 (F := Ideal) x0 x1 x2 x3 x4 x5 x7 = Ffn.C x0 x1 x2 x3 x4 x5 x7 := by
  unfold val_main_v54 val_main_call1_v2 val_main_call1_v1 val_main_call1_v0 val_main_v53 val_main_v44_1 val_main_call0_v7 val_main_call0_v6 val_main_call0_cst_1 Ffn.C
  rw [r44_2, r43, r51, r17]
  generalize Ffn.G x0 x1 x2 = z0
  generalize Ffn.A x0 x1 x2 = z1
  generalize Ffn.DY x5 x7 = z2
  funext y
  pointwise [gluDc]

theorem r56 : val_main_v56 (F := Ideal) x0 x1 x2 x3 x4 x5 x7 = Ffn.DCB x0 x1 x2 x3 x4 x5 x7 := by
  unfold val_main_v56 val_main_v55 Ffn.DCB
  rw [r54]
  generalize Ffn.C x0 x1 x2 x3 x4 x5 x7 = z0
  funext y
  pointwise [val_main_cst_6, convDb]

theorem r58 : val_main_v58 (F := Ideal) x0 x1 x2 x3 x4 x5 x7 = scale 2 x3 (Ffn.C x0 x1 x2 x3 x4 x5 x7) := by
  unfold val_main_v58 val_main_v57 val_main_v38 val_main_v34 val_main_v33
  rw [r54]
  generalize Ffn.C x0 x1 x2 x3 x4 x5 x7 = z0
  funext y
  pointwise [scale]

theorem r69 : val_main_v69 (F := Ideal) x0 x1 x2 x3 x4 x5 x7 = scale 1 x3 (Ffn.C x0 x1 x2 x3 x4 x5 x7) := by
  unfold val_main_v69 val_main_v68 val_main_v29 val_main_v28 val_main_v27
  rw [r54]
  generalize Ffn.C x0 x1 x2 x3 x4 x5 x7 = z0
  funext y
  pointwise [scale]

theorem r79 : val_main_v79 (F := Ideal) x0 x1 x2 x3 x4 x5 x7 = scale 0 x3 (Ffn.C x0 x1 x2 x3 x4 x5 x7) := by
  unfold val_main_v79 val_main_v78 val_main_v24 val_main_v20 val_main_v19
  rw [r54]
  generalize Ffn.C x0 x1 x2 x3 x4 x5 x7 = z0
  funext y
  pointwise [scale]

theorem r65 : val_main_v65 (F := Ideal) x0 x1 x2 x3 x4 x5 x7 = dn (scale 2 x3 (Ffn.C x0 x1 x2 x3 x4 x5 x7)) := by
  unfold val_main_v65 val_main_v63 val_main_cst_9
  rw [r58]
  generalize scale 2 x3 (Ffn.C x0 x1 x2 x3 x4 x5 x7) = z0
  funext y
  pointwise [dn]
  have hb : (y 0).val < 4096 := (y 0).isLt
  by_cases h : (y 0).val = 0
  · exact (dif_neg (show ¬(1 ≤ (y 0).val ∧ (y 0).val - 1 < 4095) by omega)).trans (if_pos h).symm
  · exact (dif_pos (show 1 ≤ (y 0).val ∧ (y 0).val - 1 < 4095 by omega)).trans (if_neg h).symm

theorem r86 : val_main_v86 (F := Ideal) x0 x1 x2 x3 x4 x5 x7 = up (scale 0 x3 (Ffn.C x0 x1 x2 x3 x4 x5 x7)) := by
  unfold val_main_v86 val_main_v85 val_main_cst_16
  rw [r79]
  generalize scale 0 x3 (Ffn.C x0 x1 x2 x3 x4 x5 x7) = z0
  funext y
  pointwise [up]
  refine dite_swap ?_ _ _ ?_
  · constructor <;> intro h <;> omega
  · intro h h'
    exact congrArg z0 (congrArg (ix2 · (y 1)) (Fin.ext (Nat.add_comm _ _)))

theorem r87 : val_main_v87 (F := Ideal) x0 x1 x2 x3 x4 x5 x7 = Ffn.DPG x0 x1 x2 x3 x4 x5 x7 := by
  unfold val_main_v87 val_main_v70 Ffn.DPG
  rw [r65, r69, r86]
  generalize Ffn.C x0 x1 x2 x3 x4 x5 x7 = z0
  funext y
  pointwise [convDx]

theorem r90 : val_main_v90 (F := Ideal) x0 x1 x2 x3 x4 x5 x7 = Ffn.DCW x0 x1 x2 x3 x4 x5 x7 := by
  unfold val_main_v90 val_main_v89 val_main_v88 val_main_v83 val_main_v82 val_main_v81 val_main_v80 val_main_v77 val_main_v76 val_main_v75 val_main_v74 val_main_v73 val_main_v72 val_main_v71 val_main_v67 val_main_v66 val_main_v62 val_main_v61 val_main_v60 val_main_v59 val_main_cst_7 val_main_cst_8 val_main_cst_10 val_main_cst_11 val_main_cst_12 val_main_cst_13 val_main_cst_14 val_main_cst_15 val_main_cst_17 Ffn.DCW
  rw [r54, r36, r16, r22]
  generalize Ffn.C x0 x1 x2 x3 x4 x5 x7 = z0
  generalize Ffn.G x0 x1 x2 = z1
  funext y
  pointwise [convDw]
  simp only [Fin.sum_univ_one]
  exact taps _ (y 0).isLt _ _ _

theorem r94 : val_main_v94 (F := Ideal) x0 x1 x2 x3 x4 x5 x7 = Ffn.DU x0 x1 x2 x3 x4 x5 x7 := by
  unfold val_main_v94 val_main_v91 Ffn.DU Ffn.DG
  rw [r87, r52]
  generalize Ffn.DPG x0 x1 x2 x3 x4 x5 x7 = z0
  generalize Ffn.DPV x0 x1 x2 x3 x4 x5 x7 = z1
  funext y
  pointwise [add, mmt, cols]
  exact add_comm _ _

theorem r129 : val_main_v129 (F := Ideal) x0 x1 x2 x3 x4 x5 x7 = Ffn.DWG x0 x1 x2 x3 x4 x5 x7 := by
  unfold val_main_v129 val_main_v93 val_main_v92 val_main_v91 Ffn.DWG
  rw [r87, r52, r14]
  generalize Ffn.DPG x0 x1 x2 x3 x4 x5 x7 = z0
  generalize Ffn.DPV x0 x1 x2 x3 x4 x5 x7 = z1
  generalize Ffn.U x0 x1 = z2
  funext y
  pointwise [tmm]
  exact Finset.sum_congr rfl fun _ _ => mul_comm _ _

theorem r130 : val_main_v130 (F := Ideal) x0 x1 x2 x3 x4 x5 x7 = Ffn.DWV x0 x1 x2 x3 x4 x5 x7 := by
  unfold val_main_v130 val_main_v93 val_main_v92 val_main_v91 Ffn.DWV
  rw [r87, r52, r14]
  generalize Ffn.DPG x0 x1 x2 x3 x4 x5 x7 = z0
  generalize Ffn.DPV x0 x1 x2 x3 x4 x5 x7 = z1
  generalize Ffn.U x0 x1 = z2
  funext y
  pointwise [tmm]
  exact Finset.sum_congr rfl fun _ _ => mul_comm _ _

theorem r97 : val_main_v97 (F := Ideal) x0 x1 x2 x3 x4 x5 x7 = Ffn.DNW x0 x1 x2 x3 x4 x5 x7 := by
  unfold val_main_v97 val_main_v96 val_main_v95 val_main_v12 val_main_v11 Ffn.DNW
  rw [r94, r7]
  generalize Ffn.DU x0 x1 x2 x3 x4 x5 x7 = z0
  funext y
  pointwise [val_main_cst_18, rmsDw]

theorem r110 : val_main_v110 (F := Ideal) x0 x1 x2 x3 x4 x5 x7 = fun j => rmsQ x0 x1 (Ffn.DU x0 x1 x2 x3 x4 x5 x7) (j 0) := by
  unfold val_main_v110 val_main_v109 val_main_v108 val_main_v107 val_main_v106 val_main_v102 val_main_v101 val_main_v100 val_main_v99 val_main_v98 val_main_v10 val_main_v9 val_main_v8
  rw [r94, r7, r6]
  generalize Ffn.DU x0 x1 x2 x3 x4 x5 x7 = z0
  funext y
  pointwise [val_main_cst_19, val_main_cst_20, val_main_cst_21, val_main_cst_2, rmsQ]
  exact Fin.sum_univ_one _

theorem r114 : val_main_v114 (F := Ideal) x0 x1 x2 x3 x4 x5 x7 = Ffn.DX x0 x1 x2 x3 x4 x5 x7 := by
  unfold val_main_v114 val_main_v113 val_main_v112 val_main_v111 val_main_v105 val_main_v104 val_main_v103 val_main_v99 val_main_v98 Ffn.DX
  rw [r110, r94, r7]
  generalize Ffn.DU x0 x1 x2 x3 x4 x5 x7 = z0
  funext y
  pointwise [rmsDx]
  exact first_last _ _ _ _

theorem r127 : val_main_v127 (F := Ideal) x0 x1 x2 x3 x4 x5 x6 = Ffn.NX x0 x1 x2 x3 x4 x5 x6 := by
  unfold val_main_v127 val_main_v126 val_main_v125 val_main_v124 val_main_v123 val_main_v122 val_main_v121 val_main_v120 val_main_v119 val_main_v118 val_main_v117 val_main_v116 val_main_v115 Ffn.NX
  rw [r47]
  generalize Ffn.O x0 x1 x2 x3 x4 x5 = z0
  funext y
  pointwise [val_main_cst_22, val_main_cst_23, val_main_cst_24, rms, ms]

theorem r128 : val_main_v128 (F := Ideal) x0 x1 x2 x3 x4 x5 x7 = Ffn.DX x0 x1 x2 x3 x4 x5 x7 := by
  unfold val_main_v128
  rw [r114]
  generalize Ffn.DX x0 x1 x2 x3 x4 x5 x7 = z0
  funext y
  pointwise []

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = Ffn.O (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v127) = Ffn.NX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v114) = Ffn.DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v128) = Ffn.DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v97) = Ffn.DNW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v129) = Ffn.DWG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v130) = Ffn.DWV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v90) = Ffn.DCW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v56) = Ffn.DCB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v50) = Ffn.DWO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.FfnRefIdeal.Value.run m ρ)
  obtain ⟨h0, h1, h2, h3, h4, h5, h6, h7, h8, h9, h10, h11, h12, h13, h14, h15, h16, h17⟩ := h c
  exact ⟨h0.trans ((val_main_v47_eq _).trans (r47 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))),
    h1.trans ((val_main_v127_eq _).trans (r127 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))),
    h2.trans ((val_main_v114_eq _).trans (r114 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))),
    h3.trans ((val_main_v128_eq _).trans (r128 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))),
    h4.trans ((val_main_v97_eq _).trans (r97 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))),
    h5.trans ((val_main_v129_eq _).trans (r129 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))),
    h6.trans ((val_main_v130_eq _).trans (r130 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))),
    h7.trans ((val_main_v90_eq _).trans (r90 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))),
    h8.trans ((val_main_v56_eq _).trans (r56 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)))),
    h9.trans ((val_main_v50_eq _).trans (r50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)))),
    h10, h11, h12, h13, h14, h15, h16, h17⟩

end Cert.FfnRefIdeal.Val

end
-- ==== Proof.ProdSpec.lean ====
/- The products around the mixers: forward and backward, as functions of their arguments. -/
module

public import proofs.«01_k».proof.Proof.Spec

@[expose] public section

set_option maxRecDepth 16384

noncomputable section

namespace Cert.Spec

open Idealize.ShloMosaic

/-- The `P` parts of `n` columns each, one after another. -/
def parts {M N : ℕ} (P n : ℕ) (h : P * n = N) (X : Mat M N) : (⟨3, ![P, M, n]⟩ : Shape).Idx → EReal :=
  fun j => X (ix2 (j 1) ⟨n * (j 0).val + (j 2).val, by
    have h1 : (j 2).val < n := (j 2).isLt
    have h0 : (j 0).val + 1 ≤ P := (j 0).isLt
    calc n * (j 0).val + (j 2).val < n * (j 0).val + n := Nat.add_lt_add_left h1 _
      _ = n * ((j 0).val + 1) := (Nat.mul_succ _ _).symm
      _ ≤ n * P := Nat.mul_le_mul_left _ h0
      _ = N := by rw [Nat.mul_comm, h]⟩)

/-- The `n` rows from row `o` on. -/
abbrev rows {M N : ℕ} (o n : ℕ) (h : o + n ≤ M) (X : Mat M N) : Mat n N :=
  fun j => X (ix2 ⟨o + (j 0).val, lt_of_lt_of_le (Nat.add_lt_add_left (j 0).isLt o) h⟩ (j 1))

theorem rmsDx_rows {M n o : ℕ} (h : o + n ≤ M) (X D R : Mat M 1024) (w : Mat 1 1024) :
    rmsDx (rows o n h X) w (rows o n h D) (rows o n h R) = rows o n h (rmsDx X w D R) := rfl

/-- What row `r` adds to the gradient of a norm's weights. -/
abbrev dwRow {M : ℕ} (X D : Mat M 1024) (i : Fin 1024) (r : Fin M) : EReal :=
  X (ix2 r i) * Ideal.rsqrt (ms X r) * D (ix2 r i)

namespace HgIn

/-- The normed rows. -/
def U (x0 : Mat 4096 1024) (x1 : Mat 1 1024) : Mat 4096 1024 := rms x0 x1
/-- The projection. -/
def PA (x0 : Mat 4096 1024) (x1 : Mat 1 1024) (x2 : Mat 1024 5120) : Mat 4096 5120 := mm (U x0 x1) x2
/-- The gradient of the weights, a part of the columns after another. -/
def DW (x0 : Mat 4096 1024) (x1 : Mat 1 1024) (x3 : Mat 4096 5120) : (⟨3, ![8, 1024, 640]⟩ : Shape).Idx → EReal := parts 8 640 (by decide) (tmm (U x0 x1) x3)
/-- The cotangent of the normed rows. -/
def DU (x2 : Mat 1024 5120) (x3 : Mat 4096 5120) : Mat 4096 1024 := mmt x3 x2
/-- The gradient of the rows. -/
def DX (x0 : Mat 4096 1024) (x1 : Mat 1 1024) (x2 : Mat 1024 5120) (x3 : Mat 4096 5120) (x4 : Mat 4096 1024) : Mat 4096 1024 := rmsDx x0 x1 (DU x2 x3) x4
/-- The gradient of the norm's weights. -/
def DNW (x0 : Mat 4096 1024) (x2 : Mat 1024 5120) (x3 : Mat 4096 5120) : Mat 1 1024 := rmsDw x0 (DU x2 x3)

end HgIn

namespace MbIn

/-- The first columns of the weights. -/
def WZ (x2 : Mat 1024 6208) : Mat 1024 2048 := cols 0 2048 (by decide) x2
/-- The middle columns of the weights. -/
def WX (x2 : Mat 1024 6208) : Mat 1024 4096 := cols 2048 4096 (by decide) x2
/-- The last columns of the weights. -/
def WT (x2 : Mat 1024 6208) : Mat 1024 64 := cols 6144 64 (by decide) x2
/-- The normed rows. -/
def U (x0 : Mat 4096 1024) (x1 : Mat 1 1024) : Mat 4096 1024 := rms x0 x1
/-- The first part of the projection. -/
def Z (x0 : Mat 4096 1024) (x1 : Mat 1 1024) (x2 : Mat 1024 6208) : Mat 4096 2048 := mm (U x0 x1) (WZ x2)
/-- The middle part of the projection. -/
def XB (x0 : Mat 4096 1024) (x1 : Mat 1 1024) (x2 : Mat 1024 6208) : Mat 4096 4096 := mm (U x0 x1) (WX x2)
/-- The last part of the projection. -/
def T (x0 : Mat 4096 1024) (x1 : Mat 1 1024) (x2 : Mat 1024 6208) : Mat 4096 64 := mm (U x0 x1) (WT x2)
/-- The first part's share of the normed rows' cotangent. -/
def DUZ (x2 : Mat 1024 6208) (x3 : Mat 4096 2048) : Mat 4096 1024 := mmt x3 (WZ x2)
/-- The first two parts' share of it. -/
def DUX (x2 : Mat 1024 6208) (x3 : Mat 4096 2048) (x4 : Mat 4096 4096) : Mat 4096 1024 := add (mmt x4 (WX x2)) (DUZ x2 x3)
/-- The cotangent of the normed rows. -/
def DU (x2 : Mat 1024 6208) (x3 : Mat 4096 2048) (x4 : Mat 4096 4096) (x5 : Mat 4096 64) : Mat 4096 1024 := add (mmt x5 (WT x2)) (DUX x2 x3 x4)
/-- The gradient of the first columns of the weights. -/
def DWZ (x0 : Mat 4096 1024) (x1 : Mat 1 1024) (x3 : Mat 4096 2048) : Mat 1024 2048 := tmm (U x0 x1) x3
/-- The gradient of the middle columns. -/
def DWX (x0 : Mat 4096 1024) (x1 : Mat 1 1024) (x4 : Mat 4096 4096) : Mat 1024 4096 := tmm (U x0 x1) x4
/-- The gradient of the last columns. -/
def DWT (x0 : Mat 4096 1024) (x1 : Mat 1 1024) (x5 : Mat 4096 64) : Mat 1024 64 := tmm (U x0 x1) x5
/-- The gradient of the rows. -/
def DX (x0 : Mat 4096 1024) (x1 : Mat 1 1024) (x2 : Mat 1024 6208) (x3 : Mat 4096 2048) (x4 : Mat 4096 4096) (x5 : Mat 4096 64) (x6 : Mat 4096 1024) : Mat 4096 1024 := rmsDx x0 x1 (DU x2 x3 x4 x5) x6
/-- The gradient of the norm's weights. -/
def DNW (x0 : Mat 4096 1024) (x2 : Mat 1024 6208) (x3 : Mat 4096 2048) (x4 : Mat 4096 4096) (x5 : Mat 4096 64) : Mat 1 1024 := rmsDw x0 (DU x2 x3 x4 x5)

end MbIn

namespace HgOut

/-- The rows after the mixer. -/
def O (x0 : Mat 4096 1024) (x1 : Mat 1024 1024) (x2 : Mat 4096 1024) : Mat 4096 1024 := add (mm x0 x1) x2
/-- Those rows normed. -/
def NX (x0 : Mat 4096 1024) (x1 : Mat 1024 1024) (x2 : Mat 4096 1024) (x3 : Mat 1 1024) : Mat 4096 1024 := rms (O x0 x1 x2) x3
/-- The cotangent of the mixer's rows. -/
def DY (x1 : Mat 1024 1024) (x4 : Mat 4096 1024) : Mat 4096 1024 := mmt x4 x1
/-- The gradient of the weights. -/
def DWO (x0 : Mat 4096 1024) (x4 : Mat 4096 1024) : Mat 1024 1024 := tmm x0 x4

end HgOut

namespace MbOut

/-- The rows after the mixer. -/
def O (x0 : Mat 4096 2048) (x1 : Mat 2048 1024) (x2 : Mat 4096 1024) : Mat 4096 1024 := add (mm x0 x1) x2
/-- Those rows normed. -/
def NX (x0 : Mat 4096 2048) (x1 : Mat 2048 1024) (x2 : Mat 4096 1024) (x3 : Mat 1 1024) : Mat 4096 1024 := rms (O x0 x1 x2) x3
/-- The cotangent of the mixer's rows. -/
def DY (x1 : Mat 2048 1024) (x4 : Mat 4096 1024) : Mat 4096 2048 := mmt x4 x1
/-- The gradient of the weights. -/
def DWO (x0 : Mat 4096 2048) (x4 : Mat 4096 1024) : Mat 2048 1024 := tmm x0 x4

end MbOut

end Cert.Spec

end
-- ==== Proof.HgInMat.lean ====
/- The products of the projection and its forward norm: what each of those regions leaves, from what it finds. -/
module

public import proofs.«01_k».proof.Proof.ProdSpec
public import proofs.«01_k».proof.Proof.Gen.HgInIdeal.Frame

@[expose] public section

set_option maxRecDepth 16384

noncomputable section

namespace Cert.HgInIdeal.Val

open Cert.HgInIdeal Cert.HgInIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem point0 (c : Dev nD) (t : Fin cfg0.N) (y : S256x1024.Idx) :
    k0_pay1 (iblk0 V c 0 t) (iblk0 V c 1 t) y
      = rms (M := 4096) (V c main_arg0) (V c main_arg1) (((cfg0.win 2).blk t).view.emb y) := by
  pointwise [k0_pay1, rms, ms]
  blk_point [iblk0, idx0 t]

theorem val0 (c : Dev nD) : (dat0 V c).arrAt 2 cfg0.N
      = rms (M := 4096) (V c main_arg0) (V c main_arg1) := by
  refine (dat0 V c).arrAt_eq_of_covers 2 _ (by decide +kernel) fun t _ y => ?_
  blk_simp
  rw [after0_2]; frame_out
  exact point0 V c t y

theorem idx1 : ∀ t : Fin cfg1.N, win1_0.index t = ![0, 0] ∧ win1_1.index t = ![0, t.val] ∧ win1_2.index t = ![0, t.val] :=
  (by decide +kernel : ∀ t : Fin grid1.N, _)

theorem point1 (c : Dev nD) (t : Fin cfg1.N) (y : S4096x512.Idx) :
    k1_pay1 (iblk1 V c 0 t) (iblk1 V c 1 t) y
      = mm (M := 4096) (K := 1024) (N := 5120) (V c main_v2) (V c main_v0) (((cfg1.win 2).blk t).view.emb y) := by
  pointwise [k1_pay1, mm]
  blk_point [iblk1, idx1 t]

theorem val1 (c : Dev nD) : (dat1 V c).arrAt 2 cfg1.N
      = mm (M := 4096) (K := 1024) (N := 5120) (V c main_v2) (V c main_v0) := by
  refine (dat1 V c).arrAt_eq_of_covers 2 _ (by decide +kernel) fun t _ y => ?_
  blk_simp
  rw [after1_2]; frame_out
  exact point1 V c t y

theorem idx2 : ∀ t : Fin cfg2.N, win2_0.index t = ![0, 0] ∧ win2_1.index t = ![0, t.val] ∧ win2_2.index t = ![t.val, 0, 0] :=
  (by decide +kernel : ∀ t : Fin grid2.N, _)

theorem point2 (c : Dev nD) (t : Fin cfg2.N) (y : S1x1024x640.Idx) :
    k2_pay1 (iblk2 V c 0 t) (iblk2 V c 1 t) y
      = parts 8 640 (by decide) (tmm (K := 4096) (M := 1024) (N := 5120) (V c main_v2) (V c main_v1)) (((cfg2.win 2).blk t).view.emb y) := by
  pointwise [k2_pay1, parts, tmm]
  blk_point [iblk2, idx2 t]

theorem val2 (c : Dev nD) : (dat2 V c).arrAt 2 cfg2.N
      = parts 8 640 (by decide) (tmm (K := 4096) (M := 1024) (N := 5120) (V c main_v2) (V c main_v1)) := by
  refine (dat2 V c).arrAt_eq_of_covers 2 _ (by decide +kernel) fun t _ y => ?_
  blk_simp
  rw [after2_2]; frame_out
  exact point2 V c t y

end Cert.HgInIdeal.Val

end
-- ==== Proof.HgInNorm.lean ====
/- The last region of the projection: the product with the weights, and the gradient of the forward norm, whose
   weights' part is summed over the rows point by point. -/
module

public import proofs.«01_k».proof.Proof.ProdSpec
public import proofs.«01_k».proof.Proof.Gen.HgInIdeal.Frame

@[expose] public section

set_option maxRecDepth 16384

noncomputable section

namespace Cert.HgInIdeal.Val

open Cert.HgInIdeal Cert.HgInIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The norm's gradient: the payloads on a block of 256 rows -/

section
variable (p : Vec Ideal S256x5120 .bf16) (w : Vec Ideal S1024x5120 .bf16) (h : Vec Ideal S256x1024 .f32) (g : Vec Ideal S1x1024 .f32)
  (r : Vec Ideal S256x1024 .f32)

/-- The cotangent of the norm on a block. -/
abbrev duB : Mat 256 1024 := mmt (M := 256) (K := 5120) (N := 1024) p w

theorem kpay5 : k3_pay5 p w = duB p w := by
  funext y; pointwise [k3_pay5, duB, mmt]

theorem kpay6 : k3_pay6 h = fun j => ms (M := 256) h (j 0) := by
  funext y; pointwise [k3_pay6, ms]

theorem kpay7 : k3_pay7 h = fun j => Ideal.rsqrt (ms (M := 256) h (j 0)) := by
  funext y; unfold k3_pay7; rw [kpay6]; pointwise []

theorem kpay1 : k3_pay1 (k3_pay9 p w h g) r = rmsDx (M := 256) h g (duB p w) r := by
  funext y; unfold k3_pay1 k3_pay9; rw [kpay5, kpay6, kpay7]; generalize duB p w = D; pointwise [rmsDx, rmsQ]; rw [Fin.sum_univ_one]

theorem kpay2 : k3_pay2 (k3_pay9 p w h g) r = rmsDx (M := 256) h g (duB p w) r := by
  funext y; unfold k3_pay2; rw [kpay1]; generalize duB p w = D; pointwise []

theorem kpay8 : k3_pay8 p w h = rmsDw (M := 256) h (duB p w) := by
  funext y; unfold k3_pay8; rw [kpay5, kpay7]; generalize duB p w = D; pointwise [rmsDw]

theorem kpay4 (x acc : Vec Ideal S1x1024 .f32) (j : S1x1024.Idx) : k3_pay4 x acc j = acc j + x j := by pointwise [k3_pay4]
theorem kpay3 (j : S1x1024.Idx) : k3_pay3 (F := Ideal) j = 0 := by pointwise [k3_pay3]
end

theorem idx3 : ∀ t : Fin cfg3.N, win3_0.index t = ![t.val, 0] ∧ win3_1.index t = ![0, 0] ∧ win3_2.index t = ![t.val, 0] ∧ win3_3.index t = ![0, 0] ∧ win3_4.index t = ![t.val, 0] ∧ win3_5.index t = ![t.val, 0] ∧ win3_6.index t = ![t.val, 0] ∧ win3_7.index t = ![0, 0] :=
  (by decide +kernel : ∀ t : Fin grid3.N, _)

/-- The cotangent of the norm. -/
abbrev du (c : Dev nD) : Mat 4096 1024 :=
  mmt (M := 4096) (K := 5120) (N := 1024) (V c main_v1) (V c main_v0)

theorem bnd3 (t : Fin cfg3.N) : t.val * 256 + 256 ≤ 4096 := by
  have h : t.val < 16 := lt_of_lt_of_eq t.isLt N_3
  omega

theorem blk3_0 (c : Dev nD) (t : Fin cfg3.N) :
    (iblk3 V c 0 t : Mat 256 5120) = rows (M := 4096) (t.val * 256) 256 (bnd3 t) (V c main_v1) := by
  funext y; unfold rows; blk_ext [iblk3, idx3 t]

theorem blk3_1 (c : Dev nD) (t : Fin cfg3.N) : (iblk3 V c 1 t : Mat 1024 5120) = V c main_v0 := by
  funext y; blk_ext [iblk3, idx3 t]

theorem blk3_2 (c : Dev nD) (t : Fin cfg3.N) :
    (iblk3 V c 2 t : Mat 256 1024) = rows (M := 4096) (t.val * 256) 256 (bnd3 t) (V c main_arg0) := by
  funext y; unfold rows; blk_ext [iblk3, idx3 t]

theorem blk3_3 (c : Dev nD) (t : Fin cfg3.N) : (iblk3 V c 3 t : Mat 1 1024) = V c main_arg1 := by
  funext y; blk_ext [iblk3, idx3 t]

theorem blk3_4 (c : Dev nD) (t : Fin cfg3.N) :
    (iblk3 V c 4 t : Mat 256 1024) = rows (M := 4096) (t.val * 256) 256 (bnd3 t) (V c main_arg4) := by
  funext y; unfold rows; blk_ext [iblk3, idx3 t]

theorem duB_rows (c : Dev nD) (t : Fin cfg3.N) : duB (iblk3 V c 0 t) (iblk3 V c 1 t)
    = rows (M := 4096) (t.val * 256) 256 (bnd3 t) (du V c) := by
  unfold duB
  rw [blk3_0, blk3_1]
  rfl

theorem v3_5 (c : Dev nD) : (dat3 V c).arrAt 5 cfg3.N
      = rmsDx (M := 4096) (V c main_arg0) (V c main_arg1) (du V c) (V c main_arg4) := by
  refine (dat3 V c).arrAt_eq_of_covers 5 _ (by decide +kernel) fun t _ y => ?_
  blk_simp
  rw [after3_5]
  refine Eq.trans (b := rmsDx (M := 256) (iblk3 V c 2 t) (iblk3 V c 3 t) (duB (iblk3 V c 0 t) (iblk3 V c 1 t))
    (iblk3 V c 4 t) y) ?_ ?_
  · by_cases h0 : t.val % 16 = 0
    · rw [outsAt3_A V c t h0]; frame_out; rw [kpay1]
    · rw [outsAt3_B V c t h0]; frame_out; rw [kpay1]
  · rw [duB_rows, blk3_2, blk3_3, blk3_4, rmsDx_rows]
    unfold rows
    blk_ext [idx3 t]

theorem v3_6 (c : Dev nD) : (dat3 V c).arrAt 6 cfg3.N
      = rmsDx (M := 4096) (V c main_arg0) (V c main_arg1) (du V c) (V c main_arg4) := by
  refine (dat3 V c).arrAt_eq_of_covers 6 _ (by decide +kernel) fun t _ y => ?_
  blk_simp
  rw [after3_6]
  refine Eq.trans (b := rmsDx (M := 256) (iblk3 V c 2 t) (iblk3 V c 3 t) (duB (iblk3 V c 0 t) (iblk3 V c 1 t))
    (iblk3 V c 4 t) y) ?_ ?_
  · by_cases h0 : t.val % 16 = 0
    · rw [outsAt3_A V c t h0]; frame_out; rw [kpay2]
    · rw [outsAt3_B V c t h0]; frame_out; rw [kpay2]
  · rw [duB_rows, blk3_2, blk3_3, blk3_4, rmsDx_rows]
    unfold rows
    blk_ext [idx3 t]

theorem kpay8_rows (c : Dev nD) (t : Fin cfg3.N) : k3_pay8 (iblk3 V c 0 t) (iblk3 V c 1 t) (iblk3 V c 2 t)
    = fun j : (Sh 1 1024).Idx => ∑ k : Fin 256, dwRow (V c main_arg0 : Mat 4096 1024) (du V c) (j 1)
      ⟨t.val * 256 + k.val, lt_of_lt_of_le (Nat.add_lt_add_left k.isLt _) (bnd3 t)⟩ := by
  rw [kpay8, duB_rows, blk3_2]
  rfl

theorem v3_7 (c : Dev nD) : (dat3 V c).arrAt 7 cfg3.N = rmsDw (M := 4096) (V c main_arg0) (du V c) := by
  refine (dat3 V c).arrAt_eq_of_covers 7 _ (by decide +kernel) fun t hf y => ?_
  have ht : t.val < 16 := lt_of_lt_of_eq t.isLt N_3
  blk_simp
  rw [after3_7, Pipeline.eq_sum_fin_of_reset_step_apply_of_flush (fun n h => (outsAt3 V c n h).2.2) 16 (fun _ => 0) _
    (fun t h j => by rw [outsAt3_A V c t h]; frame_out; rw [kpay4, kpay3])
    (fun t h j => by rw [outsAt3_B V c t h]; frame_out; rw [kpay4]) t ((flush3_7 t).mp hf) _, zero_add]
  have e : (win3_7.blk t).view.emb y = (y : (Sh 1 1024).Idx) := by blk_ext [idx3 t]
  rw [e]
  refine (Fin.sum_fin_congr fun s => congrFun (kpay8_rows V c _) y).trans ?_
  unfold rmsDw
  refine Fin.sum_mul_add_congr fun s k hl => ?_
  refine congrArg (dwRow (V c main_arg0 : Mat 4096 1024) (du V c) (y 1)) (Fin.ext ?_)
  show (16 * (t.val / 16) + s.val) * 256 + k.val = s.val * 256 + k.val
  omega

end Cert.HgInIdeal.Val

end
-- ==== Proof.HgInRun.lean ====
/- The projection runs, and what it leaves: the regions one after another. -/
module

public import proofs.«01_k».proof.Proof.ProdSpec
public import proofs.«01_k».proof.Proof.HgInMat
public import proofs.«01_k».proof.Proof.HgInNorm
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.HgInIdeal.Val

open Cert.HgInIdeal Cert.HgInIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W5 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W5 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W5 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem arg3 (c : Dev nD) (a : Ref sig .tc) (h : a ∈ argRefs) : V3 m ρ c a = m ((c : Thread nD τ).loc a) := W3_args m ρ c a h

theorem arg4 (c : Dev nD) (a : Ref sig .tc) (h : a ∈ argRefs) : V4 m ρ c a = m ((c : Thread nD τ).loc a) := W4_args m ρ c a h

theorem arg5 (c : Dev nD) (a : Ref sig .tc) (h : a ∈ argRefs) : V5 m ρ c a = m ((c : Thread nD τ).loc a) := W5_args m ρ c a h

theorem at_main_v0_1 (c : Dev nD) : V1 m ρ c main_v0 = m ((c : Thread nD τ).loc main_arg2) := by
  show StableHlo.after hostOps0 (W0 m ρ c) (Proc.devRef .tc main_v0) = _
  unfold_abbrev_sides
  after_results
  rfl

theorem at_main_v1_1 (c : Dev nD) : V1 m ρ c main_v1 = m ((c : Thread nD τ).loc main_arg3) := by
  show StableHlo.after hostOps0 (W0 m ρ c) (Proc.devRef .tc main_v1) = _
  unfold_abbrev_sides
  after_results
  rfl

theorem at_main_v2_2 (c : Dev nD) : V2 m ρ c main_v2 = Cert.Spec.HgIn.U (m ((c : Thread nD τ).loc main_arg0)) (m ((c : Thread nD τ).loc main_arg1)) := by
  refine (W2_arr m ρ c 2).trans ((val0 (V1 m ρ) c).trans ?_)
  rw [arg1 m ρ c main_arg0 (by decide), arg1 m ρ c main_arg1 (by decide)]
  rfl

theorem at_main_v0_2 (c : Dev nD) : V2 m ρ c main_v0 = m ((c : Thread nD τ).loc main_arg2) :=
  (W2_of m ρ c main_v0 (by decide)).trans (at_main_v0_1 m ρ c)

theorem at_main_v3_3 (c : Dev nD) : V3 m ρ c main_v3 = Cert.Spec.HgIn.PA (m ((c : Thread nD τ).loc main_arg0)) (m ((c : Thread nD τ).loc main_arg1)) (m ((c : Thread nD τ).loc main_arg2)) := by
  refine (W3_arr m ρ c 2).trans ((val1 (V2 m ρ) c).trans ?_)
  rw [at_main_v2_2 m ρ c, at_main_v0_2 m ρ c]
  rfl

theorem at_main_v2_3 (c : Dev nD) : V3 m ρ c main_v2 = Cert.Spec.HgIn.U (m ((c : Thread nD τ).loc main_arg0)) (m ((c : Thread nD τ).loc main_arg1)) :=
  (W3_of m ρ c main_v2 (by decide)).trans (at_main_v2_2 m ρ c)

theorem at_main_v1_2 (c : Dev nD) : V2 m ρ c main_v1 = m ((c : Thread nD τ).loc main_arg3) :=
  (W2_of m ρ c main_v1 (by decide)).trans (at_main_v1_1 m ρ c)

theorem at_main_v1_3 (c : Dev nD) : V3 m ρ c main_v1 = m ((c : Thread nD τ).loc main_arg3) :=
  (W3_of m ρ c main_v1 (by decide)).trans (at_main_v1_2 m ρ c)

theorem at_main_v4_4 (c : Dev nD) : V4 m ρ c main_v4 = Cert.Spec.HgIn.DW (m ((c : Thread nD τ).loc main_arg0)) (m ((c : Thread nD τ).loc main_arg1)) (m ((c : Thread nD τ).loc main_arg3)) := by
  refine (W4_arr m ρ c 2).trans ((val2 (V3 m ρ) c).trans ?_)
  rw [at_main_v2_3 m ρ c, at_main_v1_3 m ρ c]
  rfl

theorem at_main_v1_4 (c : Dev nD) : V4 m ρ c main_v1 = m ((c : Thread nD τ).loc main_arg3) :=
  (W4_of m ρ c main_v1 (by decide)).trans (at_main_v1_3 m ρ c)

theorem at_main_v0_3 (c : Dev nD) : V3 m ρ c main_v0 = m ((c : Thread nD τ).loc main_arg2) :=
  (W3_of m ρ c main_v0 (by decide)).trans (at_main_v0_2 m ρ c)

theorem at_main_v0_4 (c : Dev nD) : V4 m ρ c main_v0 = m ((c : Thread nD τ).loc main_arg2) :=
  (W4_of m ρ c main_v0 (by decide)).trans (at_main_v0_3 m ρ c)

theorem at_main_v5_0_5 (c : Dev nD) : V5 m ρ c main_v5_0 = Cert.Spec.HgIn.DX (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 5).trans ((v3_5 (V4 m ρ) c).trans ?_)
  unfold du
  rw [at_main_v1_4 m ρ c, at_main_v0_4 m ρ c, arg4 m ρ c main_arg0 (by decide), arg4 m ρ c main_arg1 (by decide), arg4 m ρ c main_arg4 (by decide)]
  rfl

theorem at_main_v5_1_5 (c : Dev nD) : V5 m ρ c main_v5_1 = Cert.Spec.HgIn.DX (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 6).trans ((v3_6 (V4 m ρ) c).trans ?_)
  unfold du
  rw [at_main_v1_4 m ρ c, at_main_v0_4 m ρ c, arg4 m ρ c main_arg0 (by decide), arg4 m ρ c main_arg1 (by decide), arg4 m ρ c main_arg4 (by decide)]
  rfl

theorem at_main_v5_2_5 (c : Dev nD) : V5 m ρ c main_v5_2 = Cert.Spec.HgIn.DNW (m ((c : Thread nD τ).loc main_arg0)) (m ((c : Thread nD τ).loc main_arg2)) (m ((c : Thread nD τ).loc main_arg3)) := by
  refine (W5_arr m ρ c 7).trans ((v3_7 (V4 m ρ) c).trans ?_)
  unfold du
  rw [at_main_v1_4 m ρ c, at_main_v0_4 m ρ c, arg4 m ρ c main_arg0 (by decide)]
  rfl

theorem at_main_v3_4 (c : Dev nD) : V4 m ρ c main_v3 = Cert.Spec.HgIn.PA (m ((c : Thread nD τ).loc main_arg0)) (m ((c : Thread nD τ).loc main_arg1)) (m ((c : Thread nD τ).loc main_arg2)) :=
  (W4_of m ρ c main_v3 (by decide)).trans (at_main_v3_3 m ρ c)

theorem at_main_v3_5 (c : Dev nD) : V5 m ρ c main_v3 = Cert.Spec.HgIn.PA (m ((c : Thread nD τ).loc main_arg0)) (m ((c : Thread nD τ).loc main_arg1)) (m ((c : Thread nD τ).loc main_arg2)) :=
  (W5_of m ρ c main_v3 (by decide)).trans (at_main_v3_4 m ρ c)

theorem at_main_v4_5 (c : Dev nD) : V5 m ρ c main_v4 = Cert.Spec.HgIn.DW (m ((c : Thread nD τ).loc main_arg0)) (m ((c : Thread nD τ).loc main_arg1)) (m ((c : Thread nD τ).loc main_arg3)) :=
  (W5_of m ρ c main_v4 (by decide)).trans (at_main_v4_4 m ρ c)

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.mem ((c.tc : Thread nD τ).loc main_v3) = Cert.Spec.HgIn.PA (m ((c : Thread nD τ).loc main_arg0)) (m ((c : Thread nD τ).loc main_arg1)) (m ((c : Thread nD τ).loc main_arg2))
      ∧ r.2.mem ((c.tc : Thread nD τ).loc main_v4) = Cert.Spec.HgIn.DW (m ((c : Thread nD τ).loc main_arg0)) (m ((c : Thread nD τ).loc main_arg1)) (m ((c : Thread nD τ).loc main_arg3))
      ∧ r.2.mem ((c.tc : Thread nD τ).loc main_v5_0) = Cert.Spec.HgIn.DX (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v5_1) = Cert.Spec.HgIn.DX (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v5_2) = Cert.Spec.HgIn.DNW (m ((c : Thread nD τ).loc main_arg0)) (m ((c : Thread nD τ).loc main_arg2)) (m ((c : Thread nD τ).loc main_arg3)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V5 m ρ c b :=
    fun b hb => h.1 c _ (mem_uc b hb)
  exact ⟨⟨(g main_arg0 (by decide)).trans (arg5 m ρ c main_arg0 (by decide)), (g main_arg1 (by decide)).trans (arg5 m ρ c main_arg1 (by decide)), (g main_arg2 (by decide)).trans (arg5 m ρ c main_arg2 (by decide)), (g main_arg3 (by decide)).trans (arg5 m ρ c main_arg3 (by decide)), (g main_arg4 (by decide)).trans (arg5 m ρ c main_arg4 (by decide))⟩,
    (g main_v3 (by decide)).trans (at_main_v3_5 m ρ c),
    (g main_v4 (by decide)).trans (at_main_v4_5 m ρ c),
    (g main_v5_0 (by decide)).trans (at_main_v5_0_5 m ρ c),
    (g main_v5_1 (by decide)).trans (at_main_v5_1_5 m ρ c),
    (g main_v5_2 (by decide)).trans (at_main_v5_2_5 m ρ c)⟩

end Cert.HgInIdeal.Val

end
-- ==== Proof.HgInRef.lean ====
/- The reference's results are the projection's mathematics. -/
module

public import proofs.«01_k».proof.Proof.ProdSpec
public import proofs.«01_k».proof.Proof.Gen.HgInRefIdeal.Read

@[expose] public section

set_option maxRecDepth 16384

noncomputable section

namespace Cert.HgInRefIdeal.Val

open Cert.HgInRefIdeal Cert.HgInRefIdeal.Gen Cert.HgInRefIdeal.Read Cert.Spec Idealize.ShloMosaic Idealize.ShloMosaic.TcCoe Idealize.SL.Sem

variable (x0 : Mat 4096 1024) (x1 : Mat 1 1024) (x2 : Mat 1024 5120) (x3 : Mat 4096 5120) (x4 : Mat 4096 1024)

theorem first_last (a b c d : EReal) : d + a + b + c = a + b + c + d := by abel

theorem r_v7 : val_main_v7 (F := Ideal) x0 = fun j => Ideal.rsqrt (ms (M := 4096) x0 (j 0)) := by
  funext y
  pointwise [val_main_v7, val_main_v6, val_main_v5, val_main_v4, val_main_v3, val_main_v2, val_main_v1, val_main_v0, val_main_cst, val_main_cst_0, val_main_cst_1, ms]

theorem r_v6 : val_main_v6 (F := Ideal) x0 = fun j => ms (M := 4096) x0 (j 0) := by
  funext y
  pointwise [val_main_v6, val_main_v5, val_main_v4, val_main_v3, val_main_v2, val_main_v1, val_main_v0, val_main_cst, val_main_cst_0, val_main_cst_1, ms]

theorem r_v14 : val_main_v14 (F := Ideal) x0 x1 = HgIn.U x0 x1 := by
  unfold val_main_v14 val_main_v12 val_main_v11 val_main_v13 HgIn.U
  rw [r_v7]
  funext y
  pointwise [rms]

theorem r_v15 : val_main_v15 (F := Ideal) x0 x1 x2 = HgIn.PA x0 x1 x2 := by
  unfold val_main_v15 HgIn.PA
  rw [r_v14]
  generalize HgIn.U x0 x1 = z0
  funext y
  pointwise [mm]

theorem r_v18 : val_main_v18 (F := Ideal) x2 x3 = HgIn.DU x2 x3 := by
  unfold val_main_v18 HgIn.DU
  funext y
  pointwise [mmt]

theorem r_v40 : val_main_v40 (F := Ideal) x0 x1 x3 = HgIn.DW x0 x1 x3 := by
  unfold val_main_v40 val_main_v39 val_main_v17 val_main_v16 HgIn.DW
  rw [r_v14]
  generalize HgIn.U x0 x1 = z0
  funext y
  pointwise [parts, tmm]
  refine Finset.sum_congr rfl fun k _ => ?_
  rw [mul_comm]
  exact congrArg (fun i => z0 (ix2 k (y 1)) * x3 (ix2 k i)) (Fin.ext (congrArg (· + (y 2).val) (Nat.mul_comm _ _)))

theorem r_v21 : val_main_v21 (F := Ideal) x0 x2 x3 = HgIn.DNW x0 x2 x3 := by
  unfold val_main_v21 val_main_v20 val_main_v19 val_main_v12 val_main_v11 HgIn.DNW
  rw [r_v18, r_v7]
  generalize HgIn.DU x2 x3 = z0
  funext y
  pointwise [val_main_cst_3, rmsDw]

theorem r_v33 : val_main_v33 (F := Ideal) x0 x1 x2 x3 = fun j => rmsQ x0 x1 (HgIn.DU x2 x3) (j 0) := by
  unfold val_main_v33 val_main_v32 val_main_v31 val_main_v30 val_main_v26 val_main_v25 val_main_v24 val_main_v23 val_main_v22 val_main_v10 val_main_v9 val_main_v8
  rw [r_v18, r_v7, r_v6]
  generalize HgIn.DU x2 x3 = z0
  funext y
  pointwise [val_main_cst_4, val_main_cst_5, val_main_cst_6, val_main_cst_2, rmsQ]
  exact Fin.sum_univ_one _

theorem r_v38 : val_main_v38 (F := Ideal) x0 x1 x2 x3 x4 = HgIn.DX x0 x1 x2 x3 x4 := by
  unfold val_main_v38 val_main_v37 val_main_v36 val_main_v35 val_main_v34 val_main_v29 val_main_v28 val_main_v27 val_main_v23 val_main_v22 HgIn.DX
  rw [r_v33, r_v18, r_v7]
  generalize HgIn.DU x2 x3 = z0
  funext y
  pointwise [rmsDx]
  exact first_last _ _ _ _

theorem r_v41 : val_main_v41 (F := Ideal) x0 x1 x2 x3 x4 = HgIn.DX x0 x1 x2 x3 x4 := by
  unfold val_main_v41
  rw [r_v38]
  generalize HgIn.DX x0 x1 x2 x3 x4 = z0
  funext y
  pointwise []

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = HgIn.PA (m ((c.tc : Thread nD τ).loc main_arg0)) (m ((c.tc : Thread nD τ).loc main_arg1)) (m ((c.tc : Thread nD τ).loc main_arg2))
      ∧ r.2.mem ((c.tc : Thread nD τ).loc main_v40) = HgIn.DW (m ((c.tc : Thread nD τ).loc main_arg0)) (m ((c.tc : Thread nD τ).loc main_arg1)) (m ((c.tc : Thread nD τ).loc main_arg3))
      ∧ r.2.mem ((c.tc : Thread nD τ).loc main_v38) = HgIn.DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v41) = HgIn.DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v21) = HgIn.DNW (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.HgInRefIdeal.Value.run m ρ)
  obtain ⟨h0, h1, h2, h3, h4, h5, h6, h7, h8, h9⟩ := h c
  exact ⟨h0.trans ((val_main_v15_eq ..).trans (r_v15 ..)),
    h1.trans ((val_main_v40_eq ..).trans (r_v40 ..)),
    h2.trans ((val_main_v38_eq ..).trans (r_v38 ..)),
    h3.trans ((val_main_v41_eq ..).trans (r_v41 ..)),
    h4.trans ((val_main_v21_eq ..).trans (r_v21 ..)),
    h5, h6, h7, h8, h9⟩

end Cert.HgInRefIdeal.Val

end
-- ==== Proof.MbInMat.lean ====
/- The products of the projection and its forward norm: what each of those regions leaves, from what it finds. -/
module

public import proofs.«01_k».proof.Proof.ProdSpec
public import proofs.«01_k».proof.Proof.Gen.MbInIdeal.Frame

@[expose] public section

set_option maxRecDepth 16384

noncomputable section

namespace Cert.MbInIdeal.Val

open Cert.MbInIdeal Cert.MbInIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem point0 (c : Dev nD) (t : Fin cfg0.N) (y : S256x1024.Idx) :
    k0_pay1 (iblk0 V c 0 t) (iblk0 V c 1 t) y
      = rms (M := 4096) (V c main_arg0) (V c main_arg1) (((cfg0.win 2).blk t).view.emb y) := by
  pointwise [k0_pay1, rms, ms]
  blk_point [iblk0, idx0 t]

theorem val0 (c : Dev nD) : (dat0 V c).arrAt 2 cfg0.N
      = rms (M := 4096) (V c main_arg0) (V c main_arg1) := by
  refine (dat0 V c).arrAt_eq_of_covers 2 _ (by decide +kernel) fun t _ y => ?_
  blk_simp
  rw [after0_2]; frame_out
  exact point0 V c t y

theorem idx1 : ∀ t : Fin cfg1.N, win1_0.index t = ![t.val, 0] ∧ win1_1.index t = ![0, 0] ∧ win1_2.index t = ![t.val, 0] :=
  (by decide +kernel : ∀ t : Fin grid1.N, _)

theorem point1 (c : Dev nD) (t : Fin cfg1.N) (y : S1024x2048.Idx) :
    k1_pay1 (iblk1 V c 0 t) (iblk1 V c 1 t) y
      = mm (M := 4096) (K := 1024) (N := 2048) (V c main_v7) (V c main_v4) (((cfg1.win 2).blk t).view.emb y) := by
  pointwise [k1_pay1, mm]
  blk_point [iblk1, idx1 t]

theorem val1 (c : Dev nD) : (dat1 V c).arrAt 2 cfg1.N
      = mm (M := 4096) (K := 1024) (N := 2048) (V c main_v7) (V c main_v4) := by
  refine (dat1 V c).arrAt_eq_of_covers 2 _ (by decide +kernel) fun t _ y => ?_
  blk_simp
  rw [after1_2]; frame_out
  exact point1 V c t y

theorem idx2 : ∀ t : Fin cfg2.N, win2_0.index t = ![t.val, 0] ∧ win2_1.index t = ![0, 0] ∧ win2_2.index t = ![t.val, 0] :=
  (by decide +kernel : ∀ t : Fin grid2.N, _)

theorem point2 (c : Dev nD) (t : Fin cfg2.N) (y : S512x4096.Idx) :
    k2_pay1 (iblk2 V c 0 t) (iblk2 V c 1 t) y
      = mm (M := 4096) (K := 1024) (N := 4096) (V c main_v7) (V c main_v5) (((cfg2.win 2).blk t).view.emb y) := by
  pointwise [k2_pay1, mm]
  blk_point [iblk2, idx2 t]

theorem val2 (c : Dev nD) : (dat2 V c).arrAt 2 cfg2.N
      = mm (M := 4096) (K := 1024) (N := 4096) (V c main_v7) (V c main_v5) := by
  refine (dat2 V c).arrAt_eq_of_covers 2 _ (by decide +kernel) fun t _ y => ?_
  blk_simp
  rw [after2_2]; frame_out
  exact point2 V c t y

theorem idx3 : ∀ t : Fin cfg3.N, win3_0.index t = ![0, 0] ∧ win3_1.index t = ![0, 0] ∧ win3_2.index t = ![0, 0] :=
  (by decide +kernel : ∀ t : Fin grid3.N, _)

theorem point3 (c : Dev nD) (t : Fin cfg3.N) (y : S4096x64.Idx) :
    k3_pay1 (iblk3 V c 0 t) (iblk3 V c 1 t) y
      = mm (M := 4096) (K := 1024) (N := 64) (V c main_v7) (V c main_v6) (((cfg3.win 2).blk t).view.emb y) := by
  pointwise [k3_pay1, mm]
  blk_point [iblk3, idx3 t]

theorem val3 (c : Dev nD) : (dat3 V c).arrAt 2 cfg3.N
      = mm (M := 4096) (K := 1024) (N := 64) (V c main_v7) (V c main_v6) := by
  refine (dat3 V c).arrAt_eq_of_covers 2 _ (by decide +kernel) fun t _ y => ?_
  blk_simp
  rw [after3_2]; frame_out
  exact point3 V c t y

theorem idx4 : ∀ t : Fin cfg4.N, win4_0.index t = ![t.val, 0] ∧ win4_1.index t = ![0, 0] ∧ win4_2.index t = ![t.val, 0] :=
  (by decide +kernel : ∀ t : Fin grid4.N, _)

theorem point4 (c : Dev nD) (t : Fin cfg4.N) (y : S1024x1024.Idx) :
    k4_pay1 (iblk4 V c 0 t) (iblk4 V c 1 t) y
      = mmt (M := 4096) (K := 2048) (N := 1024) (V c main_v1) (V c main_v4) (((cfg4.win 2).blk t).view.emb y) := by
  pointwise [k4_pay1, mmt]
  blk_point [iblk4, idx4 t]

theorem val4 (c : Dev nD) : (dat4 V c).arrAt 2 cfg4.N
      = mmt (M := 4096) (K := 2048) (N := 1024) (V c main_v1) (V c main_v4) := by
  refine (dat4 V c).arrAt_eq_of_covers 2 _ (by decide +kernel) fun t _ y => ?_
  blk_simp
  rw [after4_2]; frame_out
  exact point4 V c t y

theorem idx5 : ∀ t : Fin cfg5.N, win5_0.index t = ![t.val / 2, 0] ∧ win5_1.index t = ![t.val % 2, 0] ∧ win5_2.index t = ![t.val / 2, t.val % 2] ∧ win5_3.index t = ![t.val / 2, t.val % 2] :=
  (by decide +kernel : ∀ t : Fin grid5.N, _)

theorem point5 (c : Dev nD) (t : Fin cfg5.N) (y : S1024x512.Idx) :
    k5_pay1 (iblk5 V c 0 t) (iblk5 V c 1 t) (iblk5 V c 2 t) y
      = add (mmt (M := 4096) (K := 4096) (N := 1024) (V c main_v2) (V c main_v5)) (V c main_v11) (((cfg5.win 3).blk t).view.emb y) := by
  pointwise [k5_pay1, add, mmt]
  blk_point [iblk5, idx5 t]

theorem val5 (c : Dev nD) : (dat5 V c).arrAt 3 cfg5.N
      = add (mmt (M := 4096) (K := 4096) (N := 1024) (V c main_v2) (V c main_v5)) (V c main_v11) := by
  refine (dat5 V c).arrAt_eq_of_covers 3 _ (by decide +kernel) fun t _ y => ?_
  blk_simp
  rw [after5_3]; frame_out
  exact point5 V c t y

theorem idx6 : ∀ t : Fin cfg6.N, win6_0.index t = ![0, 0] ∧ win6_1.index t = ![0, t.val] ∧ win6_2.index t = ![0, t.val] :=
  (by decide +kernel : ∀ t : Fin grid6.N, _)

theorem point6 (c : Dev nD) (t : Fin cfg6.N) (y : S1024x1024.Idx) :
    k6_pay1 (iblk6 V c 0 t) (iblk6 V c 1 t) y
      = tmm (K := 4096) (M := 1024) (N := 2048) (V c main_v7) (V c main_v1) (((cfg6.win 2).blk t).view.emb y) := by
  pointwise [k6_pay1, tmm]
  blk_point [iblk6, idx6 t]

theorem val6 (c : Dev nD) : (dat6 V c).arrAt 2 cfg6.N
      = tmm (K := 4096) (M := 1024) (N := 2048) (V c main_v7) (V c main_v1) := by
  refine (dat6 V c).arrAt_eq_of_covers 2 _ (by decide +kernel) fun t _ y => ?_
  blk_simp
  rw [after6_2]; frame_out
  exact point6 V c t y

theorem idx7 : ∀ t : Fin cfg7.N, win7_0.index t = ![0, 0] ∧ win7_1.index t = ![0, t.val] ∧ win7_2.index t = ![0, t.val] :=
  (by decide +kernel : ∀ t : Fin grid7.N, _)

theorem point7 (c : Dev nD) (t : Fin cfg7.N) (y : S1024x1024.Idx) :
    k7_pay1 (iblk7 V c 0 t) (iblk7 V c 1 t) y
      = tmm (K := 4096) (M := 1024) (N := 4096) (V c main_v7) (V c main_v2) (((cfg7.win 2).blk t).view.emb y) := by
  pointwise [k7_pay1, tmm]
  blk_point [iblk7, idx7 t]

theorem val7 (c : Dev nD) : (dat7 V c).arrAt 2 cfg7.N
      = tmm (K := 4096) (M := 1024) (N := 4096) (V c main_v7) (V c main_v2) := by
  refine (dat7 V c).arrAt_eq_of_covers 2 _ (by decide +kernel) fun t _ y => ?_
  blk_simp
  rw [after7_2]; frame_out
  exact point7 V c t y

theorem idx8 : ∀ t : Fin cfg8.N, win8_0.index t = ![0, 0] ∧ win8_1.index t = ![0, 0] ∧ win8_2.index t = ![0, 0] :=
  (by decide +kernel : ∀ t : Fin grid8.N, _)

theorem point8 (c : Dev nD) (t : Fin cfg8.N) (y : S1024x64.Idx) :
    k8_pay1 (iblk8 V c 0 t) (iblk8 V c 1 t) y
      = tmm (K := 4096) (M := 1024) (N := 64) (V c main_v7) (V c main_v3) (((cfg8.win 2).blk t).view.emb y) := by
  pointwise [k8_pay1, tmm]
  blk_point [iblk8, idx8 t]

theorem val8 (c : Dev nD) : (dat8 V c).arrAt 2 cfg8.N
      = tmm (K := 4096) (M := 1024) (N := 64) (V c main_v7) (V c main_v3) := by
  refine (dat8 V c).arrAt_eq_of_covers 2 _ (by decide +kernel) fun t _ y => ?_
  blk_simp
  rw [after8_2]; frame_out
  exact point8 V c t y

end Cert.MbInIdeal.Val

end
-- ==== Proof.MbInNorm.lean ====
/- The last region of the projection: the last part of the product with the weights, and the gradient of the forward norm,
   whose weights' part is summed over the rows point by point. -/
module

public import proofs.«01_k».proof.Proof.ProdSpec
public import proofs.«01_k».proof.Proof.Gen.MbInIdeal.Frame

@[expose] public section

set_option maxRecDepth 16384

noncomputable section

namespace Cert.MbInIdeal.Val

open Cert.MbInIdeal Cert.MbInIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The norm's gradient: the payloads on a block of 512 rows -/

section
variable (p : Vec Ideal S512x64 .bf16) (w : Vec Ideal S1024x64 .bf16) (h : Vec Ideal S512x1024 .f32) (g : Vec Ideal S1x1024 .f32)
  (r a : Vec Ideal S512x1024 .f32)

/-- The cotangent of the norm on a block. -/
abbrev duB : Mat 512 1024 := add (mmt (M := 512) (K := 64) (N := 1024) p w) a

theorem kpay5 : k9_pay5 p w a = duB p w a := by
  funext y; pointwise [k9_pay5, duB, add, mmt]

theorem kpay6 : k9_pay6 h = fun j => ms (M := 512) h (j 0) := by
  funext y; pointwise [k9_pay6, ms]

theorem kpay7 : k9_pay7 h = fun j => Ideal.rsqrt (ms (M := 512) h (j 0)) := by
  funext y; unfold k9_pay7; rw [kpay6]; pointwise []

theorem kpay9 : k9_pay9 p w a g = fun j => duB p w a j * g (ix2 0 (j 1)) := by
  funext y; unfold k9_pay9; rw [kpay5]; generalize duB p w a = D; pointwise []

theorem kpay10 : k9_pay10 p w a h g = fun j => duB p w a j * g (ix2 0 (j 1)) * Ideal.rsqrt (ms (M := 512) h (j 0)) := by
  funext y; unfold k9_pay10; rw [kpay9, kpay7]; generalize duB p w a = D; pointwise []

theorem kpay11 : k9_pay11 p w a h g = fun j => rmsQ (M := 512) h g (duB p w a) (j 0) := by
  funext y; unfold k9_pay11; rw [kpay9, kpay7, kpay6]; generalize duB p w a = D; pointwise [rmsQ]; exact Fin.sum_univ_one _

theorem kpay1 : k9_pay1 h (k9_pay10 p w a h g) (k9_pay11 p w a h g) (k9_pay12 p w a h g) r
    = rmsDx (M := 512) h g (duB p w a) r := by
  funext y; unfold k9_pay12; rw [kpay10, kpay11]; generalize duB p w a = D; pointwise [k9_pay1, rmsDx]

theorem kpay2 : k9_pay2 h (k9_pay10 p w a h g) (k9_pay11 p w a h g) (k9_pay12 p w a h g) r
    = rmsDx (M := 512) h g (duB p w a) r := by
  funext y; unfold k9_pay2; rw [kpay1]; generalize duB p w a = D; pointwise []

theorem kpay8 : k9_pay8 p w a h = rmsDw (M := 512) h (duB p w a) := by
  funext y; unfold k9_pay8; rw [kpay5, kpay7]; generalize duB p w a = D; pointwise [rmsDw]

theorem kpay4 (x acc : Vec Ideal S1x1024 .f32) (j : S1x1024.Idx) : k9_pay4 x acc j = acc j + x j := by pointwise [k9_pay4]
theorem kpay3 (j : S1x1024.Idx) : k9_pay3 (F := Ideal) j = 0 := by pointwise [k9_pay3]
end

theorem idx9 : ∀ t : Fin cfg9.N, win9_0.index t = ![t.val, 0] ∧ win9_1.index t = ![0, 0] ∧ win9_2.index t = ![t.val, 0] ∧ win9_3.index t = ![0, 0] ∧ win9_4.index t = ![t.val, 0] ∧ win9_5.index t = ![t.val, 0] ∧ win9_6.index t = ![t.val, 0] ∧ win9_7.index t = ![t.val, 0] ∧ win9_8.index t = ![0, 0] :=
  (by decide +kernel : ∀ t : Fin grid9.N, _)

/-- The cotangent of the norm. -/
abbrev du (c : Dev nD) : Mat 4096 1024 :=
  add (mmt (M := 4096) (K := 64) (N := 1024) (V c main_v3) (V c main_v6)) (V c main_v12)

theorem bnd9 (t : Fin cfg9.N) : t.val * 512 + 512 ≤ 4096 := by
  have h : t.val < 8 := lt_of_lt_of_eq t.isLt N_9
  omega

theorem blk9_0 (c : Dev nD) (t : Fin cfg9.N) :
    (iblk9 V c 0 t : Mat 512 64) = rows (M := 4096) (t.val * 512) 512 (bnd9 t) (V c main_v3) := by
  funext y; unfold rows; blk_ext [iblk9, idx9 t]

theorem blk9_1 (c : Dev nD) (t : Fin cfg9.N) : (iblk9 V c 1 t : Mat 1024 64) = V c main_v6 := by
  funext y; blk_ext [iblk9, idx9 t]

theorem blk9_2 (c : Dev nD) (t : Fin cfg9.N) :
    (iblk9 V c 2 t : Mat 512 1024) = rows (M := 4096) (t.val * 512) 512 (bnd9 t) (V c main_arg0) := by
  funext y; unfold rows; blk_ext [iblk9, idx9 t]

theorem blk9_3 (c : Dev nD) (t : Fin cfg9.N) : (iblk9 V c 3 t : Mat 1 1024) = V c main_arg1 := by
  funext y; blk_ext [iblk9, idx9 t]

theorem blk9_4 (c : Dev nD) (t : Fin cfg9.N) :
    (iblk9 V c 4 t : Mat 512 1024) = rows (M := 4096) (t.val * 512) 512 (bnd9 t) (V c main_arg6) := by
  funext y; unfold rows; blk_ext [iblk9, idx9 t]

theorem blk9_5 (c : Dev nD) (t : Fin cfg9.N) :
    (iblk9 V c 5 t : Mat 512 1024) = rows (M := 4096) (t.val * 512) 512 (bnd9 t) (V c main_v12) := by
  funext y; unfold rows; blk_ext [iblk9, idx9 t]

theorem duB_rows (c : Dev nD) (t : Fin cfg9.N) : duB (iblk9 V c 0 t) (iblk9 V c 1 t) (iblk9 V c 5 t)
    = rows (M := 4096) (t.val * 512) 512 (bnd9 t) (du V c) := by
  unfold duB
  rw [blk9_0, blk9_1, blk9_5]
  rfl

theorem v9_6 (c : Dev nD) : (dat9 V c).arrAt 6 cfg9.N
      = rmsDx (M := 4096) (V c main_arg0) (V c main_arg1) (du V c) (V c main_arg6) := by
  refine (dat9 V c).arrAt_eq_of_covers 6 _ (by decide +kernel) fun t _ y => ?_
  blk_simp
  rw [after9_6]
  refine Eq.trans (b := rmsDx (M := 512) (iblk9 V c 2 t) (iblk9 V c 3 t) (duB (iblk9 V c 0 t) (iblk9 V c 1 t) (iblk9 V c 5 t))
    (iblk9 V c 4 t) y) ?_ ?_
  · by_cases h0 : t.val % 8 = 0
    · rw [outsAt9_A V c t h0]; frame_out; rw [kpay1]
    · rw [outsAt9_B V c t h0]; frame_out; rw [kpay1]
  · rw [duB_rows, blk9_2, blk9_3, blk9_4, rmsDx_rows]
    unfold rows
    blk_ext [idx9 t]

theorem v9_7 (c : Dev nD) : (dat9 V c).arrAt 7 cfg9.N
      = rmsDx (M := 4096) (V c main_arg0) (V c main_arg1) (du V c) (V c main_arg6) := by
  refine (dat9 V c).arrAt_eq_of_covers 7 _ (by decide +kernel) fun t _ y => ?_
  blk_simp
  rw [after9_7]
  refine Eq.trans (b := rmsDx (M := 512) (iblk9 V c 2 t) (iblk9 V c 3 t) (duB (iblk9 V c 0 t) (iblk9 V c 1 t) (iblk9 V c 5 t))
    (iblk9 V c 4 t) y) ?_ ?_
  · by_cases h0 : t.val % 8 = 0
    · rw [outsAt9_A V c t h0]; frame_out; rw [kpay2]
    · rw [outsAt9_B V c t h0]; frame_out; rw [kpay2]
  · rw [duB_rows, blk9_2, blk9_3, blk9_4, rmsDx_rows]
    unfold rows
    blk_ext [idx9 t]

theorem kpay8_rows (c : Dev nD) (t : Fin cfg9.N) : k9_pay8 (iblk9 V c 0 t) (iblk9 V c 1 t) (iblk9 V c 5 t) (iblk9 V c 2 t)
    = fun j : (Sh 1 1024).Idx => ∑ k : Fin 512, dwRow (V c main_arg0 : Mat 4096 1024) (du V c) (j 1)
      ⟨t.val * 512 + k.val, lt_of_lt_of_le (Nat.add_lt_add_left k.isLt _) (bnd9 t)⟩ := by
  rw [kpay8, duB_rows, blk9_2]
  rfl

theorem v9_8 (c : Dev nD) : (dat9 V c).arrAt 8 cfg9.N = rmsDw (M := 4096) (V c main_arg0) (du V c) := by
  refine (dat9 V c).arrAt_eq_of_covers 8 _ (by decide +kernel) fun t hf y => ?_
  have ht : t.val < 8 := lt_of_lt_of_eq t.isLt N_9
  blk_simp
  rw [after9_8, Pipeline.eq_sum_fin_of_reset_step_apply_of_flush (fun n h => (outsAt9 V c n h).2.2) 8 (fun _ => 0) _
    (fun t h j => by rw [outsAt9_A V c t h]; frame_out; rw [kpay4, kpay3])
    (fun t h j => by rw [outsAt9_B V c t h]; frame_out; rw [kpay4]) t ((flush9_8 t).mp hf) _, zero_add]
  have e : (win9_8.blk t).view.emb y = (y : (Sh 1 1024).Idx) := by blk_ext [idx9 t]
  rw [e]
  refine (Fin.sum_fin_congr fun s => congrFun (kpay8_rows V c _) y).trans ?_
  unfold rmsDw
  refine Fin.sum_mul_add_congr fun s k hl => ?_
  refine congrArg (dwRow (V c main_arg0 : Mat 4096 1024) (du V c) (y 1)) (Fin.ext ?_)
  show (8 * (t.val / 8) + s.val) * 512 + k.val = s.val * 512 + k.val
  omega

end Cert.MbInIdeal.Val

end
-- ==== Proof.MbInRun.lean ====
/- The projection runs, and what it leaves: the regions one after another. -/
module

public import proofs.«01_k».proof.Proof.ProdSpec
public import proofs.«01_k».proof.Proof.MbInMat
public import proofs.«01_k».proof.Proof.MbInNorm
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.MbInIdeal.Val

open Cert.MbInIdeal Cert.MbInIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W11 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W11 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W11 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem arg3 (c : Dev nD) (a : Ref sig .tc) (h : a ∈ argRefs) : V3 m ρ c a = m ((c : Thread nD τ).loc a) := W3_args m ρ c a h

theorem arg4 (c : Dev nD) (a : Ref sig .tc) (h : a ∈ argRefs) : V4 m ρ c a = m ((c : Thread nD τ).loc a) := W4_args m ρ c a h

theorem arg5 (c : Dev nD) (a : Ref sig .tc) (h : a ∈ argRefs) : V5 m ρ c a = m ((c : Thread nD τ).loc a) := W5_args m ρ c a h

theorem arg6 (c : Dev nD) (a : Ref sig .tc) (h : a ∈ argRefs) : V6 m ρ c a = m ((c : Thread nD τ).loc a) := W6_args m ρ c a h

theorem arg7 (c : Dev nD) (a : Ref sig .tc) (h : a ∈ argRefs) : V7 m ρ c a = m ((c : Thread nD τ).loc a) := W7_args m ρ c a h

theorem arg8 (c : Dev nD) (a : Ref sig .tc) (h : a ∈ argRefs) : V8 m ρ c a = m ((c : Thread nD τ).loc a) := W8_args m ρ c a h

theorem arg9 (c : Dev nD) (a : Ref sig .tc) (h : a ∈ argRefs) : V9 m ρ c a = m ((c : Thread nD τ).loc a) := W9_args m ρ c a h

theorem arg10 (c : Dev nD) (a : Ref sig .tc) (h : a ∈ argRefs) : V10 m ρ c a = m ((c : Thread nD τ).loc a) := W10_args m ρ c a h

theorem arg11 (c : Dev nD) (a : Ref sig .tc) (h : a ∈ argRefs) : V11 m ρ c a = m ((c : Thread nD τ).loc a) := W11_args m ρ c a h

theorem at_main_v0_1 (c : Dev nD) : V1 m ρ c main_v0 = m ((c : Thread nD τ).loc main_arg2) := by
  show StableHlo.after hostOps0 (W0 m ρ c) (Proc.devRef .tc main_v0) = _
  unfold_abbrev_sides
  after_results
  rfl

theorem at_main_v1_1 (c : Dev nD) : V1 m ρ c main_v1 = m ((c : Thread nD τ).loc main_arg3) := by
  show StableHlo.after hostOps0 (W0 m ρ c) (Proc.devRef .tc main_v1) = _
  unfold_abbrev_sides
  after_results
  rfl

theorem at_main_v2_1 (c : Dev nD) : V1 m ρ c main_v2 = m ((c : Thread nD τ).loc main_arg4) := by
  show StableHlo.after hostOps0 (W0 m ρ c) (Proc.devRef .tc main_v2) = _
  unfold_abbrev_sides
  after_results
  rfl

theorem at_main_v3_1 (c : Dev nD) : V1 m ρ c main_v3 = m ((c : Thread nD τ).loc main_arg5) := by
  show StableHlo.after hostOps0 (W0 m ρ c) (Proc.devRef .tc main_v3) = _
  unfold_abbrev_sides
  after_results
  rfl

theorem at_main_v4_1 (c : Dev nD) : V1 m ρ c main_v4 = Cert.Spec.MbIn.WZ (m ((c : Thread nD τ).loc main_arg2)) := by
  show StableHlo.after hostOps0 (W0 m ρ c) (Proc.devRef .tc main_v4) = _
  unfold_abbrev_sides
  after_results
  funext y
  pointwise [MbIn.WZ, MbIn.WX, MbIn.WT, cols]

theorem at_main_v5_1 (c : Dev nD) : V1 m ρ c main_v5 = Cert.Spec.MbIn.WX (m ((c : Thread nD τ).loc main_arg2)) := by
  show StableHlo.after hostOps0 (W0 m ρ c) (Proc.devRef .tc main_v5) = _
  unfold_abbrev_sides
  after_results
  funext y
  pointwise [MbIn.WZ, MbIn.WX, MbIn.WT, cols]

theorem at_main_v6_1 (c : Dev nD) : V1 m ρ c main_v6 = Cert.Spec.MbIn.WT (m ((c : Thread nD τ).loc main_arg2)) := by
  show StableHlo.after hostOps0 (W0 m ρ c) (Proc.devRef .tc main_v6) = _
  unfold_abbrev_sides
  after_results
  funext y
  pointwise [MbIn.WZ, MbIn.WX, MbIn.WT, cols]

theorem at_main_v7_2 (c : Dev nD) : V2 m ρ c main_v7 = Cert.Spec.MbIn.U (m ((c : Thread nD τ).loc main_arg0)) (m ((c : Thread nD τ).loc main_arg1)) := by
  refine (W2_arr m ρ c 2).trans ((val0 (V1 m ρ) c).trans ?_)
  rw [arg1 m ρ c main_arg0 (by decide), arg1 m ρ c main_arg1 (by decide)]
  rfl

theorem at_main_v4_2 (c : Dev nD) : V2 m ρ c main_v4 = Cert.Spec.MbIn.WZ (m ((c : Thread nD τ).loc main_arg2)) :=
  (W2_of m ρ c main_v4 (by decide)).trans (at_main_v4_1 m ρ c)

theorem at_main_v8_3 (c : Dev nD) : V3 m ρ c main_v8 = Cert.Spec.MbIn.Z (m ((c : Thread nD τ).loc main_arg0)) (m ((c : Thread nD τ).loc main_arg1)) (m ((c : Thread nD τ).loc main_arg2)) := by
  refine (W3_arr m ρ c 2).trans ((val1 (V2 m ρ) c).trans ?_)
  rw [at_main_v7_2 m ρ c, at_main_v4_2 m ρ c]
  rfl

theorem at_main_v7_3 (c : Dev nD) : V3 m ρ c main_v7 = Cert.Spec.MbIn.U (m ((c : Thread nD τ).loc main_arg0)) (m ((c : Thread nD τ).loc main_arg1)) :=
  (W3_of m ρ c main_v7 (by decide)).trans (at_main_v7_2 m ρ c)

theorem at_main_v5_2 (c : Dev nD) : V2 m ρ c main_v5 = Cert.Spec.MbIn.WX (m ((c : Thread nD τ).loc main_arg2)) :=
  (W2_of m ρ c main_v5 (by decide)).trans (at_main_v5_1 m ρ c)

theorem at_main_v5_3 (c : Dev nD) : V3 m ρ c main_v5 = Cert.Spec.MbIn.WX (m ((c : Thread nD τ).loc main_arg2)) :=
  (W3_of m ρ c main_v5 (by decide)).trans (at_main_v5_2 m ρ c)

theorem at_main_v9_4 (c : Dev nD) : V4 m ρ c main_v9 = Cert.Spec.MbIn.XB (m ((c : Thread nD τ).loc main_arg0)) (m ((c : Thread nD τ).loc main_arg1)) (m ((c : Thread nD τ).loc main_arg2)) := by
  refine (W4_arr m ρ c 2).trans ((val2 (V3 m ρ) c).trans ?_)
  rw [at_main_v7_3 m ρ c, at_main_v5_3 m ρ c]
  rfl

theorem at_main_v7_4 (c : Dev nD) : V4 m ρ c main_v7 = Cert.Spec.MbIn.U (m ((c : Thread nD τ).loc main_arg0)) (m ((c : Thread nD τ).loc main_arg1)) :=
  (W4_of m ρ c main_v7 (by decide)).trans (at_main_v7_3 m ρ c)

theorem at_main_v6_2 (c : Dev nD) : V2 m ρ c main_v6 = Cert.Spec.MbIn.WT (m ((c : Thread nD τ).loc main_arg2)) :=
  (W2_of m ρ c main_v6 (by decide)).trans (at_main_v6_1 m ρ c)

theorem at_main_v6_3 (c : Dev nD) : V3 m ρ c main_v6 = Cert.Spec.MbIn.WT (m ((c : Thread nD τ).loc main_arg2)) :=
  (W3_of m ρ c main_v6 (by decide)).trans (at_main_v6_2 m ρ c)

theorem at_main_v6_4 (c : Dev nD) : V4 m ρ c main_v6 = Cert.Spec.MbIn.WT (m ((c : Thread nD τ).loc main_arg2)) :=
  (W4_of m ρ c main_v6 (by decide)).trans (at_main_v6_3 m ρ c)

theorem at_main_v10_5 (c : Dev nD) : V5 m ρ c main_v10 = Cert.Spec.MbIn.T (m ((c : Thread nD τ).loc main_arg0)) (m ((c : Thread nD τ).loc main_arg1)) (m ((c : Thread nD τ).loc main_arg2)) := by
  refine (W5_arr m ρ c 2).trans ((val3 (V4 m ρ) c).trans ?_)
  rw [at_main_v7_4 m ρ c, at_main_v6_4 m ρ c]
  rfl

theorem at_main_v1_2 (c : Dev nD) : V2 m ρ c main_v1 = m ((c : Thread nD τ).loc main_arg3) :=
  (W2_of m ρ c main_v1 (by decide)).trans (at_main_v1_1 m ρ c)

theorem at_main_v1_3 (c : Dev nD) : V3 m ρ c main_v1 = m ((c : Thread nD τ).loc main_arg3) :=
  (W3_of m ρ c main_v1 (by decide)).trans (at_main_v1_2 m ρ c)

theorem at_main_v1_4 (c : Dev nD) : V4 m ρ c main_v1 = m ((c : Thread nD τ).loc main_arg3) :=
  (W4_of m ρ c main_v1 (by decide)).trans (at_main_v1_3 m ρ c)

theorem at_main_v1_5 (c : Dev nD) : V5 m ρ c main_v1 = m ((c : Thread nD τ).loc main_arg3) :=
  (W5_of m ρ c main_v1 (by decide)).trans (at_main_v1_4 m ρ c)

theorem at_main_v4_3 (c : Dev nD) : V3 m ρ c main_v4 = Cert.Spec.MbIn.WZ (m ((c : Thread nD τ).loc main_arg2)) :=
  (W3_of m ρ c main_v4 (by decide)).trans (at_main_v4_2 m ρ c)

theorem at_main_v4_4 (c : Dev nD) : V4 m ρ c main_v4 = Cert.Spec.MbIn.WZ (m ((c : Thread nD τ).loc main_arg2)) :=
  (W4_of m ρ c main_v4 (by decide)).trans (at_main_v4_3 m ρ c)

theorem at_main_v4_5 (c : Dev nD) : V5 m ρ c main_v4 = Cert.Spec.MbIn.WZ (m ((c : Thread nD τ).loc main_arg2)) :=
  (W5_of m ρ c main_v4 (by decide)).trans (at_main_v4_4 m ρ c)

theorem at_main_v11_6 (c : Dev nD) : V6 m ρ c main_v11 = Cert.Spec.MbIn.DUZ (m ((c : Thread nD τ).loc main_arg2)) (m ((c : Thread nD τ).loc main_arg3)) := by
  refine (W6_arr m ρ c 2).trans ((val4 (V5 m ρ) c).trans ?_)
  rw [at_main_v1_5 m ρ c, at_main_v4_5 m ρ c]
  rfl

theorem at_main_v2_2 (c : Dev nD) : V2 m ρ c main_v2 = m ((c : Thread nD τ).loc main_arg4) :=
  (W2_of m ρ c main_v2 (by decide)).trans (at_main_v2_1 m ρ c)

theorem at_main_v2_3 (c : Dev nD) : V3 m ρ c main_v2 = m ((c : Thread nD τ).loc main_arg4) :=
  (W3_of m ρ c main_v2 (by decide)).trans (at_main_v2_2 m ρ c)

theorem at_main_v2_4 (c : Dev nD) : V4 m ρ c main_v2 = m ((c : Thread nD τ).loc main_arg4) :=
  (W4_of m ρ c main_v2 (by decide)).trans (at_main_v2_3 m ρ c)

theorem at_main_v2_5 (c : Dev nD) : V5 m ρ c main_v2 = m ((c : Thread nD τ).loc main_arg4) :=
  (W5_of m ρ c main_v2 (by decide)).trans (at_main_v2_4 m ρ c)

theorem at_main_v2_6 (c : Dev nD) : V6 m ρ c main_v2 = m ((c : Thread nD τ).loc main_arg4) :=
  (W6_of m ρ c main_v2 (by decide)).trans (at_main_v2_5 m ρ c)

theorem at_main_v5_4 (c : Dev nD) : V4 m ρ c main_v5 = Cert.Spec.MbIn.WX (m ((c : Thread nD τ).loc main_arg2)) :=
  (W4_of m ρ c main_v5 (by decide)).trans (at_main_v5_3 m ρ c)

theorem at_main_v5_5 (c : Dev nD) : V5 m ρ c main_v5 = Cert.Spec.MbIn.WX (m ((c : Thread nD τ).loc main_arg2)) :=
  (W5_of m ρ c main_v5 (by decide)).trans (at_main_v5_4 m ρ c)

theorem at_main_v5_6 (c : Dev nD) : V6 m ρ c main_v5 = Cert.Spec.MbIn.WX (m ((c : Thread nD τ).loc main_arg2)) :=
  (W6_of m ρ c main_v5 (by decide)).trans (at_main_v5_5 m ρ c)

theorem at_main_v12_7 (c : Dev nD) : V7 m ρ c main_v12 = Cert.Spec.MbIn.DUX (m ((c : Thread nD τ).loc main_arg2)) (m ((c : Thread nD τ).loc main_arg3)) (m ((c : Thread nD τ).loc main_arg4)) := by
  refine (W7_arr m ρ c 3).trans ((val5 (V6 m ρ) c).trans ?_)
  rw [at_main_v2_6 m ρ c, at_main_v5_6 m ρ c, at_main_v11_6 m ρ c]
  rfl

theorem at_main_v7_5 (c : Dev nD) : V5 m ρ c main_v7 = Cert.Spec.MbIn.U (m ((c : Thread nD τ).loc main_arg0)) (m ((c : Thread nD τ).loc main_arg1)) :=
  (W5_of m ρ c main_v7 (by decide)).trans (at_main_v7_4 m ρ c)

theorem at_main_v7_6 (c : Dev nD) : V6 m ρ c main_v7 = Cert.Spec.MbIn.U (m ((c : Thread nD τ).loc main_arg0)) (m ((c : Thread nD τ).loc main_arg1)) :=
  (W6_of m ρ c main_v7 (by decide)).trans (at_main_v7_5 m ρ c)

theorem at_main_v7_7 (c : Dev nD) : V7 m ρ c main_v7 = Cert.Spec.MbIn.U (m ((c : Thread nD τ).loc main_arg0)) (m ((c : Thread nD τ).loc main_arg1)) :=
  (W7_of m ρ c main_v7 (by decide)).trans (at_main_v7_6 m ρ c)

theorem at_main_v1_6 (c : Dev nD) : V6 m ρ c main_v1 = m ((c : Thread nD τ).loc main_arg3) :=
  (W6_of m ρ c main_v1 (by decide)).trans (at_main_v1_5 m ρ c)

theorem at_main_v1_7 (c : Dev nD) : V7 m ρ c main_v1 = m ((c : Thread nD τ).loc main_arg3) :=
  (W7_of m ρ c main_v1 (by decide)).trans (at_main_v1_6 m ρ c)

theorem at_main_v13_8 (c : Dev nD) : V8 m ρ c main_v13 = Cert.Spec.MbIn.DWZ (m ((c : Thread nD τ).loc main_arg0)) (m ((c : Thread nD τ).loc main_arg1)) (m ((c : Thread nD τ).loc main_arg3)) := by
  refine (W8_arr m ρ c 2).trans ((val6 (V7 m ρ) c).trans ?_)
  rw [at_main_v7_7 m ρ c, at_main_v1_7 m ρ c]
  rfl

theorem at_main_v7_8 (c : Dev nD) : V8 m ρ c main_v7 = Cert.Spec.MbIn.U (m ((c : Thread nD τ).loc main_arg0)) (m ((c : Thread nD τ).loc main_arg1)) :=
  (W8_of m ρ c main_v7 (by decide)).trans (at_main_v7_7 m ρ c)

theorem at_main_v2_7 (c : Dev nD) : V7 m ρ c main_v2 = m ((c : Thread nD τ).loc main_arg4) :=
  (W7_of m ρ c main_v2 (by decide)).trans (at_main_v2_6 m ρ c)

theorem at_main_v2_8 (c : Dev nD) : V8 m ρ c main_v2 = m ((c : Thread nD τ).loc main_arg4) :=
  (W8_of m ρ c main_v2 (by decide)).trans (at_main_v2_7 m ρ c)

theorem at_main_v14_9 (c : Dev nD) : V9 m ρ c main_v14 = Cert.Spec.MbIn.DWX (m ((c : Thread nD τ).loc main_arg0)) (m ((c : Thread nD τ).loc main_arg1)) (m ((c : Thread nD τ).loc main_arg4)) := by
  refine (W9_arr m ρ c 2).trans ((val7 (V8 m ρ) c).trans ?_)
  rw [at_main_v7_8 m ρ c, at_main_v2_8 m ρ c]
  rfl

theorem at_main_v7_9 (c : Dev nD) : V9 m ρ c main_v7 = Cert.Spec.MbIn.U (m ((c : Thread nD τ).loc main_arg0)) (m ((c : Thread nD τ).loc main_arg1)) :=
  (W9_of m ρ c main_v7 (by decide)).trans (at_main_v7_8 m ρ c)

theorem at_main_v3_2 (c : Dev nD) : V2 m ρ c main_v3 = m ((c : Thread nD τ).loc main_arg5) :=
  (W2_of m ρ c main_v3 (by decide)).trans (at_main_v3_1 m ρ c)

theorem at_main_v3_3 (c : Dev nD) : V3 m ρ c main_v3 = m ((c : Thread nD τ).loc main_arg5) :=
  (W3_of m ρ c main_v3 (by decide)).trans (at_main_v3_2 m ρ c)

theorem at_main_v3_4 (c : Dev nD) : V4 m ρ c main_v3 = m ((c : Thread nD τ).loc main_arg5) :=
  (W4_of m ρ c main_v3 (by decide)).trans (at_main_v3_3 m ρ c)

theorem at_main_v3_5 (c : Dev nD) : V5 m ρ c main_v3 = m ((c : Thread nD τ).loc main_arg5) :=
  (W5_of m ρ c main_v3 (by decide)).trans (at_main_v3_4 m ρ c)

theorem at_main_v3_6 (c : Dev nD) : V6 m ρ c main_v3 = m ((c : Thread nD τ).loc main_arg5) :=
  (W6_of m ρ c main_v3 (by decide)).trans (at_main_v3_5 m ρ c)

theorem at_main_v3_7 (c : Dev nD) : V7 m ρ c main_v3 = m ((c : Thread nD τ).loc main_arg5) :=
  (W7_of m ρ c main_v3 (by decide)).trans (at_main_v3_6 m ρ c)

theorem at_main_v3_8 (c : Dev nD) : V8 m ρ c main_v3 = m ((c : Thread nD τ).loc main_arg5) :=
  (W8_of m ρ c main_v3 (by decide)).trans (at_main_v3_7 m ρ c)

theorem at_main_v3_9 (c : Dev nD) : V9 m ρ c main_v3 = m ((c : Thread nD τ).loc main_arg5) :=
  (W9_of m ρ c main_v3 (by decide)).trans (at_main_v3_8 m ρ c)

theorem at_main_v15_10 (c : Dev nD) : V10 m ρ c main_v15 = Cert.Spec.MbIn.DWT (m ((c : Thread nD τ).loc main_arg0)) (m ((c : Thread nD τ).loc main_arg1)) (m ((c : Thread nD τ).loc main_arg5)) := by
  refine (W10_arr m ρ c 2).trans ((val8 (V9 m ρ) c).trans ?_)
  rw [at_main_v7_9 m ρ c, at_main_v3_9 m ρ c]
  rfl

theorem at_main_v3_10 (c : Dev nD) : V10 m ρ c main_v3 = m ((c : Thread nD τ).loc main_arg5) :=
  (W10_of m ρ c main_v3 (by decide)).trans (at_main_v3_9 m ρ c)

theorem at_main_v6_5 (c : Dev nD) : V5 m ρ c main_v6 = Cert.Spec.MbIn.WT (m ((c : Thread nD τ).loc main_arg2)) :=
  (W5_of m ρ c main_v6 (by decide)).trans (at_main_v6_4 m ρ c)

theorem at_main_v6_6 (c : Dev nD) : V6 m ρ c main_v6 = Cert.Spec.MbIn.WT (m ((c : Thread nD τ).loc main_arg2)) :=
  (W6_of m ρ c main_v6 (by decide)).trans (at_main_v6_5 m ρ c)

theorem at_main_v6_7 (c : Dev nD) : V7 m ρ c main_v6 = Cert.Spec.MbIn.WT (m ((c : Thread nD τ).loc main_arg2)) :=
  (W7_of m ρ c main_v6 (by decide)).trans (at_main_v6_6 m ρ c)

theorem at_main_v6_8 (c : Dev nD) : V8 m ρ c main_v6 = Cert.Spec.MbIn.WT (m ((c : Thread nD τ).loc main_arg2)) :=
  (W8_of m ρ c main_v6 (by decide)).trans (at_main_v6_7 m ρ c)

theorem at_main_v6_9 (c : Dev nD) : V9 m ρ c main_v6 = Cert.Spec.MbIn.WT (m ((c : Thread nD τ).loc main_arg2)) :=
  (W9_of m ρ c main_v6 (by decide)).trans (at_main_v6_8 m ρ c)

theorem at_main_v6_10 (c : Dev nD) : V10 m ρ c main_v6 = Cert.Spec.MbIn.WT (m ((c : Thread nD τ).loc main_arg2)) :=
  (W10_of m ρ c main_v6 (by decide)).trans (at_main_v6_9 m ρ c)

theorem at_main_v12_8 (c : Dev nD) : V8 m ρ c main_v12 = Cert.Spec.MbIn.DUX (m ((c : Thread nD τ).loc main_arg2)) (m ((c : Thread nD τ).loc main_arg3)) (m ((c : Thread nD τ).loc main_arg4)) :=
  (W8_of m ρ c main_v12 (by decide)).trans (at_main_v12_7 m ρ c)

theorem at_main_v12_9 (c : Dev nD) : V9 m ρ c main_v12 = Cert.Spec.MbIn.DUX (m ((c : Thread nD τ).loc main_arg2)) (m ((c : Thread nD τ).loc main_arg3)) (m ((c : Thread nD τ).loc main_arg4)) :=
  (W9_of m ρ c main_v12 (by decide)).trans (at_main_v12_8 m ρ c)

theorem at_main_v12_10 (c : Dev nD) : V10 m ρ c main_v12 = Cert.Spec.MbIn.DUX (m ((c : Thread nD τ).loc main_arg2)) (m ((c : Thread nD τ).loc main_arg3)) (m ((c : Thread nD τ).loc main_arg4)) :=
  (W10_of m ρ c main_v12 (by decide)).trans (at_main_v12_9 m ρ c)

theorem at_main_v16_0_11 (c : Dev nD) : V11 m ρ c main_v16_0 = Cert.Spec.MbIn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 6).trans ((v9_6 (V10 m ρ) c).trans ?_)
  unfold du
  rw [at_main_v3_10 m ρ c, at_main_v6_10 m ρ c, at_main_v12_10 m ρ c, arg10 m ρ c main_arg0 (by decide), arg10 m ρ c main_arg1 (by decide), arg10 m ρ c main_arg6 (by decide)]
  rfl

theorem at_main_v16_1_11 (c : Dev nD) : V11 m ρ c main_v16_1 = Cert.Spec.MbIn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 7).trans ((v9_7 (V10 m ρ) c).trans ?_)
  unfold du
  rw [at_main_v3_10 m ρ c, at_main_v6_10 m ρ c, at_main_v12_10 m ρ c, arg10 m ρ c main_arg0 (by decide), arg10 m ρ c main_arg1 (by decide), arg10 m ρ c main_arg6 (by decide)]
  rfl

theorem at_main_v16_2_11 (c : Dev nD) : V11 m ρ c main_v16_2 = Cert.Spec.MbIn.DNW (m ((c : Thread nD τ).loc main_arg0)) (m ((c : Thread nD τ).loc main_arg2)) (m ((c : Thread nD τ).loc main_arg3)) (m ((c : Thread nD τ).loc main_arg4)) (m ((c : Thread nD τ).loc main_arg5)) := by
  refine (W11_arr m ρ c 8).trans ((v9_8 (V10 m ρ) c).trans ?_)
  unfold du
  rw [at_main_v3_10 m ρ c, at_main_v6_10 m ρ c, at_main_v12_10 m ρ c, arg10 m ρ c main_arg0 (by decide)]
  rfl

theorem at_main_v8_4 (c : Dev nD) : V4 m ρ c main_v8 = Cert.Spec.MbIn.Z (m ((c : Thread nD τ).loc main_arg0)) (m ((c : Thread nD τ).loc main_arg1)) (m ((c : Thread nD τ).loc main_arg2)) :=
  (W4_of m ρ c main_v8 (by decide)).trans (at_main_v8_3 m ρ c)

theorem at_main_v8_5 (c : Dev nD) : V5 m ρ c main_v8 = Cert.Spec.MbIn.Z (m ((c : Thread nD τ).loc main_arg0)) (m ((c : Thread nD τ).loc main_arg1)) (m ((c : Thread nD τ).loc main_arg2)) :=
  (W5_of m ρ c main_v8 (by decide)).trans (at_main_v8_4 m ρ c)

theorem at_main_v8_6 (c : Dev nD) : V6 m ρ c main_v8 = Cert.Spec.MbIn.Z (m ((c : Thread nD τ).loc main_arg0)) (m ((c : Thread nD τ).loc main_arg1)) (m ((c : Thread nD τ).loc main_arg2)) :=
  (W6_of m ρ c main_v8 (by decide)).trans (at_main_v8_5 m ρ c)

theorem at_main_v8_7 (c : Dev nD) : V7 m ρ c main_v8 = Cert.Spec.MbIn.Z (m ((c : Thread nD τ).loc main_arg0)) (m ((c : Thread nD τ).loc main_arg1)) (m ((c : Thread nD τ).loc main_arg2)) :=
  (W7_of m ρ c main_v8 (by decide)).trans (at_main_v8_6 m ρ c)

theorem at_main_v8_8 (c : Dev nD) : V8 m ρ c main_v8 = Cert.Spec.MbIn.Z (m ((c : Thread nD τ).loc main_arg0)) (m ((c : Thread nD τ).loc main_arg1)) (m ((c : Thread nD τ).loc main_arg2)) :=
  (W8_of m ρ c main_v8 (by decide)).trans (at_main_v8_7 m ρ c)

theorem at_main_v8_9 (c : Dev nD) : V9 m ρ c main_v8 = Cert.Spec.MbIn.Z (m ((c : Thread nD τ).loc main_arg0)) (m ((c : Thread nD τ).loc main_arg1)) (m ((c : Thread nD τ).loc main_arg2)) :=
  (W9_of m ρ c main_v8 (by decide)).trans (at_main_v8_8 m ρ c)

theorem at_main_v8_10 (c : Dev nD) : V10 m ρ c main_v8 = Cert.Spec.MbIn.Z (m ((c : Thread nD τ).loc main_arg0)) (m ((c : Thread nD τ).loc main_arg1)) (m ((c : Thread nD τ).loc main_arg2)) :=
  (W10_of m ρ c main_v8 (by decide)).trans (at_main_v8_9 m ρ c)

theorem at_main_v8_11 (c : Dev nD) : V11 m ρ c main_v8 = Cert.Spec.MbIn.Z (m ((c : Thread nD τ).loc main_arg0)) (m ((c : Thread nD τ).loc main_arg1)) (m ((c : Thread nD τ).loc main_arg2)) :=
  (W11_of m ρ c main_v8 (by decide)).trans (at_main_v8_10 m ρ c)

theorem at_main_v9_5 (c : Dev nD) : V5 m ρ c main_v9 = Cert.Spec.MbIn.XB (m ((c : Thread nD τ).loc main_arg0)) (m ((c : Thread nD τ).loc main_arg1)) (m ((c : Thread nD τ).loc main_arg2)) :=
  (W5_of m ρ c main_v9 (by decide)).trans (at_main_v9_4 m ρ c)

theorem at_main_v9_6 (c : Dev nD) : V6 m ρ c main_v9 = Cert.Spec.MbIn.XB (m ((c : Thread nD τ).loc main_arg0)) (m ((c : Thread nD τ).loc main_arg1)) (m ((c : Thread nD τ).loc main_arg2)) :=
  (W6_of m ρ c main_v9 (by decide)).trans (at_main_v9_5 m ρ c)

theorem at_main_v9_7 (c : Dev nD) : V7 m ρ c main_v9 = Cert.Spec.MbIn.XB (m ((c : Thread nD τ).loc main_arg0)) (m ((c : Thread nD τ).loc main_arg1)) (m ((c : Thread nD τ).loc main_arg2)) :=
  (W7_of m ρ c main_v9 (by decide)).trans (at_main_v9_6 m ρ c)

theorem at_main_v9_8 (c : Dev nD) : V8 m ρ c main_v9 = Cert.Spec.MbIn.XB (m ((c : Thread nD τ).loc main_arg0)) (m ((c : Thread nD τ).loc main_arg1)) (m ((c : Thread nD τ).loc main_arg2)) :=
  (W8_of m ρ c main_v9 (by decide)).trans (at_main_v9_7 m ρ c)

theorem at_main_v9_9 (c : Dev nD) : V9 m ρ c main_v9 = Cert.Spec.MbIn.XB (m ((c : Thread nD τ).loc main_arg0)) (m ((c : Thread nD τ).loc main_arg1)) (m ((c : Thread nD τ).loc main_arg2)) :=
  (W9_of m ρ c main_v9 (by decide)).trans (at_main_v9_8 m ρ c)

theorem at_main_v9_10 (c : Dev nD) : V10 m ρ c main_v9 = Cert.Spec.MbIn.XB (m ((c : Thread nD τ).loc main_arg0)) (m ((c : Thread nD τ).loc main_arg1)) (m ((c : Thread nD τ).loc main_arg2)) :=
  (W10_of m ρ c main_v9 (by decide)).trans (at_main_v9_9 m ρ c)

theorem at_main_v9_11 (c : Dev nD) : V11 m ρ c main_v9 = Cert.Spec.MbIn.XB (m ((c : Thread nD τ).loc main_arg0)) (m ((c : Thread nD τ).loc main_arg1)) (m ((c : Thread nD τ).loc main_arg2)) :=
  (W11_of m ρ c main_v9 (by decide)).trans (at_main_v9_10 m ρ c)

theorem at_main_v10_6 (c : Dev nD) : V6 m ρ c main_v10 = Cert.Spec.MbIn.T (m ((c : Thread nD τ).loc main_arg0)) (m ((c : Thread nD τ).loc main_arg1)) (m ((c : Thread nD τ).loc main_arg2)) :=
  (W6_of m ρ c main_v10 (by decide)).trans (at_main_v10_5 m ρ c)

theorem at_main_v10_7 (c : Dev nD) : V7 m ρ c main_v10 = Cert.Spec.MbIn.T (m ((c : Thread nD τ).loc main_arg0)) (m ((c : Thread nD τ).loc main_arg1)) (m ((c : Thread nD τ).loc main_arg2)) :=
  (W7_of m ρ c main_v10 (by decide)).trans (at_main_v10_6 m ρ c)

theorem at_main_v10_8 (c : Dev nD) : V8 m ρ c main_v10 = Cert.Spec.MbIn.T (m ((c : Thread nD τ).loc main_arg0)) (m ((c : Thread nD τ).loc main_arg1)) (m ((c : Thread nD τ).loc main_arg2)) :=
  (W8_of m ρ c main_v10 (by decide)).trans (at_main_v10_7 m ρ c)

theorem at_main_v10_9 (c : Dev nD) : V9 m ρ c main_v10 = Cert.Spec.MbIn.T (m ((c : Thread nD τ).loc main_arg0)) (m ((c : Thread nD τ).loc main_arg1)) (m ((c : Thread nD τ).loc main_arg2)) :=
  (W9_of m ρ c main_v10 (by decide)).trans (at_main_v10_8 m ρ c)

theorem at_main_v10_10 (c : Dev nD) : V10 m ρ c main_v10 = Cert.Spec.MbIn.T (m ((c : Thread nD τ).loc main_arg0)) (m ((c : Thread nD τ).loc main_arg1)) (m ((c : Thread nD τ).loc main_arg2)) :=
  (W10_of m ρ c main_v10 (by decide)).trans (at_main_v10_9 m ρ c)

theorem at_main_v10_11 (c : Dev nD) : V11 m ρ c main_v10 = Cert.Spec.MbIn.T (m ((c : Thread nD τ).loc main_arg0)) (m ((c : Thread nD τ).loc main_arg1)) (m ((c : Thread nD τ).loc main_arg2)) :=
  (W11_of m ρ c main_v10 (by decide)).trans (at_main_v10_10 m ρ c)

theorem at_main_v13_9 (c : Dev nD) : V9 m ρ c main_v13 = Cert.Spec.MbIn.DWZ (m ((c : Thread nD τ).loc main_arg0)) (m ((c : Thread nD τ).loc main_arg1)) (m ((c : Thread nD τ).loc main_arg3)) :=
  (W9_of m ρ c main_v13 (by decide)).trans (at_main_v13_8 m ρ c)

theorem at_main_v13_10 (c : Dev nD) : V10 m ρ c main_v13 = Cert.Spec.MbIn.DWZ (m ((c : Thread nD τ).loc main_arg0)) (m ((c : Thread nD τ).loc main_arg1)) (m ((c : Thread nD τ).loc main_arg3)) :=
  (W10_of m ρ c main_v13 (by decide)).trans (at_main_v13_9 m ρ c)

theorem at_main_v13_11 (c : Dev nD) : V11 m ρ c main_v13 = Cert.Spec.MbIn.DWZ (m ((c : Thread nD τ).loc main_arg0)) (m ((c : Thread nD τ).loc main_arg1)) (m ((c : Thread nD τ).loc main_arg3)) :=
  (W11_of m ρ c main_v13 (by decide)).trans (at_main_v13_10 m ρ c)

theorem at_main_v14_10 (c : Dev nD) : V10 m ρ c main_v14 = Cert.Spec.MbIn.DWX (m ((c : Thread nD τ).loc main_arg0)) (m ((c : Thread nD τ).loc main_arg1)) (m ((c : Thread nD τ).loc main_arg4)) :=
  (W10_of m ρ c main_v14 (by decide)).trans (at_main_v14_9 m ρ c)

theorem at_main_v14_11 (c : Dev nD) : V11 m ρ c main_v14 = Cert.Spec.MbIn.DWX (m ((c : Thread nD τ).loc main_arg0)) (m ((c : Thread nD τ).loc main_arg1)) (m ((c : Thread nD τ).loc main_arg4)) :=
  (W11_of m ρ c main_v14 (by decide)).trans (at_main_v14_10 m ρ c)

theorem at_main_v15_11 (c : Dev nD) : V11 m ρ c main_v15 = Cert.Spec.MbIn.DWT (m ((c : Thread nD τ).loc main_arg0)) (m ((c : Thread nD τ).loc main_arg1)) (m ((c : Thread nD τ).loc main_arg5)) :=
  (W11_of m ρ c main_v15 (by decide)).trans (at_main_v15_10 m ρ c)

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.mem ((c.tc : Thread nD τ).loc main_v8) = Cert.Spec.MbIn.Z (m ((c : Thread nD τ).loc main_arg0)) (m ((c : Thread nD τ).loc main_arg1)) (m ((c : Thread nD τ).loc main_arg2))
      ∧ r.2.mem ((c.tc : Thread nD τ).loc main_v9) = Cert.Spec.MbIn.XB (m ((c : Thread nD τ).loc main_arg0)) (m ((c : Thread nD τ).loc main_arg1)) (m ((c : Thread nD τ).loc main_arg2))
      ∧ r.2.mem ((c.tc : Thread nD τ).loc main_v10) = Cert.Spec.MbIn.T (m ((c : Thread nD τ).loc main_arg0)) (m ((c : Thread nD τ).loc main_arg1)) (m ((c : Thread nD τ).loc main_arg2))
      ∧ r.2.mem ((c.tc : Thread nD τ).loc main_v13) = Cert.Spec.MbIn.DWZ (m ((c : Thread nD τ).loc main_arg0)) (m ((c : Thread nD τ).loc main_arg1)) (m ((c : Thread nD τ).loc main_arg3))
      ∧ r.2.mem ((c.tc : Thread nD τ).loc main_v14) = Cert.Spec.MbIn.DWX (m ((c : Thread nD τ).loc main_arg0)) (m ((c : Thread nD τ).loc main_arg1)) (m ((c : Thread nD τ).loc main_arg4))
      ∧ r.2.mem ((c.tc : Thread nD τ).loc main_v15) = Cert.Spec.MbIn.DWT (m ((c : Thread nD τ).loc main_arg0)) (m ((c : Thread nD τ).loc main_arg1)) (m ((c : Thread nD τ).loc main_arg5))
      ∧ r.2.mem ((c.tc : Thread nD τ).loc main_v16_0) = Cert.Spec.MbIn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v16_1) = Cert.Spec.MbIn.DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v16_2) = Cert.Spec.MbIn.DNW (m ((c : Thread nD τ).loc main_arg0)) (m ((c : Thread nD τ).loc main_arg2)) (m ((c : Thread nD τ).loc main_arg3)) (m ((c : Thread nD τ).loc main_arg4)) (m ((c : Thread nD τ).loc main_arg5)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V11 m ρ c b :=
    fun b hb => h.1 c _ (mem_uc b hb)
  exact ⟨⟨(g main_arg0 (by decide)).trans (arg11 m ρ c main_arg0 (by decide)), (g main_arg1 (by decide)).trans (arg11 m ρ c main_arg1 (by decide)), (g main_arg2 (by decide)).trans (arg11 m ρ c main_arg2 (by decide)), (g main_arg3 (by decide)).trans (arg11 m ρ c main_arg3 (by decide)), (g main_arg4 (by decide)).trans (arg11 m ρ c main_arg4 (by decide)), (g main_arg5 (by decide)).trans (arg11 m ρ c main_arg5 (by decide)), (g main_arg6 (by decide)).trans (arg11 m ρ c main_arg6 (by decide))⟩,
    (g main_v8 (by decide)).trans (at_main_v8_11 m ρ c),
    (g main_v9 (by decide)).trans (at_main_v9_11 m ρ c),
    (g main_v10 (by decide)).trans (at_main_v10_11 m ρ c),
    (g main_v13 (by decide)).trans (at_main_v13_11 m ρ c),
    (g main_v14 (by decide)).trans (at_main_v14_11 m ρ c),
    (g main_v15 (by decide)).trans (at_main_v15_11 m ρ c),
    (g main_v16_0 (by decide)).trans (at_main_v16_0_11 m ρ c),
    (g main_v16_1 (by decide)).trans (at_main_v16_1_11 m ρ c),
    (g main_v16_2 (by decide)).trans (at_main_v16_2_11 m ρ c)⟩

end Cert.MbInIdeal.Val

end
-- ==== Proof.MbInRef.lean ====
/- The reference's results are the projection's mathematics. -/
module

public import proofs.«01_k».proof.Proof.ProdSpec
public import proofs.«01_k».proof.Proof.Gen.MbInRefIdeal.Read

@[expose] public section

set_option maxRecDepth 16384

noncomputable section

namespace Cert.MbInRefIdeal.Val

open Cert.MbInRefIdeal Cert.MbInRefIdeal.Gen Cert.MbInRefIdeal.Read Cert.Spec Idealize.ShloMosaic Idealize.ShloMosaic.TcCoe Idealize.SL.Sem

variable (x0 : Mat 4096 1024) (x1 : Mat 1 1024) (x2 : Mat 1024 6208) (x3 : Mat 4096 2048) (x4 : Mat 4096 4096) (x5 : Mat 4096 64) (x6 : Mat 4096 1024)

theorem first_last (a b c d : EReal) : d + a + b + c = a + b + c + d := by abel

/-- A sum over all columns, part by part from the last. -/
theorem sum_three (f : Fin 6208 → EReal) : ∑ k, f k = ∑ k : Fin 64, f ⟨6144 + k.val, by omega⟩
    + (∑ k : Fin 4096, f ⟨2048 + k.val, by omega⟩ + ∑ k : Fin 2048, f ⟨k.val, by omega⟩) := by
  refine (Fin.sum_univ_add (a := 6144) (b := 64) f).trans ((add_comm _ _).trans (congrArg₂ (· + ·) rfl ?_))
  exact (Fin.sum_univ_add (a := 2048) (b := 4096) fun i : Fin 6144 => f ⟨i.val, by omega⟩).trans (add_comm _ _)

theorem r_v7 : val_main_v7 (F := Ideal) x0 = fun j => Ideal.rsqrt (ms (M := 4096) x0 (j 0)) := by
  funext y
  pointwise [val_main_v7, val_main_v6, val_main_v5, val_main_v4, val_main_v3, val_main_v2, val_main_v1, val_main_v0, val_main_cst, val_main_cst_0, val_main_cst_1, ms]

theorem r_v6 : val_main_v6 (F := Ideal) x0 = fun j => ms (M := 4096) x0 (j 0) := by
  funext y
  pointwise [val_main_v6, val_main_v5, val_main_v4, val_main_v3, val_main_v2, val_main_v1, val_main_v0, val_main_cst, val_main_cst_0, val_main_cst_1, ms]

theorem r_v14 : val_main_v14 (F := Ideal) x0 x1 = MbIn.U x0 x1 := by
  unfold val_main_v14 val_main_v12 val_main_v11 val_main_v13 MbIn.U
  rw [r_v7]
  funext y
  pointwise [rms]

theorem r_v16 : val_main_v16 (F := Ideal) x0 x1 x2 = MbIn.Z x0 x1 x2 := by
  unfold val_main_v16 val_main_v15 MbIn.Z MbIn.WZ
  rw [r_v14]
  generalize MbIn.U x0 x1 = z0
  funext y
  pointwise [mm, cols]

theorem r_v17 : val_main_v17 (F := Ideal) x0 x1 x2 = MbIn.XB x0 x1 x2 := by
  unfold val_main_v17 val_main_v15 MbIn.XB MbIn.WX
  rw [r_v14]
  generalize MbIn.U x0 x1 = z0
  funext y
  pointwise [mm, cols]

theorem r_v18 : val_main_v18 (F := Ideal) x0 x1 x2 = MbIn.T x0 x1 x2 := by
  unfold val_main_v18 val_main_v15 MbIn.T MbIn.WT
  rw [r_v14]
  generalize MbIn.U x0 x1 = z0
  funext y
  pointwise [mm, cols]

theorem r_v22 : val_main_v22 (F := Ideal) x2 x3 x4 x5 = MbIn.DU x2 x3 x4 x5 := by
  unfold val_main_v22 val_main_v19 MbIn.DU MbIn.DUX MbIn.DUZ MbIn.WZ MbIn.WX MbIn.WT
  funext y
  pointwise [add, mmt, cols]
  refine (sum_three _).trans (congrArg₂ (· + ·) (Finset.sum_congr rfl fun k _ => congrArg (· * _) ?_)
    (congrArg₂ (· + ·) (Finset.sum_congr rfl fun k _ => congrArg (· * _) ?_) (Finset.sum_congr rfl fun k _ => congrArg (· * _) ?_)))
  · refine (dif_neg (show ¬(6144 + k.val < 2048) by omega)).trans ((dif_neg (show ¬(6144 + k.val - 2048 < 4096) by omega)).trans
      (congrArg (fun i => x5 (ix2 (y 0) i)) (Fin.ext ?_)))
    show 6144 + k.val - 2048 - 4096 = k.val
    omega
  · refine (dif_neg (show ¬(2048 + k.val < 2048) by omega)).trans ((dif_pos (show 2048 + k.val - 2048 < 4096 by omega)).trans
      (congrArg (fun i => x4 (ix2 (y 0) i)) (Fin.ext ?_)))
    show 2048 + k.val - 2048 = k.val
    omega
  · exact dif_pos k.isLt

theorem r_v43 : val_main_v43 (F := Ideal) x0 x1 x3 x4 x5 = MbIn.DWZ x0 x1 x3 := by
  unfold val_main_v43 val_main_v21 val_main_v20 val_main_v19 MbIn.DWZ
  rw [r_v14]
  generalize MbIn.U x0 x1 = z0
  funext y
  pointwise [tmm]
  exact Finset.sum_congr rfl fun _ _ => mul_comm _ _

theorem r_v44 : val_main_v44 (F := Ideal) x0 x1 x3 x4 x5 = MbIn.DWX x0 x1 x4 := by
  unfold val_main_v44 val_main_v21 val_main_v20 val_main_v19 MbIn.DWX
  rw [r_v14]
  generalize MbIn.U x0 x1 = z0
  funext y
  pointwise [tmm]
  exact Finset.sum_congr rfl fun _ _ => mul_comm _ _

theorem r_v45 : val_main_v45 (F := Ideal) x0 x1 x3 x4 x5 = MbIn.DWT x0 x1 x5 := by
  unfold val_main_v45 val_main_v21 val_main_v20 val_main_v19 MbIn.DWT
  rw [r_v14]
  generalize MbIn.U x0 x1 = z0
  funext y
  pointwise [tmm]
  refine Finset.sum_congr rfl fun k _ => (congrArg (· * z0 (ix2 k (y 0))) ?_).trans (mul_comm _ _)
  refine (dif_neg (show ¬(6144 + (y 1).val < 2048) by omega)).trans ((dif_neg (show ¬(6144 + (y 1).val - 2048 < 4096) by omega)).trans
    (congrArg (fun i => x5 (ix2 k i)) (Fin.ext ?_)))
  show 6144 + (y 1).val - 2048 - 4096 = (y 1).val
  omega

theorem r_v25 : val_main_v25 (F := Ideal) x0 x2 x3 x4 x5 = MbIn.DNW x0 x2 x3 x4 x5 := by
  unfold val_main_v25 val_main_v24 val_main_v23 val_main_v12 val_main_v11 MbIn.DNW
  rw [r_v22, r_v7]
  generalize MbIn.DU x2 x3 x4 x5 = z0
  funext y
  pointwise [val_main_cst_3, rmsDw]

theorem r_v37 : val_main_v37 (F := Ideal) x0 x1 x2 x3 x4 x5 = fun j => rmsQ x0 x1 (MbIn.DU x2 x3 x4 x5) (j 0) := by
  unfold val_main_v37 val_main_v36 val_main_v35 val_main_v34 val_main_v30 val_main_v29 val_main_v28 val_main_v27 val_main_v26 val_main_v10 val_main_v9 val_main_v8
  rw [r_v22, r_v7, r_v6]
  generalize MbIn.DU x2 x3 x4 x5 = z0
  funext y
  pointwise [val_main_cst_4, val_main_cst_5, val_main_cst_6, val_main_cst_2, rmsQ]
  exact Fin.sum_univ_one _

theorem r_v42 : val_main_v42 (F := Ideal) x0 x1 x2 x3 x4 x5 x6 = MbIn.DX x0 x1 x2 x3 x4 x5 x6 := by
  unfold val_main_v42 val_main_v41 val_main_v40 val_main_v39 val_main_v38 val_main_v33 val_main_v32 val_main_v31 val_main_v27 val_main_v26 MbIn.DX
  rw [r_v37, r_v22, r_v7]
  generalize MbIn.DU x2 x3 x4 x5 = z0
  funext y
  pointwise [rmsDx]
  exact first_last _ _ _ _

theorem r_v46 : val_main_v46 (F := Ideal) x0 x1 x2 x3 x4 x5 x6 = MbIn.DX x0 x1 x2 x3 x4 x5 x6 := by
  unfold val_main_v46
  rw [r_v42]
  generalize MbIn.DX x0 x1 x2 x3 x4 x5 x6 = z0
  funext y
  pointwise []

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = MbIn.Z (m ((c.tc : Thread nD τ).loc main_arg0)) (m ((c.tc : Thread nD τ).loc main_arg1)) (m ((c.tc : Thread nD τ).loc main_arg2))
      ∧ r.2.mem ((c.tc : Thread nD τ).loc main_v17) = MbIn.XB (m ((c.tc : Thread nD τ).loc main_arg0)) (m ((c.tc : Thread nD τ).loc main_arg1)) (m ((c.tc : Thread nD τ).loc main_arg2))
      ∧ r.2.mem ((c.tc : Thread nD τ).loc main_v18) = MbIn.T (m ((c.tc : Thread nD τ).loc main_arg0)) (m ((c.tc : Thread nD τ).loc main_arg1)) (m ((c.tc : Thread nD τ).loc main_arg2))
      ∧ r.2.mem ((c.tc : Thread nD τ).loc main_v43) = MbIn.DWZ (m ((c.tc : Thread nD τ).loc main_arg0)) (m ((c.tc : Thread nD τ).loc main_arg1)) (m ((c.tc : Thread nD τ).loc main_arg3))
      ∧ r.2.mem ((c.tc : Thread nD τ).loc main_v44) = MbIn.DWX (m ((c.tc : Thread nD τ).loc main_arg0)) (m ((c.tc : Thread nD τ).loc main_arg1)) (m ((c.tc : Thread nD τ).loc main_arg4))
      ∧ r.2.mem ((c.tc : Thread nD τ).loc main_v45) = MbIn.DWT (m ((c.tc : Thread nD τ).loc main_arg0)) (m ((c.tc : Thread nD τ).loc main_arg1)) (m ((c.tc : Thread nD τ).loc main_arg5))
      ∧ r.2.mem ((c.tc : Thread nD τ).loc main_v42) = MbIn.DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v46) = MbIn.DX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v25) = MbIn.DNW (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.MbInRefIdeal.Value.run m ρ)
  obtain ⟨h0, h1, h2, h3, h4, h5, h6, h7, h8, h9, h10, h11, h12, h13, h14, h15⟩ := h c
  exact ⟨h0.trans ((val_main_v16_eq ..).trans (r_v16 ..)),
    h1.trans ((val_main_v17_eq ..).trans (r_v17 ..)),
    h2.trans ((val_main_v18_eq ..).trans (r_v18 ..)),
    h3.trans ((val_main_v43_eq ..).trans (r_v43 ..)),
    h4.trans ((val_main_v44_eq ..).trans (r_v44 ..)),
    h5.trans ((val_main_v45_eq ..).trans (r_v45 ..)),
    h6.trans ((val_main_v42_eq ..).trans (r_v42 ..)),
    h7.trans ((val_main_v46_eq ..).trans (r_v46 ..)),
    h8.trans ((val_main_v25_eq ..).trans (r_v25 ..)),
    h9, h10, h11, h12, h13, h14, h15⟩

end Cert.MbInRefIdeal.Val

end
-- ==== Proof.HgOutMat.lean ====
/- The product after the mixer with the next norm, and its gradient: what each of those regions leaves, from what it finds. -/
module

public import proofs.«01_k».proof.Proof.ProdSpec
public import proofs.«01_k».proof.Proof.Gen.HgOutIdeal.Frame

@[expose] public section

set_option maxRecDepth 16384

noncomputable section

namespace Cert.HgOutIdeal.Val

open Cert.HgOutIdeal Cert.HgOutIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem point0a (c : Dev nD) (t : Fin cfg0.N) (y : S512x1024.Idx) :
    k0_pay1 (iblk0 V c 0 t) (iblk0 V c 1 t) (iblk0 V c 2 t) y
      = add (M := 4096) (N := 1024) (mm (K := 1024) (V c main_v0) (V c main_v1)) (V c main_arg2) (((cfg0.win 4).blk t).view.emb y) := by
  pointwise [k0_pay1, mm, add]
  blk_point [iblk0, idx0 t]

theorem val0a (c : Dev nD) : (dat0 V c).arrAt 4 cfg0.N
      = add (M := 4096) (N := 1024) (mm (K := 1024) (V c main_v0) (V c main_v1)) (V c main_arg2) := by
  refine (dat0 V c).arrAt_eq_of_covers 4 _ (by decide +kernel) fun t _ y => ?_
  blk_simp
  rw [after0_4]; frame_out
  exact point0a V c t y

theorem point0b (c : Dev nD) (t : Fin cfg0.N) (y : S512x1024.Idx) :
    k0_pay2 (iblk0 V c 0 t) (iblk0 V c 1 t) (iblk0 V c 2 t) (iblk0 V c 3 t) y
      = rms (M := 4096) (add (M := 4096) (N := 1024) (mm (K := 1024) (V c main_v0) (V c main_v1)) (V c main_arg2)) (V c main_arg3) (((cfg0.win 5).blk t).view.emb y) := by
  pointwise [k0_pay2, k0_pay1, mm, add, rms, ms]
  blk_point [iblk0, idx0 t]

theorem val0b (c : Dev nD) : (dat0 V c).arrAt 5 cfg0.N
      = rms (M := 4096) (add (M := 4096) (N := 1024) (mm (K := 1024) (V c main_v0) (V c main_v1)) (V c main_arg2)) (V c main_arg3) := by
  refine (dat0 V c).arrAt_eq_of_covers 5 _ (by decide +kernel) fun t _ y => ?_
  blk_simp
  rw [after0_5]; frame_out
  exact point0b V c t y

theorem idx1 : ∀ t : Fin cfg1.N, win1_0.index t = ![0, 0] ∧ win1_1.index t = ![t.val, 0] ∧ win1_2.index t = ![0, t.val] :=
  (by decide +kernel : ∀ t : Fin grid1.N, _)

theorem point1 (c : Dev nD) (t : Fin cfg1.N) (y : S4096x512.Idx) :
    k1_pay1 (iblk1 V c 0 t) (iblk1 V c 1 t) y
      = mmt (M := 4096) (K := 1024) (N := 1024) (V c main_v2) (V c main_v1) (((cfg1.win 2).blk t).view.emb y) := by
  pointwise [k1_pay1, mmt]
  blk_point [iblk1, idx1 t]

theorem val1 (c : Dev nD) : (dat1 V c).arrAt 2 cfg1.N
      = mmt (M := 4096) (K := 1024) (N := 1024) (V c main_v2) (V c main_v1) := by
  refine (dat1 V c).arrAt_eq_of_covers 2 _ (by decide +kernel) fun t _ y => ?_
  blk_simp
  rw [after1_2]; frame_out
  exact point1 V c t y

theorem idx2 : ∀ t : Fin cfg2.N, win2_0.index t = ![0, 0] ∧ win2_1.index t = ![0, 0] ∧ win2_2.index t = ![0, 0] :=
  (by decide +kernel : ∀ t : Fin grid2.N, _)

theorem point2 (c : Dev nD) (t : Fin cfg2.N) (y : S1024x1024.Idx) :
    k2_pay1 (iblk2 V c 0 t) (iblk2 V c 1 t) y
      = tmm (K := 4096) (M := 1024) (N := 1024) (V c main_v0) (V c main_v2) (((cfg2.win 2).blk t).view.emb y) := by
  pointwise [k2_pay1, tmm]
  blk_point [iblk2, idx2 t]

theorem val2 (c : Dev nD) : (dat2 V c).arrAt 2 cfg2.N
      = tmm (K := 4096) (M := 1024) (N := 1024) (V c main_v0) (V c main_v2) := by
  refine (dat2 V c).arrAt_eq_of_covers 2 _ (by decide +kernel) fun t _ y => ?_
  blk_simp
  rw [after2_2]; frame_out
  exact point2 V c t y

end Cert.HgOutIdeal.Val

end
-- ==== Proof.HgOutRun.lean ====
/- The product after the mixer runs, and what it leaves: the regions one after another. -/
module

public import proofs.«01_k».proof.Proof.ProdSpec
public import proofs.«01_k».proof.Proof.HgOutMat
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.HgOutIdeal.Val

open Cert.HgOutIdeal Cert.HgOutIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W4 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W4 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem arg3 (c : Dev nD) (a : Ref sig .tc) (h : a ∈ argRefs) : V3 m ρ c a = m ((c : Thread nD τ).loc a) := W3_args m ρ c a h

theorem arg4 (c : Dev nD) (a : Ref sig .tc) (h : a ∈ argRefs) : V4 m ρ c a = m ((c : Thread nD τ).loc a) := W4_args m ρ c a h

theorem at_main_v0_1 (c : Dev nD) : V1 m ρ c main_v0 = m ((c : Thread nD τ).loc main_arg0) := by
  show StableHlo.after hostOps0 (W0 m ρ c) (Proc.devRef .tc main_v0) = _
  unfold_abbrev_sides
  after_results
  rfl

theorem at_main_v1_1 (c : Dev nD) : V1 m ρ c main_v1 = m ((c : Thread nD τ).loc main_arg1) := by
  show StableHlo.after hostOps0 (W0 m ρ c) (Proc.devRef .tc main_v1) = _
  unfold_abbrev_sides
  after_results
  rfl

theorem at_main_v2_1 (c : Dev nD) : V1 m ρ c main_v2 = m ((c : Thread nD τ).loc main_arg4) := by
  show StableHlo.after hostOps0 (W0 m ρ c) (Proc.devRef .tc main_v2) = _
  unfold_abbrev_sides
  after_results
  rfl

theorem at_main_v3_0_2 (c : Dev nD) : V2 m ρ c main_v3_0 = Cert.Spec.HgOut.O (m ((c : Thread nD τ).loc main_arg0)) (m ((c : Thread nD τ).loc main_arg1)) (m ((c : Thread nD τ).loc main_arg2)) := by
  refine (W2_arr m ρ c 4).trans ((val0a (V1 m ρ) c).trans ?_)
  rw [at_main_v0_1 m ρ c, at_main_v1_1 m ρ c, arg1 m ρ c main_arg2 (by decide)]
  rfl

theorem at_main_v3_1_2 (c : Dev nD) : V2 m ρ c main_v3_1 = Cert.Spec.HgOut.NX (m ((c : Thread nD τ).loc main_arg0)) (m ((c : Thread nD τ).loc main_arg1)) (m ((c : Thread nD τ).loc main_arg2)) (m ((c : Thread nD τ).loc main_arg3)) := by
  refine (W2_arr m ρ c 5).trans ((val0b (V1 m ρ) c).trans ?_)
  rw [at_main_v0_1 m ρ c, at_main_v1_1 m ρ c, arg1 m ρ c main_arg2 (by decide), arg1 m ρ c main_arg3 (by decide)]
  rfl

theorem at_main_v2_2 (c : Dev nD) : V2 m ρ c main_v2 = m ((c : Thread nD τ).loc main_arg4) :=
  (W2_of m ρ c main_v2 (by decide)).trans (at_main_v2_1 m ρ c)

theorem at_main_v1_2 (c : Dev nD) : V2 m ρ c main_v1 = m ((c : Thread nD τ).loc main_arg1) :=
  (W2_of m ρ c main_v1 (by decide)).trans (at_main_v1_1 m ρ c)

theorem at_main_v4_3 (c : Dev nD) : V3 m ρ c main_v4 = Cert.Spec.HgOut.DY (m ((c : Thread nD τ).loc main_arg1)) (m ((c : Thread nD τ).loc main_arg4)) := by
  refine (W3_arr m ρ c 2).trans ((val1 (V2 m ρ) c).trans ?_)
  rw [at_main_v2_2 m ρ c, at_main_v1_2 m ρ c]
  rfl

theorem at_main_v0_2 (c : Dev nD) : V2 m ρ c main_v0 = m ((c : Thread nD τ).loc main_arg0) :=
  (W2_of m ρ c main_v0 (by decide)).trans (at_main_v0_1 m ρ c)

theorem at_main_v0_3 (c : Dev nD) : V3 m ρ c main_v0 = m ((c : Thread nD τ).loc main_arg0) :=
  (W3_of m ρ c main_v0 (by decide)).trans (at_main_v0_2 m ρ c)

theorem at_main_v2_3 (c : Dev nD) : V3 m ρ c main_v2 = m ((c : Thread nD τ).loc main_arg4) :=
  (W3_of m ρ c main_v2 (by decide)).trans (at_main_v2_2 m ρ c)

theorem at_main_v5_4 (c : Dev nD) : V4 m ρ c main_v5 = Cert.Spec.HgOut.DWO (m ((c : Thread nD τ).loc main_arg0)) (m ((c : Thread nD τ).loc main_arg4)) := by
  refine (W4_arr m ρ c 2).trans ((val2 (V3 m ρ) c).trans ?_)
  rw [at_main_v0_3 m ρ c, at_main_v2_3 m ρ c]
  rfl

theorem at_main_v3_0_3 (c : Dev nD) : V3 m ρ c main_v3_0 = Cert.Spec.HgOut.O (m ((c : Thread nD τ).loc main_arg0)) (m ((c : Thread nD τ).loc main_arg1)) (m ((c : Thread nD τ).loc main_arg2)) :=
  (W3_of m ρ c main_v3_0 (by decide)).trans (at_main_v3_0_2 m ρ c)

theorem at_main_v3_0_4 (c : Dev nD) : V4 m ρ c main_v3_0 = Cert.Spec.HgOut.O (m ((c : Thread nD τ).loc main_arg0)) (m ((c : Thread nD τ).loc main_arg1)) (m ((c : Thread nD τ).loc main_arg2)) :=
  (W4_of m ρ c main_v3_0 (by decide)).trans (at_main_v3_0_3 m ρ c)

theorem at_main_v3_1_3 (c : Dev nD) : V3 m ρ c main_v3_1 = Cert.Spec.HgOut.NX (m ((c : Thread nD τ).loc main_arg0)) (m ((c : Thread nD τ).loc main_arg1)) (m ((c : Thread nD τ).loc main_arg2)) (m ((c : Thread nD τ).loc main_arg3)) :=
  (W3_of m ρ c main_v3_1 (by decide)).trans (at_main_v3_1_2 m ρ c)

theorem at_main_v3_1_4 (c : Dev nD) : V4 m ρ c main_v3_1 = Cert.Spec.HgOut.NX (m ((c : Thread nD τ).loc main_arg0)) (m ((c : Thread nD τ).loc main_arg1)) (m ((c : Thread nD τ).loc main_arg2)) (m ((c : Thread nD τ).loc main_arg3)) :=
  (W4_of m ρ c main_v3_1 (by decide)).trans (at_main_v3_1_3 m ρ c)

theorem at_main_v4_4 (c : Dev nD) : V4 m ρ c main_v4 = Cert.Spec.HgOut.DY (m ((c : Thread nD τ).loc main_arg1)) (m ((c : Thread nD τ).loc main_arg4)) :=
  (W4_of m ρ c main_v4 (by decide)).trans (at_main_v4_3 m ρ c)

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.mem ((c.tc : Thread nD τ).loc main_v3_0) = Cert.Spec.HgOut.O (m ((c : Thread nD τ).loc main_arg0)) (m ((c : Thread nD τ).loc main_arg1)) (m ((c : Thread nD τ).loc main_arg2))
      ∧ r.2.mem ((c.tc : Thread nD τ).loc main_v3_1) = Cert.Spec.HgOut.NX (m ((c : Thread nD τ).loc main_arg0)) (m ((c : Thread nD τ).loc main_arg1)) (m ((c : Thread nD τ).loc main_arg2)) (m ((c : Thread nD τ).loc main_arg3))
      ∧ r.2.mem ((c.tc : Thread nD τ).loc main_v4) = Cert.Spec.HgOut.DY (m ((c : Thread nD τ).loc main_arg1)) (m ((c : Thread nD τ).loc main_arg4))
      ∧ r.2.mem ((c.tc : Thread nD τ).loc main_v5) = Cert.Spec.HgOut.DWO (m ((c : Thread nD τ).loc main_arg0)) (m ((c : Thread nD τ).loc main_arg4)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V4 m ρ c b :=
    fun b hb => h.1 c _ (mem_uc b hb)
  exact ⟨⟨(g main_arg0 (by decide)).trans (arg4 m ρ c main_arg0 (by decide)), (g main_arg1 (by decide)).trans (arg4 m ρ c main_arg1 (by decide)), (g main_arg2 (by decide)).trans (arg4 m ρ c main_arg2 (by decide)), (g main_arg3 (by decide)).trans (arg4 m ρ c main_arg3 (by decide)), (g main_arg4 (by decide)).trans (arg4 m ρ c main_arg4 (by decide))⟩,
    (g main_v3_0 (by decide)).trans (at_main_v3_0_4 m ρ c),
    (g main_v3_1 (by decide)).trans (at_main_v3_1_4 m ρ c),
    (g main_v4 (by decide)).trans (at_main_v4_4 m ρ c),
    (g main_v5 (by decide)).trans (at_main_v5_4 m ρ c)⟩

end Cert.HgOutIdeal.Val

end
-- ==== Proof.HgOutRef.lean ====
/- The reference's results are the mathematics. -/
module

public import proofs.«01_k».proof.Proof.ProdSpec
public import proofs.«01_k».proof.Proof.Gen.HgOutRefIdeal.Read

@[expose] public section

set_option maxRecDepth 16384

noncomputable section

namespace Cert.HgOutRefIdeal.Val

open Cert.HgOutRefIdeal Cert.HgOutRefIdeal.Gen Cert.HgOutRefIdeal.Read Cert.Spec Idealize.ShloMosaic Idealize.ShloMosaic.TcCoe Idealize.SL.Sem

variable (x0 : Mat 4096 1024) (x1 : Mat 1024 1024) (x2 : Mat 4096 1024) (x3 : Mat 1 1024) (x4 : Mat 4096 1024)

theorem r_v1 : val_main_v1 (F := Ideal) x0 x1 x2 = HgOut.O x0 x1 x2 := by
  unfold val_main_v1 val_main_v0 HgOut.O
  funext y
  pointwise [add, mm]
  exact add_comm _ _

theorem r_v4 : val_main_v4 (F := Ideal) x1 x4 = HgOut.DY x1 x4 := by
  unfold val_main_v4 HgOut.DY
  funext y
  pointwise [mmt]

theorem r_v3 : val_main_v3 (F := Ideal) x0 x4 = HgOut.DWO x0 x4 := by
  unfold val_main_v3 val_main_v2 HgOut.DWO
  funext y
  pointwise [tmm]
  exact Finset.sum_congr rfl fun _ _ => mul_comm _ _

theorem r_v17 : val_main_v17 (F := Ideal) x0 x1 x2 x3 = HgOut.NX x0 x1 x2 x3 := by
  unfold val_main_v17 val_main_v16 val_main_v15 val_main_v14 val_main_v13 val_main_v12 val_main_v11 val_main_v10 val_main_v9 val_main_v8 val_main_v7 val_main_v6 val_main_v5 HgOut.NX
  rw [r_v1]
  generalize HgOut.O x0 x1 x2 = z0
  funext y
  pointwise [val_main_cst, val_main_cst_0, val_main_cst_1, rms, ms]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = HgOut.O (m ((c.tc : Thread nD τ).loc main_arg0)) (m ((c.tc : Thread nD τ).loc main_arg1)) (m ((c.tc : Thread nD τ).loc main_arg2))
      ∧ r.2.mem ((c.tc : Thread nD τ).loc main_v17) = HgOut.NX (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = HgOut.DY (m ((c.tc : Thread nD τ).loc main_arg1)) (m ((c.tc : Thread nD τ).loc main_arg4))
      ∧ r.2.mem ((c.tc : Thread nD τ).loc main_v3) = HgOut.DWO (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.HgOutRefIdeal.Value.run m ρ)
  obtain ⟨h0, h1, h2, h3, h4, h5, h6, h7, h8⟩ := h c
  exact ⟨h0.trans ((val_main_v1_eq ..).trans (r_v1 ..)),
    h1.trans ((val_main_v17_eq ..).trans (r_v17 ..)),
    h2.trans ((val_main_v4_eq ..).trans (r_v4 ..)),
    h3.trans ((val_main_v3_eq ..).trans (r_v3 ..)),
    h4, h5, h6, h7, h8⟩

end Cert.HgOutRefIdeal.Val

end
-- ==== Proof.MbOutMat.lean ====
/- The product after the mixer with the next norm, and its gradient: what each of those regions leaves, from what it finds. -/
module

public import proofs.«01_k».proof.Proof.ProdSpec
public import proofs.«01_k».proof.Proof.Gen.MbOutIdeal.Frame

@[expose] public section

set_option maxRecDepth 16384

noncomputable section

namespace Cert.MbOutIdeal.Val

open Cert.MbOutIdeal Cert.MbOutIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem point0a (c : Dev nD) (t : Fin cfg0.N) (y : S512x1024.Idx) :
    k0_pay1 (iblk0 V c 0 t) (iblk0 V c 1 t) (iblk0 V c 2 t) y
      = add (M := 4096) (N := 1024) (mm (K := 2048) (V c main_v0) (V c main_v1)) (V c main_arg2) (((cfg0.win 4).blk t).view.emb y) := by
  pointwise [k0_pay1, mm, add]
  blk_point [iblk0, idx0 t]

theorem val0a (c : Dev nD) : (dat0 V c).arrAt 4 cfg0.N
      = add (M := 4096) (N := 1024) (mm (K := 2048) (V c main_v0) (V c main_v1)) (V c main_arg2) := by
  refine (dat0 V c).arrAt_eq_of_covers 4 _ (by decide +kernel) fun t _ y => ?_
  blk_simp
  rw [after0_4]; frame_out
  exact point0a V c t y

theorem point0b (c : Dev nD) (t : Fin cfg0.N) (y : S512x1024.Idx) :
    k0_pay2 (iblk0 V c 0 t) (iblk0 V c 1 t) (iblk0 V c 2 t) (iblk0 V c 3 t) y
      = rms (M := 4096) (add (M := 4096) (N := 1024) (mm (K := 2048) (V c main_v0) (V c main_v1)) (V c main_arg2)) (V c main_arg3) (((cfg0.win 5).blk t).view.emb y) := by
  pointwise [k0_pay2, k0_pay1, mm, add, rms, ms]
  blk_point [iblk0, idx0 t]

theorem val0b (c : Dev nD) : (dat0 V c).arrAt 5 cfg0.N
      = rms (M := 4096) (add (M := 4096) (N := 1024) (mm (K := 2048) (V c main_v0) (V c main_v1)) (V c main_arg2)) (V c main_arg3) := by
  refine (dat0 V c).arrAt_eq_of_covers 5 _ (by decide +kernel) fun t _ y => ?_
  blk_simp
  rw [after0_5]; frame_out
  exact point0b V c t y

theorem idx1 : ∀ t : Fin cfg1.N, win1_0.index t = ![t.val, 0] ∧ win1_1.index t = ![0, 0] ∧ win1_2.index t = ![t.val, 0] :=
  (by decide +kernel : ∀ t : Fin grid1.N, _)

theorem point1 (c : Dev nD) (t : Fin cfg1.N) (y : S1024x2048.Idx) :
    k1_pay1 (iblk1 V c 0 t) (iblk1 V c 1 t) y
      = mmt (M := 4096) (K := 1024) (N := 2048) (V c main_v2) (V c main_v1) (((cfg1.win 2).blk t).view.emb y) := by
  pointwise [k1_pay1, mmt]
  blk_point [iblk1, idx1 t]

theorem val1 (c : Dev nD) : (dat1 V c).arrAt 2 cfg1.N
      = mmt (M := 4096) (K := 1024) (N := 2048) (V c main_v2) (V c main_v1) := by
  refine (dat1 V c).arrAt_eq_of_covers 2 _ (by decide +kernel) fun t _ y => ?_
  blk_simp
  rw [after1_2]; frame_out
  exact point1 V c t y

theorem idx2 : ∀ t : Fin cfg2.N, win2_0.index t = ![0, t.val] ∧ win2_1.index t = ![0, 0] ∧ win2_2.index t = ![t.val, 0] :=
  (by decide +kernel : ∀ t : Fin grid2.N, _)

theorem point2 (c : Dev nD) (t : Fin cfg2.N) (y : S1024x1024.Idx) :
    k2_pay1 (iblk2 V c 0 t) (iblk2 V c 1 t) y
      = tmm (K := 4096) (M := 2048) (N := 1024) (V c main_v0) (V c main_v2) (((cfg2.win 2).blk t).view.emb y) := by
  pointwise [k2_pay1, tmm]
  blk_point [iblk2, idx2 t]

theorem val2 (c : Dev nD) : (dat2 V c).arrAt 2 cfg2.N
      = tmm (K := 4096) (M := 2048) (N := 1024) (V c main_v0) (V c main_v2) := by
  refine (dat2 V c).arrAt_eq_of_covers 2 _ (by decide +kernel) fun t _ y => ?_
  blk_simp
  rw [after2_2]; frame_out
  exact point2 V c t y

end Cert.MbOutIdeal.Val

end
-- ==== Proof.MbOutRun.lean ====
/- The product after the mixer runs, and what it leaves: the regions one after another. -/
module

public import proofs.«01_k».proof.Proof.ProdSpec
public import proofs.«01_k».proof.Proof.MbOutMat
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.MbOutIdeal.Val

open Cert.MbOutIdeal Cert.MbOutIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W4 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W4 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem arg3 (c : Dev nD) (a : Ref sig .tc) (h : a ∈ argRefs) : V3 m ρ c a = m ((c : Thread nD τ).loc a) := W3_args m ρ c a h

theorem arg4 (c : Dev nD) (a : Ref sig .tc) (h : a ∈ argRefs) : V4 m ρ c a = m ((c : Thread nD τ).loc a) := W4_args m ρ c a h

theorem at_main_v0_1 (c : Dev nD) : V1 m ρ c main_v0 = m ((c : Thread nD τ).loc main_arg0) := by
  show StableHlo.after hostOps0 (W0 m ρ c) (Proc.devRef .tc main_v0) = _
  unfold_abbrev_sides
  after_results
  rfl

theorem at_main_v1_1 (c : Dev nD) : V1 m ρ c main_v1 = m ((c : Thread nD τ).loc main_arg1) := by
  show StableHlo.after hostOps0 (W0 m ρ c) (Proc.devRef .tc main_v1) = _
  unfold_abbrev_sides
  after_results
  rfl

theorem at_main_v2_1 (c : Dev nD) : V1 m ρ c main_v2 = m ((c : Thread nD τ).loc main_arg4) := by
  show StableHlo.after hostOps0 (W0 m ρ c) (Proc.devRef .tc main_v2) = _
  unfold_abbrev_sides
  after_results
  rfl

theorem at_main_v3_0_2 (c : Dev nD) : V2 m ρ c main_v3_0 = Cert.Spec.MbOut.O (m ((c : Thread nD τ).loc main_arg0)) (m ((c : Thread nD τ).loc main_arg1)) (m ((c : Thread nD τ).loc main_arg2)) := by
  refine (W2_arr m ρ c 4).trans ((val0a (V1 m ρ) c).trans ?_)
  rw [at_main_v0_1 m ρ c, at_main_v1_1 m ρ c, arg1 m ρ c main_arg2 (by decide)]
  rfl

theorem at_main_v3_1_2 (c : Dev nD) : V2 m ρ c main_v3_1 = Cert.Spec.MbOut.NX (m ((c : Thread nD τ).loc main_arg0)) (m ((c : Thread nD τ).loc main_arg1)) (m ((c : Thread nD τ).loc main_arg2)) (m ((c : Thread nD τ).loc main_arg3)) := by
  refine (W2_arr m ρ c 5).trans ((val0b (V1 m ρ) c).trans ?_)
  rw [at_main_v0_1 m ρ c, at_main_v1_1 m ρ c, arg1 m ρ c main_arg2 (by decide), arg1 m ρ c main_arg3 (by decide)]
  rfl

theorem at_main_v2_2 (c : Dev nD) : V2 m ρ c main_v2 = m ((c : Thread nD τ).loc main_arg4) :=
  (W2_of m ρ c main_v2 (by decide)).trans (at_main_v2_1 m ρ c)

theorem at_main_v1_2 (c : Dev nD) : V2 m ρ c main_v1 = m ((c : Thread nD τ).loc main_arg1) :=
  (W2_of m ρ c main_v1 (by decide)).trans (at_main_v1_1 m ρ c)

theorem at_main_v4_3 (c : Dev nD) : V3 m ρ c main_v4 = Cert.Spec.MbOut.DY (m ((c : Thread nD τ).loc main_arg1)) (m ((c : Thread nD τ).loc main_arg4)) := by
  refine (W3_arr m ρ c 2).trans ((val1 (V2 m ρ) c).trans ?_)
  rw [at_main_v2_2 m ρ c, at_main_v1_2 m ρ c]
  rfl

theorem at_main_v0_2 (c : Dev nD) : V2 m ρ c main_v0 = m ((c : Thread nD τ).loc main_arg0) :=
  (W2_of m ρ c main_v0 (by decide)).trans (at_main_v0_1 m ρ c)

theorem at_main_v0_3 (c : Dev nD) : V3 m ρ c main_v0 = m ((c : Thread nD τ).loc main_arg0) :=
  (W3_of m ρ c main_v0 (by decide)).trans (at_main_v0_2 m ρ c)

theorem at_main_v2_3 (c : Dev nD) : V3 m ρ c main_v2 = m ((c : Thread nD τ).loc main_arg4) :=
  (W3_of m ρ c main_v2 (by decide)).trans (at_main_v2_2 m ρ c)

theorem at_main_v5_4 (c : Dev nD) : V4 m ρ c main_v5 = Cert.Spec.MbOut.DWO (m ((c : Thread nD τ).loc main_arg0)) (m ((c : Thread nD τ).loc main_arg4)) := by
  refine (W4_arr m ρ c 2).trans ((val2 (V3 m ρ) c).trans ?_)
  rw [at_main_v0_3 m ρ c, at_main_v2_3 m ρ c]
  rfl

theorem at_main_v3_0_3 (c : Dev nD) : V3 m ρ c main_v3_0 = Cert.Spec.MbOut.O (m ((c : Thread nD τ).loc main_arg0)) (m ((c : Thread nD τ).loc main_arg1)) (m ((c : Thread nD τ).loc main_arg2)) :=
  (W3_of m ρ c main_v3_0 (by decide)).trans (at_main_v3_0_2 m ρ c)

theorem at_main_v3_0_4 (c : Dev nD) : V4 m ρ c main_v3_0 = Cert.Spec.MbOut.O (m ((c : Thread nD τ).loc main_arg0)) (m ((c : Thread nD τ).loc main_arg1)) (m ((c : Thread nD τ).loc main_arg2)) :=
  (W4_of m ρ c main_v3_0 (by decide)).trans (at_main_v3_0_3 m ρ c)

theorem at_main_v3_1_3 (c : Dev nD) : V3 m ρ c main_v3_1 = Cert.Spec.MbOut.NX (m ((c : Thread nD τ).loc main_arg0)) (m ((c : Thread nD τ).loc main_arg1)) (m ((c : Thread nD τ).loc main_arg2)) (m ((c : Thread nD τ).loc main_arg3)) :=
  (W3_of m ρ c main_v3_1 (by decide)).trans (at_main_v3_1_2 m ρ c)

theorem at_main_v3_1_4 (c : Dev nD) : V4 m ρ c main_v3_1 = Cert.Spec.MbOut.NX (m ((c : Thread nD τ).loc main_arg0)) (m ((c : Thread nD τ).loc main_arg1)) (m ((c : Thread nD τ).loc main_arg2)) (m ((c : Thread nD τ).loc main_arg3)) :=
  (W4_of m ρ c main_v3_1 (by decide)).trans (at_main_v3_1_3 m ρ c)

theorem at_main_v4_4 (c : Dev nD) : V4 m ρ c main_v4 = Cert.Spec.MbOut.DY (m ((c : Thread nD τ).loc main_arg1)) (m ((c : Thread nD τ).loc main_arg4)) :=
  (W4_of m ρ c main_v4 (by decide)).trans (at_main_v4_3 m ρ c)

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.mem ((c.tc : Thread nD τ).loc main_v3_0) = Cert.Spec.MbOut.O (m ((c : Thread nD τ).loc main_arg0)) (m ((c : Thread nD τ).loc main_arg1)) (m ((c : Thread nD τ).loc main_arg2))
      ∧ r.2.mem ((c.tc : Thread nD τ).loc main_v3_1) = Cert.Spec.MbOut.NX (m ((c : Thread nD τ).loc main_arg0)) (m ((c : Thread nD τ).loc main_arg1)) (m ((c : Thread nD τ).loc main_arg2)) (m ((c : Thread nD τ).loc main_arg3))
      ∧ r.2.mem ((c.tc : Thread nD τ).loc main_v4) = Cert.Spec.MbOut.DY (m ((c : Thread nD τ).loc main_arg1)) (m ((c : Thread nD τ).loc main_arg4))
      ∧ r.2.mem ((c.tc : Thread nD τ).loc main_v5) = Cert.Spec.MbOut.DWO (m ((c : Thread nD τ).loc main_arg0)) (m ((c : Thread nD τ).loc main_arg4)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V4 m ρ c b :=
    fun b hb => h.1 c _ (mem_uc b hb)
  exact ⟨⟨(g main_arg0 (by decide)).trans (arg4 m ρ c main_arg0 (by decide)), (g main_arg1 (by decide)).trans (arg4 m ρ c main_arg1 (by decide)), (g main_arg2 (by decide)).trans (arg4 m ρ c main_arg2 (by decide)), (g main_arg3 (by decide)).trans (arg4 m ρ c main_arg3 (by decide)), (g main_arg4 (by decide)).trans (arg4 m ρ c main_arg4 (by decide))⟩,
    (g main_v3_0 (by decide)).trans (at_main_v3_0_4 m ρ c),
    (g main_v3_1 (by decide)).trans (at_main_v3_1_4 m ρ c),
    (g main_v4 (by decide)).trans (at_main_v4_4 m ρ c),
    (g main_v5 (by decide)).trans (at_main_v5_4 m ρ c)⟩

end Cert.MbOutIdeal.Val

end
-- ==== Proof.MbOutRef.lean ====
/- The reference's results are the mathematics. -/
module

public import proofs.«01_k».proof.Proof.ProdSpec
public import proofs.«01_k».proof.Proof.Gen.MbOutRefIdeal.Read

@[expose] public section

set_option maxRecDepth 16384

noncomputable section

namespace Cert.MbOutRefIdeal.Val

open Cert.MbOutRefIdeal Cert.MbOutRefIdeal.Gen Cert.MbOutRefIdeal.Read Cert.Spec Idealize.ShloMosaic Idealize.ShloMosaic.TcCoe Idealize.SL.Sem

variable (x0 : Mat 4096 2048) (x1 : Mat 2048 1024) (x2 : Mat 4096 1024) (x3 : Mat 1 1024) (x4 : Mat 4096 1024)

theorem r_v1 : val_main_v1 (F := Ideal) x0 x1 x2 = MbOut.O x0 x1 x2 := by
  unfold val_main_v1 val_main_v0 MbOut.O
  funext y
  pointwise [add, mm]
  exact add_comm _ _

theorem r_v4 : val_main_v4 (F := Ideal) x1 x4 = MbOut.DY x1 x4 := by
  unfold val_main_v4 MbOut.DY
  funext y
  pointwise [mmt]

theorem r_v3 : val_main_v3 (F := Ideal) x0 x4 = MbOut.DWO x0 x4 := by
  unfold val_main_v3 val_main_v2 MbOut.DWO
  funext y
  pointwise [tmm]
  exact Finset.sum_congr rfl fun _ _ => mul_comm _ _

theorem r_v17 : val_main_v17 (F := Ideal) x0 x1 x2 x3 = MbOut.NX x0 x1 x2 x3 := by
  unfold val_main_v17 val_main_v16 val_main_v15 val_main_v14 val_main_v13 val_main_v12 val_main_v11 val_main_v10 val_main_v9 val_main_v8 val_main_v7 val_main_v6 val_main_v5 MbOut.NX
  rw [r_v1]
  generalize MbOut.O x0 x1 x2 = z0
  funext y
  pointwise [val_main_cst, val_main_cst_0, val_main_cst_1, rms, ms]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = MbOut.O (m ((c.tc : Thread nD τ).loc main_arg0)) (m ((c.tc : Thread nD τ).loc main_arg1)) (m ((c.tc : Thread nD τ).loc main_arg2))
      ∧ r.2.mem ((c.tc : Thread nD τ).loc main_v17) = MbOut.NX (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = MbOut.DY (m ((c.tc : Thread nD τ).loc main_arg1)) (m ((c.tc : Thread nD τ).loc main_arg4))
      ∧ r.2.mem ((c.tc : Thread nD τ).loc main_v3) = MbOut.DWO (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.MbOutRefIdeal.Value.run m ρ)
  obtain ⟨h0, h1, h2, h3, h4, h5, h6, h7, h8⟩ := h c
  exact ⟨h0.trans ((val_main_v1_eq ..).trans (r_v1 ..)),
    h1.trans ((val_main_v17_eq ..).trans (r_v17 ..)),
    h2.trans ((val_main_v4_eq ..).trans (r_v4 ..)),
    h3.trans ((val_main_v3_eq ..).trans (r_v3 ..)),
    h4, h5, h6, h7, h8⟩

end Cert.MbOutRefIdeal.Val

end
-- ==== Proof.AdSpec.lean ====
/- The optimiser's mathematics: the sum of the devices' gradient parts, the moments and the step, entry by entry. -/
module

public import Idealize.ShloMosaic.Lib.Pipeline.ValueKit

@[expose] public section

set_option maxRecDepth 16384

noncomputable section

namespace Cert.Spec

open Idealize.ShloMosaic Idealize.ShloMosaic.TcCoe

/-- An array of three axes. -/
abbrev Ten (a b c : ℕ) : Type := (⟨3, ![a, b, c]⟩ : Shape).Idx → EReal

theorem unit_eta {R N : ℕ} (y : (⟨3, ![1, R, N]⟩ : Shape).Idx) : ix3 (0 : Fin 1) (y 1) (y 2) = y := by
  funext d
  match d with
  | ⟨0, _⟩ => exact Fin.ext (Nat.lt_one_iff.mp (y 0).isLt).symm
  | ⟨1, _⟩ => rfl
  | ⟨2, _⟩ => rfl

/-- The reciprocal of the literal `1 - β₁ ^ 10`. -/
abbrev invC1 : EReal := ((8388608 / 5463681 : ℝ) : EReal)
/-- The reciprocal of the literal `1 - β₂ ^ 10`. -/
abbrev invC2 : EReal := ((268435456 / 2672307 : ℝ) : EReal)

/-- A device's own part and the seven others'. -/
def sum7 (a : EReal) (f : Fin 7 → EReal) : EReal := a + f 0 + f 1 + f 2 + f 3 + f 4 + f 5 + f 6

theorem sum7_eq (a : EReal) (f : Fin 7 → EReal) : a + ∑ k, f k = sum7 a f := by
  rw [Fin.sum_univ_seven]
  unfold sum7
  simp only [add_assoc]

/-- The first moment, from the gradient `g` and the moment `m` before. -/
def moment (g m : EReal) : EReal := Ideal.ofBits .f32 0x3F666666#32 * m + Ideal.ofBits .f32 0x3DCCCCCD#32 * g

/-- The second moment. -/
def moment2 (g v : EReal) : EReal := Ideal.ofBits .f32 0x3F7FBE77#32 * v + Ideal.ofBits .f32 0x3A83126F#32 * (g * g)

/-- The step. -/
def step (g w m v : EReal) : EReal :=
  Ideal.ofBits .f32 0xBA83126F#32
    * (Ideal.div (moment g m * invC1) (Ideal.sqrt (moment2 g v * invC2) + Ideal.ofBits .f32 0x322BCC77#32)
      + Ideal.ofBits .f32 0x3C23D70A#32 * w)

theorem div_c1 (x : EReal) : Ideal.div x (Ideal.ofBits .f32 0x3F26BD02#32) = x * invC1 := by
  rw [show Ideal.ofBits .f32 0x3F26BD02#32 = ((5463681 / 8388608 : ℝ) : EReal) from by
    simp [Ideal.ofBits, Ideal.ieee, -EReal.coe_mul]; norm_num, Ideal.div_coe (by norm_num), one_div_div]

theorem div_c2 (x : EReal) : Ideal.div x (Ideal.ofBits .f32 0x3C231ACC#32) = x * invC2 := by
  rw [show Ideal.ofBits .f32 0x3C231ACC#32 = ((2672307 / 268435456 : ℝ) : EReal) from by
    simp [Ideal.ofBits, Ideal.ieee, -EReal.coe_mul]; norm_num, Ideal.div_coe (by norm_num), one_div_div]

variable {R N : ℕ}

namespace Adam1

/-- The gradient: the device's own part and the seven others'. -/
def G (got : Ten 7 R N) (own : (⟨2, ![R, N]⟩ : Shape).Idx → EReal) : Ten 1 R N :=
  fun j => sum7 (own (ix2 (j 1) (j 2))) fun k => got (ix3 k (j 1) (j 2))
/-- The first moment. -/
def NM (got : Ten 7 R N) (own : (⟨2, ![R, N]⟩ : Shape).Idx → EReal) (m : Ten 1 R N) : Ten 1 R N := fun j => moment (G got own j) (m j)
/-- The second moment. -/
def NV (got : Ten 7 R N) (own : (⟨2, ![R, N]⟩ : Shape).Idx → EReal) (v : Ten 1 R N) : Ten 1 R N := fun j => moment2 (G got own j) (v j)
/-- The step. -/
def D (got : Ten 7 R N) (own : (⟨2, ![R, N]⟩ : Shape).Idx → EReal) (w m v : Ten 1 R N) : Ten 1 R N :=
  fun j => step (G got own j) (w j) (m j) (v j)

end Adam1

namespace Adam2

/-- A layer's gradient: the device's own part and the seven others'. -/
def Lay (got : Ten 7 R N) (own : (⟨2, ![R, N]⟩ : Shape).Idx → EReal) : Ten 2 R N :=
  fun j => sum7 (own (ix2 (j 1) (j 2))) fun k => got (ix3 k (j 1) (j 2))
/-- The gradient of both layers. -/
def G (got1 : Ten 7 R N) (own1 : (⟨2, ![R, N]⟩ : Shape).Idx → EReal) (got0 : Ten 7 R N) (own0 : (⟨2, ![R, N]⟩ : Shape).Idx → EReal) :
    Ten 2 R N := fun j => if (j 0).val = 0 then Lay got0 own0 j else Lay got1 own1 j
/-- The first moment. -/
def NM (got1 : Ten 7 R N) (own1 : (⟨2, ![R, N]⟩ : Shape).Idx → EReal) (got0 : Ten 7 R N) (own0 : (⟨2, ![R, N]⟩ : Shape).Idx → EReal)
    (m : Ten 2 R N) : Ten 2 R N := fun j => moment (G got1 own1 got0 own0 j) (m j)
/-- The second moment. -/
def NV (got1 : Ten 7 R N) (own1 : (⟨2, ![R, N]⟩ : Shape).Idx → EReal) (got0 : Ten 7 R N) (own0 : (⟨2, ![R, N]⟩ : Shape).Idx → EReal)
    (v : Ten 2 R N) : Ten 2 R N := fun j => moment2 (G got1 own1 got0 own0 j) (v j)
/-- The step. -/
def D (got1 : Ten 7 R N) (own1 : (⟨2, ![R, N]⟩ : Shape).Idx → EReal) (got0 : Ten 7 R N) (own0 : (⟨2, ![R, N]⟩ : Shape).Idx → EReal)
    (w m v : Ten 2 R N) : Ten 2 R N := fun j => step (G got1 own1 got0 own0 j) (w j) (m j) (v j)

end Adam2

end Cert.Spec

end
-- ==== Proof.AdAInMat.lean ====
/- What the optimiser's region leaves, from what it finds. -/
module

public import proofs.«01_k».proof.Proof.AdSpec
public import proofs.«01_k».proof.Proof.Gen.AdAInIdeal.Frame

@[expose] public section

set_option maxRecDepth 16384

noncomputable section

namespace Cert.AdAInIdeal.Val

open Cert.AdAInIdeal Cert.AdAInIdeal.Gen Cert.Spec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

/-! ## A block of 256 rows -/

section
variable (x0 : Vec Ideal S7x256x640 .bf16) (x1 x2 x3 : Vec Ideal S1x256x640 .f32) (x4 : Vec Ideal S256x640 .f32)

/-- The gradient on a block. -/
abbrev gB : Fin 256 → Fin 640 → EReal := fun r i => sum7 (x4 (ix2 r i)) fun k => x0 (ix3 k r i)

theorem kpay : k0_pay11 x0 x1 x2 x3 x4 = fun j => gB x0 x4 (j 0) (j 1) := by
  funext y; pointwise [k0_pay11, k0_pay2, gB, sum7]

theorem out5 : out0_5 x0 x1 x2 x3 x4 = fun j => gB x0 x4 (j 1) (j 2) := by
  funext y; frame_out; rw [kpay]; generalize gB x0 x4 = g; pointwise [k0_pay7]

theorem out6 : out0_6 x0 x1 x2 x3 x4 = fun j => step (gB x0 x4 (j 1) (j 2)) (x1 j) (x2 j) (x3 j) := by
  funext y; frame_out; rw [kpay]; generalize gB x0 x4 = g
  pointwise [k0_pay1, k0_pay10, k0_pay12, k0_pay13, k0_pay3, k0_pay4, k0_pay5, k0_pay6, step, moment, moment2]
  rw [c1, c2]
  exact congrArg (fun z : S1x256x640.Idx => step (g (y 1) (y 2)) (x1 y) (x2 z) (x3 y)) (unit_eta y)

theorem out7 : out0_7 x0 x1 x2 x3 x4 = fun j => moment (gB x0 x4 (j 1) (j 2)) (x2 j) := by
  funext y; frame_out; rw [kpay]; generalize gB x0 x4 = g
  pointwise [k0_pay8, k0_pay12, k0_pay13, k0_pay3, k0_pay4, k0_pay5, moment]
  exact congrArg (fun z : S1x256x640.Idx => moment (g (y 1) (y 2)) (x2 z)) (unit_eta y)

theorem out8 : out0_8 x0 x1 x2 x3 x4 = fun j => moment2 (gB x0 x4 (j 1) (j 2)) (x3 j) := by
  funext y; frame_out; rw [kpay]; generalize gB x0 x4 = g
  pointwise [k0_pay9, k0_pay12, k0_pay13, k0_pay3, k0_pay4, k0_pay6, moment2]
end

/-! ## The blocks of the arrays -/

theorem idx0 : ∀ t : Fin cfg0.N, win0_0.index t = ![0, t.val, 0] ∧ win0_1.index t = ![0, t.val, 0] ∧ win0_2.index t = ![0, t.val, 0]
    ∧ win0_3.index t = ![0, t.val, 0] ∧ win0_4.index t = ![t.val, 0] ∧ win0_5.index t = ![0, t.val, 0] ∧ win0_6.index t = ![0, t.val, 0]
    ∧ win0_7.index t = ![0, t.val, 0] ∧ win0_8.index t = ![0, t.val, 0] :=
  (by decide +kernel : ∀ t : Fin grid0.N, _)

/-- The array's entry at entry `y` of block `t`. -/
def pos (t : Fin cfg0.N) (y : S1x256x640.Idx) : S1x1024x640.Idx :=
  ix3 0 ⟨t.val * 256 + (y 1).val, by
    have ht : t.val < 4 := lt_of_lt_of_eq t.isLt N_0
    have hy : (y 1).val < 256 := (y 1).isLt
    omega⟩ (y 2)

theorem emb5 (t : Fin cfg0.N) (y : S1x256x640.Idx) : (win0_5.blk t).view.emb y = pos t y := by
  unfold pos; blk_ext [idx0 t]

theorem emb6 (t : Fin cfg0.N) (y : S1x256x640.Idx) : (win0_6.blk t).view.emb y = pos t y := by
  unfold pos; blk_ext [idx0 t]

theorem emb7 (t : Fin cfg0.N) (y : S1x256x640.Idx) : (win0_7.blk t).view.emb y = pos t y := by
  unfold pos; blk_ext [idx0 t]

theorem emb8 (t : Fin cfg0.N) (y : S1x256x640.Idx) : (win0_8.blk t).view.emb y = pos t y := by
  unfold pos; blk_ext [idx0 t]

theorem in1 (c : Dev nD) (t : Fin cfg0.N) (y : S1x256x640.Idx) : iblk m c 1 t y = V m c main_arg2 (pos t y) := by
  unfold pos; blk_point [iblk, idx0 t]

theorem in2 (c : Dev nD) (t : Fin cfg0.N) (y : S1x256x640.Idx) : iblk m c 2 t y = V m c main_arg3 (pos t y) := by
  unfold pos; blk_point [iblk, idx0 t]

theorem in3 (c : Dev nD) (t : Fin cfg0.N) (y : S1x256x640.Idx) : iblk m c 3 t y = V m c main_arg4 (pos t y) := by
  unfold pos; blk_point [iblk, idx0 t]

theorem in0 (c : Dev nD) (t : Fin cfg0.N) (y : S1x256x640.Idx) (k : Fin 7) :
    iblk m c 0 t (ix3 k (y 1) (y 2)) = V m c main_v0 (ix3 k (pos t y 1) (pos t y 2)) := by
  unfold pos; blk_point [iblk, idx0 t]

theorem in4 (c : Dev nD) (t : Fin cfg0.N) (y : S1x256x640.Idx) :
    iblk m c 4 t (ix2 (y 1) (y 2)) = V m c main_arg1 (ix2 (pos t y 1) (pos t y 2)) := by
  unfold pos; blk_point [iblk, idx0 t]

theorem gB_pos (c : Dev nD) (t : Fin cfg0.N) (y : S1x256x640.Idx) : gB (iblk m c 0 t) (iblk m c 4 t) (y 1) (y 2)
    = Adam1.G (R := 1024) (N := 640) (V m c main_v0) (V m c main_arg1) (pos t y) :=
  congrArg₂ sum7 (in4 m c t y) (funext fun k => in0 m c t y k)

theorem v5 (c : Dev nD) : (dats m 0 c).arrAt 5 cfg0.N = Adam1.G (R := 1024) (N := 640) (V m c main_v0) (V m c main_arg1) := by
  refine (dats m 0 c).arrAt_eq_of_covers 5 _ (by decide +kernel) fun t _ y => ?_
  blk_simp
  rw [after0_5, out5, emb5]
  exact gB_pos m c t y

theorem v6 (c : Dev nD) : (dats m 0 c).arrAt 6 cfg0.N
    = Adam1.D (R := 1024) (N := 640) (V m c main_v0) (V m c main_arg1) (V m c main_arg2) (V m c main_arg3) (V m c main_arg4) := by
  refine (dats m 0 c).arrAt_eq_of_covers 6 _ (by decide +kernel) fun t _ y => ?_
  blk_simp
  rw [after0_6, out6, emb6]
  dsimp only
  rw [gB_pos, in1, in2, in3]
  rfl

theorem v7 (c : Dev nD) : (dats m 0 c).arrAt 7 cfg0.N
    = Adam1.NM (R := 1024) (N := 640) (V m c main_v0) (V m c main_arg1) (V m c main_arg3) := by
  refine (dats m 0 c).arrAt_eq_of_covers 7 _ (by decide +kernel) fun t _ y => ?_
  blk_simp
  rw [after0_7, out7, emb7]
  dsimp only
  rw [gB_pos, in2]
  rfl

theorem v8 (c : Dev nD) : (dats m 0 c).arrAt 8 cfg0.N
    = Adam1.NV (R := 1024) (N := 640) (V m c main_v0) (V m c main_arg1) (V m c main_arg4) := by
  refine (dats m 0 c).arrAt_eq_of_covers 8 _ (by decide +kernel) fun t _ y => ?_
  blk_simp
  rw [after0_8, out8, emb8]
  dsimp only
  rw [gB_pos, in3]
  rfl

end Cert.AdAInIdeal.Val

end
-- ==== Proof.AdAInRun.lean ====
/- The optimiser's region runs, and what it leaves. -/
module

public import proofs.«01_k».proof.Proof.AdAInMat

@[expose] public section

set_option maxRecDepth 16384

noncomputable section

namespace Cert.AdAInIdeal.Val

open Cert.AdAInIdeal Cert.AdAInIdeal.Gen Cert.Spec Idealize.ShloMosaic Idealize.ShloMosaic.TcCoe Idealize.SL.Sem

variable (m : (ℓ : Loc nD τ sig) → Buf (Elt Ideal) ℓ) (ρ : Dev nD → PrngReg)

/-- The other devices' parts are as given. -/
theorem V_main_v0 (c : Dev nD) : V m c main_v0 = m ((c : Thread nD τ).loc main_arg0) := by
  unfold V
  after_results
  rfl

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.mem ((c.tc : Thread nD τ).loc main_v1_0) = Adam1.G (R := 1024) (N := 640) (m ((c.tc : Thread nD τ).loc main_arg0)) (m ((c.tc : Thread nD τ).loc main_arg1))
      ∧ r.2.mem ((c.tc : Thread nD τ).loc main_v1_1) = Adam1.D (R := 1024) (N := 640) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v1_2) = Adam1.NM (R := 1024) (N := 640) (m ((c.tc : Thread nD τ).loc main_arg0)) (m ((c.tc : Thread nD τ).loc main_arg1)) (m ((c.tc : Thread nD τ).loc main_arg3))
      ∧ r.2.mem ((c.tc : Thread nD τ).loc main_v1_3) = Adam1.NV (R := 1024) (N := 640) (m ((c.tc : Thread nD τ).loc main_arg0)) (m ((c.tc : Thread nD τ).loc main_arg1)) (m ((c.tc : Thread nD τ).loc main_arg4)))
      ∧ r.2.sem = fun _ => 0) := by
  refine (θ_run defs _ _).mono (fun r h => ⟨fun c => ⟨h.1.1 c, ?_, ?_, ?_, ?_⟩, h.2.2⟩) (θ_run_and (frame m ρ) (run_main_quiescent m ρ))
  · exact ((h.2.1 c).1 5).trans ((v5 m c).trans (by rw [V_main_v0, V_main_arg1]))
  · exact ((h.2.1 c).1 6).trans ((v6 m c).trans (by rw [V_main_v0, V_main_arg1, V_main_arg2, V_main_arg3, V_main_arg4]))
  · exact ((h.2.1 c).1 7).trans ((v7 m c).trans (by rw [V_main_v0, V_main_arg1, V_main_arg3]))
  · exact ((h.2.1 c).1 8).trans ((v8 m c).trans (by rw [V_main_v0, V_main_arg1, V_main_arg4]))

end Cert.AdAInIdeal.Val

end
-- ==== Proof.AdAInRef.lean ====
/- The reference's results are the mathematics. -/
module

public import proofs.«01_k».proof.Proof.AdSpec
public import proofs.«01_k».proof.Proof.Gen.AdAInRefIdeal.Read

@[expose] public section

set_option maxRecDepth 16384

noncomputable section

namespace Cert.AdAInRefIdeal.Val

open Cert.AdAInRefIdeal Cert.AdAInRefIdeal.Gen Cert.AdAInRefIdeal.Read Cert.Spec Idealize.ShloMosaic Idealize.ShloMosaic.TcCoe Idealize.SL.Sem

variable (x0 : Ten 7 1024 640) (x1 : (⟨2, ![1024, 640]⟩ : Shape).Idx → EReal) (x2 x3 x4 : Ten 1 1024 640)

theorem r_G : val_main_v2 (F := Ideal) x0 x1 = Adam1.G x0 x1 := by
  unfold val_main_v2 val_main_v1 val_main_v0 Adam1.G
  funext y
  pointwise [val_main_cst]
  exact sum7_eq _ _

theorem r_NM : val_main_v7 (F := Ideal) x0 x1 x3 = Adam1.NM x0 x1 x3 := by
  unfold val_main_v7 val_main_v6 val_main_v5 val_main_v4 val_main_v3 Adam1.NM
  rw [r_G]
  generalize Adam1.G x0 x1 = g
  funext y
  pointwise [val_main_cst_0, val_main_cst_1, moment]

theorem r_NV : val_main_v13 (F := Ideal) x0 x1 x4 = Adam1.NV x0 x1 x4 := by
  unfold val_main_v13 val_main_v12 val_main_v11 val_main_v10 val_main_v9 val_main_v8 Adam1.NV
  rw [r_G]
  generalize Adam1.G x0 x1 = g
  funext y
  pointwise [val_main_cst_2, val_main_cst_3, moment2]

theorem r_D : val_main_v26 (F := Ideal) x0 x1 x2 x3 x4 = Adam1.D x0 x1 x2 x3 x4 := by
  unfold val_main_v26 val_main_v25 val_main_v24 val_main_v23 val_main_v22 val_main_v21 val_main_v20 val_main_v19 val_main_v18 val_main_v17 val_main_v16 val_main_v15 val_main_v14 Adam1.D
  rw [r_NM, r_NV]
  unfold Adam1.NM Adam1.NV
  generalize Adam1.G x0 x1 = g
  funext y
  pointwise [val_main_cst_4, val_main_cst_5, val_main_cst_6, val_main_cst_7, val_main_cst_8, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Adam1.G (R := 1024) (N := 640) (m ((c.tc : Thread nD τ).loc main_arg0)) (m ((c.tc : Thread nD τ).loc main_arg1))
      ∧ r.2.mem ((c.tc : Thread nD τ).loc main_v26) = Adam1.D (R := 1024) (N := 640) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v7) = Adam1.NM (R := 1024) (N := 640) (m ((c.tc : Thread nD τ).loc main_arg0)) (m ((c.tc : Thread nD τ).loc main_arg1)) (m ((c.tc : Thread nD τ).loc main_arg3))
      ∧ r.2.mem ((c.tc : Thread nD τ).loc main_v13) = Adam1.NV (R := 1024) (N := 640) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdAInRefIdeal.Value.run m ρ)
  obtain ⟨h0, h1, h2, h3, h4, h5, h6, h7, h8⟩ := h c
  exact ⟨h0.trans ((val_main_v2_eq ..).trans (r_G ..)),
    h1.trans ((val_main_v26_eq ..).trans (r_D ..)),
    h2.trans ((val_main_v7_eq ..).trans (r_NM ..)),
    h3.trans ((val_main_v13_eq ..).trans (r_NV ..)),
    h4, h5, h6, h7, h8⟩

end Cert.AdAInRefIdeal.Val

end
-- ==== Proof.AdAOutMat.lean ====
/- What the optimiser's region leaves, from what it finds. -/
module

public import proofs.«01_k».proof.Proof.AdSpec
public import proofs.«01_k».proof.Proof.Gen.AdAOutIdeal.Frame

@[expose] public section

set_option maxRecDepth 16384

noncomputable section

namespace Cert.AdAOutIdeal.Val

open Cert.AdAOutIdeal Cert.AdAOutIdeal.Gen Cert.Spec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

/-! ## A block of 128 rows -/

section
variable (x0 : Vec Ideal S7x128x1024 .bf16) (x1 x2 x3 : Vec Ideal S1x128x1024 .f32) (x4 : Vec Ideal S128x1024 .f32)

/-- The gradient on a block. -/
abbrev gB : Fin 128 → Fin 1024 → EReal := fun r i => sum7 (x4 (ix2 r i)) fun k => x0 (ix3 k r i)

theorem kpay : k0_pay11 x0 x1 x2 x3 x4 = fun j => gB x0 x4 (j 0) (j 1) := by
  funext y; pointwise [k0_pay11, k0_pay2, gB, sum7]

theorem out5 : out0_5 x0 x1 x2 x3 x4 = fun j => gB x0 x4 (j 1) (j 2) := by
  funext y; frame_out; rw [kpay]; generalize gB x0 x4 = g; pointwise [k0_pay7]

theorem out6 : out0_6 x0 x1 x2 x3 x4 = fun j => step (gB x0 x4 (j 1) (j 2)) (x1 j) (x2 j) (x3 j) := by
  funext y; frame_out; rw [kpay]; generalize gB x0 x4 = g
  pointwise [k0_pay1, k0_pay10, k0_pay12, k0_pay13, k0_pay3, k0_pay4, k0_pay5, k0_pay6, step, moment, moment2]
  rw [c1, c2]
  exact congrArg (fun z : S1x128x1024.Idx => step (g (y 1) (y 2)) (x1 y) (x2 z) (x3 y)) (unit_eta y)

theorem out7 : out0_7 x0 x1 x2 x3 x4 = fun j => moment (gB x0 x4 (j 1) (j 2)) (x2 j) := by
  funext y; frame_out; rw [kpay]; generalize gB x0 x4 = g
  pointwise [k0_pay8, k0_pay12, k0_pay13, k0_pay3, k0_pay4, k0_pay5, moment]
  exact congrArg (fun z : S1x128x1024.Idx => moment (g (y 1) (y 2)) (x2 z)) (unit_eta y)

theorem out8 : out0_8 x0 x1 x2 x3 x4 = fun j => moment2 (gB x0 x4 (j 1) (j 2)) (x3 j) := by
  funext y; frame_out; rw [kpay]; generalize gB x0 x4 = g
  pointwise [k0_pay9, k0_pay12, k0_pay13, k0_pay3, k0_pay4, k0_pay6, moment2]
end

/-! ## The blocks of the arrays -/

theorem idx0 : ∀ t : Fin cfg0.N, win0_0.index t = ![0, t.val, 0] ∧ win0_1.index t = ![0, t.val, 0] ∧ win0_2.index t = ![0, t.val, 0]
    ∧ win0_3.index t = ![0, t.val, 0] ∧ win0_4.index t = ![t.val, 0] ∧ win0_5.index t = ![0, t.val, 0] ∧ win0_6.index t = ![0, t.val, 0]
    ∧ win0_7.index t = ![0, t.val, 0] ∧ win0_8.index t = ![0, t.val, 0] :=
  (by decide +kernel : ∀ t : Fin grid0.N, _)

/-- The array's entry at entry `y` of block `t`. -/
def pos (t : Fin cfg0.N) (y : S1x128x1024.Idx) : S1x128x1024.Idx :=
  ix3 0 ⟨t.val * 128 + (y 1).val, by
    have ht : t.val < 1 := lt_of_lt_of_eq t.isLt N_0
    have hy : (y 1).val < 128 := (y 1).isLt
    omega⟩ (y 2)

theorem emb5 (t : Fin cfg0.N) (y : S1x128x1024.Idx) : (win0_5.blk t).view.emb y = pos t y := by
  unfold pos; blk_ext [idx0 t]

theorem emb6 (t : Fin cfg0.N) (y : S1x128x1024.Idx) : (win0_6.blk t).view.emb y = pos t y := by
  unfold pos; blk_ext [idx0 t]

theorem emb7 (t : Fin cfg0.N) (y : S1x128x1024.Idx) : (win0_7.blk t).view.emb y = pos t y := by
  unfold pos; blk_ext [idx0 t]

theorem emb8 (t : Fin cfg0.N) (y : S1x128x1024.Idx) : (win0_8.blk t).view.emb y = pos t y := by
  unfold pos; blk_ext [idx0 t]

theorem in1 (c : Dev nD) (t : Fin cfg0.N) (y : S1x128x1024.Idx) : iblk m c 1 t y = V m c main_arg2 (pos t y) := by
  unfold pos; blk_point [iblk, idx0 t]

theorem in2 (c : Dev nD) (t : Fin cfg0.N) (y : S1x128x1024.Idx) : iblk m c 2 t y = V m c main_arg3 (pos t y) := by
  unfold pos; blk_point [iblk, idx0 t]

theorem in3 (c : Dev nD) (t : Fin cfg0.N) (y : S1x128x1024.Idx) : iblk m c 3 t y = V m c main_arg4 (pos t y) := by
  unfold pos; blk_point [iblk, idx0 t]

theorem in0 (c : Dev nD) (t : Fin cfg0.N) (y : S1x128x1024.Idx) (k : Fin 7) :
    iblk m c 0 t (ix3 k (y 1) (y 2)) = V m c main_v0 (ix3 k (pos t y 1) (pos t y 2)) := by
  unfold pos; blk_point [iblk, idx0 t]

theorem in4 (c : Dev nD) (t : Fin cfg0.N) (y : S1x128x1024.Idx) :
    iblk m c 4 t (ix2 (y 1) (y 2)) = V m c main_arg1 (ix2 (pos t y 1) (pos t y 2)) := by
  unfold pos; blk_point [iblk, idx0 t]

theorem gB_pos (c : Dev nD) (t : Fin cfg0.N) (y : S1x128x1024.Idx) : gB (iblk m c 0 t) (iblk m c 4 t) (y 1) (y 2)
    = Adam1.G (R := 128) (N := 1024) (V m c main_v0) (V m c main_arg1) (pos t y) :=
  congrArg₂ sum7 (in4 m c t y) (funext fun k => in0 m c t y k)

theorem v5 (c : Dev nD) : (dats m 0 c).arrAt 5 cfg0.N = Adam1.G (R := 128) (N := 1024) (V m c main_v0) (V m c main_arg1) := by
  refine (dats m 0 c).arrAt_eq_of_covers 5 _ (by decide +kernel) fun t _ y => ?_
  blk_simp
  rw [after0_5, out5, emb5]
  exact gB_pos m c t y

theorem v6 (c : Dev nD) : (dats m 0 c).arrAt 6 cfg0.N
    = Adam1.D (R := 128) (N := 1024) (V m c main_v0) (V m c main_arg1) (V m c main_arg2) (V m c main_arg3) (V m c main_arg4) := by
  refine (dats m 0 c).arrAt_eq_of_covers 6 _ (by decide +kernel) fun t _ y => ?_
  blk_simp
  rw [after0_6, out6, emb6]
  dsimp only
  rw [gB_pos, in1, in2, in3]
  rfl

theorem v7 (c : Dev nD) : (dats m 0 c).arrAt 7 cfg0.N
    = Adam1.NM (R := 128) (N := 1024) (V m c main_v0) (V m c main_arg1) (V m c main_arg3) := by
  refine (dats m 0 c).arrAt_eq_of_covers 7 _ (by decide +kernel) fun t _ y => ?_
  blk_simp
  rw [after0_7, out7, emb7]
  dsimp only
  rw [gB_pos, in2]
  rfl

theorem v8 (c : Dev nD) : (dats m 0 c).arrAt 8 cfg0.N
    = Adam1.NV (R := 128) (N := 1024) (V m c main_v0) (V m c main_arg1) (V m c main_arg4) := by
  refine (dats m 0 c).arrAt_eq_of_covers 8 _ (by decide +kernel) fun t _ y => ?_
  blk_simp
  rw [after0_8, out8, emb8]
  dsimp only
  rw [gB_pos, in3]
  rfl

end Cert.AdAOutIdeal.Val

end
-- ==== Proof.AdAOutRun.lean ====
/- The optimiser's region runs, and what it leaves. -/
module

public import proofs.«01_k».proof.Proof.AdAOutMat

@[expose] public section

set_option maxRecDepth 16384

noncomputable section

namespace Cert.AdAOutIdeal.Val

open Cert.AdAOutIdeal Cert.AdAOutIdeal.Gen Cert.Spec Idealize.ShloMosaic Idealize.ShloMosaic.TcCoe Idealize.SL.Sem

variable (m : (ℓ : Loc nD τ sig) → Buf (Elt Ideal) ℓ) (ρ : Dev nD → PrngReg)

/-- The other devices' parts are as given. -/
theorem V_main_v0 (c : Dev nD) : V m c main_v0 = m ((c : Thread nD τ).loc main_arg0) := by
  unfold V
  after_results
  rfl

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.mem ((c.tc : Thread nD τ).loc main_v1_0) = Adam1.G (R := 128) (N := 1024) (m ((c.tc : Thread nD τ).loc main_arg0)) (m ((c.tc : Thread nD τ).loc main_arg1))
      ∧ r.2.mem ((c.tc : Thread nD τ).loc main_v1_1) = Adam1.D (R := 128) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v1_2) = Adam1.NM (R := 128) (N := 1024) (m ((c.tc : Thread nD τ).loc main_arg0)) (m ((c.tc : Thread nD τ).loc main_arg1)) (m ((c.tc : Thread nD τ).loc main_arg3))
      ∧ r.2.mem ((c.tc : Thread nD τ).loc main_v1_3) = Adam1.NV (R := 128) (N := 1024) (m ((c.tc : Thread nD τ).loc main_arg0)) (m ((c.tc : Thread nD τ).loc main_arg1)) (m ((c.tc : Thread nD τ).loc main_arg4)))
      ∧ r.2.sem = fun _ => 0) := by
  refine (θ_run defs _ _).mono (fun r h => ⟨fun c => ⟨h.1.1 c, ?_, ?_, ?_, ?_⟩, h.2.2⟩) (θ_run_and (frame m ρ) (run_main_quiescent m ρ))
  · exact ((h.2.1 c).1 5).trans ((v5 m c).trans (by rw [V_main_v0, V_main_arg1]))
  · exact ((h.2.1 c).1 6).trans ((v6 m c).trans (by rw [V_main_v0, V_main_arg1, V_main_arg2, V_main_arg3, V_main_arg4]))
  · exact ((h.2.1 c).1 7).trans ((v7 m c).trans (by rw [V_main_v0, V_main_arg1, V_main_arg3]))
  · exact ((h.2.1 c).1 8).trans ((v8 m c).trans (by rw [V_main_v0, V_main_arg1, V_main_arg4]))

end Cert.AdAOutIdeal.Val

end
-- ==== Proof.AdAOutRef.lean ====
/- The reference's results are the mathematics. -/
module

public import proofs.«01_k».proof.Proof.AdSpec
public import proofs.«01_k».proof.Proof.Gen.AdAOutRefIdeal.Read

@[expose] public section

set_option maxRecDepth 16384

noncomputable section

namespace Cert.AdAOutRefIdeal.Val

open Cert.AdAOutRefIdeal Cert.AdAOutRefIdeal.Gen Cert.AdAOutRefIdeal.Read Cert.Spec Idealize.ShloMosaic Idealize.ShloMosaic.TcCoe Idealize.SL.Sem

variable (x0 : Ten 7 128 1024) (x1 : (⟨2, ![128, 1024]⟩ : Shape).Idx → EReal) (x2 x3 x4 : Ten 1 128 1024)

theorem r_G : val_main_v2 (F := Ideal) x0 x1 = Adam1.G x0 x1 := by
  unfold val_main_v2 val_main_v1 val_main_v0 Adam1.G
  funext y
  pointwise [val_main_cst]
  exact sum7_eq _ _

theorem r_NM : val_main_v7 (F := Ideal) x0 x1 x3 = Adam1.NM x0 x1 x3 := by
  unfold val_main_v7 val_main_v6 val_main_v5 val_main_v4 val_main_v3 Adam1.NM
  rw [r_G]
  generalize Adam1.G x0 x1 = g
  funext y
  pointwise [val_main_cst_0, val_main_cst_1, moment]

theorem r_NV : val_main_v13 (F := Ideal) x0 x1 x4 = Adam1.NV x0 x1 x4 := by
  unfold val_main_v13 val_main_v12 val_main_v11 val_main_v10 val_main_v9 val_main_v8 Adam1.NV
  rw [r_G]
  generalize Adam1.G x0 x1 = g
  funext y
  pointwise [val_main_cst_2, val_main_cst_3, moment2]

theorem r_D : val_main_v26 (F := Ideal) x0 x1 x2 x3 x4 = Adam1.D x0 x1 x2 x3 x4 := by
  unfold val_main_v26 val_main_v25 val_main_v24 val_main_v23 val_main_v22 val_main_v21 val_main_v20 val_main_v19 val_main_v18 val_main_v17 val_main_v16 val_main_v15 val_main_v14 Adam1.D
  rw [r_NM, r_NV]
  unfold Adam1.NM Adam1.NV
  generalize Adam1.G x0 x1 = g
  funext y
  pointwise [val_main_cst_4, val_main_cst_5, val_main_cst_6, val_main_cst_7, val_main_cst_8, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Adam1.G (R := 128) (N := 1024) (m ((c.tc : Thread nD τ).loc main_arg0)) (m ((c.tc : Thread nD τ).loc main_arg1))
      ∧ r.2.mem ((c.tc : Thread nD τ).loc main_v26) = Adam1.D (R := 128) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v7) = Adam1.NM (R := 128) (N := 1024) (m ((c.tc : Thread nD τ).loc main_arg0)) (m ((c.tc : Thread nD τ).loc main_arg1)) (m ((c.tc : Thread nD τ).loc main_arg3))
      ∧ r.2.mem ((c.tc : Thread nD τ).loc main_v13) = Adam1.NV (R := 128) (N := 1024) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdAOutRefIdeal.Value.run m ρ)
  obtain ⟨h0, h1, h2, h3, h4, h5, h6, h7, h8⟩ := h c
  exact ⟨h0.trans ((val_main_v2_eq ..).trans (r_G ..)),
    h1.trans ((val_main_v26_eq ..).trans (r_D ..)),
    h2.trans ((val_main_v7_eq ..).trans (r_NM ..)),
    h3.trans ((val_main_v13_eq ..).trans (r_NV ..)),
    h4, h5, h6, h7, h8⟩

end Cert.AdAOutRefIdeal.Val

end
-- ==== Proof.AdBInMat.lean ====
/- What the optimiser's region leaves, from what it finds. -/
module

public import proofs.«01_k».proof.Proof.AdSpec
public import proofs.«01_k».proof.Proof.Gen.AdBInIdeal.Frame

@[expose] public section

set_option maxRecDepth 16384

noncomputable section

namespace Cert.AdBInIdeal.Val

open Cert.AdBInIdeal Cert.AdBInIdeal.Gen Cert.Spec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

/-! ## A block of 256 rows -/

section
variable (x0 : Vec Ideal S7x256x776 .f32) (x1 x2 x3 : Vec Ideal S1x256x776 .f32) (x4 : Vec Ideal S256x776 .f32)

/-- The gradient on a block. -/
abbrev gB : Fin 256 → Fin 776 → EReal := fun r i => sum7 (x4 (ix2 r i)) fun k => x0 (ix3 k r i)

theorem kpay : k0_pay9 x0 x1 x2 x3 x4 = fun j => gB x0 x4 (j 0) (j 1) := by
  funext y; pointwise [k0_pay9, k0_pay2, gB, sum7]

theorem kpayM : k0_pay10 x0 x1 x2 x3 x4 = fun j => moment (gB x0 x4 (j 0) (j 1)) (x2 (ix3 0 (j 0) (j 1))) := by
  funext y; pointwise [k0_pay10, k0_pay3, k0_pay2, gB, sum7, moment]

theorem out5 : out0_5 x0 x1 x2 x3 x4 = fun j => gB x0 x4 (j 1) (j 2) := by
  funext y; frame_out; rw [kpay]; generalize gB x0 x4 = g; pointwise [k0_pay5]

theorem out6 : out0_6 x0 x1 x2 x3 x4 = fun j => step (gB x0 x4 (j 1) (j 2)) (x1 j) (x2 j) (x3 j) := by
  funext y; frame_out; rw [kpay, kpayM]; generalize gB x0 x4 = g
  pointwise [k0_pay1, k0_pay8, k0_pay4, step, moment, moment2]
  rw [c1, c2]
  exact congrArg (fun z : S1x256x776.Idx => step (g (y 1) (y 2)) (x1 y) (x2 z) (x3 y)) (unit_eta y)

theorem out7 : out0_7 x0 x1 x2 x3 x4 = fun j => moment (gB x0 x4 (j 1) (j 2)) (x2 j) := by
  funext y; frame_out; rw [kpayM]; generalize gB x0 x4 = g
  pointwise [k0_pay6, moment]
  exact congrArg (fun z : S1x256x776.Idx => moment (g (y 1) (y 2)) (x2 z)) (unit_eta y)

theorem out8 : out0_8 x0 x1 x2 x3 x4 = fun j => moment2 (gB x0 x4 (j 1) (j 2)) (x3 j) := by
  funext y; frame_out; rw [kpay]; generalize gB x0 x4 = g
  pointwise [k0_pay7, k0_pay4, moment2]
end

/-! ## The blocks of the arrays -/

theorem idx0 : ∀ t : Fin cfg0.N, win0_0.index t = ![0, t.val, 0] ∧ win0_1.index t = ![0, t.val, 0] ∧ win0_2.index t = ![0, t.val, 0]
    ∧ win0_3.index t = ![0, t.val, 0] ∧ win0_4.index t = ![t.val, 0] ∧ win0_5.index t = ![0, t.val, 0] ∧ win0_6.index t = ![0, t.val, 0]
    ∧ win0_7.index t = ![0, t.val, 0] ∧ win0_8.index t = ![0, t.val, 0] :=
  (by decide +kernel : ∀ t : Fin grid0.N, _)

/-- The array's entry at entry `y` of block `t`. -/
def pos (t : Fin cfg0.N) (y : S1x256x776.Idx) : S1x1024x776.Idx :=
  ix3 0 ⟨t.val * 256 + (y 1).val, by
    have ht : t.val < 4 := lt_of_lt_of_eq t.isLt N_0
    have hy : (y 1).val < 256 := (y 1).isLt
    omega⟩ (y 2)

theorem emb5 (t : Fin cfg0.N) (y : S1x256x776.Idx) : (win0_5.blk t).view.emb y = pos t y := by
  unfold pos; blk_ext [idx0 t]

theorem emb6 (t : Fin cfg0.N) (y : S1x256x776.Idx) : (win0_6.blk t).view.emb y = pos t y := by
  unfold pos; blk_ext [idx0 t]

theorem emb7 (t : Fin cfg0.N) (y : S1x256x776.Idx) : (win0_7.blk t).view.emb y = pos t y := by
  unfold pos; blk_ext [idx0 t]

theorem emb8 (t : Fin cfg0.N) (y : S1x256x776.Idx) : (win0_8.blk t).view.emb y = pos t y := by
  unfold pos; blk_ext [idx0 t]

theorem in1 (c : Dev nD) (t : Fin cfg0.N) (y : S1x256x776.Idx) : iblk m c 1 t y = V m c main_arg2 (pos t y) := by
  unfold pos; blk_point [iblk, idx0 t]

theorem in2 (c : Dev nD) (t : Fin cfg0.N) (y : S1x256x776.Idx) : iblk m c 2 t y = V m c main_arg3 (pos t y) := by
  unfold pos; blk_point [iblk, idx0 t]

theorem in3 (c : Dev nD) (t : Fin cfg0.N) (y : S1x256x776.Idx) : iblk m c 3 t y = V m c main_arg4 (pos t y) := by
  unfold pos; blk_point [iblk, idx0 t]

theorem in0 (c : Dev nD) (t : Fin cfg0.N) (y : S1x256x776.Idx) (k : Fin 7) :
    iblk m c 0 t (ix3 k (y 1) (y 2)) = V m c main_arg0 (ix3 k (pos t y 1) (pos t y 2)) := by
  unfold pos; blk_point [iblk, idx0 t]

theorem in4 (c : Dev nD) (t : Fin cfg0.N) (y : S1x256x776.Idx) :
    iblk m c 4 t (ix2 (y 1) (y 2)) = V m c main_arg1 (ix2 (pos t y 1) (pos t y 2)) := by
  unfold pos; blk_point [iblk, idx0 t]

theorem gB_pos (c : Dev nD) (t : Fin cfg0.N) (y : S1x256x776.Idx) : gB (iblk m c 0 t) (iblk m c 4 t) (y 1) (y 2)
    = Adam1.G (R := 1024) (N := 776) (V m c main_arg0) (V m c main_arg1) (pos t y) :=
  congrArg₂ sum7 (in4 m c t y) (funext fun k => in0 m c t y k)

theorem v5 (c : Dev nD) : (dats m 0 c).arrAt 5 cfg0.N = Adam1.G (R := 1024) (N := 776) (V m c main_arg0) (V m c main_arg1) := by
  refine (dats m 0 c).arrAt_eq_of_covers 5 _ (by decide +kernel) fun t _ y => ?_
  blk_simp
  rw [after0_5, out5, emb5]
  exact gB_pos m c t y

theorem v6 (c : Dev nD) : (dats m 0 c).arrAt 6 cfg0.N
    = Adam1.D (R := 1024) (N := 776) (V m c main_arg0) (V m c main_arg1) (V m c main_arg2) (V m c main_arg3) (V m c main_arg4) := by
  refine (dats m 0 c).arrAt_eq_of_covers 6 _ (by decide +kernel) fun t _ y => ?_
  blk_simp
  rw [after0_6, out6, emb6]
  dsimp only
  rw [gB_pos, in1, in2, in3]
  rfl

theorem v7 (c : Dev nD) : (dats m 0 c).arrAt 7 cfg0.N
    = Adam1.NM (R := 1024) (N := 776) (V m c main_arg0) (V m c main_arg1) (V m c main_arg3) := by
  refine (dats m 0 c).arrAt_eq_of_covers 7 _ (by decide +kernel) fun t _ y => ?_
  blk_simp
  rw [after0_7, out7, emb7]
  dsimp only
  rw [gB_pos, in2]
  rfl

theorem v8 (c : Dev nD) : (dats m 0 c).arrAt 8 cfg0.N
    = Adam1.NV (R := 1024) (N := 776) (V m c main_arg0) (V m c main_arg1) (V m c main_arg4) := by
  refine (dats m 0 c).arrAt_eq_of_covers 8 _ (by decide +kernel) fun t _ y => ?_
  blk_simp
  rw [after0_8, out8, emb8]
  dsimp only
  rw [gB_pos, in3]
  rfl

end Cert.AdBInIdeal.Val

end
-- ==== Proof.AdBInRun.lean ====
/- The optimiser's region runs, and what it leaves. -/
module

public import proofs.«01_k».proof.Proof.AdBInMat

@[expose] public section

set_option maxRecDepth 16384

noncomputable section

namespace Cert.AdBInIdeal.Val

open Cert.AdBInIdeal Cert.AdBInIdeal.Gen Cert.Spec Idealize.ShloMosaic Idealize.ShloMosaic.TcCoe Idealize.SL.Sem

variable (m : (ℓ : Loc nD τ sig) → Buf (Elt Ideal) ℓ) (ρ : Dev nD → PrngReg)

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.mem ((c.tc : Thread nD τ).loc main_v0_0) = Adam1.G (R := 1024) (N := 776) (m ((c.tc : Thread nD τ).loc main_arg0)) (m ((c.tc : Thread nD τ).loc main_arg1))
      ∧ r.2.mem ((c.tc : Thread nD τ).loc main_v0_1) = Adam1.D (R := 1024) (N := 776) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_2) = Adam1.NM (R := 1024) (N := 776) (m ((c.tc : Thread nD τ).loc main_arg0)) (m ((c.tc : Thread nD τ).loc main_arg1)) (m ((c.tc : Thread nD τ).loc main_arg3))
      ∧ r.2.mem ((c.tc : Thread nD τ).loc main_v0_3) = Adam1.NV (R := 1024) (N := 776) (m ((c.tc : Thread nD τ).loc main_arg0)) (m ((c.tc : Thread nD τ).loc main_arg1)) (m ((c.tc : Thread nD τ).loc main_arg4)))
      ∧ r.2.sem = fun _ => 0) := by
  refine (θ_run defs _ _).mono (fun r h => ⟨fun c => ⟨h.1.1 c, ?_, ?_, ?_, ?_⟩, h.2.2⟩) (θ_run_and (frame m ρ) (run_main_quiescent m ρ))
  · exact ((h.2.1 c).1 5).trans ((v5 m c).trans (by rw [V_main_arg0, V_main_arg1]))
  · exact ((h.2.1 c).1 6).trans ((v6 m c).trans (by rw [V_main_arg0, V_main_arg1, V_main_arg2, V_main_arg3, V_main_arg4]))
  · exact ((h.2.1 c).1 7).trans ((v7 m c).trans (by rw [V_main_arg0, V_main_arg1, V_main_arg3]))
  · exact ((h.2.1 c).1 8).trans ((v8 m c).trans (by rw [V_main_arg0, V_main_arg1, V_main_arg4]))

end Cert.AdBInIdeal.Val

end
-- ==== Proof.AdBInRef.lean ====
/- The reference's results are the mathematics. -/
module

public import proofs.«01_k».proof.Proof.AdSpec
public import proofs.«01_k».proof.Proof.Gen.AdBInRefIdeal.Read

@[expose] public section

set_option maxRecDepth 16384

noncomputable section

namespace Cert.AdBInRefIdeal.Val

open Cert.AdBInRefIdeal Cert.AdBInRefIdeal.Gen Cert.AdBInRefIdeal.Read Cert.Spec Idealize.ShloMosaic Idealize.ShloMosaic.TcCoe Idealize.SL.Sem

variable (x0 : Ten 7 1024 776) (x1 : (⟨2, ![1024, 776]⟩ : Shape).Idx → EReal) (x2 x3 x4 : Ten 1 1024 776)

theorem r_G : val_main_v2 (F := Ideal) x0 x1 = Adam1.G x0 x1 := by
  unfold val_main_v2 val_main_v1 val_main_v0 Adam1.G
  funext y
  pointwise [val_main_cst]
  exact sum7_eq _ _

theorem r_NM : val_main_v7 (F := Ideal) x0 x1 x3 = Adam1.NM x0 x1 x3 := by
  unfold val_main_v7 val_main_v6 val_main_v5 val_main_v4 val_main_v3 Adam1.NM
  rw [r_G]
  generalize Adam1.G x0 x1 = g
  funext y
  pointwise [val_main_cst_0, val_main_cst_1, moment]

theorem r_NV : val_main_v13 (F := Ideal) x0 x1 x4 = Adam1.NV x0 x1 x4 := by
  unfold val_main_v13 val_main_v12 val_main_v11 val_main_v10 val_main_v9 val_main_v8 Adam1.NV
  rw [r_G]
  generalize Adam1.G x0 x1 = g
  funext y
  pointwise [val_main_cst_2, val_main_cst_3, moment2]

theorem r_D : val_main_v26 (F := Ideal) x0 x1 x2 x3 x4 = Adam1.D x0 x1 x2 x3 x4 := by
  unfold val_main_v26 val_main_v25 val_main_v24 val_main_v23 val_main_v22 val_main_v21 val_main_v20 val_main_v19 val_main_v18 val_main_v17 val_main_v16 val_main_v15 val_main_v14 Adam1.D
  rw [r_NM, r_NV]
  unfold Adam1.NM Adam1.NV
  generalize Adam1.G x0 x1 = g
  funext y
  pointwise [val_main_cst_4, val_main_cst_5, val_main_cst_6, val_main_cst_7, val_main_cst_8, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Adam1.G (R := 1024) (N := 776) (m ((c.tc : Thread nD τ).loc main_arg0)) (m ((c.tc : Thread nD τ).loc main_arg1))
      ∧ r.2.mem ((c.tc : Thread nD τ).loc main_v26) = Adam1.D (R := 1024) (N := 776) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v7) = Adam1.NM (R := 1024) (N := 776) (m ((c.tc : Thread nD τ).loc main_arg0)) (m ((c.tc : Thread nD τ).loc main_arg1)) (m ((c.tc : Thread nD τ).loc main_arg3))
      ∧ r.2.mem ((c.tc : Thread nD τ).loc main_v13) = Adam1.NV (R := 1024) (N := 776) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdBInRefIdeal.Value.run m ρ)
  obtain ⟨h0, h1, h2, h3, h4, h5, h6, h7, h8⟩ := h c
  exact ⟨h0.trans ((val_main_v2_eq ..).trans (r_G ..)),
    h1.trans ((val_main_v26_eq ..).trans (r_D ..)),
    h2.trans ((val_main_v7_eq ..).trans (r_NM ..)),
    h3.trans ((val_main_v13_eq ..).trans (r_NV ..)),
    h4, h5, h6, h7, h8⟩

end Cert.AdBInRefIdeal.Val

end
-- ==== Proof.AdBOutMat.lean ====
/- What the optimiser's region leaves, from what it finds. -/
module

public import proofs.«01_k».proof.Proof.AdSpec
public import proofs.«01_k».proof.Proof.Gen.AdBOutIdeal.Frame

@[expose] public section

set_option maxRecDepth 16384

noncomputable section

namespace Cert.AdBOutIdeal.Val

open Cert.AdBOutIdeal Cert.AdBOutIdeal.Gen Cert.Spec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

/-! ## A block of 256 rows -/

section
variable (x0 : Vec Ideal S7x256x1024 .f32) (x1 x2 x3 : Vec Ideal S1x256x1024 .f32) (x4 : Vec Ideal S256x1024 .f32)

/-- The gradient on a block. -/
abbrev gB : Fin 256 → Fin 1024 → EReal := fun r i => sum7 (x4 (ix2 r i)) fun k => x0 (ix3 k r i)

theorem kpay : k0_pay9 x0 x1 x2 x3 x4 = fun j => gB x0 x4 (j 0) (j 1) := by
  funext y; pointwise [k0_pay9, k0_pay2, gB, sum7]

theorem kpayM : k0_pay10 x0 x1 x2 x3 x4 = fun j => moment (gB x0 x4 (j 0) (j 1)) (x2 (ix3 0 (j 0) (j 1))) := by
  funext y; pointwise [k0_pay10, k0_pay3, k0_pay2, gB, sum7, moment]

theorem out5 : out0_5 x0 x1 x2 x3 x4 = fun j => gB x0 x4 (j 1) (j 2) := by
  funext y; frame_out; rw [kpay]; generalize gB x0 x4 = g; pointwise [k0_pay5]

theorem out6 : out0_6 x0 x1 x2 x3 x4 = fun j => step (gB x0 x4 (j 1) (j 2)) (x1 j) (x2 j) (x3 j) := by
  funext y; frame_out; rw [kpay, kpayM]; generalize gB x0 x4 = g
  pointwise [k0_pay1, k0_pay8, k0_pay4, step, moment, moment2]
  rw [c1, c2]
  exact congrArg (fun z : S1x256x1024.Idx => step (g (y 1) (y 2)) (x1 y) (x2 z) (x3 y)) (unit_eta y)

theorem out7 : out0_7 x0 x1 x2 x3 x4 = fun j => moment (gB x0 x4 (j 1) (j 2)) (x2 j) := by
  funext y; frame_out; rw [kpayM]; generalize gB x0 x4 = g
  pointwise [k0_pay6, moment]
  exact congrArg (fun z : S1x256x1024.Idx => moment (g (y 1) (y 2)) (x2 z)) (unit_eta y)

theorem out8 : out0_8 x0 x1 x2 x3 x4 = fun j => moment2 (gB x0 x4 (j 1) (j 2)) (x3 j) := by
  funext y; frame_out; rw [kpay]; generalize gB x0 x4 = g
  pointwise [k0_pay7, k0_pay4, moment2]
end

/-! ## The blocks of the arrays -/

theorem idx0 : ∀ t : Fin cfg0.N, win0_0.index t = ![0, t.val, 0] ∧ win0_1.index t = ![0, t.val, 0] ∧ win0_2.index t = ![0, t.val, 0]
    ∧ win0_3.index t = ![0, t.val, 0] ∧ win0_4.index t = ![t.val, 0] ∧ win0_5.index t = ![0, t.val, 0] ∧ win0_6.index t = ![0, t.val, 0]
    ∧ win0_7.index t = ![0, t.val, 0] ∧ win0_8.index t = ![0, t.val, 0] :=
  (by decide +kernel : ∀ t : Fin grid0.N, _)

/-- The array's entry at entry `y` of block `t`. -/
def pos (t : Fin cfg0.N) (y : S1x256x1024.Idx) : S1x256x1024.Idx :=
  ix3 0 ⟨t.val * 256 + (y 1).val, by
    have ht : t.val < 1 := lt_of_lt_of_eq t.isLt N_0
    have hy : (y 1).val < 256 := (y 1).isLt
    omega⟩ (y 2)

theorem emb5 (t : Fin cfg0.N) (y : S1x256x1024.Idx) : (win0_5.blk t).view.emb y = pos t y := by
  unfold pos; blk_ext [idx0 t]

theorem emb6 (t : Fin cfg0.N) (y : S1x256x1024.Idx) : (win0_6.blk t).view.emb y = pos t y := by
  unfold pos; blk_ext [idx0 t]

theorem emb7 (t : Fin cfg0.N) (y : S1x256x1024.Idx) : (win0_7.blk t).view.emb y = pos t y := by
  unfold pos; blk_ext [idx0 t]

theorem emb8 (t : Fin cfg0.N) (y : S1x256x1024.Idx) : (win0_8.blk t).view.emb y = pos t y := by
  unfold pos; blk_ext [idx0 t]

theorem in1 (c : Dev nD) (t : Fin cfg0.N) (y : S1x256x1024.Idx) : iblk m c 1 t y = V m c main_arg2 (pos t y) := by
  unfold pos; blk_point [iblk, idx0 t]

theorem in2 (c : Dev nD) (t : Fin cfg0.N) (y : S1x256x1024.Idx) : iblk m c 2 t y = V m c main_arg3 (pos t y) := by
  unfold pos; blk_point [iblk, idx0 t]

theorem in3 (c : Dev nD) (t : Fin cfg0.N) (y : S1x256x1024.Idx) : iblk m c 3 t y = V m c main_arg4 (pos t y) := by
  unfold pos; blk_point [iblk, idx0 t]

theorem in0 (c : Dev nD) (t : Fin cfg0.N) (y : S1x256x1024.Idx) (k : Fin 7) :
    iblk m c 0 t (ix3 k (y 1) (y 2)) = V m c main_arg0 (ix3 k (pos t y 1) (pos t y 2)) := by
  unfold pos; blk_point [iblk, idx0 t]

theorem in4 (c : Dev nD) (t : Fin cfg0.N) (y : S1x256x1024.Idx) :
    iblk m c 4 t (ix2 (y 1) (y 2)) = V m c main_arg1 (ix2 (pos t y 1) (pos t y 2)) := by
  unfold pos; blk_point [iblk, idx0 t]

theorem gB_pos (c : Dev nD) (t : Fin cfg0.N) (y : S1x256x1024.Idx) : gB (iblk m c 0 t) (iblk m c 4 t) (y 1) (y 2)
    = Adam1.G (R := 256) (N := 1024) (V m c main_arg0) (V m c main_arg1) (pos t y) :=
  congrArg₂ sum7 (in4 m c t y) (funext fun k => in0 m c t y k)

theorem v5 (c : Dev nD) : (dats m 0 c).arrAt 5 cfg0.N = Adam1.G (R := 256) (N := 1024) (V m c main_arg0) (V m c main_arg1) := by
  refine (dats m 0 c).arrAt_eq_of_covers 5 _ (by decide +kernel) fun t _ y => ?_
  blk_simp
  rw [after0_5, out5, emb5]
  exact gB_pos m c t y

theorem v6 (c : Dev nD) : (dats m 0 c).arrAt 6 cfg0.N
    = Adam1.D (R := 256) (N := 1024) (V m c main_arg0) (V m c main_arg1) (V m c main_arg2) (V m c main_arg3) (V m c main_arg4) := by
  refine (dats m 0 c).arrAt_eq_of_covers 6 _ (by decide +kernel) fun t _ y => ?_
  blk_simp
  rw [after0_6, out6, emb6]
  dsimp only
  rw [gB_pos, in1, in2, in3]
  rfl

theorem v7 (c : Dev nD) : (dats m 0 c).arrAt 7 cfg0.N
    = Adam1.NM (R := 256) (N := 1024) (V m c main_arg0) (V m c main_arg1) (V m c main_arg3) := by
  refine (dats m 0 c).arrAt_eq_of_covers 7 _ (by decide +kernel) fun t _ y => ?_
  blk_simp
  rw [after0_7, out7, emb7]
  dsimp only
  rw [gB_pos, in2]
  rfl

theorem v8 (c : Dev nD) : (dats m 0 c).arrAt 8 cfg0.N
    = Adam1.NV (R := 256) (N := 1024) (V m c main_arg0) (V m c main_arg1) (V m c main_arg4) := by
  refine (dats m 0 c).arrAt_eq_of_covers 8 _ (by decide +kernel) fun t _ y => ?_
  blk_simp
  rw [after0_8, out8, emb8]
  dsimp only
  rw [gB_pos, in3]
  rfl

end Cert.AdBOutIdeal.Val

end
-- ==== Proof.AdBOutRun.lean ====
/- The optimiser's region runs, and what it leaves. -/
module

public import proofs.«01_k».proof.Proof.AdBOutMat

@[expose] public section

set_option maxRecDepth 16384

noncomputable section

namespace Cert.AdBOutIdeal.Val

open Cert.AdBOutIdeal Cert.AdBOutIdeal.Gen Cert.Spec Idealize.ShloMosaic Idealize.ShloMosaic.TcCoe Idealize.SL.Sem

variable (m : (ℓ : Loc nD τ sig) → Buf (Elt Ideal) ℓ) (ρ : Dev nD → PrngReg)

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.mem ((c.tc : Thread nD τ).loc main_v0_0) = Adam1.G (R := 256) (N := 1024) (m ((c.tc : Thread nD τ).loc main_arg0)) (m ((c.tc : Thread nD τ).loc main_arg1))
      ∧ r.2.mem ((c.tc : Thread nD τ).loc main_v0_1) = Adam1.D (R := 256) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_2) = Adam1.NM (R := 256) (N := 1024) (m ((c.tc : Thread nD τ).loc main_arg0)) (m ((c.tc : Thread nD τ).loc main_arg1)) (m ((c.tc : Thread nD τ).loc main_arg3))
      ∧ r.2.mem ((c.tc : Thread nD τ).loc main_v0_3) = Adam1.NV (R := 256) (N := 1024) (m ((c.tc : Thread nD τ).loc main_arg0)) (m ((c.tc : Thread nD τ).loc main_arg1)) (m ((c.tc : Thread nD τ).loc main_arg4)))
      ∧ r.2.sem = fun _ => 0) := by
  refine (θ_run defs _ _).mono (fun r h => ⟨fun c => ⟨h.1.1 c, ?_, ?_, ?_, ?_⟩, h.2.2⟩) (θ_run_and (frame m ρ) (run_main_quiescent m ρ))
  · exact ((h.2.1 c).1 5).trans ((v5 m c).trans (by rw [V_main_arg0, V_main_arg1]))
  · exact ((h.2.1 c).1 6).trans ((v6 m c).trans (by rw [V_main_arg0, V_main_arg1, V_main_arg2, V_main_arg3, V_main_arg4]))
  · exact ((h.2.1 c).1 7).trans ((v7 m c).trans (by rw [V_main_arg0, V_main_arg1, V_main_arg3]))
  · exact ((h.2.1 c).1 8).trans ((v8 m c).trans (by rw [V_main_arg0, V_main_arg1, V_main_arg4]))

end Cert.AdBOutIdeal.Val

end
-- ==== Proof.AdBOutRef.lean ====
/- The reference's results are the mathematics. -/
module

public import proofs.«01_k».proof.Proof.AdSpec
public import proofs.«01_k».proof.Proof.Gen.AdBOutRefIdeal.Read

@[expose] public section

set_option maxRecDepth 16384

noncomputable section

namespace Cert.AdBOutRefIdeal.Val

open Cert.AdBOutRefIdeal Cert.AdBOutRefIdeal.Gen Cert.AdBOutRefIdeal.Read Cert.Spec Idealize.ShloMosaic Idealize.ShloMosaic.TcCoe Idealize.SL.Sem

variable (x0 : Ten 7 256 1024) (x1 : (⟨2, ![256, 1024]⟩ : Shape).Idx → EReal) (x2 x3 x4 : Ten 1 256 1024)

theorem r_G : val_main_v2 (F := Ideal) x0 x1 = Adam1.G x0 x1 := by
  unfold val_main_v2 val_main_v1 val_main_v0 Adam1.G
  funext y
  pointwise [val_main_cst]
  exact sum7_eq _ _

theorem r_NM : val_main_v7 (F := Ideal) x0 x1 x3 = Adam1.NM x0 x1 x3 := by
  unfold val_main_v7 val_main_v6 val_main_v5 val_main_v4 val_main_v3 Adam1.NM
  rw [r_G]
  generalize Adam1.G x0 x1 = g
  funext y
  pointwise [val_main_cst_0, val_main_cst_1, moment]

theorem r_NV : val_main_v13 (F := Ideal) x0 x1 x4 = Adam1.NV x0 x1 x4 := by
  unfold val_main_v13 val_main_v12 val_main_v11 val_main_v10 val_main_v9 val_main_v8 Adam1.NV
  rw [r_G]
  generalize Adam1.G x0 x1 = g
  funext y
  pointwise [val_main_cst_2, val_main_cst_3, moment2]

theorem r_D : val_main_v26 (F := Ideal) x0 x1 x2 x3 x4 = Adam1.D x0 x1 x2 x3 x4 := by
  unfold val_main_v26 val_main_v25 val_main_v24 val_main_v23 val_main_v22 val_main_v21 val_main_v20 val_main_v19 val_main_v18 val_main_v17 val_main_v16 val_main_v15 val_main_v14 Adam1.D
  rw [r_NM, r_NV]
  unfold Adam1.NM Adam1.NV
  generalize Adam1.G x0 x1 = g
  funext y
  pointwise [val_main_cst_4, val_main_cst_5, val_main_cst_6, val_main_cst_7, val_main_cst_8, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Adam1.G (R := 256) (N := 1024) (m ((c.tc : Thread nD τ).loc main_arg0)) (m ((c.tc : Thread nD τ).loc main_arg1))
      ∧ r.2.mem ((c.tc : Thread nD τ).loc main_v26) = Adam1.D (R := 256) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v7) = Adam1.NM (R := 256) (N := 1024) (m ((c.tc : Thread nD τ).loc main_arg0)) (m ((c.tc : Thread nD τ).loc main_arg1)) (m ((c.tc : Thread nD τ).loc main_arg3))
      ∧ r.2.mem ((c.tc : Thread nD τ).loc main_v13) = Adam1.NV (R := 256) (N := 1024) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.AdBOutRefIdeal.Value.run m ρ)
  obtain ⟨h0, h1, h2, h3, h4, h5, h6, h7, h8⟩ := h c
  exact ⟨h0.trans ((val_main_v2_eq ..).trans (r_G ..)),
    h1.trans ((val_main_v26_eq ..).trans (r_D ..)),
    h2.trans ((val_main_v7_eq ..).trans (r_NM ..)),
    h3.trans ((val_main_v13_eq ..).trans (r_NV ..)),
    h4, h5, h6, h7, h8⟩

end Cert.AdBOutRefIdeal.Val

end
-- ==== Proof.AdFfnInMat.lean ====
/- What each of the optimiser's two regions leaves, from what it finds: one layer's rows each. -/
module

public import proofs.«01_k».proof.Proof.AdSpec
public import proofs.«01_k».proof.Proof.Gen.AdFfnInIdeal.Frame

@[expose] public section

set_option maxRecDepth 16384

noncomputable section

namespace Cert.AdFfnInIdeal.Val

open Cert.AdFfnInIdeal Cert.AdFfnInIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

/-! ## A block of 256 rows -/

section
variable (x0 : Vec Ideal S7x256x704 .f32) (x1 x2 x3 : Vec Ideal S1x256x704 .f32) (x4 : Vec Ideal S256x704 .f32)

/-- The gradient on a block. -/
abbrev gB : Fin 256 → Fin 704 → EReal := fun r i => sum7 (x4 (ix2 r i)) fun k => x0 (ix3 k r i)

theorem kpay_0 : k0_pay9 x0 x1 x2 x3 x4 = fun j => gB x0 x4 (j 0) (j 1) := by
  funext y; pointwise [k0_pay9, k0_pay2, gB, sum7]

theorem kpayM_0 : k0_pay10 x0 x1 x2 x3 x4 = fun j => moment (gB x0 x4 (j 0) (j 1)) (x2 (ix3 0 (j 0) (j 1))) := by
  funext y; pointwise [k0_pay10, k0_pay3, k0_pay2, gB, sum7, moment]

theorem kpay_1 : k1_pay2 x4 (View.ld x0 (Rect.unit ![0, 0, 0] ![1, 256, 704] inb_S7x256x704_S1x256x704_0_0_0)) (View.ld x0 (Rect.unit ![1, 0, 0] ![1, 256, 704] inb_S7x256x704_S1x256x704_1_0_0)) (View.ld x0 (Rect.unit ![2, 0, 0] ![1, 256, 704] inb_S7x256x704_S1x256x704_2_0_0)) (View.ld x0 (Rect.unit ![3, 0, 0] ![1, 256, 704] inb_S7x256x704_S1x256x704_3_0_0)) (View.ld x0 (Rect.unit ![4, 0, 0] ![1, 256, 704] inb_S7x256x704_S1x256x704_4_0_0)) (View.ld x0 (Rect.unit ![5, 0, 0] ![1, 256, 704] inb_S7x256x704_S1x256x704_5_0_0)) (View.ld x0 (Rect.unit ![6, 0, 0] ![1, 256, 704] inb_S7x256x704_S1x256x704_6_0_0))
    = fun j => gB x0 x4 (j 0) (j 1) := by
  funext y; pointwise [k1_pay2, gB, sum7]

theorem kpayM_1 : k1_pay3 x4 (View.ld x0 (Rect.unit ![0, 0, 0] ![1, 256, 704] inb_S7x256x704_S1x256x704_0_0_0)) (View.ld x0 (Rect.unit ![1, 0, 0] ![1, 256, 704] inb_S7x256x704_S1x256x704_1_0_0)) (View.ld x0 (Rect.unit ![2, 0, 0] ![1, 256, 704] inb_S7x256x704_S1x256x704_2_0_0)) (View.ld x0 (Rect.unit ![3, 0, 0] ![1, 256, 704] inb_S7x256x704_S1x256x704_3_0_0)) (View.ld x0 (Rect.unit ![4, 0, 0] ![1, 256, 704] inb_S7x256x704_S1x256x704_4_0_0)) (View.ld x0 (Rect.unit ![5, 0, 0] ![1, 256, 704] inb_S7x256x704_S1x256x704_5_0_0)) (View.ld x0 (Rect.unit ![6, 0, 0] ![1, 256, 704] inb_S7x256x704_S1x256x704_6_0_0)) x2
    = fun j => moment (gB x0 x4 (j 0) (j 1)) (x2 (ix3 0 (j 0) (j 1))) := by
  funext y; pointwise [k1_pay3, k1_pay2, gB, sum7, moment]
end

/-! ## Region 0: layer 1 -/

theorem out05 (c : Dev nD) (t : Fin cfg0.N) (y : S1x256x704.Idx) : (dat0 V c).after 5 t y = gB (iblk0 V c 0 t) (iblk0 V c 4 t) (y 1) (y 2) := by
  rw [after0_5]; frame_out; rw [kpay_0]; generalize gB (iblk0 V c 0 t) (iblk0 V c 4 t) = g; pointwise [k0_pay5]

theorem out06 (c : Dev nD) (t : Fin cfg0.N) (y : S1x256x704.Idx) : (dat0 V c).after 6 t y
    = step (gB (iblk0 V c 0 t) (iblk0 V c 4 t) (y 1) (y 2)) ((iblk0 V c 1 t) y) ((iblk0 V c 2 t) y) ((iblk0 V c 3 t) y) := by
  rw [after0_6]; frame_out; rw [kpay_0, kpayM_0]; generalize gB (iblk0 V c 0 t) (iblk0 V c 4 t) = g
  generalize (iblk0 V c 1 t) = x1; generalize (iblk0 V c 2 t) = x2; generalize (iblk0 V c 3 t) = x3
  pointwise [k0_pay1, k0_pay8, k0_pay4, step, moment, moment2]
  rw [c1, c2]
  exact congrArg (fun z : S1x256x704.Idx => step (g (y 1) (y 2)) (x1 y) (x2 z) (x3 y)) (unit_eta y)

theorem out07 (c : Dev nD) (t : Fin cfg0.N) (y : S1x256x704.Idx) : (dat0 V c).after 7 t y
    = moment (gB (iblk0 V c 0 t) (iblk0 V c 4 t) (y 1) (y 2)) ((iblk0 V c 2 t) y) := by
  rw [after0_7]; frame_out; rw [kpayM_0]; generalize gB (iblk0 V c 0 t) (iblk0 V c 4 t) = g
  generalize (iblk0 V c 2 t) = x2
  pointwise [k0_pay6, moment]
  exact congrArg (fun z : S1x256x704.Idx => moment (g (y 1) (y 2)) (x2 z)) (unit_eta y)

theorem out08 (c : Dev nD) (t : Fin cfg0.N) (y : S1x256x704.Idx) : (dat0 V c).after 8 t y
    = moment2 (gB (iblk0 V c 0 t) (iblk0 V c 4 t) (y 1) (y 2)) ((iblk0 V c 3 t) y) := by
  rw [after0_8]; frame_out; rw [kpay_0]; generalize gB (iblk0 V c 0 t) (iblk0 V c 4 t) = g
  generalize (iblk0 V c 3 t) = x3
  pointwise [k0_pay7, k0_pay4, moment2]

theorem idx0 : ∀ t : Fin cfg0.N, win0_0.index t = ![0, t.val, 0] ∧ win0_1.index t = ![1, t.val, 0] ∧ win0_2.index t = ![1, t.val, 0]
    ∧ win0_3.index t = ![1, t.val, 0] ∧ win0_4.index t = ![t.val, 0] ∧ win0_5.index t = ![1, t.val, 0] ∧ win0_6.index t = ![1, t.val, 0]
    ∧ win0_7.index t = ![1, t.val, 0] ∧ win0_8.index t = ![1, t.val, 0] :=
  (by decide +kernel : ∀ t : Fin grid0.N, _)

/-- The array's entry at entry `y` of block `t`. -/
def pos0 (t : Fin cfg0.N) (y : S1x256x704.Idx) : S2x1024x704.Idx :=
  ix3 1 ⟨t.val * 256 + (y 1).val, by
    have ht : t.val < 4 := lt_of_lt_of_eq t.isLt N_0
    have hy : (y 1).val < 256 := (y 1).isLt
    omega⟩ (y 2)

theorem emb05 (t : Fin cfg0.N) (y : S1x256x704.Idx) : (win0_5.blk t).view.emb y = pos0 t y := by
  unfold pos0; blk_ext [idx0 t]

theorem emb06 (t : Fin cfg0.N) (y : S1x256x704.Idx) : (win0_6.blk t).view.emb y = pos0 t y := by
  unfold pos0; blk_ext [idx0 t]

theorem emb07 (t : Fin cfg0.N) (y : S1x256x704.Idx) : (win0_7.blk t).view.emb y = pos0 t y := by
  unfold pos0; blk_ext [idx0 t]

theorem emb08 (t : Fin cfg0.N) (y : S1x256x704.Idx) : (win0_8.blk t).view.emb y = pos0 t y := by
  unfold pos0; blk_ext [idx0 t]

theorem in01 (c : Dev nD) (t : Fin cfg0.N) (y : S1x256x704.Idx) : iblk0 V c 1 t y = V c main_arg4 (pos0 t y) := by
  unfold pos0; blk_point [iblk0, idx0 t]

theorem in02 (c : Dev nD) (t : Fin cfg0.N) (y : S1x256x704.Idx) : iblk0 V c 2 t y = V c main_arg5 (pos0 t y) := by
  unfold pos0; blk_point [iblk0, idx0 t]

theorem in03 (c : Dev nD) (t : Fin cfg0.N) (y : S1x256x704.Idx) : iblk0 V c 3 t y = V c main_arg6 (pos0 t y) := by
  unfold pos0; blk_point [iblk0, idx0 t]

theorem in00 (c : Dev nD) (t : Fin cfg0.N) (y : S1x256x704.Idx) (k : Fin 7) :
    iblk0 V c 0 t (ix3 k (y 1) (y 2)) = V c main_arg0 (ix3 k (pos0 t y 1) (pos0 t y 2)) := by
  unfold pos0; blk_point [iblk0, idx0 t]

theorem in04 (c : Dev nD) (t : Fin cfg0.N) (y : S1x256x704.Idx) :
    iblk0 V c 4 t (ix2 (y 1) (y 2)) = V c main_arg1 (ix2 (pos0 t y 1) (pos0 t y 2)) := by
  unfold pos0; blk_point [iblk0, idx0 t]

theorem gB_pos0 (c : Dev nD) (t : Fin cfg0.N) (y : S1x256x704.Idx) : gB (iblk0 V c 0 t) (iblk0 V c 4 t) (y 1) (y 2)
    = Adam2.Lay (R := 1024) (N := 704) (V c main_arg0) (V c main_arg1) (pos0 t y) :=
  congrArg₂ sum7 (in04 V c t y) (funext fun k => in00 V c t y k)

theorem v05 (c : Dev nD) : (dat0 V c).arrAt 5 cfg0.N
    = fun i : S2x1024x704.Idx => if (i 0).val = 1 then Adam2.Lay (R := 1024) (N := 704) (V c main_arg0) (V c main_arg1) i else V c main_v0_0 i := by
  refine (dat0 V c).arrAt_eq_of_coversWhere 5 _ (fun β => β (0 : Fin _) = 1) (by decide +kernel) (fun t _ y => ?_)
    (fun j => by blk_simp [Pipeline.Window.cell_apply]; omega)
  blk_simp
  rw [out05, emb05, gB_pos0]

theorem v06 (c : Dev nD) : (dat0 V c).arrAt 6 cfg0.N
    = fun i : S2x1024x704.Idx => if (i 0).val = 1 then step (Adam2.Lay (R := 1024) (N := 704) (V c main_arg0) (V c main_arg1) i) (V c main_arg4 i) (V c main_arg5 i) (V c main_arg6 i) else V c main_v0_1 i := by
  refine (dat0 V c).arrAt_eq_of_coversWhere 6 _ (fun β => β (0 : Fin _) = 1) (by decide +kernel) (fun t _ y => ?_)
    (fun j => by blk_simp [Pipeline.Window.cell_apply]; omega)
  blk_simp
  rw [out06, emb06, gB_pos0, in01, in02, in03]

theorem v07 (c : Dev nD) : (dat0 V c).arrAt 7 cfg0.N
    = fun i : S2x1024x704.Idx => if (i 0).val = 1 then moment (Adam2.Lay (R := 1024) (N := 704) (V c main_arg0) (V c main_arg1) i) (V c main_arg5 i) else V c main_v0_2 i := by
  refine (dat0 V c).arrAt_eq_of_coversWhere 7 _ (fun β => β (0 : Fin _) = 1) (by decide +kernel) (fun t _ y => ?_)
    (fun j => by blk_simp [Pipeline.Window.cell_apply]; omega)
  blk_simp
  rw [out07, emb07, gB_pos0, in02]

theorem v08 (c : Dev nD) : (dat0 V c).arrAt 8 cfg0.N
    = fun i : S2x1024x704.Idx => if (i 0).val = 1 then moment2 (Adam2.Lay (R := 1024) (N := 704) (V c main_arg0) (V c main_arg1) i) (V c main_arg6 i) else V c main_v0_3 i := by
  refine (dat0 V c).arrAt_eq_of_coversWhere 8 _ (fun β => β (0 : Fin _) = 1) (by decide +kernel) (fun t _ y => ?_)
    (fun j => by blk_simp [Pipeline.Window.cell_apply]; omega)
  blk_simp
  rw [out08, emb08, gB_pos0, in03]

/-! ## Region 1: layer 0 -/

theorem out15 (c : Dev nD) (t : Fin cfg1.N) (y : S1x256x704.Idx) : (dat1 V c).after 5 t y = gB (iblk1 V c 0 t) (iblk1 V c 4 t) (y 1) (y 2) := by
  rw [after1_5]; dsimp only [outsAt1]; frame_out; rw [kpay_1]; generalize gB (iblk1 V c 0 t) (iblk1 V c 4 t) = g; pointwise [k1_pay5]

theorem out16 (c : Dev nD) (t : Fin cfg1.N) (y : S1x256x704.Idx) : (dat1 V c).after 6 t y
    = step (gB (iblk1 V c 0 t) (iblk1 V c 4 t) (y 1) (y 2)) ((iblk1 V c 1 t) y) ((iblk1 V c 2 t) y) ((iblk1 V c 3 t) y) := by
  rw [after1_6]; frame_out; rw [kpay_1, kpayM_1]; generalize gB (iblk1 V c 0 t) (iblk1 V c 4 t) = g
  generalize (iblk1 V c 1 t) = x1; generalize (iblk1 V c 2 t) = x2; generalize (iblk1 V c 3 t) = x3
  pointwise [k1_pay1, k1_pay8, k1_pay4, step, moment, moment2]
  rw [c1, c2]
  exact congrArg (fun z : S1x256x704.Idx => step (g (y 1) (y 2)) (x1 y) (x2 z) (x3 y)) (unit_eta y)

theorem out17 (c : Dev nD) (t : Fin cfg1.N) (y : S1x256x704.Idx) : (dat1 V c).after 7 t y
    = moment (gB (iblk1 V c 0 t) (iblk1 V c 4 t) (y 1) (y 2)) ((iblk1 V c 2 t) y) := by
  rw [after1_7]; frame_out; rw [kpayM_1]; generalize gB (iblk1 V c 0 t) (iblk1 V c 4 t) = g
  generalize (iblk1 V c 2 t) = x2
  pointwise [k1_pay6, moment]
  exact congrArg (fun z : S1x256x704.Idx => moment (g (y 1) (y 2)) (x2 z)) (unit_eta y)

theorem out18 (c : Dev nD) (t : Fin cfg1.N) (y : S1x256x704.Idx) : (dat1 V c).after 8 t y
    = moment2 (gB (iblk1 V c 0 t) (iblk1 V c 4 t) (y 1) (y 2)) ((iblk1 V c 3 t) y) := by
  rw [after1_8]; frame_out; rw [kpay_1]; generalize gB (iblk1 V c 0 t) (iblk1 V c 4 t) = g
  generalize (iblk1 V c 3 t) = x3
  pointwise [k1_pay7, k1_pay4, moment2]

theorem idx1 : ∀ t : Fin cfg1.N, win1_0.index t = ![0, t.val, 0] ∧ win1_1.index t = ![0, t.val, 0] ∧ win1_2.index t = ![0, t.val, 0]
    ∧ win1_3.index t = ![0, t.val, 0] ∧ win1_4.index t = ![t.val, 0] ∧ win1_5.index t = ![0, t.val, 0] ∧ win1_6.index t = ![0, t.val, 0]
    ∧ win1_7.index t = ![0, t.val, 0] ∧ win1_8.index t = ![0, t.val, 0] :=
  (by decide +kernel : ∀ t : Fin grid1.N, _)

/-- The array's entry at entry `y` of block `t`. -/
def pos1 (t : Fin cfg1.N) (y : S1x256x704.Idx) : S2x1024x704.Idx :=
  ix3 0 ⟨t.val * 256 + (y 1).val, by
    have ht : t.val < 4 := lt_of_lt_of_eq t.isLt N_1
    have hy : (y 1).val < 256 := (y 1).isLt
    omega⟩ (y 2)

theorem emb15 (t : Fin cfg1.N) (y : S1x256x704.Idx) : (win1_5.blk t).view.emb y = pos1 t y := by
  unfold pos1; blk_ext [idx1 t]

theorem emb16 (t : Fin cfg1.N) (y : S1x256x704.Idx) : (win1_6.blk t).view.emb y = pos1 t y := by
  unfold pos1; blk_ext [idx1 t]

theorem emb17 (t : Fin cfg1.N) (y : S1x256x704.Idx) : (win1_7.blk t).view.emb y = pos1 t y := by
  unfold pos1; blk_ext [idx1 t]

theorem emb18 (t : Fin cfg1.N) (y : S1x256x704.Idx) : (win1_8.blk t).view.emb y = pos1 t y := by
  unfold pos1; blk_ext [idx1 t]

theorem in11 (c : Dev nD) (t : Fin cfg1.N) (y : S1x256x704.Idx) : iblk1 V c 1 t y = V c main_arg4 (pos1 t y) := by
  unfold pos1; blk_point [iblk1, idx1 t]

theorem in12 (c : Dev nD) (t : Fin cfg1.N) (y : S1x256x704.Idx) : iblk1 V c 2 t y = V c main_arg5 (pos1 t y) := by
  unfold pos1; blk_point [iblk1, idx1 t]

theorem in13 (c : Dev nD) (t : Fin cfg1.N) (y : S1x256x704.Idx) : iblk1 V c 3 t y = V c main_arg6 (pos1 t y) := by
  unfold pos1; blk_point [iblk1, idx1 t]

theorem in10 (c : Dev nD) (t : Fin cfg1.N) (y : S1x256x704.Idx) (k : Fin 7) :
    iblk1 V c 0 t (ix3 k (y 1) (y 2)) = V c main_arg2 (ix3 k (pos1 t y 1) (pos1 t y 2)) := by
  unfold pos1; blk_point [iblk1, idx1 t]

theorem in14 (c : Dev nD) (t : Fin cfg1.N) (y : S1x256x704.Idx) :
    iblk1 V c 4 t (ix2 (y 1) (y 2)) = V c main_arg3 (ix2 (pos1 t y 1) (pos1 t y 2)) := by
  unfold pos1; blk_point [iblk1, idx1 t]

theorem gB_pos1 (c : Dev nD) (t : Fin cfg1.N) (y : S1x256x704.Idx) : gB (iblk1 V c 0 t) (iblk1 V c 4 t) (y 1) (y 2)
    = Adam2.Lay (R := 1024) (N := 704) (V c main_arg2) (V c main_arg3) (pos1 t y) :=
  congrArg₂ sum7 (in14 V c t y) (funext fun k => in10 V c t y k)

theorem v15 (c : Dev nD) : (dat1 V c).arrAt 5 cfg1.N
    = fun i : S2x1024x704.Idx => if (i 0).val = 0 then Adam2.Lay (R := 1024) (N := 704) (V c main_arg2) (V c main_arg3) i else V c main_v1_0 i := by
  refine (dat1 V c).arrAt_eq_of_coversWhere 5 _ (fun β => β (0 : Fin _) = 0) (by decide +kernel) (fun t _ y => ?_)
    (fun j => by blk_simp [Pipeline.Window.cell_apply]; omega)
  blk_simp
  rw [out15, emb15, gB_pos1]

theorem v16 (c : Dev nD) : (dat1 V c).arrAt 6 cfg1.N
    = fun i : S2x1024x704.Idx => if (i 0).val = 0 then step (Adam2.Lay (R := 1024) (N := 704) (V c main_arg2) (V c main_arg3) i) (V c main_arg4 i) (V c main_arg5 i) (V c main_arg6 i) else V c main_v1_1 i := by
  refine (dat1 V c).arrAt_eq_of_coversWhere 6 _ (fun β => β (0 : Fin _) = 0) (by decide +kernel) (fun t _ y => ?_)
    (fun j => by blk_simp [Pipeline.Window.cell_apply]; omega)
  blk_simp
  rw [out16, emb16, gB_pos1, in11, in12, in13]

theorem v17 (c : Dev nD) : (dat1 V c).arrAt 7 cfg1.N
    = fun i : S2x1024x704.Idx => if (i 0).val = 0 then moment (Adam2.Lay (R := 1024) (N := 704) (V c main_arg2) (V c main_arg3) i) (V c main_arg5 i) else V c main_v1_2 i := by
  refine (dat1 V c).arrAt_eq_of_coversWhere 7 _ (fun β => β (0 : Fin _) = 0) (by decide +kernel) (fun t _ y => ?_)
    (fun j => by blk_simp [Pipeline.Window.cell_apply]; omega)
  blk_simp
  rw [out17, emb17, gB_pos1, in12]

theorem v18 (c : Dev nD) : (dat1 V c).arrAt 8 cfg1.N
    = fun i : S2x1024x704.Idx => if (i 0).val = 0 then moment2 (Adam2.Lay (R := 1024) (N := 704) (V c main_arg2) (V c main_arg3) i) (V c main_arg6 i) else V c main_v1_3 i := by
  refine (dat1 V c).arrAt_eq_of_coversWhere 8 _ (fun β => β (0 : Fin _) = 0) (by decide +kernel) (fun t _ y => ?_)
    (fun j => by blk_simp [Pipeline.Window.cell_apply]; omega)
  blk_simp
  rw [out18, emb18, gB_pos1, in13]

end Cert.AdFfnInIdeal.Val

end
-- ==== Proof.AdFfnInRun.lean ====
/- The optimiser's two regions run, and what they leave: the layers one after the other. -/
module

public import proofs.«01_k».proof.Proof.AdFfnInMat
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.AdFfnInIdeal.Val

open Cert.AdFfnInIdeal Cert.AdFfnInIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W3 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W3 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W3 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem arg3 (c : Dev nD) (a : Ref sig .tc) (h : a ∈ argRefs) : V3 m ρ c a = m ((c : Thread nD τ).loc a) := W3_args m ρ c a h

theorem at_main_v0_0 (c : Dev nD) (i : S2x1024x704.Idx) (h : (i 0).val = 1) :
    V1 m ρ c main_v0_0 i = Adam2.Lay (R := 1024) (N := 704) (m ((c.tc : Thread nD τ).loc main_arg0)) (m ((c.tc : Thread nD τ).loc main_arg1)) i := by
  refine (congrFun ((W1_arr m ρ c 5).trans (v05 (V0 m ρ) c)) i).trans ((if_pos h).trans ?_)
  rfl

theorem at_main_v1_0 (c : Dev nD) : V2 m ρ c main_v1_0 = V1 m ρ c main_v0_0 := by
  show StableHlo.after hostOps1 (W1 m ρ c) (Proc.devRef .tc main_v1_0) = _
  unfold_abbrev_sides
  after_results
  try rfl

theorem at_main_v3_0 (c : Dev nD) : V3 m ρ c main_v1_0 = Adam2.G (R := 1024) (N := 704) (m ((c.tc : Thread nD τ).loc main_arg0)) (m ((c.tc : Thread nD τ).loc main_arg1)) (m ((c.tc : Thread nD τ).loc main_arg2)) (m ((c.tc : Thread nD τ).loc main_arg3)) := by
  funext i
  refine (congrFun ((W3_arr m ρ c 5).trans (v15 (V2 m ρ) c)) i).trans ?_
  rw [arg2 m ρ c main_arg2 (by decide), arg2 m ρ c main_arg3 (by decide), at_main_v1_0 m ρ c]
  by_cases h : (i 0).val = 0
  · rw [if_pos h]
    simp only [Adam2.G, Adam2.G, if_pos h]
  · have h1 : (i 0).val = 1 := by
      have hi : (i 0).val < 2 := (i 0).isLt
      omega
    rw [if_neg h, at_main_v0_0 m ρ c i h1]
    simp only [Adam2.G, Adam2.G, if_neg h]

theorem at_main_v0_1 (c : Dev nD) (i : S2x1024x704.Idx) (h : (i 0).val = 1) :
    V1 m ρ c main_v0_1 i = step (Adam2.Lay (R := 1024) (N := 704) (m ((c.tc : Thread nD τ).loc main_arg0)) (m ((c.tc : Thread nD τ).loc main_arg1)) i) ((m ((c.tc : Thread nD τ).loc main_arg4)) i) ((m ((c.tc : Thread nD τ).loc main_arg5)) i) ((m ((c.tc : Thread nD τ).loc main_arg6)) i) := by
  refine (congrFun ((W1_arr m ρ c 6).trans (v06 (V0 m ρ) c)) i).trans ((if_pos h).trans ?_)
  rfl

theorem at_main_v1_1 (c : Dev nD) : V2 m ρ c main_v1_1 = V1 m ρ c main_v0_1 := by
  show StableHlo.after hostOps1 (W1 m ρ c) (Proc.devRef .tc main_v1_1) = _
  unfold_abbrev_sides
  after_results
  try rfl

theorem at_main_v3_1 (c : Dev nD) : V3 m ρ c main_v1_1 = Adam2.D (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  refine (congrFun ((W3_arr m ρ c 6).trans (v16 (V2 m ρ) c)) i).trans ?_
  rw [arg2 m ρ c main_arg2 (by decide), arg2 m ρ c main_arg3 (by decide), arg2 m ρ c main_arg4 (by decide), arg2 m ρ c main_arg5 (by decide), arg2 m ρ c main_arg6 (by decide), at_main_v1_1 m ρ c]
  by_cases h : (i 0).val = 0
  · rw [if_pos h]
    simp only [Adam2.D, Adam2.G, if_pos h]
  · have h1 : (i 0).val = 1 := by
      have hi : (i 0).val < 2 := (i 0).isLt
      omega
    rw [if_neg h, at_main_v0_1 m ρ c i h1]
    simp only [Adam2.D, Adam2.G, if_neg h]

theorem at_main_v0_2 (c : Dev nD) (i : S2x1024x704.Idx) (h : (i 0).val = 1) :
    V1 m ρ c main_v0_2 i = moment (Adam2.Lay (R := 1024) (N := 704) (m ((c.tc : Thread nD τ).loc main_arg0)) (m ((c.tc : Thread nD τ).loc main_arg1)) i) ((m ((c.tc : Thread nD τ).loc main_arg5)) i) := by
  refine (congrFun ((W1_arr m ρ c 7).trans (v07 (V0 m ρ) c)) i).trans ((if_pos h).trans ?_)
  rfl

theorem at_main_v1_2 (c : Dev nD) : V2 m ρ c main_v1_2 = V1 m ρ c main_v0_2 := by
  show StableHlo.after hostOps1 (W1 m ρ c) (Proc.devRef .tc main_v1_2) = _
  unfold_abbrev_sides
  after_results
  try rfl

theorem at_main_v3_2 (c : Dev nD) : V3 m ρ c main_v1_2 = Adam2.NM (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  funext i
  refine (congrFun ((W3_arr m ρ c 7).trans (v17 (V2 m ρ) c)) i).trans ?_
  rw [arg2 m ρ c main_arg2 (by decide), arg2 m ρ c main_arg3 (by decide), arg2 m ρ c main_arg5 (by decide), at_main_v1_2 m ρ c]
  by_cases h : (i 0).val = 0
  · rw [if_pos h]
    simp only [Adam2.NM, Adam2.G, if_pos h]
  · have h1 : (i 0).val = 1 := by
      have hi : (i 0).val < 2 := (i 0).isLt
      omega
    rw [if_neg h, at_main_v0_2 m ρ c i h1]
    simp only [Adam2.NM, Adam2.G, if_neg h]

theorem at_main_v0_3 (c : Dev nD) (i : S2x1024x704.Idx) (h : (i 0).val = 1) :
    V1 m ρ c main_v0_3 i = moment2 (Adam2.Lay (R := 1024) (N := 704) (m ((c.tc : Thread nD τ).loc main_arg0)) (m ((c.tc : Thread nD τ).loc main_arg1)) i) ((m ((c.tc : Thread nD τ).loc main_arg6)) i) := by
  refine (congrFun ((W1_arr m ρ c 8).trans (v08 (V0 m ρ) c)) i).trans ((if_pos h).trans ?_)
  rfl

theorem at_main_v1_3 (c : Dev nD) : V2 m ρ c main_v1_3 = V1 m ρ c main_v0_3 := by
  show StableHlo.after hostOps1 (W1 m ρ c) (Proc.devRef .tc main_v1_3) = _
  unfold_abbrev_sides
  after_results
  try rfl

theorem at_main_v3_3 (c : Dev nD) : V3 m ρ c main_v1_3 = Adam2.NV (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := by
  funext i
  refine (congrFun ((W3_arr m ρ c 8).trans (v18 (V2 m ρ) c)) i).trans ?_
  rw [arg2 m ρ c main_arg2 (by decide), arg2 m ρ c main_arg3 (by decide), arg2 m ρ c main_arg6 (by decide), at_main_v1_3 m ρ c]
  by_cases h : (i 0).val = 0
  · rw [if_pos h]
    simp only [Adam2.NV, Adam2.G, if_pos h]
  · have h1 : (i 0).val = 1 := by
      have hi : (i 0).val < 2 := (i 0).isLt
      omega
    rw [if_neg h, at_main_v0_3 m ρ c i h1]
    simp only [Adam2.NV, Adam2.G, if_neg h]

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.mem ((c.tc : Thread nD τ).loc main_v1_0) = Adam2.G (R := 1024) (N := 704) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_1) = Adam2.D (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v1_2) = Adam2.NM (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v1_3) = Adam2.NV (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V3 m ρ c b :=
    fun b hb => h.1 c _ (mem_uc b hb)
  exact ⟨⟨(g main_arg0 (by decide)).trans (arg3 m ρ c main_arg0 (by decide)), (g main_arg1 (by decide)).trans (arg3 m ρ c main_arg1 (by decide)), (g main_arg2 (by decide)).trans (arg3 m ρ c main_arg2 (by decide)), (g main_arg3 (by decide)).trans (arg3 m ρ c main_arg3 (by decide)), (g main_arg4 (by decide)).trans (arg3 m ρ c main_arg4 (by decide)), (g main_arg5 (by decide)).trans (arg3 m ρ c main_arg5 (by decide)), (g main_arg6 (by decide)).trans (arg3 m ρ c main_arg6 (by decide))⟩,
    (g main_v1_0 (by decide)).trans (at_main_v3_0 m ρ c),
    (g main_v1_1 (by decide)).trans (at_main_v3_1 m ρ c),
    (g main_v1_2 (by decide)).trans (at_main_v3_2 m ρ c),
    (g main_v1_3 (by decide)).trans (at_main_v3_3 m ρ c)⟩

end Cert.AdFfnInIdeal.Val

end
-- ==== Proof.AdFfnInRef.lean ====
/- The reference's results are the mathematics. -/
module

public import proofs.«01_k».proof.Proof.AdSpec
public import proofs.«01_k».proof.Proof.Gen.AdFfnInRefIdeal.Read

@[expose] public section

set_option maxRecDepth 16384

noncomputable section

namespace Cert.AdFfnInRefIdeal.Val

open Cert.AdFfnInRefIdeal Cert.AdFfnInRefIdeal.Gen Cert.AdFfnInRefIdeal.Read Cert.Spec Idealize.ShloMosaic Idealize.ShloMosaic.TcCoe Idealize.SL.Sem

variable (x0 x2 : Ten 7 1024 704) (x1 x3 : (⟨2, ![1024, 704]⟩ : Shape).Idx → EReal) (x4 x5 x6 : Ten 2 1024 704)

theorem r_L0 (y : S1x1024x704.Idx) : val_main_v4 (F := Ideal) x2 x3 y = sum7 (x3 (ix2 (y 1) (y 2))) fun k => x2 (ix3 k (y 1) (y 2)) := by
  unfold val_main_v4 val_main_v1 val_main_v0
  pointwise [val_main_cst]
  exact sum7_eq _ _

theorem r_L1 (y : S1x1024x704.Idx) : val_main_v5 (F := Ideal) x0 x1 y = sum7 (x1 (ix2 (y 1) (y 2))) fun k => x0 (ix3 k (y 1) (y 2)) := by
  unfold val_main_v5 val_main_v3 val_main_v2
  pointwise [val_main_cst_0]
  exact sum7_eq _ _

theorem r_G : val_main_v6 (F := Ideal) x0 x1 x2 x3 = Adam2.G x0 x1 x2 x3 := by
  unfold val_main_v6 Adam2.G
  funext y
  have hy : (y 0).val < 2 := (y 0).isLt
  by_cases h : (y 0).val = 0
  · rw [if_pos h]
    pointwise []
    exact (dif_pos (show (y 0).val < 1 by omega)).trans (r_L0 x2 x3 _)
  · rw [if_neg h]
    pointwise []
    exact (dif_neg (show ¬(y 0).val < 1 by omega)).trans (r_L1 x0 x1 _)

theorem r_NM : val_main_v11 (F := Ideal) x0 x1 x2 x3 x5 = Adam2.NM x0 x1 x2 x3 x5 := by
  unfold val_main_v11 val_main_v10 val_main_v9 val_main_v8 val_main_v7 Adam2.NM
  rw [r_G]
  generalize Adam2.G x0 x1 x2 x3 = g
  funext y
  pointwise [val_main_cst_1, val_main_cst_2, moment]

theorem r_NV : val_main_v17 (F := Ideal) x0 x1 x2 x3 x6 = Adam2.NV x0 x1 x2 x3 x6 := by
  unfold val_main_v17 val_main_v16 val_main_v15 val_main_v14 val_main_v13 val_main_v12 Adam2.NV
  rw [r_G]
  generalize Adam2.G x0 x1 x2 x3 = g
  funext y
  pointwise [val_main_cst_3, val_main_cst_4, moment2]

theorem r_D : val_main_v30 (F := Ideal) x0 x1 x2 x3 x4 x5 x6 = Adam2.D x0 x1 x2 x3 x4 x5 x6 := by
  unfold val_main_v30 val_main_v29 val_main_v28 val_main_v27 val_main_v26 val_main_v25 val_main_v24 val_main_v23 val_main_v22 val_main_v21 val_main_v20 val_main_v19 val_main_v18 Adam2.D
  rw [r_NM, r_NV]
  unfold Adam2.NM Adam2.NV
  generalize Adam2.G x0 x1 x2 x3 = g
  funext y
  pointwise [val_main_cst_5, val_main_cst_6, val_main_cst_7, val_main_cst_8, val_main_cst_9, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Adam2.G (R := 1024) (N := 704) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = Adam2.D (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v11) = Adam2.NM (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v17) = Adam2.NV (R := 1024) (N := 704) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.AdFfnInRefIdeal.Value.run m ρ)
  obtain ⟨h0, h1, h2, h3, h4, h5, h6, h7, h8, h9, h10⟩ := h c
  exact ⟨h0.trans ((val_main_v6_eq ..).trans (r_G ..)),
    h1.trans ((val_main_v30_eq ..).trans (r_D ..)),
    h2.trans ((val_main_v11_eq ..).trans (r_NM ..)),
    h3.trans ((val_main_v17_eq ..).trans (r_NV ..)),
    h4, h5, h6, h7, h8, h9, h10⟩

end Cert.AdFfnInRefIdeal.Val

end
-- ==== Proof.AdFfnOutMat.lean ====
/- What each of the optimiser's two regions leaves, from what it finds: one layer's rows each. -/
module

public import proofs.«01_k».proof.Proof.AdSpec
public import proofs.«01_k».proof.Proof.Gen.AdFfnOutIdeal.Frame

@[expose] public section

set_option maxRecDepth 16384

noncomputable section

namespace Cert.AdFfnOutIdeal.Val

open Cert.AdFfnOutIdeal Cert.AdFfnOutIdeal.Gen Cert.Spec Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

/-! ## A block of 176 rows -/

section
variable (x0 : Vec Ideal S7x176x1024 .f32) (x1 x2 x3 : Vec Ideal S1x176x1024 .f32) (x4 : Vec Ideal S176x1024 .f32)

/-- The gradient on a block. -/
abbrev gB : Fin 176 → Fin 1024 → EReal := fun r i => sum7 (x4 (ix2 r i)) fun k => x0 (ix3 k r i)

theorem kpay_0 : k0_pay9 x0 x1 x2 x3 x4 = fun j => gB x0 x4 (j 0) (j 1) := by
  funext y; pointwise [k0_pay9, k0_pay2, gB, sum7]

theorem kpayM_0 : k0_pay10 x0 x1 x2 x3 x4 = fun j => moment (gB x0 x4 (j 0) (j 1)) (x2 (ix3 0 (j 0) (j 1))) := by
  funext y; pointwise [k0_pay10, k0_pay3, k0_pay2, gB, sum7, moment]

theorem kpay_1 : k1_pay2 x4 (View.ld x0 (Rect.unit ![0, 0, 0] ![1, 176, 1024] inb_S7x176x1024_S1x176x1024_0_0_0)) (View.ld x0 (Rect.unit ![1, 0, 0] ![1, 176, 1024] inb_S7x176x1024_S1x176x1024_1_0_0)) (View.ld x0 (Rect.unit ![2, 0, 0] ![1, 176, 1024] inb_S7x176x1024_S1x176x1024_2_0_0)) (View.ld x0 (Rect.unit ![3, 0, 0] ![1, 176, 1024] inb_S7x176x1024_S1x176x1024_3_0_0)) (View.ld x0 (Rect.unit ![4, 0, 0] ![1, 176, 1024] inb_S7x176x1024_S1x176x1024_4_0_0)) (View.ld x0 (Rect.unit ![5, 0, 0] ![1, 176, 1024] inb_S7x176x1024_S1x176x1024_5_0_0)) (View.ld x0 (Rect.unit ![6, 0, 0] ![1, 176, 1024] inb_S7x176x1024_S1x176x1024_6_0_0))
    = fun j => gB x0 x4 (j 0) (j 1) := by
  funext y; pointwise [k1_pay2, gB, sum7]

theorem kpayM_1 : k1_pay3 x4 (View.ld x0 (Rect.unit ![0, 0, 0] ![1, 176, 1024] inb_S7x176x1024_S1x176x1024_0_0_0)) (View.ld x0 (Rect.unit ![1, 0, 0] ![1, 176, 1024] inb_S7x176x1024_S1x176x1024_1_0_0)) (View.ld x0 (Rect.unit ![2, 0, 0] ![1, 176, 1024] inb_S7x176x1024_S1x176x1024_2_0_0)) (View.ld x0 (Rect.unit ![3, 0, 0] ![1, 176, 1024] inb_S7x176x1024_S1x176x1024_3_0_0)) (View.ld x0 (Rect.unit ![4, 0, 0] ![1, 176, 1024] inb_S7x176x1024_S1x176x1024_4_0_0)) (View.ld x0 (Rect.unit ![5, 0, 0] ![1, 176, 1024] inb_S7x176x1024_S1x176x1024_5_0_0)) (View.ld x0 (Rect.unit ![6, 0, 0] ![1, 176, 1024] inb_S7x176x1024_S1x176x1024_6_0_0)) x2
    = fun j => moment (gB x0 x4 (j 0) (j 1)) (x2 (ix3 0 (j 0) (j 1))) := by
  funext y; pointwise [k1_pay3, k1_pay2, gB, sum7, moment]
end

/-! ## Region 0: layer 1 -/

theorem out05 (c : Dev nD) (t : Fin cfg0.N) (y : S1x176x1024.Idx) : (dat0 V c).after 5 t y = gB (iblk0 V c 0 t) (iblk0 V c 4 t) (y 1) (y 2) := by
  rw [after0_5]; frame_out; rw [kpay_0]; generalize gB (iblk0 V c 0 t) (iblk0 V c 4 t) = g; pointwise [k0_pay5]

theorem out06 (c : Dev nD) (t : Fin cfg0.N) (y : S1x176x1024.Idx) : (dat0 V c).after 6 t y
    = step (gB (iblk0 V c 0 t) (iblk0 V c 4 t) (y 1) (y 2)) ((iblk0 V c 1 t) y) ((iblk0 V c 2 t) y) ((iblk0 V c 3 t) y) := by
  rw [after0_6]; frame_out; rw [kpay_0, kpayM_0]; generalize gB (iblk0 V c 0 t) (iblk0 V c 4 t) = g
  generalize (iblk0 V c 1 t) = x1; generalize (iblk0 V c 2 t) = x2; generalize (iblk0 V c 3 t) = x3
  pointwise [k0_pay1, k0_pay8, k0_pay4, step, moment, moment2]
  rw [c1, c2]
  exact congrArg (fun z : S1x176x1024.Idx => step (g (y 1) (y 2)) (x1 y) (x2 z) (x3 y)) (unit_eta y)

theorem out07 (c : Dev nD) (t : Fin cfg0.N) (y : S1x176x1024.Idx) : (dat0 V c).after 7 t y
    = moment (gB (iblk0 V c 0 t) (iblk0 V c 4 t) (y 1) (y 2)) ((iblk0 V c 2 t) y) := by
  rw [after0_7]; frame_out; rw [kpayM_0]; generalize gB (iblk0 V c 0 t) (iblk0 V c 4 t) = g
  generalize (iblk0 V c 2 t) = x2
  pointwise [k0_pay6, moment]
  exact congrArg (fun z : S1x176x1024.Idx => moment (g (y 1) (y 2)) (x2 z)) (unit_eta y)

theorem out08 (c : Dev nD) (t : Fin cfg0.N) (y : S1x176x1024.Idx) : (dat0 V c).after 8 t y
    = moment2 (gB (iblk0 V c 0 t) (iblk0 V c 4 t) (y 1) (y 2)) ((iblk0 V c 3 t) y) := by
  rw [after0_8]; frame_out; rw [kpay_0]; generalize gB (iblk0 V c 0 t) (iblk0 V c 4 t) = g
  generalize (iblk0 V c 3 t) = x3
  pointwise [k0_pay7, k0_pay4, moment2]

theorem idx0 : ∀ t : Fin cfg0.N, win0_0.index t = ![0, t.val, 0] ∧ win0_1.index t = ![1, t.val, 0] ∧ win0_2.index t = ![1, t.val, 0]
    ∧ win0_3.index t = ![1, t.val, 0] ∧ win0_4.index t = ![t.val, 0] ∧ win0_5.index t = ![1, t.val, 0] ∧ win0_6.index t = ![1, t.val, 0]
    ∧ win0_7.index t = ![1, t.val, 0] ∧ win0_8.index t = ![1, t.val, 0] :=
  (by decide +kernel : ∀ t : Fin grid0.N, _)

/-- The array's entry at entry `y` of block `t`. -/
def pos0 (t : Fin cfg0.N) (y : S1x176x1024.Idx) : S2x352x1024.Idx :=
  ix3 1 ⟨t.val * 176 + (y 1).val, by
    have ht : t.val < 2 := lt_of_lt_of_eq t.isLt N_0
    have hy : (y 1).val < 176 := (y 1).isLt
    omega⟩ (y 2)

theorem emb05 (t : Fin cfg0.N) (y : S1x176x1024.Idx) : (win0_5.blk t).view.emb y = pos0 t y := by
  unfold pos0; blk_ext [idx0 t]

theorem emb06 (t : Fin cfg0.N) (y : S1x176x1024.Idx) : (win0_6.blk t).view.emb y = pos0 t y := by
  unfold pos0; blk_ext [idx0 t]

theorem emb07 (t : Fin cfg0.N) (y : S1x176x1024.Idx) : (win0_7.blk t).view.emb y = pos0 t y := by
  unfold pos0; blk_ext [idx0 t]

theorem emb08 (t : Fin cfg0.N) (y : S1x176x1024.Idx) : (win0_8.blk t).view.emb y = pos0 t y := by
  unfold pos0; blk_ext [idx0 t]

theorem in01 (c : Dev nD) (t : Fin cfg0.N) (y : S1x176x1024.Idx) : iblk0 V c 1 t y = V c main_arg4 (pos0 t y) := by
  unfold pos0; blk_point [iblk0, idx0 t]

theorem in02 (c : Dev nD) (t : Fin cfg0.N) (y : S1x176x1024.Idx) : iblk0 V c 2 t y = V c main_arg5 (pos0 t y) := by
  unfold pos0; blk_point [iblk0, idx0 t]

theorem in03 (c : Dev nD) (t : Fin cfg0.N) (y : S1x176x1024.Idx) : iblk0 V c 3 t y = V c main_arg6 (pos0 t y) := by
  unfold pos0; blk_point [iblk0, idx0 t]

theorem in00 (c : Dev nD) (t : Fin cfg0.N) (y : S1x176x1024.Idx) (k : Fin 7) :
    iblk0 V c 0 t (ix3 k (y 1) (y 2)) = V c main_arg0 (ix3 k (pos0 t y 1) (pos0 t y 2)) := by
  unfold pos0; blk_point [iblk0, idx0 t]

theorem in04 (c : Dev nD) (t : Fin cfg0.N) (y : S1x176x1024.Idx) :
    iblk0 V c 4 t (ix2 (y 1) (y 2)) = V c main_arg1 (ix2 (pos0 t y 1) (pos0 t y 2)) := by
  unfold pos0; blk_point [iblk0, idx0 t]

theorem gB_pos0 (c : Dev nD) (t : Fin cfg0.N) (y : S1x176x1024.Idx) : gB (iblk0 V c 0 t) (iblk0 V c 4 t) (y 1) (y 2)
    = Adam2.Lay (R := 352) (N := 1024) (V c main_arg0) (V c main_arg1) (pos0 t y) :=
  congrArg₂ sum7 (in04 V c t y) (funext fun k => in00 V c t y k)

theorem v05 (c : Dev nD) : (dat0 V c).arrAt 5 cfg0.N
    = fun i : S2x352x1024.Idx => if (i 0).val = 1 then Adam2.Lay (R := 352) (N := 1024) (V c main_arg0) (V c main_arg1) i else V c main_v0_0 i := by
  refine (dat0 V c).arrAt_eq_of_coversWhere 5 _ (fun β => β (0 : Fin _) = 1) (by decide +kernel) (fun t _ y => ?_)
    (fun j => by blk_simp [Pipeline.Window.cell_apply]; omega)
  blk_simp
  rw [out05, emb05, gB_pos0]

theorem v06 (c : Dev nD) : (dat0 V c).arrAt 6 cfg0.N
    = fun i : S2x352x1024.Idx => if (i 0).val = 1 then step (Adam2.Lay (R := 352) (N := 1024) (V c main_arg0) (V c main_arg1) i) (V c main_arg4 i) (V c main_arg5 i) (V c main_arg6 i) else V c main_v0_1 i := by
  refine (dat0 V c).arrAt_eq_of_coversWhere 6 _ (fun β => β (0 : Fin _) = 1) (by decide +kernel) (fun t _ y => ?_)
    (fun j => by blk_simp [Pipeline.Window.cell_apply]; omega)
  blk_simp
  rw [out06, emb06, gB_pos0, in01, in02, in03]

theorem v07 (c : Dev nD) : (dat0 V c).arrAt 7 cfg0.N
    = fun i : S2x352x1024.Idx => if (i 0).val = 1 then moment (Adam2.Lay (R := 352) (N := 1024) (V c main_arg0) (V c main_arg1) i) (V c main_arg5 i) else V c main_v0_2 i := by
  refine (dat0 V c).arrAt_eq_of_coversWhere 7 _ (fun β => β (0 : Fin _) = 1) (by decide +kernel) (fun t _ y => ?_)
    (fun j => by blk_simp [Pipeline.Window.cell_apply]; omega)
  blk_simp
  rw [out07, emb07, gB_pos0, in02]

theorem v08 (c : Dev nD) : (dat0 V c).arrAt 8 cfg0.N
    = fun i : S2x352x1024.Idx => if (i 0).val = 1 then moment2 (Adam2.Lay (R := 352) (N := 1024) (V c main_arg0) (V c main_arg1) i) (V c main_arg6 i) else V c main_v0_3 i := by
  refine (dat0 V c).arrAt_eq_of_coversWhere 8 _ (fun β => β (0 : Fin _) = 1) (by decide +kernel) (fun t _ y => ?_)
    (fun j => by blk_simp [Pipeline.Window.cell_apply]; omega)
  blk_simp
  rw [out08, emb08, gB_pos0, in03]

/-! ## Region 1: layer 0 -/

theorem out15 (c : Dev nD) (t : Fin cfg1.N) (y : S1x176x1024.Idx) : (dat1 V c).after 5 t y = gB (iblk1 V c 0 t) (iblk1 V c 4 t) (y 1) (y 2) := by
  rw [after1_5]; dsimp only [outsAt1]; frame_out; rw [kpay_1]; generalize gB (iblk1 V c 0 t) (iblk1 V c 4 t) = g; pointwise [k1_pay5]

theorem out16 (c : Dev nD) (t : Fin cfg1.N) (y : S1x176x1024.Idx) : (dat1 V c).after 6 t y
    = step (gB (iblk1 V c 0 t) (iblk1 V c 4 t) (y 1) (y 2)) ((iblk1 V c 1 t) y) ((iblk1 V c 2 t) y) ((iblk1 V c 3 t) y) := by
  rw [after1_6]; frame_out; rw [kpay_1, kpayM_1]; generalize gB (iblk1 V c 0 t) (iblk1 V c 4 t) = g
  generalize (iblk1 V c 1 t) = x1; generalize (iblk1 V c 2 t) = x2; generalize (iblk1 V c 3 t) = x3
  pointwise [k1_pay1, k1_pay8, k1_pay4, step, moment, moment2]
  rw [c1, c2]
  exact congrArg (fun z : S1x176x1024.Idx => step (g (y 1) (y 2)) (x1 y) (x2 z) (x3 y)) (unit_eta y)

theorem out17 (c : Dev nD) (t : Fin cfg1.N) (y : S1x176x1024.Idx) : (dat1 V c).after 7 t y
    = moment (gB (iblk1 V c 0 t) (iblk1 V c 4 t) (y 1) (y 2)) ((iblk1 V c 2 t) y) := by
  rw [after1_7]; frame_out; rw [kpayM_1]; generalize gB (iblk1 V c 0 t) (iblk1 V c 4 t) = g
  generalize (iblk1 V c 2 t) = x2
  pointwise [k1_pay6, moment]
  exact congrArg (fun z : S1x176x1024.Idx => moment (g (y 1) (y 2)) (x2 z)) (unit_eta y)

theorem out18 (c : Dev nD) (t : Fin cfg1.N) (y : S1x176x1024.Idx) : (dat1 V c).after 8 t y
    = moment2 (gB (iblk1 V c 0 t) (iblk1 V c 4 t) (y 1) (y 2)) ((iblk1 V c 3 t) y) := by
  rw [after1_8]; frame_out; rw [kpay_1]; generalize gB (iblk1 V c 0 t) (iblk1 V c 4 t) = g
  generalize (iblk1 V c 3 t) = x3
  pointwise [k1_pay7, k1_pay4, moment2]

theorem idx1 : ∀ t : Fin cfg1.N, win1_0.index t = ![0, t.val, 0] ∧ win1_1.index t = ![0, t.val, 0] ∧ win1_2.index t = ![0, t.val, 0]
    ∧ win1_3.index t = ![0, t.val, 0] ∧ win1_4.index t = ![t.val, 0] ∧ win1_5.index t = ![0, t.val, 0] ∧ win1_6.index t = ![0, t.val, 0]
    ∧ win1_7.index t = ![0, t.val, 0] ∧ win1_8.index t = ![0, t.val, 0] :=
  (by decide +kernel : ∀ t : Fin grid1.N, _)

/-- The array's entry at entry `y` of block `t`. -/
def pos1 (t : Fin cfg1.N) (y : S1x176x1024.Idx) : S2x352x1024.Idx :=
  ix3 0 ⟨t.val * 176 + (y 1).val, by
    have ht : t.val < 2 := lt_of_lt_of_eq t.isLt N_1
    have hy : (y 1).val < 176 := (y 1).isLt
    omega⟩ (y 2)

theorem emb15 (t : Fin cfg1.N) (y : S1x176x1024.Idx) : (win1_5.blk t).view.emb y = pos1 t y := by
  unfold pos1; blk_ext [idx1 t]

theorem emb16 (t : Fin cfg1.N) (y : S1x176x1024.Idx) : (win1_6.blk t).view.emb y = pos1 t y := by
  unfold pos1; blk_ext [idx1 t]

theorem emb17 (t : Fin cfg1.N) (y : S1x176x1024.Idx) : (win1_7.blk t).view.emb y = pos1 t y := by
  unfold pos1; blk_ext [idx1 t]

theorem emb18 (t : Fin cfg1.N) (y : S1x176x1024.Idx) : (win1_8.blk t).view.emb y = pos1 t y := by
  unfold pos1; blk_ext [idx1 t]

theorem in11 (c : Dev nD) (t : Fin cfg1.N) (y : S1x176x1024.Idx) : iblk1 V c 1 t y = V c main_arg4 (pos1 t y) := by
  unfold pos1; blk_point [iblk1, idx1 t]

theorem in12 (c : Dev nD) (t : Fin cfg1.N) (y : S1x176x1024.Idx) : iblk1 V c 2 t y = V c main_arg5 (pos1 t y) := by
  unfold pos1; blk_point [iblk1, idx1 t]

theorem in13 (c : Dev nD) (t : Fin cfg1.N) (y : S1x176x1024.Idx) : iblk1 V c 3 t y = V c main_arg6 (pos1 t y) := by
  unfold pos1; blk_point [iblk1, idx1 t]

theorem in10 (c : Dev nD) (t : Fin cfg1.N) (y : S1x176x1024.Idx) (k : Fin 7) :
    iblk1 V c 0 t (ix3 k (y 1) (y 2)) = V c main_arg2 (ix3 k (pos1 t y 1) (pos1 t y 2)) := by
  unfold pos1; blk_point [iblk1, idx1 t]

theorem in14 (c : Dev nD) (t : Fin cfg1.N) (y : S1x176x1024.Idx) :
    iblk1 V c 4 t (ix2 (y 1) (y 2)) = V c main_arg3 (ix2 (pos1 t y 1) (pos1 t y 2)) := by
  unfold pos1; blk_point [iblk1, idx1 t]

theorem gB_pos1 (c : Dev nD) (t : Fin cfg1.N) (y : S1x176x1024.Idx) : gB (iblk1 V c 0 t) (iblk1 V c 4 t) (y 1) (y 2)
    = Adam2.Lay (R := 352) (N := 1024) (V c main_arg2) (V c main_arg3) (pos1 t y) :=
  congrArg₂ sum7 (in14 V c t y) (funext fun k => in10 V c t y k)

theorem v15 (c : Dev nD) : (dat1 V c).arrAt 5 cfg1.N
    = fun i : S2x352x1024.Idx => if (i 0).val = 0 then Adam2.Lay (R := 352) (N := 1024) (V c main_arg2) (V c main_arg3) i else V c main_v1_0 i := by
  refine (dat1 V c).arrAt_eq_of_coversWhere 5 _ (fun β => β (0 : Fin _) = 0) (by decide +kernel) (fun t _ y => ?_)
    (fun j => by blk_simp [Pipeline.Window.cell_apply]; omega)
  blk_simp
  rw [out15, emb15, gB_pos1]

theorem v16 (c : Dev nD) : (dat1 V c).arrAt 6 cfg1.N
    = fun i : S2x352x1024.Idx => if (i 0).val = 0 then step (Adam2.Lay (R := 352) (N := 1024) (V c main_arg2) (V c main_arg3) i) (V c main_arg4 i) (V c main_arg5 i) (V c main_arg6 i) else V c main_v1_1 i := by
  refine (dat1 V c).arrAt_eq_of_coversWhere 6 _ (fun β => β (0 : Fin _) = 0) (by decide +kernel) (fun t _ y => ?_)
    (fun j => by blk_simp [Pipeline.Window.cell_apply]; omega)
  blk_simp
  rw [out16, emb16, gB_pos1, in11, in12, in13]

theorem v17 (c : Dev nD) : (dat1 V c).arrAt 7 cfg1.N
    = fun i : S2x352x1024.Idx => if (i 0).val = 0 then moment (Adam2.Lay (R := 352) (N := 1024) (V c main_arg2) (V c main_arg3) i) (V c main_arg5 i) else V c main_v1_2 i := by
  refine (dat1 V c).arrAt_eq_of_coversWhere 7 _ (fun β => β (0 : Fin _) = 0) (by decide +kernel) (fun t _ y => ?_)
    (fun j => by blk_simp [Pipeline.Window.cell_apply]; omega)
  blk_simp
  rw [out17, emb17, gB_pos1, in12]

theorem v18 (c : Dev nD) : (dat1 V c).arrAt 8 cfg1.N
    = fun i : S2x352x1024.Idx => if (i 0).val = 0 then moment2 (Adam2.Lay (R := 352) (N := 1024) (V c main_arg2) (V c main_arg3) i) (V c main_arg6 i) else V c main_v1_3 i := by
  refine (dat1 V c).arrAt_eq_of_coversWhere 8 _ (fun β => β (0 : Fin _) = 0) (by decide +kernel) (fun t _ y => ?_)
    (fun j => by blk_simp [Pipeline.Window.cell_apply]; omega)
  blk_simp
  rw [out18, emb18, gB_pos1, in13]

end Cert.AdFfnOutIdeal.Val

end
-- ==== Proof.AdFfnOutRun.lean ====
/- The optimiser's two regions run, and what they leave: the layers one after the other. -/
module

public import proofs.«01_k».proof.Proof.AdFfnOutMat
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.AdFfnOutIdeal.Val

open Cert.AdFfnOutIdeal Cert.AdFfnOutIdeal.Gen Cert.Spec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with every unscoped buffer at the last boundary's contents, and every counter at zero. -/
theorem run_all : θ_run defs (onTc (τ := τ) (main (F := Ideal))) ⟨m, fun _ => 0, ρ⟩ (fun r =>
    (∀ c : Dev nD, ∀ b ∈ Pipeline.ucRefs τ sig, r.2.mem (((c : Thread nD τ)).1, b) = W3 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (QY := fun c s => ∀ b ∈ Pipeline.ucRefs τ sig, s.mem (((c : Thread nD τ)).1, b) = W3 m ρ c b)
    (hQ := fun s h hz => ⟨h, funext fun g => hz g (.inr (no_unscoped g.2))⟩)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := by repeat' constructor
               all_goals exact fun _ => .rfl)
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (hfin := fun c s => by
      iintro ⟨⟨Hh, -⟩, HSI⟩
      unfold StableHlo.held
      imodintro
      iapply (pointsTo_read_all (Pipeline.ucRefs τ sig) (fun b => (((c : Thread nD τ)).1, b)) (W3 m ρ c) s)
      isplitl [Hh] <;> iassumption)

/-! ## What each buffer holds at each boundary -/

theorem arg1 (c : Dev nD) (a : Ref sig .tc) (h : a ∈ argRefs) : V1 m ρ c a = m ((c : Thread nD τ).loc a) := W1_args m ρ c a h

theorem arg2 (c : Dev nD) (a : Ref sig .tc) (h : a ∈ argRefs) : V2 m ρ c a = m ((c : Thread nD τ).loc a) := W2_args m ρ c a h

theorem arg3 (c : Dev nD) (a : Ref sig .tc) (h : a ∈ argRefs) : V3 m ρ c a = m ((c : Thread nD τ).loc a) := W3_args m ρ c a h

theorem at_main_v0_0 (c : Dev nD) (i : S2x352x1024.Idx) (h : (i 0).val = 1) :
    V1 m ρ c main_v0_0 i = Adam2.Lay (R := 352) (N := 1024) (m ((c.tc : Thread nD τ).loc main_arg0)) (m ((c.tc : Thread nD τ).loc main_arg1)) i := by
  refine (congrFun ((W1_arr m ρ c 5).trans (v05 (V0 m ρ) c)) i).trans ((if_pos h).trans ?_)
  rfl

theorem at_main_v1_0 (c : Dev nD) : V2 m ρ c main_v1_0 = V1 m ρ c main_v0_0 := by
  show StableHlo.after hostOps1 (W1 m ρ c) (Proc.devRef .tc main_v1_0) = _
  unfold_abbrev_sides
  after_results
  try rfl

theorem at_main_v3_0 (c : Dev nD) : V3 m ρ c main_v1_0 = Adam2.G (R := 352) (N := 1024) (m ((c.tc : Thread nD τ).loc main_arg0)) (m ((c.tc : Thread nD τ).loc main_arg1)) (m ((c.tc : Thread nD τ).loc main_arg2)) (m ((c.tc : Thread nD τ).loc main_arg3)) := by
  funext i
  refine (congrFun ((W3_arr m ρ c 5).trans (v15 (V2 m ρ) c)) i).trans ?_
  rw [arg2 m ρ c main_arg2 (by decide), arg2 m ρ c main_arg3 (by decide), at_main_v1_0 m ρ c]
  by_cases h : (i 0).val = 0
  · rw [if_pos h]
    simp only [Adam2.G, Adam2.G, if_pos h]
  · have h1 : (i 0).val = 1 := by
      have hi : (i 0).val < 2 := (i 0).isLt
      omega
    rw [if_neg h, at_main_v0_0 m ρ c i h1]
    simp only [Adam2.G, Adam2.G, if_neg h]

theorem at_main_v0_1 (c : Dev nD) (i : S2x352x1024.Idx) (h : (i 0).val = 1) :
    V1 m ρ c main_v0_1 i = step (Adam2.Lay (R := 352) (N := 1024) (m ((c.tc : Thread nD τ).loc main_arg0)) (m ((c.tc : Thread nD τ).loc main_arg1)) i) ((m ((c.tc : Thread nD τ).loc main_arg4)) i) ((m ((c.tc : Thread nD τ).loc main_arg5)) i) ((m ((c.tc : Thread nD τ).loc main_arg6)) i) := by
  refine (congrFun ((W1_arr m ρ c 6).trans (v06 (V0 m ρ) c)) i).trans ((if_pos h).trans ?_)
  rfl

theorem at_main_v1_1 (c : Dev nD) : V2 m ρ c main_v1_1 = V1 m ρ c main_v0_1 := by
  show StableHlo.after hostOps1 (W1 m ρ c) (Proc.devRef .tc main_v1_1) = _
  unfold_abbrev_sides
  after_results
  try rfl

theorem at_main_v3_1 (c : Dev nD) : V3 m ρ c main_v1_1 = Adam2.D (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  refine (congrFun ((W3_arr m ρ c 6).trans (v16 (V2 m ρ) c)) i).trans ?_
  rw [arg2 m ρ c main_arg2 (by decide), arg2 m ρ c main_arg3 (by decide), arg2 m ρ c main_arg4 (by decide), arg2 m ρ c main_arg5 (by decide), arg2 m ρ c main_arg6 (by decide), at_main_v1_1 m ρ c]
  by_cases h : (i 0).val = 0
  · rw [if_pos h]
    simp only [Adam2.D, Adam2.G, if_pos h]
  · have h1 : (i 0).val = 1 := by
      have hi : (i 0).val < 2 := (i 0).isLt
      omega
    rw [if_neg h, at_main_v0_1 m ρ c i h1]
    simp only [Adam2.D, Adam2.G, if_neg h]

theorem at_main_v0_2 (c : Dev nD) (i : S2x352x1024.Idx) (h : (i 0).val = 1) :
    V1 m ρ c main_v0_2 i = moment (Adam2.Lay (R := 352) (N := 1024) (m ((c.tc : Thread nD τ).loc main_arg0)) (m ((c.tc : Thread nD τ).loc main_arg1)) i) ((m ((c.tc : Thread nD τ).loc main_arg5)) i) := by
  refine (congrFun ((W1_arr m ρ c 7).trans (v07 (V0 m ρ) c)) i).trans ((if_pos h).trans ?_)
  rfl

theorem at_main_v1_2 (c : Dev nD) : V2 m ρ c main_v1_2 = V1 m ρ c main_v0_2 := by
  show StableHlo.after hostOps1 (W1 m ρ c) (Proc.devRef .tc main_v1_2) = _
  unfold_abbrev_sides
  after_results
  try rfl

theorem at_main_v3_2 (c : Dev nD) : V3 m ρ c main_v1_2 = Adam2.NM (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  funext i
  refine (congrFun ((W3_arr m ρ c 7).trans (v17 (V2 m ρ) c)) i).trans ?_
  rw [arg2 m ρ c main_arg2 (by decide), arg2 m ρ c main_arg3 (by decide), arg2 m ρ c main_arg5 (by decide), at_main_v1_2 m ρ c]
  by_cases h : (i 0).val = 0
  · rw [if_pos h]
    simp only [Adam2.NM, Adam2.G, if_pos h]
  · have h1 : (i 0).val = 1 := by
      have hi : (i 0).val < 2 := (i 0).isLt
      omega
    rw [if_neg h, at_main_v0_2 m ρ c i h1]
    simp only [Adam2.NM, Adam2.G, if_neg h]

theorem at_main_v0_3 (c : Dev nD) (i : S2x352x1024.Idx) (h : (i 0).val = 1) :
    V1 m ρ c main_v0_3 i = moment2 (Adam2.Lay (R := 352) (N := 1024) (m ((c.tc : Thread nD τ).loc main_arg0)) (m ((c.tc : Thread nD τ).loc main_arg1)) i) ((m ((c.tc : Thread nD τ).loc main_arg6)) i) := by
  refine (congrFun ((W1_arr m ρ c 8).trans (v08 (V0 m ρ) c)) i).trans ((if_pos h).trans ?_)
  rfl

theorem at_main_v1_3 (c : Dev nD) : V2 m ρ c main_v1_3 = V1 m ρ c main_v0_3 := by
  show StableHlo.after hostOps1 (W1 m ρ c) (Proc.devRef .tc main_v1_3) = _
  unfold_abbrev_sides
  after_results
  try rfl

theorem at_main_v3_3 (c : Dev nD) : V3 m ρ c main_v1_3 = Adam2.NV (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := by
  funext i
  refine (congrFun ((W3_arr m ρ c 8).trans (v18 (V2 m ρ) c)) i).trans ?_
  rw [arg2 m ρ c main_arg2 (by decide), arg2 m ρ c main_arg3 (by decide), arg2 m ρ c main_arg6 (by decide), at_main_v1_3 m ρ c]
  by_cases h : (i 0).val = 0
  · rw [if_pos h]
    simp only [Adam2.NV, Adam2.G, if_pos h]
  · have h1 : (i 0).val = 1 := by
      have hi : (i 0).val < 2 := (i 0).isLt
      omega
    rw [if_neg h, at_main_v0_3 m ρ c i h1]
    simp only [Adam2.NV, Adam2.G, if_neg h]

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.mem ((c.tc : Thread nD τ).loc main_v1_0) = Adam2.G (R := 352) (N := 1024) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_1) = Adam2.D (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v1_2) = Adam2.NM (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v1_3) = Adam2.NV (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))
      ∧ r.2.sem = fun _ => 0) := by
  refine (θ_run defs _ _).mono (fun r h => ⟨fun c => ?_, h.2⟩) (run_all m ρ)
  have g : ∀ b : Ref sig .tc, ¬(Proc.devRef (τ := τ) .tc b).isScoped → r.2.mem ((c.tc : Thread nD τ).loc b) = V3 m ρ c b :=
    fun b hb => h.1 c _ (mem_uc b hb)
  exact ⟨⟨(g main_arg0 (by decide)).trans (arg3 m ρ c main_arg0 (by decide)), (g main_arg1 (by decide)).trans (arg3 m ρ c main_arg1 (by decide)), (g main_arg2 (by decide)).trans (arg3 m ρ c main_arg2 (by decide)), (g main_arg3 (by decide)).trans (arg3 m ρ c main_arg3 (by decide)), (g main_arg4 (by decide)).trans (arg3 m ρ c main_arg4 (by decide)), (g main_arg5 (by decide)).trans (arg3 m ρ c main_arg5 (by decide)), (g main_arg6 (by decide)).trans (arg3 m ρ c main_arg6 (by decide))⟩,
    (g main_v1_0 (by decide)).trans (at_main_v3_0 m ρ c),
    (g main_v1_1 (by decide)).trans (at_main_v3_1 m ρ c),
    (g main_v1_2 (by decide)).trans (at_main_v3_2 m ρ c),
    (g main_v1_3 (by decide)).trans (at_main_v3_3 m ρ c)⟩

end Cert.AdFfnOutIdeal.Val

end
-- ==== Proof.AdFfnOutRef.lean ====
/- The reference's results are the mathematics. -/
module

public import proofs.«01_k».proof.Proof.AdSpec
public import proofs.«01_k».proof.Proof.Gen.AdFfnOutRefIdeal.Read

@[expose] public section

set_option maxRecDepth 16384

noncomputable section

namespace Cert.AdFfnOutRefIdeal.Val

open Cert.AdFfnOutRefIdeal Cert.AdFfnOutRefIdeal.Gen Cert.AdFfnOutRefIdeal.Read Cert.Spec Idealize.ShloMosaic Idealize.ShloMosaic.TcCoe Idealize.SL.Sem

variable (x0 x2 : Ten 7 352 1024) (x1 x3 : (⟨2, ![352, 1024]⟩ : Shape).Idx → EReal) (x4 x5 x6 : Ten 2 352 1024)

theorem r_L0 (y : S1x352x1024.Idx) : val_main_v4 (F := Ideal) x2 x3 y = sum7 (x3 (ix2 (y 1) (y 2))) fun k => x2 (ix3 k (y 1) (y 2)) := by
  unfold val_main_v4 val_main_v1 val_main_v0
  pointwise [val_main_cst]
  exact sum7_eq _ _

theorem r_L1 (y : S1x352x1024.Idx) : val_main_v5 (F := Ideal) x0 x1 y = sum7 (x1 (ix2 (y 1) (y 2))) fun k => x0 (ix3 k (y 1) (y 2)) := by
  unfold val_main_v5 val_main_v3 val_main_v2
  pointwise [val_main_cst_0]
  exact sum7_eq _ _

theorem r_G : val_main_v6 (F := Ideal) x0 x1 x2 x3 = Adam2.G x0 x1 x2 x3 := by
  unfold val_main_v6 Adam2.G
  funext y
  have hy : (y 0).val < 2 := (y 0).isLt
  by_cases h : (y 0).val = 0
  · rw [if_pos h]
    pointwise []
    exact (dif_pos (show (y 0).val < 1 by omega)).trans (r_L0 x2 x3 _)
  · rw [if_neg h]
    pointwise []
    exact (dif_neg (show ¬(y 0).val < 1 by omega)).trans (r_L1 x0 x1 _)

theorem r_NM : val_main_v11 (F := Ideal) x0 x1 x2 x3 x5 = Adam2.NM x0 x1 x2 x3 x5 := by
  unfold val_main_v11 val_main_v10 val_main_v9 val_main_v8 val_main_v7 Adam2.NM
  rw [r_G]
  generalize Adam2.G x0 x1 x2 x3 = g
  funext y
  pointwise [val_main_cst_1, val_main_cst_2, moment]

theorem r_NV : val_main_v17 (F := Ideal) x0 x1 x2 x3 x6 = Adam2.NV x0 x1 x2 x3 x6 := by
  unfold val_main_v17 val_main_v16 val_main_v15 val_main_v14 val_main_v13 val_main_v12 Adam2.NV
  rw [r_G]
  generalize Adam2.G x0 x1 x2 x3 = g
  funext y
  pointwise [val_main_cst_3, val_main_cst_4, moment2]

theorem r_D : val_main_v30 (F := Ideal) x0 x1 x2 x3 x4 x5 x6 = Adam2.D x0 x1 x2 x3 x4 x5 x6 := by
  unfold val_main_v30 val_main_v29 val_main_v28 val_main_v27 val_main_v26 val_main_v25 val_main_v24 val_main_v23 val_main_v22 val_main_v21 val_main_v20 val_main_v19 val_main_v18 Adam2.D
  rw [r_NM, r_NV]
  unfold Adam2.NM Adam2.NV
  generalize Adam2.G x0 x1 x2 x3 = g
  funext y
  pointwise [val_main_cst_5, val_main_cst_6, val_main_cst_7, val_main_cst_8, val_main_cst_9, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Adam2.G (R := 352) (N := 1024) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = Adam2.D (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v11) = Adam2.NM (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v17) = Adam2.NV (R := 352) (N := 1024) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.AdFfnOutRefIdeal.Value.run m ρ)
  obtain ⟨h0, h1, h2, h3, h4, h5, h6, h7, h8, h9, h10⟩ := h c
  exact ⟨h0.trans ((val_main_v6_eq ..).trans (r_G ..)),
    h1.trans ((val_main_v30_eq ..).trans (r_D ..)),
    h2.trans ((val_main_v11_eq ..).trans (r_NM ..)),
    h3.trans ((val_main_v17_eq ..).trans (r_NV ..)),
    h4, h5, h6, h7, h8, h9, h10⟩

end Cert.AdFfnOutRefIdeal.Val

end
-- ==== Proof.AdPack.lean ====
/- The arrays packed side by side, their parts, and the optimiser's mathematics on a part. -/
module

public import proofs.«01_k».proof.Proof.AdSpec

@[expose] public section

set_option maxRecDepth 16384

noncomputable section

namespace Cert.Spec

open Idealize.ShloMosaic Idealize.ShloMosaic.TcCoe

/-- An array of two axes. -/
abbrev Mat2 (a b : ℕ) : Type := (⟨2, ![a, b]⟩ : Shape).Idx → EReal

section
variable {t : Shape}
/-- The first moment, entry by entry. -/
def newM (g m : t.Idx → EReal) : t.Idx → EReal := fun i => moment (g i) (m i)
/-- The second moment, entry by entry. -/
def newV (g v : t.Idx → EReal) : t.Idx → EReal := fun i => moment2 (g i) (v i)
/-- The step, entry by entry. -/
def upd (g w m v : t.Idx → EReal) : t.Idx → EReal := fun i => step (g i) (w i) (m i) (v i)
end

/-- The eight devices' parts. -/
def sum8 (f : Fin 8 → EReal) : EReal := f 0 + f 1 + f 2 + f 3 + f 4 + f 5 + f 6 + f 7

theorem sum8_eq (f : Fin 8 → EReal) : ∑ k, f k = sum8 f := by
  rw [Fin.sum_univ_eight]; rfl

namespace Small

/-- The packed gradient: the device's own part and the seven others'. -/
def total (got : Ten 7 16 512) (own : Mat2 16 512) : Mat2 16 512 :=
  fun j => sum7 (own j) fun k => got (ix3 k (j 0) (j 1))

/-- The part of `b_conv_w`. -/
def cut0 (X : Mat2 16 512) : (⟨3, ![1, 5, 512]⟩ : Shape).Idx → EReal :=
  shapeCast _ (extractStridedSlice ⟨2, ![5, 512]⟩ ![0, 0] X (by decide)) (by decide)
/-- The part of `b_conv_b`. -/
def cut1 (X : Mat2 16 512) : (⟨2, ![1, 512]⟩ : Shape).Idx → EReal :=
  extractStridedSlice ⟨2, ![1, 512]⟩ ![5, 0] X (by decide)
/-- The part of `b_norm_w`. -/
def cut2 (X : Mat2 16 512) : (⟨2, ![1, 256]⟩ : Shape).Idx → EReal :=
  extractStridedSlice ⟨2, ![1, 256]⟩ ![6, 0] X (by decide)
/-- The part of `ffn_conv_w`. -/
def cut3 (X : Mat2 16 512) : (⟨3, ![2, 3, 352]⟩ : Shape).Idx → EReal :=
  shapeCast _ (extractStridedSlice ⟨2, ![6, 352]⟩ ![7, 0] X (by decide)) (by decide)

theorem cut0_M (g M : Mat2 16 512) : cut0 (newM g M) = newM (cut0 g) (cut0 M) := rfl
theorem cut0_V (g V : Mat2 16 512) : cut0 (newV g V) = newV (cut0 g) (cut0 V) := rfl
theorem cut0_D (g w m v : Mat2 16 512) : cut0 (upd g w m v) = upd (cut0 g) (cut0 w) (cut0 m) (cut0 v) := rfl
theorem cut1_M (g M : Mat2 16 512) : cut1 (newM g M) = newM (cut1 g) (cut1 M) := rfl
theorem cut1_V (g V : Mat2 16 512) : cut1 (newV g V) = newV (cut1 g) (cut1 V) := rfl
theorem cut1_D (g w m v : Mat2 16 512) : cut1 (upd g w m v) = upd (cut1 g) (cut1 w) (cut1 m) (cut1 v) := rfl
theorem cut2_M (g M : Mat2 16 512) : cut2 (newM g M) = newM (cut2 g) (cut2 M) := rfl
theorem cut2_V (g V : Mat2 16 512) : cut2 (newV g V) = newV (cut2 g) (cut2 V) := rfl
theorem cut2_D (g w m v : Mat2 16 512) : cut2 (upd g w m v) = upd (cut2 g) (cut2 w) (cut2 m) (cut2 v) := rfl
theorem cut3_M (g M : Mat2 16 512) : cut3 (newM g M) = newM (cut3 g) (cut3 M) := rfl
theorem cut3_V (g V : Mat2 16 512) : cut3 (newV g V) = newV (cut3 g) (cut3 V) := rfl
theorem cut3_D (g w m v : Mat2 16 512) : cut3 (upd g w m v) = upd (cut3 g) (cut3 w) (cut3 m) (cut3 v) := rfl

end Small

namespace Rep

/-- The packed gradient: the eight devices' parts. -/
def total (got : Ten 8 16 1024) : Mat2 16 1024 := fun j => sum8 fun k => got (ix3 k (j 0) (j 1))

/-- The part of `norm1_w`. -/
def cut0 (X : Mat2 16 1024) : (⟨2, ![2, 1024]⟩ : Shape).Idx → EReal :=
  shapeCast _ (extractStridedSlice ⟨1, ![2048]⟩ ![0] (shapeCast ⟨1, ![16384]⟩ X (by decide)) (by decide)) (by decide)
/-- The part of `norm2_w`. -/
def cut1 (X : Mat2 16 1024) : (⟨2, ![2, 1024]⟩ : Shape).Idx → EReal :=
  shapeCast _ (extractStridedSlice ⟨1, ![2048]⟩ ![2048] (shapeCast ⟨1, ![16384]⟩ X (by decide)) (by decide)) (by decide)
/-- The part of `a_lb_logits`. -/
def cut2 (X : Mat2 16 1024) : (⟨2, ![3, 1024]⟩ : Shape).Idx → EReal :=
  shapeCast _ (extractStridedSlice ⟨1, ![3072]⟩ ![4096] (shapeCast ⟨1, ![16384]⟩ X (by decide)) (by decide)) (by decide)
/-- The part of `a_norm_w`. -/
def cut3 (X : Mat2 16 1024) : (⟨2, ![1, 128]⟩ : Shape).Idx → EReal :=
  shapeCast _ (extractStridedSlice ⟨1, ![128]⟩ ![7168] (shapeCast ⟨1, ![16384]⟩ X (by decide)) (by decide)) (by decide)
/-- The part of `b_dt_bias`. -/
def cut4 (X : Mat2 16 1024) : (⟨3, ![1, 2, 32]⟩ : Shape).Idx → EReal :=
  shapeCast _ (extractStridedSlice ⟨1, ![64]⟩ ![7296] (shapeCast ⟨1, ![16384]⟩ X (by decide)) (by decide)) (by decide)
/-- The part of `b_a_log`. -/
def cut5 (X : Mat2 16 1024) : (⟨3, ![1, 2, 32]⟩ : Shape).Idx → EReal :=
  shapeCast _ (extractStridedSlice ⟨1, ![64]⟩ ![7360] (shapeCast ⟨1, ![16384]⟩ X (by decide)) (by decide)) (by decide)
/-- The part of `b_d_skip`. -/
def cut6 (X : Mat2 16 1024) : (⟨2, ![1, 32]⟩ : Shape).Idx → EReal :=
  shapeCast _ (extractStridedSlice ⟨1, ![32]⟩ ![7424] (shapeCast ⟨1, ![16384]⟩ X (by decide)) (by decide)) (by decide)
/-- The part of `ffn_conv_b`. -/
def cut7 (X : Mat2 16 1024) : (⟨2, ![2, 2816]⟩ : Shape).Idx → EReal :=
  shapeCast _ (extractStridedSlice ⟨1, ![5632]⟩ ![7456] (shapeCast ⟨1, ![16384]⟩ X (by decide)) (by decide)) (by decide)
/-- The part of `final_norm_w`. -/
def cut8 (X : Mat2 16 1024) : (⟨1, ![1024]⟩ : Shape).Idx → EReal :=
  extractStridedSlice ⟨1, ![1024]⟩ ![13088] (shapeCast ⟨1, ![16384]⟩ X (by decide)) (by decide)
/-- The part of `loss`. -/
def cut9 (X : Mat2 16 1024) : (⟨0, ![]⟩ : Shape).Idx → EReal :=
  shapeCast _ (extractStridedSlice ⟨1, ![1]⟩ ![14112] (shapeCast ⟨1, ![16384]⟩ X (by decide)) (by decide)) (by decide)

theorem cut0_M (g M : Mat2 16 1024) : cut0 (newM g M) = newM (cut0 g) (cut0 M) := rfl
theorem cut0_V (g V : Mat2 16 1024) : cut0 (newV g V) = newV (cut0 g) (cut0 V) := rfl
theorem cut0_D (g w m v : Mat2 16 1024) : cut0 (upd g w m v) = upd (cut0 g) (cut0 w) (cut0 m) (cut0 v) := rfl
theorem cut1_M (g M : Mat2 16 1024) : cut1 (newM g M) = newM (cut1 g) (cut1 M) := rfl
theorem cut1_V (g V : Mat2 16 1024) : cut1 (newV g V) = newV (cut1 g) (cut1 V) := rfl
theorem cut1_D (g w m v : Mat2 16 1024) : cut1 (upd g w m v) = upd (cut1 g) (cut1 w) (cut1 m) (cut1 v) := rfl
theorem cut2_M (g M : Mat2 16 1024) : cut2 (newM g M) = newM (cut2 g) (cut2 M) := rfl
theorem cut2_V (g V : Mat2 16 1024) : cut2 (newV g V) = newV (cut2 g) (cut2 V) := rfl
theorem cut2_D (g w m v : Mat2 16 1024) : cut2 (upd g w m v) = upd (cut2 g) (cut2 w) (cut2 m) (cut2 v) := rfl
theorem cut3_M (g M : Mat2 16 1024) : cut3 (newM g M) = newM (cut3 g) (cut3 M) := rfl
theorem cut3_V (g V : Mat2 16 1024) : cut3 (newV g V) = newV (cut3 g) (cut3 V) := rfl
theorem cut3_D (g w m v : Mat2 16 1024) : cut3 (upd g w m v) = upd (cut3 g) (cut3 w) (cut3 m) (cut3 v) := rfl
theorem cut4_M (g M : Mat2 16 1024) : cut4 (newM g M) = newM (cut4 g) (cut4 M) := rfl
theorem cut4_V (g V : Mat2 16 1024) : cut4 (newV g V) = newV (cut4 g) (cut4 V) := rfl
theorem cut4_D (g w m v : Mat2 16 1024) : cut4 (upd g w m v) = upd (cut4 g) (cut4 w) (cut4 m) (cut4 v) := rfl
theorem cut5_M (g M : Mat2 16 1024) : cut5 (newM g M) = newM (cut5 g) (cut5 M) := rfl
theorem cut5_V (g V : Mat2 16 1024) : cut5 (newV g V) = newV (cut5 g) (cut5 V) := rfl
theorem cut5_D (g w m v : Mat2 16 1024) : cut5 (upd g w m v) = upd (cut5 g) (cut5 w) (cut5 m) (cut5 v) := rfl
theorem cut6_M (g M : Mat2 16 1024) : cut6 (newM g M) = newM (cut6 g) (cut6 M) := rfl
theorem cut6_V (g V : Mat2 16 1024) : cut6 (newV g V) = newV (cut6 g) (cut6 V) := rfl
theorem cut6_D (g w m v : Mat2 16 1024) : cut6 (upd g w m v) = upd (cut6 g) (cut6 w) (cut6 m) (cut6 v) := rfl
theorem cut7_M (g M : Mat2 16 1024) : cut7 (newM g M) = newM (cut7 g) (cut7 M) := rfl
theorem cut7_V (g V : Mat2 16 1024) : cut7 (newV g V) = newV (cut7 g) (cut7 V) := rfl
theorem cut7_D (g w m v : Mat2 16 1024) : cut7 (upd g w m v) = upd (cut7 g) (cut7 w) (cut7 m) (cut7 v) := rfl
theorem cut8_M (g M : Mat2 16 1024) : cut8 (newM g M) = newM (cut8 g) (cut8 M) := rfl
theorem cut8_V (g V : Mat2 16 1024) : cut8 (newV g V) = newV (cut8 g) (cut8 V) := rfl
theorem cut8_D (g w m v : Mat2 16 1024) : cut8 (upd g w m v) = upd (cut8 g) (cut8 w) (cut8 m) (cut8 v) := rfl

end Rep

end Cert.Spec

end
-- ==== Proof.AdSmallMat.lean ====
/- What the optimiser's region leaves, from what it finds. -/
module

public import proofs.«01_k».proof.Proof.AdPack
public import proofs.«01_k».proof.Proof.Gen.AdSmallIdeal.Frame

@[expose] public section

set_option maxRecDepth 16384

noncomputable section

namespace Cert.AdSmallIdeal.Val

open Cert.AdSmallIdeal Cert.AdSmallIdeal.Gen Cert.Spec Idealize.ShloMosaic Idealize.ShloMosaic.TcCoe Idealize.SL.Sem
open Idealize.ShloMosaic.Pipeline (Dat)

variable (m : (ℓ : Loc nD τ sig) → Buf (Elt Ideal) ℓ)

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

section
variable (x0 : Vec Ideal S7x16x512 .f32) (x1 x2 x3 x4 : Vec Ideal S16x512 .f32)

theorem kpay : k0_pay5 x0 x1 x2 x3 x4 = Small.total x0 x4 := by
  funext y; pointwise [k0_pay5, k0_pay3, Small.total, sum7]

theorem kpayM : k0_pay6 x0 x1 x2 x3 x4 = newM (Small.total x0 x4) x2 := by
  funext y; pointwise [k0_pay6, k0_pay4, k0_pay3, Small.total, sum7, newM, moment]

theorem out5 : out0_5 x0 x1 x2 x3 x4 = Small.total x0 x4 := by
  funext y; frame_out; rw [kpay]

theorem out6 : out0_6 x0 x1 x2 x3 x4 = upd (Small.total x0 x4) x1 x2 x3 := by
  funext y; frame_out; rw [kpay, kpayM]; generalize Small.total x0 x4 = g
  pointwise [k0_pay2, k0_pay1, newM, upd, step, moment, moment2]
  rw [c1, c2]

theorem out7 : out0_7 x0 x1 x2 x3 x4 = newM (Small.total x0 x4) x2 := by
  funext y; frame_out; rw [kpayM]

theorem out8 : out0_8 x0 x1 x2 x3 x4 = newV (Small.total x0 x4) x3 := by
  funext y; frame_out; rw [kpay]; generalize Small.total x0 x4 = g
  pointwise [k0_pay1, newV, moment2]
end

theorem idx0 : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem emb5 (t : Fin cfg0.N) (y : S16x512.Idx) : (win0_5.blk t).view.emb y = y := by
  blk_ext [idx0 t]

theorem emb6 (t : Fin cfg0.N) (y : S16x512.Idx) : (win0_6.blk t).view.emb y = y := by
  blk_ext [idx0 t]

theorem emb7 (t : Fin cfg0.N) (y : S16x512.Idx) : (win0_7.blk t).view.emb y = y := by
  blk_ext [idx0 t]

theorem emb8 (t : Fin cfg0.N) (y : S16x512.Idx) : (win0_8.blk t).view.emb y = y := by
  blk_ext [idx0 t]

theorem in1 (c : Dev nD) (t : Fin cfg0.N) : iblk m c 1 t = V m c main_v7 := by
  funext y; blk_point [iblk, idx0 t]

theorem in2 (c : Dev nD) (t : Fin cfg0.N) : iblk m c 2 t = V m c main_v15 := by
  funext y; blk_point [iblk, idx0 t]

theorem in3 (c : Dev nD) (t : Fin cfg0.N) : iblk m c 3 t = V m c main_v23 := by
  funext y; blk_point [iblk, idx0 t]

theorem in4 (c : Dev nD) (t : Fin cfg0.N) : iblk m c 4 t = V m c main_arg1 := by
  funext y; blk_point [iblk, idx0 t]

theorem in0 (c : Dev nD) (t : Fin cfg0.N) : iblk m c 0 t = V m c main_arg0 := by
  funext y; blk_point [iblk, idx0 t]

theorem v5 (c : Dev nD) : (dats m 0 c).arrAt 5 cfg0.N = Small.total (V m c main_arg0) (V m c main_arg1) := by
  refine (dats m 0 c).arrAt_eq_of_covers 5 _ (by decide +kernel) fun t _ y => ?_
  blk_simp
  rw [after0_5, out5, emb5, in0, in4]

theorem v6 (c : Dev nD) : (dats m 0 c).arrAt 6 cfg0.N = upd (Small.total (V m c main_arg0) (V m c main_arg1)) (V m c main_v7) (V m c main_v15) (V m c main_v23) := by
  refine (dats m 0 c).arrAt_eq_of_covers 6 _ (by decide +kernel) fun t _ y => ?_
  blk_simp
  rw [after0_6, out6, emb6, in0, in4, in1, in2, in3]

theorem v7 (c : Dev nD) : (dats m 0 c).arrAt 7 cfg0.N = newM (Small.total (V m c main_arg0) (V m c main_arg1)) (V m c main_v15) := by
  refine (dats m 0 c).arrAt_eq_of_covers 7 _ (by decide +kernel) fun t _ y => ?_
  blk_simp
  rw [after0_7, out7, emb7, in0, in4, in2]

theorem v8 (c : Dev nD) : (dats m 0 c).arrAt 8 cfg0.N = newV (Small.total (V m c main_arg0) (V m c main_arg1)) (V m c main_v23) := by
  refine (dats m 0 c).arrAt_eq_of_covers 8 _ (by decide +kernel) fun t _ y => ?_
  blk_simp
  rw [after0_8, out8, emb8, in0, in4, in3]

end Cert.AdSmallIdeal.Val

end
-- ==== Proof.AdSmallPack.lean ====
/- The weights and the moments side by side, as the host places them, and their parts. -/
module

public import proofs.«01_k».proof.Proof.AdSmallMat

@[expose] public section

set_option maxRecDepth 16384

noncomputable section

namespace Cert.AdSmallIdeal.Val

open Cert.AdSmallIdeal Cert.AdSmallIdeal.Gen Cert.Spec Idealize.ShloMosaic Idealize.ShloMosaic.TcCoe Idealize.SL.Sem

variable (m : (ℓ : Loc nD τ sig) → Buf (Elt Ideal) ℓ)

/-- The arrays' rows one below the other, each filled up with zeros to the width, then rows of zeros. -/
def packed (a0 : Vec Ideal S1x5x512 .f32) (a1 : Vec Ideal S1x512 .f32) (a2 : Vec Ideal S1x256 .f32) (a3 : Vec Ideal S2x3x352 .f32) : Vec Ideal S16x512 .f32 :=
  pad S16x512 ![0, 0] ![3, 0] ![0, 0]
    (concatenate S13x512 0 [⟨S5x512, pad S5x512 ![0, 0] ![0, 0] ![0, 0] (shapeCast S5x512 a0 shapeCasts_S1x5x512_S5x512) (sitofp (F := Ideal) .f32 (constantI S_ 32 0#32)) pads_S5x512_S5x512_000_000 h_S_⟩,
      ⟨S1x512, pad S1x512 ![0, 0] ![0, 0] ![0, 0] a1 (sitofp (F := Ideal) .f32 (constantI S_ 32 0#32)) pads_S1x512_S1x512_000_000 h_S_⟩,
      ⟨S1x512, pad S1x512 ![0, 0] ![0, 256] ![0, 0] a2 (sitofp (F := Ideal) .f32 (constantI S_ 32 0#32)) pads_S1x256_S1x512_000_02560 h_S_⟩,
      ⟨S6x512, pad S6x512 ![0, 0] ![0, 160] ![0, 0] (shapeCast S6x352 a3 shapeCasts_S2x3x352_S6x352) (sitofp (F := Ideal) .f32 (constantI S_ 32 0#32)) pads_S6x352_S6x512_000_01600 h_S_⟩]
      concatenates_S5x512_S1x512_S1x512_S6x512_S13x512_d0)
    (sitofp (F := Ideal) .f32 (constantI S_ 32 0#32)) pads_S13x512_S16x512_030_000 h_S_

/-! ## What the region finds -/

set_option maxHeartbeats 4000000 in
theorem pkW (c : Dev nD) : V m c main_v7 = packed (m ((c : Thread nD τ).loc main_arg2)) (m ((c : Thread nD τ).loc main_arg5)) (m ((c : Thread nD τ).loc main_arg8)) (m ((c : Thread nD τ).loc main_arg11)) := by
  entry_read
  rfl

set_option maxHeartbeats 4000000 in
theorem pkM (c : Dev nD) : V m c main_v15 = packed (m ((c : Thread nD τ).loc main_arg3)) (m ((c : Thread nD τ).loc main_arg6)) (m ((c : Thread nD τ).loc main_arg9)) (m ((c : Thread nD τ).loc main_arg12)) := by
  entry_read
  rfl

set_option maxHeartbeats 4000000 in
theorem pkV (c : Dev nD) : V m c main_v23 = packed (m ((c : Thread nD τ).loc main_arg4)) (m ((c : Thread nD τ).loc main_arg7)) (m ((c : Thread nD τ).loc main_arg10)) (m ((c : Thread nD τ).loc main_arg13)) := by
  entry_read
  rfl

theorem ix2_eq {p q : ℕ} (y : (⟨2, ![p, q]⟩ : Shape).Idx) (k : Fin p) (l : Fin q) (h : k.val = (y 0).val) (h' : l.val = (y 1).val) :
    ix2 k l = y := by
  funext a
  match a with
  | ⟨0, _⟩ => exact Fin.ext h
  | ⟨1, _⟩ => exact Fin.ext h'

/-! ## The parts -/

section
variable (a0 : Vec Ideal S1x5x512 .f32) (a1 : Vec Ideal S1x512 .f32) (a2 : Vec Ideal S1x256 .f32) (a3 : Vec Ideal S2x3x352 .f32)

theorem sl0 : extractStridedSlice S5x512 ![0, 0] (packed a0 a1 a2 a3) (by decide) = shapeCast S5x512 a0 shapeCasts_S1x5x512_S5x512 := by
  unfold packed
  generalize shapeCast S5x512 a0 (by decide) = b0
  generalize shapeCast S6x352 a3 (by decide) = b3
  funext y
  have hy : (y 0).val < 5 := (y 0).isLt
  have hz : (y 1).val < 512 := (y 1).isLt
  pointwise
  (try split_ifs) <;> first | (exfalso; omega) | rfl | (refine congrArg b0 (ix2_eq _ _ _ ?_ ?_) <;> simp only [Fin.val_zero, Fin.isValue] <;> omega)

theorem cp0 : Small.cut0 (packed a0 a1 a2 a3) = a0 := by
  unfold Small.cut0
  exact (congrArg (fun z => shapeCast S1x5x512 z (by decide)) (sl0 a0 a1 a2 a3)).trans (shapeCast_shapeCast a0 _ _)

theorem sl1 : extractStridedSlice S1x512 ![5, 0] (packed a0 a1 a2 a3) (by decide) = a1 := by
  unfold packed
  generalize shapeCast S5x512 a0 (by decide) = b0
  generalize shapeCast S6x352 a3 (by decide) = b3
  funext y
  have hy : (y 0).val < 1 := (y 0).isLt
  have hz : (y 1).val < 512 := (y 1).isLt
  pointwise
  (try split_ifs) <;> first | (exfalso; omega) | rfl | (refine congrArg a1 (ix2_eq _ _ _ ?_ ?_) <;> simp only [Fin.val_zero, Fin.isValue] <;> omega)

theorem cp1 : Small.cut1 (packed a0 a1 a2 a3) = a1 := by
  unfold Small.cut1
  exact sl1 a0 a1 a2 a3

theorem sl2 : extractStridedSlice S1x256 ![6, 0] (packed a0 a1 a2 a3) (by decide) = a2 := by
  unfold packed
  generalize shapeCast S5x512 a0 (by decide) = b0
  generalize shapeCast S6x352 a3 (by decide) = b3
  funext y
  have hy : (y 0).val < 1 := (y 0).isLt
  have hz : (y 1).val < 256 := (y 1).isLt
  pointwise
  (try split_ifs) <;> first | (exfalso; omega) | rfl | (refine congrArg a2 (ix2_eq _ _ _ ?_ ?_) <;> simp only [Fin.val_zero, Fin.isValue] <;> omega)

theorem cp2 : Small.cut2 (packed a0 a1 a2 a3) = a2 := by
  unfold Small.cut2
  exact sl2 a0 a1 a2 a3

theorem sl3 : extractStridedSlice S6x352 ![7, 0] (packed a0 a1 a2 a3) (by decide) = shapeCast S6x352 a3 shapeCasts_S2x3x352_S6x352 := by
  unfold packed
  generalize shapeCast S5x512 a0 (by decide) = b0
  generalize shapeCast S6x352 a3 (by decide) = b3
  funext y
  have hy : (y 0).val < 6 := (y 0).isLt
  have hz : (y 1).val < 352 := (y 1).isLt
  pointwise
  (try split_ifs) <;> first | (exfalso; omega) | rfl | (refine congrArg b3 (ix2_eq _ _ _ ?_ ?_) <;> simp only [Fin.val_zero, Fin.isValue] <;> omega)

theorem cp3 : Small.cut3 (packed a0 a1 a2 a3) = a3 := by
  unfold Small.cut3
  exact (congrArg (fun z => shapeCast S2x3x352 z (by decide)) (sl3 a0 a1 a2 a3)).trans (shapeCast_shapeCast a3 _ _)
end

end Cert.AdSmallIdeal.Val

end
-- ==== Proof.AdSmallRun.lean ====
/- The optimiser's region runs, and what it leaves. -/
module

public import proofs.«01_k».proof.Proof.AdSmallPack

@[expose] public section

set_option maxRecDepth 16384

noncomputable section

namespace Cert.AdSmallIdeal.Val

open Cert.AdSmallIdeal Cert.AdSmallIdeal.Gen Cert.Spec Idealize.ShloMosaic Idealize.ShloMosaic.TcCoe Idealize.SL.Sem

variable (m : (ℓ : Loc nD τ sig) → Buf (Elt Ideal) ℓ) (ρ : Dev nD → PrngReg)

/-! ## The parts are cut out of what the region leaves -/

theorem tail_main_v26 (W : Valuation τ sig (Elt Ideal)) : StableHlo.after hostOps1 W (Proc.devRef .tc main_v26) = Small.cut0 (W (Proc.devRef .tc main_v24_0)) := by
  after_results
  rfl

theorem tail_main_v32 (W : Valuation τ sig (Elt Ideal)) : StableHlo.after hostOps1 W (Proc.devRef .tc main_v32) = Small.cut0 (W (Proc.devRef .tc main_v24_1)) := by
  after_results
  rfl

theorem tail_main_v38 (W : Valuation τ sig (Elt Ideal)) : StableHlo.after hostOps1 W (Proc.devRef .tc main_v38) = Small.cut0 (W (Proc.devRef .tc main_v24_2)) := by
  after_results
  rfl

theorem tail_main_v44 (W : Valuation τ sig (Elt Ideal)) : StableHlo.after hostOps1 W (Proc.devRef .tc main_v44) = Small.cut0 (W (Proc.devRef .tc main_v24_3)) := by
  after_results
  rfl

theorem tail_main_v27 (W : Valuation τ sig (Elt Ideal)) : StableHlo.after hostOps1 W (Proc.devRef .tc main_v27) = Small.cut1 (W (Proc.devRef .tc main_v24_0)) := by
  after_results
  rfl

theorem tail_main_v33 (W : Valuation τ sig (Elt Ideal)) : StableHlo.after hostOps1 W (Proc.devRef .tc main_v33) = Small.cut1 (W (Proc.devRef .tc main_v24_1)) := by
  after_results
  rfl

theorem tail_main_v39 (W : Valuation τ sig (Elt Ideal)) : StableHlo.after hostOps1 W (Proc.devRef .tc main_v39) = Small.cut1 (W (Proc.devRef .tc main_v24_2)) := by
  after_results
  rfl

theorem tail_main_v45 (W : Valuation τ sig (Elt Ideal)) : StableHlo.after hostOps1 W (Proc.devRef .tc main_v45) = Small.cut1 (W (Proc.devRef .tc main_v24_3)) := by
  after_results
  rfl

theorem tail_main_v28 (W : Valuation τ sig (Elt Ideal)) : StableHlo.after hostOps1 W (Proc.devRef .tc main_v28) = Small.cut2 (W (Proc.devRef .tc main_v24_0)) := by
  after_results
  rfl

theorem tail_main_v34 (W : Valuation τ sig (Elt Ideal)) : StableHlo.after hostOps1 W (Proc.devRef .tc main_v34) = Small.cut2 (W (Proc.devRef .tc main_v24_1)) := by
  after_results
  rfl

theorem tail_main_v40 (W : Valuation τ sig (Elt Ideal)) : StableHlo.after hostOps1 W (Proc.devRef .tc main_v40) = Small.cut2 (W (Proc.devRef .tc main_v24_2)) := by
  after_results
  rfl

theorem tail_main_v46 (W : Valuation τ sig (Elt Ideal)) : StableHlo.after hostOps1 W (Proc.devRef .tc main_v46) = Small.cut2 (W (Proc.devRef .tc main_v24_3)) := by
  after_results
  rfl

theorem tail_main_v30 (W : Valuation τ sig (Elt Ideal)) : StableHlo.after hostOps1 W (Proc.devRef .tc main_v30) = Small.cut3 (W (Proc.devRef .tc main_v24_0)) := by
  after_results
  rfl

theorem tail_main_v36 (W : Valuation τ sig (Elt Ideal)) : StableHlo.after hostOps1 W (Proc.devRef .tc main_v36) = Small.cut3 (W (Proc.devRef .tc main_v24_1)) := by
  after_results
  rfl

theorem tail_main_v42 (W : Valuation τ sig (Elt Ideal)) : StableHlo.after hostOps1 W (Proc.devRef .tc main_v42) = Small.cut3 (W (Proc.devRef .tc main_v24_2)) := by
  after_results
  rfl

theorem tail_main_v48 (W : Valuation τ sig (Elt Ideal)) : StableHlo.after hostOps1 W (Proc.devRef .tc main_v48) = Small.cut3 (W (Proc.devRef .tc main_v24_3)) := by
  after_results
  rfl

/-! ## What the region leaves -/

theorem arr (c : Dev nD) (w : Fin cfg0.W) : Pipeline.withArrays (cfgs 0).spec c (V0 m c) (fun w => (dats m 0 c).arrAt w (cfgs 0).N) (Proc.devRef .tc (Pipeline.arrRef (cfgs 0).spec w))
    = (dats m 0 c).arrAt w cfg0.N := Pipeline.withArrays_arr _ launch0.win.arr_inj c _ _ w

theorem at_main_v26 (c : Dev nD) : Pipeline.afterTail₀ cfgs (dats m) 0 (V0 m) [hostOps1] c main_v26
    = Small.cut0 (Small.total (m ((c.tc : Thread nD τ).loc main_arg0)) (m ((c.tc : Thread nD τ).loc main_arg1))) := by
  refine (tail_main_v26 _).trans ((congrArg Small.cut0 ((arr m c 5).trans (v5 m c))).trans ?_)
  rw [V_main_arg0, V_main_arg1]

theorem at_main_v32 (c : Dev nD) : Pipeline.afterTail₀ cfgs (dats m) 0 (V0 m) [hostOps1] c main_v32
    = upd (Small.cut0 (Small.total (m ((c.tc : Thread nD τ).loc main_arg0)) (m ((c.tc : Thread nD τ).loc main_arg1)))) (m ((c.tc : Thread nD τ).loc main_arg2)) (m ((c.tc : Thread nD τ).loc main_arg3)) (m ((c.tc : Thread nD τ).loc main_arg4)) := by
  refine (tail_main_v32 _).trans ((congrArg Small.cut0 ((arr m c 6).trans (v6 m c))).trans ?_)
  rw [Small.cut0_D, V_main_arg0, V_main_arg1, pkW, pkM, pkV, cp0, cp0, cp0]

theorem at_main_v38 (c : Dev nD) : Pipeline.afterTail₀ cfgs (dats m) 0 (V0 m) [hostOps1] c main_v38
    = newM (Small.cut0 (Small.total (m ((c.tc : Thread nD τ).loc main_arg0)) (m ((c.tc : Thread nD τ).loc main_arg1)))) (m ((c.tc : Thread nD τ).loc main_arg3)) := by
  refine (tail_main_v38 _).trans ((congrArg Small.cut0 ((arr m c 7).trans (v7 m c))).trans ?_)
  rw [Small.cut0_M, V_main_arg0, V_main_arg1, pkM, cp0]

theorem at_main_v44 (c : Dev nD) : Pipeline.afterTail₀ cfgs (dats m) 0 (V0 m) [hostOps1] c main_v44
    = newV (Small.cut0 (Small.total (m ((c.tc : Thread nD τ).loc main_arg0)) (m ((c.tc : Thread nD τ).loc main_arg1)))) (m ((c.tc : Thread nD τ).loc main_arg4)) := by
  refine (tail_main_v44 _).trans ((congrArg Small.cut0 ((arr m c 8).trans (v8 m c))).trans ?_)
  rw [Small.cut0_V, V_main_arg0, V_main_arg1, pkV, cp0]

theorem at_main_v27 (c : Dev nD) : Pipeline.afterTail₀ cfgs (dats m) 0 (V0 m) [hostOps1] c main_v27
    = Small.cut1 (Small.total (m ((c.tc : Thread nD τ).loc main_arg0)) (m ((c.tc : Thread nD τ).loc main_arg1))) := by
  refine (tail_main_v27 _).trans ((congrArg Small.cut1 ((arr m c 5).trans (v5 m c))).trans ?_)
  rw [V_main_arg0, V_main_arg1]

theorem at_main_v33 (c : Dev nD) : Pipeline.afterTail₀ cfgs (dats m) 0 (V0 m) [hostOps1] c main_v33
    = upd (Small.cut1 (Small.total (m ((c.tc : Thread nD τ).loc main_arg0)) (m ((c.tc : Thread nD τ).loc main_arg1)))) (m ((c.tc : Thread nD τ).loc main_arg5)) (m ((c.tc : Thread nD τ).loc main_arg6)) (m ((c.tc : Thread nD τ).loc main_arg7)) := by
  refine (tail_main_v33 _).trans ((congrArg Small.cut1 ((arr m c 6).trans (v6 m c))).trans ?_)
  rw [Small.cut1_D, V_main_arg0, V_main_arg1, pkW, pkM, pkV, cp1, cp1, cp1]

theorem at_main_v39 (c : Dev nD) : Pipeline.afterTail₀ cfgs (dats m) 0 (V0 m) [hostOps1] c main_v39
    = newM (Small.cut1 (Small.total (m ((c.tc : Thread nD τ).loc main_arg0)) (m ((c.tc : Thread nD τ).loc main_arg1)))) (m ((c.tc : Thread nD τ).loc main_arg6)) := by
  refine (tail_main_v39 _).trans ((congrArg Small.cut1 ((arr m c 7).trans (v7 m c))).trans ?_)
  rw [Small.cut1_M, V_main_arg0, V_main_arg1, pkM, cp1]

theorem at_main_v45 (c : Dev nD) : Pipeline.afterTail₀ cfgs (dats m) 0 (V0 m) [hostOps1] c main_v45
    = newV (Small.cut1 (Small.total (m ((c.tc : Thread nD τ).loc main_arg0)) (m ((c.tc : Thread nD τ).loc main_arg1)))) (m ((c.tc : Thread nD τ).loc main_arg7)) := by
  refine (tail_main_v45 _).trans ((congrArg Small.cut1 ((arr m c 8).trans (v8 m c))).trans ?_)
  rw [Small.cut1_V, V_main_arg0, V_main_arg1, pkV, cp1]

theorem at_main_v28 (c : Dev nD) : Pipeline.afterTail₀ cfgs (dats m) 0 (V0 m) [hostOps1] c main_v28
    = Small.cut2 (Small.total (m ((c.tc : Thread nD τ).loc main_arg0)) (m ((c.tc : Thread nD τ).loc main_arg1))) := by
  refine (tail_main_v28 _).trans ((congrArg Small.cut2 ((arr m c 5).trans (v5 m c))).trans ?_)
  rw [V_main_arg0, V_main_arg1]

theorem at_main_v34 (c : Dev nD) : Pipeline.afterTail₀ cfgs (dats m) 0 (V0 m) [hostOps1] c main_v34
    = upd (Small.cut2 (Small.total (m ((c.tc : Thread nD τ).loc main_arg0)) (m ((c.tc : Thread nD τ).loc main_arg1)))) (m ((c.tc : Thread nD τ).loc main_arg8)) (m ((c.tc : Thread nD τ).loc main_arg9)) (m ((c.tc : Thread nD τ).loc main_arg10)) := by
  refine (tail_main_v34 _).trans ((congrArg Small.cut2 ((arr m c 6).trans (v6 m c))).trans ?_)
  rw [Small.cut2_D, V_main_arg0, V_main_arg1, pkW, pkM, pkV, cp2, cp2, cp2]

theorem at_main_v40 (c : Dev nD) : Pipeline.afterTail₀ cfgs (dats m) 0 (V0 m) [hostOps1] c main_v40
    = newM (Small.cut2 (Small.total (m ((c.tc : Thread nD τ).loc main_arg0)) (m ((c.tc : Thread nD τ).loc main_arg1)))) (m ((c.tc : Thread nD τ).loc main_arg9)) := by
  refine (tail_main_v40 _).trans ((congrArg Small.cut2 ((arr m c 7).trans (v7 m c))).trans ?_)
  rw [Small.cut2_M, V_main_arg0, V_main_arg1, pkM, cp2]

theorem at_main_v46 (c : Dev nD) : Pipeline.afterTail₀ cfgs (dats m) 0 (V0 m) [hostOps1] c main_v46
    = newV (Small.cut2 (Small.total (m ((c.tc : Thread nD τ).loc main_arg0)) (m ((c.tc : Thread nD τ).loc main_arg1)))) (m ((c.tc : Thread nD τ).loc main_arg10)) := by
  refine (tail_main_v46 _).trans ((congrArg Small.cut2 ((arr m c 8).trans (v8 m c))).trans ?_)
  rw [Small.cut2_V, V_main_arg0, V_main_arg1, pkV, cp2]

theorem at_main_v30 (c : Dev nD) : Pipeline.afterTail₀ cfgs (dats m) 0 (V0 m) [hostOps1] c main_v30
    = Small.cut3 (Small.total (m ((c.tc : Thread nD τ).loc main_arg0)) (m ((c.tc : Thread nD τ).loc main_arg1))) := by
  refine (tail_main_v30 _).trans ((congrArg Small.cut3 ((arr m c 5).trans (v5 m c))).trans ?_)
  rw [V_main_arg0, V_main_arg1]

theorem at_main_v36 (c : Dev nD) : Pipeline.afterTail₀ cfgs (dats m) 0 (V0 m) [hostOps1] c main_v36
    = upd (Small.cut3 (Small.total (m ((c.tc : Thread nD τ).loc main_arg0)) (m ((c.tc : Thread nD τ).loc main_arg1)))) (m ((c.tc : Thread nD τ).loc main_arg11)) (m ((c.tc : Thread nD τ).loc main_arg12)) (m ((c.tc : Thread nD τ).loc main_arg13)) := by
  refine (tail_main_v36 _).trans ((congrArg Small.cut3 ((arr m c 6).trans (v6 m c))).trans ?_)
  rw [Small.cut3_D, V_main_arg0, V_main_arg1, pkW, pkM, pkV, cp3, cp3, cp3]

theorem at_main_v42 (c : Dev nD) : Pipeline.afterTail₀ cfgs (dats m) 0 (V0 m) [hostOps1] c main_v42
    = newM (Small.cut3 (Small.total (m ((c.tc : Thread nD τ).loc main_arg0)) (m ((c.tc : Thread nD τ).loc main_arg1)))) (m ((c.tc : Thread nD τ).loc main_arg12)) := by
  refine (tail_main_v42 _).trans ((congrArg Small.cut3 ((arr m c 7).trans (v7 m c))).trans ?_)
  rw [Small.cut3_M, V_main_arg0, V_main_arg1, pkM, cp3]

theorem at_main_v48 (c : Dev nD) : Pipeline.afterTail₀ cfgs (dats m) 0 (V0 m) [hostOps1] c main_v48
    = newV (Small.cut3 (Small.total (m ((c.tc : Thread nD τ).loc main_arg0)) (m ((c.tc : Thread nD τ).loc main_arg1)))) (m ((c.tc : Thread nD τ).loc main_arg13)) := by
  refine (tail_main_v48 _).trans ((congrArg Small.cut3 ((arr m c 8).trans (v8 m c))).trans ?_)
  rw [Small.cut3_V, V_main_arg0, V_main_arg1, pkV, cp3]

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13))
      ∧ r.2.mem ((c.tc : Thread nD τ).loc main_v26) = Small.cut0 (Small.total (m ((c.tc : Thread nD τ).loc main_arg0)) (m ((c.tc : Thread nD τ).loc main_arg1)))
      ∧ r.2.mem ((c.tc : Thread nD τ).loc main_v32) = upd (Small.cut0 (Small.total (m ((c.tc : Thread nD τ).loc main_arg0)) (m ((c.tc : Thread nD τ).loc main_arg1)))) (m ((c.tc : Thread nD τ).loc main_arg2)) (m ((c.tc : Thread nD τ).loc main_arg3)) (m ((c.tc : Thread nD τ).loc main_arg4))
      ∧ r.2.mem ((c.tc : Thread nD τ).loc main_v38) = newM (Small.cut0 (Small.total (m ((c.tc : Thread nD τ).loc main_arg0)) (m ((c.tc : Thread nD τ).loc main_arg1)))) (m ((c.tc : Thread nD τ).loc main_arg3))
      ∧ r.2.mem ((c.tc : Thread nD τ).loc main_v44) = newV (Small.cut0 (Small.total (m ((c.tc : Thread nD τ).loc main_arg0)) (m ((c.tc : Thread nD τ).loc main_arg1)))) (m ((c.tc : Thread nD τ).loc main_arg4))
      ∧ r.2.mem ((c.tc : Thread nD τ).loc main_v27) = Small.cut1 (Small.total (m ((c.tc : Thread nD τ).loc main_arg0)) (m ((c.tc : Thread nD τ).loc main_arg1)))
      ∧ r.2.mem ((c.tc : Thread nD τ).loc main_v33) = upd (Small.cut1 (Small.total (m ((c.tc : Thread nD τ).loc main_arg0)) (m ((c.tc : Thread nD τ).loc main_arg1)))) (m ((c.tc : Thread nD τ).loc main_arg5)) (m ((c.tc : Thread nD τ).loc main_arg6)) (m ((c.tc : Thread nD τ).loc main_arg7))
      ∧ r.2.mem ((c.tc : Thread nD τ).loc main_v39) = newM (Small.cut1 (Small.total (m ((c.tc : Thread nD τ).loc main_arg0)) (m ((c.tc : Thread nD τ).loc main_arg1)))) (m ((c.tc : Thread nD τ).loc main_arg6))
      ∧ r.2.mem ((c.tc : Thread nD τ).loc main_v45) = newV (Small.cut1 (Small.total (m ((c.tc : Thread nD τ).loc main_arg0)) (m ((c.tc : Thread nD τ).loc main_arg1)))) (m ((c.tc : Thread nD τ).loc main_arg7))
      ∧ r.2.mem ((c.tc : Thread nD τ).loc main_v28) = Small.cut2 (Small.total (m ((c.tc : Thread nD τ).loc main_arg0)) (m ((c.tc : Thread nD τ).loc main_arg1)))
      ∧ r.2.mem ((c.tc : Thread nD τ).loc main_v34) = upd (Small.cut2 (Small.total (m ((c.tc : Thread nD τ).loc main_arg0)) (m ((c.tc : Thread nD τ).loc main_arg1)))) (m ((c.tc : Thread nD τ).loc main_arg8)) (m ((c.tc : Thread nD τ).loc main_arg9)) (m ((c.tc : Thread nD τ).loc main_arg10))
      ∧ r.2.mem ((c.tc : Thread nD τ).loc main_v40) = newM (Small.cut2 (Small.total (m ((c.tc : Thread nD τ).loc main_arg0)) (m ((c.tc : Thread nD τ).loc main_arg1)))) (m ((c.tc : Thread nD τ).loc main_arg9))
      ∧ r.2.mem ((c.tc : Thread nD τ).loc main_v46) = newV (Small.cut2 (Small.total (m ((c.tc : Thread nD τ).loc main_arg0)) (m ((c.tc : Thread nD τ).loc main_arg1)))) (m ((c.tc : Thread nD τ).loc main_arg10))
      ∧ r.2.mem ((c.tc : Thread nD τ).loc main_v30) = Small.cut3 (Small.total (m ((c.tc : Thread nD τ).loc main_arg0)) (m ((c.tc : Thread nD τ).loc main_arg1)))
      ∧ r.2.mem ((c.tc : Thread nD τ).loc main_v36) = upd (Small.cut3 (Small.total (m ((c.tc : Thread nD τ).loc main_arg0)) (m ((c.tc : Thread nD τ).loc main_arg1)))) (m ((c.tc : Thread nD τ).loc main_arg11)) (m ((c.tc : Thread nD τ).loc main_arg12)) (m ((c.tc : Thread nD τ).loc main_arg13))
      ∧ r.2.mem ((c.tc : Thread nD τ).loc main_v42) = newM (Small.cut3 (Small.total (m ((c.tc : Thread nD τ).loc main_arg0)) (m ((c.tc : Thread nD τ).loc main_arg1)))) (m ((c.tc : Thread nD τ).loc main_arg12))
      ∧ r.2.mem ((c.tc : Thread nD τ).loc main_v48) = newV (Small.cut3 (Small.total (m ((c.tc : Thread nD τ).loc main_arg0)) (m ((c.tc : Thread nD τ).loc main_arg1)))) (m ((c.tc : Thread nD τ).loc main_arg13)))
      ∧ r.2.sem = fun _ => 0) := by
  refine (θ_run defs _ _).mono (fun r h => ⟨fun c => ⟨h.1.1 c, ?_, ?_, ?_, ?_, ?_, ?_, ?_, ?_, ?_, ?_, ?_, ?_, ?_, ?_, ?_, ?_⟩, h.2.2⟩) (θ_run_and (frame m ρ) (run_main_quiescent m ρ))
  · exact ((h.2.1 c).2 main_v26 (Pipeline.mem_restRefs_of main_v26 (by decide) (by decide))).trans (at_main_v26 m c)
  · exact ((h.2.1 c).2 main_v32 (Pipeline.mem_restRefs_of main_v32 (by decide) (by decide))).trans (at_main_v32 m c)
  · exact ((h.2.1 c).2 main_v38 (Pipeline.mem_restRefs_of main_v38 (by decide) (by decide))).trans (at_main_v38 m c)
  · exact ((h.2.1 c).2 main_v44 (Pipeline.mem_restRefs_of main_v44 (by decide) (by decide))).trans (at_main_v44 m c)
  · exact ((h.2.1 c).2 main_v27 (Pipeline.mem_restRefs_of main_v27 (by decide) (by decide))).trans (at_main_v27 m c)
  · exact ((h.2.1 c).2 main_v33 (Pipeline.mem_restRefs_of main_v33 (by decide) (by decide))).trans (at_main_v33 m c)
  · exact ((h.2.1 c).2 main_v39 (Pipeline.mem_restRefs_of main_v39 (by decide) (by decide))).trans (at_main_v39 m c)
  · exact ((h.2.1 c).2 main_v45 (Pipeline.mem_restRefs_of main_v45 (by decide) (by decide))).trans (at_main_v45 m c)
  · exact ((h.2.1 c).2 main_v28 (Pipeline.mem_restRefs_of main_v28 (by decide) (by decide))).trans (at_main_v28 m c)
  · exact ((h.2.1 c).2 main_v34 (Pipeline.mem_restRefs_of main_v34 (by decide) (by decide))).trans (at_main_v34 m c)
  · exact ((h.2.1 c).2 main_v40 (Pipeline.mem_restRefs_of main_v40 (by decide) (by decide))).trans (at_main_v40 m c)
  · exact ((h.2.1 c).2 main_v46 (Pipeline.mem_restRefs_of main_v46 (by decide) (by decide))).trans (at_main_v46 m c)
  · exact ((h.2.1 c).2 main_v30 (Pipeline.mem_restRefs_of main_v30 (by decide) (by decide))).trans (at_main_v30 m c)
  · exact ((h.2.1 c).2 main_v36 (Pipeline.mem_restRefs_of main_v36 (by decide) (by decide))).trans (at_main_v36 m c)
  · exact ((h.2.1 c).2 main_v42 (Pipeline.mem_restRefs_of main_v42 (by decide) (by decide))).trans (at_main_v42 m c)
  · exact ((h.2.1 c).2 main_v48 (Pipeline.mem_restRefs_of main_v48 (by decide) (by decide))).trans (at_main_v48 m c)

end Cert.AdSmallIdeal.Val

end
-- ==== Proof.AdSmallRef.lean ====
/- The reference's results are the mathematics. -/
module

public import proofs.«01_k».proof.Proof.AdPack
public import proofs.«01_k».proof.Proof.Gen.AdSmallRefIdeal.Read

@[expose] public section

set_option maxRecDepth 16384

noncomputable section

namespace Cert.AdSmallRefIdeal.Val

open Cert.AdSmallRefIdeal Cert.AdSmallRefIdeal.Gen Cert.AdSmallRefIdeal.Read Cert.Spec Idealize.ShloMosaic Idealize.ShloMosaic.TcCoe Idealize.SL.Sem

variable (x0 : Ten 7 16 512) (x1 : Mat2 16 512)

theorem r_total : val_main_v1 (F := Ideal) x0 x1 = Small.total x0 x1 := by
  unfold val_main_v1 val_main_v0 Small.total
  funext y
  pointwise [val_main_cst]
  exact sum7_eq _ _

theorem r_G0 : val_main_v3 (F := Ideal) x0 x1 = Small.cut0 (Small.total x0 x1) := by
  unfold val_main_v3 val_main_v2
  rw [r_total]
  rfl

theorem r_M0 (x3 : (⟨3, ![1, 5, 512]⟩ : Shape).Idx → EReal) : val_main_v8 (F := Ideal) x0 x1 x3 = newM (Small.cut0 (Small.total x0 x1)) x3 := by
  unfold val_main_v8 val_main_v5 val_main_v4 val_main_v7 val_main_v6 newM
  rw [r_G0]
  generalize (Small.cut0 (Small.total x0 x1)) = g
  funext y
  pointwise [val_main_cst_0, val_main_cst_1, moment]

theorem r_V0 (x4 : (⟨3, ![1, 5, 512]⟩ : Shape).Idx → EReal) : val_main_v14 (F := Ideal) x0 x1 x4 = newV (Small.cut0 (Small.total x0 x1)) x4 := by
  unfold val_main_v14 val_main_v10 val_main_v9 val_main_v13 val_main_v12 val_main_v11 newV
  rw [r_G0]
  generalize (Small.cut0 (Small.total x0 x1)) = g
  funext y
  pointwise [val_main_cst_2, val_main_cst_3, moment2]

theorem r_D0 (x2 x3 x4 : (⟨3, ![1, 5, 512]⟩ : Shape).Idx → EReal) : val_main_v27 (F := Ideal) x0 x1 x2 x3 x4 = upd (Small.cut0 (Small.total x0 x1)) x2 x3 x4 := by
  unfold val_main_v27 val_main_v26 val_main_v25 val_main_v22 val_main_v16 val_main_v15 val_main_v21 val_main_v19 val_main_v18 val_main_v17 val_main_v20 val_main_v24 val_main_v23 upd
  rw [r_M0, r_V0]
  unfold newM newV
  generalize (Small.cut0 (Small.total x0 x1)) = g
  funext y
  pointwise [val_main_cst_8, val_main_cst_4, val_main_cst_5, val_main_cst_6, val_main_cst_7, step]
  rw [div_c1, div_c2]

theorem r_G1 : val_main_v28 (F := Ideal) x0 x1 = Small.cut1 (Small.total x0 x1) := by
  unfold val_main_v28
  rw [r_total]
  rfl

theorem r_M1 (x6 : (⟨2, ![1, 512]⟩ : Shape).Idx → EReal) : val_main_v33 (F := Ideal) x0 x1 x6 = newM (Small.cut1 (Small.total x0 x1)) x6 := by
  unfold val_main_v33 val_main_v30 val_main_v29 val_main_v32 val_main_v31 newM
  rw [r_G1]
  generalize (Small.cut1 (Small.total x0 x1)) = g
  funext y
  pointwise [val_main_cst_9, val_main_cst_10, moment]

theorem r_V1 (x7 : (⟨2, ![1, 512]⟩ : Shape).Idx → EReal) : val_main_v39 (F := Ideal) x0 x1 x7 = newV (Small.cut1 (Small.total x0 x1)) x7 := by
  unfold val_main_v39 val_main_v35 val_main_v34 val_main_v38 val_main_v37 val_main_v36 newV
  rw [r_G1]
  generalize (Small.cut1 (Small.total x0 x1)) = g
  funext y
  pointwise [val_main_cst_11, val_main_cst_12, moment2]

theorem r_D1 (x5 x6 x7 : (⟨2, ![1, 512]⟩ : Shape).Idx → EReal) : val_main_v52 (F := Ideal) x0 x1 x5 x6 x7 = upd (Small.cut1 (Small.total x0 x1)) x5 x6 x7 := by
  unfold val_main_v52 val_main_v51 val_main_v50 val_main_v47 val_main_v41 val_main_v40 val_main_v46 val_main_v44 val_main_v43 val_main_v42 val_main_v45 val_main_v49 val_main_v48 upd
  rw [r_M1, r_V1]
  unfold newM newV
  generalize (Small.cut1 (Small.total x0 x1)) = g
  funext y
  pointwise [val_main_cst_17, val_main_cst_13, val_main_cst_14, val_main_cst_15, val_main_cst_16, step]
  rw [div_c1, div_c2]

theorem r_G2 : val_main_v53 (F := Ideal) x0 x1 = Small.cut2 (Small.total x0 x1) := by
  unfold val_main_v53
  rw [r_total]
  rfl

theorem r_M2 (x9 : (⟨2, ![1, 256]⟩ : Shape).Idx → EReal) : val_main_v58 (F := Ideal) x0 x1 x9 = newM (Small.cut2 (Small.total x0 x1)) x9 := by
  unfold val_main_v58 val_main_v55 val_main_v54 val_main_v57 val_main_v56 newM
  rw [r_G2]
  generalize (Small.cut2 (Small.total x0 x1)) = g
  funext y
  pointwise [val_main_cst_18, val_main_cst_19, moment]

theorem r_V2 (x10 : (⟨2, ![1, 256]⟩ : Shape).Idx → EReal) : val_main_v64 (F := Ideal) x0 x1 x10 = newV (Small.cut2 (Small.total x0 x1)) x10 := by
  unfold val_main_v64 val_main_v60 val_main_v59 val_main_v63 val_main_v62 val_main_v61 newV
  rw [r_G2]
  generalize (Small.cut2 (Small.total x0 x1)) = g
  funext y
  pointwise [val_main_cst_20, val_main_cst_21, moment2]

theorem r_D2 (x8 x9 x10 : (⟨2, ![1, 256]⟩ : Shape).Idx → EReal) : val_main_v77 (F := Ideal) x0 x1 x8 x9 x10 = upd (Small.cut2 (Small.total x0 x1)) x8 x9 x10 := by
  unfold val_main_v77 val_main_v76 val_main_v75 val_main_v72 val_main_v66 val_main_v65 val_main_v71 val_main_v69 val_main_v68 val_main_v67 val_main_v70 val_main_v74 val_main_v73 upd
  rw [r_M2, r_V2]
  unfold newM newV
  generalize (Small.cut2 (Small.total x0 x1)) = g
  funext y
  pointwise [val_main_cst_26, val_main_cst_22, val_main_cst_23, val_main_cst_24, val_main_cst_25, step]
  rw [div_c1, div_c2]

theorem r_G3 : val_main_v79 (F := Ideal) x0 x1 = Small.cut3 (Small.total x0 x1) := by
  unfold val_main_v79 val_main_v78
  rw [r_total]
  rfl

theorem r_M3 (x12 : (⟨3, ![2, 3, 352]⟩ : Shape).Idx → EReal) : val_main_v84 (F := Ideal) x0 x1 x12 = newM (Small.cut3 (Small.total x0 x1)) x12 := by
  unfold val_main_v84 val_main_v81 val_main_v80 val_main_v83 val_main_v82 newM
  rw [r_G3]
  generalize (Small.cut3 (Small.total x0 x1)) = g
  funext y
  pointwise [val_main_cst_27, val_main_cst_28, moment]

theorem r_V3 (x13 : (⟨3, ![2, 3, 352]⟩ : Shape).Idx → EReal) : val_main_v90 (F := Ideal) x0 x1 x13 = newV (Small.cut3 (Small.total x0 x1)) x13 := by
  unfold val_main_v90 val_main_v86 val_main_v85 val_main_v89 val_main_v88 val_main_v87 newV
  rw [r_G3]
  generalize (Small.cut3 (Small.total x0 x1)) = g
  funext y
  pointwise [val_main_cst_29, val_main_cst_30, moment2]

theorem r_D3 (x11 x12 x13 : (⟨3, ![2, 3, 352]⟩ : Shape).Idx → EReal) : val_main_v103 (F := Ideal) x0 x1 x11 x12 x13 = upd (Small.cut3 (Small.total x0 x1)) x11 x12 x13 := by
  unfold val_main_v103 val_main_v102 val_main_v101 val_main_v98 val_main_v92 val_main_v91 val_main_v97 val_main_v95 val_main_v94 val_main_v93 val_main_v96 val_main_v100 val_main_v99 upd
  rw [r_M3, r_V3]
  unfold newM newV
  generalize (Small.cut3 (Small.total x0 x1)) = g
  funext y
  pointwise [val_main_cst_35, val_main_cst_31, val_main_cst_32, val_main_cst_33, val_main_cst_34, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Small.cut0 (Small.total (m ((c.tc : Thread nD τ).loc main_arg0)) (m ((c.tc : Thread nD τ).loc main_arg1)))
      ∧ r.2.mem ((c.tc : Thread nD τ).loc main_v27) = upd (Small.cut0 (Small.total (m ((c.tc : Thread nD τ).loc main_arg0)) (m ((c.tc : Thread nD τ).loc main_arg1)))) (m ((c.tc : Thread nD τ).loc main_arg2)) (m ((c.tc : Thread nD τ).loc main_arg3)) (m ((c.tc : Thread nD τ).loc main_arg4))
      ∧ r.2.mem ((c.tc : Thread nD τ).loc main_v8) = newM (Small.cut0 (Small.total (m ((c.tc : Thread nD τ).loc main_arg0)) (m ((c.tc : Thread nD τ).loc main_arg1)))) (m ((c.tc : Thread nD τ).loc main_arg3))
      ∧ r.2.mem ((c.tc : Thread nD τ).loc main_v14) = newV (Small.cut0 (Small.total (m ((c.tc : Thread nD τ).loc main_arg0)) (m ((c.tc : Thread nD τ).loc main_arg1)))) (m ((c.tc : Thread nD τ).loc main_arg4))
      ∧ r.2.mem ((c.tc : Thread nD τ).loc main_v28) = Small.cut1 (Small.total (m ((c.tc : Thread nD τ).loc main_arg0)) (m ((c.tc : Thread nD τ).loc main_arg1)))
      ∧ r.2.mem ((c.tc : Thread nD τ).loc main_v52) = upd (Small.cut1 (Small.total (m ((c.tc : Thread nD τ).loc main_arg0)) (m ((c.tc : Thread nD τ).loc main_arg1)))) (m ((c.tc : Thread nD τ).loc main_arg5)) (m ((c.tc : Thread nD τ).loc main_arg6)) (m ((c.tc : Thread nD τ).loc main_arg7))
      ∧ r.2.mem ((c.tc : Thread nD τ).loc main_v33) = newM (Small.cut1 (Small.total (m ((c.tc : Thread nD τ).loc main_arg0)) (m ((c.tc : Thread nD τ).loc main_arg1)))) (m ((c.tc : Thread nD τ).loc main_arg6))
      ∧ r.2.mem ((c.tc : Thread nD τ).loc main_v39) = newV (Small.cut1 (Small.total (m ((c.tc : Thread nD τ).loc main_arg0)) (m ((c.tc : Thread nD τ).loc main_arg1)))) (m ((c.tc : Thread nD τ).loc main_arg7))
      ∧ r.2.mem ((c.tc : Thread nD τ).loc main_v53) = Small.cut2 (Small.total (m ((c.tc : Thread nD τ).loc main_arg0)) (m ((c.tc : Thread nD τ).loc main_arg1)))
      ∧ r.2.mem ((c.tc : Thread nD τ).loc main_v77) = upd (Small.cut2 (Small.total (m ((c.tc : Thread nD τ).loc main_arg0)) (m ((c.tc : Thread nD τ).loc main_arg1)))) (m ((c.tc : Thread nD τ).loc main_arg8)) (m ((c.tc : Thread nD τ).loc main_arg9)) (m ((c.tc : Thread nD τ).loc main_arg10))
      ∧ r.2.mem ((c.tc : Thread nD τ).loc main_v58) = newM (Small.cut2 (Small.total (m ((c.tc : Thread nD τ).loc main_arg0)) (m ((c.tc : Thread nD τ).loc main_arg1)))) (m ((c.tc : Thread nD τ).loc main_arg9))
      ∧ r.2.mem ((c.tc : Thread nD τ).loc main_v64) = newV (Small.cut2 (Small.total (m ((c.tc : Thread nD τ).loc main_arg0)) (m ((c.tc : Thread nD τ).loc main_arg1)))) (m ((c.tc : Thread nD τ).loc main_arg10))
      ∧ r.2.mem ((c.tc : Thread nD τ).loc main_v79) = Small.cut3 (Small.total (m ((c.tc : Thread nD τ).loc main_arg0)) (m ((c.tc : Thread nD τ).loc main_arg1)))
      ∧ r.2.mem ((c.tc : Thread nD τ).loc main_v103) = upd (Small.cut3 (Small.total (m ((c.tc : Thread nD τ).loc main_arg0)) (m ((c.tc : Thread nD τ).loc main_arg1)))) (m ((c.tc : Thread nD τ).loc main_arg11)) (m ((c.tc : Thread nD τ).loc main_arg12)) (m ((c.tc : Thread nD τ).loc main_arg13))
      ∧ r.2.mem ((c.tc : Thread nD τ).loc main_v84) = newM (Small.cut3 (Small.total (m ((c.tc : Thread nD τ).loc main_arg0)) (m ((c.tc : Thread nD τ).loc main_arg1)))) (m ((c.tc : Thread nD τ).loc main_arg12))
      ∧ r.2.mem ((c.tc : Thread nD τ).loc main_v90) = newV (Small.cut3 (Small.total (m ((c.tc : Thread nD τ).loc main_arg0)) (m ((c.tc : Thread nD τ).loc main_arg1)))) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r h c => ?_) (Cert.AdSmallRefIdeal.Value.run m ρ)
  obtain ⟨h0, h1, h2, h3, h4, h5, h6, h7, h8, h9, h10, h11, h12, h13, h14, h15, h16, h17, h18, h19, h20, h21, h22, h23, h24, h25, h26, h27, h28, h29⟩ := h c
  exact ⟨h0.trans ((val_main_v3_eq ..).trans (r_G0 ..)),
    h1.trans ((val_main_v27_eq ..).trans (r_D0 ..)),
    h2.trans ((val_main_v8_eq ..).trans (r_M0 ..)),
    h3.trans ((val_main_v14_eq ..).trans (r_V0 ..)),
    h4.trans ((val_main_v28_eq ..).trans (r_G1 ..)),
    h5.trans ((val_main_v52_eq ..).trans (r_D1 ..)),
    h6.trans ((val_main_v33_eq ..).trans (r_M1 ..)),
    h7.trans ((val_main_v39_eq ..).trans (r_V1 ..)),
    h8.trans ((val_main_v53_eq ..).trans (r_G2 ..)),
    h9.trans ((val_main_v77_eq ..).trans (r_D2 ..)),
    h10.trans ((val_main_v58_eq ..).trans (r_M2 ..)),
    h11.trans ((val_main_v64_eq ..).trans (r_V2 ..)),
    h12.trans ((val_main_v79_eq ..).trans (r_G3 ..)),
    h13.trans ((val_main_v103_eq ..).trans (r_D3 ..)),
    h14.trans ((val_main_v84_eq ..).trans (r_M3 ..)),
    h15.trans ((val_main_v90_eq ..).trans (r_V3 ..)),
    h16, h17, h18, h19, h20, h21, h22, h23, h24, h25, h26, h27, h28, h29⟩

end Cert.AdSmallRefIdeal.Val

end
-- ==== Proof.AdRepMat.lean ====
/- What the optimiser's region leaves, from what it finds. -/
module

public import proofs.«01_k».proof.Proof.AdPack
public import proofs.«01_k».proof.Proof.Gen.AdRepIdeal.Frame

@[expose] public section

set_option maxRecDepth 16384

noncomputable section

namespace Cert.AdRepIdeal.Val

open Cert.AdRepIdeal Cert.AdRepIdeal.Gen Cert.Spec Idealize.ShloMosaic Idealize.ShloMosaic.TcCoe Idealize.SL.Sem
open Idealize.ShloMosaic.Pipeline (Dat)

variable (m : (ℓ : Loc nD τ sig) → Buf (Elt Ideal) ℓ)

theorem c1 : (Named.named κ "inv_c1" 0x3FC48605#32 : Ideal .f32) = invC1 := IdealRules.named_const.ideal_named_scalar _ _ _ _ rfl
theorem c2 : (Named.named κ "inv_c2" 0x42C8E6D3#32 : Ideal .f32) = invC2 := IdealRules.named_const.ideal_named_scalar _ _ _ _ rfl

section
variable (x0 : Vec Ideal S8x16x1024 .f32) (x1 x2 x3 : Vec Ideal S16x1024 .f32)

theorem kpay : k0_pay5 x0 x1 x2 x3 = Rep.total x0 := by
  funext y; pointwise [k0_pay5, k0_pay3, Rep.total, sum8]

theorem kpayM : k0_pay6 x0 x1 x2 x3 = newM (Rep.total x0) x2 := by
  funext y; pointwise [k0_pay6, k0_pay4, k0_pay3, Rep.total, sum8, newM, moment]

theorem out4 : out0_4 x0 x1 x2 x3 = Rep.total x0 := by
  funext y; frame_out; rw [kpay]

theorem out5 : out0_5 x0 x1 x2 x3 = upd (Rep.total x0) x1 x2 x3 := by
  funext y; frame_out; rw [kpay, kpayM]; generalize Rep.total x0 = g
  pointwise [k0_pay2, k0_pay1, newM, upd, step, moment, moment2]
  rw [c1, c2]

theorem out6 : out0_6 x0 x1 x2 x3 = newM (Rep.total x0) x2 := by
  funext y; frame_out; rw [kpayM]

theorem out7 : out0_7 x0 x1 x2 x3 = newV (Rep.total x0) x3 := by
  funext y; frame_out; rw [kpay]; generalize Rep.total x0 = g
  pointwise [k0_pay1, newV, moment2]
end

theorem idx0 : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem emb4 (t : Fin cfg0.N) (y : S16x1024.Idx) : (win0_4.blk t).view.emb y = y := by
  blk_ext [idx0 t]

theorem emb5 (t : Fin cfg0.N) (y : S16x1024.Idx) : (win0_5.blk t).view.emb y = y := by
  blk_ext [idx0 t]

theorem emb6 (t : Fin cfg0.N) (y : S16x1024.Idx) : (win0_6.blk t).view.emb y = y := by
  blk_ext [idx0 t]

theorem emb7 (t : Fin cfg0.N) (y : S16x1024.Idx) : (win0_7.blk t).view.emb y = y := by
  blk_ext [idx0 t]

theorem in1 (c : Dev nD) (t : Fin cfg0.N) : iblk m c 1 t = V m c main_v11 := by
  funext y; blk_point [iblk, idx0 t]

theorem in2 (c : Dev nD) (t : Fin cfg0.N) : iblk m c 2 t = V m c main_v22 := by
  funext y; blk_point [iblk, idx0 t]

theorem in3 (c : Dev nD) (t : Fin cfg0.N) : iblk m c 3 t = V m c main_v33 := by
  funext y; blk_point [iblk, idx0 t]

theorem in0 (c : Dev nD) (t : Fin cfg0.N) : iblk m c 0 t = V m c main_arg0 := by
  funext y; blk_point [iblk, idx0 t]

theorem v4 (c : Dev nD) : (dats m 0 c).arrAt 4 cfg0.N = Rep.total (V m c main_arg0) := by
  refine (dats m 0 c).arrAt_eq_of_covers 4 _ (by decide +kernel) fun t _ y => ?_
  blk_simp
  rw [after0_4, out4, emb4, in0]

theorem v5 (c : Dev nD) : (dats m 0 c).arrAt 5 cfg0.N = upd (Rep.total (V m c main_arg0)) (V m c main_v11) (V m c main_v22) (V m c main_v33) := by
  refine (dats m 0 c).arrAt_eq_of_covers 5 _ (by decide +kernel) fun t _ y => ?_
  blk_simp
  rw [after0_5, out5, emb5, in0, in1, in2, in3]

theorem v6 (c : Dev nD) : (dats m 0 c).arrAt 6 cfg0.N = newM (Rep.total (V m c main_arg0)) (V m c main_v22) := by
  refine (dats m 0 c).arrAt_eq_of_covers 6 _ (by decide +kernel) fun t _ y => ?_
  blk_simp
  rw [after0_6, out6, emb6, in0, in2]

theorem v7 (c : Dev nD) : (dats m 0 c).arrAt 7 cfg0.N = newV (Rep.total (V m c main_arg0)) (V m c main_v33) := by
  refine (dats m 0 c).arrAt_eq_of_covers 7 _ (by decide +kernel) fun t _ y => ?_
  blk_simp
  rw [after0_7, out7, emb7, in0, in3]

end Cert.AdRepIdeal.Val

end
-- ==== Proof.AdRepPack.lean ====
/- The weights and the moments side by side, as the host places them, and their parts. -/
module

public import proofs.«01_k».proof.Proof.AdRepMat

@[expose] public section

set_option maxRecDepth 16384

noncomputable section

namespace Cert.AdRepIdeal.Val

open Cert.AdRepIdeal Cert.AdRepIdeal.Gen Cert.Spec Idealize.ShloMosaic Idealize.ShloMosaic.TcCoe Idealize.SL.Sem

variable (m : (ℓ : Loc nD τ sig) → Buf (Elt Ideal) ℓ)

/-- The arrays one after the other, then zeros. -/
def flatp (a0 : Vec Ideal S2x1024 .f32) (a1 : Vec Ideal S2x1024 .f32) (a2 : Vec Ideal S3x1024 .f32) (a3 : Vec Ideal S1x128 .f32) (a4 : Vec Ideal S1x2x32 .f32) (a5 : Vec Ideal S1x2x32 .f32) (a6 : Vec Ideal S1x32 .f32) (a7 : Vec Ideal S2x2816 .f32) (a8 : Vec Ideal S1024 .f32) : Vec Ideal S16384 .f32 :=
  pad S16384 ![0] ![2271] ![0]
    (concatenate S14113 0 [⟨S2048, shapeCast S2048 a0 shapeCasts_S2x1024_S2048⟩, ⟨S2048, shapeCast S2048 a1 shapeCasts_S2x1024_S2048⟩, ⟨S3072, shapeCast S3072 a2 shapeCasts_S3x1024_S3072⟩, ⟨S128, shapeCast S128 a3 shapeCasts_S1x128_S128⟩, ⟨S64, shapeCast S64 a4 shapeCasts_S1x2x32_S64⟩, ⟨S64, shapeCast S64 a5 shapeCasts_S1x2x32_S64⟩, ⟨S32, shapeCast S32 a6 shapeCasts_S1x32_S32⟩, ⟨S5632, shapeCast S5632 a7 shapeCasts_S2x2816_S5632⟩, ⟨S1024, a8⟩,
      ⟨S1, broadcastInDim S1 ![] bcast_S_S1 (constant (F := Ideal) S_ .f32 0x00000000#32)⟩]
      concatenates_S2048_S2048_S3072_S128_S64_S64_S32_S5632_S1024_S1_S14113_d0)
    (sitofp (F := Ideal) .f32 (constantI S_ 32 0#32)) pads_S14113_S16384_022710 h_S_
/-- In rows. -/
abbrev packed (a0 : Vec Ideal S2x1024 .f32) (a1 : Vec Ideal S2x1024 .f32) (a2 : Vec Ideal S3x1024 .f32) (a3 : Vec Ideal S1x128 .f32) (a4 : Vec Ideal S1x2x32 .f32) (a5 : Vec Ideal S1x2x32 .f32) (a6 : Vec Ideal S1x32 .f32) (a7 : Vec Ideal S2x2816 .f32) (a8 : Vec Ideal S1024 .f32) : Vec Ideal S16x1024 .f32 := shapeCast S16x1024 (flatp a0 a1 a2 a3 a4 a5 a6 a7 a8) shapeCasts_S16384_S16x1024

/-! ## What the region finds -/

set_option maxHeartbeats 4000000 in
theorem pkW (c : Dev nD) : V m c main_v11 = packed (m ((c : Thread nD τ).loc main_arg1)) (m ((c : Thread nD τ).loc main_arg4)) (m ((c : Thread nD τ).loc main_arg7)) (m ((c : Thread nD τ).loc main_arg10)) (m ((c : Thread nD τ).loc main_arg13)) (m ((c : Thread nD τ).loc main_arg16)) (m ((c : Thread nD τ).loc main_arg19)) (m ((c : Thread nD τ).loc main_arg22)) (m ((c : Thread nD τ).loc main_arg25)) := by
  entry_read
  rfl

set_option maxHeartbeats 4000000 in
theorem pkM (c : Dev nD) : V m c main_v22 = packed (m ((c : Thread nD τ).loc main_arg2)) (m ((c : Thread nD τ).loc main_arg5)) (m ((c : Thread nD τ).loc main_arg8)) (m ((c : Thread nD τ).loc main_arg11)) (m ((c : Thread nD τ).loc main_arg14)) (m ((c : Thread nD τ).loc main_arg17)) (m ((c : Thread nD τ).loc main_arg20)) (m ((c : Thread nD τ).loc main_arg23)) (m ((c : Thread nD τ).loc main_arg26)) := by
  entry_read
  rfl

set_option maxHeartbeats 4000000 in
theorem pkV (c : Dev nD) : V m c main_v33 = packed (m ((c : Thread nD τ).loc main_arg3)) (m ((c : Thread nD τ).loc main_arg6)) (m ((c : Thread nD τ).loc main_arg9)) (m ((c : Thread nD τ).loc main_arg12)) (m ((c : Thread nD τ).loc main_arg15)) (m ((c : Thread nD τ).loc main_arg18)) (m ((c : Thread nD τ).loc main_arg21)) (m ((c : Thread nD τ).loc main_arg24)) (m ((c : Thread nD τ).loc main_arg27)) := by
  entry_read
  rfl

theorem ix1_eq {n : ℕ} (y : (⟨1, ![n]⟩ : Shape).Idx) (k : Fin n) (h : k.val = (y 0).val) : ix1 k = y := by
  funext a
  match a with
  | ⟨0, _⟩ => exact Fin.ext h

/-! ## The parts -/

section
variable (a0 : Vec Ideal S2x1024 .f32) (a1 : Vec Ideal S2x1024 .f32) (a2 : Vec Ideal S3x1024 .f32) (a3 : Vec Ideal S1x128 .f32) (a4 : Vec Ideal S1x2x32 .f32) (a5 : Vec Ideal S1x2x32 .f32) (a6 : Vec Ideal S1x32 .f32) (a7 : Vec Ideal S2x2816 .f32) (a8 : Vec Ideal S1024 .f32)

theorem sl0 : extractStridedSlice S2048 ![0] (flatp a0 a1 a2 a3 a4 a5 a6 a7 a8) (by decide) = shapeCast S2048 a0 shapeCasts_S2x1024_S2048 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 2048 := (y 0).isLt
  pointwise
  (try split_ifs) <;> first | (exfalso; omega) | rfl | (refine congrArg b0 (ix1_eq _ _ ?_); dsimp only; omega)

theorem cp0 : Rep.cut0 (packed a0 a1 a2 a3 a4 a5 a6 a7 a8) = a0 := by
  unfold Rep.cut0 packed
  rw [shapeCast_shapeCast]
  exact (congrArg (fun z => shapeCast S2x1024 z (by decide)) (sl0 a0 a1 a2 a3 a4 a5 a6 a7 a8)).trans (shapeCast_shapeCast a0 _ _)

theorem sl1 : extractStridedSlice S2048 ![2048] (flatp a0 a1 a2 a3 a4 a5 a6 a7 a8) (by decide) = shapeCast S2048 a1 shapeCasts_S2x1024_S2048 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 2048 := (y 0).isLt
  pointwise
  (try split_ifs) <;> first | (exfalso; omega) | rfl | (refine congrArg b1 (ix1_eq _ _ ?_); dsimp only; omega)

theorem cp1 : Rep.cut1 (packed a0 a1 a2 a3 a4 a5 a6 a7 a8) = a1 := by
  unfold Rep.cut1 packed
  rw [shapeCast_shapeCast]
  exact (congrArg (fun z => shapeCast S2x1024 z (by decide)) (sl1 a0 a1 a2 a3 a4 a5 a6 a7 a8)).trans (shapeCast_shapeCast a1 _ _)

theorem sl2 : extractStridedSlice S3072 ![4096] (flatp a0 a1 a2 a3 a4 a5 a6 a7 a8) (by decide) = shapeCast S3072 a2 shapeCasts_S3x1024_S3072 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 3072 := (y 0).isLt
  pointwise
  exact (dif_pos (show 4096 + (y 0).val < 14113 by omega)).trans ((dif_neg (show ¬4096 + (y 0).val < 2048 by omega)).trans ((dif_neg (show ¬4096 + (y 0).val - 2048 < 2048 by omega)).trans ((dif_pos (show 4096 + (y 0).val - 2048 - 2048 < 3072 by omega)).trans (congrArg b2 (ix1_eq _ _ (show 4096 + (y 0).val - 2048 - 2048 = (y 0).val by omega))))))

theorem cp2 : Rep.cut2 (packed a0 a1 a2 a3 a4 a5 a6 a7 a8) = a2 := by
  unfold Rep.cut2 packed
  rw [shapeCast_shapeCast]
  exact (congrArg (fun z => shapeCast S3x1024 z (by decide)) (sl2 a0 a1 a2 a3 a4 a5 a6 a7 a8)).trans (shapeCast_shapeCast a2 _ _)

theorem sl3 : extractStridedSlice S128 ![7168] (flatp a0 a1 a2 a3 a4 a5 a6 a7 a8) (by decide) = shapeCast S128 a3 shapeCasts_S1x128_S128 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 128 := (y 0).isLt
  pointwise
  exact (dif_pos (show 7168 + (y 0).val < 14113 by omega)).trans ((dif_neg (show ¬7168 + (y 0).val < 2048 by omega)).trans ((dif_neg (show ¬7168 + (y 0).val - 2048 < 2048 by omega)).trans ((dif_neg (show ¬7168 + (y 0).val - 2048 - 2048 < 3072 by omega)).trans ((dif_pos (show 7168 + (y 0).val - 2048 - 2048 - 3072 < 128 by omega)).trans (congrArg b3 (ix1_eq _ _ (show 7168 + (y 0).val - 2048 - 2048 - 3072 = (y 0).val by omega)))))))

theorem cp3 : Rep.cut3 (packed a0 a1 a2 a3 a4 a5 a6 a7 a8) = a3 := by
  unfold Rep.cut3 packed
  rw [shapeCast_shapeCast]
  exact (congrArg (fun z => shapeCast S1x128 z (by decide)) (sl3 a0 a1 a2 a3 a4 a5 a6 a7 a8)).trans (shapeCast_shapeCast a3 _ _)

theorem sl4 : extractStridedSlice S64 ![7296] (flatp a0 a1 a2 a3 a4 a5 a6 a7 a8) (by decide) = shapeCast S64 a4 shapeCasts_S1x2x32_S64 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 64 := (y 0).isLt
  pointwise
  exact (dif_pos (show 7296 + (y 0).val < 14113 by omega)).trans ((dif_neg (show ¬7296 + (y 0).val < 2048 by omega)).trans ((dif_neg (show ¬7296 + (y 0).val - 2048 < 2048 by omega)).trans ((dif_neg (show ¬7296 + (y 0).val - 2048 - 2048 < 3072 by omega)).trans ((dif_neg (show ¬7296 + (y 0).val - 2048 - 2048 - 3072 < 128 by omega)).trans ((dif_pos (show 7296 + (y 0).val - 2048 - 2048 - 3072 - 128 < 64 by omega)).trans (congrArg b4 (ix1_eq _ _ (show 7296 + (y 0).val - 2048 - 2048 - 3072 - 128 = (y 0).val by omega))))))))

theorem cp4 : Rep.cut4 (packed a0 a1 a2 a3 a4 a5 a6 a7 a8) = a4 := by
  unfold Rep.cut4 packed
  rw [shapeCast_shapeCast]
  exact (congrArg (fun z => shapeCast S1x2x32 z (by decide)) (sl4 a0 a1 a2 a3 a4 a5 a6 a7 a8)).trans (shapeCast_shapeCast a4 _ _)

theorem sl5 : extractStridedSlice S64 ![7360] (flatp a0 a1 a2 a3 a4 a5 a6 a7 a8) (by decide) = shapeCast S64 a5 shapeCasts_S1x2x32_S64 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 64 := (y 0).isLt
  pointwise
  exact (dif_pos (show 7360 + (y 0).val < 14113 by omega)).trans ((dif_neg (show ¬7360 + (y 0).val < 2048 by omega)).trans ((dif_neg (show ¬7360 + (y 0).val - 2048 < 2048 by omega)).trans ((dif_neg (show ¬7360 + (y 0).val - 2048 - 2048 < 3072 by omega)).trans ((dif_neg (show ¬7360 + (y 0).val - 2048 - 2048 - 3072 < 128 by omega)).trans ((dif_neg (show ¬7360 + (y 0).val - 2048 - 2048 - 3072 - 128 < 64 by omega)).trans ((dif_pos (show 7360 + (y 0).val - 2048 - 2048 - 3072 - 128 - 64 < 64 by omega)).trans (congrArg b5 (ix1_eq _ _ (show 7360 + (y 0).val - 2048 - 2048 - 3072 - 128 - 64 = (y 0).val by omega)))))))))

theorem cp5 : Rep.cut5 (packed a0 a1 a2 a3 a4 a5 a6 a7 a8) = a5 := by
  unfold Rep.cut5 packed
  rw [shapeCast_shapeCast]
  exact (congrArg (fun z => shapeCast S1x2x32 z (by decide)) (sl5 a0 a1 a2 a3 a4 a5 a6 a7 a8)).trans (shapeCast_shapeCast a5 _ _)

theorem sl6 : extractStridedSlice S32 ![7424] (flatp a0 a1 a2 a3 a4 a5 a6 a7 a8) (by decide) = shapeCast S32 a6 shapeCasts_S1x32_S32 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 32 := (y 0).isLt
  pointwise
  exact (dif_pos (show 7424 + (y 0).val < 14113 by omega)).trans ((dif_neg (show ¬7424 + (y 0).val < 2048 by omega)).trans ((dif_neg (show ¬7424 + (y 0).val - 2048 < 2048 by omega)).trans ((dif_neg (show ¬7424 + (y 0).val - 2048 - 2048 < 3072 by omega)).trans ((dif_neg (show ¬7424 + (y 0).val - 2048 - 2048 - 3072 < 128 by omega)).trans ((dif_neg (show ¬7424 + (y 0).val - 2048 - 2048 - 3072 - 128 < 64 by omega)).trans ((dif_neg (show ¬7424 + (y 0).val - 2048 - 2048 - 3072 - 128 - 64 < 64 by omega)).trans ((dif_pos (show 7424 + (y 0).val - 2048 - 2048 - 3072 - 128 - 64 - 64 < 32 by omega)).trans (congrArg b6 (ix1_eq _ _ (show 7424 + (y 0).val - 2048 - 2048 - 3072 - 128 - 64 - 64 = (y 0).val by omega))))))))))

theorem cp6 : Rep.cut6 (packed a0 a1 a2 a3 a4 a5 a6 a7 a8) = a6 := by
  unfold Rep.cut6 packed
  rw [shapeCast_shapeCast]
  exact (congrArg (fun z => shapeCast S1x32 z (by decide)) (sl6 a0 a1 a2 a3 a4 a5 a6 a7 a8)).trans (shapeCast_shapeCast a6 _ _)

theorem sl7 : extractStridedSlice S5632 ![7456] (flatp a0 a1 a2 a3 a4 a5 a6 a7 a8) (by decide) = shapeCast S5632 a7 shapeCasts_S2x2816_S5632 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 5632 := (y 0).isLt
  pointwise
  exact (dif_pos (show 7456 + (y 0).val < 14113 by omega)).trans ((dif_neg (show ¬7456 + (y 0).val < 2048 by omega)).trans ((dif_neg (show ¬7456 + (y 0).val - 2048 < 2048 by omega)).trans ((dif_neg (show ¬7456 + (y 0).val - 2048 - 2048 < 3072 by omega)).trans ((dif_neg (show ¬7456 + (y 0).val - 2048 - 2048 - 3072 < 128 by omega)).trans ((dif_neg (show ¬7456 + (y 0).val - 2048 - 2048 - 3072 - 128 < 64 by omega)).trans ((dif_neg (show ¬7456 + (y 0).val - 2048 - 2048 - 3072 - 128 - 64 < 64 by omega)).trans ((dif_neg (show ¬7456 + (y 0).val - 2048 - 2048 - 3072 - 128 - 64 - 64 < 32 by omega)).trans ((dif_pos (show 7456 + (y 0).val - 2048 - 2048 - 3072 - 128 - 64 - 64 - 32 < 5632 by omega)).trans (congrArg b7 (ix1_eq _ _ (show 7456 + (y 0).val - 2048 - 2048 - 3072 - 128 - 64 - 64 - 32 = (y 0).val by omega)))))))))))

theorem cp7 : Rep.cut7 (packed a0 a1 a2 a3 a4 a5 a6 a7 a8) = a7 := by
  unfold Rep.cut7 packed
  rw [shapeCast_shapeCast]
  exact (congrArg (fun z => shapeCast S2x2816 z (by decide)) (sl7 a0 a1 a2 a3 a4 a5 a6 a7 a8)).trans (shapeCast_shapeCast a7 _ _)

theorem sl8 : extractStridedSlice S1024 ![13088] (flatp a0 a1 a2 a3 a4 a5 a6 a7 a8) (by decide) = a8 := by
  unfold flatp
  generalize shapeCast S2048 a0 (by decide) = b0
  generalize shapeCast S2048 a1 (by decide) = b1
  generalize shapeCast S3072 a2 (by decide) = b2
  generalize shapeCast S128 a3 (by decide) = b3
  generalize shapeCast S64 a4 (by decide) = b4
  generalize shapeCast S64 a5 (by decide) = b5
  generalize shapeCast S32 a6 (by decide) = b6
  generalize shapeCast S5632 a7 (by decide) = b7
  funext y
  have hy : (y 0).val < 1024 := (y 0).isLt
  pointwise
  exact (dif_pos (show 13088 + (y 0).val < 14113 by omega)).trans ((dif_neg (show ¬13088 + (y 0).val < 2048 by omega)).trans ((dif_neg (show ¬13088 + (y 0).val - 2048 < 2048 by omega)).trans ((dif_neg (show ¬13088 + (y 0).val - 2048 - 2048 < 3072 by omega)).trans ((dif_neg (show ¬13088 + (y 0).val - 2048 - 2048 - 3072 < 128 by omega)).trans ((dif_neg (show ¬13088 + (y 0).val - 2048 - 2048 - 3072 - 128 < 64 by omega)).trans ((dif_neg (show ¬13088 + (y 0).val - 2048 - 2048 - 3072 - 128 - 64 < 64 by omega)).trans ((dif_neg (show ¬13088 + (y 0).val - 2048 - 2048 - 3072 - 128 - 64 - 64 < 32 by omega)).trans ((dif_neg (show ¬13088 + (y 0).val - 2048 - 2048 - 3072 - 128 - 64 - 64 - 32 < 5632 by omega)).trans ((dif_pos (show 13088 + (y 0).val - 2048 - 2048 - 3072 - 128 - 64 - 64 - 32 - 5632 < 1024 by omega)).trans (congrArg a8 (ix1_eq _ _ (show 13088 + (y 0).val - 2048 - 2048 - 3072 - 128 - 64 - 64 - 32 - 5632 = (y 0).val by omega))))))))))))

theorem cp8 : Rep.cut8 (packed a0 a1 a2 a3 a4 a5 a6 a7 a8) = a8 := by
  unfold Rep.cut8 packed
  rw [shapeCast_shapeCast]
  exact sl8 a0 a1 a2 a3 a4 a5 a6 a7 a8
end

end Cert.AdRepIdeal.Val

end
-- ==== Proof.AdRepRun.lean ====
/- The optimiser's region runs, and what it leaves. -/
module

public import proofs.«01_k».proof.Proof.AdRepPack

@[expose] public section

set_option maxRecDepth 16384

noncomputable section

namespace Cert.AdRepIdeal.Val

open Cert.AdRepIdeal Cert.AdRepIdeal.Gen Cert.Spec Idealize.ShloMosaic Idealize.ShloMosaic.TcCoe Idealize.SL.Sem

variable (m : (ℓ : Loc nD τ sig) → Buf (Elt Ideal) ℓ) (ρ : Dev nD → PrngReg)

/-! ## The parts are cut out of what the region leaves -/

theorem tail_main_v54 (W : Valuation τ sig (Elt Ideal)) : StableHlo.after hostOps1 W (Proc.devRef .tc main_v54) = Rep.cut9 (W (Proc.devRef .tc main_v34_0)) := by
  after_results
  rfl

theorem tail_main_v37 (W : Valuation τ sig (Elt Ideal)) : StableHlo.after hostOps1 W (Proc.devRef .tc main_v37) = Rep.cut0 (W (Proc.devRef .tc main_v34_0)) := by
  after_results
  rfl

theorem tail_main_v57 (W : Valuation τ sig (Elt Ideal)) : StableHlo.after hostOps1 W (Proc.devRef .tc main_v57) = Rep.cut0 (W (Proc.devRef .tc main_v34_1)) := by
  after_results
  rfl

theorem tail_main_v77 (W : Valuation τ sig (Elt Ideal)) : StableHlo.after hostOps1 W (Proc.devRef .tc main_v77) = Rep.cut0 (W (Proc.devRef .tc main_v34_2)) := by
  after_results
  rfl

theorem tail_main_v97 (W : Valuation τ sig (Elt Ideal)) : StableHlo.after hostOps1 W (Proc.devRef .tc main_v97) = Rep.cut0 (W (Proc.devRef .tc main_v34_3)) := by
  after_results
  rfl

theorem tail_main_v39 (W : Valuation τ sig (Elt Ideal)) : StableHlo.after hostOps1 W (Proc.devRef .tc main_v39) = Rep.cut1 (W (Proc.devRef .tc main_v34_0)) := by
  after_results
  rfl

theorem tail_main_v59 (W : Valuation τ sig (Elt Ideal)) : StableHlo.after hostOps1 W (Proc.devRef .tc main_v59) = Rep.cut1 (W (Proc.devRef .tc main_v34_1)) := by
  after_results
  rfl

theorem tail_main_v79 (W : Valuation τ sig (Elt Ideal)) : StableHlo.after hostOps1 W (Proc.devRef .tc main_v79) = Rep.cut1 (W (Proc.devRef .tc main_v34_2)) := by
  after_results
  rfl

theorem tail_main_v99 (W : Valuation τ sig (Elt Ideal)) : StableHlo.after hostOps1 W (Proc.devRef .tc main_v99) = Rep.cut1 (W (Proc.devRef .tc main_v34_3)) := by
  after_results
  rfl

theorem tail_main_v41 (W : Valuation τ sig (Elt Ideal)) : StableHlo.after hostOps1 W (Proc.devRef .tc main_v41) = Rep.cut2 (W (Proc.devRef .tc main_v34_0)) := by
  after_results
  rfl

theorem tail_main_v61 (W : Valuation τ sig (Elt Ideal)) : StableHlo.after hostOps1 W (Proc.devRef .tc main_v61) = Rep.cut2 (W (Proc.devRef .tc main_v34_1)) := by
  after_results
  rfl

theorem tail_main_v81 (W : Valuation τ sig (Elt Ideal)) : StableHlo.after hostOps1 W (Proc.devRef .tc main_v81) = Rep.cut2 (W (Proc.devRef .tc main_v34_2)) := by
  after_results
  rfl

theorem tail_main_v101 (W : Valuation τ sig (Elt Ideal)) : StableHlo.after hostOps1 W (Proc.devRef .tc main_v101) = Rep.cut2 (W (Proc.devRef .tc main_v34_3)) := by
  after_results
  rfl

theorem tail_main_v43 (W : Valuation τ sig (Elt Ideal)) : StableHlo.after hostOps1 W (Proc.devRef .tc main_v43) = Rep.cut3 (W (Proc.devRef .tc main_v34_0)) := by
  after_results
  rfl

theorem tail_main_v63 (W : Valuation τ sig (Elt Ideal)) : StableHlo.after hostOps1 W (Proc.devRef .tc main_v63) = Rep.cut3 (W (Proc.devRef .tc main_v34_1)) := by
  after_results
  rfl

theorem tail_main_v83 (W : Valuation τ sig (Elt Ideal)) : StableHlo.after hostOps1 W (Proc.devRef .tc main_v83) = Rep.cut3 (W (Proc.devRef .tc main_v34_2)) := by
  after_results
  rfl

theorem tail_main_v103 (W : Valuation τ sig (Elt Ideal)) : StableHlo.after hostOps1 W (Proc.devRef .tc main_v103) = Rep.cut3 (W (Proc.devRef .tc main_v34_3)) := by
  after_results
  rfl

theorem tail_main_v45 (W : Valuation τ sig (Elt Ideal)) : StableHlo.after hostOps1 W (Proc.devRef .tc main_v45) = Rep.cut4 (W (Proc.devRef .tc main_v34_0)) := by
  after_results
  rfl

theorem tail_main_v65 (W : Valuation τ sig (Elt Ideal)) : StableHlo.after hostOps1 W (Proc.devRef .tc main_v65) = Rep.cut4 (W (Proc.devRef .tc main_v34_1)) := by
  after_results
  rfl

theorem tail_main_v85 (W : Valuation τ sig (Elt Ideal)) : StableHlo.after hostOps1 W (Proc.devRef .tc main_v85) = Rep.cut4 (W (Proc.devRef .tc main_v34_2)) := by
  after_results
  rfl

theorem tail_main_v105 (W : Valuation τ sig (Elt Ideal)) : StableHlo.after hostOps1 W (Proc.devRef .tc main_v105) = Rep.cut4 (W (Proc.devRef .tc main_v34_3)) := by
  after_results
  rfl

theorem tail_main_v47 (W : Valuation τ sig (Elt Ideal)) : StableHlo.after hostOps1 W (Proc.devRef .tc main_v47) = Rep.cut5 (W (Proc.devRef .tc main_v34_0)) := by
  after_results
  rfl

theorem tail_main_v67 (W : Valuation τ sig (Elt Ideal)) : StableHlo.after hostOps1 W (Proc.devRef .tc main_v67) = Rep.cut5 (W (Proc.devRef .tc main_v34_1)) := by
  after_results
  rfl

theorem tail_main_v87 (W : Valuation τ sig (Elt Ideal)) : StableHlo.after hostOps1 W (Proc.devRef .tc main_v87) = Rep.cut5 (W (Proc.devRef .tc main_v34_2)) := by
  after_results
  rfl

theorem tail_main_v107 (W : Valuation τ sig (Elt Ideal)) : StableHlo.after hostOps1 W (Proc.devRef .tc main_v107) = Rep.cut5 (W (Proc.devRef .tc main_v34_3)) := by
  after_results
  rfl

theorem tail_main_v49 (W : Valuation τ sig (Elt Ideal)) : StableHlo.after hostOps1 W (Proc.devRef .tc main_v49) = Rep.cut6 (W (Proc.devRef .tc main_v34_0)) := by
  after_results
  rfl

theorem tail_main_v69 (W : Valuation τ sig (Elt Ideal)) : StableHlo.after hostOps1 W (Proc.devRef .tc main_v69) = Rep.cut6 (W (Proc.devRef .tc main_v34_1)) := by
  after_results
  rfl

theorem tail_main_v89 (W : Valuation τ sig (Elt Ideal)) : StableHlo.after hostOps1 W (Proc.devRef .tc main_v89) = Rep.cut6 (W (Proc.devRef .tc main_v34_2)) := by
  after_results
  rfl

theorem tail_main_v109 (W : Valuation τ sig (Elt Ideal)) : StableHlo.after hostOps1 W (Proc.devRef .tc main_v109) = Rep.cut6 (W (Proc.devRef .tc main_v34_3)) := by
  after_results
  rfl

theorem tail_main_v51 (W : Valuation τ sig (Elt Ideal)) : StableHlo.after hostOps1 W (Proc.devRef .tc main_v51) = Rep.cut7 (W (Proc.devRef .tc main_v34_0)) := by
  after_results
  rfl

theorem tail_main_v71 (W : Valuation τ sig (Elt Ideal)) : StableHlo.after hostOps1 W (Proc.devRef .tc main_v71) = Rep.cut7 (W (Proc.devRef .tc main_v34_1)) := by
  after_results
  rfl

theorem tail_main_v91 (W : Valuation τ sig (Elt Ideal)) : StableHlo.after hostOps1 W (Proc.devRef .tc main_v91) = Rep.cut7 (W (Proc.devRef .tc main_v34_2)) := by
  after_results
  rfl

theorem tail_main_v111 (W : Valuation τ sig (Elt Ideal)) : StableHlo.after hostOps1 W (Proc.devRef .tc main_v111) = Rep.cut7 (W (Proc.devRef .tc main_v34_3)) := by
  after_results
  rfl

theorem tail_main_v52 (W : Valuation τ sig (Elt Ideal)) : StableHlo.after hostOps1 W (Proc.devRef .tc main_v52) = Rep.cut8 (W (Proc.devRef .tc main_v34_0)) := by
  after_results
  rfl

theorem tail_main_v72 (W : Valuation τ sig (Elt Ideal)) : StableHlo.after hostOps1 W (Proc.devRef .tc main_v72) = Rep.cut8 (W (Proc.devRef .tc main_v34_1)) := by
  after_results
  rfl

theorem tail_main_v92 (W : Valuation τ sig (Elt Ideal)) : StableHlo.after hostOps1 W (Proc.devRef .tc main_v92) = Rep.cut8 (W (Proc.devRef .tc main_v34_2)) := by
  after_results
  rfl

theorem tail_main_v112 (W : Valuation τ sig (Elt Ideal)) : StableHlo.after hostOps1 W (Proc.devRef .tc main_v112) = Rep.cut8 (W (Proc.devRef .tc main_v34_3)) := by
  after_results
  rfl

/-! ## What the region leaves -/

theorem arr (c : Dev nD) (w : Fin cfg0.W) : Pipeline.withArrays (cfgs 0).spec c (V0 m c) (fun w => (dats m 0 c).arrAt w (cfgs 0).N) (Proc.devRef .tc (Pipeline.arrRef (cfgs 0).spec w))
    = (dats m 0 c).arrAt w cfg0.N := Pipeline.withArrays_arr _ launch0.win.arr_inj c _ _ w

theorem at_main_v54 (c : Dev nD) : Pipeline.afterTail₀ cfgs (dats m) 0 (V0 m) [hostOps1] c main_v54
    = Rep.cut9 (Rep.total (m ((c.tc : Thread nD τ).loc main_arg0))) := by
  refine (tail_main_v54 _).trans ((congrArg Rep.cut9 ((arr m c 4).trans (v4 m c))).trans ?_)
  rw [V_main_arg0]

theorem at_main_v37 (c : Dev nD) : Pipeline.afterTail₀ cfgs (dats m) 0 (V0 m) [hostOps1] c main_v37
    = Rep.cut0 (Rep.total (m ((c.tc : Thread nD τ).loc main_arg0))) := by
  refine (tail_main_v37 _).trans ((congrArg Rep.cut0 ((arr m c 4).trans (v4 m c))).trans ?_)
  rw [V_main_arg0]

theorem at_main_v57 (c : Dev nD) : Pipeline.afterTail₀ cfgs (dats m) 0 (V0 m) [hostOps1] c main_v57
    = upd (Rep.cut0 (Rep.total (m ((c.tc : Thread nD τ).loc main_arg0)))) (m ((c.tc : Thread nD τ).loc main_arg1)) (m ((c.tc : Thread nD τ).loc main_arg2)) (m ((c.tc : Thread nD τ).loc main_arg3)) := by
  refine (tail_main_v57 _).trans ((congrArg Rep.cut0 ((arr m c 5).trans (v5 m c))).trans ?_)
  rw [Rep.cut0_D, V_main_arg0, pkW, pkM, pkV, cp0, cp0, cp0]

theorem at_main_v77 (c : Dev nD) : Pipeline.afterTail₀ cfgs (dats m) 0 (V0 m) [hostOps1] c main_v77
    = newM (Rep.cut0 (Rep.total (m ((c.tc : Thread nD τ).loc main_arg0)))) (m ((c.tc : Thread nD τ).loc main_arg2)) := by
  refine (tail_main_v77 _).trans ((congrArg Rep.cut0 ((arr m c 6).trans (v6 m c))).trans ?_)
  rw [Rep.cut0_M, V_main_arg0, pkM, cp0]

theorem at_main_v97 (c : Dev nD) : Pipeline.afterTail₀ cfgs (dats m) 0 (V0 m) [hostOps1] c main_v97
    = newV (Rep.cut0 (Rep.total (m ((c.tc : Thread nD τ).loc main_arg0)))) (m ((c.tc : Thread nD τ).loc main_arg3)) := by
  refine (tail_main_v97 _).trans ((congrArg Rep.cut0 ((arr m c 7).trans (v7 m c))).trans ?_)
  rw [Rep.cut0_V, V_main_arg0, pkV, cp0]

theorem at_main_v39 (c : Dev nD) : Pipeline.afterTail₀ cfgs (dats m) 0 (V0 m) [hostOps1] c main_v39
    = Rep.cut1 (Rep.total (m ((c.tc : Thread nD τ).loc main_arg0))) := by
  refine (tail_main_v39 _).trans ((congrArg Rep.cut1 ((arr m c 4).trans (v4 m c))).trans ?_)
  rw [V_main_arg0]

theorem at_main_v59 (c : Dev nD) : Pipeline.afterTail₀ cfgs (dats m) 0 (V0 m) [hostOps1] c main_v59
    = upd (Rep.cut1 (Rep.total (m ((c.tc : Thread nD τ).loc main_arg0)))) (m ((c.tc : Thread nD τ).loc main_arg4)) (m ((c.tc : Thread nD τ).loc main_arg5)) (m ((c.tc : Thread nD τ).loc main_arg6)) := by
  refine (tail_main_v59 _).trans ((congrArg Rep.cut1 ((arr m c 5).trans (v5 m c))).trans ?_)
  rw [Rep.cut1_D, V_main_arg0, pkW, pkM, pkV, cp1, cp1, cp1]

theorem at_main_v79 (c : Dev nD) : Pipeline.afterTail₀ cfgs (dats m) 0 (V0 m) [hostOps1] c main_v79
    = newM (Rep.cut1 (Rep.total (m ((c.tc : Thread nD τ).loc main_arg0)))) (m ((c.tc : Thread nD τ).loc main_arg5)) := by
  refine (tail_main_v79 _).trans ((congrArg Rep.cut1 ((arr m c 6).trans (v6 m c))).trans ?_)
  rw [Rep.cut1_M, V_main_arg0, pkM, cp1]

theorem at_main_v99 (c : Dev nD) : Pipeline.afterTail₀ cfgs (dats m) 0 (V0 m) [hostOps1] c main_v99
    = newV (Rep.cut1 (Rep.total (m ((c.tc : Thread nD τ).loc main_arg0)))) (m ((c.tc : Thread nD τ).loc main_arg6)) := by
  refine (tail_main_v99 _).trans ((congrArg Rep.cut1 ((arr m c 7).trans (v7 m c))).trans ?_)
  rw [Rep.cut1_V, V_main_arg0, pkV, cp1]

theorem at_main_v41 (c : Dev nD) : Pipeline.afterTail₀ cfgs (dats m) 0 (V0 m) [hostOps1] c main_v41
    = Rep.cut2 (Rep.total (m ((c.tc : Thread nD τ).loc main_arg0))) := by
  refine (tail_main_v41 _).trans ((congrArg Rep.cut2 ((arr m c 4).trans (v4 m c))).trans ?_)
  rw [V_main_arg0]

theorem at_main_v61 (c : Dev nD) : Pipeline.afterTail₀ cfgs (dats m) 0 (V0 m) [hostOps1] c main_v61
    = upd (Rep.cut2 (Rep.total (m ((c.tc : Thread nD τ).loc main_arg0)))) (m ((c.tc : Thread nD τ).loc main_arg7)) (m ((c.tc : Thread nD τ).loc main_arg8)) (m ((c.tc : Thread nD τ).loc main_arg9)) := by
  refine (tail_main_v61 _).trans ((congrArg Rep.cut2 ((arr m c 5).trans (v5 m c))).trans ?_)
  rw [Rep.cut2_D, V_main_arg0, pkW, pkM, pkV, cp2, cp2, cp2]

theorem at_main_v81 (c : Dev nD) : Pipeline.afterTail₀ cfgs (dats m) 0 (V0 m) [hostOps1] c main_v81
    = newM (Rep.cut2 (Rep.total (m ((c.tc : Thread nD τ).loc main_arg0)))) (m ((c.tc : Thread nD τ).loc main_arg8)) := by
  refine (tail_main_v81 _).trans ((congrArg Rep.cut2 ((arr m c 6).trans (v6 m c))).trans ?_)
  rw [Rep.cut2_M, V_main_arg0, pkM, cp2]

theorem at_main_v101 (c : Dev nD) : Pipeline.afterTail₀ cfgs (dats m) 0 (V0 m) [hostOps1] c main_v101
    = newV (Rep.cut2 (Rep.total (m ((c.tc : Thread nD τ).loc main_arg0)))) (m ((c.tc : Thread nD τ).loc main_arg9)) := by
  refine (tail_main_v101 _).trans ((congrArg Rep.cut2 ((arr m c 7).trans (v7 m c))).trans ?_)
  rw [Rep.cut2_V, V_main_arg0, pkV, cp2]

theorem at_main_v43 (c : Dev nD) : Pipeline.afterTail₀ cfgs (dats m) 0 (V0 m) [hostOps1] c main_v43
    = Rep.cut3 (Rep.total (m ((c.tc : Thread nD τ).loc main_arg0))) := by
  refine (tail_main_v43 _).trans ((congrArg Rep.cut3 ((arr m c 4).trans (v4 m c))).trans ?_)
  rw [V_main_arg0]

theorem at_main_v63 (c : Dev nD) : Pipeline.afterTail₀ cfgs (dats m) 0 (V0 m) [hostOps1] c main_v63
    = upd (Rep.cut3 (Rep.total (m ((c.tc : Thread nD τ).loc main_arg0)))) (m ((c.tc : Thread nD τ).loc main_arg10)) (m ((c.tc : Thread nD τ).loc main_arg11)) (m ((c.tc : Thread nD τ).loc main_arg12)) := by
  refine (tail_main_v63 _).trans ((congrArg Rep.cut3 ((arr m c 5).trans (v5 m c))).trans ?_)
  rw [Rep.cut3_D, V_main_arg0, pkW, pkM, pkV, cp3, cp3, cp3]

theorem at_main_v83 (c : Dev nD) : Pipeline.afterTail₀ cfgs (dats m) 0 (V0 m) [hostOps1] c main_v83
    = newM (Rep.cut3 (Rep.total (m ((c.tc : Thread nD τ).loc main_arg0)))) (m ((c.tc : Thread nD τ).loc main_arg11)) := by
  refine (tail_main_v83 _).trans ((congrArg Rep.cut3 ((arr m c 6).trans (v6 m c))).trans ?_)
  rw [Rep.cut3_M, V_main_arg0, pkM, cp3]

theorem at_main_v103 (c : Dev nD) : Pipeline.afterTail₀ cfgs (dats m) 0 (V0 m) [hostOps1] c main_v103
    = newV (Rep.cut3 (Rep.total (m ((c.tc : Thread nD τ).loc main_arg0)))) (m ((c.tc : Thread nD τ).loc main_arg12)) := by
  refine (tail_main_v103 _).trans ((congrArg Rep.cut3 ((arr m c 7).trans (v7 m c))).trans ?_)
  rw [Rep.cut3_V, V_main_arg0, pkV, cp3]

theorem at_main_v45 (c : Dev nD) : Pipeline.afterTail₀ cfgs (dats m) 0 (V0 m) [hostOps1] c main_v45
    = Rep.cut4 (Rep.total (m ((c.tc : Thread nD τ).loc main_arg0))) := by
  refine (tail_main_v45 _).trans ((congrArg Rep.cut4 ((arr m c 4).trans (v4 m c))).trans ?_)
  rw [V_main_arg0]

theorem at_main_v65 (c : Dev nD) : Pipeline.afterTail₀ cfgs (dats m) 0 (V0 m) [hostOps1] c main_v65
    = upd (Rep.cut4 (Rep.total (m ((c.tc : Thread nD τ).loc main_arg0)))) (m ((c.tc : Thread nD τ).loc main_arg13)) (m ((c.tc : Thread nD τ).loc main_arg14)) (m ((c.tc : Thread nD τ).loc main_arg15)) := by
  refine (tail_main_v65 _).trans ((congrArg Rep.cut4 ((arr m c 5).trans (v5 m c))).trans ?_)
  rw [Rep.cut4_D, V_main_arg0, pkW, pkM, pkV, cp4, cp4, cp4]

theorem at_main_v85 (c : Dev nD) : Pipeline.afterTail₀ cfgs (dats m) 0 (V0 m) [hostOps1] c main_v85
    = newM (Rep.cut4 (Rep.total (m ((c.tc : Thread nD τ).loc main_arg0)))) (m ((c.tc : Thread nD τ).loc main_arg14)) := by
  refine (tail_main_v85 _).trans ((congrArg Rep.cut4 ((arr m c 6).trans (v6 m c))).trans ?_)
  rw [Rep.cut4_M, V_main_arg0, pkM, cp4]

theorem at_main_v105 (c : Dev nD) : Pipeline.afterTail₀ cfgs (dats m) 0 (V0 m) [hostOps1] c main_v105
    = newV (Rep.cut4 (Rep.total (m ((c.tc : Thread nD τ).loc main_arg0)))) (m ((c.tc : Thread nD τ).loc main_arg15)) := by
  refine (tail_main_v105 _).trans ((congrArg Rep.cut4 ((arr m c 7).trans (v7 m c))).trans ?_)
  rw [Rep.cut4_V, V_main_arg0, pkV, cp4]

theorem at_main_v47 (c : Dev nD) : Pipeline.afterTail₀ cfgs (dats m) 0 (V0 m) [hostOps1] c main_v47
    = Rep.cut5 (Rep.total (m ((c.tc : Thread nD τ).loc main_arg0))) := by
  refine (tail_main_v47 _).trans ((congrArg Rep.cut5 ((arr m c 4).trans (v4 m c))).trans ?_)
  rw [V_main_arg0]

theorem at_main_v67 (c : Dev nD) : Pipeline.afterTail₀ cfgs (dats m) 0 (V0 m) [hostOps1] c main_v67
    = upd (Rep.cut5 (Rep.total (m ((c.tc : Thread nD τ).loc main_arg0)))) (m ((c.tc : Thread nD τ).loc main_arg16)) (m ((c.tc : Thread nD τ).loc main_arg17)) (m ((c.tc : Thread nD τ).loc main_arg18)) := by
  refine (tail_main_v67 _).trans ((congrArg Rep.cut5 ((arr m c 5).trans (v5 m c))).trans ?_)
  rw [Rep.cut5_D, V_main_arg0, pkW, pkM, pkV, cp5, cp5, cp5]

theorem at_main_v87 (c : Dev nD) : Pipeline.afterTail₀ cfgs (dats m) 0 (V0 m) [hostOps1] c main_v87
    = newM (Rep.cut5 (Rep.total (m ((c.tc : Thread nD τ).loc main_arg0)))) (m ((c.tc : Thread nD τ).loc main_arg17)) := by
  refine (tail_main_v87 _).trans ((congrArg Rep.cut5 ((arr m c 6).trans (v6 m c))).trans ?_)
  rw [Rep.cut5_M, V_main_arg0, pkM, cp5]

theorem at_main_v107 (c : Dev nD) : Pipeline.afterTail₀ cfgs (dats m) 0 (V0 m) [hostOps1] c main_v107
    = newV (Rep.cut5 (Rep.total (m ((c.tc : Thread nD τ).loc main_arg0)))) (m ((c.tc : Thread nD τ).loc main_arg18)) := by
  refine (tail_main_v107 _).trans ((congrArg Rep.cut5 ((arr m c 7).trans (v7 m c))).trans ?_)
  rw [Rep.cut5_V, V_main_arg0, pkV, cp5]

theorem at_main_v49 (c : Dev nD) : Pipeline.afterTail₀ cfgs (dats m) 0 (V0 m) [hostOps1] c main_v49
    = Rep.cut6 (Rep.total (m ((c.tc : Thread nD τ).loc main_arg0))) := by
  refine (tail_main_v49 _).trans ((congrArg Rep.cut6 ((arr m c 4).trans (v4 m c))).trans ?_)
  rw [V_main_arg0]

theorem at_main_v69 (c : Dev nD) : Pipeline.afterTail₀ cfgs (dats m) 0 (V0 m) [hostOps1] c main_v69
    = upd (Rep.cut6 (Rep.total (m ((c.tc : Thread nD τ).loc main_arg0)))) (m ((c.tc : Thread nD τ).loc main_arg19)) (m ((c.tc : Thread nD τ).loc main_arg20)) (m ((c.tc : Thread nD τ).loc main_arg21)) := by
  refine (tail_main_v69 _).trans ((congrArg Rep.cut6 ((arr m c 5).trans (v5 m c))).trans ?_)
  rw [Rep.cut6_D, V_main_arg0, pkW, pkM, pkV, cp6, cp6, cp6]

theorem at_main_v89 (c : Dev nD) : Pipeline.afterTail₀ cfgs (dats m) 0 (V0 m) [hostOps1] c main_v89
    = newM (Rep.cut6 (Rep.total (m ((c.tc : Thread nD τ).loc main_arg0)))) (m ((c.tc : Thread nD τ).loc main_arg20)) := by
  refine (tail_main_v89 _).trans ((congrArg Rep.cut6 ((arr m c 6).trans (v6 m c))).trans ?_)
  rw [Rep.cut6_M, V_main_arg0, pkM, cp6]

theorem at_main_v109 (c : Dev nD) : Pipeline.afterTail₀ cfgs (dats m) 0 (V0 m) [hostOps1] c main_v109
    = newV (Rep.cut6 (Rep.total (m ((c.tc : Thread nD τ).loc main_arg0)))) (m ((c.tc : Thread nD τ).loc main_arg21)) := by
  refine (tail_main_v109 _).trans ((congrArg Rep.cut6 ((arr m c 7).trans (v7 m c))).trans ?_)
  rw [Rep.cut6_V, V_main_arg0, pkV, cp6]

theorem at_main_v51 (c : Dev nD) : Pipeline.afterTail₀ cfgs (dats m) 0 (V0 m) [hostOps1] c main_v51
    = Rep.cut7 (Rep.total (m ((c.tc : Thread nD τ).loc main_arg0))) := by
  refine (tail_main_v51 _).trans ((congrArg Rep.cut7 ((arr m c 4).trans (v4 m c))).trans ?_)
  rw [V_main_arg0]

theorem at_main_v71 (c : Dev nD) : Pipeline.afterTail₀ cfgs (dats m) 0 (V0 m) [hostOps1] c main_v71
    = upd (Rep.cut7 (Rep.total (m ((c.tc : Thread nD τ).loc main_arg0)))) (m ((c.tc : Thread nD τ).loc main_arg22)) (m ((c.tc : Thread nD τ).loc main_arg23)) (m ((c.tc : Thread nD τ).loc main_arg24)) := by
  refine (tail_main_v71 _).trans ((congrArg Rep.cut7 ((arr m c 5).trans (v5 m c))).trans ?_)
  rw [Rep.cut7_D, V_main_arg0, pkW, pkM, pkV, cp7, cp7, cp7]

theorem at_main_v91 (c : Dev nD) : Pipeline.afterTail₀ cfgs (dats m) 0 (V0 m) [hostOps1] c main_v91
    = newM (Rep.cut7 (Rep.total (m ((c.tc : Thread nD τ).loc main_arg0)))) (m ((c.tc : Thread nD τ).loc main_arg23)) := by
  refine (tail_main_v91 _).trans ((congrArg Rep.cut7 ((arr m c 6).trans (v6 m c))).trans ?_)
  rw [Rep.cut7_M, V_main_arg0, pkM, cp7]

theorem at_main_v111 (c : Dev nD) : Pipeline.afterTail₀ cfgs (dats m) 0 (V0 m) [hostOps1] c main_v111
    = newV (Rep.cut7 (Rep.total (m ((c.tc : Thread nD τ).loc main_arg0)))) (m ((c.tc : Thread nD τ).loc main_arg24)) := by
  refine (tail_main_v111 _).trans ((congrArg Rep.cut7 ((arr m c 7).trans (v7 m c))).trans ?_)
  rw [Rep.cut7_V, V_main_arg0, pkV, cp7]

theorem at_main_v52 (c : Dev nD) : Pipeline.afterTail₀ cfgs (dats m) 0 (V0 m) [hostOps1] c main_v52
    = Rep.cut8 (Rep.total (m ((c.tc : Thread nD τ).loc main_arg0))) := by
  refine (tail_main_v52 _).trans ((congrArg Rep.cut8 ((arr m c 4).trans (v4 m c))).trans ?_)
  rw [V_main_arg0]

theorem at_main_v72 (c : Dev nD) : Pipeline.afterTail₀ cfgs (dats m) 0 (V0 m) [hostOps1] c main_v72
    = upd (Rep.cut8 (Rep.total (m ((c.tc : Thread nD τ).loc main_arg0)))) (m ((c.tc : Thread nD τ).loc main_arg25)) (m ((c.tc : Thread nD τ).loc main_arg26)) (m ((c.tc : Thread nD τ).loc main_arg27)) := by
  refine (tail_main_v72 _).trans ((congrArg Rep.cut8 ((arr m c 5).trans (v5 m c))).trans ?_)
  rw [Rep.cut8_D, V_main_arg0, pkW, pkM, pkV, cp8, cp8, cp8]

theorem at_main_v92 (c : Dev nD) : Pipeline.afterTail₀ cfgs (dats m) 0 (V0 m) [hostOps1] c main_v92
    = newM (Rep.cut8 (Rep.total (m ((c.tc : Thread nD τ).loc main_arg0)))) (m ((c.tc : Thread nD τ).loc main_arg26)) := by
  refine (tail_main_v92 _).trans ((congrArg Rep.cut8 ((arr m c 6).trans (v6 m c))).trans ?_)
  rw [Rep.cut8_M, V_main_arg0, pkM, cp8]

theorem at_main_v112 (c : Dev nD) : Pipeline.afterTail₀ cfgs (dats m) 0 (V0 m) [hostOps1] c main_v112
    = newV (Rep.cut8 (Rep.total (m ((c.tc : Thread nD τ).loc main_arg0)))) (m ((c.tc : Thread nD τ).loc main_arg27)) := by
  refine (tail_main_v112 _).trans ((congrArg Rep.cut8 ((arr m c 7).trans (v7 m c))).trans ?_)
  rw [Rep.cut8_V, V_main_arg0, pkV, cp8]

/-- Every run ends with the results at the mathematics, the arguments as launched and every counter at zero. -/
theorem run : θ_run defs (onTc (τ := τ) (main (F := Ideal))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21) ∧ r.2.mem ((c.tc : Thread nD τ).loc main_arg22) = m ((c.tc : Thread nD τ).loc main_arg22) ∧ r.2.mem ((c.tc : Thread nD τ).loc main_arg23) = m ((c.tc : Thread nD τ).loc main_arg23) ∧ r.2.mem ((c.tc : Thread nD τ).loc main_arg24) = m ((c.tc : Thread nD τ).loc main_arg24) ∧ r.2.mem ((c.tc : Thread nD τ).loc main_arg25) = m ((c.tc : Thread nD τ).loc main_arg25) ∧ r.2.mem ((c.tc : Thread nD τ).loc main_arg26) = m ((c.tc : Thread nD τ).loc main_arg26) ∧ r.2.mem ((c.tc : Thread nD τ).loc main_arg27) = m ((c.tc : Thread nD τ).loc main_arg27))
      ∧ r.2.mem ((c.tc : Thread nD τ).loc main_v54) = Rep.cut9 (Rep.total (m ((c.tc : Thread nD τ).loc main_arg0)))
      ∧ r.2.mem ((c.tc : Thread nD τ).loc main_v37) = Rep.cut0 (Rep.total (m ((c.tc : Thread nD τ).loc main_arg0)))
      ∧ r.2.mem ((c.tc : Thread nD τ).loc main_v57) = upd (Rep.cut0 (Rep.total (m ((c.tc : Thread nD τ).loc main_arg0)))) (m ((c.tc : Thread nD τ).loc main_arg1)) (m ((c.tc : Thread nD τ).loc main_arg2)) (m ((c.tc : Thread nD τ).loc main_arg3))
      ∧ r.2.mem ((c.tc : Thread nD τ).loc main_v77) = newM (Rep.cut0 (Rep.total (m ((c.tc : Thread nD τ).loc main_arg0)))) (m ((c.tc : Thread nD τ).loc main_arg2))
      ∧ r.2.mem ((c.tc : Thread nD τ).loc main_v97) = newV (Rep.cut0 (Rep.total (m ((c.tc : Thread nD τ).loc main_arg0)))) (m ((c.tc : Thread nD τ).loc main_arg3))
      ∧ r.2.mem ((c.tc : Thread nD τ).loc main_v39) = Rep.cut1 (Rep.total (m ((c.tc : Thread nD τ).loc main_arg0)))
      ∧ r.2.mem ((c.tc : Thread nD τ).loc main_v59) = upd (Rep.cut1 (Rep.total (m ((c.tc : Thread nD τ).loc main_arg0)))) (m ((c.tc : Thread nD τ).loc main_arg4)) (m ((c.tc : Thread nD τ).loc main_arg5)) (m ((c.tc : Thread nD τ).loc main_arg6))
      ∧ r.2.mem ((c.tc : Thread nD τ).loc main_v79) = newM (Rep.cut1 (Rep.total (m ((c.tc : Thread nD τ).loc main_arg0)))) (m ((c.tc : Thread nD τ).loc main_arg5))
      ∧ r.2.mem ((c.tc : Thread nD τ).loc main_v99) = newV (Rep.cut1 (Rep.total (m ((c.tc : Thread nD τ).loc main_arg0)))) (m ((c.tc : Thread nD τ).loc main_arg6))
      ∧ r.2.mem ((c.tc : Thread nD τ).loc main_v41) = Rep.cut2 (Rep.total (m ((c.tc : Thread nD τ).loc main_arg0)))
      ∧ r.2.mem ((c.tc : Thread nD τ).loc main_v61) = upd (Rep.cut2 (Rep.total (m ((c.tc : Thread nD τ).loc main_arg0)))) (m ((c.tc : Thread nD τ).loc main_arg7)) (m ((c.tc : Thread nD τ).loc main_arg8)) (m ((c.tc : Thread nD τ).loc main_arg9))
      ∧ r.2.mem ((c.tc : Thread nD τ).loc main_v81) = newM (Rep.cut2 (Rep.total (m ((c.tc : Thread nD τ).loc main_arg0)))) (m ((c.tc : Thread nD τ).loc main_arg8))
      ∧ r.2.mem ((c.tc : Thread nD τ).loc main_v101) = newV (Rep.cut2 (Rep.total (m ((c.tc : Thread nD τ).loc main_arg0)))) (m ((c.tc : Thread nD τ).loc main_arg9))
      ∧ r.2.mem ((c.tc : Thread nD τ).loc main_v43) = Rep.cut3 (Rep.total (m ((c.tc : Thread nD τ).loc main_arg0)))
      ∧ r.2.mem ((c.tc : Thread nD τ).loc main_v63) = upd (Rep.cut3 (Rep.total (m ((c.tc : Thread nD τ).loc main_arg0)))) (m ((c.tc : Thread nD τ).loc main_arg10)) (m ((c.tc : Thread nD τ).loc main_arg11)) (m ((c.tc : Thread nD τ).loc main_arg12))
      ∧ r.2.mem ((c.tc : Thread nD τ).loc main_v83) = newM (Rep.cut3 (Rep.total (m ((c.tc : Thread nD τ).loc main_arg0)))) (m ((c.tc : Thread nD τ).loc main_arg11))
      ∧ r.2.mem ((c.tc : Thread nD τ).loc main_v103) = newV (Rep.cut3 (Rep.total (m ((c.tc : Thread nD τ).loc main_arg0)))) (m ((c.tc : Thread nD τ).loc main_arg12))
      ∧ r.2.mem ((c.tc : Thread nD τ).loc main_v45) = Rep.cut4 (Rep.total (m ((c.tc : Thread nD τ).loc main_arg0)))
      ∧ r.2.mem ((c.tc : Thread nD τ).loc main_v65) = upd (Rep.cut4 (Rep.total (m ((c.tc : Thread nD τ).loc main_arg0)))) (m ((c.tc : Thread nD τ).loc main_arg13)) (m ((c.tc : Thread nD τ).loc main_arg14)) (m ((c.tc : Thread nD τ).loc main_arg15))
      ∧ r.2.mem ((c.tc : Thread nD τ).loc main_v85) = newM (Rep.cut4 (Rep.total (m ((c.tc : Thread nD τ).loc main_arg0)))) (m ((c.tc : Thread nD τ).loc main_arg14))
      ∧ r.2.mem ((c.tc : Thread nD τ).loc main_v105) = newV (Rep.cut4 (Rep.total (m ((c.tc : Thread nD τ).loc main_arg0)))) (m ((c.tc : Thread nD τ).loc main_arg15))
      ∧ r.2.mem ((c.tc : Thread nD τ).loc main_v47) = Rep.cut5 (Rep.total (m ((c.tc : Thread nD τ).loc main_arg0)))
      ∧ r.2.mem ((c.tc : Thread nD τ).loc main_v67) = upd (Rep.cut5 (Rep.total (m ((c.tc : Thread nD τ).loc main_arg0)))) (m ((c.tc : Thread nD τ).loc main_arg16)) (m ((c.tc : Thread nD τ).loc main_arg17)) (m ((c.tc : Thread nD τ).loc main_arg18))
      ∧ r.2.mem ((c.tc : Thread nD τ).loc main_v87) = newM (Rep.cut5 (Rep.total (m ((c.tc : Thread nD τ).loc main_arg0)))) (m ((c.tc : Thread nD τ).loc main_arg17))
      ∧ r.2.mem ((c.tc : Thread nD τ).loc main_v107) = newV (Rep.cut5 (Rep.total (m ((c.tc : Thread nD τ).loc main_arg0)))) (m ((c.tc : Thread nD τ).loc main_arg18))
      ∧ r.2.mem ((c.tc : Thread nD τ).loc main_v49) = Rep.cut6 (Rep.total (m ((c.tc : Thread nD τ).loc main_arg0)))
      ∧ r.2.mem ((c.tc : Thread nD τ).loc main_v69) = upd (Rep.cut6 (Rep.total (m ((c.tc : Thread nD τ).loc main_arg0)))) (m ((c.tc : Thread nD τ).loc main_arg19)) (m ((c.tc : Thread nD τ).loc main_arg20)) (m ((c.tc : Thread nD τ).loc main_arg21))
      ∧ r.2.mem ((c.tc : Thread nD τ).loc main_v89) = newM (Rep.cut6 (Rep.total (m ((c.tc : Thread nD τ).loc main_arg0)))) (m ((c.tc : Thread nD τ).loc main_arg20))
      ∧ r.2.mem ((c.tc : Thread nD τ).loc main_v109) = newV (Rep.cut6 (Rep.total (m ((c.tc : Thread nD τ).loc main_arg0)))) (m ((c.tc : Thread nD τ).loc main_arg21))
      ∧ r.2.mem ((c.tc : Thread nD τ).loc main_v51) = Rep.cut7 (Rep.total (m ((c.tc : Thread nD τ).loc main_arg0)))
      ∧ r.2.mem ((c.tc : Thread nD τ).loc main_v71) = upd (Rep.cut7 (Rep.total (m ((c.tc : Thread nD τ).loc main_arg0)))) (m ((c.tc : Thread nD τ).loc main_arg22)) (m ((c.tc : Thread nD τ).loc main_arg23)) (m ((c.tc : Thread nD τ).loc main_arg24))
      ∧ r.2.mem ((c.tc : Thread nD τ).loc main_v91) = newM (Rep.cut7 (Rep.total (m ((c.tc : Thread nD τ).loc main_arg0)))) (m ((c.tc : Thread nD τ).loc main_arg23))
      ∧ r.2.mem ((c.tc : Thread nD τ).loc main_v111) = newV (Rep.cut7 (Rep.total (m ((c.tc : Thread nD τ).loc main_arg0)))) (m ((c.tc : Thread nD τ).loc main_arg24))
      ∧ r.2.mem ((c.tc : Thread nD τ).loc main_v52) = Rep.cut8 (Rep.total (m ((c.tc : Thread nD τ).loc main_arg0)))
      ∧ r.2.mem ((c.tc : Thread nD τ).loc main_v72) = upd (Rep.cut8 (Rep.total (m ((c.tc : Thread nD τ).loc main_arg0)))) (m ((c.tc : Thread nD τ).loc main_arg25)) (m ((c.tc : Thread nD τ).loc main_arg26)) (m ((c.tc : Thread nD τ).loc main_arg27))
      ∧ r.2.mem ((c.tc : Thread nD τ).loc main_v92) = newM (Rep.cut8 (Rep.total (m ((c.tc : Thread nD τ).loc main_arg0)))) (m ((c.tc : Thread nD τ).loc main_arg26))
      ∧ r.2.mem ((c.tc : Thread nD τ).loc main_v112) = newV (Rep.cut8 (Rep.total (m ((c.tc : Thread nD τ).loc main_arg0)))) (m ((c.tc : Thread nD τ).loc main_arg27)))
      ∧ r.2.sem = fun _ => 0) := by
  refine (θ_run defs _ _).mono (fun r h => ⟨fun c => ⟨h.1.1 c, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩, h.2.2⟩) (θ_run_and (frame m ρ) (run_main_quiescent m ρ))
  · exact ((h.2.1 c).2 main_v54 (Pipeline.mem_restRefs_of main_v54 (by decide) (by decide))).trans (at_main_v54 m c)
  · exact ((h.2.1 c).2 main_v37 (Pipeline.mem_restRefs_of main_v37 (by decide) (by decide))).trans (at_main_v37 m c)
  · exact ((h.2.1 c).2 main_v57 (Pipeline.mem_restRefs_of main_v57 (by decide) (by decide))).trans (at_main_v57 m c)
  · exact ((h.2.1 c).2 main_v77 (Pipeline.mem_restRefs_of main_v77 (by decide) (by decide))).trans (at_main_v77 m c)
  · exact ((h.2.1 c).2 main_v97 (Pipeline.mem_restRefs_of main_v97 (by decide) (by decide))).trans (at_main_v97 m c)
  · exact ((h.2.1 c).2 main_v39 (Pipeline.mem_restRefs_of main_v39 (by decide) (by decide))).trans (at_main_v39 m c)
  · exact ((h.2.1 c).2 main_v59 (Pipeline.mem_restRefs_of main_v59 (by decide) (by decide))).trans (at_main_v59 m c)
  · exact ((h.2.1 c).2 main_v79 (Pipeline.mem_restRefs_of main_v79 (by decide) (by decide))).trans (at_main_v79 m c)
  · exact ((h.2.1 c).2 main_v99 (Pipeline.mem_restRefs_of main_v99 (by decide) (by decide))).trans (at_main_v99 m c)
  · exact ((h.2.1 c).2 main_v41 (Pipeline.mem_restRefs_of main_v41 (by decide) (by decide))).trans (at_main_v41 m c)
  · exact ((h.2.1 c).2 main_v61 (Pipeline.mem_restRefs_of main_v61 (by decide) (by decide))).trans (at_main_v61 m c)
  · exact ((h.2.1 c).2 main_v81 (Pipeline.mem_restRefs_of main_v81 (by decide) (by decide))).trans (at_main_v81 m c)
  · exact ((h.2.1 c).2 main_v101 (Pipeline.mem_restRefs_of main_v101 (by decide) (by decide))).trans (at_main_v101 m c)
  · exact ((h.2.1 c).2 main_v43 (Pipeline.mem_restRefs_of main_v43 (by decide) (by decide))).trans (at_main_v43 m c)
  · exact ((h.2.1 c).2 main_v63 (Pipeline.mem_restRefs_of main_v63 (by decide) (by decide))).trans (at_main_v63 m c)
  · exact ((h.2.1 c).2 main_v83 (Pipeline.mem_restRefs_of main_v83 (by decide) (by decide))).trans (at_main_v83 m c)
  · exact ((h.2.1 c).2 main_v103 (Pipeline.mem_restRefs_of main_v103 (by decide) (by decide))).trans (at_main_v103 m c)
  · exact ((h.2.1 c).2 main_v45 (Pipeline.mem_restRefs_of main_v45 (by decide) (by decide))).trans (at_main_v45 m c)
  · exact ((h.2.1 c).2 main_v65 (Pipeline.mem_restRefs_of main_v65 (by decide) (by decide))).trans (at_main_v65 m c)
  · exact ((h.2.1 c).2 main_v85 (Pipeline.mem_restRefs_of main_v85 (by decide) (by decide))).trans (at_main_v85 m c)
  · exact ((h.2.1 c).2 main_v105 (Pipeline.mem_restRefs_of main_v105 (by decide) (by decide))).trans (at_main_v105 m c)
  · exact ((h.2.1 c).2 main_v47 (Pipeline.mem_restRefs_of main_v47 (by decide) (by decide))).trans (at_main_v47 m c)
  · exact ((h.2.1 c).2 main_v67 (Pipeline.mem_restRefs_of main_v67 (by decide) (by decide))).trans (at_main_v67 m c)
  · exact ((h.2.1 c).2 main_v87 (Pipeline.mem_restRefs_of main_v87 (by decide) (by decide))).trans (at_main_v87 m c)
  · exact ((h.2.1 c).2 main_v107 (Pipeline.mem_restRefs_of main_v107 (by decide) (by decide))).trans (at_main_v107 m c)
  · exact ((h.2.1 c).2 main_v49 (Pipeline.mem_restRefs_of main_v49 (by decide) (by decide))).trans (at_main_v49 m c)
  · exact ((h.2.1 c).2 main_v69 (Pipeline.mem_restRefs_of main_v69 (by decide) (by decide))).trans (at_main_v69 m c)
  · exact ((h.2.1 c).2 main_v89 (Pipeline.mem_restRefs_of main_v89 (by decide) (by decide))).trans (at_main_v89 m c)
  · exact ((h.2.1 c).2 main_v109 (Pipeline.mem_restRefs_of main_v109 (by decide) (by decide))).trans (at_main_v109 m c)
  · exact ((h.2.1 c).2 main_v51 (Pipeline.mem_restRefs_of main_v51 (by decide) (by decide))).trans (at_main_v51 m c)
  · exact ((h.2.1 c).2 main_v71 (Pipeline.mem_restRefs_of main_v71 (by decide) (by decide))).trans (at_main_v71 m c)
  · exact ((h.2.1 c).2 main_v91 (Pipeline.mem_restRefs_of main_v91 (by decide) (by decide))).trans (at_main_v91 m c)
  · exact ((h.2.1 c).2 main_v111 (Pipeline.mem_restRefs_of main_v111 (by decide) (by decide))).trans (at_main_v111 m c)
  · exact ((h.2.1 c).2 main_v52 (Pipeline.mem_restRefs_of main_v52 (by decide) (by decide))).trans (at_main_v52 m c)
  · exact ((h.2.1 c).2 main_v72 (Pipeline.mem_restRefs_of main_v72 (by decide) (by decide))).trans (at_main_v72 m c)
  · exact ((h.2.1 c).2 main_v92 (Pipeline.mem_restRefs_of main_v92 (by decide) (by decide))).trans (at_main_v92 m c)
  · exact ((h.2.1 c).2 main_v112 (Pipeline.mem_restRefs_of main_v112 (by decide) (by decide))).trans (at_main_v112 m c)

end Cert.AdRepIdeal.Val

end
-- ==== Proof.AdRepRef.lean ====
/- The reference's results are the mathematics. -/
module

public import proofs.«01_k».proof.Proof.AdPack
public import proofs.«01_k».proof.Proof.Gen.AdRepRefIdeal.Read

@[expose] public section

set_option maxRecDepth 16384

noncomputable section

namespace Cert.AdRepRefIdeal.Val

open Cert.AdRepRefIdeal Cert.AdRepRefIdeal.Gen Cert.AdRepRefIdeal.Read Cert.Spec Idealize.ShloMosaic Idealize.ShloMosaic.TcCoe Idealize.SL.Sem

variable (x0 : Ten 8 16 1024)

theorem r_total : val_main_v0 (F := Ideal) x0 = Rep.total x0 := by
  unfold val_main_v0 Rep.total
  funext y
  pointwise [val_main_cst]
  exact sum8_eq _

theorem r_G9 : val_main_v236 (F := Ideal) x0 = Rep.cut9 (Rep.total x0) := by
  unfold val_main_v236 val_main_v235 val_main_v1
  rw [r_total]
  rfl

theorem r_G0 : val_main_v3 (F := Ideal) x0 = Rep.cut0 (Rep.total x0) := by
  unfold val_main_v3 val_main_v2 val_main_v1
  rw [r_total]
  rfl

theorem r_M0 (x2 : (⟨2, ![2, 1024]⟩ : Shape).Idx → EReal) : val_main_v8 (F := Ideal) x0 x2 = newM (Rep.cut0 (Rep.total x0)) x2 := by
  unfold val_main_v8 val_main_v5 val_main_v4 val_main_v7 val_main_v6 newM
  rw [r_G0]
  generalize (Rep.cut0 (Rep.total x0)) = g
  funext y
  pointwise [val_main_cst_0, val_main_cst_1, moment]

theorem r_V0 (x3 : (⟨2, ![2, 1024]⟩ : Shape).Idx → EReal) : val_main_v14 (F := Ideal) x0 x3 = newV (Rep.cut0 (Rep.total x0)) x3 := by
  unfold val_main_v14 val_main_v10 val_main_v9 val_main_v13 val_main_v12 val_main_v11 newV
  rw [r_G0]
  generalize (Rep.cut0 (Rep.total x0)) = g
  funext y
  pointwise [val_main_cst_2, val_main_cst_3, moment2]

theorem r_D0 (x1 x2 x3 : (⟨2, ![2, 1024]⟩ : Shape).Idx → EReal) : val_main_v27 (F := Ideal) x0 x1 x2 x3 = upd (Rep.cut0 (Rep.total x0)) x1 x2 x3 := by
  unfold val_main_v27 val_main_v26 val_main_v25 val_main_v22 val_main_v16 val_main_v15 val_main_v21 val_main_v19 val_main_v18 val_main_v17 val_main_v20 val_main_v24 val_main_v23 upd
  rw [r_M0, r_V0]
  unfold newM newV
  generalize (Rep.cut0 (Rep.total x0)) = g
  funext y
  pointwise [val_main_cst_8, val_main_cst_4, val_main_cst_5, val_main_cst_6, val_main_cst_7, step]
  rw [div_c1, div_c2]

theorem r_G1 : val_main_v29 (F := Ideal) x0 = Rep.cut1 (Rep.total x0) := by
  unfold val_main_v29 val_main_v28 val_main_v1
  rw [r_total]
  rfl

theorem r_M1 (x5 : (⟨2, ![2, 1024]⟩ : Shape).Idx → EReal) : val_main_v34 (F := Ideal) x0 x5 = newM (Rep.cut1 (Rep.total x0)) x5 := by
  unfold val_main_v34 val_main_v31 val_main_v30 val_main_v33 val_main_v32 newM
  rw [r_G1]
  generalize (Rep.cut1 (Rep.total x0)) = g
  funext y
  pointwise [val_main_cst_9, val_main_cst_10, moment]

theorem r_V1 (x6 : (⟨2, ![2, 1024]⟩ : Shape).Idx → EReal) : val_main_v40 (F := Ideal) x0 x6 = newV (Rep.cut1 (Rep.total x0)) x6 := by
  unfold val_main_v40 val_main_v36 val_main_v35 val_main_v39 val_main_v38 val_main_v37 newV
  rw [r_G1]
  generalize (Rep.cut1 (Rep.total x0)) = g
  funext y
  pointwise [val_main_cst_11, val_main_cst_12, moment2]

theorem r_D1 (x4 x5 x6 : (⟨2, ![2, 1024]⟩ : Shape).Idx → EReal) : val_main_v53 (F := Ideal) x0 x4 x5 x6 = upd (Rep.cut1 (Rep.total x0)) x4 x5 x6 := by
  unfold val_main_v53 val_main_v52 val_main_v51 val_main_v48 val_main_v42 val_main_v41 val_main_v47 val_main_v45 val_main_v44 val_main_v43 val_main_v46 val_main_v50 val_main_v49 upd
  rw [r_M1, r_V1]
  unfold newM newV
  generalize (Rep.cut1 (Rep.total x0)) = g
  funext y
  pointwise [val_main_cst_17, val_main_cst_13, val_main_cst_14, val_main_cst_15, val_main_cst_16, step]
  rw [div_c1, div_c2]

theorem r_G2 : val_main_v55 (F := Ideal) x0 = Rep.cut2 (Rep.total x0) := by
  unfold val_main_v55 val_main_v54 val_main_v1
  rw [r_total]
  rfl

theorem r_M2 (x8 : (⟨2, ![3, 1024]⟩ : Shape).Idx → EReal) : val_main_v60 (F := Ideal) x0 x8 = newM (Rep.cut2 (Rep.total x0)) x8 := by
  unfold val_main_v60 val_main_v57 val_main_v56 val_main_v59 val_main_v58 newM
  rw [r_G2]
  generalize (Rep.cut2 (Rep.total x0)) = g
  funext y
  pointwise [val_main_cst_18, val_main_cst_19, moment]

theorem r_V2 (x9 : (⟨2, ![3, 1024]⟩ : Shape).Idx → EReal) : val_main_v66 (F := Ideal) x0 x9 = newV (Rep.cut2 (Rep.total x0)) x9 := by
  unfold val_main_v66 val_main_v62 val_main_v61 val_main_v65 val_main_v64 val_main_v63 newV
  rw [r_G2]
  generalize (Rep.cut2 (Rep.total x0)) = g
  funext y
  pointwise [val_main_cst_20, val_main_cst_21, moment2]

theorem r_D2 (x7 x8 x9 : (⟨2, ![3, 1024]⟩ : Shape).Idx → EReal) : val_main_v79 (F := Ideal) x0 x7 x8 x9 = upd (Rep.cut2 (Rep.total x0)) x7 x8 x9 := by
  unfold val_main_v79 val_main_v78 val_main_v77 val_main_v74 val_main_v68 val_main_v67 val_main_v73 val_main_v71 val_main_v70 val_main_v69 val_main_v72 val_main_v76 val_main_v75 upd
  rw [r_M2, r_V2]
  unfold newM newV
  generalize (Rep.cut2 (Rep.total x0)) = g
  funext y
  pointwise [val_main_cst_26, val_main_cst_22, val_main_cst_23, val_main_cst_24, val_main_cst_25, step]
  rw [div_c1, div_c2]

theorem r_G3 : val_main_v81 (F := Ideal) x0 = Rep.cut3 (Rep.total x0) := by
  unfold val_main_v81 val_main_v80 val_main_v1
  rw [r_total]
  rfl

theorem r_M3 (x11 : (⟨2, ![1, 128]⟩ : Shape).Idx → EReal) : val_main_v86 (F := Ideal) x0 x11 = newM (Rep.cut3 (Rep.total x0)) x11 := by
  unfold val_main_v86 val_main_v83 val_main_v82 val_main_v85 val_main_v84 newM
  rw [r_G3]
  generalize (Rep.cut3 (Rep.total x0)) = g
  funext y
  pointwise [val_main_cst_27, val_main_cst_28, moment]

theorem r_V3 (x12 : (⟨2, ![1, 128]⟩ : Shape).Idx → EReal) : val_main_v92 (F := Ideal) x0 x12 = newV (Rep.cut3 (Rep.total x0)) x12 := by
  unfold val_main_v92 val_main_v88 val_main_v87 val_main_v91 val_main_v90 val_main_v89 newV
  rw [r_G3]
  generalize (Rep.cut3 (Rep.total x0)) = g
  funext y
  pointwise [val_main_cst_29, val_main_cst_30, moment2]

theorem r_D3 (x10 x11 x12 : (⟨2, ![1, 128]⟩ : Shape).Idx → EReal) : val_main_v105 (F := Ideal) x0 x10 x11 x12 = upd (Rep.cut3 (Rep.total x0)) x10 x11 x12 := by
  unfold val_main_v105 val_main_v104 val_main_v103 val_main_v100 val_main_v94 val_main_v93 val_main_v99 val_main_v97 val_main_v96 val_main_v95 val_main_v98 val_main_v102 val_main_v101 upd
  rw [r_M3, r_V3]
  unfold newM newV
  generalize (Rep.cut3 (Rep.total x0)) = g
  funext y
  pointwise [val_main_cst_35, val_main_cst_31, val_main_cst_32, val_main_cst_33, val_main_cst_34, step]
  rw [div_c1, div_c2]

theorem r_G4 : val_main_v107 (F := Ideal) x0 = Rep.cut4 (Rep.total x0) := by
  unfold val_main_v107 val_main_v106 val_main_v1
  rw [r_total]
  rfl

theorem r_M4 (x14 : (⟨3, ![1, 2, 32]⟩ : Shape).Idx → EReal) : val_main_v112 (F := Ideal) x0 x14 = newM (Rep.cut4 (Rep.total x0)) x14 := by
  unfold val_main_v112 val_main_v109 val_main_v108 val_main_v111 val_main_v110 newM
  rw [r_G4]
  generalize (Rep.cut4 (Rep.total x0)) = g
  funext y
  pointwise [val_main_cst_36, val_main_cst_37, moment]

theorem r_V4 (x15 : (⟨3, ![1, 2, 32]⟩ : Shape).Idx → EReal) : val_main_v118 (F := Ideal) x0 x15 = newV (Rep.cut4 (Rep.total x0)) x15 := by
  unfold val_main_v118 val_main_v114 val_main_v113 val_main_v117 val_main_v116 val_main_v115 newV
  rw [r_G4]
  generalize (Rep.cut4 (Rep.total x0)) = g
  funext y
  pointwise [val_main_cst_38, val_main_cst_39, moment2]

theorem r_D4 (x13 x14 x15 : (⟨3, ![1, 2, 32]⟩ : Shape).Idx → EReal) : val_main_v131 (F := Ideal) x0 x13 x14 x15 = upd (Rep.cut4 (Rep.total x0)) x13 x14 x15 := by
  unfold val_main_v131 val_main_v130 val_main_v129 val_main_v126 val_main_v120 val_main_v119 val_main_v125 val_main_v123 val_main_v122 val_main_v121 val_main_v124 val_main_v128 val_main_v127 upd
  rw [r_M4, r_V4]
  unfold newM newV
  generalize (Rep.cut4 (Rep.total x0)) = g
  funext y
  pointwise [val_main_cst_44, val_main_cst_40, val_main_cst_41, val_main_cst_42, val_main_cst_43, step]
  rw [div_c1, div_c2]

theorem r_G5 : val_main_v133 (F := Ideal) x0 = Rep.cut5 (Rep.total x0) := by
  unfold val_main_v133 val_main_v132 val_main_v1
  rw [r_total]
  rfl

theorem r_M5 (x17 : (⟨3, ![1, 2, 32]⟩ : Shape).Idx → EReal) : val_main_v138 (F := Ideal) x0 x17 = newM (Rep.cut5 (Rep.total x0)) x17 := by
  unfold val_main_v138 val_main_v135 val_main_v134 val_main_v137 val_main_v136 newM
  rw [r_G5]
  generalize (Rep.cut5 (Rep.total x0)) = g
  funext y
  pointwise [val_main_cst_45, val_main_cst_46, moment]

theorem r_V5 (x18 : (⟨3, ![1, 2, 32]⟩ : Shape).Idx → EReal) : val_main_v144 (F := Ideal) x0 x18 = newV (Rep.cut5 (Rep.total x0)) x18 := by
  unfold val_main_v144 val_main_v140 val_main_v139 val_main_v143 val_main_v142 val_main_v141 newV
  rw [r_G5]
  generalize (Rep.cut5 (Rep.total x0)) = g
  funext y
  pointwise [val_main_cst_47, val_main_cst_48, moment2]

theorem r_D5 (x16 x17 x18 : (⟨3, ![1, 2, 32]⟩ : Shape).Idx → EReal) : val_main_v157 (F := Ideal) x0 x16 x17 x18 = upd (Rep.cut5 (Rep.total x0)) x16 x17 x18 := by
  unfold val_main_v157 val_main_v156 val_main_v155 val_main_v152 val_main_v146 val_main_v145 val_main_v151 val_main_v149 val_main_v148 val_main_v147 val_main_v150 val_main_v154 val_main_v153 upd
  rw [r_M5, r_V5]
  unfold newM newV
  generalize (Rep.cut5 (Rep.total x0)) = g
  funext y
  pointwise [val_main_cst_53, val_main_cst_49, val_main_cst_50, val_main_cst_51, val_main_cst_52, step]
  rw [div_c1, div_c2]

theorem r_G6 : val_main_v159 (F := Ideal) x0 = Rep.cut6 (Rep.total x0) := by
  unfold val_main_v159 val_main_v158 val_main_v1
  rw [r_total]
  rfl

theorem r_M6 (x20 : (⟨2, ![1, 32]⟩ : Shape).Idx → EReal) : val_main_v164 (F := Ideal) x0 x20 = newM (Rep.cut6 (Rep.total x0)) x20 := by
  unfold val_main_v164 val_main_v161 val_main_v160 val_main_v163 val_main_v162 newM
  rw [r_G6]
  generalize (Rep.cut6 (Rep.total x0)) = g
  funext y
  pointwise [val_main_cst_54, val_main_cst_55, moment]

theorem r_V6 (x21 : (⟨2, ![1, 32]⟩ : Shape).Idx → EReal) : val_main_v170 (F := Ideal) x0 x21 = newV (Rep.cut6 (Rep.total x0)) x21 := by
  unfold val_main_v170 val_main_v166 val_main_v165 val_main_v169 val_main_v168 val_main_v167 newV
  rw [r_G6]
  generalize (Rep.cut6 (Rep.total x0)) = g
  funext y
  pointwise [val_main_cst_56, val_main_cst_57, moment2]

theorem r_D6 (x19 x20 x21 : (⟨2, ![1, 32]⟩ : Shape).Idx → EReal) : val_main_v183 (F := Ideal) x0 x19 x20 x21 = upd (Rep.cut6 (Rep.total x0)) x19 x20 x21 := by
  unfold val_main_v183 val_main_v182 val_main_v181 val_main_v178 val_main_v172 val_main_v171 val_main_v177 val_main_v175 val_main_v174 val_main_v173 val_main_v176 val_main_v180 val_main_v179 upd
  rw [r_M6, r_V6]
  unfold newM newV
  generalize (Rep.cut6 (Rep.total x0)) = g
  funext y
  pointwise [val_main_cst_62, val_main_cst_58, val_main_cst_59, val_main_cst_60, val_main_cst_61, step]
  rw [div_c1, div_c2]

theorem r_G7 : val_main_v185 (F := Ideal) x0 = Rep.cut7 (Rep.total x0) := by
  unfold val_main_v185 val_main_v184 val_main_v1
  rw [r_total]
  rfl

theorem r_M7 (x23 : (⟨2, ![2, 2816]⟩ : Shape).Idx → EReal) : val_main_v190 (F := Ideal) x0 x23 = newM (Rep.cut7 (Rep.total x0)) x23 := by
  unfold val_main_v190 val_main_v187 val_main_v186 val_main_v189 val_main_v188 newM
  rw [r_G7]
  generalize (Rep.cut7 (Rep.total x0)) = g
  funext y
  pointwise [val_main_cst_63, val_main_cst_64, moment]

theorem r_V7 (x24 : (⟨2, ![2, 2816]⟩ : Shape).Idx → EReal) : val_main_v196 (F := Ideal) x0 x24 = newV (Rep.cut7 (Rep.total x0)) x24 := by
  unfold val_main_v196 val_main_v192 val_main_v191 val_main_v195 val_main_v194 val_main_v193 newV
  rw [r_G7]
  generalize (Rep.cut7 (Rep.total x0)) = g
  funext y
  pointwise [val_main_cst_65, val_main_cst_66, moment2]

theorem r_D7 (x22 x23 x24 : (⟨2, ![2, 2816]⟩ : Shape).Idx → EReal) : val_main_v209 (F := Ideal) x0 x22 x23 x24 = upd (Rep.cut7 (Rep.total x0)) x22 x23 x24 := by
  unfold val_main_v209 val_main_v208 val_main_v207 val_main_v204 val_main_v198 val_main_v197 val_main_v203 val_main_v201 val_main_v200 val_main_v199 val_main_v202 val_main_v206 val_main_v205 upd
  rw [r_M7, r_V7]
  unfold newM newV
  generalize (Rep.cut7 (Rep.total x0)) = g
  funext y
  pointwise [val_main_cst_71, val_main_cst_67, val_main_cst_68, val_main_cst_69, val_main_cst_70, step]
  rw [div_c1, div_c2]

theorem r_G8 : val_main_v210 (F := Ideal) x0 = Rep.cut8 (Rep.total x0) := by
  unfold val_main_v210 val_main_v1
  rw [r_total]
  rfl

theorem r_M8 (x26 : (⟨1, ![1024]⟩ : Shape).Idx → EReal) : val_main_v215 (F := Ideal) x0 x26 = newM (Rep.cut8 (Rep.total x0)) x26 := by
  unfold val_main_v215 val_main_v212 val_main_v211 val_main_v214 val_main_v213 newM
  rw [r_G8]
  generalize (Rep.cut8 (Rep.total x0)) = g
  funext y
  pointwise [val_main_cst_72, val_main_cst_73, moment]

theorem r_V8 (x27 : (⟨1, ![1024]⟩ : Shape).Idx → EReal) : val_main_v221 (F := Ideal) x0 x27 = newV (Rep.cut8 (Rep.total x0)) x27 := by
  unfold val_main_v221 val_main_v217 val_main_v216 val_main_v220 val_main_v219 val_main_v218 newV
  rw [r_G8]
  generalize (Rep.cut8 (Rep.total x0)) = g
  funext y
  pointwise [val_main_cst_74, val_main_cst_75, moment2]

theorem r_D8 (x25 x26 x27 : (⟨1, ![1024]⟩ : Shape).Idx → EReal) : val_main_v234 (F := Ideal) x0 x25 x26 x27 = upd (Rep.cut8 (Rep.total x0)) x25 x26 x27 := by
  unfold val_main_v234 val_main_v233 val_main_v232 val_main_v229 val_main_v223 val_main_v222 val_main_v228 val_main_v226 val_main_v225 val_main_v224 val_main_v227 val_main_v231 val_main_v230 upd
  rw [r_M8, r_V8]
  unfold newM newV
  generalize (Rep.cut8 (Rep.total x0)) = g
  funext y
  pointwise [val_main_cst_80, val_main_cst_76, val_main_cst_77, val_main_cst_78, val_main_cst_79, step]
  rw [div_c1, div_c2]

/-- What the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v236) = Rep.cut9 (Rep.total (m ((c.tc : Thread nD τ).loc main_arg0)))
      ∧ r.2.mem ((c.tc : Thread nD τ).loc main_v3) = Rep.cut0 (Rep.total (m ((c.tc : Thread nD τ).loc main_arg0)))
      ∧ r.2.mem ((c.tc : Thread nD τ).loc main_v27) = upd (Rep.cut0 (Rep.total (m ((c.tc : Thread nD τ).loc main_arg0)))) (m ((c.tc : Thread nD τ).loc main_arg1)) (m ((c.tc : Thread nD τ).loc main_arg2)) (m ((c.tc : Thread nD τ).loc main_arg3))
      ∧ r.2.mem ((c.tc : Thread nD τ).loc main_v8) = newM (Rep.cut0 (Rep.total (m ((c.tc : Thread nD τ).loc main_arg0)))) (m ((c.tc : Thread nD τ).loc main_arg2))
      ∧ r.2.mem ((c.tc : Thread nD τ).loc main_v14) = newV (Rep.cut0 (Rep.total (m ((c.tc : Thread nD τ).loc main_arg0)))) (m ((c.tc : Thread nD τ).loc main_arg3))
      ∧ r.2.mem ((c.tc : Thread nD τ).loc main_v29) = Rep.cut1 (Rep.total (m ((c.tc : Thread nD τ).loc main_arg0)))
      ∧ r.2.mem ((c.tc : Thread nD τ).loc main_v53) = upd (Rep.cut1 (Rep.total (m ((c.tc : Thread nD τ).loc main_arg0)))) (m ((c.tc : Thread nD τ).loc main_arg4)) (m ((c.tc : Thread nD τ).loc main_arg5)) (m ((c.tc : Thread nD τ).loc main_arg6))
      ∧ r.2.mem ((c.tc : Thread nD τ).loc main_v34) = newM (Rep.cut1 (Rep.total (m ((c.tc : Thread nD τ).loc main_arg0)))) (m ((c.tc : Thread nD τ).loc main_arg5))
      ∧ r.2.mem ((c.tc : Thread nD τ).loc main_v40) = newV (Rep.cut1 (Rep.total (m ((c.tc : Thread nD τ).loc main_arg0)))) (m ((c.tc : Thread nD τ).loc main_arg6))
      ∧ r.2.mem ((c.tc : Thread nD τ).loc main_v55) = Rep.cut2 (Rep.total (m ((c.tc : Thread nD τ).loc main_arg0)))
      ∧ r.2.mem ((c.tc : Thread nD τ).loc main_v79) = upd (Rep.cut2 (Rep.total (m ((c.tc : Thread nD τ).loc main_arg0)))) (m ((c.tc : Thread nD τ).loc main_arg7)) (m ((c.tc : Thread nD τ).loc main_arg8)) (m ((c.tc : Thread nD τ).loc main_arg9))
      ∧ r.2.mem ((c.tc : Thread nD τ).loc main_v60) = newM (Rep.cut2 (Rep.total (m ((c.tc : Thread nD τ).loc main_arg0)))) (m ((c.tc : Thread nD τ).loc main_arg8))
      ∧ r.2.mem ((c.tc : Thread nD τ).loc main_v66) = newV (Rep.cut2 (Rep.total (m ((c.tc : Thread nD τ).loc main_arg0)))) (m ((c.tc : Thread nD τ).loc main_arg9))
      ∧ r.2.mem ((c.tc : Thread nD τ).loc main_v81) = Rep.cut3 (Rep.total (m ((c.tc : Thread nD τ).loc main_arg0)))
      ∧ r.2.mem ((c.tc : Thread nD τ).loc main_v105) = upd (Rep.cut3 (Rep.total (m ((c.tc : Thread nD τ).loc main_arg0)))) (m ((c.tc : Thread nD τ).loc main_arg10)) (m ((c.tc : Thread nD τ).loc main_arg11)) (m ((c.tc : Thread nD τ).loc main_arg12))
      ∧ r.2.mem ((c.tc : Thread nD τ).loc main_v86) = newM (Rep.cut3 (Rep.total (m ((c.tc : Thread nD τ).loc main_arg0)))) (m ((c.tc : Thread nD τ).loc main_arg11))
      ∧ r.2.mem ((c.tc : Thread nD τ).loc main_v92) = newV (Rep.cut3 (Rep.total (m ((c.tc : Thread nD τ).loc main_arg0)))) (m ((c.tc : Thread nD τ).loc main_arg12))
      ∧ r.2.mem ((c.tc : Thread nD τ).loc main_v107) = Rep.cut4 (Rep.total (m ((c.tc : Thread nD τ).loc main_arg0)))
      ∧ r.2.mem ((c.tc : Thread nD τ).loc main_v131) = upd (Rep.cut4 (Rep.total (m ((c.tc : Thread nD τ).loc main_arg0)))) (m ((c.tc : Thread nD τ).loc main_arg13)) (m ((c.tc : Thread nD τ).loc main_arg14)) (m ((c.tc : Thread nD τ).loc main_arg15))
      ∧ r.2.mem ((c.tc : Thread nD τ).loc main_v112) = newM (Rep.cut4 (Rep.total (m ((c.tc : Thread nD τ).loc main_arg0)))) (m ((c.tc : Thread nD τ).loc main_arg14))
      ∧ r.2.mem ((c.tc : Thread nD τ).loc main_v118) = newV (Rep.cut4 (Rep.total (m ((c.tc : Thread nD τ).loc main_arg0)))) (m ((c.tc : Thread nD τ).loc main_arg15))
      ∧ r.2.mem ((c.tc : Thread nD τ).loc main_v133) = Rep.cut5 (Rep.total (m ((c.tc : Thread nD τ).loc main_arg0)))
      ∧ r.2.mem ((c.tc : Thread nD τ).loc main_v157) = upd (Rep.cut5 (Rep.total (m ((c.tc : Thread nD τ).loc main_arg0)))) (m ((c.tc : Thread nD τ).loc main_arg16)) (m ((c.tc : Thread nD τ).loc main_arg17)) (m ((c.tc : Thread nD τ).loc main_arg18))
      ∧ r.2.mem ((c.tc : Thread nD τ).loc main_v138) = newM (Rep.cut5 (Rep.total (m ((c.tc : Thread nD τ).loc main_arg0)))) (m ((c.tc : Thread nD τ).loc main_arg17))
      ∧ r.2.mem ((c.tc : Thread nD τ).loc main_v144) = newV (Rep.cut5 (Rep.total (m ((c.tc : Thread nD τ).loc main_arg0)))) (m ((c.tc : Thread nD τ).loc main_arg18))
      ∧ r.2.mem ((c.tc : Thread nD τ).loc main_v159) = Rep.cut6 (Rep.total (m ((c.tc : Thread nD τ).loc main_arg0)))
      ∧ r.2.mem ((c.tc : Thread nD τ).loc main_v183) = upd (Rep.cut6 (Rep.total (m ((c.tc : Thread nD τ).loc main_arg0)))) (m ((c.tc : Thread nD τ).loc main_arg19)) (m ((c.tc : Thread nD τ).loc main_arg20)) (m ((c.tc : Thread nD τ).loc main_arg21))
      ∧ r.2.mem ((c.tc : Thread nD τ).loc main_v164) = newM (Rep.cut6 (Rep.total (m ((c.tc : Thread nD τ).loc main_arg0)))) (m ((c.tc : Thread nD τ).loc main_arg20))
      ∧ r.2.mem ((c.tc : Thread nD τ).loc main_v170) = newV (Rep.cut6 (Rep.total (m ((c.tc : Thread nD τ).loc main_arg0)))) (m ((c.tc : Thread nD τ).loc main_arg21))
      ∧ r.2.mem ((c.tc : Thread nD τ).loc main_v185) = Rep.cut7 (Rep.total (m ((c.tc : Thread nD τ).loc main_arg0)))
      ∧ r.2.mem ((c.tc : Thread nD τ).loc main_v209) = upd (Rep.cut7 (Rep.total (m ((c.tc : Thread nD τ).loc main_arg0)))) (m ((c.tc : Thread nD τ).loc main_arg22)) (m ((c.tc : Thread nD τ).loc main_arg23)) (m ((c.tc : Thread nD τ).loc main_arg24))
      ∧ r.2.mem ((c.tc : Thread nD τ).loc main_v190) = newM (Rep.cut7 (Rep.total (m ((c.tc : Thread nD τ).loc main_arg0)))) (m ((c.tc : Thread nD τ).loc main_arg23))
      ∧ r.2.mem ((c.tc : Thread nD τ).loc main_v196) = newV (Rep.cut7 (Rep.total (m ((c.tc : Thread nD τ).loc main_arg0)))) (m ((c.tc : Thread nD τ).loc main_arg24))
      ∧ r.2.mem ((c.tc : Thread nD τ).loc main_v210) = Rep.cut8 (Rep.total (m ((c.tc : Thread nD τ).loc main_arg0)))
      ∧ r.2.mem ((c.tc : Thread nD τ).loc main_v234) = upd (Rep.cut8 (Rep.total (m ((c.tc : Thread nD τ).loc main_arg0)))) (m ((c.tc : Thread nD τ).loc main_arg25)) (m ((c.tc : Thread nD τ).loc main_arg26)) (m ((c.tc : Thread nD τ).loc main_arg27))
      ∧ r.2.mem ((c.tc : Thread nD τ).loc main_v215) = newM (Rep.cut8 (Rep.total (m ((c.tc : Thread nD τ).loc main_arg0)))) (m ((c.tc : Thread nD τ).loc main_arg26))
      ∧ r.2.mem ((c.tc : Thread nD τ).loc main_v221) = newV (Rep.cut8 (Rep.total (m ((c.tc : Thread nD τ).loc main_arg0)))) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) := by
  refine (θ_run defs _ _).mono (fun r h c => ?_) (Cert.AdRepRefIdeal.Value.run m ρ)
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64⟩ := h c
  exact ⟨h0.trans ((val_main_v236_eq ..).trans (r_G9 ..)),
    h1.trans ((val_main_v3_eq ..).trans (r_G0 ..)),
    h2.trans ((val_main_v27_eq ..).trans (r_D0 ..)),
    h3.trans ((val_main_v8_eq ..).trans (r_M0 ..)),
    h4.trans ((val_main_v14_eq ..).trans (r_V0 ..)),
    h5.trans ((val_main_v29_eq ..).trans (r_G1 ..)),
    h6.trans ((val_main_v53_eq ..).trans (r_D1 ..)),
    h7.trans ((val_main_v34_eq ..).trans (r_M1 ..)),
    h8.trans ((val_main_v40_eq ..).trans (r_V1 ..)),
    h9.trans ((val_main_v55_eq ..).trans (r_G2 ..)),
    h10.trans ((val_main_v79_eq ..).trans (r_D2 ..)),
    h11.trans ((val_main_v60_eq ..).trans (r_M2 ..)),
    h12.trans ((val_main_v66_eq ..).trans (r_V2 ..)),
    h13.trans ((val_main_v81_eq ..).trans (r_G3 ..)),
    h14.trans ((val_main_v105_eq ..).trans (r_D3 ..)),
    h15.trans ((val_main_v86_eq ..).trans (r_M3 ..)),
    h16.trans ((val_main_v92_eq ..).trans (r_V3 ..)),
    h17.trans ((val_main_v107_eq ..).trans (r_G4 ..)),
    h18.trans ((val_main_v131_eq ..).trans (r_D4 ..)),
    h19.trans ((val_main_v112_eq ..).trans (r_M4 ..)),
    h20.trans ((val_main_v118_eq ..).trans (r_V4 ..)),
    h21.trans ((val_main_v133_eq ..).trans (r_G5 ..)),
    h22.trans ((val_main_v157_eq ..).trans (r_D5 ..)),
    h23.trans ((val_main_v138_eq ..).trans (r_M5 ..)),
    h24.trans ((val_main_v144_eq ..).trans (r_V5 ..)),
    h25.trans ((val_main_v159_eq ..).trans (r_G6 ..)),
    h26.trans ((val_main_v183_eq ..).trans (r_D6 ..)),
    h27.trans ((val_main_v164_eq ..).trans (r_M6 ..)),
    h28.trans ((val_main_v170_eq ..).trans (r_V6 ..)),
    h29.trans ((val_main_v185_eq ..).trans (r_G7 ..)),
    h30.trans ((val_main_v209_eq ..).trans (r_D7 ..)),
    h31.trans ((val_main_v190_eq ..).trans (r_M7 ..)),
    h32.trans ((val_main_v196_eq ..).trans (r_V7 ..)),
    h33.trans ((val_main_v210_eq ..).trans (r_G8 ..)),
    h34.trans ((val_main_v234_eq ..).trans (r_D8 ..)),
    h35.trans ((val_main_v215_eq ..).trans (r_M8 ..)),
    h36.trans ((val_main_v221_eq ..).trans (r_V8 ..)),
    h37, h38, h39, h40, h41, h42, h43, h44, h45, h46, h47, h48, h49, h50, h51, h52, h53, h54, h55, h56, h57, h58, h59, h60, h61, h62, h63, h64⟩

end Cert.AdRepRefIdeal.Val

end
-- ==== Proof.lean ====
/- The claims: each program's frame, and the layer against its reference. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.HgIn
public import proofs.«01_k».proof.Proof.Gen.HgIn.Skeleton
public import proofs.«01_k».proof.Proof.Gen.HgIn.Launch
public import proofs.«01_k».proof.Proof.Gen.HgIn.Points
public import proofs.«01_k».proof.Proof.Gen.HgIn.Frame
public import proofs.«01_k».proof.Proof.Gen.HgInIdeal
public import proofs.«01_k».proof.Proof.Gen.HgInIdeal.Skeleton
public import proofs.«01_k».proof.Proof.Gen.HgInIdeal.Launch
public import proofs.«01_k».proof.Proof.Gen.HgInIdeal.Points
public import proofs.«01_k».proof.Proof.Gen.HgInIdeal.Frame
public import proofs.«01_k».proof.Proof.Gen.HgInRefIdeal
public import proofs.«01_k».proof.Proof.Gen.MbIn
public import proofs.«01_k».proof.Proof.Gen.MbIn.Skeleton
public import proofs.«01_k».proof.Proof.Gen.MbIn.Launch
public import proofs.«01_k».proof.Proof.Gen.MbIn.Points
public import proofs.«01_k».proof.Proof.Gen.MbIn.Frame
public import proofs.«01_k».proof.Proof.Gen.MbInIdeal
public import proofs.«01_k».proof.Proof.Gen.MbInIdeal.Skeleton
public import proofs.«01_k».proof.Proof.Gen.MbInIdeal.Launch
public import proofs.«01_k».proof.Proof.Gen.MbInIdeal.Points
public import proofs.«01_k».proof.Proof.Gen.MbInIdeal.Frame
public import proofs.«01_k».proof.Proof.Gen.MbInRefIdeal
public import proofs.«01_k».proof.Proof.Gen.HgOut
public import proofs.«01_k».proof.Proof.Gen.HgOut.Skeleton
public import proofs.«01_k».proof.Proof.Gen.HgOut.Launch
public import proofs.«01_k».proof.Proof.Gen.HgOut.Points
public import proofs.«01_k».proof.Proof.Gen.HgOut.Frame
public import proofs.«01_k».proof.Proof.Gen.HgOutIdeal
public import proofs.«01_k».proof.Proof.Gen.HgOutIdeal.Skeleton
public import proofs.«01_k».proof.Proof.Gen.HgOutIdeal.Launch
public import proofs.«01_k».proof.Proof.Gen.HgOutIdeal.Points
public import proofs.«01_k».proof.Proof.Gen.HgOutIdeal.Frame
public import proofs.«01_k».proof.Proof.Gen.HgOutRefIdeal
public import proofs.«01_k».proof.Proof.Gen.MbOut
public import proofs.«01_k».proof.Proof.Gen.MbOut.Skeleton
public import proofs.«01_k».proof.Proof.Gen.MbOut.Launch
public import proofs.«01_k».proof.Proof.Gen.MbOut.Points
public import proofs.«01_k».proof.Proof.Gen.MbOut.Frame
public import proofs.«01_k».proof.Proof.Gen.MbOutIdeal
public import proofs.«01_k».proof.Proof.Gen.MbOutIdeal.Skeleton
public import proofs.«01_k».proof.Proof.Gen.MbOutIdeal.Launch
public import proofs.«01_k».proof.Proof.Gen.MbOutIdeal.Points
public import proofs.«01_k».proof.Proof.Gen.MbOutIdeal.Frame
public import proofs.«01_k».proof.Proof.Gen.MbOutRefIdeal
public import proofs.«01_k».proof.Proof.Gen.MbConv.Frame
public import proofs.«01_k».proof.Proof.Gen.MbConvIdeal.Frame
public import proofs.«01_k».proof.Proof.Gen.MbConvRefIdeal
public import proofs.«01_k».proof.Proof.MbConvRun
public import proofs.«01_k».proof.Proof.MbConvRef
public import proofs.«01_k».proof.Proof.Gen.MbConvRefIdeal.Run
public import proofs.«01_k».proof.Proof.Gen.MbConvRefIdeal.Read
public import proofs.«01_k».proof.Proof.Gen.HgPre.Frame
public import proofs.«01_k».proof.Proof.Gen.HgPreIdeal.Frame
public import proofs.«01_k».proof.Proof.Gen.HgPreRefIdeal
public import proofs.«01_k».proof.Proof.HgPreRun
public import proofs.«01_k».proof.Proof.HgPreRef
public import proofs.«01_k».proof.Proof.Gen.HgPreRefIdeal.Run
public import proofs.«01_k».proof.Proof.Gen.HgPreRefIdeal.Read
public import Idealize.ShloMosaic.Adequacy
public import Idealize.ShloMosaic.Init
public import Idealize.ShloMosaic.Lib.Claim
public import proofs.«01_k».proof.Proof.FfnRun
public import proofs.«01_k».proof.Proof.FfnRef
public import proofs.«01_k».proof.Proof.Gen.FfnRefIdeal.Run
public import proofs.«01_k».proof.Proof.Gen.FfnRefIdeal.Read
public import proofs.«01_k».proof.Proof.HgInRun
public import proofs.«01_k».proof.Proof.HgInRef
public import proofs.«01_k».proof.Proof.Gen.HgInRefIdeal.Run
public import proofs.«01_k».proof.Proof.Gen.HgInRefIdeal.Read
public import proofs.«01_k».proof.Proof.MbInRun
public import proofs.«01_k».proof.Proof.MbInRef
public import proofs.«01_k».proof.Proof.Gen.MbInRefIdeal.Run
public import proofs.«01_k».proof.Proof.Gen.MbInRefIdeal.Read
public import proofs.«01_k».proof.Proof.HgOutRun
public import proofs.«01_k».proof.Proof.HgOutRef
public import proofs.«01_k».proof.Proof.Gen.HgOutRefIdeal.Run
public import proofs.«01_k».proof.Proof.Gen.HgOutRefIdeal.Read
public import proofs.«01_k».proof.Proof.MbOutRun
public import proofs.«01_k».proof.Proof.MbOutRef
public import proofs.«01_k».proof.Proof.Gen.MbOutRefIdeal.Run
public import proofs.«01_k».proof.Proof.Gen.MbOutRefIdeal.Read
public import proofs.«01_k».proof.Proof.Gen.AdAIn.Frame
public import proofs.«01_k».proof.Proof.Gen.AdAInIdeal.Frame
public import proofs.«01_k».proof.Proof.Gen.AdAInRefIdeal.Run
public import proofs.«01_k».proof.Proof.Gen.AdAInRefIdeal.Read
public import proofs.«01_k».proof.Proof.AdAInRun
public import proofs.«01_k».proof.Proof.AdAInRef
public import proofs.«01_k».proof.Proof.Gen.AdAOut.Frame
public import proofs.«01_k».proof.Proof.Gen.AdAOutIdeal.Frame
public import proofs.«01_k».proof.Proof.Gen.AdAOutRefIdeal.Run
public import proofs.«01_k».proof.Proof.Gen.AdAOutRefIdeal.Read
public import proofs.«01_k».proof.Proof.AdAOutRun
public import proofs.«01_k».proof.Proof.AdAOutRef
public import proofs.«01_k».proof.Proof.Gen.AdBIn.Frame
public import proofs.«01_k».proof.Proof.Gen.AdBInIdeal.Frame
public import proofs.«01_k».proof.Proof.Gen.AdBInRefIdeal.Run
public import proofs.«01_k».proof.Proof.Gen.AdBInRefIdeal.Read
public import proofs.«01_k».proof.Proof.AdBInRun
public import proofs.«01_k».proof.Proof.AdBInRef
public import proofs.«01_k».proof.Proof.Gen.AdBOut.Frame
public import proofs.«01_k».proof.Proof.Gen.AdBOutIdeal.Frame
public import proofs.«01_k».proof.Proof.Gen.AdBOutRefIdeal.Run
public import proofs.«01_k».proof.Proof.Gen.AdBOutRefIdeal.Read
public import proofs.«01_k».proof.Proof.AdBOutRun
public import proofs.«01_k».proof.Proof.AdBOutRef
public import proofs.«01_k».proof.Proof.Gen.AdFfnIn.Frame
public import proofs.«01_k».proof.Proof.Gen.AdFfnInIdeal.Frame
public import proofs.«01_k».proof.Proof.Gen.AdFfnInRefIdeal.Run
public import proofs.«01_k».proof.Proof.Gen.AdFfnInRefIdeal.Read
public import proofs.«01_k».proof.Proof.AdFfnInRun
public import proofs.«01_k».proof.Proof.AdFfnInRef
public import proofs.«01_k».proof.Proof.Gen.AdFfnOut.Frame
public import proofs.«01_k».proof.Proof.Gen.AdFfnOutIdeal.Frame
public import proofs.«01_k».proof.Proof.Gen.AdFfnOutRefIdeal.Run
public import proofs.«01_k».proof.Proof.Gen.AdFfnOutRefIdeal.Read
public import proofs.«01_k».proof.Proof.AdFfnOutRun
public import proofs.«01_k».proof.Proof.AdFfnOutRef
public import proofs.«01_k».proof.Proof.Gen.AdSmall.Frame
public import proofs.«01_k».proof.Proof.Gen.AdSmallIdeal.Frame
public import proofs.«01_k».proof.Proof.Gen.AdSmallRefIdeal.Run
public import proofs.«01_k».proof.Proof.Gen.AdSmallRefIdeal.Read
public import proofs.«01_k».proof.Proof.AdSmallRun
public import proofs.«01_k».proof.Proof.AdSmallRef
public import proofs.«01_k».proof.Proof.Gen.AdRep.Frame
public import proofs.«01_k».proof.Proof.Gen.AdRepIdeal.Frame
public import proofs.«01_k».proof.Proof.Gen.AdRepRefIdeal.Run
public import proofs.«01_k».proof.Proof.Gen.AdRepRefIdeal.Read
public import proofs.«01_k».proof.Proof.AdRepRun
public import proofs.«01_k».proof.Proof.AdRepRef

@[expose] public section

set_option maxRecDepth 16384

noncomputable section

namespace Cert.Proof

open Idealize.ShloMosaic Idealize.SL.Sem

theorem ffnRef_frame : Cert.quiescent_FfnRefIdeal := by
  intro m g _
  refine (θ_run _ _ _).mono (fun r h => ⟨fun c => ?_, sem_eq_zero_of_no_sems (by decide) r.2⟩)
    (Cert.FfnRefIdeal.Val.run m g)
  obtain ⟨_, _, _, _, _, _, _, _, _, _, h⟩ := h c
  exact h

theorem ffn_algebraic : Cert.algebraic_FfnIdeal_FfnRefIdeal := by
  pair_intro
  · run_from Cert.FfnIdeal.Val.run m g
  · run_from Cert.FfnRefIdeal.Val.run m' g'

theorem hgInRef_frame : Cert.quiescent_HgInRefIdeal := by
  intro m g _
  refine (θ_run _ _ _).mono (fun r h => ⟨fun c => ?_, sem_eq_zero_of_no_sems (by decide) r.2⟩)
    (Cert.HgInRefIdeal.Val.run m g)
  obtain ⟨_, _, _, _, _, h⟩ := h c
  exact h

theorem hgIn_algebraic : Cert.algebraic_HgInIdeal_HgInRefIdeal := by
  pair_intro
  · run_from Cert.HgInIdeal.Val.run m g
  · run_from Cert.HgInRefIdeal.Val.run m' g'

theorem mbInRef_frame : Cert.quiescent_MbInRefIdeal := by
  intro m g _
  refine (θ_run _ _ _).mono (fun r h => ⟨fun c => ?_, sem_eq_zero_of_no_sems (by decide) r.2⟩)
    (Cert.MbInRefIdeal.Val.run m g)
  obtain ⟨_, _, _, _, _, _, _, _, _, h⟩ := h c
  exact h

theorem mbIn_algebraic : Cert.algebraic_MbInIdeal_MbInRefIdeal := by
  pair_intro
  · run_from Cert.MbInIdeal.Val.run m g
  · run_from Cert.MbInRefIdeal.Val.run m' g'

theorem hgOutRef_frame : Cert.quiescent_HgOutRefIdeal := by
  intro m g _
  refine (θ_run _ _ _).mono (fun r h => ⟨fun c => ?_, sem_eq_zero_of_no_sems (by decide) r.2⟩)
    (Cert.HgOutRefIdeal.Val.run m g)
  obtain ⟨_, _, _, _, h⟩ := h c
  exact h

theorem hgOut_algebraic : Cert.algebraic_HgOutIdeal_HgOutRefIdeal := by
  pair_intro
  · run_from Cert.HgOutIdeal.Val.run m g
  · run_from Cert.HgOutRefIdeal.Val.run m' g'

theorem mbOutRef_frame : Cert.quiescent_MbOutRefIdeal := by
  intro m g _
  refine (θ_run _ _ _).mono (fun r h => ⟨fun c => ?_, sem_eq_zero_of_no_sems (by decide) r.2⟩)
    (Cert.MbOutRefIdeal.Val.run m g)
  obtain ⟨_, _, _, _, h⟩ := h c
  exact h

theorem mbOut_algebraic : Cert.algebraic_MbOutIdeal_MbOutRefIdeal := by
  pair_intro
  · run_from Cert.MbOutIdeal.Val.run m g
  · run_from Cert.MbOutRefIdeal.Val.run m' g'

theorem adAInRef_frame : Cert.quiescent_AdAInRefIdeal := by
  intro m g _
  refine (θ_run _ _ _).mono (fun r h => ⟨fun c => ?_, sem_eq_zero_of_no_sems (by decide) r.2⟩)
    (Cert.AdAInRefIdeal.Val.run m g)
  obtain ⟨_, _, _, _, h⟩ := h c
  exact h

theorem adAIn_algebraic : Cert.algebraic_AdAInIdeal_AdAInRefIdeal := by
  pair_intro
  · run_from Cert.AdAInIdeal.Val.run m g
  · run_from Cert.AdAInRefIdeal.Val.run m' g'

theorem adAIn_preserves : Cert.preserves_AdAIn_AdAInIdeal :=
  ⟨IdealRules.named_const.statement Cert.AdAInIdeal.κ "inv_c1" .f32 0x3FC48605#32 ((8388608 / 5463681 : ℝ) : EReal) rfl,
    IdealRules.named_const.statement Cert.AdAInIdeal.κ "inv_c2" .f32 0x42C8E6D3#32 ((268435456 / 2672307 : ℝ) : EReal) rfl⟩

theorem adAOutRef_frame : Cert.quiescent_AdAOutRefIdeal := by
  intro m g _
  refine (θ_run _ _ _).mono (fun r h => ⟨fun c => ?_, sem_eq_zero_of_no_sems (by decide) r.2⟩)
    (Cert.AdAOutRefIdeal.Val.run m g)
  obtain ⟨_, _, _, _, h⟩ := h c
  exact h

theorem adAOut_algebraic : Cert.algebraic_AdAOutIdeal_AdAOutRefIdeal := by
  pair_intro
  · run_from Cert.AdAOutIdeal.Val.run m g
  · run_from Cert.AdAOutRefIdeal.Val.run m' g'

theorem adAOut_preserves : Cert.preserves_AdAOut_AdAOutIdeal :=
  ⟨IdealRules.named_const.statement Cert.AdAOutIdeal.κ "inv_c1" .f32 0x3FC48605#32 ((8388608 / 5463681 : ℝ) : EReal) rfl,
    IdealRules.named_const.statement Cert.AdAOutIdeal.κ "inv_c2" .f32 0x42C8E6D3#32 ((268435456 / 2672307 : ℝ) : EReal) rfl⟩

theorem adBInRef_frame : Cert.quiescent_AdBInRefIdeal := by
  intro m g _
  refine (θ_run _ _ _).mono (fun r h => ⟨fun c => ?_, sem_eq_zero_of_no_sems (by decide) r.2⟩)
    (Cert.AdBInRefIdeal.Val.run m g)
  obtain ⟨_, _, _, _, h⟩ := h c
  exact h

theorem adBIn_algebraic : Cert.algebraic_AdBInIdeal_AdBInRefIdeal := by
  pair_intro
  · run_from Cert.AdBInIdeal.Val.run m g
  · run_from Cert.AdBInRefIdeal.Val.run m' g'

theorem adBIn_preserves : Cert.preserves_AdBIn_AdBInIdeal :=
  ⟨IdealRules.named_const.statement Cert.AdBInIdeal.κ "inv_c1" .f32 0x3FC48605#32 ((8388608 / 5463681 : ℝ) : EReal) rfl,
    IdealRules.named_const.statement Cert.AdBInIdeal.κ "inv_c2" .f32 0x42C8E6D3#32 ((268435456 / 2672307 : ℝ) : EReal) rfl⟩

theorem adBOutRef_frame : Cert.quiescent_AdBOutRefIdeal := by
  intro m g _
  refine (θ_run _ _ _).mono (fun r h => ⟨fun c => ?_, sem_eq_zero_of_no_sems (by decide) r.2⟩)
    (Cert.AdBOutRefIdeal.Val.run m g)
  obtain ⟨_, _, _, _, h⟩ := h c
  exact h

theorem adBOut_algebraic : Cert.algebraic_AdBOutIdeal_AdBOutRefIdeal := by
  pair_intro
  · run_from Cert.AdBOutIdeal.Val.run m g
  · run_from Cert.AdBOutRefIdeal.Val.run m' g'

theorem adBOut_preserves : Cert.preserves_AdBOut_AdBOutIdeal :=
  ⟨IdealRules.named_const.statement Cert.AdBOutIdeal.κ "inv_c1" .f32 0x3FC48605#32 ((8388608 / 5463681 : ℝ) : EReal) rfl,
    IdealRules.named_const.statement Cert.AdBOutIdeal.κ "inv_c2" .f32 0x42C8E6D3#32 ((268435456 / 2672307 : ℝ) : EReal) rfl⟩

theorem adFfnInRef_frame : Cert.quiescent_AdFfnInRefIdeal := by
  intro m g _
  refine (θ_run _ _ _).mono (fun r h => ⟨fun c => ?_, sem_eq_zero_of_no_sems (by decide) r.2⟩)
    (Cert.AdFfnInRefIdeal.Val.run m g)
  obtain ⟨_, _, _, _, h⟩ := h c
  exact h

theorem adFfnIn_algebraic : Cert.algebraic_AdFfnInIdeal_AdFfnInRefIdeal := by
  pair_intro
  · run_from Cert.AdFfnInIdeal.Val.run m g
  · run_from Cert.AdFfnInRefIdeal.Val.run m' g'

theorem adFfnIn_preserves : Cert.preserves_AdFfnIn_AdFfnInIdeal :=
  ⟨IdealRules.named_const.statement Cert.AdFfnInIdeal.κ "inv_c1" .f32 0x3FC48605#32 ((8388608 / 5463681 : ℝ) : EReal) rfl,
    IdealRules.named_const.statement Cert.AdFfnInIdeal.κ "inv_c2" .f32 0x42C8E6D3#32 ((268435456 / 2672307 : ℝ) : EReal) rfl⟩

theorem adFfnOutRef_frame : Cert.quiescent_AdFfnOutRefIdeal := by
  intro m g _
  refine (θ_run _ _ _).mono (fun r h => ⟨fun c => ?_, sem_eq_zero_of_no_sems (by decide) r.2⟩)
    (Cert.AdFfnOutRefIdeal.Val.run m g)
  obtain ⟨_, _, _, _, h⟩ := h c
  exact h

theorem adFfnOut_algebraic : Cert.algebraic_AdFfnOutIdeal_AdFfnOutRefIdeal := by
  pair_intro
  · run_from Cert.AdFfnOutIdeal.Val.run m g
  · run_from Cert.AdFfnOutRefIdeal.Val.run m' g'

theorem adFfnOut_preserves : Cert.preserves_AdFfnOut_AdFfnOutIdeal :=
  ⟨IdealRules.named_const.statement Cert.AdFfnOutIdeal.κ "inv_c1" .f32 0x3FC48605#32 ((8388608 / 5463681 : ℝ) : EReal) rfl,
    IdealRules.named_const.statement Cert.AdFfnOutIdeal.κ "inv_c2" .f32 0x42C8E6D3#32 ((268435456 / 2672307 : ℝ) : EReal) rfl⟩

theorem adSmallRef_frame : Cert.quiescent_AdSmallRefIdeal := by
  intro m g _
  refine (θ_run _ _ _).mono (fun r h => ⟨fun c => ?_, sem_eq_zero_of_no_sems (by decide) r.2⟩)
    (Cert.AdSmallRefIdeal.Val.run m g)
  obtain ⟨_, _, _, _, _, _, _, _, _, _, _, _, _, _, _, _, h⟩ := h c
  exact h

set_option maxHeartbeats 4000000 in
theorem adSmall_algebraic : Cert.algebraic_AdSmallIdeal_AdSmallRefIdeal := by
  pair_intro
  · run_from Cert.AdSmallIdeal.Val.run m g
  · run_from Cert.AdSmallRefIdeal.Val.run m' g'

theorem adSmall_preserves : Cert.preserves_AdSmall_AdSmallIdeal :=
  ⟨IdealRules.named_const.statement Cert.AdSmallIdeal.κ "inv_c1" .f32 0x3FC48605#32 ((8388608 / 5463681 : ℝ) : EReal) rfl,
    IdealRules.named_const.statement Cert.AdSmallIdeal.κ "inv_c2" .f32 0x42C8E6D3#32 ((268435456 / 2672307 : ℝ) : EReal) rfl⟩

theorem adRepRef_frame : Cert.quiescent_AdRepRefIdeal := by
  intro m g _
  refine (θ_run _ _ _).mono (fun r h => ⟨fun c => ?_, sem_eq_zero_of_no_sems (by decide) r.2⟩)
    (Cert.AdRepRefIdeal.Val.run m g)
  obtain ⟨_, _, _, _, _, _, _, _, _, _, _, _, _, _, _, _, _, _, _, _, _, _, _, _, _, _, _, _, _, _, _, _, _, _, _, _, _, h⟩ := h c
  exact h

set_option maxHeartbeats 4000000 in
theorem adRep_algebraic : Cert.algebraic_AdRepIdeal_AdRepRefIdeal := by
  pair_intro
  · run_from Cert.AdRepIdeal.Val.run m g
  · run_from Cert.AdRepRefIdeal.Val.run m' g'

theorem adRep_preserves : Cert.preserves_AdRep_AdRepIdeal :=
  ⟨IdealRules.named_const.statement Cert.AdRepIdeal.κ "inv_c1" .f32 0x3FC48605#32 ((8388608 / 5463681 : ℝ) : EReal) rfl,
    IdealRules.named_const.statement Cert.AdRepIdeal.κ "inv_c2" .f32 0x42C8E6D3#32 ((268435456 / 2672307 : ℝ) : EReal) rfl⟩

theorem mbConvRef_frame : Cert.quiescent_MbConvRefIdeal := by
  intro m g _
  refine (θ_run _ _ _).mono (fun r h => ⟨fun c => ?_, sem_eq_zero_of_no_sems (by decide) r.2⟩)
    (Cert.MbConvRefIdeal.Val.run m g)
  obtain ⟨_, _, _, _, h⟩ := h c
  exact h

theorem mbConv_algebraic : Cert.algebraic_MbConvIdeal_MbConvRefIdeal := by
  pair_intro
  · run_from Cert.MbConvIdeal.Val.run m g
  · run_from Cert.MbConvRefIdeal.Val.run m' g'

theorem hgPreRef_frame : Cert.quiescent_HgPreRefIdeal := by
  intro m g _
  refine (θ_run _ _ _).mono (fun r h => ⟨fun c => ?_, sem_eq_zero_of_no_sems (by decide) r.2⟩)
    (Cert.HgPreRefIdeal.Val.run m g)
  obtain ⟨_, _, _, _, _, h⟩ := h c
  exact h

theorem hgPre_algebraic : Cert.algebraic_HgPreIdeal_HgPreRefIdeal := by
  pair_intro
  · run_from Cert.HgPreIdeal.Val.run m g
  · run_from Cert.HgPreRefIdeal.Val.run m' g'

theorem claim : Cert.Claim := ⟨Cert.Ffn.Gen.facts, Cert.FfnIdeal.Gen.facts, Cert.FfnRefIdeal.Gen.facts,
  Cert.HgIn.Gen.facts, Cert.HgInIdeal.Gen.facts, Cert.HgInRefIdeal.Gen.facts,
  Cert.MbIn.Gen.facts, Cert.MbInIdeal.Gen.facts, Cert.MbInRefIdeal.Gen.facts,
  Cert.HgOut.Gen.facts, Cert.HgOutIdeal.Gen.facts, Cert.HgOutRefIdeal.Gen.facts,
  Cert.MbOut.Gen.facts, Cert.MbOutIdeal.Gen.facts, Cert.MbOutRefIdeal.Gen.facts,
  Cert.AdAIn.Gen.facts, Cert.AdAInIdeal.Gen.facts, Cert.AdAInRefIdeal.Gen.facts,
  Cert.AdAOut.Gen.facts, Cert.AdAOutIdeal.Gen.facts, Cert.AdAOutRefIdeal.Gen.facts,
  Cert.AdBIn.Gen.facts, Cert.AdBInIdeal.Gen.facts, Cert.AdBInRefIdeal.Gen.facts,
  Cert.AdBOut.Gen.facts, Cert.AdBOutIdeal.Gen.facts, Cert.AdBOutRefIdeal.Gen.facts,
  Cert.AdFfnIn.Gen.facts, Cert.AdFfnInIdeal.Gen.facts, Cert.AdFfnInRefIdeal.Gen.facts,
  Cert.AdFfnOut.Gen.facts, Cert.AdFfnOutIdeal.Gen.facts, Cert.AdFfnOutRefIdeal.Gen.facts,
  Cert.AdSmall.Gen.facts, Cert.AdSmallIdeal.Gen.facts, Cert.AdSmallRefIdeal.Gen.facts,
  Cert.AdRep.Gen.facts, Cert.AdRepIdeal.Gen.facts, Cert.AdRepRefIdeal.Gen.facts,
  Cert.MbConv.Gen.facts, Cert.MbConvIdeal.Gen.facts, Cert.MbConvRefIdeal.Gen.facts,
  Cert.HgPre.Gen.facts, Cert.HgPreIdeal.Gen.facts, Cert.HgPreRefIdeal.Gen.facts,
  fun m ρ _ => Cert.Ffn.Gen.frame m ρ, fun m ρ _ => Cert.FfnIdeal.Gen.frame m ρ, ffnRef_frame,
  fun m ρ _ => Cert.HgIn.Gen.frame m ρ, fun m ρ _ => Cert.HgInIdeal.Gen.frame m ρ, hgInRef_frame,
  fun m ρ _ => Cert.MbIn.Gen.frame m ρ, fun m ρ _ => Cert.MbInIdeal.Gen.frame m ρ, mbInRef_frame,
  fun m ρ _ => Cert.HgOut.Gen.frame m ρ, fun m ρ _ => Cert.HgOutIdeal.Gen.frame m ρ, hgOutRef_frame,
  fun m ρ _ => Cert.MbOut.Gen.frame m ρ, fun m ρ _ => Cert.MbOutIdeal.Gen.frame m ρ, mbOutRef_frame,
  fun m ρ _ => Cert.AdAIn.Gen.frame m ρ, fun m ρ _ => Cert.AdAInIdeal.Gen.frame m ρ, adAInRef_frame,
  fun m ρ _ => Cert.AdAOut.Gen.frame m ρ, fun m ρ _ => Cert.AdAOutIdeal.Gen.frame m ρ, adAOutRef_frame,
  fun m ρ _ => Cert.AdBIn.Gen.frame m ρ, fun m ρ _ => Cert.AdBInIdeal.Gen.frame m ρ, adBInRef_frame,
  fun m ρ _ => Cert.AdBOut.Gen.frame m ρ, fun m ρ _ => Cert.AdBOutIdeal.Gen.frame m ρ, adBOutRef_frame,
  fun m ρ _ => Cert.AdFfnIn.Gen.frame m ρ, fun m ρ _ => Cert.AdFfnInIdeal.Gen.frame m ρ, adFfnInRef_frame,
  fun m ρ _ => Cert.AdFfnOut.Gen.frame m ρ, fun m ρ _ => Cert.AdFfnOutIdeal.Gen.frame m ρ, adFfnOutRef_frame,
  fun m ρ _ => Cert.AdSmall.Gen.frame m ρ, fun m ρ _ => Cert.AdSmallIdeal.Gen.frame m ρ, adSmallRef_frame,
  fun m ρ _ => Cert.AdRep.Gen.frame m ρ, fun m ρ _ => Cert.AdRepIdeal.Gen.frame m ρ, adRepRef_frame,
  fun m ρ _ => Cert.MbConv.Gen.frame m ρ, fun m ρ _ => Cert.MbConvIdeal.Gen.frame m ρ, mbConvRef_frame,
  fun m ρ _ => Cert.HgPre.Gen.frame m ρ, fun m ρ _ => Cert.HgPreIdeal.Gen.frame m ρ, hgPreRef_frame,
  trivial, ffn_algebraic, trivial, hgIn_algebraic, trivial, mbIn_algebraic, trivial, hgOut_algebraic, trivial, mbOut_algebraic,
  adAIn_preserves, adAIn_algebraic,
  adAOut_preserves, adAOut_algebraic,
  adBIn_preserves, adBIn_algebraic,
  adBOut_preserves, adBOut_algebraic,
  adFfnIn_preserves, adFfnIn_algebraic,
  adFfnOut_preserves, adFfnOut_algebraic,
  adSmall_preserves, adSmall_algebraic,
  adRep_preserves, adRep_algebraic,
  trivial, mbConv_algebraic,
  trivial, hgPre_algebraic⟩

end Cert.Proof

end
